-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_ExpertsNext [hPre_experts_in_range : Cert.Pre_experts_in_range.Facts] (m : (ℓ : Loc Cert.ExpertsNext.nD Cert.ExpertsNext.τ Cert.ExpertsNext.sig) → Buf (Elt Bits) ℓ) : Prop :=
  ∀ c : Dev Cert.ExpertsNext.nD,
    (Cert.Pre_experts_in_range.fn (F := Bits) (m ((c.tc : Thread Cert.ExpertsNext.nD Cert.ExpertsNext.τ).loc Cert.ExpertsNext.main_arg0)) (m ((c.tc : Thread Cert.ExpertsNext.nD Cert.ExpertsNext.τ).loc Cert.ExpertsNext.main_arg1)) (m ((c.tc : Thread Cert.ExpertsNext.nD Cert.ExpertsNext.τ).loc Cert.ExpertsNext.main_arg2)) (m ((c.tc : Thread Cert.ExpertsNext.nD Cert.ExpertsNext.τ).loc Cert.ExpertsNext.main_arg3)) (m ((c.tc : Thread Cert.ExpertsNext.nD Cert.ExpertsNext.τ).loc Cert.ExpertsNext.main_arg4)) (m ((c.tc : Thread Cert.ExpertsNext.nD Cert.ExpertsNext.τ).loc Cert.ExpertsNext.main_arg5)) (m ((c.tc : Thread Cert.ExpertsNext.nD Cert.ExpertsNext.τ).loc Cert.ExpertsNext.main_arg6))) = (fun _ => 1#1)

def Pre_ExpertsNextIdeal [hPre_experts_in_range : Cert.Pre_experts_in_range.Facts] (m : (ℓ : Loc Cert.ExpertsNextIdeal.nD Cert.ExpertsNextIdeal.τ Cert.ExpertsNextIdeal.sig) → Buf (Elt Ideal) ℓ) : Prop :=
  ∀ c : Dev Cert.ExpertsNextIdeal.nD,
    (Cert.Pre_experts_in_range.fn (F := Ideal) (m ((c.tc : Thread Cert.ExpertsNextIdeal.nD Cert.ExpertsNextIdeal.τ).loc Cert.ExpertsNextIdeal.main_arg0)) (m ((c.tc : Thread Cert.ExpertsNextIdeal.nD Cert.ExpertsNextIdeal.τ).loc Cert.ExpertsNextIdeal.main_arg1)) (m ((c.tc : Thread Cert.ExpertsNextIdeal.nD Cert.ExpertsNextIdeal.τ).loc Cert.ExpertsNextIdeal.main_arg2)) (m ((c.tc : Thread Cert.ExpertsNextIdeal.nD Cert.ExpertsNextIdeal.τ).loc Cert.ExpertsNextIdeal.main_arg3)) (m ((c.tc : Thread Cert.ExpertsNextIdeal.nD Cert.ExpertsNextIdeal.τ).loc Cert.ExpertsNextIdeal.main_arg4)) (m ((c.tc : Thread Cert.ExpertsNextIdeal.nD Cert.ExpertsNextIdeal.τ).loc Cert.ExpertsNextIdeal.main_arg5)) (m ((c.tc : Thread Cert.ExpertsNextIdeal.nD Cert.ExpertsNextIdeal.τ).loc Cert.ExpertsNextIdeal.main_arg6))) = (fun _ => 1#1)

def Pre_ExpertsNextReferenceIdeal (m : (ℓ : Loc Cert.ExpertsNextReferenceIdeal.nD Cert.ExpertsNextReferenceIdeal.τ Cert.ExpertsNextReferenceIdeal.sig) → Buf (Elt Ideal) ℓ) : Prop :=
  True

def Pre_ExpertsNextReferenceIdeal_experts_in_range [hPre_experts_in_range : Cert.Pre_experts_in_range.Facts] (m : (ℓ : Loc Cert.ExpertsNextReferenceIdeal.nD Cert.ExpertsNextReferenceIdeal.τ Cert.ExpertsNextReferenceIdeal.sig) → Buf (Elt Ideal) ℓ) : Prop :=
  ∀ c : Dev Cert.ExpertsNextReferenceIdeal.nD,
    (Cert.Pre_experts_in_range.fn (F := Ideal) (m ((c.tc : Thread Cert.ExpertsNextReferenceIdeal.nD Cert.ExpertsNextReferenceIdeal.τ).loc Cert.ExpertsNextReferenceIdeal.main_arg0)) (m ((c.tc : Thread Cert.ExpertsNextReferenceIdeal.nD Cert.ExpertsNextReferenceIdeal.τ).loc Cert.ExpertsNextReferenceIdeal.main_arg1)) (m ((c.tc : Thread Cert.ExpertsNextReferenceIdeal.nD Cert.ExpertsNextReferenceIdeal.τ).loc Cert.ExpertsNextReferenceIdeal.main_arg2)) (m ((c.tc : Thread Cert.ExpertsNextReferenceIdeal.nD Cert.ExpertsNextReferenceIdeal.τ).loc Cert.ExpertsNextReferenceIdeal.main_arg3)) (m ((c.tc : Thread Cert.ExpertsNextReferenceIdeal.nD Cert.ExpertsNextReferenceIdeal.τ).loc Cert.ExpertsNextReferenceIdeal.main_arg4)) (m ((c.tc : Thread Cert.ExpertsNextReferenceIdeal.nD Cert.ExpertsNextReferenceIdeal.τ).loc Cert.ExpertsNextReferenceIdeal.main_arg5)) (m ((c.tc : Thread Cert.ExpertsNextReferenceIdeal.nD Cert.ExpertsNextReferenceIdeal.τ).loc Cert.ExpertsNextReferenceIdeal.main_arg6))) = (fun _ => 1#1)

def Pre_RetProj (m : (ℓ : Loc Cert.RetProj.nD Cert.RetProj.τ Cert.RetProj.sig) → Buf (Elt Bits) ℓ) : Prop :=
  True

def Pre_RetProjIdeal (m : (ℓ : Loc Cert.RetProjIdeal.nD Cert.RetProjIdeal.τ Cert.RetProjIdeal.sig) → Buf (Elt Ideal) ℓ) : Prop :=
  True

def Pre_RetProjReferenceIdeal (m : (ℓ : Loc Cert.RetProjReferenceIdeal.nD Cert.RetProjReferenceIdeal.τ Cert.RetProjReferenceIdeal.sig) → Buf (Elt Ideal) ℓ) : Prop :=
  True

def Pre_AttnProj (m : (ℓ : Loc Cert.AttnProj.nD Cert.AttnProj.τ Cert.AttnProj.sig) → Buf (Elt Bits) ℓ) : Prop :=
  True

def Pre_AttnProjIdeal (m : (ℓ : Loc Cert.AttnProjIdeal.nD Cert.AttnProjIdeal.τ Cert.AttnProjIdeal.sig) → Buf (Elt Ideal) ℓ) : Prop :=
  True

def Pre_AttnProjReferenceIdeal (m : (ℓ : Loc Cert.AttnProjReferenceIdeal.nD Cert.AttnProjReferenceIdeal.τ Cert.AttnProjReferenceIdeal.sig) → Buf (Elt Ideal) ℓ) : Prop :=
  True

def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleReferenceIdeal (m : (ℓ : Loc Cert.RetSampleReferenceIdeal.nD Cert.RetSampleReferenceIdeal.τ Cert.RetSampleReferenceIdeal.sig) → Buf (Elt Ideal) ℓ) : Prop :=
  True

def Pre_RetOut (m : (ℓ : Loc Cert.RetOut.nD Cert.RetOut.τ Cert.RetOut.sig) → Buf (Elt Bits) ℓ) : Prop :=
  True

def Pre_RetOutIdeal (m : (ℓ : Loc Cert.RetOutIdeal.nD Cert.RetOutIdeal.τ Cert.RetOutIdeal.sig) → Buf (Elt Ideal) ℓ) : Prop :=
  True

def Pre_RetOutReferenceIdeal (m : (ℓ : Loc Cert.RetOutReferenceIdeal.nD Cert.RetOutReferenceIdeal.τ Cert.RetOutReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaReferenceIdeal (m : (ℓ : Loc Cert.AdaReferenceIdeal.nD Cert.AdaReferenceIdeal.τ Cert.AdaReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsNext [hExpertsNext : Cert.ExpertsNext.Facts] [hPre_experts_in_range : Cert.Pre_experts_in_range.Facts] : Prop :=
  ∀ (m : (ℓ : Loc Cert.ExpertsNext.nD Cert.ExpertsNext.τ Cert.ExpertsNext.sig) → Buf (Elt Bits) ℓ) (g : Dev Cert.ExpertsNext.nD → PrngReg), Pre_ExpertsNext m →
    θ_run (Cert.ExpertsNext.defs (F := Bits)) (onTc (τ := Cert.ExpertsNext.τ) (Cert.ExpertsNext.main (F := Bits))) ⟨m, fun _ => 0, g⟩ (fun r => (∀ c : Dev Cert.ExpertsNext.nD,
      r.2.mem ((c.tc : Thread Cert.ExpertsNext.nD Cert.ExpertsNext.τ).loc Cert.ExpertsNext.main_arg0) = m ((c.tc : Thread Cert.ExpertsNext.nD Cert.ExpertsNext.τ).loc Cert.ExpertsNext.main_arg0)
      ∧ r.2.mem ((c.tc : Thread Cert.ExpertsNext.nD Cert.ExpertsNext.τ).loc Cert.ExpertsNext.main_arg1) = m ((c.tc : Thread Cert.ExpertsNext.nD Cert.ExpertsNext.τ).loc Cert.ExpertsNext.main_arg1)
      ∧ r.2.mem ((c.tc : Thread Cert.ExpertsNext.nD Cert.ExpertsNext.τ).loc Cert.ExpertsNext.main_arg2) = m ((c.tc : Thread Cert.ExpertsNext.nD Cert.ExpertsNext.τ).loc Cert.ExpertsNext.main_arg2)
      ∧ r.2.mem ((c.tc : Thread Cert.ExpertsNext.nD Cert.ExpertsNext.τ).loc Cert.ExpertsNext.main_arg3) = m ((c.tc : Thread Cert.ExpertsNext.nD Cert.ExpertsNext.τ).loc Cert.ExpertsNext.main_arg3)
      ∧ r.2.mem ((c.tc : Thread Cert.ExpertsNext.nD Cert.ExpertsNext.τ).loc Cert.ExpertsNext.main_arg4) = m ((c.tc : Thread Cert.ExpertsNext.nD Cert.ExpertsNext.τ).loc Cert.ExpertsNext.main_arg4)
      ∧ r.2.mem ((c.tc : Thread Cert.ExpertsNext.nD Cert.ExpertsNext.τ).loc Cert.ExpertsNext.main_arg5) = m ((c.tc : Thread Cert.ExpertsNext.nD Cert.ExpertsNext.τ).loc Cert.ExpertsNext.main_arg5)
      ∧ r.2.mem ((c.tc : Thread Cert.ExpertsNext.nD Cert.ExpertsNext.τ).loc Cert.ExpertsNext.main_arg6) = m ((c.tc : Thread Cert.ExpertsNext.nD Cert.ExpertsNext.τ).loc Cert.ExpertsNext.main_arg6))
      ∧ r.2.sem = fun _ => 0)

def quiescent_ExpertsNextIdeal [hExpertsNextIdeal : Cert.ExpertsNextIdeal.Facts] [hPre_experts_in_range : Cert.Pre_experts_in_range.Facts] : Prop :=
  ∀ (m : (ℓ : Loc Cert.ExpertsNextIdeal.nD Cert.ExpertsNextIdeal.τ Cert.ExpertsNextIdeal.sig) → Buf (Elt Ideal) ℓ) (g : Dev Cert.ExpertsNextIdeal.nD → PrngReg), Pre_ExpertsNextIdeal m →
    θ_run (Cert.ExpertsNextIdeal.defs (F := Ideal)) (onTc (τ := Cert.ExpertsNextIdeal.τ) (Cert.ExpertsNextIdeal.main (F := Ideal))) ⟨m, fun _ => 0, g⟩ (fun r => (∀ c : Dev Cert.ExpertsNextIdeal.nD,
      r.2.mem ((c.tc : Thread Cert.ExpertsNextIdeal.nD Cert.ExpertsNextIdeal.τ).loc Cert.ExpertsNextIdeal.main_arg0) = m ((c.tc : Thread Cert.ExpertsNextIdeal.nD Cert.ExpertsNextIdeal.τ).loc Cert.ExpertsNextIdeal.main_arg0)
      ∧ r.2.mem ((c.tc : Thread Cert.ExpertsNextIdeal.nD Cert.ExpertsNextIdeal.τ).loc Cert.ExpertsNextIdeal.main_arg1) = m ((c.tc : Thread Cert.ExpertsNextIdeal.nD Cert.ExpertsNextIdeal.τ).loc Cert.ExpertsNextIdeal.main_arg1)
      ∧ r.2.mem ((c.tc : Thread Cert.ExpertsNextIdeal.nD Cert.ExpertsNextIdeal.τ).loc Cert.ExpertsNextIdeal.main_arg2) = m ((c.tc : Thread Cert.ExpertsNextIdeal.nD Cert.ExpertsNextIdeal.τ).loc Cert.ExpertsNextIdeal.main_arg2)
      ∧ r.2.mem ((c.tc : Thread Cert.ExpertsNextIdeal.nD Cert.ExpertsNextIdeal.τ).loc Cert.ExpertsNextIdeal.main_arg3) = m ((c.tc : Thread Cert.ExpertsNextIdeal.nD Cert.ExpertsNextIdeal.τ).loc Cert.ExpertsNextIdeal.main_arg3)
      ∧ r.2.mem ((c.tc : Thread Cert.ExpertsNextIdeal.nD Cert.ExpertsNextIdeal.τ).loc Cert.ExpertsNextIdeal.main_arg4) = m ((c.tc : Thread Cert.ExpertsNextIdeal.nD Cert.ExpertsNextIdeal.τ).loc Cert.ExpertsNextIdeal.main_arg4)
      ∧ r.2.mem ((c.tc : Thread Cert.ExpertsNextIdeal.nD Cert.ExpertsNextIdeal.τ).loc Cert.ExpertsNextIdeal.main_arg5) = m ((c.tc : Thread Cert.ExpertsNextIdeal.nD Cert.ExpertsNextIdeal.τ).loc Cert.ExpertsNextIdeal.main_arg5)
      ∧ r.2.mem ((c.tc : Thread Cert.ExpertsNextIdeal.nD Cert.ExpertsNextIdeal.τ).loc Cert.ExpertsNextIdeal.main_arg6) = m ((c.tc : Thread Cert.ExpertsNextIdeal.nD Cert.ExpertsNextIdeal.τ).loc Cert.ExpertsNextIdeal.main_arg6))
      ∧ r.2.sem = fun _ => 0)

def quiescent_ExpertsNextReferenceIdeal [hExpertsNextReferenceIdeal : Cert.ExpertsNextReferenceIdeal.Facts] : Prop :=
  ∀ (m : (ℓ : Loc Cert.ExpertsNextReferenceIdeal.nD Cert.ExpertsNextReferenceIdeal.τ Cert.ExpertsNextReferenceIdeal.sig) → Buf (Elt Ideal) ℓ) (g : Dev Cert.ExpertsNextReferenceIdeal.nD → PrngReg), Pre_ExpertsNextReferenceIdeal m →
    θ_run (Cert.ExpertsNextReferenceIdeal.defs (F := Ideal)) (onTc (τ := Cert.ExpertsNextReferenceIdeal.τ) (Cert.ExpertsNextReferenceIdeal.main (F := Ideal))) ⟨m, fun _ => 0, g⟩ (fun r => (∀ c : Dev Cert.ExpertsNextReferenceIdeal.nD,
      r.2.mem ((c.tc : Thread Cert.ExpertsNextReferenceIdeal.nD Cert.ExpertsNextReferenceIdeal.τ).loc Cert.ExpertsNextReferenceIdeal.main_arg0) = m ((c.tc : Thread Cert.ExpertsNextReferenceIdeal.nD Cert.ExpertsNextReferenceIdeal.τ).loc Cert.ExpertsNextReferenceIdeal.main_arg0)
      ∧ r.2.mem ((c.tc : Thread Cert.ExpertsNextReferenceIdeal.nD Cert.ExpertsNextReferenceIdeal.τ).loc Cert.ExpertsNextReferenceIdeal.main_arg1) = m ((c.tc : Thread Cert.ExpertsNextReferenceIdeal.nD Cert.ExpertsNextReferenceIdeal.τ).loc Cert.ExpertsNextReferenceIdeal.main_arg1)
      ∧ r.2.mem ((c.tc : Thread Cert.ExpertsNextReferenceIdeal.nD Cert.ExpertsNextReferenceIdeal.τ).loc Cert.ExpertsNextReferenceIdeal.main_arg2) = m ((c.tc : Thread Cert.ExpertsNextReferenceIdeal.nD Cert.ExpertsNextReferenceIdeal.τ).loc Cert.ExpertsNextReferenceIdeal.main_arg2)
      ∧ r.2.mem ((c.tc : Thread Cert.ExpertsNextReferenceIdeal.nD Cert.ExpertsNextReferenceIdeal.τ).loc Cert.ExpertsNextReferenceIdeal.main_arg3) = m ((c.tc : Thread Cert.ExpertsNextReferenceIdeal.nD Cert.ExpertsNextReferenceIdeal.τ).loc Cert.ExpertsNextReferenceIdeal.main_arg3)
      ∧ r.2.mem ((c.tc : Thread Cert.ExpertsNextReferenceIdeal.nD Cert.ExpertsNextReferenceIdeal.τ).loc Cert.ExpertsNextReferenceIdeal.main_arg4) = m ((c.tc : Thread Cert.ExpertsNextReferenceIdeal.nD Cert.ExpertsNextReferenceIdeal.τ).loc Cert.ExpertsNextReferenceIdeal.main_arg4)
      ∧ r.2.mem ((c.tc : Thread Cert.ExpertsNextReferenceIdeal.nD Cert.ExpertsNextReferenceIdeal.τ).loc Cert.ExpertsNextReferenceIdeal.main_arg5) = m ((c.tc : Thread Cert.ExpertsNextReferenceIdeal.nD Cert.ExpertsNextReferenceIdeal.τ).loc Cert.ExpertsNextReferenceIdeal.main_arg5)
      ∧ r.2.mem ((c.tc : Thread Cert.ExpertsNextReferenceIdeal.nD Cert.ExpertsNextReferenceIdeal.τ).loc Cert.ExpertsNextReferenceIdeal.main_arg6) = m ((c.tc : Thread Cert.ExpertsNextReferenceIdeal.nD Cert.ExpertsNextReferenceIdeal.τ).loc Cert.ExpertsNextReferenceIdeal.main_arg6))
      ∧ r.2.sem = fun _ => 0)

def quiescent_ExpertsNextReferenceIdeal_pre_experts_in_range [hExpertsNextReferenceIdeal : Cert.ExpertsNextReferenceIdeal.Facts] [hPre_experts_in_range : Cert.Pre_experts_in_range.Facts] : Prop :=
  ∀ (m : (ℓ : Loc Cert.ExpertsNextReferenceIdeal.nD Cert.ExpertsNextReferenceIdeal.τ Cert.ExpertsNextReferenceIdeal.sig) → Buf (Elt Ideal) ℓ) (g : Dev Cert.ExpertsNextReferenceIdeal.nD → PrngReg), Pre_ExpertsNextReferenceIdeal_experts_in_range m →
    θ_run (Cert.ExpertsNextReferenceIdeal.defs (F := Ideal)) (onTc (τ := Cert.ExpertsNextReferenceIdeal.τ) (Cert.ExpertsNextReferenceIdeal.main (F := Ideal))) ⟨m, fun _ => 0, g⟩ (fun r => (∀ c : Dev Cert.ExpertsNextReferenceIdeal.nD,
      r.2.mem ((c.tc : Thread Cert.ExpertsNextReferenceIdeal.nD Cert.ExpertsNextReferenceIdeal.τ).loc Cert.ExpertsNextReferenceIdeal.main_arg0) = m ((c.tc : Thread Cert.ExpertsNextReferenceIdeal.nD Cert.ExpertsNextReferenceIdeal.τ).loc Cert.ExpertsNextReferenceIdeal.main_arg0)
      ∧ r.2.mem ((c.tc : Thread Cert.ExpertsNextReferenceIdeal.nD Cert.ExpertsNextReferenceIdeal.τ).loc Cert.ExpertsNextReferenceIdeal.main_arg1) = m ((c.tc : Thread Cert.ExpertsNextReferenceIdeal.nD Cert.ExpertsNextReferenceIdeal.τ).loc Cert.ExpertsNextReferenceIdeal.main_arg1)
      ∧ r.2.mem ((c.tc : Thread Cert.ExpertsNextReferenceIdeal.nD Cert.ExpertsNextReferenceIdeal.τ).loc Cert.ExpertsNextReferenceIdeal.main_arg2) = m ((c.tc : Thread Cert.ExpertsNextReferenceIdeal.nD Cert.ExpertsNextReferenceIdeal.τ).loc Cert.ExpertsNextReferenceIdeal.main_arg2)
      ∧ r.2.mem ((c.tc : Thread Cert.ExpertsNextReferenceIdeal.nD Cert.ExpertsNextReferenceIdeal.τ).loc Cert.ExpertsNextReferenceIdeal.main_arg3) = m ((c.tc : Thread Cert.ExpertsNextReferenceIdeal.nD Cert.ExpertsNextReferenceIdeal.τ).loc Cert.ExpertsNextReferenceIdeal.main_arg3)
      ∧ r.2.mem ((c.tc : Thread Cert.ExpertsNextReferenceIdeal.nD Cert.ExpertsNextReferenceIdeal.τ).loc Cert.ExpertsNextReferenceIdeal.main_arg4) = m ((c.tc : Thread Cert.ExpertsNextReferenceIdeal.nD Cert.ExpertsNextReferenceIdeal.τ).loc Cert.ExpertsNextReferenceIdeal.main_arg4)
      ∧ r.2.mem ((c.tc : Thread Cert.ExpertsNextReferenceIdeal.nD Cert.ExpertsNextReferenceIdeal.τ).loc Cert.ExpertsNextReferenceIdeal.main_arg5) = m ((c.tc : Thread Cert.ExpertsNextReferenceIdeal.nD Cert.ExpertsNextReferenceIdeal.τ).loc Cert.ExpertsNextReferenceIdeal.main_arg5)
      ∧ r.2.mem ((c.tc : Thread Cert.ExpertsNextReferenceIdeal.nD Cert.ExpertsNextReferenceIdeal.τ).loc Cert.ExpertsNextReferenceIdeal.main_arg6) = m ((c.tc : Thread Cert.ExpertsNextReferenceIdeal.nD Cert.ExpertsNextReferenceIdeal.τ).loc Cert.ExpertsNextReferenceIdeal.main_arg6))
      ∧ r.2.sem = fun _ => 0)

def quiescent_RetProj [hRetProj : Cert.RetProj.Facts] : Prop :=
  ∀ (m : (ℓ : Loc Cert.RetProj.nD Cert.RetProj.τ Cert.RetProj.sig) → Buf (Elt Bits) ℓ) (g : Dev Cert.RetProj.nD → PrngReg), Pre_RetProj m →
    θ_run (Cert.RetProj.defs (F := Bits)) (onTc (τ := Cert.RetProj.τ) (Cert.RetProj.main (F := Bits))) ⟨m, fun _ => 0, g⟩ (fun r => (∀ c : Dev Cert.RetProj.nD,
      r.2.mem ((c.tc : Thread Cert.RetProj.nD Cert.RetProj.τ).loc Cert.RetProj.main_arg0) = m ((c.tc : Thread Cert.RetProj.nD Cert.RetProj.τ).loc Cert.RetProj.main_arg0)
      ∧ r.2.mem ((c.tc : Thread Cert.RetProj.nD Cert.RetProj.τ).loc Cert.RetProj.main_arg1) = m ((c.tc : Thread Cert.RetProj.nD Cert.RetProj.τ).loc Cert.RetProj.main_arg1)
      ∧ r.2.mem ((c.tc : Thread Cert.RetProj.nD Cert.RetProj.τ).loc Cert.RetProj.main_arg2) = m ((c.tc : Thread Cert.RetProj.nD Cert.RetProj.τ).loc Cert.RetProj.main_arg2)
      ∧ r.2.mem ((c.tc : Thread Cert.RetProj.nD Cert.RetProj.τ).loc Cert.RetProj.main_arg3) = m ((c.tc : Thread Cert.RetProj.nD Cert.RetProj.τ).loc Cert.RetProj.main_arg3)
      ∧ r.2.mem ((c.tc : Thread Cert.RetProj.nD Cert.RetProj.τ).loc Cert.RetProj.main_arg4) = m ((c.tc : Thread Cert.RetProj.nD Cert.RetProj.τ).loc Cert.RetProj.main_arg4))
      ∧ r.2.sem = fun _ => 0)

def quiescent_RetProjIdeal [hRetProjIdeal : Cert.RetProjIdeal.Facts] : Prop :=
  ∀ (m : (ℓ : Loc Cert.RetProjIdeal.nD Cert.RetProjIdeal.τ Cert.RetProjIdeal.sig) → Buf (Elt Ideal) ℓ) (g : Dev Cert.RetProjIdeal.nD → PrngReg), Pre_RetProjIdeal m →
    θ_run (Cert.RetProjIdeal.defs (F := Ideal)) (onTc (τ := Cert.RetProjIdeal.τ) (Cert.RetProjIdeal.main (F := Ideal))) ⟨m, fun _ => 0, g⟩ (fun r => (∀ c : Dev Cert.RetProjIdeal.nD,
      r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
      ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
      ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
      ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3)
      ∧ r.2.mem ((c.tc : Thread Cert.RetProjIdeal.nD Cert.RetProjIdeal.τ).loc Cert.RetProjIdeal.main_arg4) = m ((c.tc : Thread Cert.RetProjIdeal.nD Cert.RetProjIdeal.τ).loc Cert.RetProjIdeal.main_arg4))
      ∧ r.2.sem = fun _ => 0)

def quiescent_RetProjReferenceIdeal [hRetProjReferenceIdeal : Cert.RetProjReferenceIdeal.Facts] : Prop :=
  ∀ (m : (ℓ : Loc Cert.RetProjReferenceIdeal.nD Cert.RetProjReferenceIdeal.τ Cert.RetProjReferenceIdeal.sig) → Buf (Elt Ideal) ℓ) (g : Dev Cert.RetProjReferenceIdeal.nD → PrngReg), Pre_RetProjReferenceIdeal m →
    θ_run (Cert.RetProjReferenceIdeal.defs (F := Ideal)) (onTc (τ := Cert.RetProjReferenceIdeal.τ) (Cert.RetProjReferenceIdeal.main (F := Ideal))) ⟨m, fun _ => 0, g⟩ (fun r => (∀ c : Dev Cert.RetProjReferenceIdeal.nD,
      r.2.mem ((c.tc : Thread Cert.RetProjReferenceIdeal.nD Cert.RetProjReferenceIdeal.τ).loc Cert.RetProjReferenceIdeal.main_arg0) = m ((c.tc : Thread Cert.RetProjReferenceIdeal.nD Cert.RetProjReferenceIdeal.τ).loc Cert.RetProjReferenceIdeal.main_arg0)
      ∧ r.2.mem ((c.tc : Thread Cert.RetProjReferenceIdeal.nD Cert.RetProjReferenceIdeal.τ).loc Cert.RetProjReferenceIdeal.main_arg1) = m ((c.tc : Thread Cert.RetProjReferenceIdeal.nD Cert.RetProjReferenceIdeal.τ).loc Cert.RetProjReferenceIdeal.main_arg1)
      ∧ r.2.mem ((c.tc : Thread Cert.RetProjReferenceIdeal.nD Cert.RetProjReferenceIdeal.τ).loc Cert.RetProjReferenceIdeal.main_arg2) = m ((c.tc : Thread Cert.RetProjReferenceIdeal.nD Cert.RetProjReferenceIdeal.τ).loc Cert.RetProjReferenceIdeal.main_arg2)
      ∧ r.2.mem ((c.tc : Thread Cert.RetProjReferenceIdeal.nD Cert.RetProjReferenceIdeal.τ).loc Cert.RetProjReferenceIdeal.main_arg3) = m ((c.tc : Thread Cert.RetProjReferenceIdeal.nD Cert.RetProjReferenceIdeal.τ).loc Cert.RetProjReferenceIdeal.main_arg3)
      ∧ r.2.mem ((c.tc : Thread Cert.RetProjReferenceIdeal.nD Cert.RetProjReferenceIdeal.τ).loc Cert.RetProjReferenceIdeal.main_arg4) = m ((c.tc : Thread Cert.RetProjReferenceIdeal.nD Cert.RetProjReferenceIdeal.τ).loc Cert.RetProjReferenceIdeal.main_arg4))
      ∧ r.2.sem = fun _ => 0)

def quiescent_AttnProj [hAttnProj : Cert.AttnProj.Facts] : Prop :=
  ∀ (m : (ℓ : Loc Cert.AttnProj.nD Cert.AttnProj.τ Cert.AttnProj.sig) → Buf (Elt Bits) ℓ) (g : Dev Cert.AttnProj.nD → PrngReg), Pre_AttnProj m →
    θ_run (Cert.AttnProj.defs (F := Bits)) (onTc (τ := Cert.AttnProj.τ) (Cert.AttnProj.main (F := Bits))) ⟨m, fun _ => 0, g⟩ (fun r => (∀ c : Dev Cert.AttnProj.nD,
      r.2.mem ((c.tc : Thread Cert.AttnProj.nD Cert.AttnProj.τ).loc Cert.AttnProj.main_arg0) = m ((c.tc : Thread Cert.AttnProj.nD Cert.AttnProj.τ).loc Cert.AttnProj.main_arg0)
      ∧ r.2.mem ((c.tc : Thread Cert.AttnProj.nD Cert.AttnProj.τ).loc Cert.AttnProj.main_arg1) = m ((c.tc : Thread Cert.AttnProj.nD Cert.AttnProj.τ).loc Cert.AttnProj.main_arg1)
      ∧ r.2.mem ((c.tc : Thread Cert.AttnProj.nD Cert.AttnProj.τ).loc Cert.AttnProj.main_arg2) = m ((c.tc : Thread Cert.AttnProj.nD Cert.AttnProj.τ).loc Cert.AttnProj.main_arg2)
      ∧ r.2.mem ((c.tc : Thread Cert.AttnProj.nD Cert.AttnProj.τ).loc Cert.AttnProj.main_arg3) = m ((c.tc : Thread Cert.AttnProj.nD Cert.AttnProj.τ).loc Cert.AttnProj.main_arg3)
      ∧ r.2.mem ((c.tc : Thread Cert.AttnProj.nD Cert.AttnProj.τ).loc Cert.AttnProj.main_arg4) = m ((c.tc : Thread Cert.AttnProj.nD Cert.AttnProj.τ).loc Cert.AttnProj.main_arg4))
      ∧ r.2.sem = fun _ => 0)

def quiescent_AttnProjIdeal [hAttnProjIdeal : Cert.AttnProjIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg), Pre_AttnProjIdeal m →
    θ_run (Cert.AttnProjIdeal.defs (F := Ideal)) (onTc (τ := Cert.AttnProjIdeal.τ) (Cert.AttnProjIdeal.main (F := Ideal))) ⟨m, fun _ => 0, g⟩ (fun r => (∀ c : Dev Cert.AttnProjIdeal.nD,
      r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
      ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
      ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
      ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
      ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4))
      ∧ r.2.sem = fun _ => 0)

def quiescent_AttnProjReferenceIdeal [hAttnProjReferenceIdeal : Cert.AttnProjReferenceIdeal.Facts] : Prop :=
  ∀ (m : (ℓ : Loc Cert.AttnProjReferenceIdeal.nD Cert.AttnProjReferenceIdeal.τ Cert.AttnProjReferenceIdeal.sig) → Buf (Elt Ideal) ℓ) (g : Dev Cert.AttnProjReferenceIdeal.nD → PrngReg), Pre_AttnProjReferenceIdeal m →
    θ_run (Cert.AttnProjReferenceIdeal.defs (F := Ideal)) (onTc (τ := Cert.AttnProjReferenceIdeal.τ) (Cert.AttnProjReferenceIdeal.main (F := Ideal))) ⟨m, fun _ => 0, g⟩ (fun r => (∀ c : Dev Cert.AttnProjReferenceIdeal.nD,
      r.2.mem ((c.tc : Thread Cert.AttnProjReferenceIdeal.nD Cert.AttnProjReferenceIdeal.τ).loc Cert.AttnProjReferenceIdeal.main_arg0) = m ((c.tc : Thread Cert.AttnProjReferenceIdeal.nD Cert.AttnProjReferenceIdeal.τ).loc Cert.AttnProjReferenceIdeal.main_arg0)
      ∧ r.2.mem ((c.tc : Thread Cert.AttnProjReferenceIdeal.nD Cert.AttnProjReferenceIdeal.τ).loc Cert.AttnProjReferenceIdeal.main_arg1) = m ((c.tc : Thread Cert.AttnProjReferenceIdeal.nD Cert.AttnProjReferenceIdeal.τ).loc Cert.AttnProjReferenceIdeal.main_arg1)
      ∧ r.2.mem ((c.tc : Thread Cert.AttnProjReferenceIdeal.nD Cert.AttnProjReferenceIdeal.τ).loc Cert.AttnProjReferenceIdeal.main_arg2) = m ((c.tc : Thread Cert.AttnProjReferenceIdeal.nD Cert.AttnProjReferenceIdeal.τ).loc Cert.AttnProjReferenceIdeal.main_arg2)
      ∧ r.2.mem ((c.tc : Thread Cert.AttnProjReferenceIdeal.nD Cert.AttnProjReferenceIdeal.τ).loc Cert.AttnProjReferenceIdeal.main_arg3) = m ((c.tc : Thread Cert.AttnProjReferenceIdeal.nD Cert.AttnProjReferenceIdeal.τ).loc Cert.AttnProjReferenceIdeal.main_arg3)
      ∧ r.2.mem ((c.tc : Thread Cert.AttnProjReferenceIdeal.nD Cert.AttnProjReferenceIdeal.τ).loc Cert.AttnProjReferenceIdeal.main_arg4) = m ((c.tc : Thread Cert.AttnProjReferenceIdeal.nD Cert.AttnProjReferenceIdeal.τ).loc Cert.AttnProjReferenceIdeal.main_arg4))
      ∧ r.2.sem = fun _ => 0)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1)
      ∧ r.2.mem ((c.tc : Thread Cert.RetSample.nD Cert.RetSample.τ).loc Cert.RetSample.main_arg2) = m ((c.tc : Thread Cert.RetSample.nD Cert.RetSample.τ).loc Cert.RetSample.main_arg2)
      ∧ r.2.mem ((c.tc : Thread Cert.RetSample.nD Cert.RetSample.τ).loc Cert.RetSample.main_arg3) = m ((c.tc : Thread Cert.RetSample.nD Cert.RetSample.τ).loc Cert.RetSample.main_arg3)
      ∧ r.2.mem ((c.tc : Thread Cert.RetSample.nD Cert.RetSample.τ).loc Cert.RetSample.main_arg4) = m ((c.tc : Thread Cert.RetSample.nD Cert.RetSample.τ).loc Cert.RetSample.main_arg4)
      ∧ r.2.mem ((c.tc : Thread Cert.RetSample.nD Cert.RetSample.τ).loc Cert.RetSample.main_arg5) = m ((c.tc : Thread Cert.RetSample.nD Cert.RetSample.τ).loc Cert.RetSample.main_arg5))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
      ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2)
      ∧ r.2.mem ((c.tc : Thread Cert.RetSampleIdeal.nD Cert.RetSampleIdeal.τ).loc Cert.RetSampleIdeal.main_arg3) = m ((c.tc : Thread Cert.RetSampleIdeal.nD Cert.RetSampleIdeal.τ).loc Cert.RetSampleIdeal.main_arg3)
      ∧ r.2.mem ((c.tc : Thread Cert.RetSampleIdeal.nD Cert.RetSampleIdeal.τ).loc Cert.RetSampleIdeal.main_arg4) = m ((c.tc : Thread Cert.RetSampleIdeal.nD Cert.RetSampleIdeal.τ).loc Cert.RetSampleIdeal.main_arg4)
      ∧ r.2.mem ((c.tc : Thread Cert.RetSampleIdeal.nD Cert.RetSampleIdeal.τ).loc Cert.RetSampleIdeal.main_arg5) = m ((c.tc : Thread Cert.RetSampleIdeal.nD Cert.RetSampleIdeal.τ).loc Cert.RetSampleIdeal.main_arg5))
      ∧ r.2.sem = fun _ => 0)

def quiescent_RetSampleReferenceIdeal [hRetSampleReferenceIdeal : Cert.RetSampleReferenceIdeal.Facts] : Prop :=
  ∀ (m : (ℓ : Loc Cert.RetSampleReferenceIdeal.nD Cert.RetSampleReferenceIdeal.τ Cert.RetSampleReferenceIdeal.sig) → Buf (Elt Ideal) ℓ) (g : Dev Cert.RetSampleReferenceIdeal.nD → PrngReg), Pre_RetSampleReferenceIdeal m →
    θ_run (Cert.RetSampleReferenceIdeal.defs (F := Ideal)) (onTc (τ := Cert.RetSampleReferenceIdeal.τ) (Cert.RetSampleReferenceIdeal.main (F := Ideal))) ⟨m, fun _ => 0, g⟩ (fun r => (∀ c : Dev Cert.RetSampleReferenceIdeal.nD,
      r.2.mem ((c.tc : Thread Cert.RetSampleReferenceIdeal.nD Cert.RetSampleReferenceIdeal.τ).loc Cert.RetSampleReferenceIdeal.main_arg0) = m ((c.tc : Thread Cert.RetSampleReferenceIdeal.nD Cert.RetSampleReferenceIdeal.τ).loc Cert.RetSampleReferenceIdeal.main_arg0)
      ∧ r.2.mem ((c.tc : Thread Cert.RetSampleReferenceIdeal.nD Cert.RetSampleReferenceIdeal.τ).loc Cert.RetSampleReferenceIdeal.main_arg1) = m ((c.tc : Thread Cert.RetSampleReferenceIdeal.nD Cert.RetSampleReferenceIdeal.τ).loc Cert.RetSampleReferenceIdeal.main_arg1)
      ∧ r.2.mem ((c.tc : Thread Cert.RetSampleReferenceIdeal.nD Cert.RetSampleReferenceIdeal.τ).loc Cert.RetSampleReferenceIdeal.main_arg2) = m ((c.tc : Thread Cert.RetSampleReferenceIdeal.nD Cert.RetSampleReferenceIdeal.τ).loc Cert.RetSampleReferenceIdeal.main_arg2)
      ∧ r.2.mem ((c.tc : Thread Cert.RetSampleReferenceIdeal.nD Cert.RetSampleReferenceIdeal.τ).loc Cert.RetSampleReferenceIdeal.main_arg3) = m ((c.tc : Thread Cert.RetSampleReferenceIdeal.nD Cert.RetSampleReferenceIdeal.τ).loc Cert.RetSampleReferenceIdeal.main_arg3)
      ∧ r.2.mem ((c.tc : Thread Cert.RetSampleReferenceIdeal.nD Cert.RetSampleReferenceIdeal.τ).loc Cert.RetSampleReferenceIdeal.main_arg4) = m ((c.tc : Thread Cert.RetSampleReferenceIdeal.nD Cert.RetSampleReferenceIdeal.τ).loc Cert.RetSampleReferenceIdeal.main_arg4)
      ∧ r.2.mem ((c.tc : Thread Cert.RetSampleReferenceIdeal.nD Cert.RetSampleReferenceIdeal.τ).loc Cert.RetSampleReferenceIdeal.main_arg5) = m ((c.tc : Thread Cert.RetSampleReferenceIdeal.nD Cert.RetSampleReferenceIdeal.τ).loc Cert.RetSampleReferenceIdeal.main_arg5))
      ∧ r.2.sem = fun _ => 0)

def quiescent_RetOut [hRetOut : Cert.RetOut.Facts] : Prop :=
  ∀ (m : (ℓ : Loc Cert.RetOut.nD Cert.RetOut.τ Cert.RetOut.sig) → Buf (Elt Bits) ℓ) (g : Dev Cert.RetOut.nD → PrngReg), Pre_RetOut m →
    θ_run (Cert.RetOut.defs (F := Bits)) (onTc (τ := Cert.RetOut.τ) (Cert.RetOut.main (F := Bits))) ⟨m, fun _ => 0, g⟩ (fun r => (∀ c : Dev Cert.RetOut.nD,
      r.2.mem ((c.tc : Thread Cert.RetOut.nD Cert.RetOut.τ).loc Cert.RetOut.main_arg0) = m ((c.tc : Thread Cert.RetOut.nD Cert.RetOut.τ).loc Cert.RetOut.main_arg0)
      ∧ r.2.mem ((c.tc : Thread Cert.RetOut.nD Cert.RetOut.τ).loc Cert.RetOut.main_arg1) = m ((c.tc : Thread Cert.RetOut.nD Cert.RetOut.τ).loc Cert.RetOut.main_arg1)
      ∧ r.2.mem ((c.tc : Thread Cert.RetOut.nD Cert.RetOut.τ).loc Cert.RetOut.main_arg2) = m ((c.tc : Thread Cert.RetOut.nD Cert.RetOut.τ).loc Cert.RetOut.main_arg2)
      ∧ r.2.mem ((c.tc : Thread Cert.RetOut.nD Cert.RetOut.τ).loc Cert.RetOut.main_arg3) = m ((c.tc : Thread Cert.RetOut.nD Cert.RetOut.τ).loc Cert.RetOut.main_arg3)
      ∧ r.2.mem ((c.tc : Thread Cert.RetOut.nD Cert.RetOut.τ).loc Cert.RetOut.main_arg4) = m ((c.tc : Thread Cert.RetOut.nD Cert.RetOut.τ).loc Cert.RetOut.main_arg4)
      ∧ r.2.mem ((c.tc : Thread Cert.RetOut.nD Cert.RetOut.τ).loc Cert.RetOut.main_arg5) = m ((c.tc : Thread Cert.RetOut.nD Cert.RetOut.τ).loc Cert.RetOut.main_arg5)
      ∧ r.2.mem ((c.tc : Thread Cert.RetOut.nD Cert.RetOut.τ).loc Cert.RetOut.main_arg6) = m ((c.tc : Thread Cert.RetOut.nD Cert.RetOut.τ).loc Cert.RetOut.main_arg6)
      ∧ r.2.mem ((c.tc : Thread Cert.RetOut.nD Cert.RetOut.τ).loc Cert.RetOut.main_arg7) = m ((c.tc : Thread Cert.RetOut.nD Cert.RetOut.τ).loc Cert.RetOut.main_arg7)
      ∧ r.2.mem ((c.tc : Thread Cert.RetOut.nD Cert.RetOut.τ).loc Cert.RetOut.main_arg8) = m ((c.tc : Thread Cert.RetOut.nD Cert.RetOut.τ).loc Cert.RetOut.main_arg8)
      ∧ r.2.mem ((c.tc : Thread Cert.RetOut.nD Cert.RetOut.τ).loc Cert.RetOut.main_arg9) = m ((c.tc : Thread Cert.RetOut.nD Cert.RetOut.τ).loc Cert.RetOut.main_arg9)
      ∧ r.2.mem ((c.tc : Thread Cert.RetOut.nD Cert.RetOut.τ).loc Cert.RetOut.main_arg10) = m ((c.tc : Thread Cert.RetOut.nD Cert.RetOut.τ).loc Cert.RetOut.main_arg10)
      ∧ r.2.mem ((c.tc : Thread Cert.RetOut.nD Cert.RetOut.τ).loc Cert.RetOut.main_arg11) = m ((c.tc : Thread Cert.RetOut.nD Cert.RetOut.τ).loc Cert.RetOut.main_arg11))
      ∧ r.2.sem = fun _ => 0)

def quiescent_RetOutIdeal [hRetOutIdeal : Cert.RetOutIdeal.Facts] : Prop :=
  ∀ (m : (ℓ : Loc Cert.RetOutIdeal.nD Cert.RetOutIdeal.τ Cert.RetOutIdeal.sig) → Buf (Elt Ideal) ℓ) (g : Dev Cert.RetOutIdeal.nD → PrngReg), Pre_RetOutIdeal m →
    θ_run (Cert.RetOutIdeal.defs (F := Ideal)) (onTc (τ := Cert.RetOutIdeal.τ) (Cert.RetOutIdeal.main (F := Ideal))) ⟨m, fun _ => 0, g⟩ (fun r => (∀ c : Dev Cert.RetOutIdeal.nD,
      r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
      ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
      ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
      ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
      ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4)
      ∧ r.2.mem ((c.tc : Thread Cert.RetOutIdeal.nD Cert.RetOutIdeal.τ).loc Cert.RetOutIdeal.main_arg5) = m ((c.tc : Thread Cert.RetOutIdeal.nD Cert.RetOutIdeal.τ).loc Cert.RetOutIdeal.main_arg5)
      ∧ r.2.mem ((c.tc : Thread Cert.RetOutIdeal.nD Cert.RetOutIdeal.τ).loc Cert.RetOutIdeal.main_arg6) = m ((c.tc : Thread Cert.RetOutIdeal.nD Cert.RetOutIdeal.τ).loc Cert.RetOutIdeal.main_arg6)
      ∧ r.2.mem ((c.tc : Thread Cert.RetOutIdeal.nD Cert.RetOutIdeal.τ).loc Cert.RetOutIdeal.main_arg7) = m ((c.tc : Thread Cert.RetOutIdeal.nD Cert.RetOutIdeal.τ).loc Cert.RetOutIdeal.main_arg7)
      ∧ r.2.mem ((c.tc : Thread Cert.RetOutIdeal.nD Cert.RetOutIdeal.τ).loc Cert.RetOutIdeal.main_arg8) = m ((c.tc : Thread Cert.RetOutIdeal.nD Cert.RetOutIdeal.τ).loc Cert.RetOutIdeal.main_arg8)
      ∧ r.2.mem ((c.tc : Thread Cert.RetOutIdeal.nD Cert.RetOutIdeal.τ).loc Cert.RetOutIdeal.main_arg9) = m ((c.tc : Thread Cert.RetOutIdeal.nD Cert.RetOutIdeal.τ).loc Cert.RetOutIdeal.main_arg9)
      ∧ r.2.mem ((c.tc : Thread Cert.RetOutIdeal.nD Cert.RetOutIdeal.τ).loc Cert.RetOutIdeal.main_arg10) = m ((c.tc : Thread Cert.RetOutIdeal.nD Cert.RetOutIdeal.τ).loc Cert.RetOutIdeal.main_arg10)
      ∧ r.2.mem ((c.tc : Thread Cert.RetOutIdeal.nD Cert.RetOutIdeal.τ).loc Cert.RetOutIdeal.main_arg11) = m ((c.tc : Thread Cert.RetOutIdeal.nD Cert.RetOutIdeal.τ).loc Cert.RetOutIdeal.main_arg11))
      ∧ r.2.sem = fun _ => 0)

def quiescent_RetOutReferenceIdeal [hRetOutReferenceIdeal : Cert.RetOutReferenceIdeal.Facts] : Prop :=
  ∀ (m : (ℓ : Loc Cert.RetOutReferenceIdeal.nD Cert.RetOutReferenceIdeal.τ Cert.RetOutReferenceIdeal.sig) → Buf (Elt Ideal) ℓ) (g : Dev Cert.RetOutReferenceIdeal.nD → PrngReg), Pre_RetOutReferenceIdeal m →
    θ_run (Cert.RetOutReferenceIdeal.defs (F := Ideal)) (onTc (τ := Cert.RetOutReferenceIdeal.τ) (Cert.RetOutReferenceIdeal.main (F := Ideal))) ⟨m, fun _ => 0, g⟩ (fun r => (∀ c : Dev Cert.RetOutReferenceIdeal.nD,
      r.2.mem ((c.tc : Thread Cert.RetOutReferenceIdeal.nD Cert.RetOutReferenceIdeal.τ).loc Cert.RetOutReferenceIdeal.main_arg0) = m ((c.tc : Thread Cert.RetOutReferenceIdeal.nD Cert.RetOutReferenceIdeal.τ).loc Cert.RetOutReferenceIdeal.main_arg0)
      ∧ r.2.mem ((c.tc : Thread Cert.RetOutReferenceIdeal.nD Cert.RetOutReferenceIdeal.τ).loc Cert.RetOutReferenceIdeal.main_arg1) = m ((c.tc : Thread Cert.RetOutReferenceIdeal.nD Cert.RetOutReferenceIdeal.τ).loc Cert.RetOutReferenceIdeal.main_arg1)
      ∧ r.2.mem ((c.tc : Thread Cert.RetOutReferenceIdeal.nD Cert.RetOutReferenceIdeal.τ).loc Cert.RetOutReferenceIdeal.main_arg2) = m ((c.tc : Thread Cert.RetOutReferenceIdeal.nD Cert.RetOutReferenceIdeal.τ).loc Cert.RetOutReferenceIdeal.main_arg2)
      ∧ r.2.mem ((c.tc : Thread Cert.RetOutReferenceIdeal.nD Cert.RetOutReferenceIdeal.τ).loc Cert.RetOutReferenceIdeal.main_arg3) = m ((c.tc : Thread Cert.RetOutReferenceIdeal.nD Cert.RetOutReferenceIdeal.τ).loc Cert.RetOutReferenceIdeal.main_arg3)
      ∧ r.2.mem ((c.tc : Thread Cert.RetOutReferenceIdeal.nD Cert.RetOutReferenceIdeal.τ).loc Cert.RetOutReferenceIdeal.main_arg4) = m ((c.tc : Thread Cert.RetOutReferenceIdeal.nD Cert.RetOutReferenceIdeal.τ).loc Cert.RetOutReferenceIdeal.main_arg4)
      ∧ r.2.mem ((c.tc : Thread Cert.RetOutReferenceIdeal.nD Cert.RetOutReferenceIdeal.τ).loc Cert.RetOutReferenceIdeal.main_arg5) = m ((c.tc : Thread Cert.RetOutReferenceIdeal.nD Cert.RetOutReferenceIdeal.τ).loc Cert.RetOutReferenceIdeal.main_arg5)
      ∧ r.2.mem ((c.tc : Thread Cert.RetOutReferenceIdeal.nD Cert.RetOutReferenceIdeal.τ).loc Cert.RetOutReferenceIdeal.main_arg6) = m ((c.tc : Thread Cert.RetOutReferenceIdeal.nD Cert.RetOutReferenceIdeal.τ).loc Cert.RetOutReferenceIdeal.main_arg6)
      ∧ r.2.mem ((c.tc : Thread Cert.RetOutReferenceIdeal.nD Cert.RetOutReferenceIdeal.τ).loc Cert.RetOutReferenceIdeal.main_arg7) = m ((c.tc : Thread Cert.RetOutReferenceIdeal.nD Cert.RetOutReferenceIdeal.τ).loc Cert.RetOutReferenceIdeal.main_arg7)
      ∧ r.2.mem ((c.tc : Thread Cert.RetOutReferenceIdeal.nD Cert.RetOutReferenceIdeal.τ).loc Cert.RetOutReferenceIdeal.main_arg8) = m ((c.tc : Thread Cert.RetOutReferenceIdeal.nD Cert.RetOutReferenceIdeal.τ).loc Cert.RetOutReferenceIdeal.main_arg8)
      ∧ r.2.mem ((c.tc : Thread Cert.RetOutReferenceIdeal.nD Cert.RetOutReferenceIdeal.τ).loc Cert.RetOutReferenceIdeal.main_arg9) = m ((c.tc : Thread Cert.RetOutReferenceIdeal.nD Cert.RetOutReferenceIdeal.τ).loc Cert.RetOutReferenceIdeal.main_arg9)
      ∧ r.2.mem ((c.tc : Thread Cert.RetOutReferenceIdeal.nD Cert.RetOutReferenceIdeal.τ).loc Cert.RetOutReferenceIdeal.main_arg10) = m ((c.tc : Thread Cert.RetOutReferenceIdeal.nD Cert.RetOutReferenceIdeal.τ).loc Cert.RetOutReferenceIdeal.main_arg10)
      ∧ r.2.mem ((c.tc : Thread Cert.RetOutReferenceIdeal.nD Cert.RetOutReferenceIdeal.τ).loc Cert.RetOutReferenceIdeal.main_arg11) = m ((c.tc : Thread Cert.RetOutReferenceIdeal.nD Cert.RetOutReferenceIdeal.τ).loc Cert.RetOutReferenceIdeal.main_arg11))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4)
      ∧ r.2.mem ((c.tc : Thread Cert.AttnOut.nD Cert.AttnOut.τ).loc Cert.AttnOut.main_arg5) = m ((c.tc : Thread Cert.AttnOut.nD Cert.AttnOut.τ).loc Cert.AttnOut.main_arg5)
      ∧ r.2.mem ((c.tc : Thread Cert.AttnOut.nD Cert.AttnOut.τ).loc Cert.AttnOut.main_arg6) = m ((c.tc : Thread Cert.AttnOut.nD Cert.AttnOut.τ).loc Cert.AttnOut.main_arg6)
      ∧ r.2.mem ((c.tc : Thread Cert.AttnOut.nD Cert.AttnOut.τ).loc Cert.AttnOut.main_arg7) = m ((c.tc : Thread Cert.AttnOut.nD Cert.AttnOut.τ).loc Cert.AttnOut.main_arg7)
      ∧ r.2.mem ((c.tc : Thread Cert.AttnOut.nD Cert.AttnOut.τ).loc Cert.AttnOut.main_arg8) = m ((c.tc : Thread Cert.AttnOut.nD Cert.AttnOut.τ).loc Cert.AttnOut.main_arg8)
      ∧ r.2.mem ((c.tc : Thread Cert.AttnOut.nD Cert.AttnOut.τ).loc Cert.AttnOut.main_arg9) = m ((c.tc : Thread Cert.AttnOut.nD Cert.AttnOut.τ).loc Cert.AttnOut.main_arg9)
      ∧ r.2.mem ((c.tc : Thread Cert.AttnOut.nD Cert.AttnOut.τ).loc Cert.AttnOut.main_arg10) = m ((c.tc : Thread Cert.AttnOut.nD Cert.AttnOut.τ).loc Cert.AttnOut.main_arg10)
      ∧ r.2.mem ((c.tc : Thread Cert.AttnOut.nD Cert.AttnOut.τ).loc Cert.AttnOut.main_arg11) = m ((c.tc : Thread Cert.AttnOut.nD Cert.AttnOut.τ).loc Cert.AttnOut.main_arg11))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
      ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
      ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
      ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7)
      ∧ r.2.mem ((c.tc : Thread Cert.AttnOutIdeal.nD Cert.AttnOutIdeal.τ).loc Cert.AttnOutIdeal.main_arg8) = m ((c.tc : Thread Cert.AttnOutIdeal.nD Cert.AttnOutIdeal.τ).loc Cert.AttnOutIdeal.main_arg8)
      ∧ r.2.mem ((c.tc : Thread Cert.AttnOutIdeal.nD Cert.AttnOutIdeal.τ).loc Cert.AttnOutIdeal.main_arg9) = m ((c.tc : Thread Cert.AttnOutIdeal.nD Cert.AttnOutIdeal.τ).loc Cert.AttnOutIdeal.main_arg9)
      ∧ r.2.mem ((c.tc : Thread Cert.AttnOutIdeal.nD Cert.AttnOutIdeal.τ).loc Cert.AttnOutIdeal.main_arg10) = m ((c.tc : Thread Cert.AttnOutIdeal.nD Cert.AttnOutIdeal.τ).loc Cert.AttnOutIdeal.main_arg10)
      ∧ r.2.mem ((c.tc : Thread Cert.AttnOutIdeal.nD Cert.AttnOutIdeal.τ).loc Cert.AttnOutIdeal.main_arg11) = m ((c.tc : Thread Cert.AttnOutIdeal.nD Cert.AttnOutIdeal.τ).loc Cert.AttnOutIdeal.main_arg11))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4)
      ∧ r.2.mem ((c.tc : Thread Cert.AttnOutReferenceIdeal.nD Cert.AttnOutReferenceIdeal.τ).loc Cert.AttnOutReferenceIdeal.main_arg5) = m ((c.tc : Thread Cert.AttnOutReferenceIdeal.nD Cert.AttnOutReferenceIdeal.τ).loc Cert.AttnOutReferenceIdeal.main_arg5)
      ∧ r.2.mem ((c.tc : Thread Cert.AttnOutReferenceIdeal.nD Cert.AttnOutReferenceIdeal.τ).loc Cert.AttnOutReferenceIdeal.main_arg6) = m ((c.tc : Thread Cert.AttnOutReferenceIdeal.nD Cert.AttnOutReferenceIdeal.τ).loc Cert.AttnOutReferenceIdeal.main_arg6)
      ∧ r.2.mem ((c.tc : Thread Cert.AttnOutReferenceIdeal.nD Cert.AttnOutReferenceIdeal.τ).loc Cert.AttnOutReferenceIdeal.main_arg7) = m ((c.tc : Thread Cert.AttnOutReferenceIdeal.nD Cert.AttnOutReferenceIdeal.τ).loc Cert.AttnOutReferenceIdeal.main_arg7)
      ∧ r.2.mem ((c.tc : Thread Cert.AttnOutReferenceIdeal.nD Cert.AttnOutReferenceIdeal.τ).loc Cert.AttnOutReferenceIdeal.main_arg8) = m ((c.tc : Thread Cert.AttnOutReferenceIdeal.nD Cert.AttnOutReferenceIdeal.τ).loc Cert.AttnOutReferenceIdeal.main_arg8)
      ∧ r.2.mem ((c.tc : Thread Cert.AttnOutReferenceIdeal.nD Cert.AttnOutReferenceIdeal.τ).loc Cert.AttnOutReferenceIdeal.main_arg9) = m ((c.tc : Thread Cert.AttnOutReferenceIdeal.nD Cert.AttnOutReferenceIdeal.τ).loc Cert.AttnOutReferenceIdeal.main_arg9)
      ∧ r.2.mem ((c.tc : Thread Cert.AttnOutReferenceIdeal.nD Cert.AttnOutReferenceIdeal.τ).loc Cert.AttnOutReferenceIdeal.main_arg10) = m ((c.tc : Thread Cert.AttnOutReferenceIdeal.nD Cert.AttnOutReferenceIdeal.τ).loc Cert.AttnOutReferenceIdeal.main_arg10)
      ∧ r.2.mem ((c.tc : Thread Cert.AttnOutReferenceIdeal.nD Cert.AttnOutReferenceIdeal.τ).loc Cert.AttnOutReferenceIdeal.main_arg11) = m ((c.tc : Thread Cert.AttnOutReferenceIdeal.nD Cert.AttnOutReferenceIdeal.τ).loc Cert.AttnOutReferenceIdeal.main_arg11))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaReferenceIdeal [hAdaReferenceIdeal : Cert.AdaReferenceIdeal.Facts] : Prop :=
  ∀ (m : (ℓ : Loc Cert.AdaReferenceIdeal.nD Cert.AdaReferenceIdeal.τ Cert.AdaReferenceIdeal.sig) → Buf (Elt Ideal) ℓ) (g : Dev Cert.AdaReferenceIdeal.nD → PrngReg), Pre_AdaReferenceIdeal m →
    θ_run (Cert.AdaReferenceIdeal.defs (F := Ideal)) (onTc (τ := Cert.AdaReferenceIdeal.τ) (Cert.AdaReferenceIdeal.main (F := Ideal))) ⟨m, fun _ => 0, g⟩ (fun r => (∀ c : Dev Cert.AdaReferenceIdeal.nD,
      r.2.mem ((c.tc : Thread Cert.AdaReferenceIdeal.nD Cert.AdaReferenceIdeal.τ).loc Cert.AdaReferenceIdeal.main_arg0) = m ((c.tc : Thread Cert.AdaReferenceIdeal.nD Cert.AdaReferenceIdeal.τ).loc Cert.AdaReferenceIdeal.main_arg0)
      ∧ r.2.mem ((c.tc : Thread Cert.AdaReferenceIdeal.nD Cert.AdaReferenceIdeal.τ).loc Cert.AdaReferenceIdeal.main_arg1) = m ((c.tc : Thread Cert.AdaReferenceIdeal.nD Cert.AdaReferenceIdeal.τ).loc Cert.AdaReferenceIdeal.main_arg1)
      ∧ r.2.mem ((c.tc : Thread Cert.AdaReferenceIdeal.nD Cert.AdaReferenceIdeal.τ).loc Cert.AdaReferenceIdeal.main_arg2) = m ((c.tc : Thread Cert.AdaReferenceIdeal.nD Cert.AdaReferenceIdeal.τ).loc Cert.AdaReferenceIdeal.main_arg2)
      ∧ r.2.mem ((c.tc : Thread Cert.AdaReferenceIdeal.nD Cert.AdaReferenceIdeal.τ).loc Cert.AdaReferenceIdeal.main_arg3) = m ((c.tc : Thread Cert.AdaReferenceIdeal.nD Cert.AdaReferenceIdeal.τ).loc Cert.AdaReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v16_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v69) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_ExpertsNext_ExpertsNextIdeal : Prop :=
  True

def algebraic_ExpertsNextIdeal_ExpertsNextReferenceIdeal [hExpertsNextIdeal : Cert.ExpertsNextIdeal.Facts] [hExpertsNextReferenceIdeal : Cert.ExpertsNextReferenceIdeal.Facts] [hPre_experts_in_range : Cert.Pre_experts_in_range.Facts] : Prop :=
  ∀ (m : (ℓ : Loc Cert.ExpertsNextIdeal.nD Cert.ExpertsNextIdeal.τ Cert.ExpertsNextIdeal.sig) → Buf (Elt Ideal) ℓ) (g : Dev Cert.ExpertsNextIdeal.nD → PrngReg)
    (m' : (ℓ : Loc Cert.ExpertsNextReferenceIdeal.nD Cert.ExpertsNextReferenceIdeal.τ Cert.ExpertsNextReferenceIdeal.sig) → Buf (Elt Ideal) ℓ) (g' : Dev Cert.ExpertsNextReferenceIdeal.nD → PrngReg), Pre_ExpertsNextIdeal m →
    (∀ c : Dev Cert.ExpertsNextIdeal.nD,
      m' ((c.tc : Thread Cert.ExpertsNextReferenceIdeal.nD Cert.ExpertsNextReferenceIdeal.τ).loc Cert.ExpertsNextReferenceIdeal.main_arg0) = m ((c.tc : Thread Cert.ExpertsNextIdeal.nD Cert.ExpertsNextIdeal.τ).loc Cert.ExpertsNextIdeal.main_arg0)
      ∧ m' ((c.tc : Thread Cert.ExpertsNextReferenceIdeal.nD Cert.ExpertsNextReferenceIdeal.τ).loc Cert.ExpertsNextReferenceIdeal.main_arg1) = m ((c.tc : Thread Cert.ExpertsNextIdeal.nD Cert.ExpertsNextIdeal.τ).loc Cert.ExpertsNextIdeal.main_arg1)
      ∧ m' ((c.tc : Thread Cert.ExpertsNextReferenceIdeal.nD Cert.ExpertsNextReferenceIdeal.τ).loc Cert.ExpertsNextReferenceIdeal.main_arg2) = m ((c.tc : Thread Cert.ExpertsNextIdeal.nD Cert.ExpertsNextIdeal.τ).loc Cert.ExpertsNextIdeal.main_arg2)
      ∧ m' ((c.tc : Thread Cert.ExpertsNextReferenceIdeal.nD Cert.ExpertsNextReferenceIdeal.τ).loc Cert.ExpertsNextReferenceIdeal.main_arg3) = m ((c.tc : Thread Cert.ExpertsNextIdeal.nD Cert.ExpertsNextIdeal.τ).loc Cert.ExpertsNextIdeal.main_arg3)
      ∧ m' ((c.tc : Thread Cert.ExpertsNextReferenceIdeal.nD Cert.ExpertsNextReferenceIdeal.τ).loc Cert.ExpertsNextReferenceIdeal.main_arg4) = m ((c.tc : Thread Cert.ExpertsNextIdeal.nD Cert.ExpertsNextIdeal.τ).loc Cert.ExpertsNextIdeal.main_arg4)
      ∧ m' ((c.tc : Thread Cert.ExpertsNextReferenceIdeal.nD Cert.ExpertsNextReferenceIdeal.τ).loc Cert.ExpertsNextReferenceIdeal.main_arg5) = m ((c.tc : Thread Cert.ExpertsNextIdeal.nD Cert.ExpertsNextIdeal.τ).loc Cert.ExpertsNextIdeal.main_arg5)
      ∧ m' ((c.tc : Thread Cert.ExpertsNextReferenceIdeal.nD Cert.ExpertsNextReferenceIdeal.τ).loc Cert.ExpertsNextReferenceIdeal.main_arg6) = m ((c.tc : Thread Cert.ExpertsNextIdeal.nD Cert.ExpertsNextIdeal.τ).loc Cert.ExpertsNextIdeal.main_arg6)) →
    ∃ (v0 : (c : Dev Cert.ExpertsNextIdeal.nD) → Buf (Elt Ideal) ((c.tc : Thread Cert.ExpertsNextIdeal.nD Cert.ExpertsNextIdeal.τ).loc Cert.ExpertsNextIdeal.main_v0)),
      θ_run (Cert.ExpertsNextIdeal.defs (F := Ideal)) (onTc (τ := Cert.ExpertsNextIdeal.τ) (Cert.ExpertsNextIdeal.main (F := Ideal))) ⟨m, fun _ => 0, g⟩ (fun r => ∀ c : Dev Cert.ExpertsNextIdeal.nD,
          r.2.mem ((c.tc : Thread Cert.ExpertsNextIdeal.nD Cert.ExpertsNextIdeal.τ).loc Cert.ExpertsNextIdeal.main_v0) = v0 c
          ∧ r.2.mem ((c.tc : Thread Cert.ExpertsNextIdeal.nD Cert.ExpertsNextIdeal.τ).loc Cert.ExpertsNextIdeal.main_arg0) = m ((c.tc : Thread Cert.ExpertsNextIdeal.nD Cert.ExpertsNextIdeal.τ).loc Cert.ExpertsNextIdeal.main_arg0)
          ∧ r.2.mem ((c.tc : Thread Cert.ExpertsNextIdeal.nD Cert.ExpertsNextIdeal.τ).loc Cert.ExpertsNextIdeal.main_arg1) = m ((c.tc : Thread Cert.ExpertsNextIdeal.nD Cert.ExpertsNextIdeal.τ).loc Cert.ExpertsNextIdeal.main_arg1)
          ∧ r.2.mem ((c.tc : Thread Cert.ExpertsNextIdeal.nD Cert.ExpertsNextIdeal.τ).loc Cert.ExpertsNextIdeal.main_arg2) = m ((c.tc : Thread Cert.ExpertsNextIdeal.nD Cert.ExpertsNextIdeal.τ).loc Cert.ExpertsNextIdeal.main_arg2)
          ∧ r.2.mem ((c.tc : Thread Cert.ExpertsNextIdeal.nD Cert.ExpertsNextIdeal.τ).loc Cert.ExpertsNextIdeal.main_arg3) = m ((c.tc : Thread Cert.ExpertsNextIdeal.nD Cert.ExpertsNextIdeal.τ).loc Cert.ExpertsNextIdeal.main_arg3)
          ∧ r.2.mem ((c.tc : Thread Cert.ExpertsNextIdeal.nD Cert.ExpertsNextIdeal.τ).loc Cert.ExpertsNextIdeal.main_arg4) = m ((c.tc : Thread Cert.ExpertsNextIdeal.nD Cert.ExpertsNextIdeal.τ).loc Cert.ExpertsNextIdeal.main_arg4)
          ∧ r.2.mem ((c.tc : Thread Cert.ExpertsNextIdeal.nD Cert.ExpertsNextIdeal.τ).loc Cert.ExpertsNextIdeal.main_arg5) = m ((c.tc : Thread Cert.ExpertsNextIdeal.nD Cert.ExpertsNextIdeal.τ).loc Cert.ExpertsNextIdeal.main_arg5)
          ∧ r.2.mem ((c.tc : Thread Cert.ExpertsNextIdeal.nD Cert.ExpertsNextIdeal.τ).loc Cert.ExpertsNextIdeal.main_arg6) = m ((c.tc : Thread Cert.ExpertsNextIdeal.nD Cert.ExpertsNextIdeal.τ).loc Cert.ExpertsNextIdeal.main_arg6))
      ∧ θ_run (Cert.ExpertsNextReferenceIdeal.defs (F := Ideal)) (onTc (τ := Cert.ExpertsNextReferenceIdeal.τ) (Cert.ExpertsNextReferenceIdeal.main (F := Ideal))) ⟨m', fun _ => 0, g'⟩ (fun r => ∀ c : Dev Cert.ExpertsNextReferenceIdeal.nD,
          r.2.mem ((c.tc : Thread Cert.ExpertsNextReferenceIdeal.nD Cert.ExpertsNextReferenceIdeal.τ).loc Cert.ExpertsNextReferenceIdeal.main_v69) = v0 c
          ∧ r.2.mem ((c.tc : Thread Cert.ExpertsNextReferenceIdeal.nD Cert.ExpertsNextReferenceIdeal.τ).loc Cert.ExpertsNextReferenceIdeal.main_arg0) = m' ((c.tc : Thread Cert.ExpertsNextReferenceIdeal.nD Cert.ExpertsNextReferenceIdeal.τ).loc Cert.ExpertsNextReferenceIdeal.main_arg0)
          ∧ r.2.mem ((c.tc : Thread Cert.ExpertsNextReferenceIdeal.nD Cert.ExpertsNextReferenceIdeal.τ).loc Cert.ExpertsNextReferenceIdeal.main_arg1) = m' ((c.tc : Thread Cert.ExpertsNextReferenceIdeal.nD Cert.ExpertsNextReferenceIdeal.τ).loc Cert.ExpertsNextReferenceIdeal.main_arg1)
          ∧ r.2.mem ((c.tc : Thread Cert.ExpertsNextReferenceIdeal.nD Cert.ExpertsNextReferenceIdeal.τ).loc Cert.ExpertsNextReferenceIdeal.main_arg2) = m' ((c.tc : Thread Cert.ExpertsNextReferenceIdeal.nD Cert.ExpertsNextReferenceIdeal.τ).loc Cert.ExpertsNextReferenceIdeal.main_arg2)
          ∧ r.2.mem ((c.tc : Thread Cert.ExpertsNextReferenceIdeal.nD Cert.ExpertsNextReferenceIdeal.τ).loc Cert.ExpertsNextReferenceIdeal.main_arg3) = m' ((c.tc : Thread Cert.ExpertsNextReferenceIdeal.nD Cert.ExpertsNextReferenceIdeal.τ).loc Cert.ExpertsNextReferenceIdeal.main_arg3)
          ∧ r.2.mem ((c.tc : Thread Cert.ExpertsNextReferenceIdeal.nD Cert.ExpertsNextReferenceIdeal.τ).loc Cert.ExpertsNextReferenceIdeal.main_arg4) = m' ((c.tc : Thread Cert.ExpertsNextReferenceIdeal.nD Cert.ExpertsNextReferenceIdeal.τ).loc Cert.ExpertsNextReferenceIdeal.main_arg4)
          ∧ r.2.mem ((c.tc : Thread Cert.ExpertsNextReferenceIdeal.nD Cert.ExpertsNextReferenceIdeal.τ).loc Cert.ExpertsNextReferenceIdeal.main_arg5) = m' ((c.tc : Thread Cert.ExpertsNextReferenceIdeal.nD Cert.ExpertsNextReferenceIdeal.τ).loc Cert.ExpertsNextReferenceIdeal.main_arg5)
          ∧ r.2.mem ((c.tc : Thread Cert.ExpertsNextReferenceIdeal.nD Cert.ExpertsNextReferenceIdeal.τ).loc Cert.ExpertsNextReferenceIdeal.main_arg6) = m' ((c.tc : Thread Cert.ExpertsNextReferenceIdeal.nD Cert.ExpertsNextReferenceIdeal.τ).loc Cert.ExpertsNextReferenceIdeal.main_arg6))

def preserves_RetProj_RetProjIdeal : Prop :=
  True

def algebraic_RetProjIdeal_RetProjReferenceIdeal [hRetProjIdeal : Cert.RetProjIdeal.Facts] [hRetProjReferenceIdeal : Cert.RetProjReferenceIdeal.Facts] : Prop :=
  ∀ (m : (ℓ : Loc Cert.RetProjIdeal.nD Cert.RetProjIdeal.τ Cert.RetProjIdeal.sig) → Buf (Elt Ideal) ℓ) (g : Dev Cert.RetProjIdeal.nD → PrngReg)
    (m' : (ℓ : Loc Cert.RetProjReferenceIdeal.nD Cert.RetProjReferenceIdeal.τ Cert.RetProjReferenceIdeal.sig) → Buf (Elt Ideal) ℓ) (g' : Dev Cert.RetProjReferenceIdeal.nD → PrngReg), Pre_RetProjIdeal m →
    (∀ c : Dev Cert.RetProjIdeal.nD,
      m' ((c.tc : Thread Cert.RetProjReferenceIdeal.nD Cert.RetProjReferenceIdeal.τ).loc Cert.RetProjReferenceIdeal.main_arg0) = m ((c.tc : Thread Cert.RetProjIdeal.nD Cert.RetProjIdeal.τ).loc Cert.RetProjIdeal.main_arg0)
      ∧ m' ((c.tc : Thread Cert.RetProjReferenceIdeal.nD Cert.RetProjReferenceIdeal.τ).loc Cert.RetProjReferenceIdeal.main_arg1) = m ((c.tc : Thread Cert.RetProjIdeal.nD Cert.RetProjIdeal.τ).loc Cert.RetProjIdeal.main_arg1)
      ∧ m' ((c.tc : Thread Cert.RetProjReferenceIdeal.nD Cert.RetProjReferenceIdeal.τ).loc Cert.RetProjReferenceIdeal.main_arg2) = m ((c.tc : Thread Cert.RetProjIdeal.nD Cert.RetProjIdeal.τ).loc Cert.RetProjIdeal.main_arg2)
      ∧ m' ((c.tc : Thread Cert.RetProjReferenceIdeal.nD Cert.RetProjReferenceIdeal.τ).loc Cert.RetProjReferenceIdeal.main_arg3) = m ((c.tc : Thread Cert.RetProjIdeal.nD Cert.RetProjIdeal.τ).loc Cert.RetProjIdeal.main_arg3)
      ∧ m' ((c.tc : Thread Cert.RetProjReferenceIdeal.nD Cert.RetProjReferenceIdeal.τ).loc Cert.RetProjReferenceIdeal.main_arg4) = m ((c.tc : Thread Cert.RetProjIdeal.nD Cert.RetProjIdeal.τ).loc Cert.RetProjIdeal.main_arg4)) →
    ∃ (v0 : (c : Dev Cert.RetProjIdeal.nD) → Buf (Elt Ideal) ((c.tc : Thread Cert.RetProjIdeal.nD Cert.RetProjIdeal.τ).loc Cert.RetProjIdeal.main_v44_0)) (v1 : (c : Dev Cert.RetProjIdeal.nD) → Buf (Elt Ideal) ((c.tc : Thread Cert.RetProjIdeal.nD Cert.RetProjIdeal.τ).loc Cert.RetProjIdeal.main_v44_1)) (v2 : (c : Dev Cert.RetProjIdeal.nD) → Buf (Elt Ideal) ((c.tc : Thread Cert.RetProjIdeal.nD Cert.RetProjIdeal.τ).loc Cert.RetProjIdeal.main_v44_2)) (v3 : (c : Dev Cert.RetProjIdeal.nD) → Buf (Elt Ideal) ((c.tc : Thread Cert.RetProjIdeal.nD Cert.RetProjIdeal.τ).loc Cert.RetProjIdeal.main_v44_3)),
      θ_run (Cert.RetProjIdeal.defs (F := Ideal)) (onTc (τ := Cert.RetProjIdeal.τ) (Cert.RetProjIdeal.main (F := Ideal))) ⟨m, fun _ => 0, g⟩ (fun r => ∀ c : Dev Cert.RetProjIdeal.nD,
          r.2.mem ((c.tc : Thread Cert.RetProjIdeal.nD Cert.RetProjIdeal.τ).loc Cert.RetProjIdeal.main_v44_0) = v0 c
          ∧ r.2.mem ((c.tc : Thread Cert.RetProjIdeal.nD Cert.RetProjIdeal.τ).loc Cert.RetProjIdeal.main_v44_1) = v1 c
          ∧ r.2.mem ((c.tc : Thread Cert.RetProjIdeal.nD Cert.RetProjIdeal.τ).loc Cert.RetProjIdeal.main_v44_2) = v2 c
          ∧ r.2.mem ((c.tc : Thread Cert.RetProjIdeal.nD Cert.RetProjIdeal.τ).loc Cert.RetProjIdeal.main_v44_3) = v3 c
          ∧ r.2.mem ((c.tc : Thread Cert.RetProjIdeal.nD Cert.RetProjIdeal.τ).loc Cert.RetProjIdeal.main_arg0) = m ((c.tc : Thread Cert.RetProjIdeal.nD Cert.RetProjIdeal.τ).loc Cert.RetProjIdeal.main_arg0)
          ∧ r.2.mem ((c.tc : Thread Cert.RetProjIdeal.nD Cert.RetProjIdeal.τ).loc Cert.RetProjIdeal.main_arg1) = m ((c.tc : Thread Cert.RetProjIdeal.nD Cert.RetProjIdeal.τ).loc Cert.RetProjIdeal.main_arg1)
          ∧ r.2.mem ((c.tc : Thread Cert.RetProjIdeal.nD Cert.RetProjIdeal.τ).loc Cert.RetProjIdeal.main_arg2) = m ((c.tc : Thread Cert.RetProjIdeal.nD Cert.RetProjIdeal.τ).loc Cert.RetProjIdeal.main_arg2)
          ∧ r.2.mem ((c.tc : Thread Cert.RetProjIdeal.nD Cert.RetProjIdeal.τ).loc Cert.RetProjIdeal.main_arg3) = m ((c.tc : Thread Cert.RetProjIdeal.nD Cert.RetProjIdeal.τ).loc Cert.RetProjIdeal.main_arg3)
          ∧ r.2.mem ((c.tc : Thread Cert.RetProjIdeal.nD Cert.RetProjIdeal.τ).loc Cert.RetProjIdeal.main_arg4) = m ((c.tc : Thread Cert.RetProjIdeal.nD Cert.RetProjIdeal.τ).loc Cert.RetProjIdeal.main_arg4))
      ∧ θ_run (Cert.RetProjReferenceIdeal.defs (F := Ideal)) (onTc (τ := Cert.RetProjReferenceIdeal.τ) (Cert.RetProjReferenceIdeal.main (F := Ideal))) ⟨m', fun _ => 0, g'⟩ (fun r => ∀ c : Dev Cert.RetProjReferenceIdeal.nD,
          r.2.mem ((c.tc : Thread Cert.RetProjReferenceIdeal.nD Cert.RetProjReferenceIdeal.τ).loc Cert.RetProjReferenceIdeal.main_v190) = v0 c
          ∧ r.2.mem ((c.tc : Thread Cert.RetProjReferenceIdeal.nD Cert.RetProjReferenceIdeal.τ).loc Cert.RetProjReferenceIdeal.main_v183) = v1 c
          ∧ r.2.mem ((c.tc : Thread Cert.RetProjReferenceIdeal.nD Cert.RetProjReferenceIdeal.τ).loc Cert.RetProjReferenceIdeal.main_v191) = v2 c
          ∧ r.2.mem ((c.tc : Thread Cert.RetProjReferenceIdeal.nD Cert.RetProjReferenceIdeal.τ).loc Cert.RetProjReferenceIdeal.main_v189) = v3 c
          ∧ r.2.mem ((c.tc : Thread Cert.RetProjReferenceIdeal.nD Cert.RetProjReferenceIdeal.τ).loc Cert.RetProjReferenceIdeal.main_arg0) = m' ((c.tc : Thread Cert.RetProjReferenceIdeal.nD Cert.RetProjReferenceIdeal.τ).loc Cert.RetProjReferenceIdeal.main_arg0)
          ∧ r.2.mem ((c.tc : Thread Cert.RetProjReferenceIdeal.nD Cert.RetProjReferenceIdeal.τ).loc Cert.RetProjReferenceIdeal.main_arg1) = m' ((c.tc : Thread Cert.RetProjReferenceIdeal.nD Cert.RetProjReferenceIdeal.τ).loc Cert.RetProjReferenceIdeal.main_arg1)
          ∧ r.2.mem ((c.tc : Thread Cert.RetProjReferenceIdeal.nD Cert.RetProjReferenceIdeal.τ).loc Cert.RetProjReferenceIdeal.main_arg2) = m' ((c.tc : Thread Cert.RetProjReferenceIdeal.nD Cert.RetProjReferenceIdeal.τ).loc Cert.RetProjReferenceIdeal.main_arg2)
          ∧ r.2.mem ((c.tc : Thread Cert.RetProjReferenceIdeal.nD Cert.RetProjReferenceIdeal.τ).loc Cert.RetProjReferenceIdeal.main_arg3) = m' ((c.tc : Thread Cert.RetProjReferenceIdeal.nD Cert.RetProjReferenceIdeal.τ).loc Cert.RetProjReferenceIdeal.main_arg3)
          ∧ r.2.mem ((c.tc : Thread Cert.RetProjReferenceIdeal.nD Cert.RetProjReferenceIdeal.τ).loc Cert.RetProjReferenceIdeal.main_arg4) = m' ((c.tc : Thread Cert.RetProjReferenceIdeal.nD Cert.RetProjReferenceIdeal.τ).loc Cert.RetProjReferenceIdeal.main_arg4))

def preserves_AttnProj_AttnProjIdeal : Prop :=
  True

def algebraic_AttnProjIdeal_AttnProjReferenceIdeal [hAttnProjIdeal : Cert.AttnProjIdeal.Facts] [hAttnProjReferenceIdeal : Cert.AttnProjReferenceIdeal.Facts] : Prop :=
  ∀ (m : (ℓ : Loc Cert.AttnProjIdeal.nD Cert.AttnProjIdeal.τ Cert.AttnProjIdeal.sig) → Buf (Elt Ideal) ℓ) (g : Dev Cert.AttnProjIdeal.nD → PrngReg)
    (m' : (ℓ : Loc Cert.AttnProjReferenceIdeal.nD Cert.AttnProjReferenceIdeal.τ Cert.AttnProjReferenceIdeal.sig) → Buf (Elt Ideal) ℓ) (g' : Dev Cert.AttnProjReferenceIdeal.nD → PrngReg), Pre_AttnProjIdeal m →
    (∀ c : Dev Cert.AttnProjIdeal.nD,
      m' ((c.tc : Thread Cert.AttnProjReferenceIdeal.nD Cert.AttnProjReferenceIdeal.τ).loc Cert.AttnProjReferenceIdeal.main_arg0) = m ((c.tc : Thread Cert.AttnProjIdeal.nD Cert.AttnProjIdeal.τ).loc Cert.AttnProjIdeal.main_arg0)
      ∧ m' ((c.tc : Thread Cert.AttnProjReferenceIdeal.nD Cert.AttnProjReferenceIdeal.τ).loc Cert.AttnProjReferenceIdeal.main_arg1) = m ((c.tc : Thread Cert.AttnProjIdeal.nD Cert.AttnProjIdeal.τ).loc Cert.AttnProjIdeal.main_arg1)
      ∧ m' ((c.tc : Thread Cert.AttnProjReferenceIdeal.nD Cert.AttnProjReferenceIdeal.τ).loc Cert.AttnProjReferenceIdeal.main_arg2) = m ((c.tc : Thread Cert.AttnProjIdeal.nD Cert.AttnProjIdeal.τ).loc Cert.AttnProjIdeal.main_arg2)
      ∧ m' ((c.tc : Thread Cert.AttnProjReferenceIdeal.nD Cert.AttnProjReferenceIdeal.τ).loc Cert.AttnProjReferenceIdeal.main_arg3) = m ((c.tc : Thread Cert.AttnProjIdeal.nD Cert.AttnProjIdeal.τ).loc Cert.AttnProjIdeal.main_arg3)
      ∧ m' ((c.tc : Thread Cert.AttnProjReferenceIdeal.nD Cert.AttnProjReferenceIdeal.τ).loc Cert.AttnProjReferenceIdeal.main_arg4) = m ((c.tc : Thread Cert.AttnProjIdeal.nD Cert.AttnProjIdeal.τ).loc Cert.AttnProjIdeal.main_arg4)) →
    ∃ (v0 : (c : Dev Cert.AttnProjIdeal.nD) → Buf (Elt Ideal) ((c.tc : Thread Cert.AttnProjIdeal.nD Cert.AttnProjIdeal.τ).loc Cert.AttnProjIdeal.main_v55_0)) (v1 : (c : Dev Cert.AttnProjIdeal.nD) → Buf (Elt Ideal) ((c.tc : Thread Cert.AttnProjIdeal.nD Cert.AttnProjIdeal.τ).loc Cert.AttnProjIdeal.main_v55_1)) (v2 : (c : Dev Cert.AttnProjIdeal.nD) → Buf (Elt Ideal) ((c.tc : Thread Cert.AttnProjIdeal.nD Cert.AttnProjIdeal.τ).loc Cert.AttnProjIdeal.main_v55_2)) (v3 : (c : Dev Cert.AttnProjIdeal.nD) → Buf (Elt Ideal) ((c.tc : Thread Cert.AttnProjIdeal.nD Cert.AttnProjIdeal.τ).loc Cert.AttnProjIdeal.main_v55_3)) (v4 : (c : Dev Cert.AttnProjIdeal.nD) → Buf (Elt Ideal) ((c.tc : Thread Cert.AttnProjIdeal.nD Cert.AttnProjIdeal.τ).loc Cert.AttnProjIdeal.main_v55_4)) (v5 : (c : Dev Cert.AttnProjIdeal.nD) → Buf (Elt Ideal) ((c.tc : Thread Cert.AttnProjIdeal.nD Cert.AttnProjIdeal.τ).loc Cert.AttnProjIdeal.main_v55_5)),
      θ_run (Cert.AttnProjIdeal.defs (F := Ideal)) (onTc (τ := Cert.AttnProjIdeal.τ) (Cert.AttnProjIdeal.main (F := Ideal))) ⟨m, fun _ => 0, g⟩ (fun r => ∀ c : Dev Cert.AttnProjIdeal.nD,
          r.2.mem ((c.tc : Thread Cert.AttnProjIdeal.nD Cert.AttnProjIdeal.τ).loc Cert.AttnProjIdeal.main_v55_0) = v0 c
          ∧ r.2.mem ((c.tc : Thread Cert.AttnProjIdeal.nD Cert.AttnProjIdeal.τ).loc Cert.AttnProjIdeal.main_v55_1) = v1 c
          ∧ r.2.mem ((c.tc : Thread Cert.AttnProjIdeal.nD Cert.AttnProjIdeal.τ).loc Cert.AttnProjIdeal.main_v55_2) = v2 c
          ∧ r.2.mem ((c.tc : Thread Cert.AttnProjIdeal.nD Cert.AttnProjIdeal.τ).loc Cert.AttnProjIdeal.main_v55_3) = v3 c
          ∧ r.2.mem ((c.tc : Thread Cert.AttnProjIdeal.nD Cert.AttnProjIdeal.τ).loc Cert.AttnProjIdeal.main_v55_4) = v4 c
          ∧ r.2.mem ((c.tc : Thread Cert.AttnProjIdeal.nD Cert.AttnProjIdeal.τ).loc Cert.AttnProjIdeal.main_v55_5) = v5 c
          ∧ r.2.mem ((c.tc : Thread Cert.AttnProjIdeal.nD Cert.AttnProjIdeal.τ).loc Cert.AttnProjIdeal.main_arg0) = m ((c.tc : Thread Cert.AttnProjIdeal.nD Cert.AttnProjIdeal.τ).loc Cert.AttnProjIdeal.main_arg0)
          ∧ r.2.mem ((c.tc : Thread Cert.AttnProjIdeal.nD Cert.AttnProjIdeal.τ).loc Cert.AttnProjIdeal.main_arg1) = m ((c.tc : Thread Cert.AttnProjIdeal.nD Cert.AttnProjIdeal.τ).loc Cert.AttnProjIdeal.main_arg1)
          ∧ r.2.mem ((c.tc : Thread Cert.AttnProjIdeal.nD Cert.AttnProjIdeal.τ).loc Cert.AttnProjIdeal.main_arg2) = m ((c.tc : Thread Cert.AttnProjIdeal.nD Cert.AttnProjIdeal.τ).loc Cert.AttnProjIdeal.main_arg2)
          ∧ r.2.mem ((c.tc : Thread Cert.AttnProjIdeal.nD Cert.AttnProjIdeal.τ).loc Cert.AttnProjIdeal.main_arg3) = m ((c.tc : Thread Cert.AttnProjIdeal.nD Cert.AttnProjIdeal.τ).loc Cert.AttnProjIdeal.main_arg3)
          ∧ r.2.mem ((c.tc : Thread Cert.AttnProjIdeal.nD Cert.AttnProjIdeal.τ).loc Cert.AttnProjIdeal.main_arg4) = m ((c.tc : Thread Cert.AttnProjIdeal.nD Cert.AttnProjIdeal.τ).loc Cert.AttnProjIdeal.main_arg4))
      ∧ θ_run (Cert.AttnProjReferenceIdeal.defs (F := Ideal)) (onTc (τ := Cert.AttnProjReferenceIdeal.τ) (Cert.AttnProjReferenceIdeal.main (F := Ideal))) ⟨m', fun _ => 0, g'⟩ (fun r => ∀ c : Dev Cert.AttnProjReferenceIdeal.nD,
          r.2.mem ((c.tc : Thread Cert.AttnProjReferenceIdeal.nD Cert.AttnProjReferenceIdeal.τ).loc Cert.AttnProjReferenceIdeal.main_v192) = v0 c
          ∧ r.2.mem ((c.tc : Thread Cert.AttnProjReferenceIdeal.nD Cert.AttnProjReferenceIdeal.τ).loc Cert.AttnProjReferenceIdeal.main_v181) = v1 c
          ∧ r.2.mem ((c.tc : Thread Cert.AttnProjReferenceIdeal.nD Cert.AttnProjReferenceIdeal.τ).loc Cert.AttnProjReferenceIdeal.main_v193) = v2 c
          ∧ r.2.mem ((c.tc : Thread Cert.AttnProjReferenceIdeal.nD Cert.AttnProjReferenceIdeal.τ).loc Cert.AttnProjReferenceIdeal.main_v184) = v3 c
          ∧ r.2.mem ((c.tc : Thread Cert.AttnProjReferenceIdeal.nD Cert.AttnProjReferenceIdeal.τ).loc Cert.AttnProjReferenceIdeal.main_v194) = v4 c
          ∧ r.2.mem ((c.tc : Thread Cert.AttnProjReferenceIdeal.nD Cert.AttnProjReferenceIdeal.τ).loc Cert.AttnProjReferenceIdeal.main_v189) = v5 c
          ∧ r.2.mem ((c.tc : Thread Cert.AttnProjReferenceIdeal.nD Cert.AttnProjReferenceIdeal.τ).loc Cert.AttnProjReferenceIdeal.main_arg0) = m' ((c.tc : Thread Cert.AttnProjReferenceIdeal.nD Cert.AttnProjReferenceIdeal.τ).loc Cert.AttnProjReferenceIdeal.main_arg0)
          ∧ r.2.mem ((c.tc : Thread Cert.AttnProjReferenceIdeal.nD Cert.AttnProjReferenceIdeal.τ).loc Cert.AttnProjReferenceIdeal.main_arg1) = m' ((c.tc : Thread Cert.AttnProjReferenceIdeal.nD Cert.AttnProjReferenceIdeal.τ).loc Cert.AttnProjReferenceIdeal.main_arg1)
          ∧ r.2.mem ((c.tc : Thread Cert.AttnProjReferenceIdeal.nD Cert.AttnProjReferenceIdeal.τ).loc Cert.AttnProjReferenceIdeal.main_arg2) = m' ((c.tc : Thread Cert.AttnProjReferenceIdeal.nD Cert.AttnProjReferenceIdeal.τ).loc Cert.AttnProjReferenceIdeal.main_arg2)
          ∧ r.2.mem ((c.tc : Thread Cert.AttnProjReferenceIdeal.nD Cert.AttnProjReferenceIdeal.τ).loc Cert.AttnProjReferenceIdeal.main_arg3) = m' ((c.tc : Thread Cert.AttnProjReferenceIdeal.nD Cert.AttnProjReferenceIdeal.τ).loc Cert.AttnProjReferenceIdeal.main_arg3)
          ∧ r.2.mem ((c.tc : Thread Cert.AttnProjReferenceIdeal.nD Cert.AttnProjReferenceIdeal.τ).loc Cert.AttnProjReferenceIdeal.main_arg4) = m' ((c.tc : Thread Cert.AttnProjReferenceIdeal.nD Cert.AttnProjReferenceIdeal.τ).loc Cert.AttnProjReferenceIdeal.main_arg4))

def preserves_RetSample_RetSampleIdeal : Prop :=
  True

def algebraic_RetSampleIdeal_RetSampleReferenceIdeal [hRetSampleIdeal : Cert.RetSampleIdeal.Facts] [hRetSampleReferenceIdeal : Cert.RetSampleReferenceIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleReferenceIdeal.nD Cert.RetSampleReferenceIdeal.τ Cert.RetSampleReferenceIdeal.sig) → Buf (Elt Ideal) ℓ) (g' : Dev Cert.RetSampleReferenceIdeal.nD → PrngReg), Pre_RetSampleIdeal m →
    (∀ c : Dev Cert.RetSampleIdeal.nD,
      m' ((c.tc : Thread Cert.RetSampleReferenceIdeal.nD Cert.RetSampleReferenceIdeal.τ).loc Cert.RetSampleReferenceIdeal.main_arg0) = m ((c.tc : Thread Cert.RetSampleIdeal.nD Cert.RetSampleIdeal.τ).loc Cert.RetSampleIdeal.main_arg0)
      ∧ m' ((c.tc : Thread Cert.RetSampleReferenceIdeal.nD Cert.RetSampleReferenceIdeal.τ).loc Cert.RetSampleReferenceIdeal.main_arg1) = m ((c.tc : Thread Cert.RetSampleIdeal.nD Cert.RetSampleIdeal.τ).loc Cert.RetSampleIdeal.main_arg1)
      ∧ m' ((c.tc : Thread Cert.RetSampleReferenceIdeal.nD Cert.RetSampleReferenceIdeal.τ).loc Cert.RetSampleReferenceIdeal.main_arg2) = m ((c.tc : Thread Cert.RetSampleIdeal.nD Cert.RetSampleIdeal.τ).loc Cert.RetSampleIdeal.main_arg2)
      ∧ m' ((c.tc : Thread Cert.RetSampleReferenceIdeal.nD Cert.RetSampleReferenceIdeal.τ).loc Cert.RetSampleReferenceIdeal.main_arg3) = m ((c.tc : Thread Cert.RetSampleIdeal.nD Cert.RetSampleIdeal.τ).loc Cert.RetSampleIdeal.main_arg3)
      ∧ m' ((c.tc : Thread Cert.RetSampleReferenceIdeal.nD Cert.RetSampleReferenceIdeal.τ).loc Cert.RetSampleReferenceIdeal.main_arg4) = m ((c.tc : Thread Cert.RetSampleIdeal.nD Cert.RetSampleIdeal.τ).loc Cert.RetSampleIdeal.main_arg4)
      ∧ m' ((c.tc : Thread Cert.RetSampleReferenceIdeal.nD Cert.RetSampleReferenceIdeal.τ).loc Cert.RetSampleReferenceIdeal.main_arg5) = m ((c.tc : Thread Cert.RetSampleIdeal.nD Cert.RetSampleIdeal.τ).loc Cert.RetSampleIdeal.main_arg5)) →
    ∃ (v0 : (c : Dev Cert.RetSampleIdeal.nD) → Buf (Elt Ideal) ((c.tc : Thread Cert.RetSampleIdeal.nD Cert.RetSampleIdeal.τ).loc Cert.RetSampleIdeal.main_v58_0)) (v1 : (c : Dev Cert.RetSampleIdeal.nD) → Buf (Elt Ideal) ((c.tc : Thread Cert.RetSampleIdeal.nD Cert.RetSampleIdeal.τ).loc Cert.RetSampleIdeal.main_v58_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v58_0) = v0 c
          ∧ r.2.mem ((c.tc : Thread Cert.RetSampleIdeal.nD Cert.RetSampleIdeal.τ).loc Cert.RetSampleIdeal.main_v58_1) = v1 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1)
          ∧ r.2.mem ((c.tc : Thread Cert.RetSampleIdeal.nD Cert.RetSampleIdeal.τ).loc Cert.RetSampleIdeal.main_arg2) = m ((c.tc : Thread Cert.RetSampleIdeal.nD Cert.RetSampleIdeal.τ).loc Cert.RetSampleIdeal.main_arg2)
          ∧ r.2.mem ((c.tc : Thread Cert.RetSampleIdeal.nD Cert.RetSampleIdeal.τ).loc Cert.RetSampleIdeal.main_arg3) = m ((c.tc : Thread Cert.RetSampleIdeal.nD Cert.RetSampleIdeal.τ).loc Cert.RetSampleIdeal.main_arg3)
          ∧ r.2.mem ((c.tc : Thread Cert.RetSampleIdeal.nD Cert.RetSampleIdeal.τ).loc Cert.RetSampleIdeal.main_arg4) = m ((c.tc : Thread Cert.RetSampleIdeal.nD Cert.RetSampleIdeal.τ).loc Cert.RetSampleIdeal.main_arg4)
          ∧ r.2.mem ((c.tc : Thread Cert.RetSampleIdeal.nD Cert.RetSampleIdeal.τ).loc Cert.RetSampleIdeal.main_arg5) = m ((c.tc : Thread Cert.RetSampleIdeal.nD Cert.RetSampleIdeal.τ).loc Cert.RetSampleIdeal.main_arg5))
      ∧ θ_run (Cert.RetSampleReferenceIdeal.defs (F := Ideal)) (onTc (τ := Cert.RetSampleReferenceIdeal.τ) (Cert.RetSampleReferenceIdeal.main (F := Ideal))) ⟨m', fun _ => 0, g'⟩ (fun r => ∀ c : Dev Cert.RetSampleReferenceIdeal.nD,
          r.2.mem ((c.tc : Thread Cert.RetSampleReferenceIdeal.nD Cert.RetSampleReferenceIdeal.τ).loc Cert.RetSampleReferenceIdeal.main_v93) = v0 c
          ∧ r.2.mem ((c.tc : Thread Cert.RetSampleReferenceIdeal.nD Cert.RetSampleReferenceIdeal.τ).loc Cert.RetSampleReferenceIdeal.main_v65) = v1 c
          ∧ r.2.mem ((c.tc : Thread Cert.RetSampleReferenceIdeal.nD Cert.RetSampleReferenceIdeal.τ).loc Cert.RetSampleReferenceIdeal.main_arg0) = m' ((c.tc : Thread Cert.RetSampleReferenceIdeal.nD Cert.RetSampleReferenceIdeal.τ).loc Cert.RetSampleReferenceIdeal.main_arg0)
          ∧ r.2.mem ((c.tc : Thread Cert.RetSampleReferenceIdeal.nD Cert.RetSampleReferenceIdeal.τ).loc Cert.RetSampleReferenceIdeal.main_arg1) = m' ((c.tc : Thread Cert.RetSampleReferenceIdeal.nD Cert.RetSampleReferenceIdeal.τ).loc Cert.RetSampleReferenceIdeal.main_arg1)
          ∧ r.2.mem ((c.tc : Thread Cert.RetSampleReferenceIdeal.nD Cert.RetSampleReferenceIdeal.τ).loc Cert.RetSampleReferenceIdeal.main_arg2) = m' ((c.tc : Thread Cert.RetSampleReferenceIdeal.nD Cert.RetSampleReferenceIdeal.τ).loc Cert.RetSampleReferenceIdeal.main_arg2)
          ∧ r.2.mem ((c.tc : Thread Cert.RetSampleReferenceIdeal.nD Cert.RetSampleReferenceIdeal.τ).loc Cert.RetSampleReferenceIdeal.main_arg3) = m' ((c.tc : Thread Cert.RetSampleReferenceIdeal.nD Cert.RetSampleReferenceIdeal.τ).loc Cert.RetSampleReferenceIdeal.main_arg3)
          ∧ r.2.mem ((c.tc : Thread Cert.RetSampleReferenceIdeal.nD Cert.RetSampleReferenceIdeal.τ).loc Cert.RetSampleReferenceIdeal.main_arg4) = m' ((c.tc : Thread Cert.RetSampleReferenceIdeal.nD Cert.RetSampleReferenceIdeal.τ).loc Cert.RetSampleReferenceIdeal.main_arg4)
          ∧ r.2.mem ((c.tc : Thread Cert.RetSampleReferenceIdeal.nD Cert.RetSampleReferenceIdeal.τ).loc Cert.RetSampleReferenceIdeal.main_arg5) = m' ((c.tc : Thread Cert.RetSampleReferenceIdeal.nD Cert.RetSampleReferenceIdeal.τ).loc Cert.RetSampleReferenceIdeal.main_arg5))

def preserves_RetOut_RetOutIdeal : Prop :=
  True

def algebraic_RetOutIdeal_RetOutReferenceIdeal [hRetOutIdeal : Cert.RetOutIdeal.Facts] [hRetOutReferenceIdeal : Cert.RetOutReferenceIdeal.Facts] : Prop :=
  ∀ (m : (ℓ : Loc Cert.RetOutIdeal.nD Cert.RetOutIdeal.τ Cert.RetOutIdeal.sig) → Buf (Elt Ideal) ℓ) (g : Dev Cert.RetOutIdeal.nD → PrngReg)
    (m' : (ℓ : Loc Cert.RetOutReferenceIdeal.nD Cert.RetOutReferenceIdeal.τ Cert.RetOutReferenceIdeal.sig) → Buf (Elt Ideal) ℓ) (g' : Dev Cert.RetOutReferenceIdeal.nD → PrngReg), Pre_RetOutIdeal m →
    (∀ c : Dev Cert.RetOutIdeal.nD,
      m' ((c.tc : Thread Cert.RetOutReferenceIdeal.nD Cert.RetOutReferenceIdeal.τ).loc Cert.RetOutReferenceIdeal.main_arg0) = m ((c.tc : Thread Cert.RetOutIdeal.nD Cert.RetOutIdeal.τ).loc Cert.RetOutIdeal.main_arg0)
      ∧ m' ((c.tc : Thread Cert.RetOutReferenceIdeal.nD Cert.RetOutReferenceIdeal.τ).loc Cert.RetOutReferenceIdeal.main_arg1) = m ((c.tc : Thread Cert.RetOutIdeal.nD Cert.RetOutIdeal.τ).loc Cert.RetOutIdeal.main_arg1)
      ∧ m' ((c.tc : Thread Cert.RetOutReferenceIdeal.nD Cert.RetOutReferenceIdeal.τ).loc Cert.RetOutReferenceIdeal.main_arg2) = m ((c.tc : Thread Cert.RetOutIdeal.nD Cert.RetOutIdeal.τ).loc Cert.RetOutIdeal.main_arg2)
      ∧ m' ((c.tc : Thread Cert.RetOutReferenceIdeal.nD Cert.RetOutReferenceIdeal.τ).loc Cert.RetOutReferenceIdeal.main_arg3) = m ((c.tc : Thread Cert.RetOutIdeal.nD Cert.RetOutIdeal.τ).loc Cert.RetOutIdeal.main_arg3)
      ∧ m' ((c.tc : Thread Cert.RetOutReferenceIdeal.nD Cert.RetOutReferenceIdeal.τ).loc Cert.RetOutReferenceIdeal.main_arg4) = m ((c.tc : Thread Cert.RetOutIdeal.nD Cert.RetOutIdeal.τ).loc Cert.RetOutIdeal.main_arg4)
      ∧ m' ((c.tc : Thread Cert.RetOutReferenceIdeal.nD Cert.RetOutReferenceIdeal.τ).loc Cert.RetOutReferenceIdeal.main_arg5) = m ((c.tc : Thread Cert.RetOutIdeal.nD Cert.RetOutIdeal.τ).loc Cert.RetOutIdeal.main_arg5)
      ∧ m' ((c.tc : Thread Cert.RetOutReferenceIdeal.nD Cert.RetOutReferenceIdeal.τ).loc Cert.RetOutReferenceIdeal.main_arg6) = m ((c.tc : Thread Cert.RetOutIdeal.nD Cert.RetOutIdeal.τ).loc Cert.RetOutIdeal.main_arg6)
      ∧ m' ((c.tc : Thread Cert.RetOutReferenceIdeal.nD Cert.RetOutReferenceIdeal.τ).loc Cert.RetOutReferenceIdeal.main_arg7) = m ((c.tc : Thread Cert.RetOutIdeal.nD Cert.RetOutIdeal.τ).loc Cert.RetOutIdeal.main_arg7)
      ∧ m' ((c.tc : Thread Cert.RetOutReferenceIdeal.nD Cert.RetOutReferenceIdeal.τ).loc Cert.RetOutReferenceIdeal.main_arg8) = m ((c.tc : Thread Cert.RetOutIdeal.nD Cert.RetOutIdeal.τ).loc Cert.RetOutIdeal.main_arg8)
      ∧ m' ((c.tc : Thread Cert.RetOutReferenceIdeal.nD Cert.RetOutReferenceIdeal.τ).loc Cert.RetOutReferenceIdeal.main_arg9) = m ((c.tc : Thread Cert.RetOutIdeal.nD Cert.RetOutIdeal.τ).loc Cert.RetOutIdeal.main_arg9)
      ∧ m' ((c.tc : Thread Cert.RetOutReferenceIdeal.nD Cert.RetOutReferenceIdeal.τ).loc Cert.RetOutReferenceIdeal.main_arg10) = m ((c.tc : Thread Cert.RetOutIdeal.nD Cert.RetOutIdeal.τ).loc Cert.RetOutIdeal.main_arg10)
      ∧ m' ((c.tc : Thread Cert.RetOutReferenceIdeal.nD Cert.RetOutReferenceIdeal.τ).loc Cert.RetOutReferenceIdeal.main_arg11) = m ((c.tc : Thread Cert.RetOutIdeal.nD Cert.RetOutIdeal.τ).loc Cert.RetOutIdeal.main_arg11)) →
    ∃ (v0 : (c : Dev Cert.RetOutIdeal.nD) → Buf (Elt Ideal) ((c.tc : Thread Cert.RetOutIdeal.nD Cert.RetOutIdeal.τ).loc Cert.RetOutIdeal.main_v38_0)) (v1 : (c : Dev Cert.RetOutIdeal.nD) → Buf (Elt Ideal) ((c.tc : Thread Cert.RetOutIdeal.nD Cert.RetOutIdeal.τ).loc Cert.RetOutIdeal.main_v38_1)),
      θ_run (Cert.RetOutIdeal.defs (F := Ideal)) (onTc (τ := Cert.RetOutIdeal.τ) (Cert.RetOutIdeal.main (F := Ideal))) ⟨m, fun _ => 0, g⟩ (fun r => ∀ c : Dev Cert.RetOutIdeal.nD,
          r.2.mem ((c.tc : Thread Cert.RetOutIdeal.nD Cert.RetOutIdeal.τ).loc Cert.RetOutIdeal.main_v38_0) = v0 c
          ∧ r.2.mem ((c.tc : Thread Cert.RetOutIdeal.nD Cert.RetOutIdeal.τ).loc Cert.RetOutIdeal.main_v38_1) = v1 c
          ∧ r.2.mem ((c.tc : Thread Cert.RetOutIdeal.nD Cert.RetOutIdeal.τ).loc Cert.RetOutIdeal.main_arg0) = m ((c.tc : Thread Cert.RetOutIdeal.nD Cert.RetOutIdeal.τ).loc Cert.RetOutIdeal.main_arg0)
          ∧ r.2.mem ((c.tc : Thread Cert.RetOutIdeal.nD Cert.RetOutIdeal.τ).loc Cert.RetOutIdeal.main_arg1) = m ((c.tc : Thread Cert.RetOutIdeal.nD Cert.RetOutIdeal.τ).loc Cert.RetOutIdeal.main_arg1)
          ∧ r.2.mem ((c.tc : Thread Cert.RetOutIdeal.nD Cert.RetOutIdeal.τ).loc Cert.RetOutIdeal.main_arg2) = m ((c.tc : Thread Cert.RetOutIdeal.nD Cert.RetOutIdeal.τ).loc Cert.RetOutIdeal.main_arg2)
          ∧ r.2.mem ((c.tc : Thread Cert.RetOutIdeal.nD Cert.RetOutIdeal.τ).loc Cert.RetOutIdeal.main_arg3) = m ((c.tc : Thread Cert.RetOutIdeal.nD Cert.RetOutIdeal.τ).loc Cert.RetOutIdeal.main_arg3)
          ∧ r.2.mem ((c.tc : Thread Cert.RetOutIdeal.nD Cert.RetOutIdeal.τ).loc Cert.RetOutIdeal.main_arg4) = m ((c.tc : Thread Cert.RetOutIdeal.nD Cert.RetOutIdeal.τ).loc Cert.RetOutIdeal.main_arg4)
          ∧ r.2.mem ((c.tc : Thread Cert.RetOutIdeal.nD Cert.RetOutIdeal.τ).loc Cert.RetOutIdeal.main_arg5) = m ((c.tc : Thread Cert.RetOutIdeal.nD Cert.RetOutIdeal.τ).loc Cert.RetOutIdeal.main_arg5)
          ∧ r.2.mem ((c.tc : Thread Cert.RetOutIdeal.nD Cert.RetOutIdeal.τ).loc Cert.RetOutIdeal.main_arg6) = m ((c.tc : Thread Cert.RetOutIdeal.nD Cert.RetOutIdeal.τ).loc Cert.RetOutIdeal.main_arg6)
          ∧ r.2.mem ((c.tc : Thread Cert.RetOutIdeal.nD Cert.RetOutIdeal.τ).loc Cert.RetOutIdeal.main_arg7) = m ((c.tc : Thread Cert.RetOutIdeal.nD Cert.RetOutIdeal.τ).loc Cert.RetOutIdeal.main_arg7)
          ∧ r.2.mem ((c.tc : Thread Cert.RetOutIdeal.nD Cert.RetOutIdeal.τ).loc Cert.RetOutIdeal.main_arg8) = m ((c.tc : Thread Cert.RetOutIdeal.nD Cert.RetOutIdeal.τ).loc Cert.RetOutIdeal.main_arg8)
          ∧ r.2.mem ((c.tc : Thread Cert.RetOutIdeal.nD Cert.RetOutIdeal.τ).loc Cert.RetOutIdeal.main_arg9) = m ((c.tc : Thread Cert.RetOutIdeal.nD Cert.RetOutIdeal.τ).loc Cert.RetOutIdeal.main_arg9)
          ∧ r.2.mem ((c.tc : Thread Cert.RetOutIdeal.nD Cert.RetOutIdeal.τ).loc Cert.RetOutIdeal.main_arg10) = m ((c.tc : Thread Cert.RetOutIdeal.nD Cert.RetOutIdeal.τ).loc Cert.RetOutIdeal.main_arg10)
          ∧ r.2.mem ((c.tc : Thread Cert.RetOutIdeal.nD Cert.RetOutIdeal.τ).loc Cert.RetOutIdeal.main_arg11) = m ((c.tc : Thread Cert.RetOutIdeal.nD Cert.RetOutIdeal.τ).loc Cert.RetOutIdeal.main_arg11))
      ∧ θ_run (Cert.RetOutReferenceIdeal.defs (F := Ideal)) (onTc (τ := Cert.RetOutReferenceIdeal.τ) (Cert.RetOutReferenceIdeal.main (F := Ideal))) ⟨m', fun _ => 0, g'⟩ (fun r => ∀ c : Dev Cert.RetOutReferenceIdeal.nD,
          r.2.mem ((c.tc : Thread Cert.RetOutReferenceIdeal.nD Cert.RetOutReferenceIdeal.τ).loc Cert.RetOutReferenceIdeal.main_v91) = v0 c
          ∧ r.2.mem ((c.tc : Thread Cert.RetOutReferenceIdeal.nD Cert.RetOutReferenceIdeal.τ).loc Cert.RetOutReferenceIdeal.main_v94) = v1 c
          ∧ r.2.mem ((c.tc : Thread Cert.RetOutReferenceIdeal.nD Cert.RetOutReferenceIdeal.τ).loc Cert.RetOutReferenceIdeal.main_arg0) = m' ((c.tc : Thread Cert.RetOutReferenceIdeal.nD Cert.RetOutReferenceIdeal.τ).loc Cert.RetOutReferenceIdeal.main_arg0)
          ∧ r.2.mem ((c.tc : Thread Cert.RetOutReferenceIdeal.nD Cert.RetOutReferenceIdeal.τ).loc Cert.RetOutReferenceIdeal.main_arg1) = m' ((c.tc : Thread Cert.RetOutReferenceIdeal.nD Cert.RetOutReferenceIdeal.τ).loc Cert.RetOutReferenceIdeal.main_arg1)
          ∧ r.2.mem ((c.tc : Thread Cert.RetOutReferenceIdeal.nD Cert.RetOutReferenceIdeal.τ).loc Cert.RetOutReferenceIdeal.main_arg2) = m' ((c.tc : Thread Cert.RetOutReferenceIdeal.nD Cert.RetOutReferenceIdeal.τ).loc Cert.RetOutReferenceIdeal.main_arg2)
          ∧ r.2.mem ((c.tc : Thread Cert.RetOutReferenceIdeal.nD Cert.RetOutReferenceIdeal.τ).loc Cert.RetOutReferenceIdeal.main_arg3) = m' ((c.tc : Thread Cert.RetOutReferenceIdeal.nD Cert.RetOutReferenceIdeal.τ).loc Cert.RetOutReferenceIdeal.main_arg3)
          ∧ r.2.mem ((c.tc : Thread Cert.RetOutReferenceIdeal.nD Cert.RetOutReferenceIdeal.τ).loc Cert.RetOutReferenceIdeal.main_arg4) = m' ((c.tc : Thread Cert.RetOutReferenceIdeal.nD Cert.RetOutReferenceIdeal.τ).loc Cert.RetOutReferenceIdeal.main_arg4)
          ∧ r.2.mem ((c.tc : Thread Cert.RetOutReferenceIdeal.nD Cert.RetOutReferenceIdeal.τ).loc Cert.RetOutReferenceIdeal.main_arg5) = m' ((c.tc : Thread Cert.RetOutReferenceIdeal.nD Cert.RetOutReferenceIdeal.τ).loc Cert.RetOutReferenceIdeal.main_arg5)
          ∧ r.2.mem ((c.tc : Thread Cert.RetOutReferenceIdeal.nD Cert.RetOutReferenceIdeal.τ).loc Cert.RetOutReferenceIdeal.main_arg6) = m' ((c.tc : Thread Cert.RetOutReferenceIdeal.nD Cert.RetOutReferenceIdeal.τ).loc Cert.RetOutReferenceIdeal.main_arg6)
          ∧ r.2.mem ((c.tc : Thread Cert.RetOutReferenceIdeal.nD Cert.RetOutReferenceIdeal.τ).loc Cert.RetOutReferenceIdeal.main_arg7) = m' ((c.tc : Thread Cert.RetOutReferenceIdeal.nD Cert.RetOutReferenceIdeal.τ).loc Cert.RetOutReferenceIdeal.main_arg7)
          ∧ r.2.mem ((c.tc : Thread Cert.RetOutReferenceIdeal.nD Cert.RetOutReferenceIdeal.τ).loc Cert.RetOutReferenceIdeal.main_arg8) = m' ((c.tc : Thread Cert.RetOutReferenceIdeal.nD Cert.RetOutReferenceIdeal.τ).loc Cert.RetOutReferenceIdeal.main_arg8)
          ∧ r.2.mem ((c.tc : Thread Cert.RetOutReferenceIdeal.nD Cert.RetOutReferenceIdeal.τ).loc Cert.RetOutReferenceIdeal.main_arg9) = m' ((c.tc : Thread Cert.RetOutReferenceIdeal.nD Cert.RetOutReferenceIdeal.τ).loc Cert.RetOutReferenceIdeal.main_arg9)
          ∧ r.2.mem ((c.tc : Thread Cert.RetOutReferenceIdeal.nD Cert.RetOutReferenceIdeal.τ).loc Cert.RetOutReferenceIdeal.main_arg10) = m' ((c.tc : Thread Cert.RetOutReferenceIdeal.nD Cert.RetOutReferenceIdeal.τ).loc Cert.RetOutReferenceIdeal.main_arg10)
          ∧ r.2.mem ((c.tc : Thread Cert.RetOutReferenceIdeal.nD Cert.RetOutReferenceIdeal.τ).loc Cert.RetOutReferenceIdeal.main_arg11) = m' ((c.tc : Thread Cert.RetOutReferenceIdeal.nD Cert.RetOutReferenceIdeal.τ).loc Cert.RetOutReferenceIdeal.main_arg11))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)
      ∧ m' ((c.tc : Thread Cert.AttnOutReferenceIdeal.nD Cert.AttnOutReferenceIdeal.τ).loc Cert.AttnOutReferenceIdeal.main_arg4) = m ((c.tc : Thread Cert.AttnOutIdeal.nD Cert.AttnOutIdeal.τ).loc Cert.AttnOutIdeal.main_arg4)
      ∧ m' ((c.tc : Thread Cert.AttnOutReferenceIdeal.nD Cert.AttnOutReferenceIdeal.τ).loc Cert.AttnOutReferenceIdeal.main_arg5) = m ((c.tc : Thread Cert.AttnOutIdeal.nD Cert.AttnOutIdeal.τ).loc Cert.AttnOutIdeal.main_arg5)
      ∧ m' ((c.tc : Thread Cert.AttnOutReferenceIdeal.nD Cert.AttnOutReferenceIdeal.τ).loc Cert.AttnOutReferenceIdeal.main_arg6) = m ((c.tc : Thread Cert.AttnOutIdeal.nD Cert.AttnOutIdeal.τ).loc Cert.AttnOutIdeal.main_arg6)
      ∧ m' ((c.tc : Thread Cert.AttnOutReferenceIdeal.nD Cert.AttnOutReferenceIdeal.τ).loc Cert.AttnOutReferenceIdeal.main_arg7) = m ((c.tc : Thread Cert.AttnOutIdeal.nD Cert.AttnOutIdeal.τ).loc Cert.AttnOutIdeal.main_arg7)
      ∧ m' ((c.tc : Thread Cert.AttnOutReferenceIdeal.nD Cert.AttnOutReferenceIdeal.τ).loc Cert.AttnOutReferenceIdeal.main_arg8) = m ((c.tc : Thread Cert.AttnOutIdeal.nD Cert.AttnOutIdeal.τ).loc Cert.AttnOutIdeal.main_arg8)
      ∧ m' ((c.tc : Thread Cert.AttnOutReferenceIdeal.nD Cert.AttnOutReferenceIdeal.τ).loc Cert.AttnOutReferenceIdeal.main_arg9) = m ((c.tc : Thread Cert.AttnOutIdeal.nD Cert.AttnOutIdeal.τ).loc Cert.AttnOutIdeal.main_arg9)
      ∧ m' ((c.tc : Thread Cert.AttnOutReferenceIdeal.nD Cert.AttnOutReferenceIdeal.τ).loc Cert.AttnOutReferenceIdeal.main_arg10) = m ((c.tc : Thread Cert.AttnOutIdeal.nD Cert.AttnOutIdeal.τ).loc Cert.AttnOutIdeal.main_arg10)
      ∧ m' ((c.tc : Thread Cert.AttnOutReferenceIdeal.nD Cert.AttnOutReferenceIdeal.τ).loc Cert.AttnOutReferenceIdeal.main_arg11) = m ((c.tc : Thread Cert.AttnOutIdeal.nD Cert.AttnOutIdeal.τ).loc Cert.AttnOutIdeal.main_arg11)) →
    ∃ (v0 : (c : Dev Cert.AttnOutIdeal.nD) → Buf (Elt Ideal) ((c.tc : Thread Cert.AttnOutIdeal.nD Cert.AttnOutIdeal.τ).loc Cert.AttnOutIdeal.main_v38_0)) (v1 : (c : Dev Cert.AttnOutIdeal.nD) → Buf (Elt Ideal) ((c.tc : Thread Cert.AttnOutIdeal.nD Cert.AttnOutIdeal.τ).loc Cert.AttnOutIdeal.main_v38_1)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v38_0) = v0 c
          ∧ r.2.mem ((c.tc : Thread Cert.AttnOutIdeal.nD Cert.AttnOutIdeal.τ).loc Cert.AttnOutIdeal.main_v38_1) = v1 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4)
          ∧ r.2.mem ((c.tc : Thread Cert.AttnOutIdeal.nD Cert.AttnOutIdeal.τ).loc Cert.AttnOutIdeal.main_arg5) = m ((c.tc : Thread Cert.AttnOutIdeal.nD Cert.AttnOutIdeal.τ).loc Cert.AttnOutIdeal.main_arg5)
          ∧ r.2.mem ((c.tc : Thread Cert.AttnOutIdeal.nD Cert.AttnOutIdeal.τ).loc Cert.AttnOutIdeal.main_arg6) = m ((c.tc : Thread Cert.AttnOutIdeal.nD Cert.AttnOutIdeal.τ).loc Cert.AttnOutIdeal.main_arg6)
          ∧ r.2.mem ((c.tc : Thread Cert.AttnOutIdeal.nD Cert.AttnOutIdeal.τ).loc Cert.AttnOutIdeal.main_arg7) = m ((c.tc : Thread Cert.AttnOutIdeal.nD Cert.AttnOutIdeal.τ).loc Cert.AttnOutIdeal.main_arg7)
          ∧ r.2.mem ((c.tc : Thread Cert.AttnOutIdeal.nD Cert.AttnOutIdeal.τ).loc Cert.AttnOutIdeal.main_arg8) = m ((c.tc : Thread Cert.AttnOutIdeal.nD Cert.AttnOutIdeal.τ).loc Cert.AttnOutIdeal.main_arg8)
          ∧ r.2.mem ((c.tc : Thread Cert.AttnOutIdeal.nD Cert.AttnOutIdeal.τ).loc Cert.AttnOutIdeal.main_arg9) = m ((c.tc : Thread Cert.AttnOutIdeal.nD Cert.AttnOutIdeal.τ).loc Cert.AttnOutIdeal.main_arg9)
          ∧ r.2.mem ((c.tc : Thread Cert.AttnOutIdeal.nD Cert.AttnOutIdeal.τ).loc Cert.AttnOutIdeal.main_arg10) = m ((c.tc : Thread Cert.AttnOutIdeal.nD Cert.AttnOutIdeal.τ).loc Cert.AttnOutIdeal.main_arg10)
          ∧ r.2.mem ((c.tc : Thread Cert.AttnOutIdeal.nD Cert.AttnOutIdeal.τ).loc Cert.AttnOutIdeal.main_arg11) = m ((c.tc : Thread Cert.AttnOutIdeal.nD Cert.AttnOutIdeal.τ).loc Cert.AttnOutIdeal.main_arg11))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v91) = v0 c
          ∧ r.2.mem ((c.tc : Thread Cert.AttnOutReferenceIdeal.nD Cert.AttnOutReferenceIdeal.τ).loc Cert.AttnOutReferenceIdeal.main_v94) = v1 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3)
          ∧ r.2.mem ((c.tc : Thread Cert.AttnOutReferenceIdeal.nD Cert.AttnOutReferenceIdeal.τ).loc Cert.AttnOutReferenceIdeal.main_arg4) = m' ((c.tc : Thread Cert.AttnOutReferenceIdeal.nD Cert.AttnOutReferenceIdeal.τ).loc Cert.AttnOutReferenceIdeal.main_arg4)
          ∧ r.2.mem ((c.tc : Thread Cert.AttnOutReferenceIdeal.nD Cert.AttnOutReferenceIdeal.τ).loc Cert.AttnOutReferenceIdeal.main_arg5) = m' ((c.tc : Thread Cert.AttnOutReferenceIdeal.nD Cert.AttnOutReferenceIdeal.τ).loc Cert.AttnOutReferenceIdeal.main_arg5)
          ∧ r.2.mem ((c.tc : Thread Cert.AttnOutReferenceIdeal.nD Cert.AttnOutReferenceIdeal.τ).loc Cert.AttnOutReferenceIdeal.main_arg6) = m' ((c.tc : Thread Cert.AttnOutReferenceIdeal.nD Cert.AttnOutReferenceIdeal.τ).loc Cert.AttnOutReferenceIdeal.main_arg6)
          ∧ r.2.mem ((c.tc : Thread Cert.AttnOutReferenceIdeal.nD Cert.AttnOutReferenceIdeal.τ).loc Cert.AttnOutReferenceIdeal.main_arg7) = m' ((c.tc : Thread Cert.AttnOutReferenceIdeal.nD Cert.AttnOutReferenceIdeal.τ).loc Cert.AttnOutReferenceIdeal.main_arg7)
          ∧ r.2.mem ((c.tc : Thread Cert.AttnOutReferenceIdeal.nD Cert.AttnOutReferenceIdeal.τ).loc Cert.AttnOutReferenceIdeal.main_arg8) = m' ((c.tc : Thread Cert.AttnOutReferenceIdeal.nD Cert.AttnOutReferenceIdeal.τ).loc Cert.AttnOutReferenceIdeal.main_arg8)
          ∧ r.2.mem ((c.tc : Thread Cert.AttnOutReferenceIdeal.nD Cert.AttnOutReferenceIdeal.τ).loc Cert.AttnOutReferenceIdeal.main_arg9) = m' ((c.tc : Thread Cert.AttnOutReferenceIdeal.nD Cert.AttnOutReferenceIdeal.τ).loc Cert.AttnOutReferenceIdeal.main_arg9)
          ∧ r.2.mem ((c.tc : Thread Cert.AttnOutReferenceIdeal.nD Cert.AttnOutReferenceIdeal.τ).loc Cert.AttnOutReferenceIdeal.main_arg10) = m' ((c.tc : Thread Cert.AttnOutReferenceIdeal.nD Cert.AttnOutReferenceIdeal.τ).loc Cert.AttnOutReferenceIdeal.main_arg10)
          ∧ r.2.mem ((c.tc : Thread Cert.AttnOutReferenceIdeal.nD Cert.AttnOutReferenceIdeal.τ).loc Cert.AttnOutReferenceIdeal.main_arg11) = m' ((c.tc : Thread Cert.AttnOutReferenceIdeal.nD Cert.AttnOutReferenceIdeal.τ).loc Cert.AttnOutReferenceIdeal.main_arg11))

def preserves_Ada_AdaIdeal : Prop :=
  True

def algebraic_AdaIdeal_AdaReferenceIdeal [hAdaIdeal : Cert.AdaIdeal.Facts] [hAdaReferenceIdeal : Cert.AdaReferenceIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaReferenceIdeal.nD Cert.AdaReferenceIdeal.τ Cert.AdaReferenceIdeal.sig) → Buf (Elt Ideal) ℓ) (g' : Dev Cert.AdaReferenceIdeal.nD → PrngReg), Pre_AdaIdeal m →
    (∀ c : Dev Cert.AdaIdeal.nD,
      m' ((c.tc : Thread Cert.AdaReferenceIdeal.nD Cert.AdaReferenceIdeal.τ).loc Cert.AdaReferenceIdeal.main_arg0) = m ((c.tc : Thread Cert.AdaIdeal.nD Cert.AdaIdeal.τ).loc Cert.AdaIdeal.main_arg0)
      ∧ m' ((c.tc : Thread Cert.AdaReferenceIdeal.nD Cert.AdaReferenceIdeal.τ).loc Cert.AdaReferenceIdeal.main_arg1) = m ((c.tc : Thread Cert.AdaIdeal.nD Cert.AdaIdeal.τ).loc Cert.AdaIdeal.main_arg1)
      ∧ m' ((c.tc : Thread Cert.AdaReferenceIdeal.nD Cert.AdaReferenceIdeal.τ).loc Cert.AdaReferenceIdeal.main_arg2) = m ((c.tc : Thread Cert.AdaIdeal.nD Cert.AdaIdeal.τ).loc Cert.AdaIdeal.main_arg2)
      ∧ m' ((c.tc : Thread Cert.AdaReferenceIdeal.nD Cert.AdaReferenceIdeal.τ).loc Cert.AdaReferenceIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v2)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v2) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaReferenceIdeal.defs (F := Ideal)) (onTc (τ := Cert.AdaReferenceIdeal.τ) (Cert.AdaReferenceIdeal.main (F := Ideal))) ⟨m', fun _ => 0, g'⟩ (fun r => ∀ c : Dev Cert.AdaReferenceIdeal.nD,
          r.2.mem ((c.tc : Thread Cert.AdaReferenceIdeal.nD Cert.AdaReferenceIdeal.τ).loc Cert.AdaReferenceIdeal.main_v40) = v0 c
          ∧ r.2.mem ((c.tc : Thread Cert.AdaReferenceIdeal.nD Cert.AdaReferenceIdeal.τ).loc Cert.AdaReferenceIdeal.main_arg0) = m' ((c.tc : Thread Cert.AdaReferenceIdeal.nD Cert.AdaReferenceIdeal.τ).loc Cert.AdaReferenceIdeal.main_arg0)
          ∧ r.2.mem ((c.tc : Thread Cert.AdaReferenceIdeal.nD Cert.AdaReferenceIdeal.τ).loc Cert.AdaReferenceIdeal.main_arg1) = m' ((c.tc : Thread Cert.AdaReferenceIdeal.nD Cert.AdaReferenceIdeal.τ).loc Cert.AdaReferenceIdeal.main_arg1)
          ∧ r.2.mem ((c.tc : Thread Cert.AdaReferenceIdeal.nD Cert.AdaReferenceIdeal.τ).loc Cert.AdaReferenceIdeal.main_arg2) = m' ((c.tc : Thread Cert.AdaReferenceIdeal.nD Cert.AdaReferenceIdeal.τ).loc Cert.AdaReferenceIdeal.main_arg2)
          ∧ r.2.mem ((c.tc : Thread Cert.AdaReferenceIdeal.nD Cert.AdaReferenceIdeal.τ).loc Cert.AdaReferenceIdeal.main_arg3) = m' ((c.tc : Thread Cert.AdaReferenceIdeal.nD Cert.AdaReferenceIdeal.τ).loc Cert.AdaReferenceIdeal.main_arg3))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hExpertsNext : Cert.ExpertsNext.Facts) (hExpertsNextIdeal : Cert.ExpertsNextIdeal.Facts) (hExpertsNextReferenceIdeal : Cert.ExpertsNextReferenceIdeal.Facts) (hRetProj : Cert.RetProj.Facts) (hRetProjIdeal : Cert.RetProjIdeal.Facts) (hRetProjReferenceIdeal : Cert.RetProjReferenceIdeal.Facts) (hAttnProj : Cert.AttnProj.Facts) (hAttnProjIdeal : Cert.AttnProjIdeal.Facts) (hAttnProjReferenceIdeal : Cert.AttnProjReferenceIdeal.Facts) (hRetSample : Cert.RetSample.Facts) (hRetSampleIdeal : Cert.RetSampleIdeal.Facts) (hRetSampleReferenceIdeal : Cert.RetSampleReferenceIdeal.Facts) (hRetOut : Cert.RetOut.Facts) (hRetOutIdeal : Cert.RetOutIdeal.Facts) (hRetOutReferenceIdeal : Cert.RetOutReferenceIdeal.Facts) (hAttnOut : Cert.AttnOut.Facts) (hAttnOutIdeal : Cert.AttnOutIdeal.Facts) (hAttnOutReferenceIdeal : Cert.AttnOutReferenceIdeal.Facts) (hAda : Cert.Ada.Facts) (hAdaIdeal : Cert.AdaIdeal.Facts) (hAdaReferenceIdeal : Cert.AdaReferenceIdeal.Facts) (hPre_experts_in_range : Cert.Pre_experts_in_range.Facts),
    quiescent_Kernel (hKernel := hKernel)
    ∧ quiescent_KernelIdeal (hKernelIdeal := hKernelIdeal)
    ∧ quiescent_ReferenceIdeal (hReferenceIdeal := hReferenceIdeal)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_ExpertsNext (hExpertsNext := hExpertsNext) (hPre_experts_in_range := hPre_experts_in_range)
    ∧ quiescent_ExpertsNextIdeal (hExpertsNextIdeal := hExpertsNextIdeal) (hPre_experts_in_range := hPre_experts_in_range)
    ∧ quiescent_ExpertsNextReferenceIdeal (hExpertsNextReferenceIdeal := hExpertsNextReferenceIdeal)
    ∧ quiescent_ExpertsNextReferenceIdeal_pre_experts_in_range (hExpertsNextReferenceIdeal := hExpertsNextReferenceIdeal) (hPre_experts_in_range := hPre_experts_in_range)
    ∧ quiescent_RetProj (hRetProj := hRetProj)
    ∧ quiescent_RetProjIdeal (hRetProjIdeal := hRetProjIdeal)
    ∧ quiescent_RetProjReferenceIdeal (hRetProjReferenceIdeal := hRetProjReferenceIdeal)
    ∧ quiescent_AttnProj (hAttnProj := hAttnProj)
    ∧ quiescent_AttnProjIdeal (hAttnProjIdeal := hAttnProjIdeal)
    ∧ quiescent_AttnProjReferenceIdeal (hAttnProjReferenceIdeal := hAttnProjReferenceIdeal)
    ∧ quiescent_RetSample (hRetSample := hRetSample)
    ∧ quiescent_RetSampleIdeal (hRetSampleIdeal := hRetSampleIdeal)
    ∧ quiescent_RetSampleReferenceIdeal (hRetSampleReferenceIdeal := hRetSampleReferenceIdeal)
    ∧ quiescent_RetOut (hRetOut := hRetOut)
    ∧ quiescent_RetOutIdeal (hRetOutIdeal := hRetOutIdeal)
    ∧ quiescent_RetOutReferenceIdeal (hRetOutReferenceIdeal := hRetOutReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_Ada (hAda := hAda)
    ∧ quiescent_AdaIdeal (hAdaIdeal := hAdaIdeal)
    ∧ quiescent_AdaReferenceIdeal (hAdaReferenceIdeal := hAdaReferenceIdeal)
    ∧ preserves_Kernel_KernelIdeal
    ∧ algebraic_KernelIdeal_ReferenceIdeal (hKernelIdeal := hKernelIdeal) (hReferenceIdeal := hReferenceIdeal)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_ExpertsNext_ExpertsNextIdeal
    ∧ algebraic_ExpertsNextIdeal_ExpertsNextReferenceIdeal (hExpertsNextIdeal := hExpertsNextIdeal) (hExpertsNextReferenceIdeal := hExpertsNextReferenceIdeal) (hPre_experts_in_range := hPre_experts_in_range)
    ∧ preserves_RetProj_RetProjIdeal
    ∧ algebraic_RetProjIdeal_RetProjReferenceIdeal (hRetProjIdeal := hRetProjIdeal) (hRetProjReferenceIdeal := hRetProjReferenceIdeal)
    ∧ preserves_AttnProj_AttnProjIdeal
    ∧ algebraic_AttnProjIdeal_AttnProjReferenceIdeal (hAttnProjIdeal := hAttnProjIdeal) (hAttnProjReferenceIdeal := hAttnProjReferenceIdeal)
    ∧ preserves_RetSample_RetSampleIdeal
    ∧ algebraic_RetSampleIdeal_RetSampleReferenceIdeal (hRetSampleIdeal := hRetSampleIdeal) (hRetSampleReferenceIdeal := hRetSampleReferenceIdeal)
    ∧ preserves_RetOut_RetOutIdeal
    ∧ algebraic_RetOutIdeal_RetOutReferenceIdeal (hRetOutIdeal := hRetOutIdeal) (hRetOutReferenceIdeal := hRetOutReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_Ada_AdaIdeal
    ∧ algebraic_AdaIdeal_AdaReferenceIdeal (hAdaIdeal := hAdaIdeal) (hAdaReferenceIdeal := hAdaReferenceIdeal)
-- ==== Pre_experts_in_range.lean ====
abbrev S74752x1024 : Shape := ⟨2, ![74752, 1024]⟩
abbrev S292 : Shape := ⟨1, ![292]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S_ : Shape := ⟨0, ![]⟩

class Facts : Prop where
  bcast_S_S292 : S_.BroadcastsInDim S292 (![] : Fin 0 → Fin S292.rank)

variable [Facts]

def fn {F : FTy → Type} [FloatOps F] (main_arg0 : FVec F S74752x1024 .f32) (main_arg1 : IVec S292 32) (main_arg2 : IVec S1 32) (main_arg3 : FVec F S2x32x1024x2048 .bf16) (main_arg4 : FVec F S2x32x1x2048 .f32) (main_arg5 : FVec F S2x32x1024x1024 .bf16) (main_arg6 : FVec F S2x32x1x1024 .f32) : IVec S292 1 :=
  let main_c : IVec S_ 32 := constantI S_ 32 0#32
  let main_v0 : IVec S292 32 := broadcastInDim S292 ![] bcast_S_S292 main_c
  let main_v1 : IVec S292 1 := cmpi .sge main_arg1 main_v0
  let main_c_0 : IVec S_ 32 := constantI S_ 32 32#32
  let main_v2 : IVec S292 32 := broadcastInDim S292 ![] bcast_S_S292 main_c_0
  let main_v3 : IVec S292 1 := cmpi .slt main_arg1 main_v2
  let main_v4 : IVec S292 1 := andi main_v1 main_v3
  main_v4
-- ==== Kernel.lean ====
abbrev S8x2048x4x256 : Shape := ⟨4, ![8, 2048, 4, 256]⟩
abbrev S8x2048x4x512 : Shape := ⟨4, ![8, 2048, 4, 512]⟩
abbrev S8x2048x2048 : Shape := ⟨3, ![8, 2048, 2048]⟩
abbrev S4x512 : Shape := ⟨2, ![4, 512]⟩
abbrev S16384x1024 : Shape := ⟨2, ![16384, 1024]⟩
abbrev S_ : Shape := ⟨0, ![]⟩
abbrev S16640x1024 : Shape := ⟨2, ![16640, 1024]⟩
abbrev S16384x2048 : Shape := ⟨2, ![16384, 2048]⟩
abbrev S16640x2048 : Shape := ⟨2, ![16640, 2048]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x4 : Shape := ⟨2, ![1, 4]⟩
abbrev S128x4 : Shape := ⟨2, ![128, 4]⟩
abbrev S4x128 : Shape := ⟨2, ![4, 128]⟩
abbrev S4x128x1 : Shape := ⟨3, ![4, 128, 1]⟩
abbrev S4x1x512 : Shape := ⟨3, ![4, 1, 512]⟩
abbrev S8x4x256x512 : Shape := ⟨4, ![8, 4, 256, 512]⟩
abbrev S128x256 : Shape := ⟨2, ![128, 256]⟩
abbrev S128x512 : Shape := ⟨2, ![128, 512]⟩
abbrev S1x128x1 : Shape := ⟨3, ![1, 128, 1]⟩
abbrev S1x1x512 : Shape := ⟨3, ![1, 1, 512]⟩
abbrev S1x1x256x512 : Shape := ⟨4, ![1, 1, 256, 512]⟩
abbrev S256x512 : Shape := ⟨2, ![256, 512]⟩
abbrev S1x512 : Shape := ⟨2, ![1, 512]⟩

abbrev nBuf : Space → Nat
  | .hbm => 96
  | .vmem => 22
  | .smem => 0
  | _ => 0

abbrev bufTy : (tb : Table) → Fin (tcTables nBuf tb) → BufTy
  | .hbm, ⟨0, _⟩ => ⟨S8x2048x4x256, .f32⟩
  | .hbm, ⟨1, _⟩ => ⟨S8x2048x4x256, .f32⟩
  | .hbm, ⟨2, _⟩ => ⟨S8x2048x4x512, .f32⟩
  | .hbm, ⟨3, _⟩ => ⟨S8x2048x2048, .f32⟩
  | .hbm, ⟨4, _⟩ => ⟨S4x512, .f32⟩
  | .hbm, ⟨5, _⟩ => ⟨S16384x1024, .f32⟩
  | .hbm, ⟨6, _⟩ => ⟨S_, .i32⟩
  | .hbm, ⟨7, _⟩ => ⟨S_, .f32⟩
  | .hbm, ⟨8, _⟩ => ⟨S16640x1024, .f32⟩
  | .hbm, ⟨9, _⟩ => ⟨S16640x1024, .bf16⟩
  | .hbm, ⟨10, _⟩ => ⟨S16384x1024, .f32⟩
  | .hbm, ⟨11, _⟩ => ⟨S_, .i32⟩
  | .hbm, ⟨12, _⟩ => ⟨S_, .f32⟩
  | .hbm, ⟨13, _⟩ => ⟨S16640x1024, .f32⟩
  | .hbm, ⟨14, _⟩ => ⟨S16384x2048, .f32⟩
  | .hbm, ⟨15, _⟩ => ⟨S_, .i32⟩
  | .hbm, ⟨16, _⟩ => ⟨S_, .f32⟩
  | .hbm, ⟨17, _⟩ => ⟨S16640x2048, .f32⟩
  | .hbm, ⟨18, _⟩ => ⟨S16640x2048, .bf16⟩
  | .hbm, ⟨19, _⟩ => ⟨S16384x2048, .f32⟩
  | .hbm, ⟨20, _⟩ => ⟨S_, .i32⟩
  | .hbm, ⟨21, _⟩ => ⟨S_, .f32⟩
  | .hbm, ⟨22, _⟩ => ⟨S16640x2048, .f32⟩
  | .hbm, ⟨23, _⟩ => ⟨S4, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S4, .f32⟩
  | .hbm, ⟨31, _⟩ => ⟨S4, .f32⟩
  | .hbm, ⟨32, _⟩ => ⟨S4, .f32⟩
  | .hbm, ⟨33, _⟩ => ⟨S128, .f32⟩
  | .hbm, ⟨34, _⟩ => ⟨S128x1, .f32⟩
  | .hbm, ⟨35, _⟩ => ⟨S1x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .i1⟩
  | .hbm, ⟨42, _⟩ => ⟨S_, .f32⟩
  | .hbm, ⟨43, _⟩ => ⟨S128x128, .f32⟩
  | .hbm, ⟨44, _⟩ => ⟨S128x128, .f32⟩
  | .hbm, ⟨45, _⟩ => ⟨S1x128x128, .f32⟩
  | .hbm, ⟨46, _⟩ => ⟨S4x1x1, .f32⟩
  | .hbm, ⟨47, _⟩ => ⟨S4x128x128, .f32⟩
  | .hbm, ⟨48, _⟩ => ⟨S4x128x128, .f32⟩
  | .hbm, ⟨49, _⟩ => ⟨S4x128x128, .f32⟩
  | .hbm, ⟨50, _⟩ => ⟨S4x128x128, .f32⟩
  | .hbm, ⟨51, _⟩ => ⟨S_, .f32⟩
  | .hbm, ⟨52, _⟩ => ⟨S_, .f32⟩
  | .hbm, ⟨53, _⟩ => ⟨S4x128x128, .i1⟩
  | .hbm, ⟨54, _⟩ => ⟨S4x128x128, .f32⟩
  | .hbm, ⟨55, _⟩ => ⟨S4x128x128, .f32⟩
  | .hbm, ⟨56, _⟩ => ⟨S128x1, .f32⟩
  | .hbm, ⟨57, _⟩ => ⟨S_, .f32⟩
  | .hbm, ⟨58, _⟩ => ⟨S128x1, .f32⟩
  | .hbm, ⟨59, _⟩ => ⟨S128x1, .f32⟩
  | .hbm, ⟨60, _⟩ => ⟨S1x4, .f32⟩
  | .hbm, ⟨61, _⟩ => ⟨S128x4, .f32⟩
  | .hbm, ⟨62, _⟩ => ⟨S128x4, .f32⟩
  | .hbm, ⟨63, _⟩ => ⟨S128x4, .f32⟩
  | .hbm, ⟨64, _⟩ => ⟨S128x4, .f32⟩
  | .hbm, ⟨65, _⟩ => ⟨S4x128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128x1, .f32⟩
  | .hbm, ⟨70, _⟩ => ⟨S1x4, .f32⟩
  | .hbm, ⟨71, _⟩ => ⟨S128x4, .f32⟩
  | .hbm, ⟨72, _⟩ => ⟨S128x4, .f32⟩
  | .hbm, ⟨73, _⟩ => ⟨S128x4, .f32⟩
  | .hbm, ⟨74, _⟩ => ⟨S128x4, .f32⟩
  | .hbm, ⟨75, _⟩ => ⟨S4x128, .f32⟩
  | .hbm, ⟨76, _⟩ => ⟨S_, .i32⟩
  | .hbm, ⟨77, _⟩ => ⟨S_, .f32⟩
  | .hbm, ⟨78, _⟩ => ⟨S4x128x128, .f32⟩
  | .hbm, ⟨79, _⟩ => ⟨S_, .i32⟩
  | .hbm, ⟨80, _⟩ => ⟨S_, .f32⟩
  | .hbm, ⟨81, _⟩ => ⟨S4x128, .f32⟩
  | .hbm, ⟨82, _⟩ => ⟨S4x128x1, .f32⟩
  | .hbm, ⟨83, _⟩ => ⟨S_, .i32⟩
  | .hbm, ⟨84, _⟩ => ⟨S_, .f32⟩
  | .hbm, ⟨85, _⟩ => ⟨S4x128, .f32⟩
  | .hbm, ⟨86, _⟩ => ⟨S4x128x1, .f32⟩
  | .hbm, ⟨87, _⟩ => ⟨S_, .f32⟩
  | .hbm, ⟨88, _⟩ => ⟨S4, .f32⟩
  | .hbm, ⟨89, _⟩ => ⟨S4, .f32⟩
  | .hbm, ⟨90, _⟩ => ⟨S4, .f32⟩
  | .hbm, ⟨91, _⟩ => ⟨S4x1x1, .f32⟩
  | .hbm, ⟨92, _⟩ => ⟨S4x1x512, .f32⟩
  | .hbm, ⟨93, _⟩ => ⟨S4x1x512, .f32⟩
  | .hbm, ⟨94, _⟩ => ⟨S16384x2048, .bf16⟩
  | .hbm, ⟨95, _⟩ => ⟨S8x4x256x512, .f32⟩
  | .local _ .vmem, ⟨0, _⟩ => ⟨S128x256, .bf16⟩
  | .local _ .vmem, ⟨1, _⟩ => ⟨S128x256, .bf16⟩
  | .local _ .vmem, ⟨2, _⟩ => ⟨S128x256, .f32⟩
  | .local _ .vmem, ⟨3, _⟩ => ⟨S128x256, .f32⟩
  | .local _ .vmem, ⟨4, _⟩ => ⟨S128x512, .bf16⟩
  | .local _ .vmem, ⟨5, _⟩ => ⟨S128x512, .bf16⟩
  | .local _ .vmem, ⟨6, _⟩ => ⟨S128x512, .f32⟩
  | .local _ .vmem, ⟨7, _⟩ => ⟨S128x512, .f32⟩
  | .local _ .vmem, ⟨8, _⟩ => ⟨S1x128x128, .f32⟩
  | .local _ .vmem, ⟨9, _⟩ => ⟨S1x128x128, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S1x128x1, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S128x512, .bf16⟩
  | .local _ .vmem, ⟨19, _⟩ => ⟨S128x512, .bf16⟩
  | .local _ .vmem, ⟨20, _⟩ => ⟨S1x1x256x512, .f32⟩
  | .local _ .vmem, ⟨21, _⟩ => ⟨S1x1x256x512, .f32⟩
  | _, _ => ⟨S8x2048x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_call3_v0 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_call4_v0 : Ref sig .tc := ⟨.hbm, 52, rfl⟩
abbrev main_call4_v1 : Ref sig .tc := ⟨.hbm, 53, rfl⟩
abbrev main_call4_v2 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_call5_v0 : Ref sig .tc := ⟨.hbm, 77, rfl⟩
abbrev main_v53 : Ref sig .tc := ⟨.hbm, 78, rfl⟩
abbrev main_c_10 : Ref sig .tc := ⟨.hbm, 79, rfl⟩
abbrev main_call6_v0 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_call7_v0 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64_0 : Ref sig .tc := ⟨.hbm, 94, rfl⟩
abbrev main_v64_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S8x2048x4x256 : Shape := ⟨4, ![8, 2048, 4, 256]⟩
abbrev S8x2048x4x512 : Shape := ⟨4, ![8, 2048, 4, 512]⟩
abbrev S8x2048x2048 : Shape := ⟨3, ![8, 2048, 2048]⟩
abbrev S4x512 : Shape := ⟨2, ![4, 512]⟩
abbrev S4 : Shape := ⟨1, ![4]⟩
abbrev S_ : Shape := ⟨0, ![]⟩
abbrev S8x4x256x512 : Shape := ⟨4, ![8, 4, 256, 512]⟩
abbrev S8x16x128x4x256 : Shape := ⟨5, ![8, 16, 128, 4, 256]⟩
abbrev S16x8x128x4x256 : Shape := ⟨5, ![16, 8, 128, 4, 256]⟩
abbrev S8x16x128x4x512 : Shape := ⟨5, ![8, 16, 128, 4, 512]⟩
abbrev S16x8x128x4x512 : Shape := ⟨5, ![16, 8, 128, 4, 512]⟩
abbrev S1x8x128x4x256 : Shape := ⟨5, ![1, 8, 128, 4, 256]⟩
abbrev S8x128x4x256 : Shape := ⟨4, ![8, 128, 4, 256]⟩
abbrev S1x8x128x4x512 : Shape := ⟨5, ![1, 8, 128, 4, 512]⟩
abbrev S8x128x4x512 : Shape := ⟨4, ![8, 128, 4, 512]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S8x4x128x128 : Shape := ⟨4, ![8, 4, 128, 128]⟩
abbrev S1x4x128x128 : Shape := ⟨4, ![1, 4, 128, 128]⟩
abbrev S8x4x512x128 : Shape := ⟨4, ![8, 4, 512, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩
abbrev S1x1x4x512 : Shape := ⟨4, ![1, 1, 4, 512]⟩
abbrev S16384x2048 : Shape := ⟨2, ![16384, 2048]⟩

abbrev nBuf : Space → Nat
  | .hbm => 167
  | .vmem => 0
  | .smem => 0
  | _ => 0

abbrev hbmTy0_0 (i : Nat) : BufTy := match i % 128 with
  | 0 => ⟨S8x2048x4x256, .f32⟩
  | 1 => ⟨S8x2048x4x256, .f32⟩
  | 2 => ⟨S8x2048x4x512, .f32⟩
  | 3 => ⟨S8x2048x2048, .f32⟩
  | 4 => ⟨S4x512, .f32⟩
  | 5 => ⟨S4, .f32⟩
  | 6 => ⟨S_, .f32⟩
  | 7 => ⟨S4, .f32⟩
  | 8 => ⟨S4, .f32⟩
  | 9 => ⟨S_, .f32⟩
  | 10 => ⟨S4, .f32⟩
  | 11 => ⟨S4, .f32⟩
  | 12 => ⟨S4, .f32⟩
  | 13 => ⟨S4, .f32⟩
  | 14 => ⟨S4, .f32⟩
  | 15 => ⟨S_, .f32⟩
  | 16 => ⟨S8x4x256x512, .f32⟩
  | 17 => ⟨S8x16x128x4x256, .f32⟩
  | 18 => ⟨S16x8x128x4x256, .f32⟩
  | 19 => ⟨S8x16x128x4x256, .f32⟩
  | 20 => ⟨S16x8x128x4x256, .f32⟩
  | 21 => ⟨S8x16x128x4x512, .f32⟩
  | 22 => ⟨S16x8x128x4x512, .f32⟩
  | 23 => ⟨S_, .f32⟩
  | 24 => ⟨S16x8x128x4x512, .f32⟩
  | 25 => ⟨S_, .i32⟩
  | 26 => ⟨S16x8x128x4x256, .f32⟩
  | 27 => ⟨S16x8x128x4x256, .f32⟩
  | 28 => ⟨S16x8x128x4x512, .f32⟩
  | 29 => ⟨S4, .f32⟩
  | 30 => ⟨S_, .i32⟩
  | 31 => ⟨S8x4x256x512, .f32⟩
  | 32 => ⟨S16x8x128x4x512, .f32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S1x8x128x4x256, .f32⟩
  | 40 => ⟨S8x128x4x256, .f32⟩
  | 41 => ⟨S_, .i32⟩
  | 42 => ⟨S_, .i32⟩
  | 43 => ⟨S_, .i32⟩
  | 44 => ⟨S_, .i32⟩
  | 45 => ⟨S1x8x128x4x256, .f32⟩
  | 46 => ⟨S8x128x4x256, .f32⟩
  | 47 => ⟨S_, .i32⟩
  | 48 => ⟨S_, .i32⟩
  | 49 => ⟨S_, .i32⟩
  | 50 => ⟨S_, .i32⟩
  | 51 => ⟨S1x8x128x4x512, .f32⟩
  | 52 => ⟨S8x128x4x512, .f32⟩
  | 53 => ⟨S128, .f32⟩
  | 54 => ⟨S128x1, .f32⟩
  | 55 => ⟨S1x128, .f32⟩
  | 56 => ⟨S128x128, .f32⟩
  | 57 => ⟨S128x128, .f32⟩
  | 58 => ⟨S128x128, .f32⟩
  | 59 => ⟨S_, .f32⟩
  | 60 => ⟨S128x128, .f32⟩
  | 61 => ⟨S128x128, .i1⟩
  | 62 => ⟨S_, .f32⟩
  | 63 => ⟨S128x128, .f32⟩
  | 64 => ⟨S128x128, .f32⟩
  | 65 => ⟨S1x128x128, .f32⟩
  | 66 => ⟨S4x1x1, .f32⟩
  | 67 => ⟨S4x128x128, .f32⟩
  | 68 => ⟨S4x128x128, .f32⟩
  | 69 => ⟨S4x128x128, .f32⟩
  | 70 => ⟨S4x128x128, .f32⟩
  | 71 => ⟨S_, .f32⟩
  | 72 => ⟨S_, .f32⟩
  | 73 => ⟨S4x128x128, .i1⟩
  | 74 => ⟨S4x128x128, .f32⟩
  | 75 => ⟨S4x128x128, .f32⟩
  | 76 => ⟨S8x4x128x128, .f32⟩
  | 77 => ⟨S1x4x128x128, .f32⟩
  | 78 => ⟨S8x4x128x128, .f32⟩
  | 79 => ⟨S8x4x128x128, .f32⟩
  | 80 => ⟨S8x4x512x128, .f32⟩
  | 81 => ⟨S8x128x4x512, .f32⟩
  | 82 => ⟨S128x1, .f32⟩
  | 83 => ⟨S_, .f32⟩
  | 84 => ⟨S128x1, .f32⟩
  | 85 => ⟨S128x1, .f32⟩
  | 86 => ⟨S1x4, .f32⟩
  | 87 => ⟨S128x4, .f32⟩
  | 88 => ⟨S128x4, .f32⟩
  | 89 => ⟨S128x4, .f32⟩
  | 90 => ⟨S128x4, .f32⟩
  | 91 => ⟨S8x4x512x128, .f32⟩
  | 92 => ⟨S8x128x4x512, .f32⟩
  | 93 => ⟨S1x128x4x1, .f32⟩
  | 94 => ⟨S8x128x4x512, .f32⟩
  | 95 => ⟨S8x128x4x512, .f32⟩
  | 96 => ⟨S_, .f32⟩
  | 97 => ⟨S128, .f32⟩
  | 98 => ⟨S128, .f32⟩
  | 99 => ⟨S128x1, .f32⟩
  | 100 => ⟨S1x4, .f32⟩
  | 101 => ⟨S128x4, .f32⟩
  | 102 => ⟨S128x4, .f32⟩
  | 103 => ⟨S128x4, .f32⟩
  | 104 => ⟨S128x4, .f32⟩
  | 105 => ⟨S_, .f32⟩
  | 106 => ⟨S4, .f32⟩
  | 107 => ⟨S4, .f32⟩
  | 108 => ⟨S4, .f32⟩
  | 109 => ⟨S1x4x1x1, .f32⟩
  | 110 => ⟨S8x4x256x512, .f32⟩
  | 111 => ⟨S8x4x256x512, .f32⟩
  | 112 => ⟨S1x128x4x1, .f32⟩
  | 113 => ⟨S8x128x4x256, .f32⟩
  | 114 => ⟨S8x128x4x256, .f32⟩
  | 115 => ⟨S8x4x256x512, .f32⟩
  | 116 => ⟨S8x4x256x512, .f32⟩
  | 117 => ⟨S8x128x4x512, .f32⟩
  | 118 => ⟨S1x8x128x4x512, .f32⟩
  | 119 => ⟨S_, .i32⟩
  | 120 => ⟨S_, .i32⟩
  | 121 => ⟨S_, .i32⟩
  | 122 => ⟨S_, .i32⟩
  | 123 => ⟨S16x8x128x4x512, .f32⟩
  | 124 => ⟨S_, .i32⟩
  | 125 => ⟨S_, .i32⟩
  | 126 => ⟨S8x16x128x4x512, .f32⟩
  | 127 => ⟨S8x2048x4x512, .f32⟩
  | _ => ⟨S8x2048x4x256, .f32⟩

abbrev hbmTy0_1 (i : Nat) : BufTy := match i % 128 with
  | 0 => ⟨S_, .f32⟩
  | 1 => ⟨S8x2048x4, .f32⟩
  | 2 => ⟨S8x2048x4x1, .f32⟩
  | 3 => ⟨S_, .f32⟩
  | 4 => ⟨S8x2048x4x1, .f32⟩
  | 5 => ⟨S8x2048x4x1, .f32⟩
  | 6 => ⟨S8x2048x4x512, .f32⟩
  | 7 => ⟨S8x2048x4x512, .f32⟩
  | 8 => ⟨S8x2048x4x512, .f32⟩
  | 9 => ⟨S_, .f32⟩
  | 10 => ⟨S8x2048x4, .f32⟩
  | 11 => ⟨S8x2048x4x1, .f32⟩
  | 12 => ⟨S_, .f32⟩
  | 13 => ⟨S8x2048x4x1, .f32⟩
  | 14 => ⟨S8x2048x4x1, .f32⟩
  | 15 => ⟨S8x2048x4x512, .f32⟩
  | 16 => ⟨S8x2048x4x512, .f32⟩
  | 17 => ⟨S_, .f32⟩
  | 18 => ⟨S8x2048x4x1, .f32⟩
  | 19 => ⟨S8x2048x4x1, .f32⟩
  | 20 => ⟨S8x2048x4x1, .f32⟩
  | 21 => ⟨S8x2048x4x512, .f32⟩
  | 22 => ⟨S8x2048x4x512, .f32⟩
  | 23 => ⟨S1x1x4x512, .f32⟩
  | 24 => ⟨S8x2048x4x512, .f32⟩
  | 25 => ⟨S8x2048x4x512, .f32⟩
  | 26 => ⟨S8x2048x2048, .f32⟩
  | 27 => ⟨S8x2048x2048, .f32⟩
  | 28 => ⟨S_, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S16384x2048, .f32⟩
  | 38 => ⟨S16384x2048, .bf16⟩
  | _ => ⟨S8x2048x4x256, .f32⟩

abbrev hbmTy (i : Nat) : BufTy := match i / 128 with
  | 0 => hbmTy0_0 i
  | 1 => hbmTy0_1 i
  | _ => ⟨S8x2048x4x256, .f32⟩

abbrev bufTy : (tb : Table) → Fin (tcTables nBuf tb) → BufTy
  | .hbm, ⟨i, _⟩ => hbmTy i
  | _, _ => ⟨S8x2048x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_c : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_while0c_c_14 : Ref sig .tc := ⟨.hbm, 33, rfl⟩
abbrev main_while0c_v45 : Ref sig .tc := ⟨.hbm, 34, rfl⟩
abbrev main_while0b_call0_c : Ref sig .tc := ⟨.hbm, 35, rfl⟩
abbrev main_while0b_call0_c_0 : Ref sig .tc := ⟨.hbm, 36, rfl⟩
abbrev main_while0b_call0_c_1 : Ref sig .tc := ⟨.hbm, 37, rfl⟩
abbrev main_while0b_call0_c_2 : Ref sig .tc := ⟨.hbm, 38, rfl⟩
abbrev main_while0b_call0_v0 : Ref sig .tc := ⟨.hbm, 39, rfl⟩
abbrev main_while0b_v45 : Ref sig .tc := ⟨.hbm, 40, rfl⟩
abbrev main_while0b_call1_c : Ref sig .tc := ⟨.hbm, 41, rfl⟩
abbrev main_while0b_call1_c_0 : Ref sig .tc := ⟨.hbm, 42, rfl⟩
abbrev main_while0b_call1_c_1 : Ref sig .tc := ⟨.hbm, 43, rfl⟩
abbrev main_while0b_call1_c_2 : Ref sig .tc := ⟨.hbm, 44, rfl⟩
abbrev main_while0b_call1_v0 : Ref sig .tc := ⟨.hbm, 45, rfl⟩
abbrev main_while0b_v46 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_c_2 : Ref sig .tc := ⟨.hbm, 50, rfl⟩
abbrev main_while0b_call2_v0 : Ref sig .tc := ⟨.hbm, 51, rfl⟩
abbrev main_while0b_v47 : Ref sig .tc := ⟨.hbm, 52, rfl⟩
abbrev main_while0b_v48 : Ref sig .tc := ⟨.hbm, 53, rfl⟩
abbrev main_while0b_v49 : Ref sig .tc := ⟨.hbm, 54, rfl⟩
abbrev main_while0b_v50 : Ref sig .tc := ⟨.hbm, 55, rfl⟩
abbrev main_while0b_v51 : Ref sig .tc := ⟨.hbm, 56, rfl⟩
abbrev main_while0b_v52 : Ref sig .tc := ⟨.hbm, 57, rfl⟩
abbrev main_while0b_v53 : Ref sig .tc := ⟨.hbm, 58, rfl⟩
abbrev main_while0b_cst_14 : Ref sig .tc := ⟨.hbm, 59, rfl⟩
abbrev main_while0b_v54 : Ref sig .tc := ⟨.hbm, 60, rfl⟩
abbrev main_while0b_v55 : Ref sig .tc := ⟨.hbm, 61, rfl⟩
abbrev main_while0b_cst_15 : Ref sig .tc := ⟨.hbm, 62, rfl⟩
abbrev main_while0b_v56 : Ref sig .tc := ⟨.hbm, 63, rfl⟩
abbrev main_while0b_v57 : Ref sig .tc := ⟨.hbm, 64, rfl⟩
abbrev main_while0b_v58 : Ref sig .tc := ⟨.hbm, 65, rfl⟩
abbrev main_while0b_v59 : Ref sig .tc := ⟨.hbm, 66, rfl⟩
abbrev main_while0b_v60 : Ref sig .tc := ⟨.hbm, 67, rfl⟩
abbrev main_while0b_v61 : Ref sig .tc := ⟨.hbm, 68, rfl⟩
abbrev main_while0b_v62 : Ref sig .tc := ⟨.hbm, 69, rfl⟩
abbrev main_while0b_v63 : Ref sig .tc := ⟨.hbm, 70, rfl⟩
abbrev main_while0b_cst_16 : Ref sig .tc := ⟨.hbm, 71, rfl⟩
abbrev main_while0b_call3_v0 : Ref sig .tc := ⟨.hbm, 72, rfl⟩
abbrev main_while0b_call3_v1 : Ref sig .tc := ⟨.hbm, 73, rfl⟩
abbrev main_while0b_call3_v2 : Ref sig .tc := ⟨.hbm, 74, rfl⟩
abbrev main_while0b_v64 : Ref sig .tc := ⟨.hbm, 75, rfl⟩
abbrev main_while0b_v65 : Ref sig .tc := ⟨.hbm, 76, rfl⟩
abbrev main_while0b_v66 : Ref sig .tc := ⟨.hbm, 77, rfl⟩
abbrev main_while0b_v67 : Ref sig .tc := ⟨.hbm, 78, rfl⟩
abbrev main_while0b_v68 : Ref sig .tc := ⟨.hbm, 79, rfl⟩
abbrev main_while0b_v69 : Ref sig .tc := ⟨.hbm, 80, rfl⟩
abbrev main_while0b_v70 : Ref sig .tc := ⟨.hbm, 81, rfl⟩
abbrev main_while0b_v71 : Ref sig .tc := ⟨.hbm, 82, rfl⟩
abbrev main_while0b_cst_17 : Ref sig .tc := ⟨.hbm, 83, rfl⟩
abbrev main_while0b_v72 : Ref sig .tc := ⟨.hbm, 84, rfl⟩
abbrev main_while0b_v73 : Ref sig .tc := ⟨.hbm, 85, rfl⟩
abbrev main_while0b_v74 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_v83 : Ref sig .tc := ⟨.hbm, 95, rfl⟩
abbrev main_while0b_cst_18 : Ref sig .tc := ⟨.hbm, 96, rfl⟩
abbrev main_while0b_v84 : Ref sig .tc := ⟨.hbm, 97, rfl⟩
abbrev main_while0b_v85 : Ref sig .tc := ⟨.hbm, 98, rfl⟩
abbrev main_while0b_v86 : Ref sig .tc := ⟨.hbm, 99, rfl⟩
abbrev main_while0b_v87 : Ref sig .tc := ⟨.hbm, 100, rfl⟩
abbrev main_while0b_v88 : Ref sig .tc := ⟨.hbm, 101, rfl⟩
abbrev main_while0b_v89 : Ref sig .tc := ⟨.hbm, 102, rfl⟩
abbrev main_while0b_v90 : Ref sig .tc := ⟨.hbm, 103, rfl⟩
abbrev main_while0b_v91 : Ref sig .tc := ⟨.hbm, 104, rfl⟩
abbrev main_while0b_cst_19 : Ref sig .tc := ⟨.hbm, 105, rfl⟩
abbrev main_while0b_v92 : Ref sig .tc := ⟨.hbm, 106, rfl⟩
abbrev main_while0b_v93 : Ref sig .tc := ⟨.hbm, 107, rfl⟩
abbrev main_while0b_v94 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_v98 : Ref sig .tc := ⟨.hbm, 112, rfl⟩
abbrev main_while0b_v99 : Ref sig .tc := ⟨.hbm, 113, rfl⟩
abbrev main_while0b_v100 : Ref sig .tc := ⟨.hbm, 114, rfl⟩
abbrev main_while0b_v101 : Ref sig .tc := ⟨.hbm, 115, rfl⟩
abbrev main_while0b_v102 : Ref sig .tc := ⟨.hbm, 116, rfl⟩
abbrev main_while0b_v103 : Ref sig .tc := ⟨.hbm, 117, rfl⟩
abbrev main_while0b_call4_v0 : Ref sig .tc := ⟨.hbm, 118, rfl⟩
abbrev main_while0b_call4_c : Ref sig .tc := ⟨.hbm, 119, rfl⟩
abbrev main_while0b_call4_c_0 : Ref sig .tc := ⟨.hbm, 120, rfl⟩
abbrev main_while0b_call4_c_1 : Ref sig .tc := ⟨.hbm, 121, rfl⟩
abbrev main_while0b_call4_c_2 : Ref sig .tc := ⟨.hbm, 122, rfl⟩
abbrev main_while0b_v104 : Ref sig .tc := ⟨.hbm, 123, rfl⟩
abbrev main_while0b_c_20 : Ref sig .tc := ⟨.hbm, 124, rfl⟩
abbrev main_while0b_v105 : Ref sig .tc := ⟨.hbm, 125, rfl⟩
abbrev main_v17 : Ref sig .tc := ⟨.hbm, 126, rfl⟩
abbrev main_v18 : Ref sig .tc := ⟨.hbm, 127, rfl⟩
abbrev main_cst_3 : Ref sig .tc := ⟨.hbm, 128, rfl⟩
abbrev main_v19 : Ref sig .tc := ⟨.hbm, 129, rfl⟩
abbrev main_v20 : Ref sig .tc := ⟨.hbm, 130, rfl⟩
abbrev main_cst_4 : Ref sig .tc := ⟨.hbm, 131, rfl⟩
abbrev main_v21 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_cst_5 : Ref sig .tc := ⟨.hbm, 137, rfl⟩
abbrev main_v26 : Ref sig .tc := ⟨.hbm, 138, rfl⟩
abbrev main_v27 : Ref sig .tc := ⟨.hbm, 139, rfl⟩
abbrev main_cst_6 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_cst_7 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_v38 : Ref sig .tc := ⟨.hbm, 152, rfl⟩
abbrev main_v39 : Ref sig .tc := ⟨.hbm, 153, rfl⟩
abbrev main_call5_v0 : Ref sig .tc := ⟨.hbm, 154, rfl⟩
abbrev main_call5_v1 : Ref sig .tc := ⟨.hbm, 155, rfl⟩
abbrev main_call5_cst : Ref sig .tc := ⟨.hbm, 156, rfl⟩
abbrev main_call5_v2 : Ref sig .tc := ⟨.hbm, 157, rfl⟩
abbrev main_call5_v3 : Ref sig .tc := ⟨.hbm, 158, rfl⟩
abbrev main_call5_cst_0 : Ref sig .tc := ⟨.hbm, 159, rfl⟩
abbrev main_call5_v4 : Ref sig .tc := ⟨.hbm, 160, rfl⟩
abbrev main_call5_v5 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩

abbrev nD : Nat := 1
abbrev τ : Topo := Topo.v7x

variable {F : FTy → Type} [FloatOps F]

abbrev main_while0_count : Scf.Loop 32 := ⟨0#32, 16#32, 1#32⟩
-- ==== Experts.lean ====
abbrev S74752x1024 : Shape := ⟨2, ![74752, 1024]⟩
abbrev S292 : Shape := ⟨1, ![292]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S256x1024 : Shape := ⟨2, ![256, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S74752x1024, .f32⟩
  | .hbm, ⟨1, _⟩ => ⟨S2x32x1024x2048, .bf16⟩
  | .hbm, ⟨2, _⟩ => ⟨S2x32x1x2048, .f32⟩
  | .hbm, ⟨3, _⟩ => ⟨S2x32x1024x1024, .bf16⟩
  | .hbm, ⟨4, _⟩ => ⟨S2x32x1x1024, .f32⟩
  | .hbm, ⟨5, _⟩ => ⟨S74752x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .f32⟩
  | .local _ .vmem, ⟨11, _⟩ => ⟨S256x1024, .f32⟩
  | .local _ .smem, ⟨0, _⟩ => ⟨S292, .i32⟩
  | .local _ .smem, ⟨1, _⟩ => ⟨S1, .i32⟩
  | _, _ => ⟨S74752x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsReferenceIdeal.lean ====
abbrev S74752x1024 : Shape := ⟨2, ![74752, 1024]⟩
abbrev S292 : Shape := ⟨1, ![292]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S1x32x1024x2048 : Shape := ⟨4, ![1, 32, 1024, 2048]⟩
abbrev S32x1024x2048 : Shape := ⟨3, ![32, 1024, 2048]⟩
abbrev S1x32x1x2048 : Shape := ⟨4, ![1, 32, 1, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1x1024 : Shape := ⟨4, ![1, 32, 1, 1024]⟩
abbrev S32x1024 : Shape := ⟨2, ![32, 1024]⟩
abbrev S292x256x1024 : Shape := ⟨3, ![292, 256, 1024]⟩
abbrev S_ : Shape := ⟨0, ![]⟩
abbrev S292x1 : Shape := ⟨2, ![292, 1]⟩
abbrev S292x1024x2048 : Shape := ⟨3, ![292, 1024, 2048]⟩
abbrev S292x256x2048 : Shape := ⟨3, ![292, 256, 2048]⟩
abbrev S292x2048 : Shape := ⟨2, ![292, 2048]⟩
abbrev S292x1x2048 : Shape := ⟨3, ![292, 1, 2048]⟩
abbrev S292x1024x1024 : Shape := ⟨3, ![292, 1024, 1024]⟩
abbrev S292x1024 : Shape := ⟨2, ![292, 1024]⟩
abbrev S292x1x1024 : Shape := ⟨3, ![292, 1, 1024]⟩
abbrev S292x1x1 : Shape := ⟨3, ![292, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S74752x1024, .f32⟩
  | .hbm, ⟨1, _⟩ => ⟨S292, .i32⟩
  | .hbm, ⟨2, _⟩ => ⟨S1, .i32⟩
  | .hbm, ⟨3, _⟩ => ⟨S2x32x1024x2048, .bf16⟩
  | .hbm, ⟨4, _⟩ => ⟨S2x32x1x2048, .f32⟩
  | .hbm, ⟨5, _⟩ => ⟨S2x32x1024x1024, .bf16⟩
  | .hbm, ⟨6, _⟩ => ⟨S2x32x1x1024, .f32⟩
  | .hbm, ⟨7, _⟩ => ⟨S1x32x1024x2048, .bf16⟩
  | .hbm, ⟨8, _⟩ => ⟨S32x1024x2048, .bf16⟩
  | .hbm, ⟨9, _⟩ => ⟨S32x1024x2048, .f32⟩
  | .hbm, ⟨10, _⟩ => ⟨S1x32x1x2048, .f32⟩
  | .hbm, ⟨11, _⟩ => ⟨S32x2048, .f32⟩
  | .hbm, ⟨12, _⟩ => ⟨S1x32x1024x1024, .bf16⟩
  | .hbm, ⟨13, _⟩ => ⟨S32x1024x1024, .bf16⟩
  | .hbm, ⟨14, _⟩ => ⟨S32x1024x1024, .f32⟩
  | .hbm, ⟨15, _⟩ => ⟨S1x32x1x1024, .f32⟩
  | .hbm, ⟨16, _⟩ => ⟨S32x1024, .f32⟩
  | .hbm, ⟨17, _⟩ => ⟨S292x256x1024, .f32⟩
  | .hbm, ⟨18, _⟩ => ⟨S_, .i32⟩
  | .hbm, ⟨19, _⟩ => ⟨S292, .i32⟩
  | .hbm, ⟨20, _⟩ => ⟨S292, .i1⟩
  | .hbm, ⟨21, _⟩ => ⟨S_, .i32⟩
  | .hbm, ⟨22, _⟩ => ⟨S292, .i32⟩
  | .hbm, ⟨23, _⟩ => ⟨S292, .i32⟩
  | .hbm, ⟨24, _⟩ => ⟨S292, .i32⟩
  | .hbm, ⟨25, _⟩ => ⟨S292x1, .i32⟩
  | .hbm, ⟨26, _⟩ => ⟨S292x1024x2048, .f32⟩
  | .hbm, ⟨27, _⟩ => ⟨S292x256x2048, .f32⟩
  | .hbm, ⟨28, _⟩ => ⟨S_, .i32⟩
  | .hbm, ⟨29, _⟩ => ⟨S292, .i32⟩
  | .hbm, ⟨30, _⟩ => ⟨S292, .i1⟩
  | .hbm, ⟨31, _⟩ => ⟨S_, .i32⟩
  | .hbm, ⟨32, _⟩ => ⟨S292, .i32⟩
  | .hbm, ⟨33, _⟩ => ⟨S292, .i32⟩
  | .hbm, ⟨34, _⟩ => ⟨S292, .i32⟩
  | .hbm, ⟨35, _⟩ => ⟨S292x1, .i32⟩
  | .hbm, ⟨36, _⟩ => ⟨S292x2048, .f32⟩
  | .hbm, ⟨37, _⟩ => ⟨S292x1x2048, .f32⟩
  | .hbm, ⟨38, _⟩ => ⟨S292x256x2048, .f32⟩
  | .hbm, ⟨39, _⟩ => ⟨S292x256x2048, .f32⟩
  | .hbm, ⟨40, _⟩ => ⟨S292x256x1024, .f32⟩
  | .hbm, ⟨41, _⟩ => ⟨S292x256x1024, .f32⟩
  | .hbm, ⟨42, _⟩ => ⟨S_, .f32⟩
  | .hbm, ⟨43, _⟩ => ⟨S292x256x1024, .f32⟩
  | .hbm, ⟨44, _⟩ => ⟨S292x256x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S292x256x1024, .f32⟩
  | .hbm, ⟨49, _⟩ => ⟨S292x256x1024, .f32⟩
  | .hbm, ⟨50, _⟩ => ⟨S_, .f32⟩
  | .hbm, ⟨51, _⟩ => ⟨S292x256x1024, .f32⟩
  | .hbm, ⟨52, _⟩ => ⟨S292x256x1024, .f32⟩
  | .hbm, ⟨53, _⟩ => ⟨S_, .f32⟩
  | .hbm, ⟨54, _⟩ => ⟨S292x256x1024, .f32⟩
  | .hbm, ⟨55, _⟩ => ⟨S292x256x1024, .f32⟩
  | .hbm, ⟨56, _⟩ => ⟨S292x256x1024, .f32⟩
  | .hbm, ⟨57, _⟩ => ⟨S_, .f32⟩
  | .hbm, ⟨58, _⟩ => ⟨S292x256x1024, .f32⟩
  | .hbm, ⟨59, _⟩ => ⟨S292x256x1024, .f32⟩
  | .hbm, ⟨60, _⟩ => ⟨S292x256x1024, .f32⟩
  | .hbm, ⟨61, _⟩ => ⟨S292x256x1024, .f32⟩
  | .hbm, ⟨62, _⟩ => ⟨S_, .f32⟩
  | .hbm, ⟨63, _⟩ => ⟨S292x256x1024, .f32⟩
  | .hbm, ⟨64, _⟩ => ⟨S292x256x1024, .f32⟩
  | .hbm, ⟨65, _⟩ => ⟨S_, .f32⟩
  | .hbm, ⟨66, _⟩ => ⟨S292x256x1024, .f32⟩
  | .hbm, ⟨67, _⟩ => ⟨S292x256x1024, .f32⟩
  | .hbm, ⟨68, _⟩ => ⟨S292x256x1024, .f32⟩
  | .hbm, ⟨69, _⟩ => ⟨S_, .i32⟩
  | .hbm, ⟨70, _⟩ => ⟨S292, .i32⟩
  | .hbm, ⟨71, _⟩ => ⟨S292, .i1⟩
  | .hbm, ⟨72, _⟩ => ⟨S_, .i32⟩
  | .hbm, ⟨73, _⟩ => ⟨S292, .i32⟩
  | .hbm, ⟨74, _⟩ => ⟨S292, .i32⟩
  | .hbm, ⟨75, _⟩ => ⟨S292, .i32⟩
  | .hbm, ⟨76, _⟩ => ⟨S292x1, .i32⟩
  | .hbm, ⟨77, _⟩ => ⟨S292x1024x1024, .f32⟩
  | .hbm, ⟨78, _⟩ => ⟨S292x256x1024, .f32⟩
  | .hbm, ⟨79, _⟩ => ⟨S_, .i32⟩
  | .hbm, ⟨80, _⟩ => ⟨S292, .i32⟩
  | .hbm, ⟨81, _⟩ => ⟨S292, .i1⟩
  | .hbm, ⟨82, _⟩ => ⟨S_, .i32⟩
  | .hbm, ⟨83, _⟩ => ⟨S292, .i32⟩
  | .hbm, ⟨84, _⟩ => ⟨S292, .i32⟩
  | .hbm, ⟨85, _⟩ => ⟨S292, .i32⟩
  | .hbm, ⟨86, _⟩ => ⟨S292x1, .i32⟩
  | .hbm, ⟨87, _⟩ => ⟨S292x1024, .f32⟩
  | .hbm, ⟨88, _⟩ => ⟨S292x1x1024, .f32⟩
  | .hbm, ⟨89, _⟩ => ⟨S292x256x1024, .f32⟩
  | .hbm, ⟨90, _⟩ => ⟨S292x256x1024, .f32⟩
  | .hbm, ⟨91, _⟩ => ⟨S292, .i32⟩
  | .hbm, ⟨92, _⟩ => ⟨S292, .i32⟩
  | .hbm, ⟨93, _⟩ => ⟨S292, .i1⟩
  | .hbm, ⟨94, _⟩ => ⟨S292x1x1, .i1⟩
  | .hbm, ⟨95, _⟩ => ⟨S_, .f32⟩
  | .hbm, ⟨96, _⟩ => ⟨S_, .f32⟩
  | .hbm, ⟨97, _⟩ => ⟨S292x256x1024, .i1⟩
  | .hbm, ⟨98, _⟩ => ⟨S292x256x1024, .f32⟩
  | .hbm, ⟨99, _⟩ => ⟨S292x256x1024, .f32⟩
  | .hbm, ⟨100, _⟩ => ⟨S74752x1024, .f32⟩
  | _, _ => ⟨S74752x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== ExpertsNext.lean ====
abbrev S74752x1024 : Shape := ⟨2, ![74752, 1024]⟩
abbrev S292 : Shape := ⟨1, ![292]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S256x1024 : Shape := ⟨2, ![256, 1024]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S1024x2048 : Shape := ⟨2, ![1024, 2048]⟩
abbrev S256x2048 : Shape := ⟨2, ![256, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S74752x1024, .f32⟩
  | .hbm, ⟨1, _⟩ => ⟨S2x32x1024x2048, .bf16⟩
  | .hbm, ⟨2, _⟩ => ⟨S2x32x1x2048, .f32⟩
  | .hbm, ⟨3, _⟩ => ⟨S2x32x1024x1024, .bf16⟩
  | .hbm, ⟨4, _⟩ => ⟨S2x32x1x1024, .f32⟩
  | .hbm, ⟨5, _⟩ => ⟨S74752x1024, .f32⟩
  | .local _ .vmem, ⟨0, _⟩ => ⟨S256x1024, .f32⟩
  | .local _ .vmem, ⟨1, _⟩ => ⟨S256x1024, .f32⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .bf16⟩
  | .local _ .vmem, ⟨7, _⟩ => ⟨S1x1x1024x1024, .bf16⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .f32⟩
  | .local _ .vmem, ⟨11, _⟩ => ⟨S256x1024, .f32⟩
  | .local _ .smem, ⟨0, _⟩ => ⟨S292, .i32⟩
  | .local _ .smem, ⟨1, _⟩ => ⟨S1, .i32⟩
  | _, _ => ⟨S74752x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ExpertsNextReferenceIdeal.lean ====
abbrev S74752x1024 : Shape := ⟨2, ![74752, 1024]⟩
abbrev S292 : Shape := ⟨1, ![292]⟩
abbrev S1 : Shape := ⟨1, ![1]⟩
abbrev S2x32x1024x2048 : Shape := ⟨4, ![2, 32, 1024, 2048]⟩
abbrev S2x32x1x2048 : Shape := ⟨4, ![2, 32, 1, 2048]⟩
abbrev S2x32x1024x1024 : Shape := ⟨4, ![2, 32, 1024, 1024]⟩
abbrev S2x32x1x1024 : Shape := ⟨4, ![2, 32, 1, 1024]⟩
abbrev S1x32x1024x2048 : Shape := ⟨4, ![1, 32, 1024, 2048]⟩
abbrev S32x1024x2048 : Shape := ⟨3, ![32, 1024, 2048]⟩
abbrev S1x32x1x2048 : Shape := ⟨4, ![1, 32, 1, 2048]⟩
abbrev S32x2048 : Shape := ⟨2, ![32, 2048]⟩
abbrev S1x32x1024x1024 : Shape := ⟨4, ![1, 32, 1024, 1024]⟩
abbrev S32x1024x1024 : Shape := ⟨3, ![32, 1024, 1024]⟩
abbrev S1x32x1x1024 : Shape := ⟨4, ![1, 32, 1, 1024]⟩
abbrev S32x1024 : Shape := ⟨2, ![32, 1024]⟩
abbrev S292x256x1024 : Shape := ⟨3, ![292, 256, 1024]⟩
abbrev S_ : Shape := ⟨0, ![]⟩
abbrev S292x1 : Shape := ⟨2, ![292, 1]⟩
abbrev S292x1024x2048 : Shape := ⟨3, ![292, 1024, 2048]⟩
abbrev S292x256x2048 : Shape := ⟨3, ![292, 256, 2048]⟩
abbrev S292x2048 : Shape := ⟨2, ![292, 2048]⟩
abbrev S292x1x2048 : Shape := ⟨3, ![292, 1, 2048]⟩
abbrev S292x1024x1024 : Shape := ⟨3, ![292, 1024, 1024]⟩
abbrev S292x1024 : Shape := ⟨2, ![292, 1024]⟩
abbrev S292x1x1024 : Shape := ⟨3, ![292, 1, 1024]⟩
abbrev S292x1x1 : Shape := ⟨3, ![292, 1, 1]⟩

abbrev nBuf : Space → Nat
  | .hbm => 101
  | .vmem => 0
  | .smem => 0
  | _ => 0

abbrev bufTy : (tb : Table) → Fin (tcTables nBuf tb) → BufTy
  | .hbm, ⟨0, _⟩ => ⟨S74752x1024, .f32⟩
  | .hbm, ⟨1, _⟩ => ⟨S292, .i32⟩
  | .hbm, ⟨2, _⟩ => ⟨S1, .i32⟩
  | .hbm, ⟨3, _⟩ => ⟨S2x32x1024x2048, .bf16⟩
  | .hbm, ⟨4, _⟩ => ⟨S2x32x1x2048, .f32⟩
  | .hbm, ⟨5, _⟩ => ⟨S2x32x1024x1024, .bf16⟩
  | .hbm, ⟨6, _⟩ => ⟨S2x32x1x1024, .f32⟩
  | .hbm, ⟨7, _⟩ => ⟨S1x32x1024x2048, .bf16⟩
  | .hbm, ⟨8, _⟩ => ⟨S32x1024x2048, .bf16⟩
  | .hbm, ⟨9, _⟩ => ⟨S32x1024x2048, .f32⟩
  | .hbm, ⟨10, _⟩ => ⟨S1x32x1x2048, .f32⟩
  | .hbm, ⟨11, _⟩ => ⟨S32x2048, .f32⟩
  | .hbm, ⟨12, _⟩ => ⟨S1x32x1024x1024, .bf16⟩
  | .hbm, ⟨13, _⟩ => ⟨S32x1024x1024, .bf16⟩
  | .hbm, ⟨14, _⟩ => ⟨S32x1024x1024, .f32⟩
  | .hbm, ⟨15, _⟩ => ⟨S1x32x1x1024, .f32⟩
  | .hbm, ⟨16, _⟩ => ⟨S32x1024, .f32⟩
  | .hbm, ⟨17, _⟩ => ⟨S292x256x1024, .f32⟩
  | .hbm, ⟨18, _⟩ => ⟨S_, .i32⟩
  | .hbm, ⟨19, _⟩ => ⟨S292, .i32⟩
  | .hbm, ⟨20, _⟩ => ⟨S292, .i1⟩
  | .hbm, ⟨21, _⟩ => ⟨S_, .i32⟩
  | .hbm, ⟨22, _⟩ => ⟨S292, .i32⟩
  | .hbm, ⟨23, _⟩ => ⟨S292, .i32⟩
  | .hbm, ⟨24, _⟩ => ⟨S292, .i32⟩
  | .hbm, ⟨25, _⟩ => ⟨S292x1, .i32⟩
  | .hbm, ⟨26, _⟩ => ⟨S292x1024x2048, .f32⟩
  | .hbm, ⟨27, _⟩ => ⟨S292x256x2048, .f32⟩
  | .hbm, ⟨28, _⟩ => ⟨S_, .i32⟩
  | .hbm, ⟨29, _⟩ => ⟨S292, .i32⟩
  | .hbm, ⟨30, _⟩ => ⟨S292, .i1⟩
  | .hbm, ⟨31, _⟩ => ⟨S_, .i32⟩
  | .hbm, ⟨32, _⟩ => ⟨S292, .i32⟩
  | .hbm, ⟨33, _⟩ => ⟨S292, .i32⟩
  | .hbm, ⟨34, _⟩ => ⟨S292, .i32⟩
  | .hbm, ⟨35, _⟩ => ⟨S292x1, .i32⟩
  | .hbm, ⟨36, _⟩ => ⟨S292x2048, .f32⟩
  | .hbm, ⟨37, _⟩ => ⟨S292x1x2048, .f32⟩
  | .hbm, ⟨38, _⟩ => ⟨S292x256x2048, .f32⟩
  | .hbm, ⟨39, _⟩ => ⟨S292x256x2048, .f32⟩
  | .hbm, ⟨40, _⟩ => ⟨S292x256x1024, .f32⟩
  | .hbm, ⟨41, _⟩ => ⟨S292x256x1024, .f32⟩
  | .hbm, ⟨42, _⟩ => ⟨S_, .f32⟩
  | .hbm, ⟨43, _⟩ => ⟨S292x256x1024, .f32⟩
  | .hbm, ⟨44, _⟩ => ⟨S292x256x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S292x256x1024, .f32⟩
  | .hbm, ⟨49, _⟩ => ⟨S292x256x1024, .f32⟩
  | .hbm, ⟨50, _⟩ => ⟨S_, .f32⟩
  | .hbm, ⟨51, _⟩ => ⟨S292x256x1024, .f32⟩
  | .hbm, ⟨52, _⟩ => ⟨S292x256x1024, .f32⟩
  | .hbm, ⟨53, _⟩ => ⟨S_, .f32⟩
  | .hbm, ⟨54, _⟩ => ⟨S292x256x1024, .f32⟩
  | .hbm, ⟨55, _⟩ => ⟨S292x256x1024, .f32⟩
  | .hbm, ⟨56, _⟩ => ⟨S292x256x1024, .f32⟩
  | .hbm, ⟨57, _⟩ => ⟨S_, .f32⟩
  | .hbm, ⟨58, _⟩ => ⟨S292x256x1024, .f32⟩
  | .hbm, ⟨59, _⟩ => ⟨S292x256x1024, .f32⟩
  | .hbm, ⟨60, _⟩ => ⟨S292x256x1024, .f32⟩
  | .hbm, ⟨61, _⟩ => ⟨S292x256x1024, .f32⟩
  | .hbm, ⟨62, _⟩ => ⟨S_, .f32⟩
  | .hbm, ⟨63, _⟩ => ⟨S292x256x1024, .f32⟩
  | .hbm, ⟨64, _⟩ => ⟨S292x256x1024, .f32⟩
  | .hbm, ⟨65, _⟩ => ⟨S_, .f32⟩
  | .hbm, ⟨66, _⟩ => ⟨S292x256x1024, .f32⟩
  | .hbm, ⟨67, _⟩ => ⟨S292x256x1024, .f32⟩
  | .hbm, ⟨68, _⟩ => ⟨S292x256x1024, .f32⟩
  | .hbm, ⟨69, _⟩ => ⟨S_, .i32⟩
  | .hbm, ⟨70, _⟩ => ⟨S292, .i32⟩
  | .hbm, ⟨71, _⟩ => ⟨S292, .i1⟩
  | .hbm, ⟨72, _⟩ => ⟨S_, .i32⟩
  | .hbm, ⟨73, _⟩ => ⟨S292, .i32⟩
  | .hbm, ⟨74, _⟩ => ⟨S292, .i32⟩
  | .hbm, ⟨75, _⟩ => ⟨S292, .i32⟩
  | .hbm, ⟨76, _⟩ => ⟨S292x1, .i32⟩
  | .hbm, ⟨77, _⟩ => ⟨S292x1024x1024, .f32⟩
  | .hbm, ⟨78, _⟩ => ⟨S292x256x1024, .f32⟩
  | .hbm, ⟨79, _⟩ => ⟨S_, .i32⟩
  | .hbm, ⟨80, _⟩ => ⟨S292, .i32⟩
  | .hbm, ⟨81, _⟩ => ⟨S292, .i1⟩
  | .hbm, ⟨82, _⟩ => ⟨S_, .i32⟩
  | .hbm, ⟨83, _⟩ => ⟨S292, .i32⟩
  | .hbm, ⟨84, _⟩ => ⟨S292, .i32⟩
  | .hbm, ⟨85, _⟩ => ⟨S292, .i32⟩
  | .hbm, ⟨86, _⟩ => ⟨S292x1, .i32⟩
  | .hbm, ⟨87, _⟩ => ⟨S292x1024, .f32⟩
  | .hbm, ⟨88, _⟩ => ⟨S292x1x1024, .f32⟩
  | .hbm, ⟨89, _⟩ => ⟨S292x256x1024, .f32⟩
  | .hbm, ⟨90, _⟩ => ⟨S292x256x1024, .f32⟩
  | .hbm, ⟨91, _⟩ => ⟨S292, .i32⟩
  | .hbm, ⟨92, _⟩ => ⟨S292, .i32⟩
  | .hbm, ⟨93, _⟩ => ⟨S292, .i1⟩
  | .hbm, ⟨94, _⟩ => ⟨S292x1x1, .i1⟩
  | .hbm, ⟨95, _⟩ => ⟨S_, .f32⟩
  | .hbm, ⟨96, _⟩ => ⟨S_, .f32⟩
  | .hbm, ⟨97, _⟩ => ⟨S292x256x1024, .i1⟩
  | .hbm, ⟨98, _⟩ => ⟨S292x256x1024, .f32⟩
  | .hbm, ⟨99, _⟩ => ⟨S292x256x1024, .f32⟩
  | .hbm, ⟨100, _⟩ => ⟨S74752x1024, .f32⟩
  | _, _ => ⟨S74752x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_v12 : Ref sig .tc := ⟨.hbm, 20, rfl⟩
abbrev main_c_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_c_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v33 : Ref sig .tc := ⟨.hbm, 52, rfl⟩
abbrev main_cst_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_c_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_c_12 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_13 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_v68 : Ref sig .tc := ⟨.hbm, 99, rfl⟩
abbrev main_v69 : Ref sig .tc := ⟨.hbm, 100, rfl⟩

abbrev nD : Nat := 1
abbrev τ : Topo := Topo.v7x

variable {F : FTy → Type} [FloatOps F]
-- ==== RetProj.lean ====
abbrev S8x2048x1024 : Shape := ⟨3, ![8, 2048, 1024]⟩
abbrev S32x8x1024 : Shape := ⟨3, ![32, 8, 1024]⟩
abbrev S40x1024 : Shape := ⟨2, ![40, 1024]⟩
abbrev S1024x6144 : Shape := ⟨2, ![1024, 6144]⟩
abbrev S16384x1024 : Shape := ⟨2, ![16384, 1024]⟩
abbrev S256x1024 : Shape := ⟨2, ![256, 1024]⟩
abbrev S16640x1024 : Shape := ⟨2, ![16640, 1024]⟩
abbrev S256 : Shape := ⟨1, ![256]⟩
abbrev S_ : Shape := ⟨0, ![]⟩
abbrev S2048 : Shape := ⟨1, ![2048]⟩
abbrev S2304 : Shape := ⟨1, ![2304]⟩
abbrev S128 : Shape := ⟨1, ![128]⟩
abbrev S2304x1 : Shape := ⟨2, ![2304, 1]⟩
abbrev S1x128 : Shape := ⟨2, ![1, 128]⟩
abbrev S2304x128 : Shape := ⟨2, ![2304, 128]⟩
abbrev S9x256x128 : Shape := ⟨3, ![9, 256, 128]⟩
abbrev S8x1024 : Shape := ⟨2, ![8, 1024]⟩
abbrev S8x1x1024 : Shape := ⟨3, ![8, 1, 1024]⟩
abbrev S8x256x1024 : Shape := ⟨3, ![8, 256, 1024]⟩
abbrev S32x1024 : Shape := ⟨2, ![32, 1024]⟩
abbrev S1x256x1024 : Shape := ⟨3, ![1, 256, 1024]⟩
abbrev S9x256x1024 : Shape := ⟨3, ![9, 256, 1024]⟩
abbrev S16640x2048 : Shape := ⟨2, ![16640, 2048]⟩
abbrev S1x256x128 : Shape := ⟨3, ![1, 256, 128]⟩
abbrev S256x2048 : Shape := ⟨2, ![256, 2048]⟩
abbrev S256x128 : Shape := ⟨2, ![256, 128]⟩
abbrev S1024x1024 : Shape := ⟨2, ![1024, 1024]⟩
abbrev S1024x2048 : Shape := ⟨2, ![1024, 2048]⟩

abbrev nBuf : Space → Nat
  | .hbm => 78
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S32x8x1024, .f32⟩
  | .hbm, ⟨2, _⟩ => ⟨S40x1024, .f32⟩
  | .hbm, ⟨3, _⟩ => ⟨S40x1024, .f32⟩
  | .hbm, ⟨4, _⟩ => ⟨S1024x6144, .f32⟩
  | .hbm, ⟨5, _⟩ => ⟨S16384x1024, .f32⟩
  | .hbm, ⟨6, _⟩ => ⟨S256x1024, .f32⟩
  | .hbm, ⟨7, _⟩ => ⟨S16640x1024, .f32⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S_, .i1⟩
  | .hbm, ⟨25, _⟩ => ⟨S256, .i1⟩
  | .hbm, ⟨26, _⟩ => ⟨S256, .i1⟩
  | .hbm, ⟨27, _⟩ => ⟨S256, .i1⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S2048, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S2304, .i32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S2304, .f32⟩
  | .hbm, ⟨48, _⟩ => ⟨S2304x1, .f32⟩
  | .hbm, ⟨49, _⟩ => ⟨S1x128, .f32⟩
  | .hbm, ⟨50, _⟩ => ⟨S2304x128, .f32⟩
  | .hbm, ⟨51, _⟩ => ⟨S2304x128, .f32⟩
  | .hbm, ⟨52, _⟩ => ⟨S2304x128, .f32⟩
  | .hbm, ⟨53, _⟩ => ⟨S2304x128, .f32⟩
  | .hbm, ⟨54, _⟩ => ⟨S2304x128, .f32⟩
  | .hbm, ⟨55, _⟩ => ⟨S9x256x128, .f32⟩
  | .hbm, ⟨56, _⟩ => ⟨S9x256x128, .f32⟩
  | .hbm, ⟨57, _⟩ => ⟨S8x1024, .f32⟩
  | .hbm, ⟨58, _⟩ => ⟨S8x1x1024, .f32⟩
  | .hbm, ⟨59, _⟩ => ⟨S8x256x1024, .f32⟩
  | .hbm, ⟨60, _⟩ => ⟨S32x1024, .f32⟩
  | .hbm, ⟨61, _⟩ => ⟨S32x8x1024, .f32⟩
  | .hbm, ⟨62, _⟩ => ⟨S256x1024, .f32⟩
  | .hbm, ⟨63, _⟩ => ⟨S1x256x1024, .f32⟩
  | .hbm, ⟨64, _⟩ => ⟨S9x256x1024, .f32⟩
  | .hbm, ⟨65, _⟩ => ⟨S8x1024, .f32⟩
  | .hbm, ⟨66, _⟩ => ⟨S8x1x1024, .f32⟩
  | .hbm, ⟨67, _⟩ => ⟨S8x256x1024, .f32⟩
  | .hbm, ⟨68, _⟩ => ⟨S32x1024, .f32⟩
  | .hbm, ⟨69, _⟩ => ⟨S32x8x1024, .f32⟩
  | .hbm, ⟨70, _⟩ => ⟨S256x1024, .f32⟩
  | .hbm, ⟨71, _⟩ => ⟨S1x256x1024, .f32⟩
  | .hbm, ⟨72, _⟩ => ⟨S9x256x1024, .f32⟩
  | .hbm, ⟨73, _⟩ => ⟨S1024x6144, .bf16⟩
  | .hbm, ⟨74, _⟩ => ⟨S16640x1024, .bf16⟩
  | .hbm, ⟨75, _⟩ => ⟨S16640x1024, .f32⟩
  | .hbm, ⟨76, _⟩ => ⟨S16640x2048, .bf16⟩
  | .hbm, ⟨77, _⟩ => ⟨S16640x2048, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x6144, .bf16⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S256x2048, .bf16⟩
  | .local _ .vmem, ⟨16, _⟩ => ⟨S256x2048, .bf16⟩
  | .local _ .vmem, ⟨17, _⟩ => ⟨S256x2048, .f32⟩
  | .local _ .vmem, ⟨18, _⟩ => ⟨S256x2048, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_c_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44_0 : Ref sig .tc := ⟨.hbm, 74, rfl⟩
abbrev main_v44_1 : Ref sig .tc := ⟨.hbm, 75, rfl⟩
abbrev main_v44_2 : Ref sig .tc := ⟨.hbm, 76, rfl⟩
abbrev main_v44_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.addi c8_i32_3 arg0
  let c64_i32_4 : BitVec 32 := 64#32
  let v12 : BitVec 32 := Scalar.subi v11 c64_i32_4
  let v13 : BitVec 32 := Scalar.select v0 v10 v12
  let c0_i32_5 : BitVec 32 := 0#32
  let c0_i32_6 : BitVec 32 := 0#32
  let c0_i32_7 : BitVec 32 := 0#32
  ![v13.toNat, c0_i32_5.toNat, c0_i32_6.toNat]

def cc0_transform_5 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.addi c8_i32_3 arg0
  let c64_i32_4 : BitVec 32 := 64#32
  let v12 : BitVec 32 := Scalar.subi v11 c64_i32_4
  let v13 : BitVec 32 := Scalar.select v0 v10 v12
  let c0_i32_5 : BitVec 32 := 0#32
  let c0_i32_6 : BitVec 32 := 0#32
  let c0_i32_7 : BitVec 32 := 0#32
  ![v13.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x6144 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RetProjReferenceIdeal.lean ====
abbrev S8x2048x1024 : Shape := ⟨3, ![8, 2048, 1024]⟩
abbrev S32x8x1024 : Shape := ⟨3, ![32, 8, 1024]⟩
abbrev S40x1024 : Shape := ⟨2, ![40, 1024]⟩
abbrev S1024x6144 : Shape := ⟨2, ![1024, 6144]⟩
abbrev S8x1024 : Shape := ⟨2, ![8, 1024]⟩
abbrev S8x1x1024 : Shape := ⟨3, ![8, 1, 1024]⟩
abbrev S_ : Shape := ⟨0, ![]⟩
abbrev S32x1024 : Shape := ⟨2, ![32, 1024]⟩
abbrev S32x1x1024 : Shape := ⟨3, ![32, 1, 1024]⟩
abbrev S8 : Shape := ⟨1, ![8]⟩
abbrev S2048 : Shape := ⟨1, ![2048]⟩
abbrev S8x2048x6144 : Shape := ⟨3, ![8, 2048, 6144]⟩
abbrev S8x2048x4x256 : Shape := ⟨4, ![8, 2048, 4, 256]⟩
abbrev S8x2048x2048 : Shape := ⟨3, ![8, 2048, 2048]⟩
abbrev S8x2048x4x512 : Shape := ⟨4, ![8, 2048, 4, 512]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S2048x1x128 : Shape := ⟨3, ![2048, 1, 128]⟩
abbrev S8x2048x4x128 : Shape := ⟨4, ![8, 2048, 4, 128]⟩
abbrev S1x2048x1x128 : Shape := ⟨4, ![1, 2048, 1, 128]⟩
abbrev S32x8x6144 : Shape := ⟨3, ![32, 8, 6144]⟩
abbrev S32x8x4x256 : Shape := ⟨4, ![32, 8, 4, 256]⟩
abbrev S32x8x2048 : Shape := ⟨3, ![32, 8, 2048]⟩
abbrev S32x8x4x512 : Shape := ⟨4, ![32, 8, 4, 512]⟩
abbrev S8x1 : Shape := ⟨2, ![8, 1]⟩
abbrev S8x128 : Shape := ⟨2, ![8, 128]⟩
abbrev S8x1x128 : Shape := ⟨3, ![8, 1, 128]⟩
abbrev S32x8x4x128 : Shape := ⟨4, ![32, 8, 4, 128]⟩
abbrev S1x8x1x128 : Shape := ⟨4, ![1, 8, 1, 128]⟩
abbrev S16384x1024 : Shape := ⟨2, ![16384, 1024]⟩
abbrev S256x1024 : Shape := ⟨2, ![256, 1024]⟩
abbrev S16640x1024 : Shape := ⟨2, ![16640, 1024]⟩
abbrev S16384x2048 : Shape := ⟨2, ![16384, 2048]⟩
abbrev S256x2048 : Shape := ⟨2, ![256, 2048]⟩
abbrev S16640x2048 : Shape := ⟨2, ![16640, 2048]⟩

abbrev nBuf : Space → Nat
  | .hbm => 211
  | .vmem => 0
  | .smem => 0
  | _ => 0

abbrev hbmTy0_0 (i : Nat) : BufTy := match i % 128 with
  | 0 => ⟨S8x2048x1024, .f32⟩
  | 1 => ⟨S32x8x1024, .f32⟩
  | 2 => ⟨S40x1024, .f32⟩
  | 3 => ⟨S40x1024, .f32⟩
  | 4 => ⟨S1024x6144, .f32⟩
  | 5 => ⟨S8x1024, .f32⟩
  | 6 => ⟨S8x1x1024, .f32⟩
  | 7 => ⟨S8x1024, .f32⟩
  | 8 => ⟨S8x1x1024, .f32⟩
  | 9 => ⟨S_, .f32⟩
  | 10 => ⟨S8x1x1024, .f32⟩
  | 11 => ⟨S8x1x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S32x1024, .f32⟩
  | 17 => ⟨S32x1x1024, .f32⟩
  | 18 => ⟨S32x1024, .f32⟩
  | 19 => ⟨S32x1x1024, .f32⟩
  | 20 => ⟨S_, .f32⟩
  | 21 => ⟨S32x1x1024, .f32⟩
  | 22 => ⟨S32x1x1024, .f32⟩
  | 23 => ⟨S32x8x1024, .f32⟩
  | 24 => ⟨S32x8x1024, .f32⟩
  | 25 => ⟨S32x8x1024, .f32⟩
  | 26 => ⟨S32x8x1024, .f32⟩
  | 27 => ⟨S8, .i32⟩
  | 28 => ⟨S_, .i32⟩
  | 29 => ⟨S8, .i32⟩
  | 30 => ⟨S8, .i32⟩
  | 31 => ⟨S_, .i32⟩
  | 32 => ⟨S8, .i32⟩
  | 33 => ⟨S8, .i32⟩
  | 34 => ⟨S2048, .i32⟩
  | 35 => ⟨S8x2048x6144, .f32⟩
  | 36 => ⟨S8x2048x1024, .f32⟩
  | 37 => ⟨S8x2048x4x256, .f32⟩
  | 38 => ⟨S8x2048x1024, .f32⟩
  | 39 => ⟨S8x2048x4x256, .f32⟩
  | 40 => ⟨S8x2048x2048, .f32⟩
  | 41 => ⟨S8x2048x4x512, .f32⟩
  | 42 => ⟨S8x2048x2048, .f32⟩
  | 43 => ⟨S128, .f32⟩
  | 44 => ⟨S128, .f32⟩
  | 45 => ⟨S_, .f32⟩
  | 46 => ⟨S128, .f32⟩
  | 47 => ⟨S128, .f32⟩
  | 48 => ⟨S_, .f32⟩
  | 49 => ⟨S128, .f32⟩
  | 50 => ⟨S128, .f32⟩
  | 51 => ⟨S2048, .f32⟩
  | 52 => ⟨S2048x1, .f32⟩
  | 53 => ⟨S1x128, .f32⟩
  | 54 => ⟨S2048x128, .f32⟩
  | 55 => ⟨S2048x128, .f32⟩
  | 56 => ⟨S2048x128, .f32⟩
  | 57 => ⟨S2048x128, .f32⟩
  | 58 => ⟨S2048x1x128, .f32⟩
  | 59 => ⟨S2048x128, .f32⟩
  | 60 => ⟨S2048x1x128, .f32⟩
  | 61 => ⟨S8x2048x4x128, .f32⟩
  | 62 => ⟨S8x2048x4x128, .f32⟩
  | 63 => ⟨S1x2048x1x128, .f32⟩
  | 64 => ⟨S8x2048x4x128, .f32⟩
  | 65 => ⟨S8x2048x4x128, .f32⟩
  | 66 => ⟨S1x2048x1x128, .f32⟩
  | 67 => ⟨S8x2048x4x128, .f32⟩
  | 68 => ⟨S8x2048x4x128, .f32⟩
  | 69 => ⟨S8x2048x4x128, .f32⟩
  | 70 => ⟨S1x2048x1x128, .f32⟩
  | 71 => ⟨S8x2048x4x128, .f32⟩
  | 72 => ⟨S8x2048x4x128, .f32⟩
  | 73 => ⟨S1x2048x1x128, .f32⟩
  | 74 => ⟨S8x2048x4x128, .f32⟩
  | 75 => ⟨S8x2048x4x128, .f32⟩
  | 76 => ⟨S8x2048x4x128, .f32⟩
  | 77 => ⟨S8x2048x4x256, .f32⟩
  | 78 => ⟨S128, .f32⟩
  | 79 => ⟨S128, .f32⟩
  | 80 => ⟨S_, .f32⟩
  | 81 => ⟨S128, .f32⟩
  | 82 => ⟨S128, .f32⟩
  | 83 => ⟨S_, .f32⟩
  | 84 => ⟨S128, .f32⟩
  | 85 => ⟨S128, .f32⟩
  | 86 => ⟨S2048, .f32⟩
  | 87 => ⟨S2048x1, .f32⟩
  | 88 => ⟨S1x128, .f32⟩
  | 89 => ⟨S2048x128, .f32⟩
  | 90 => ⟨S2048x128, .f32⟩
  | 91 => ⟨S2048x128, .f32⟩
  | 92 => ⟨S2048x128, .f32⟩
  | 93 => ⟨S2048x1x128, .f32⟩
  | 94 => ⟨S2048x128, .f32⟩
  | 95 => ⟨S2048x1x128, .f32⟩
  | 96 => ⟨S8x2048x4x128, .f32⟩
  | 97 => ⟨S8x2048x4x128, .f32⟩
  | 98 => ⟨S1x2048x1x128, .f32⟩
  | 99 => ⟨S8x2048x4x128, .f32⟩
  | 100 => ⟨S8x2048x4x128, .f32⟩
  | 101 => ⟨S1x2048x1x128, .f32⟩
  | 102 => ⟨S8x2048x4x128, .f32⟩
  | 103 => ⟨S8x2048x4x128, .f32⟩
  | 104 => ⟨S8x2048x4x128, .f32⟩
  | 105 => ⟨S1x2048x1x128, .f32⟩
  | 106 => ⟨S8x2048x4x128, .f32⟩
  | 107 => ⟨S8x2048x4x128, .f32⟩
  | 108 => ⟨S1x2048x1x128, .f32⟩
  | 109 => ⟨S8x2048x4x128, .f32⟩
  | 110 => ⟨S8x2048x4x128, .f32⟩
  | 111 => ⟨S8x2048x4x128, .f32⟩
  | 112 => ⟨S8x2048x4x256, .f32⟩
  | 113 => ⟨S_, .f32⟩
  | 114 => ⟨S8x2048x4x256, .f32⟩
  | 115 => ⟨S8x2048x4x256, .f32⟩
  | 116 => ⟨S32x8x6144, .f32⟩
  | 117 => ⟨S32x8x1024, .f32⟩
  | 118 => ⟨S32x8x4x256, .f32⟩
  | 119 => ⟨S32x8x1024, .f32⟩
  | 120 => ⟨S32x8x4x256, .f32⟩
  | 121 => ⟨S32x8x2048, .f32⟩
  | 122 => ⟨S32x8x4x512, .f32⟩
  | 123 => ⟨S32x8x2048, .f32⟩
  | 124 => ⟨S128, .f32⟩
  | 125 => ⟨S128, .f32⟩
  | 126 => ⟨S_, .f32⟩
  | 127 => ⟨S128, .f32⟩
  | _ => ⟨S8x2048x1024, .f32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S8, .f32⟩
  | 5 => ⟨S8x1, .f32⟩
  | 6 => ⟨S1x128, .f32⟩
  | 7 => ⟨S8x128, .f32⟩
  | 8 => ⟨S8x128, .f32⟩
  | 9 => ⟨S8x128, .f32⟩
  | 10 => ⟨S8x128, .f32⟩
  | 11 => ⟨S8x1x128, .f32⟩
  | 12 => ⟨S8x128, .f32⟩
  | 13 => ⟨S8x1x128, .f32⟩
  | 14 => ⟨S32x8x4x128, .f32⟩
  | 15 => ⟨S32x8x4x128, .f32⟩
  | 16 => ⟨S1x8x1x128, .f32⟩
  | 17 => ⟨S32x8x4x128, .f32⟩
  | 18 => ⟨S32x8x4x128, .f32⟩
  | 19 => ⟨S1x8x1x128, .f32⟩
  | 20 => ⟨S32x8x4x128, .f32⟩
  | 21 => ⟨S32x8x4x128, .f32⟩
  | 22 => ⟨S32x8x4x128, .f32⟩
  | 23 => ⟨S1x8x1x128, .f32⟩
  | 24 => ⟨S32x8x4x128, .f32⟩
  | 25 => ⟨S32x8x4x128, .f32⟩
  | 26 => ⟨S1x8x1x128, .f32⟩
  | 27 => ⟨S32x8x4x128, .f32⟩
  | 28 => ⟨S32x8x4x128, .f32⟩
  | 29 => ⟨S32x8x4x128, .f32⟩
  | 30 => ⟨S32x8x4x256, .f32⟩
  | 31 => ⟨S128, .f32⟩
  | 32 => ⟨S128, .f32⟩
  | 33 => ⟨S_, .f32⟩
  | 34 => ⟨S128, .f32⟩
  | 35 => ⟨S128, .f32⟩
  | 36 => ⟨S_, .f32⟩
  | 37 => ⟨S128, .f32⟩
  | 38 => ⟨S128, .f32⟩
  | 39 => ⟨S8, .f32⟩
  | 40 => ⟨S8x1, .f32⟩
  | 41 => ⟨S1x128, .f32⟩
  | 42 => ⟨S8x128, .f32⟩
  | 43 => ⟨S8x128, .f32⟩
  | 44 => ⟨S8x128, .f32⟩
  | 45 => ⟨S8x128, .f32⟩
  | 46 => ⟨S8x1x128, .f32⟩
  | 47 => ⟨S8x128, .f32⟩
  | 48 => ⟨S8x1x128, .f32⟩
  | 49 => ⟨S32x8x4x128, .f32⟩
  | 50 => ⟨S32x8x4x128, .f32⟩
  | 51 => ⟨S1x8x1x128, .f32⟩
  | 52 => ⟨S32x8x4x128, .f32⟩
  | 53 => ⟨S32x8x4x128, .f32⟩
  | 54 => ⟨S1x8x1x128, .f32⟩
  | 55 => ⟨S32x8x4x128, .f32⟩
  | 56 => ⟨S32x8x4x128, .f32⟩
  | 57 => ⟨S32x8x4x128, .f32⟩
  | 58 => ⟨S1x8x1x128, .f32⟩
  | 59 => ⟨S32x8x4x128, .f32⟩
  | 60 => ⟨S32x8x4x128, .f32⟩
  | 61 => ⟨S1x8x1x128, .f32⟩
  | 62 => ⟨S32x8x4x128, .f32⟩
  | 63 => ⟨S32x8x4x128, .f32⟩
  | 64 => ⟨S32x8x4x128, .f32⟩
  | 65 => ⟨S32x8x4x256, .f32⟩
  | 66 => ⟨S_, .f32⟩
  | 67 => ⟨S32x8x4x256, .f32⟩
  | 68 => ⟨S32x8x4x256, .f32⟩
  | 69 => ⟨S16384x1024, .f32⟩
  | 70 => ⟨S256x1024, .f32⟩
  | 71 => ⟨S16640x1024, .f32⟩
  | 72 => ⟨S16384x1024, .f32⟩
  | 73 => ⟨S256x1024, .f32⟩
  | 74 => ⟨S16640x1024, .f32⟩
  | 75 => ⟨S16384x2048, .f32⟩
  | 76 => ⟨S256x2048, .f32⟩
  | 77 => ⟨S16640x2048, .f32⟩
  | 78 => ⟨S16384x2048, .f32⟩
  | 79 => ⟨S256x2048, .f32⟩
  | 80 => ⟨S16640x2048, .f32⟩
  | 81 => ⟨S16640x1024, .bf16⟩
  | 82 => ⟨S16640x2048, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_cst_4 : Ref sig .tc := ⟨.hbm, 80, rfl⟩
abbrev main_v69 : Ref sig .tc := ⟨.hbm, 81, rfl⟩
abbrev main_v70 : Ref sig .tc := ⟨.hbm, 82, rfl⟩
abbrev main_cst_5 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_cst_6 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_cst_7 : Ref sig .tc := ⟨.hbm, 126, rfl⟩
abbrev main_v112 : Ref sig .tc := ⟨.hbm, 127, rfl⟩
abbrev main_v113 : Ref sig .tc := ⟨.hbm, 128, rfl⟩
abbrev main_cst_8 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_cst_9 : Ref sig .tc := ⟨.hbm, 161, rfl⟩
abbrev main_v145 : Ref sig .tc := ⟨.hbm, 162, rfl⟩
abbrev main_v146 : Ref sig .tc := ⟨.hbm, 163, rfl⟩
abbrev main_cst_10 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_cst_11 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩

abbrev nD : Nat := 1
abbrev τ : Topo := Topo.v7x

variable {F : FTy → Type} [FloatOps F]
-- ==== AttnProj.lean ====
abbrev S8x2048x1024 : Shape := ⟨3, ![8, 2048, 1024]⟩
abbrev S32x8x1024 : Shape := ⟨3, ![32, 8, 1024]⟩
abbrev S40x1024 : Shape := ⟨2, ![40, 1024]⟩
abbrev S1024x3072 : Shape := ⟨2, ![1024, 3072]⟩
abbrev S16384x1024 : Shape := ⟨2, ![16384, 1024]⟩
abbrev S256x1024 : Shape := ⟨2, ![256, 1024]⟩
abbrev S16640x1024 : Shape := ⟨2, ![16640, 1024]⟩
abbrev S256 : Shape := ⟨1, ![256]⟩
abbrev S_ : Shape := ⟨0, ![]⟩
abbrev S2048 : Shape := ⟨1, ![2048]⟩
abbrev S2304 : Shape := ⟨1, ![2304]⟩
abbrev S8 : Shape := ⟨1, ![8]⟩
abbrev S2304x1 : Shape := ⟨2, ![2304, 1]⟩
abbrev S1x8 : Shape := ⟨2, ![1, 8]⟩
abbrev S2304x8 : Shape := ⟨2, ![2304, 8]⟩
abbrev S2304x48 : Shape := ⟨2, ![2304, 48]⟩
abbrev S2304x64 : Shape := ⟨2, ![2304, 64]⟩
abbrev S2304x128 : Shape := ⟨2, ![2304, 128]⟩
abbrev S9x256x128 : Shape := ⟨3, ![9, 256, 128]⟩
abbrev S8x1024 : Shape := ⟨2, ![8, 1024]⟩
abbrev S8x1x1024 : Shape := ⟨3, ![8, 1, 1024]⟩
abbrev S8x256x1024 : Shape := ⟨3, ![8, 256, 1024]⟩
abbrev S32x1024 : Shape := ⟨2, ![32, 1024]⟩
abbrev S1x256x1024 : Shape := ⟨3, ![1, 256, 1024]⟩
abbrev S9x256x1024 : Shape := ⟨3, ![9, 256, 1024]⟩
abbrev S65x1x1024 : Shape := ⟨3, ![65, 1, 1024]⟩
abbrev S1x256x128 : Shape := ⟨3, ![1, 256, 128]⟩
abbrev S1x1x1024 : Shape := ⟨3, ![1, 1, 1024]⟩
abbrev S256x128 : Shape := ⟨2, ![256, 128]⟩
abbrev S1024x1024 : Shape := ⟨2, ![1024, 1024]⟩
abbrev S128 : Shape := ⟨1, ![128]⟩
abbrev S1x128 : Shape := ⟨2, ![1, 128]⟩
abbrev S1x1x128 : Shape := ⟨3, ![1, 1, 128]⟩

abbrev nBuf : Space → Nat
  | .hbm => 94
  | .vmem => 25
  | .smem => 0
  | _ => 0

abbrev bufTy : (tb : Table) → Fin (tcTables nBuf tb) → BufTy
  | .hbm, ⟨0, _⟩ => ⟨S8x2048x1024, .f32⟩
  | .hbm, ⟨1, _⟩ => ⟨S32x8x1024, .f32⟩
  | .hbm, ⟨2, _⟩ => ⟨S40x1024, .f32⟩
  | .hbm, ⟨3, _⟩ => ⟨S40x1024, .f32⟩
  | .hbm, ⟨4, _⟩ => ⟨S1024x3072, .f32⟩
  | .hbm, ⟨5, _⟩ => ⟨S16384x1024, .f32⟩
  | .hbm, ⟨6, _⟩ => ⟨S256x1024, .f32⟩
  | .hbm, ⟨7, _⟩ => ⟨S16640x1024, .f32⟩
  | .hbm, ⟨8, _⟩ => ⟨S256, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i1⟩
  | .hbm, ⟨23, _⟩ => ⟨S_, .i32⟩
  | .hbm, ⟨24, _⟩ => ⟨S_, .i1⟩
  | .hbm, ⟨25, _⟩ => ⟨S256, .i1⟩
  | .hbm, ⟨26, _⟩ => ⟨S256, .i1⟩
  | .hbm, ⟨27, _⟩ => ⟨S256, .i1⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S2048, .i32⟩
  | .hbm, ⟨32, _⟩ => ⟨S_, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S2304, .i32⟩
  | .hbm, ⟨39, _⟩ => ⟨S8, .f32⟩
  | .hbm, ⟨40, _⟩ => ⟨S8, .f32⟩
  | .hbm, ⟨41, _⟩ => ⟨S_, .f32⟩
  | .hbm, ⟨42, _⟩ => ⟨S8, .f32⟩
  | .hbm, ⟨43, _⟩ => ⟨S8, .f32⟩
  | .hbm, ⟨44, _⟩ => ⟨S_, .f32⟩
  | .hbm, ⟨45, _⟩ => ⟨S8, .f32⟩
  | .hbm, ⟨46, _⟩ => ⟨S8, .f32⟩
  | .hbm, ⟨47, _⟩ => ⟨S2304, .f32⟩
  | .hbm, ⟨48, _⟩ => ⟨S2304x1, .f32⟩
  | .hbm, ⟨49, _⟩ => ⟨S1x8, .f32⟩
  | .hbm, ⟨50, _⟩ => ⟨S2304x8, .f32⟩
  | .hbm, ⟨51, _⟩ => ⟨S2304x8, .f32⟩
  | .hbm, ⟨52, _⟩ => ⟨S2304x8, .f32⟩
  | .hbm, ⟨53, _⟩ => ⟨S2304x8, .f32⟩
  | .hbm, ⟨54, _⟩ => ⟨S2304x8, .f32⟩
  | .hbm, ⟨55, _⟩ => ⟨S_, .f32⟩
  | .hbm, ⟨56, _⟩ => ⟨S2304x48, .f32⟩
  | .hbm, ⟨57, _⟩ => ⟨S_, .f32⟩
  | .hbm, ⟨58, _⟩ => ⟨S2304x8, .f32⟩
  | .hbm, ⟨59, _⟩ => ⟨S_, .f32⟩
  | .hbm, ⟨60, _⟩ => ⟨S2304x48, .f32⟩
  | .hbm, ⟨61, _⟩ => ⟨S2304x64, .f32⟩
  | .hbm, ⟨62, _⟩ => ⟨S2304x8, .f32⟩
  | .hbm, ⟨63, _⟩ => ⟨S2304x64, .f32⟩
  | .hbm, ⟨64, _⟩ => ⟨S2304x64, .f32⟩
  | .hbm, ⟨65, _⟩ => ⟨S2304x128, .f32⟩
  | .hbm, ⟨66, _⟩ => ⟨S9x256x128, .f32⟩
  | .hbm, ⟨67, _⟩ => ⟨S2304x128, .f32⟩
  | .hbm, ⟨68, _⟩ => ⟨S9x256x128, .f32⟩
  | .hbm, ⟨69, _⟩ => ⟨S2304x128, .f32⟩
  | .hbm, ⟨70, _⟩ => ⟨S9x256x128, .f32⟩
  | .hbm, ⟨71, _⟩ => ⟨S8x1024, .f32⟩
  | .hbm, ⟨72, _⟩ => ⟨S8x1x1024, .f32⟩
  | .hbm, ⟨73, _⟩ => ⟨S8x256x1024, .f32⟩
  | .hbm, ⟨74, _⟩ => ⟨S32x1024, .f32⟩
  | .hbm, ⟨75, _⟩ => ⟨S32x8x1024, .f32⟩
  | .hbm, ⟨76, _⟩ => ⟨S256x1024, .f32⟩
  | .hbm, ⟨77, _⟩ => ⟨S1x256x1024, .f32⟩
  | .hbm, ⟨78, _⟩ => ⟨S9x256x1024, .f32⟩
  | .hbm, ⟨79, _⟩ => ⟨S8x1024, .f32⟩
  | .hbm, ⟨80, _⟩ => ⟨S8x1x1024, .f32⟩
  | .hbm, ⟨81, _⟩ => ⟨S8x256x1024, .f32⟩
  | .hbm, ⟨82, _⟩ => ⟨S32x1024, .f32⟩
  | .hbm, ⟨83, _⟩ => ⟨S32x8x1024, .f32⟩
  | .hbm, ⟨84, _⟩ => ⟨S256x1024, .f32⟩
  | .hbm, ⟨85, _⟩ => ⟨S1x256x1024, .f32⟩
  | .hbm, ⟨86, _⟩ => ⟨S9x256x1024, .f32⟩
  | .hbm, ⟨87, _⟩ => ⟨S1024x3072, .bf16⟩
  | .hbm, ⟨88, _⟩ => ⟨S16640x1024, .bf16⟩
  | .hbm, ⟨89, _⟩ => ⟨S16640x1024, .f32⟩
  | .hbm, ⟨90, _⟩ => ⟨S16640x1024, .bf16⟩
  | .hbm, ⟨91, _⟩ => ⟨S16640x1024, .f32⟩
  | .hbm, ⟨92, _⟩ => ⟨S16640x1024, .bf16⟩
  | .hbm, ⟨93, _⟩ => ⟨S65x1x1024, .f32⟩
  | .local _ .vmem, ⟨0, _⟩ => ⟨S256x1024, .f32⟩
  | .local _ .vmem, ⟨1, _⟩ => ⟨S256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1024x3072, .bf16⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S1x1x1024, .f32⟩
  | .local _ .vmem, ⟨24, _⟩ => ⟨S1x1x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_c_1 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_cst : Ref sig .tc := ⟨.hbm, 41, rfl⟩
abbrev main_v13 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_cst_4 : Ref sig .tc := ⟨.hbm, 57, rfl⟩
abbrev main_v26 : Ref sig .tc := ⟨.hbm, 58, rfl⟩
abbrev main_cst_5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55_0 : Ref sig .tc := ⟨.hbm, 88, rfl⟩
abbrev main_v55_1 : Ref sig .tc := ⟨.hbm, 89, rfl⟩
abbrev main_v55_2 : Ref sig .tc := ⟨.hbm, 90, rfl⟩
abbrev main_v55_3 : Ref sig .tc := ⟨.hbm, 91, rfl⟩
abbrev main_v55_4 : Ref sig .tc := ⟨.hbm, 92, rfl⟩
abbrev main_v55_5 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.addi c8_i32_3 arg0
  let c64_i32_4 : BitVec 32 := 64#32
  let v12 : BitVec 32 := Scalar.subi v11 c64_i32_4
  let v13 : BitVec 32 := Scalar.select v0 v10 v12
  let c0_i32_5 : BitVec 32 := 0#32
  let c0_i32_6 : BitVec 32 := 0#32
  let c0_i32_7 : BitVec 32 := 0#32
  ![v13.toNat, c0_i32_5.toNat, c0_i32_6.toNat]

def cc0_transform_5 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.addi c8_i32_3 arg0
  let c64_i32_4 : BitVec 32 := 64#32
  let v12 : BitVec 32 := Scalar.subi v11 c64_i32_4
  let v13 : BitVec 32 := Scalar.select v0 v10 v12
  let c0_i32_5 : BitVec 32 := 0#32
  let c0_i32_6 : BitVec 32 := 0#32
  let c0_i32_7 : BitVec 32 := 0#32
  ![v13.toNat, c0_i32_5.toNat, c0_i32_6.toNat]

def cc0_transform_6 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let c0_i32 : BitVec 32 := 0#32
  let v1 : BitVec 1 := Scalar.cmpi .eq c8_i32 c0_i32
  let c1_i32 : BitVec 32 := 1#32
  let v2 : BitVec 32 := Scalar.select v1 c1_i32 c8_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c8_i32_3 : BitVec 32 := 8#32
  let v11 : BitVec 32 := Scalar.addi c8_i32_3 arg0
  let c64_i32_4 : BitVec 32 := 64#32
  let v12 : BitVec 32 := Scalar.subi v11 c64_i32_4
  let v13 : BitVec 32 := Scalar.select v0 v10 v12
  let c0_i32_5 : BitVec 32 := 0#32
  let c0_i32_6 : BitVec 32 := 0#32
  let c0_i32_7 : BitVec 32 := 0#32
  ![v13.toNat, c0_i32_5.toNat, c0_i32_6.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnProjReferenceIdeal.lean ====
abbrev S8x2048x1024 : Shape := ⟨3, ![8, 2048, 1024]⟩
abbrev S32x8x1024 : Shape := ⟨3, ![32, 8, 1024]⟩
abbrev S40x1024 : Shape := ⟨2, ![40, 1024]⟩
abbrev S1024x3072 : Shape := ⟨2, ![1024, 3072]⟩
abbrev S8x1024 : Shape := ⟨2, ![8, 1024]⟩
abbrev S8x1x1024 : Shape := ⟨3, ![8, 1, 1024]⟩
abbrev S_ : Shape := ⟨0, ![]⟩
abbrev S32x1024 : Shape := ⟨2, ![32, 1024]⟩
abbrev S32x1x1024 : Shape := ⟨3, ![32, 1, 1024]⟩
abbrev S8 : Shape := ⟨1, ![8]⟩
abbrev S2048 : Shape := ⟨1, ![2048]⟩
abbrev S8x2048x3072 : Shape := ⟨3, ![8, 2048, 3072]⟩
abbrev S8x2048x16x64 : Shape := ⟨4, ![8, 2048, 16, 64]⟩
abbrev S2048x1 : Shape := ⟨2, ![2048, 1]⟩
abbrev S1x8 : Shape := ⟨2, ![1, 8]⟩
abbrev S2048x8 : Shape := ⟨2, ![2048, 8]⟩
abbrev S2048x1x8 : Shape := ⟨3, ![2048, 1, 8]⟩
abbrev S8x2048x16x8 : Shape := ⟨4, ![8, 2048, 16, 8]⟩
abbrev S1x2048x1x8 : Shape := ⟨4, ![1, 2048, 1, 8]⟩
abbrev S8x2048x16x48 : Shape := ⟨4, ![8, 2048, 16, 48]⟩
abbrev S32x8x3072 : Shape := ⟨3, ![32, 8, 3072]⟩
abbrev S32x8x16x64 : Shape := ⟨4, ![32, 8, 16, 64]⟩
abbrev S8x1 : Shape := ⟨2, ![8, 1]⟩
abbrev S8x8 : Shape := ⟨2, ![8, 8]⟩
abbrev S8x1x8 : Shape := ⟨3, ![8, 1, 8]⟩
abbrev S32x8x16x8 : Shape := ⟨4, ![32, 8, 16, 8]⟩
abbrev S1x8x1x8 : Shape := ⟨4, ![1, 8, 1, 8]⟩
abbrev S32x8x16x48 : Shape := ⟨4, ![32, 8, 16, 48]⟩
abbrev S16384x1024 : Shape := ⟨2, ![16384, 1024]⟩
abbrev S256x1024 : Shape := ⟨2, ![256, 1024]⟩
abbrev S16640x1024 : Shape := ⟨2, ![16640, 1024]⟩
abbrev S65x256x1024 : Shape := ⟨3, ![65, 256, 1024]⟩
abbrev S65x1024 : Shape := ⟨2, ![65, 1024]⟩
abbrev S65x1x1024 : Shape := ⟨3, ![65, 1, 1024]⟩

abbrev nBuf : Space → Nat
  | .hbm => 215
  | .vmem => 0
  | .smem => 0
  | _ => 0

abbrev hbmTy0_0 (i : Nat) : BufTy := match i % 128 with
  | 0 => ⟨S8x2048x1024, .f32⟩
  | 1 => ⟨S32x8x1024, .f32⟩
  | 2 => ⟨S40x1024, .f32⟩
  | 3 => ⟨S40x1024, .f32⟩
  | 4 => ⟨S1024x3072, .f32⟩
  | 5 => ⟨S8x1024, .f32⟩
  | 6 => ⟨S8x1x1024, .f32⟩
  | 7 => ⟨S8x1024, .f32⟩
  | 8 => ⟨S8x1x1024, .f32⟩
  | 9 => ⟨S_, .f32⟩
  | 10 => ⟨S8x1x1024, .f32⟩
  | 11 => ⟨S8x1x1024, .f32⟩
  | 12 => ⟨S8x2048x1024, .f32⟩
  | 13 => ⟨S8x2048x1024, .f32⟩
  | 14 => ⟨S8x2048x1024, .f32⟩
  | 15 => ⟨S8x2048x1024, .f32⟩
  | 16 => ⟨S32x1024, .f32⟩
  | 17 => ⟨S32x1x1024, .f32⟩
  | 18 => ⟨S32x1024, .f32⟩
  | 19 => ⟨S32x1x1024, .f32⟩
  | 20 => ⟨S_, .f32⟩
  | 21 => ⟨S32x1x1024, .f32⟩
  | 22 => ⟨S32x1x1024, .f32⟩
  | 23 => ⟨S32x8x1024, .f32⟩
  | 24 => ⟨S32x8x1024, .f32⟩
  | 25 => ⟨S32x8x1024, .f32⟩
  | 26 => ⟨S32x8x1024, .f32⟩
  | 27 => ⟨S8, .i32⟩
  | 28 => ⟨S_, .i32⟩
  | 29 => ⟨S8, .i32⟩
  | 30 => ⟨S8, .i32⟩
  | 31 => ⟨S_, .i32⟩
  | 32 => ⟨S8, .i32⟩
  | 33 => ⟨S8, .i32⟩
  | 34 => ⟨S2048, .i32⟩
  | 35 => ⟨S8x2048x3072, .f32⟩
  | 36 => ⟨S8x2048x1024, .f32⟩
  | 37 => ⟨S8x2048x1024, .f32⟩
  | 38 => ⟨S8x2048x1024, .f32⟩
  | 39 => ⟨S8x2048x16x64, .f32⟩
  | 40 => ⟨S8, .f32⟩
  | 41 => ⟨S8, .f32⟩
  | 42 => ⟨S_, .f32⟩
  | 43 => ⟨S8, .f32⟩
  | 44 => ⟨S8, .f32⟩
  | 45 => ⟨S_, .f32⟩
  | 46 => ⟨S8, .f32⟩
  | 47 => ⟨S8, .f32⟩
  | 48 => ⟨S2048, .f32⟩
  | 49 => ⟨S2048x1, .f32⟩
  | 50 => ⟨S1x8, .f32⟩
  | 51 => ⟨S2048x8, .f32⟩
  | 52 => ⟨S2048x8, .f32⟩
  | 53 => ⟨S2048x8, .f32⟩
  | 54 => ⟨S2048x8, .f32⟩
  | 55 => ⟨S2048x1x8, .f32⟩
  | 56 => ⟨S2048x8, .f32⟩
  | 57 => ⟨S2048x1x8, .f32⟩
  | 58 => ⟨S8x2048x16x8, .f32⟩
  | 59 => ⟨S8x2048x16x8, .f32⟩
  | 60 => ⟨S1x2048x1x8, .f32⟩
  | 61 => ⟨S8x2048x16x8, .f32⟩
  | 62 => ⟨S8x2048x16x8, .f32⟩
  | 63 => ⟨S1x2048x1x8, .f32⟩
  | 64 => ⟨S8x2048x16x8, .f32⟩
  | 65 => ⟨S8x2048x16x8, .f32⟩
  | 66 => ⟨S8x2048x16x8, .f32⟩
  | 67 => ⟨S1x2048x1x8, .f32⟩
  | 68 => ⟨S8x2048x16x8, .f32⟩
  | 69 => ⟨S8x2048x16x8, .f32⟩
  | 70 => ⟨S1x2048x1x8, .f32⟩
  | 71 => ⟨S8x2048x16x8, .f32⟩
  | 72 => ⟨S8x2048x16x8, .f32⟩
  | 73 => ⟨S8x2048x16x8, .f32⟩
  | 74 => ⟨S8x2048x16x48, .f32⟩
  | 75 => ⟨S8x2048x16x64, .f32⟩
  | 76 => ⟨S8x2048x16x64, .f32⟩
  | 77 => ⟨S8, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S2048, .f32⟩
  | 86 => ⟨S2048x1, .f32⟩
  | 87 => ⟨S1x8, .f32⟩
  | 88 => ⟨S2048x8, .f32⟩
  | 89 => ⟨S2048x8, .f32⟩
  | 90 => ⟨S2048x8, .f32⟩
  | 91 => ⟨S2048x8, .f32⟩
  | 92 => ⟨S2048x1x8, .f32⟩
  | 93 => ⟨S2048x8, .f32⟩
  | 94 => ⟨S2048x1x8, .f32⟩
  | 95 => ⟨S8x2048x16x8, .f32⟩
  | 96 => ⟨S8x2048x16x8, .f32⟩
  | 97 => ⟨S1x2048x1x8, .f32⟩
  | 98 => ⟨S8x2048x16x8, .f32⟩
  | 99 => ⟨S8x2048x16x8, .f32⟩
  | 100 => ⟨S1x2048x1x8, .f32⟩
  | 101 => ⟨S8x2048x16x8, .f32⟩
  | 102 => ⟨S8x2048x16x8, .f32⟩
  | 103 => ⟨S8x2048x16x8, .f32⟩
  | 104 => ⟨S1x2048x1x8, .f32⟩
  | 105 => ⟨S8x2048x16x8, .f32⟩
  | 106 => ⟨S8x2048x16x8, .f32⟩
  | 107 => ⟨S1x2048x1x8, .f32⟩
  | 108 => ⟨S8x2048x16x8, .f32⟩
  | 109 => ⟨S8x2048x16x8, .f32⟩
  | 110 => ⟨S8x2048x16x8, .f32⟩
  | 111 => ⟨S8x2048x16x48, .f32⟩
  | 112 => ⟨S8x2048x16x64, .f32⟩
  | 113 => ⟨S8x2048x16x64, .f32⟩
  | 114 => ⟨S32x8x3072, .f32⟩
  | 115 => ⟨S32x8x1024, .f32⟩
  | 116 => ⟨S32x8x1024, .f32⟩
  | 117 => ⟨S32x8x1024, .f32⟩
  | 118 => ⟨S32x8x16x64, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S8, .f32⟩
  | _ => ⟨S8x2048x1024, .f32⟩

abbrev hbmTy0_1 (i : Nat) : BufTy := match i % 128 with
  | 0 => ⟨S8x1, .f32⟩
  | 1 => ⟨S1x8, .f32⟩
  | 2 => ⟨S8x8, .f32⟩
  | 3 => ⟨S8x8, .f32⟩
  | 4 => ⟨S8x8, .f32⟩
  | 5 => ⟨S8x8, .f32⟩
  | 6 => ⟨S8x1x8, .f32⟩
  | 7 => ⟨S8x8, .f32⟩
  | 8 => ⟨S8x1x8, .f32⟩
  | 9 => ⟨S32x8x16x8, .f32⟩
  | 10 => ⟨S32x8x16x8, .f32⟩
  | 11 => ⟨S1x8x1x8, .f32⟩
  | 12 => ⟨S32x8x16x8, .f32⟩
  | 13 => ⟨S32x8x16x8, .f32⟩
  | 14 => ⟨S1x8x1x8, .f32⟩
  | 15 => ⟨S32x8x16x8, .f32⟩
  | 16 => ⟨S32x8x16x8, .f32⟩
  | 17 => ⟨S32x8x16x8, .f32⟩
  | 18 => ⟨S1x8x1x8, .f32⟩
  | 19 => ⟨S32x8x16x8, .f32⟩
  | 20 => ⟨S32x8x16x8, .f32⟩
  | 21 => ⟨S1x8x1x8, .f32⟩
  | 22 => ⟨S32x8x16x8, .f32⟩
  | 23 => ⟨S32x8x16x8, .f32⟩
  | 24 => ⟨S32x8x16x8, .f32⟩
  | 25 => ⟨S32x8x16x48, .f32⟩
  | 26 => ⟨S32x8x16x64, .f32⟩
  | 27 => ⟨S32x8x16x64, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S8, .f32⟩
  | 37 => ⟨S8x1, .f32⟩
  | 38 => ⟨S1x8, .f32⟩
  | 39 => ⟨S8x8, .f32⟩
  | 40 => ⟨S8x8, .f32⟩
  | 41 => ⟨S8x8, .f32⟩
  | 42 => ⟨S8x8, .f32⟩
  | 43 => ⟨S8x1x8, .f32⟩
  | 44 => ⟨S8x8, .f32⟩
  | 45 => ⟨S8x1x8, .f32⟩
  | 46 => ⟨S32x8x16x8, .f32⟩
  | 47 => ⟨S32x8x16x8, .f32⟩
  | 48 => ⟨S1x8x1x8, .f32⟩
  | 49 => ⟨S32x8x16x8, .f32⟩
  | 50 => ⟨S32x8x16x8, .f32⟩
  | 51 => ⟨S1x8x1x8, .f32⟩
  | 52 => ⟨S32x8x16x8, .f32⟩
  | 53 => ⟨S32x8x16x8, .f32⟩
  | 54 => ⟨S32x8x16x8, .f32⟩
  | 55 => ⟨S1x8x1x8, .f32⟩
  | 56 => ⟨S32x8x16x8, .f32⟩
  | 57 => ⟨S32x8x16x8, .f32⟩
  | 58 => ⟨S1x8x1x8, .f32⟩
  | 59 => ⟨S32x8x16x8, .f32⟩
  | 60 => ⟨S32x8x16x8, .f32⟩
  | 61 => ⟨S32x8x16x8, .f32⟩
  | 62 => ⟨S32x8x16x48, .f32⟩
  | 63 => ⟨S32x8x16x64, .f32⟩
  | 64 => ⟨S32x8x16x64, .f32⟩
  | 65 => ⟨S16384x1024, .f32⟩
  | 66 => ⟨S256x1024, .f32⟩
  | 67 => ⟨S16640x1024, .f32⟩
  | 68 => ⟨S16384x1024, .f32⟩
  | 69 => ⟨S256x1024, .f32⟩
  | 70 => ⟨S16640x1024, .f32⟩
  | 71 => ⟨S16384x1024, .f32⟩
  | 72 => ⟨S256x1024, .f32⟩
  | 73 => ⟨S16640x1024, .f32⟩
  | 74 => ⟨S65x256x1024, .f32⟩
  | 75 => ⟨S_, .f32⟩
  | 76 => ⟨S65x1024, .f32⟩
  | 77 => ⟨S65x1x1024, .f32⟩
  | 78 => ⟨S_, .f32⟩
  | 79 => ⟨S65x1x1024, .f32⟩
  | 80 => ⟨S65x1x1024, .f32⟩
  | 81 => ⟨S_, .f32⟩
  | 82 => ⟨S16640x1024, .f32⟩
  | 83 => ⟨S16640x1024, .f32⟩
  | 84 => ⟨S16640x1024, .bf16⟩
  | 85 => ⟨S16640x1024, .bf16⟩
  | 86 => ⟨S16640x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_c_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_cst_5 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_cst_6 : Ref sig .tc := ⟨.hbm, 121, rfl⟩
abbrev main_v108 : Ref sig .tc := ⟨.hbm, 122, rfl⟩
abbrev main_v109 : Ref sig .tc := ⟨.hbm, 123, rfl⟩
abbrev main_cst_7 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_v128 : Ref sig .tc := ⟨.hbm, 143, rfl⟩
abbrev main_v129 : Ref sig .tc := ⟨.hbm, 144, rfl⟩
abbrev main_v130 : Ref sig .tc := ⟨.hbm, 145, rfl⟩
abbrev main_v131 : Ref sig .tc := ⟨.hbm, 146, rfl⟩
abbrev main_v132 : Ref sig .tc := ⟨.hbm, 147, rfl⟩
abbrev main_v133 : Ref sig .tc := ⟨.hbm, 148, rfl⟩
abbrev main_v134 : Ref sig .tc := ⟨.hbm, 149, rfl⟩
abbrev main_v135 : Ref sig .tc := ⟨.hbm, 150, rfl⟩
abbrev main_v136 : Ref sig .tc := ⟨.hbm, 151, rfl⟩
abbrev main_v137 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_cst_8 : Ref sig .tc := ⟨.hbm, 158, rfl⟩
abbrev main_v143 : Ref sig .tc := ⟨.hbm, 159, rfl⟩
abbrev main_v144 : Ref sig .tc := ⟨.hbm, 160, rfl⟩
abbrev main_cst_9 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_cst_10 : Ref sig .tc := ⟨.hbm, 203, rfl⟩
abbrev main_v186 : Ref sig .tc := ⟨.hbm, 204, rfl⟩
abbrev main_v187 : Ref sig .tc := ⟨.hbm, 205, rfl⟩
abbrev main_cst_11 : Ref sig .tc := ⟨.hbm, 206, rfl⟩
abbrev main_v188 : Ref sig .tc := ⟨.hbm, 207, rfl⟩
abbrev main_v189 : Ref sig .tc := ⟨.hbm, 208, rfl⟩
abbrev main_cst_12 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩

abbrev nD : Nat := 1
abbrev τ : Topo := Topo.v7x

variable {F : FTy → Type} [FloatOps F]
-- ==== RetSample.lean ====
abbrev S32x8x4x256 : Shape := ⟨4, ![32, 8, 4, 256]⟩
abbrev S32x8x4x512 : Shape := ⟨4, ![32, 8, 4, 512]⟩
abbrev S32x8x2048 : Shape := ⟨3, ![32, 8, 2048]⟩
abbrev S32x4x256x512 : Shape := ⟨4, ![32, 4, 256, 512]⟩
abbrev S4x512 : Shape := ⟨2, ![4, 512]⟩
abbrev S256x1024 : Shape := ⟨2, ![256, 1024]⟩
abbrev S256x2048 : Shape := ⟨2, ![256, 2048]⟩
abbrev S4 : Shape := ⟨1, ![4]⟩
abbrev S_ : Shape := ⟨0, ![]⟩
abbrev S4x1 : Shape := ⟨2, ![4, 1]⟩
abbrev S1x4 : Shape := ⟨2, ![1, 4]⟩
abbrev S4x4 : Shape := ⟨2, ![4, 4]⟩
abbrev S1x4x4 : Shape := ⟨3, ![1, 4, 4]⟩
abbrev S4x1x1 : Shape := ⟨3, ![4, 1, 1]⟩
abbrev S4x4x4 : Shape := ⟨3, ![4, 4, 4]⟩
abbrev S4x8x8 : Shape := ⟨3, ![4, 8, 8]⟩
abbrev S4x8 : Shape := ⟨2, ![4, 8]⟩
abbrev S4x8x1 : Shape := ⟨3, ![4, 8, 1]⟩
abbrev S4x1x512 : Shape := ⟨3, ![4, 1, 512]⟩
abbrev S8x256 : Shape := ⟨2, ![8, 256]⟩
abbrev S8x512 : Shape := ⟨2, ![8, 512]⟩
abbrev S1x8x8 : Shape := ⟨3, ![1, 8, 8]⟩
abbrev S1x8x1 : Shape := ⟨3, ![1, 8, 1]⟩
abbrev S1x1x512 : Shape := ⟨3, ![1, 1, 512]⟩
abbrev S1x1x256x512 : Shape := ⟨4, ![1, 1, 256, 512]⟩
abbrev S256x512 : Shape := ⟨2, ![256, 512]⟩
abbrev S8x8 : Shape := ⟨2, ![8, 8]⟩
abbrev S8x1 : Shape := ⟨2, ![8, 1]⟩
abbrev S1x512 : Shape := ⟨2, ![1, 512]⟩
abbrev S8 : Shape := ⟨1, ![8]⟩

abbrev nBuf : Space → Nat
  | .hbm => 83
  | .vmem => 24
  | .smem => 0
  | _ => 0

abbrev bufTy : (tb : Table) → Fin (tcTables nBuf tb) → BufTy
  | .hbm, ⟨0, _⟩ => ⟨S32x8x4x256, .f32⟩
  | .hbm, ⟨1, _⟩ => ⟨S32x8x4x256, .f32⟩
  | .hbm, ⟨2, _⟩ => ⟨S32x8x4x512, .f32⟩
  | .hbm, ⟨3, _⟩ => ⟨S32x8x2048, .f32⟩
  | .hbm, ⟨4, _⟩ => ⟨S32x4x256x512, .f32⟩
  | .hbm, ⟨5, _⟩ => ⟨S4x512, .f32⟩
  | .hbm, ⟨6, _⟩ => ⟨S256x1024, .f32⟩
  | .hbm, ⟨7, _⟩ => ⟨S256x1024, .f32⟩
  | .hbm, ⟨8, _⟩ => ⟨S256x2048, .f32⟩
  | .hbm, ⟨9, _⟩ => ⟨S256x2048, .f32⟩
  | .hbm, ⟨10, _⟩ => ⟨S4, .f32⟩
  | .hbm, ⟨11, _⟩ => ⟨S_, .f32⟩
  | .hbm, ⟨12, _⟩ => ⟨S4, .f32⟩
  | .hbm, ⟨13, _⟩ => ⟨S4, .f32⟩
  | .hbm, ⟨14, _⟩ => ⟨S_, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4x1, .f32⟩
  | .hbm, ⟨22, _⟩ => ⟨S1x4, .f32⟩
  | .hbm, ⟨23, _⟩ => ⟨S4x4, .f32⟩
  | .hbm, ⟨24, _⟩ => ⟨S4x4, .f32⟩
  | .hbm, ⟨25, _⟩ => ⟨S4x4, .f32⟩
  | .hbm, ⟨26, _⟩ => ⟨S_, .f32⟩
  | .hbm, ⟨27, _⟩ => ⟨S4x4, .f32⟩
  | .hbm, ⟨28, _⟩ => ⟨S4x4, .i1⟩
  | .hbm, ⟨29, _⟩ => ⟨S_, .f32⟩
  | .hbm, ⟨30, _⟩ => ⟨S4x4, .f32⟩
  | .hbm, ⟨31, _⟩ => ⟨S4x4, .f32⟩
  | .hbm, ⟨32, _⟩ => ⟨S1x4x4, .f32⟩
  | .hbm, ⟨33, _⟩ => ⟨S4x1x1, .f32⟩
  | .hbm, ⟨34, _⟩ => ⟨S4x4x4, .f32⟩
  | .hbm, ⟨35, _⟩ => ⟨S4x4x4, .f32⟩
  | .hbm, ⟨36, _⟩ => ⟨S4x4x4, .f32⟩
  | .hbm, ⟨37, _⟩ => ⟨S4x4x4, .f32⟩
  | .hbm, ⟨38, _⟩ => ⟨S_, .f32⟩
  | .hbm, ⟨39, _⟩ => ⟨S_, .f32⟩
  | .hbm, ⟨40, _⟩ => ⟨S4x4x4, .i1⟩
  | .hbm, ⟨41, _⟩ => ⟨S4x4x4, .f32⟩
  | .hbm, ⟨42, _⟩ => ⟨S4x4x4, .f32⟩
  | .hbm, ⟨43, _⟩ => ⟨S4x1, .f32⟩
  | .hbm, ⟨44, _⟩ => ⟨S_, .f32⟩
  | .hbm, ⟨45, _⟩ => ⟨S4x1, .f32⟩
  | .hbm, ⟨46, _⟩ => ⟨S4x1, .f32⟩
  | .hbm, ⟨47, _⟩ => ⟨S1x4, .f32⟩
  | .hbm, ⟨48, _⟩ => ⟨S4x4, .f32⟩
  | .hbm, ⟨49, _⟩ => ⟨S4x4, .f32⟩
  | .hbm, ⟨50, _⟩ => ⟨S4x4, .f32⟩
  | .hbm, ⟨51, _⟩ => ⟨S4x4, .f32⟩
  | .hbm, ⟨52, _⟩ => ⟨S4x4, .f32⟩
  | .hbm, ⟨53, _⟩ => ⟨S_, .f32⟩
  | .hbm, ⟨54, _⟩ => ⟨S4, .f32⟩
  | .hbm, ⟨55, _⟩ => ⟨S4, .f32⟩
  | .hbm, ⟨56, _⟩ => ⟨S4x1, .f32⟩
  | .hbm, ⟨57, _⟩ => ⟨S1x4, .f32⟩
  | .hbm, ⟨58, _⟩ => ⟨S4x4, .f32⟩
  | .hbm, ⟨59, _⟩ => ⟨S4x4, .f32⟩
  | .hbm, ⟨60, _⟩ => ⟨S4x4, .f32⟩
  | .hbm, ⟨61, _⟩ => ⟨S4x4, .f32⟩
  | .hbm, ⟨62, _⟩ => ⟨S4x4, .f32⟩
  | .hbm, ⟨63, _⟩ => ⟨S_, .i32⟩
  | .hbm, ⟨64, _⟩ => ⟨S_, .f32⟩
  | .hbm, ⟨65, _⟩ => ⟨S4x8x8, .f32⟩
  | .hbm, ⟨66, _⟩ => ⟨S_, .i32⟩
  | .hbm, ⟨67, _⟩ => ⟨S_, .f32⟩
  | .hbm, ⟨68, _⟩ => ⟨S4x8, .f32⟩
  | .hbm, ⟨69, _⟩ => ⟨S4x8x1, .f32⟩
  | .hbm, ⟨70, _⟩ => ⟨S_, .i32⟩
  | .hbm, ⟨71, _⟩ => ⟨S_, .f32⟩
  | .hbm, ⟨72, _⟩ => ⟨S4x8, .f32⟩
  | .hbm, ⟨73, _⟩ => ⟨S4x8x1, .f32⟩
  | .hbm, ⟨74, _⟩ => ⟨S_, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4x1x1, .f32⟩
  | .hbm, ⟨79, _⟩ => ⟨S4x1x512, .f32⟩
  | .hbm, ⟨80, _⟩ => ⟨S4x1x512, .f32⟩
  | .hbm, ⟨81, _⟩ => ⟨S256x2048, .f32⟩
  | .hbm, ⟨82, _⟩ => ⟨S32x4x256x512, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S1x8x8, .f32⟩
  | .local _ .vmem, ⟨9, _⟩ => ⟨S1x8x8, .f32⟩
  | .local _ .vmem, ⟨10, _⟩ => ⟨S1x8x1, .f32⟩
  | .local _ .vmem, ⟨11, _⟩ => ⟨S1x8x1, .f32⟩
  | .local _ .vmem, ⟨12, _⟩ => ⟨S1x8x1, .f32⟩
  | .local _ .vmem, ⟨13, _⟩ => ⟨S1x8x1, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x256x512, .f32⟩
  | .local _ .vmem, ⟨19, _⟩ => ⟨S1x1x256x512, .f32⟩
  | .local _ .vmem, ⟨20, _⟩ => ⟨S8x512, .f32⟩
  | .local _ .vmem, ⟨21, _⟩ => ⟨S8x512, .f32⟩
  | .local _ .vmem, ⟨22, _⟩ => ⟨S1x1x256x512, .f32⟩
  | .local _ .vmem, ⟨23, _⟩ => ⟨S1x1x256x512, .f32⟩
  | _, _ => ⟨S32x8x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c : Ref sig .tc := ⟨.hbm, 63, rfl⟩
abbrev main_call1_v0 : Ref sig .tc := ⟨.hbm, 64, rfl⟩
abbrev main_v47 : Ref sig .tc := ⟨.hbm, 65, rfl⟩
abbrev main_c_6 : Ref sig .tc := ⟨.hbm, 66, rfl⟩
abbrev main_call2_v0 : Ref sig .tc := ⟨.hbm, 67, rfl⟩
abbrev main_v48 : Ref sig .tc := ⟨.hbm, 68, rfl⟩
abbrev main_v49 : Ref sig .tc := ⟨.hbm, 69, rfl⟩
abbrev main_c_7 : Ref sig .tc := ⟨.hbm, 70, rfl⟩
abbrev main_call3_v0 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58_0 : Ref sig .tc := ⟨.hbm, 81, rfl⟩
abbrev main_v58_1 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![32, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x8x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== RetSampleReferenceIdeal.lean ====
abbrev S32x8x4x256 : Shape := ⟨4, ![32, 8, 4, 256]⟩
abbrev S32x8x4x512 : Shape := ⟨4, ![32, 8, 4, 512]⟩
abbrev S32x8x2048 : Shape := ⟨3, ![32, 8, 2048]⟩
abbrev S32x4x256x512 : Shape := ⟨4, ![32, 4, 256, 512]⟩
abbrev S4x512 : Shape := ⟨2, ![4, 512]⟩
abbrev S32x4x4x256 : Shape := ⟨4, ![32, 4, 4, 256]⟩
abbrev S32x4x4x512 : Shape := ⟨4, ![32, 4, 4, 512]⟩
abbrev S4 : Shape := ⟨1, ![4]⟩
abbrev S_ : Shape := ⟨0, ![]⟩
abbrev S4x1 : Shape := ⟨2, ![4, 1]⟩
abbrev S1x4 : Shape := ⟨2, ![1, 4]⟩
abbrev S4x4 : Shape := ⟨2, ![4, 4]⟩
abbrev S1x4x4 : Shape := ⟨3, ![1, 4, 4]⟩
abbrev S4x1x1 : Shape := ⟨3, ![4, 1, 1]⟩
abbrev S4x4x4 : Shape := ⟨3, ![4, 4, 4]⟩
abbrev S32x4x4x4 : Shape := ⟨4, ![32, 4, 4, 4]⟩
abbrev S1x4x4x4 : Shape := ⟨4, ![1, 4, 4, 4]⟩
abbrev S32x4x512x4 : Shape := ⟨4, ![32, 4, 512, 4]⟩
abbrev S1x4x4x1 : Shape := ⟨4, ![1, 4, 4, 1]⟩
abbrev S1x4x1x1 : Shape := ⟨4, ![1, 4, 1, 1]⟩
abbrev S32x4x2048 : Shape := ⟨3, ![32, 4, 2048]⟩
abbrev S32x4x4 : Shape := ⟨3, ![32, 4, 4]⟩
abbrev S32x4x4x1 : Shape := ⟨4, ![32, 4, 4, 1]⟩
abbrev S1x1x4x512 : Shape := ⟨4, ![1, 1, 4, 512]⟩
abbrev S256x2048 : Shape := ⟨2, ![256, 2048]⟩

abbrev nBuf : Space → Nat
  | .hbm => 126
  | .vmem => 0
  | .smem => 0
  | _ => 0

abbrev bufTy : (tb : Table) → Fin (tcTables nBuf tb) → BufTy
  | .hbm, ⟨0, _⟩ => ⟨S32x8x4x256, .f32⟩
  | .hbm, ⟨1, _⟩ => ⟨S32x8x4x256, .f32⟩
  | .hbm, ⟨2, _⟩ => ⟨S32x8x4x512, .f32⟩
  | .hbm, ⟨3, _⟩ => ⟨S32x8x2048, .f32⟩
  | .hbm, ⟨4, _⟩ => ⟨S32x4x256x512, .f32⟩
  | .hbm, ⟨5, _⟩ => ⟨S4x512, .f32⟩
  | .hbm, ⟨6, _⟩ => ⟨S32x4x4x256, .f32⟩
  | .hbm, ⟨7, _⟩ => ⟨S32x4x4x256, .f32⟩
  | .hbm, ⟨8, _⟩ => ⟨S32x4x4x512, .f32⟩
  | .hbm, ⟨9, _⟩ => ⟨S4, .f32⟩
  | .hbm, ⟨10, _⟩ => ⟨S_, .f32⟩
  | .hbm, ⟨11, _⟩ => ⟨S4, .f32⟩
  | .hbm, ⟨12, _⟩ => ⟨S4, .f32⟩
  | .hbm, ⟨13, _⟩ => ⟨S_, .f32⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4x1, .f32⟩
  | .hbm, ⟨21, _⟩ => ⟨S1x4, .f32⟩
  | .hbm, ⟨22, _⟩ => ⟨S4x4, .f32⟩
  | .hbm, ⟨23, _⟩ => ⟨S4x4, .f32⟩
  | .hbm, ⟨24, _⟩ => ⟨S4x4, .f32⟩
  | .hbm, ⟨25, _⟩ => ⟨S_, .f32⟩
  | .hbm, ⟨26, _⟩ => ⟨S4x4, .f32⟩
  | .hbm, ⟨27, _⟩ => ⟨S4x4, .i1⟩
  | .hbm, ⟨28, _⟩ => ⟨S_, .f32⟩
  | .hbm, ⟨29, _⟩ => ⟨S4x4, .f32⟩
  | .hbm, ⟨30, _⟩ => ⟨S4x4, .f32⟩
  | .hbm, ⟨31, _⟩ => ⟨S1x4x4, .f32⟩
  | .hbm, ⟨32, _⟩ => ⟨S4x1x1, .f32⟩
  | .hbm, ⟨33, _⟩ => ⟨S4x4x4, .f32⟩
  | .hbm, ⟨34, _⟩ => ⟨S4x4x4, .f32⟩
  | .hbm, ⟨35, _⟩ => ⟨S4x4x4, .f32⟩
  | .hbm, ⟨36, _⟩ => ⟨S4x4x4, .f32⟩
  | .hbm, ⟨37, _⟩ => ⟨S_, .f32⟩
  | .hbm, ⟨38, _⟩ => ⟨S_, .f32⟩
  | .hbm, ⟨39, _⟩ => ⟨S4x4x4, .i1⟩
  | .hbm, ⟨40, _⟩ => ⟨S4x4x4, .f32⟩
  | .hbm, ⟨41, _⟩ => ⟨S4x4x4, .f32⟩
  | .hbm, ⟨42, _⟩ => ⟨S32x4x4x4, .f32⟩
  | .hbm, ⟨43, _⟩ => ⟨S1x4x4x4, .f32⟩
  | .hbm, ⟨44, _⟩ => ⟨S32x4x4x4, .f32⟩
  | .hbm, ⟨45, _⟩ => ⟨S32x4x4x4, .f32⟩
  | .hbm, ⟨46, _⟩ => ⟨S32x4x512x4, .f32⟩
  | .hbm, ⟨47, _⟩ => ⟨S32x4x4x512, .f32⟩
  | .hbm, ⟨48, _⟩ => ⟨S4x1, .f32⟩
  | .hbm, ⟨49, _⟩ => ⟨S_, .f32⟩
  | .hbm, ⟨50, _⟩ => ⟨S4x1, .f32⟩
  | .hbm, ⟨51, _⟩ => ⟨S4x1, .f32⟩
  | .hbm, ⟨52, _⟩ => ⟨S1x4, .f32⟩
  | .hbm, ⟨53, _⟩ => ⟨S4x4, .f32⟩
  | .hbm, ⟨54, _⟩ => ⟨S4x4, .f32⟩
  | .hbm, ⟨55, _⟩ => ⟨S4x4, .f32⟩
  | .hbm, ⟨56, _⟩ => ⟨S4x4, .f32⟩
  | .hbm, ⟨57, _⟩ => ⟨S32x4x512x4, .f32⟩
  | .hbm, ⟨58, _⟩ => ⟨S32x4x4x512, .f32⟩
  | .hbm, ⟨59, _⟩ => ⟨S1x4x4x1, .f32⟩
  | .hbm, ⟨60, _⟩ => ⟨S32x4x4x512, .f32⟩
  | .hbm, ⟨61, _⟩ => ⟨S32x4x4x512, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4x1, .f32⟩
  | .hbm, ⟨66, _⟩ => ⟨S1x4, .f32⟩
  | .hbm, ⟨67, _⟩ => ⟨S4x4, .f32⟩
  | .hbm, ⟨68, _⟩ => ⟨S4x4, .f32⟩
  | .hbm, ⟨69, _⟩ => ⟨S4x4, .f32⟩
  | .hbm, ⟨70, _⟩ => ⟨S4x4, .f32⟩
  | .hbm, ⟨71, _⟩ => ⟨S_, .f32⟩
  | .hbm, ⟨72, _⟩ => ⟨S4, .f32⟩
  | .hbm, ⟨73, _⟩ => ⟨S4, .f32⟩
  | .hbm, ⟨74, _⟩ => ⟨S4, .f32⟩
  | .hbm, ⟨75, _⟩ => ⟨S1x4x1x1, .f32⟩
  | .hbm, ⟨76, _⟩ => ⟨S32x4x256x512, .f32⟩
  | .hbm, ⟨77, _⟩ => ⟨S32x4x256x512, .f32⟩
  | .hbm, ⟨78, _⟩ => ⟨S1x4x4x1, .f32⟩
  | .hbm, ⟨79, _⟩ => ⟨S32x4x4x256, .f32⟩
  | .hbm, ⟨80, _⟩ => ⟨S32x4x4x256, .f32⟩
  | .hbm, ⟨81, _⟩ => ⟨S32x4x256x512, .f32⟩
  | .hbm, ⟨82, _⟩ => ⟨S32x4x256x512, .f32⟩
  | .hbm, ⟨83, _⟩ => ⟨S32x4x4x512, .f32⟩
  | .hbm, ⟨84, _⟩ => ⟨S32x4x2048, .f32⟩
  | .hbm, ⟨85, _⟩ => ⟨S_, .f32⟩
  | .hbm, ⟨86, _⟩ => ⟨S32x4x4, .f32⟩
  | .hbm, ⟨87, _⟩ => ⟨S32x4x4x1, .f32⟩
  | .hbm, ⟨88, _⟩ => ⟨S_, .f32⟩
  | .hbm, ⟨89, _⟩ => ⟨S32x4x4x1, .f32⟩
  | .hbm, ⟨90, _⟩ => ⟨S32x4x4x1, .f32⟩
  | .hbm, ⟨91, _⟩ => ⟨S32x4x4x512, .f32⟩
  | .hbm, ⟨92, _⟩ => ⟨S32x4x4x512, .f32⟩
  | .hbm, ⟨93, _⟩ => ⟨S32x4x4x512, .f32⟩
  | .hbm, ⟨94, _⟩ => ⟨S_, .f32⟩
  | .hbm, ⟨95, _⟩ => ⟨S32x4x4, .f32⟩
  | .hbm, ⟨96, _⟩ => ⟨S32x4x4x1, .f32⟩
  | .hbm, ⟨97, _⟩ => ⟨S_, .f32⟩
  | .hbm, ⟨98, _⟩ => ⟨S32x4x4x1, .f32⟩
  | .hbm, ⟨99, _⟩ => ⟨S32x4x4x1, .f32⟩
  | .hbm, ⟨100, _⟩ => ⟨S32x4x4x512, .f32⟩
  | .hbm, ⟨101, _⟩ => ⟨S32x4x4x512, .f32⟩
  | .hbm, ⟨102, _⟩ => ⟨S_, .f32⟩
  | .hbm, ⟨103, _⟩ => ⟨S32x4x4x1, .f32⟩
  | .hbm, ⟨104, _⟩ => ⟨S32x4x4x1, .f32⟩
  | .hbm, ⟨105, _⟩ => ⟨S32x4x4x1, .f32⟩
  | .hbm, ⟨106, _⟩ => ⟨S32x4x4x512, .f32⟩
  | .hbm, ⟨107, _⟩ => ⟨S32x4x4x512, .f32⟩
  | .hbm, ⟨108, _⟩ => ⟨S1x1x4x512, .f32⟩
  | .hbm, ⟨109, _⟩ => ⟨S32x4x4x512, .f32⟩
  | .hbm, ⟨110, _⟩ => ⟨S32x4x4x512, .f32⟩
  | .hbm, ⟨111, _⟩ => ⟨S32x4x2048, .f32⟩
  | .hbm, ⟨112, _⟩ => ⟨S32x4x2048, .f32⟩
  | .hbm, ⟨113, _⟩ => ⟨S_, .f32⟩
  | .hbm, ⟨114, _⟩ => ⟨S32x4x2048, .f32⟩
  | .hbm, ⟨115, _⟩ => ⟨S32x4x2048, .f32⟩
  | .hbm, ⟨116, _⟩ => ⟨S_, .f32⟩
  | .hbm, ⟨117, _⟩ => ⟨S32x4x2048, .f32⟩
  | .hbm, ⟨118, _⟩ => ⟨S32x4x2048, .f32⟩
  | .hbm, ⟨119, _⟩ => ⟨S32x4x2048, .f32⟩
  | .hbm, ⟨120, _⟩ => ⟨S32x4x2048, .f32⟩
  | .hbm, ⟨121, _⟩ => ⟨S32x4x2048, .f32⟩
  | .hbm, ⟨122, _⟩ => ⟨S_, .i32⟩
  | .hbm, ⟨123, _⟩ => ⟨S_, .f32⟩
  | .hbm, ⟨124, _⟩ => ⟨S32x8x2048, .f32⟩
  | .hbm, ⟨125, _⟩ => ⟨S256x2048, .f32⟩
  | _, _ => ⟨S32x8x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_5 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_7 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_9 : Ref sig .tc := ⟨.hbm, 94, rfl⟩
abbrev main_v75 : Ref sig .tc := ⟨.hbm, 95, rfl⟩
abbrev main_v76 : Ref sig .tc := ⟨.hbm, 96, rfl⟩
abbrev main_cst_10 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call1_v0 : Ref sig .tc := ⟨.hbm, 111, rfl⟩
abbrev main_call1_v1 : Ref sig .tc := ⟨.hbm, 112, rfl⟩
abbrev main_call1_cst : Ref sig .tc := ⟨.hbm, 113, rfl⟩
abbrev main_call1_v2 : Ref sig .tc := ⟨.hbm, 114, rfl⟩
abbrev main_call1_v3 : Ref sig .tc := ⟨.hbm, 115, rfl⟩
abbrev main_call1_cst_0 : Ref sig .tc := ⟨.hbm, 116, rfl⟩
abbrev main_call1_v4 : Ref sig .tc := ⟨.hbm, 117, rfl⟩
abbrev main_call1_v5 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_c : Ref sig .tc := ⟨.hbm, 122, rfl⟩
abbrev main_call2_v0 : Ref sig .tc := ⟨.hbm, 123, rfl⟩
abbrev main_v92 : Ref sig .tc := ⟨.hbm, 124, rfl⟩
abbrev main_v93 : Ref sig .tc := ⟨.hbm, 125, rfl⟩

abbrev nD : Nat := 1
abbrev τ : Topo := Topo.v7x

variable {F : FTy → Type} [FloatOps F]
-- ==== RetOut.lean ====
abbrev S8x2048x2048 : Shape := ⟨3, ![8, 2048, 2048]⟩
abbrev S32x8x2048 : Shape := ⟨3, ![32, 8, 2048]⟩
abbrev S2048x1024 : Shape := ⟨2, ![2048, 1024]⟩
abbrev S8x2048x1024 : Shape := ⟨3, ![8, 2048, 1024]⟩
abbrev S32x8x1024 : Shape := ⟨3, ![32, 8, 1024]⟩
abbrev S40x1024 : Shape := ⟨2, ![40, 1024]⟩
abbrev S1024 : Shape := ⟨1, ![1024]⟩
abbrev S1024x32 : Shape := ⟨2, ![1024, 32]⟩
abbrev S32 : Shape := ⟨1, ![32]⟩
abbrev S16384x2048 : Shape := ⟨2, ![16384, 2048]⟩
abbrev S256x2048 : Shape := ⟨2, ![256, 2048]⟩
abbrev S16640x2048 : Shape := ⟨2, ![16640, 2048]⟩
abbrev S16384x1024 : Shape := ⟨2, ![16384, 1024]⟩
abbrev S256x1024 : Shape := ⟨2, ![256, 1024]⟩
abbrev S16640x1024 : Shape := ⟨2, ![16640, 1024]⟩
abbrev S_ : Shape := ⟨0, ![]⟩
abbrev S1024x128 : Shape := ⟨2, ![1024, 128]⟩
abbrev S128 : Shape := ⟨1, ![128]⟩
abbrev S8x1024 : Shape := ⟨2, ![8, 1024]⟩
abbrev S8x1x1024 : Shape := ⟨3, ![8, 1, 1024]⟩
abbrev S8x256x1024 : Shape := ⟨3, ![8, 256, 1024]⟩
abbrev S32x1024 : Shape := ⟨2, ![32, 1024]⟩
abbrev S1x256x1024 : Shape := ⟨3, ![1, 256, 1024]⟩
abbrev S9x256x1024 : Shape := ⟨3, ![9, 256, 1024]⟩
abbrev S1x128 : Shape := ⟨2, ![1, 128]⟩
abbrev S1x1024 : Shape := ⟨2, ![1, 1024]⟩
abbrev S16640x128 : Shape := ⟨2, ![16640, 128]⟩
abbrev S256x128 : Shape := ⟨2, ![256, 128]⟩
abbrev S256 : Shape := ⟨1, ![256]⟩
abbrev S256x1 : Shape := ⟨2, ![256, 1]⟩

abbrev nBuf : Space → Nat
  | .hbm => 58
  | .vmem => 23
  | .smem => 0
  | _ => 0

abbrev bufTy : (tb : Table) → Fin (tcTables nBuf tb) → BufTy
  | .hbm, ⟨0, _⟩ => ⟨S8x2048x2048, .bf16⟩
  | .hbm, ⟨1, _⟩ => ⟨S32x8x2048, .f32⟩
  | .hbm, ⟨2, _⟩ => ⟨S2048x1024, .f32⟩
  | .hbm, ⟨3, _⟩ => ⟨S8x2048x1024, .f32⟩
  | .hbm, ⟨4, _⟩ => ⟨S32x8x1024, .f32⟩
  | .hbm, ⟨5, _⟩ => ⟨S40x1024, .f32⟩
  | .hbm, ⟨6, _⟩ => ⟨S40x1024, .f32⟩
  | .hbm, ⟨7, _⟩ => ⟨S40x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S16384x2048, .bf16⟩
  | .hbm, ⟨13, _⟩ => ⟨S256x2048, .f32⟩
  | .hbm, ⟨14, _⟩ => ⟨S256x2048, .bf16⟩
  | .hbm, ⟨15, _⟩ => ⟨S16640x2048, .bf16⟩
  | .hbm, ⟨16, _⟩ => ⟨S16384x1024, .f32⟩
  | .hbm, ⟨17, _⟩ => ⟨S256x1024, .f32⟩
  | .hbm, ⟨18, _⟩ => ⟨S16640x1024, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S2048x1024, .bf16⟩
  | .hbm, ⟨27, _⟩ => ⟨S8x1024, .f32⟩
  | .hbm, ⟨28, _⟩ => ⟨S8x1x1024, .f32⟩
  | .hbm, ⟨29, _⟩ => ⟨S8x256x1024, .f32⟩
  | .hbm, ⟨30, _⟩ => ⟨S32x1024, .f32⟩
  | .hbm, ⟨31, _⟩ => ⟨S32x8x1024, .f32⟩
  | .hbm, ⟨32, _⟩ => ⟨S256x1024, .f32⟩
  | .hbm, ⟨33, _⟩ => ⟨S1x256x1024, .f32⟩
  | .hbm, ⟨34, _⟩ => ⟨S9x256x1024, .f32⟩
  | .hbm, ⟨35, _⟩ => ⟨S8x1024, .f32⟩
  | .hbm, ⟨36, _⟩ => ⟨S8x1x1024, .f32⟩
  | .hbm, ⟨37, _⟩ => ⟨S8x256x1024, .f32⟩
  | .hbm, ⟨38, _⟩ => ⟨S32x1024, .f32⟩
  | .hbm, ⟨39, _⟩ => ⟨S32x8x1024, .f32⟩
  | .hbm, ⟨40, _⟩ => ⟨S256x1024, .f32⟩
  | .hbm, ⟨41, _⟩ => ⟨S1x256x1024, .f32⟩
  | .hbm, ⟨42, _⟩ => ⟨S9x256x1024, .f32⟩
  | .hbm, ⟨43, _⟩ => ⟨S8x1024, .f32⟩
  | .hbm, ⟨44, _⟩ => ⟨S8x1x1024, .f32⟩
  | .hbm, ⟨45, _⟩ => ⟨S8x256x1024, .f32⟩
  | .hbm, ⟨46, _⟩ => ⟨S32x1024, .f32⟩
  | .hbm, ⟨47, _⟩ => ⟨S32x8x1024, .f32⟩
  | .hbm, ⟨48, _⟩ => ⟨S256x1024, .f32⟩
  | .hbm, ⟨49, _⟩ => ⟨S1x256x1024, .f32⟩
  | .hbm, ⟨50, _⟩ => ⟨S9x256x1024, .f32⟩
  | .hbm, ⟨51, _⟩ => ⟨S1x128, .f32⟩
  | .hbm, ⟨52, _⟩ => ⟨S1x1024, .f32⟩
  | .hbm, ⟨53, _⟩ => ⟨S1x1024, .f32⟩
  | .hbm, ⟨54, _⟩ => ⟨S16640x1024, .f32⟩
  | .hbm, ⟨55, _⟩ => ⟨S16640x1024, .f32⟩
  | .hbm, ⟨56, _⟩ => ⟨S16640x128, .f32⟩
  | .hbm, ⟨57, _⟩ => ⟨S16640x128, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1024x128, .bf16⟩
  | .local _ .vmem, ⟨14, _⟩ => ⟨S1x128, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev main_v38_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_7 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RetOutIdeal.lean ====
abbrev S8x2048x2048 : Shape := ⟨3, ![8, 2048, 2048]⟩
abbrev S32x8x2048 : Shape := ⟨3, ![32, 8, 2048]⟩
abbrev S2048x1024 : Shape := ⟨2, ![2048, 1024]⟩
abbrev S8x2048x1024 : Shape := ⟨3, ![8, 2048, 1024]⟩
abbrev S32x8x1024 : Shape := ⟨3, ![32, 8, 1024]⟩
abbrev S40x1024 : Shape := ⟨2, ![40, 1024]⟩
abbrev S1024 : Shape := ⟨1, ![1024]⟩
abbrev S1024x32 : Shape := ⟨2, ![1024, 32]⟩
abbrev S32 : Shape := ⟨1, ![32]⟩
abbrev S16384x2048 : Shape := ⟨2, ![16384, 2048]⟩
abbrev S256x2048 : Shape := ⟨2, ![256, 2048]⟩
abbrev S16640x2048 : Shape := ⟨2, ![16640, 2048]⟩
abbrev S16384x1024 : Shape := ⟨2, ![16384, 1024]⟩
abbrev S256x1024 : Shape := ⟨2, ![256, 1024]⟩
abbrev S16640x1024 : Shape := ⟨2, ![16640, 1024]⟩
abbrev S_ : Shape := ⟨0, ![]⟩
abbrev S1024x128 : Shape := ⟨2, ![1024, 128]⟩
abbrev S128 : Shape := ⟨1, ![128]⟩
abbrev S8x1024 : Shape := ⟨2, ![8, 1024]⟩
abbrev S8x1x1024 : Shape := ⟨3, ![8, 1, 1024]⟩
abbrev S8x256x1024 : Shape := ⟨3, ![8, 256, 1024]⟩
abbrev S32x1024 : Shape := ⟨2, ![32, 1024]⟩
abbrev S1x256x1024 : Shape := ⟨3, ![1, 256, 1024]⟩
abbrev S9x256x1024 : Shape := ⟨3, ![9, 256, 1024]⟩
abbrev S1x128 : Shape := ⟨2, ![1, 128]⟩
abbrev S1x1024 : Shape := ⟨2, ![1, 1024]⟩
abbrev S16640x128 : Shape := ⟨2, ![16640, 128]⟩
abbrev S256x128 : Shape := ⟨2, ![256, 128]⟩
abbrev S256 : Shape := ⟨1, ![256]⟩
abbrev S256x1 : Shape := ⟨2, ![256, 1]⟩

abbrev nBuf : Space → Nat
  | .hbm => 58
  | .vmem => 23
  | .smem => 0
  | _ => 0

abbrev bufTy : (tb : Table) → Fin (tcTables nBuf tb) → BufTy
  | .hbm, ⟨0, _⟩ => ⟨S8x2048x2048, .bf16⟩
  | .hbm, ⟨1, _⟩ => ⟨S32x8x2048, .f32⟩
  | .hbm, ⟨2, _⟩ => ⟨S2048x1024, .f32⟩
  | .hbm, ⟨3, _⟩ => ⟨S8x2048x1024, .f32⟩
  | .hbm, ⟨4, _⟩ => ⟨S32x8x1024, .f32⟩
  | .hbm, ⟨5, _⟩ => ⟨S40x1024, .f32⟩
  | .hbm, ⟨6, _⟩ => ⟨S40x1024, .f32⟩
  | .hbm, ⟨7, _⟩ => ⟨S40x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S16384x2048, .bf16⟩
  | .hbm, ⟨13, _⟩ => ⟨S256x2048, .f32⟩
  | .hbm, ⟨14, _⟩ => ⟨S256x2048, .bf16⟩
  | .hbm, ⟨15, _⟩ => ⟨S16640x2048, .bf16⟩
  | .hbm, ⟨16, _⟩ => ⟨S16384x1024, .f32⟩
  | .hbm, ⟨17, _⟩ => ⟨S256x1024, .f32⟩
  | .hbm, ⟨18, _⟩ => ⟨S16640x1024, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S2048x1024, .bf16⟩
  | .hbm, ⟨27, _⟩ => ⟨S8x1024, .f32⟩
  | .hbm, ⟨28, _⟩ => ⟨S8x1x1024, .f32⟩
  | .hbm, ⟨29, _⟩ => ⟨S8x256x1024, .f32⟩
  | .hbm, ⟨30, _⟩ => ⟨S32x1024, .f32⟩
  | .hbm, ⟨31, _⟩ => ⟨S32x8x1024, .f32⟩
  | .hbm, ⟨32, _⟩ => ⟨S256x1024, .f32⟩
  | .hbm, ⟨33, _⟩ => ⟨S1x256x1024, .f32⟩
  | .hbm, ⟨34, _⟩ => ⟨S9x256x1024, .f32⟩
  | .hbm, ⟨35, _⟩ => ⟨S8x1024, .f32⟩
  | .hbm, ⟨36, _⟩ => ⟨S8x1x1024, .f32⟩
  | .hbm, ⟨37, _⟩ => ⟨S8x256x1024, .f32⟩
  | .hbm, ⟨38, _⟩ => ⟨S32x1024, .f32⟩
  | .hbm, ⟨39, _⟩ => ⟨S32x8x1024, .f32⟩
  | .hbm, ⟨40, _⟩ => ⟨S256x1024, .f32⟩
  | .hbm, ⟨41, _⟩ => ⟨S1x256x1024, .f32⟩
  | .hbm, ⟨42, _⟩ => ⟨S9x256x1024, .f32⟩
  | .hbm, ⟨43, _⟩ => ⟨S8x1024, .f32⟩
  | .hbm, ⟨44, _⟩ => ⟨S8x1x1024, .f32⟩
  | .hbm, ⟨45, _⟩ => ⟨S8x256x1024, .f32⟩
  | .hbm, ⟨46, _⟩ => ⟨S32x1024, .f32⟩
  | .hbm, ⟨47, _⟩ => ⟨S32x8x1024, .f32⟩
  | .hbm, ⟨48, _⟩ => ⟨S256x1024, .f32⟩
  | .hbm, ⟨49, _⟩ => ⟨S1x256x1024, .f32⟩
  | .hbm, ⟨50, _⟩ => ⟨S9x256x1024, .f32⟩
  | .hbm, ⟨51, _⟩ => ⟨S1x128, .f32⟩
  | .hbm, ⟨52, _⟩ => ⟨S1x1024, .f32⟩
  | .hbm, ⟨53, _⟩ => ⟨S1x1024, .f32⟩
  | .hbm, ⟨54, _⟩ => ⟨S16640x1024, .f32⟩
  | .hbm, ⟨55, _⟩ => ⟨S16640x1024, .f32⟩
  | .hbm, ⟨56, _⟩ => ⟨S16640x128, .f32⟩
  | .hbm, ⟨57, _⟩ => ⟨S16640x128, .f32⟩
  | .local _ .vmem, ⟨0, _⟩ => ⟨S256x2048, .bf16⟩
  | .local _ .vmem, ⟨1, _⟩ => ⟨S256x2048, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1024x128, .bf16⟩
  | .local _ .vmem, ⟨14, _⟩ => ⟨S1x128, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev main_v38_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_7 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RetOutReferenceIdeal.lean ====
abbrev S8x2048x2048 : Shape := ⟨3, ![8, 2048, 2048]⟩
abbrev S32x8x2048 : Shape := ⟨3, ![32, 8, 2048]⟩
abbrev S2048x1024 : Shape := ⟨2, ![2048, 1024]⟩
abbrev S8x2048x1024 : Shape := ⟨3, ![8, 2048, 1024]⟩
abbrev S32x8x1024 : Shape := ⟨3, ![32, 8, 1024]⟩
abbrev S40x1024 : Shape := ⟨2, ![40, 1024]⟩
abbrev S1024 : Shape := ⟨1, ![1024]⟩
abbrev S1024x32 : Shape := ⟨2, ![1024, 32]⟩
abbrev S32 : Shape := ⟨1, ![32]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S32x1024 : Shape := ⟨2, ![32, 1024]⟩
abbrev S32x1x1024 : Shape := ⟨3, ![32, 1, 1024]⟩
abbrev S32x8 : Shape := ⟨2, ![32, 8]⟩
abbrev S32x8x1 : Shape := ⟨3, ![32, 8, 1]⟩
abbrev S16384x1024 : Shape := ⟨2, ![16384, 1024]⟩
abbrev S256x1024 : Shape := ⟨2, ![256, 1024]⟩
abbrev S16640x1024 : Shape := ⟨2, ![16640, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S32x8x2048, .f32⟩
  | .hbm, ⟨2, _⟩ => ⟨S2048x1024, .f32⟩
  | .hbm, ⟨3, _⟩ => ⟨S8x2048x1024, .f32⟩
  | .hbm, ⟨4, _⟩ => ⟨S32x8x1024, .f32⟩
  | .hbm, ⟨5, _⟩ => ⟨S40x1024, .f32⟩
  | .hbm, ⟨6, _⟩ => ⟨S40x1024, .f32⟩
  | .hbm, ⟨7, _⟩ => ⟨S40x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S8x2048x2048, .f32⟩
  | .hbm, ⟨13, _⟩ => ⟨S8x2048x1024, .f32⟩
  | .hbm, ⟨14, _⟩ => ⟨S8x1024, .f32⟩
  | .hbm, ⟨15, _⟩ => ⟨S8x1x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x1x1024, .f32⟩
  | .hbm, ⟨21, _⟩ => ⟨S8x1x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S32x8x1024, .f32⟩
  | .hbm, ⟨55, _⟩ => ⟨S32x1024, .f32⟩
  | .hbm, ⟨56, _⟩ => ⟨S32x1x1024, .f32⟩
  | .hbm, ⟨57, _⟩ => ⟨S_, .f32⟩
  | .hbm, ⟨58, _⟩ => ⟨S32x8x1024, .f32⟩
  | .hbm, ⟨59, _⟩ => ⟨S32x8x1024, .f32⟩
  | .hbm, ⟨60, _⟩ => ⟨S_, .f32⟩
  | .hbm, ⟨61, _⟩ => ⟨S32x1x1024, .f32⟩
  | .hbm, ⟨62, _⟩ => ⟨S32x1x1024, .f32⟩
  | .hbm, ⟨63, _⟩ => ⟨S32x8x1024, .f32⟩
  | .hbm, ⟨64, _⟩ => ⟨S32x8x1024, .f32⟩
  | .hbm, ⟨65, _⟩ => ⟨S32x8x1024, .f32⟩
  | .hbm, ⟨66, _⟩ => ⟨S_, .f32⟩
  | .hbm, ⟨67, _⟩ => ⟨S32x8, .f32⟩
  | .hbm, ⟨68, _⟩ => ⟨S32x8x1, .f32⟩
  | .hbm, ⟨69, _⟩ => ⟨S_, .f32⟩
  | .hbm, ⟨70, _⟩ => ⟨S32x8x1, .f32⟩
  | .hbm, ⟨71, _⟩ => ⟨S32x8x1, .f32⟩
  | .hbm, ⟨72, _⟩ => ⟨S32x8x1024, .f32⟩
  | .hbm, ⟨73, _⟩ => ⟨S32x8x1024, .f32⟩
  | .hbm, ⟨74, _⟩ => ⟨S32x8x1024, .f32⟩
  | .hbm, ⟨75, _⟩ => ⟨S_, .f32⟩
  | .hbm, ⟨76, _⟩ => ⟨S32x8, .f32⟩
  | .hbm, ⟨77, _⟩ => ⟨S32x8x1, .f32⟩
  | .hbm, ⟨78, _⟩ => ⟨S_, .f32⟩
  | .hbm, ⟨79, _⟩ => ⟨S32x8x1, .f32⟩
  | .hbm, ⟨80, _⟩ => ⟨S32x8x1, .f32⟩
  | .hbm, ⟨81, _⟩ => ⟨S32x8x1024, .f32⟩
  | .hbm, ⟨82, _⟩ => ⟨S32x8x1024, .f32⟩
  | .hbm, ⟨83, _⟩ => ⟨S_, .f32⟩
  | .hbm, ⟨84, _⟩ => ⟨S32x8x1, .f32⟩
  | .hbm, ⟨85, _⟩ => ⟨S32x8x1, .f32⟩
  | .hbm, ⟨86, _⟩ => ⟨S32x8x1, .f32⟩
  | .hbm, ⟨87, _⟩ => ⟨S32x8x1024, .f32⟩
  | .hbm, ⟨88, _⟩ => ⟨S32x8x1024, .f32⟩
  | .hbm, ⟨89, _⟩ => ⟨S1x1x1024, .f32⟩
  | .hbm, ⟨90, _⟩ => ⟨S32x8x1024, .f32⟩
  | .hbm, ⟨91, _⟩ => ⟨S32x8x1024, .f32⟩
  | .hbm, ⟨92, _⟩ => ⟨S1x1x1024, .f32⟩
  | .hbm, ⟨93, _⟩ => ⟨S32x8x1024, .f32⟩
  | .hbm, ⟨94, _⟩ => ⟨S32x8x1024, .f32⟩
  | .hbm, ⟨95, _⟩ => ⟨S8x1024, .f32⟩
  | .hbm, ⟨96, _⟩ => ⟨S8x1x1024, .f32⟩
  | .hbm, ⟨97, _⟩ => ⟨S8x1024, .f32⟩
  | .hbm, ⟨98, _⟩ => ⟨S8x1x1024, .f32⟩
  | .hbm, ⟨99, _⟩ => ⟨S_, .f32⟩
  | .hbm, ⟨100, _⟩ => ⟨S8x1x1024, .f32⟩
  | .hbm, ⟨101, _⟩ => ⟨S8x1x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S32x1024, .f32⟩
  | .hbm, ⟨107, _⟩ => ⟨S32x1x1024, .f32⟩
  | .hbm, ⟨108, _⟩ => ⟨S32x1024, .f32⟩
  | .hbm, ⟨109, _⟩ => ⟨S32x1x1024, .f32⟩
  | .hbm, ⟨110, _⟩ => ⟨S_, .f32⟩
  | .hbm, ⟨111, _⟩ => ⟨S32x1x1024, .f32⟩
  | .hbm, ⟨112, _⟩ => ⟨S32x1x1024, .f32⟩
  | .hbm, ⟨113, _⟩ => ⟨S32x8x1024, .f32⟩
  | .hbm, ⟨114, _⟩ => ⟨S32x8x1024, .f32⟩
  | .hbm, ⟨115, _⟩ => ⟨S32x8x1024, .f32⟩
  | .hbm, ⟨116, _⟩ => ⟨S32x8x1024, .f32⟩
  | .hbm, ⟨117, _⟩ => ⟨S16384x1024, .f32⟩
  | .hbm, ⟨118, _⟩ => ⟨S256x1024, .f32⟩
  | .hbm, ⟨119, _⟩ => ⟨S16640x1024, .f32⟩
  | .hbm, ⟨120, _⟩ => ⟨S16384x1024, .f32⟩
  | .hbm, ⟨121, _⟩ => ⟨S256x1024, .f32⟩
  | .hbm, ⟨122, _⟩ => ⟨S16640x1024, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== AttnOut.lean ====
abbrev S8x2048x1024 : Shape := ⟨3, ![8, 2048, 1024]⟩
abbrev S32x8x1024 : Shape := ⟨3, ![32, 8, 1024]⟩
abbrev S1024x1024 : Shape := ⟨2, ![1024, 1024]⟩
abbrev S40x1024 : Shape := ⟨2, ![40, 1024]⟩
abbrev S1024 : Shape := ⟨1, ![1024]⟩
abbrev S1024x32 : Shape := ⟨2, ![1024, 32]⟩
abbrev S32 : Shape := ⟨1, ![32]⟩
abbrev S16384x1024 : Shape := ⟨2, ![16384, 1024]⟩
abbrev S256x1024 : Shape := ⟨2, ![256, 1024]⟩
abbrev S16640x1024 : Shape := ⟨2, ![16640, 1024]⟩
abbrev S_ : Shape := ⟨0, ![]⟩
abbrev S1024x128 : Shape := ⟨2, ![1024, 128]⟩
abbrev S128 : Shape := ⟨1, ![128]⟩
abbrev S8x1024 : Shape := ⟨2, ![8, 1024]⟩
abbrev S8x1x1024 : Shape := ⟨3, ![8, 1, 1024]⟩
abbrev S8x256x1024 : Shape := ⟨3, ![8, 256, 1024]⟩
abbrev S32x1024 : Shape := ⟨2, ![32, 1024]⟩
abbrev S1x256x1024 : Shape := ⟨3, ![1, 256, 1024]⟩
abbrev S9x256x1024 : Shape := ⟨3, ![9, 256, 1024]⟩
abbrev S1x128 : Shape := ⟨2, ![1, 128]⟩
abbrev S1x1024 : Shape := ⟨2, ![1, 1024]⟩
abbrev S16640x128 : Shape := ⟨2, ![16640, 128]⟩
abbrev S256x128 : Shape := ⟨2, ![256, 128]⟩
abbrev S256 : Shape := ⟨1, ![256]⟩
abbrev S256x1 : Shape := ⟨2, ![256, 1]⟩

abbrev nBuf : Space → Nat
  | .hbm => 58
  | .vmem => 23
  | .smem => 0
  | _ => 0

abbrev bufTy : (tb : Table) → Fin (tcTables nBuf tb) → BufTy
  | .hbm, ⟨0, _⟩ => ⟨S8x2048x1024, .bf16⟩
  | .hbm, ⟨1, _⟩ => ⟨S32x8x1024, .f32⟩
  | .hbm, ⟨2, _⟩ => ⟨S1024x1024, .f32⟩
  | .hbm, ⟨3, _⟩ => ⟨S8x2048x1024, .f32⟩
  | .hbm, ⟨4, _⟩ => ⟨S32x8x1024, .f32⟩
  | .hbm, ⟨5, _⟩ => ⟨S40x1024, .f32⟩
  | .hbm, ⟨6, _⟩ => ⟨S40x1024, .f32⟩
  | .hbm, ⟨7, _⟩ => ⟨S40x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S16384x1024, .bf16⟩
  | .hbm, ⟨13, _⟩ => ⟨S256x1024, .f32⟩
  | .hbm, ⟨14, _⟩ => ⟨S256x1024, .bf16⟩
  | .hbm, ⟨15, _⟩ => ⟨S16640x1024, .bf16⟩
  | .hbm, ⟨16, _⟩ => ⟨S16384x1024, .f32⟩
  | .hbm, ⟨17, _⟩ => ⟨S256x1024, .f32⟩
  | .hbm, ⟨18, _⟩ => ⟨S16640x1024, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x128, .bf16⟩
  | .hbm, ⟨23, _⟩ => ⟨S_, .f32⟩
  | .hbm, ⟨24, _⟩ => ⟨S_, .f32⟩
  | .hbm, ⟨25, _⟩ => ⟨S128, .f32⟩
  | .hbm, ⟨26, _⟩ => ⟨S1024x1024, .bf16⟩
  | .hbm, ⟨27, _⟩ => ⟨S8x1024, .f32⟩
  | .hbm, ⟨28, _⟩ => ⟨S8x1x1024, .f32⟩
  | .hbm, ⟨29, _⟩ => ⟨S8x256x1024, .f32⟩
  | .hbm, ⟨30, _⟩ => ⟨S32x1024, .f32⟩
  | .hbm, ⟨31, _⟩ => ⟨S32x8x1024, .f32⟩
  | .hbm, ⟨32, _⟩ => ⟨S256x1024, .f32⟩
  | .hbm, ⟨33, _⟩ => ⟨S1x256x1024, .f32⟩
  | .hbm, ⟨34, _⟩ => ⟨S9x256x1024, .f32⟩
  | .hbm, ⟨35, _⟩ => ⟨S8x1024, .f32⟩
  | .hbm, ⟨36, _⟩ => ⟨S8x1x1024, .f32⟩
  | .hbm, ⟨37, _⟩ => ⟨S8x256x1024, .f32⟩
  | .hbm, ⟨38, _⟩ => ⟨S32x1024, .f32⟩
  | .hbm, ⟨39, _⟩ => ⟨S32x8x1024, .f32⟩
  | .hbm, ⟨40, _⟩ => ⟨S256x1024, .f32⟩
  | .hbm, ⟨41, _⟩ => ⟨S1x256x1024, .f32⟩
  | .hbm, ⟨42, _⟩ => ⟨S9x256x1024, .f32⟩
  | .hbm, ⟨43, _⟩ => ⟨S8x1024, .f32⟩
  | .hbm, ⟨44, _⟩ => ⟨S8x1x1024, .f32⟩
  | .hbm, ⟨45, _⟩ => ⟨S8x256x1024, .f32⟩
  | .hbm, ⟨46, _⟩ => ⟨S32x1024, .f32⟩
  | .hbm, ⟨47, _⟩ => ⟨S32x8x1024, .f32⟩
  | .hbm, ⟨48, _⟩ => ⟨S256x1024, .f32⟩
  | .hbm, ⟨49, _⟩ => ⟨S1x256x1024, .f32⟩
  | .hbm, ⟨50, _⟩ => ⟨S9x256x1024, .f32⟩
  | .hbm, ⟨51, _⟩ => ⟨S1x128, .f32⟩
  | .hbm, ⟨52, _⟩ => ⟨S1x1024, .f32⟩
  | .hbm, ⟨53, _⟩ => ⟨S1x1024, .f32⟩
  | .hbm, ⟨54, _⟩ => ⟨S16640x1024, .f32⟩
  | .hbm, ⟨55, _⟩ => ⟨S16640x1024, .f32⟩
  | .hbm, ⟨56, _⟩ => ⟨S16640x128, .f32⟩
  | .hbm, ⟨57, _⟩ => ⟨S16640x128, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1024x128, .bf16⟩
  | .local _ .vmem, ⟨14, _⟩ => ⟨S1x128, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_cst : Ref sig .tc := ⟨.hbm, 23, rfl⟩
abbrev main_call1_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38_0 : Ref sig .tc := ⟨.hbm, 54, rfl⟩
abbrev main_v38_1 : Ref sig .tc := ⟨.hbm, 55, rfl⟩
abbrev main_v38_2 : Ref sig .tc := ⟨.hbm, 56, rfl⟩
abbrev main_v38_3 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_7 (i : grid0.Coords) : Fin 3 → Nat :=
  let arg0 : BitVec 32 := BitVec.ofNat 32 (i 0).val
  let c64_i32 : BitVec 32 := 64#32
  let v0 : BitVec 1 := Scalar.cmpi .slt arg0 c64_i32
  let c8_i32 : BitVec 32 := 8#32
  let v1 : BitVec 32 := Scalar.divsi arg0 c8_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi arg0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c8_i32_4 : BitVec 32 := 8#32
  let v18 : BitVec 32 := Scalar.addi c8_i32_4 arg0
  let c64_i32_5 : BitVec 32 := 64#32
  let v19 : BitVec 32 := Scalar.subi v18 c64_i32_5
  let v20 : BitVec 32 := Scalar.select v0 v17 v19
  let c0_i32_6 : BitVec 32 := 0#32
  let c0_i32_7 : BitVec 32 := 0#32
  let c0_i32_8 : BitVec 32 := 0#32
  ![v20.toNat, c0_i32_6.toNat, c0_i32_7.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AttnOutReferenceIdeal.lean ====
abbrev S8x2048x1024 : Shape := ⟨3, ![8, 2048, 1024]⟩
abbrev S32x8x1024 : Shape := ⟨3, ![32, 8, 1024]⟩
abbrev S1024x1024 : Shape := ⟨2, ![1024, 1024]⟩
abbrev S40x1024 : Shape := ⟨2, ![40, 1024]⟩
abbrev S1024 : Shape := ⟨1, ![1024]⟩
abbrev S1024x32 : Shape := ⟨2, ![1024, 32]⟩
abbrev S32 : Shape := ⟨1, ![32]⟩
abbrev S8x1024 : Shape := ⟨2, ![8, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S32x1024 : Shape := ⟨2, ![32, 1024]⟩
abbrev S32x1x1024 : Shape := ⟨3, ![32, 1, 1024]⟩
abbrev S32x8 : Shape := ⟨2, ![32, 8]⟩
abbrev S32x8x1 : Shape := ⟨3, ![32, 8, 1]⟩
abbrev S16384x1024 : Shape := ⟨2, ![16384, 1024]⟩
abbrev S256x1024 : Shape := ⟨2, ![256, 1024]⟩
abbrev S16640x1024 : Shape := ⟨2, ![16640, 1024]⟩

abbrev nBuf : Space → Nat
  | .hbm => 123
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S32x8x1024, .f32⟩
  | .hbm, ⟨2, _⟩ => ⟨S1024x1024, .f32⟩
  | .hbm, ⟨3, _⟩ => ⟨S8x2048x1024, .f32⟩
  | .hbm, ⟨4, _⟩ => ⟨S32x8x1024, .f32⟩
  | .hbm, ⟨5, _⟩ => ⟨S40x1024, .f32⟩
  | .hbm, ⟨6, _⟩ => ⟨S40x1024, .f32⟩
  | .hbm, ⟨7, _⟩ => ⟨S40x1024, .f32⟩
  | .hbm, ⟨8, _⟩ => ⟨S1024, .f32⟩
  | .hbm, ⟨9, _⟩ => ⟨S1024, .f32⟩
  | .hbm, ⟨10, _⟩ => ⟨S1024x32, .f32⟩
  | .hbm, ⟨11, _⟩ => ⟨S32, .f32⟩
  | .hbm, ⟨12, _⟩ => ⟨S8x2048x1024, .f32⟩
  | .hbm, ⟨13, _⟩ => ⟨S8x2048x1024, .f32⟩
  | .hbm, ⟨14, _⟩ => ⟨S8x1024, .f32⟩
  | .hbm, ⟨15, _⟩ => ⟨S8x1x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S_, .f32⟩
  | .hbm, ⟨20, _⟩ => ⟨S8x1x1024, .f32⟩
  | .hbm, ⟨21, _⟩ => ⟨S8x1x1024, .f32⟩
  | .hbm, ⟨22, _⟩ => ⟨S8x2048x1024, .f32⟩
  | .hbm, ⟨23, _⟩ => ⟨S8x2048x1024, .f32⟩
  | .hbm, ⟨24, _⟩ => ⟨S8x2048x1024, .f32⟩
  | .hbm, ⟨25, _⟩ => ⟨S_, .f32⟩
  | .hbm, ⟨26, _⟩ => ⟨S8x2048, .f32⟩
  | .hbm, ⟨27, _⟩ => ⟨S8x2048x1, .f32⟩
  | .hbm, ⟨28, _⟩ => ⟨S_, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S_, .f32⟩
  | .hbm, ⟨35, _⟩ => ⟨S8x2048, .f32⟩
  | .hbm, ⟨36, _⟩ => ⟨S8x2048x1, .f32⟩
  | .hbm, ⟨37, _⟩ => ⟨S_, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048x1, .f32⟩
  | .hbm, ⟨44, _⟩ => ⟨S8x2048x1, .f32⟩
  | .hbm, ⟨45, _⟩ => ⟨S8x2048x1, .f32⟩
  | .hbm, ⟨46, _⟩ => ⟨S8x2048x1024, .f32⟩
  | .hbm, ⟨47, _⟩ => ⟨S8x2048x1024, .f32⟩
  | .hbm, ⟨48, _⟩ => ⟨S1x1x1024, .f32⟩
  | .hbm, ⟨49, _⟩ => ⟨S8x2048x1024, .f32⟩
  | .hbm, ⟨50, _⟩ => ⟨S8x2048x1024, .f32⟩
  | .hbm, ⟨51, _⟩ => ⟨S1x1x1024, .f32⟩
  | .hbm, ⟨52, _⟩ => ⟨S8x2048x1024, .f32⟩
  | .hbm, ⟨53, _⟩ => ⟨S8x2048x1024, .f32⟩
  | .hbm, ⟨54, _⟩ => ⟨S32x8x1024, .f32⟩
  | .hbm, ⟨55, _⟩ => ⟨S32x1024, .f32⟩
  | .hbm, ⟨56, _⟩ => ⟨S32x1x1024, .f32⟩
  | .hbm, ⟨57, _⟩ => ⟨S_, .f32⟩
  | .hbm, ⟨58, _⟩ => ⟨S32x8x1024, .f32⟩
  | .hbm, ⟨59, _⟩ => ⟨S32x8x1024, .f32⟩
  | .hbm, ⟨60, _⟩ => ⟨S_, .f32⟩
  | .hbm, ⟨61, _⟩ => ⟨S32x1x1024, .f32⟩
  | .hbm, ⟨62, _⟩ => ⟨S32x1x1024, .f32⟩
  | .hbm, ⟨63, _⟩ => ⟨S32x8x1024, .f32⟩
  | .hbm, ⟨64, _⟩ => ⟨S32x8x1024, .f32⟩
  | .hbm, ⟨65, _⟩ => ⟨S32x8x1024, .f32⟩
  | .hbm, ⟨66, _⟩ => ⟨S_, .f32⟩
  | .hbm, ⟨67, _⟩ => ⟨S32x8, .f32⟩
  | .hbm, ⟨68, _⟩ => ⟨S32x8x1, .f32⟩
  | .hbm, ⟨69, _⟩ => ⟨S_, .f32⟩
  | .hbm, ⟨70, _⟩ => ⟨S32x8x1, .f32⟩
  | .hbm, ⟨71, _⟩ => ⟨S32x8x1, .f32⟩
  | .hbm, ⟨72, _⟩ => ⟨S32x8x1024, .f32⟩
  | .hbm, ⟨73, _⟩ => ⟨S32x8x1024, .f32⟩
  | .hbm, ⟨74, _⟩ => ⟨S32x8x1024, .f32⟩
  | .hbm, ⟨75, _⟩ => ⟨S_, .f32⟩
  | .hbm, ⟨76, _⟩ => ⟨S32x8, .f32⟩
  | .hbm, ⟨77, _⟩ => ⟨S32x8x1, .f32⟩
  | .hbm, ⟨78, _⟩ => ⟨S_, .f32⟩
  | .hbm, ⟨79, _⟩ => ⟨S32x8x1, .f32⟩
  | .hbm, ⟨80, _⟩ => ⟨S32x8x1, .f32⟩
  | .hbm, ⟨81, _⟩ => ⟨S32x8x1024, .f32⟩
  | .hbm, ⟨82, _⟩ => ⟨S32x8x1024, .f32⟩
  | .hbm, ⟨83, _⟩ => ⟨S_, .f32⟩
  | .hbm, ⟨84, _⟩ => ⟨S32x8x1, .f32⟩
  | .hbm, ⟨85, _⟩ => ⟨S32x8x1, .f32⟩
  | .hbm, ⟨86, _⟩ => ⟨S32x8x1, .f32⟩
  | .hbm, ⟨87, _⟩ => ⟨S32x8x1024, .f32⟩
  | .hbm, ⟨88, _⟩ => ⟨S32x8x1024, .f32⟩
  | .hbm, ⟨89, _⟩ => ⟨S1x1x1024, .f32⟩
  | .hbm, ⟨90, _⟩ => ⟨S32x8x1024, .f32⟩
  | .hbm, ⟨91, _⟩ => ⟨S32x8x1024, .f32⟩
  | .hbm, ⟨92, _⟩ => ⟨S1x1x1024, .f32⟩
  | .hbm, ⟨93, _⟩ => ⟨S32x8x1024, .f32⟩
  | .hbm, ⟨94, _⟩ => ⟨S32x8x1024, .f32⟩
  | .hbm, ⟨95, _⟩ => ⟨S8x1024, .f32⟩
  | .hbm, ⟨96, _⟩ => ⟨S8x1x1024, .f32⟩
  | .hbm, ⟨97, _⟩ => ⟨S8x1024, .f32⟩
  | .hbm, ⟨98, _⟩ => ⟨S8x1x1024, .f32⟩
  | .hbm, ⟨99, _⟩ => ⟨S_, .f32⟩
  | .hbm, ⟨100, _⟩ => ⟨S8x1x1024, .f32⟩
  | .hbm, ⟨101, _⟩ => ⟨S8x1x1024, .f32⟩
  | .hbm, ⟨102, _⟩ => ⟨S8x2048x1024, .f32⟩
  | .hbm, ⟨103, _⟩ => ⟨S8x2048x1024, .f32⟩
  | .hbm, ⟨104, _⟩ => ⟨S8x2048x1024, .f32⟩
  | .hbm, ⟨105, _⟩ => ⟨S8x2048x1024, .f32⟩
  | .hbm, ⟨106, _⟩ => ⟨S32x1024, .f32⟩
  | .hbm, ⟨107, _⟩ => ⟨S32x1x1024, .f32⟩
  | .hbm, ⟨108, _⟩ => ⟨S32x1024, .f32⟩
  | .hbm, ⟨109, _⟩ => ⟨S32x1x1024, .f32⟩
  | .hbm, ⟨110, _⟩ => ⟨S_, .f32⟩
  | .hbm, ⟨111, _⟩ => ⟨S32x1x1024, .f32⟩
  | .hbm, ⟨112, _⟩ => ⟨S32x1x1024, .f32⟩
  | .hbm, ⟨113, _⟩ => ⟨S32x8x1024, .f32⟩
  | .hbm, ⟨114, _⟩ => ⟨S32x8x1024, .f32⟩
  | .hbm, ⟨115, _⟩ => ⟨S32x8x1024, .f32⟩
  | .hbm, ⟨116, _⟩ => ⟨S32x8x1024, .f32⟩
  | .hbm, ⟨117, _⟩ => ⟨S16384x1024, .f32⟩
  | .hbm, ⟨118, _⟩ => ⟨S256x1024, .f32⟩
  | .hbm, ⟨119, _⟩ => ⟨S16640x1024, .f32⟩
  | .hbm, ⟨120, _⟩ => ⟨S16384x1024, .f32⟩
  | .hbm, ⟨121, _⟩ => ⟨S256x1024, .f32⟩
  | .hbm, ⟨122, _⟩ => ⟨S16640x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_8 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩

abbrev nD : Nat := 1
abbrev τ : Topo := Topo.v7x

variable {F : FTy → Type} [FloatOps F]
-- ==== Ada.lean ====
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S40x1024 : Shape := ⟨2, ![40, 1024]⟩
abbrev S2x1x6144 : Shape := ⟨3, ![2, 1, 6144]⟩
abbrev S2x40x6144 : Shape := ⟨3, ![2, 40, 6144]⟩
abbrev S1x1024x1536 : Shape := ⟨3, ![1, 1024, 1536]⟩
abbrev S1x1x1536 : Shape := ⟨3, ![1, 1, 1536]⟩
abbrev S1x40x1536 : Shape := ⟨3, ![1, 40, 1536]⟩
abbrev S1024x1536 : Shape := ⟨2, ![1024, 1536]⟩
abbrev S40x1536 : Shape := ⟨2, ![40, 1536]⟩
abbrev S1x1536 : Shape := ⟨2, ![1, 1536]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S40x1024, .f32⟩
  | .hbm, ⟨5, _⟩ => ⟨S2x1x6144, .f32⟩
  | .hbm, ⟨6, _⟩ => ⟨S2x40x6144, .f32⟩
  | .local _ .vmem, ⟨0, _⟩ => ⟨S40x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x40x1536, .f32⟩
  | .local _ .vmem, ⟨6, _⟩ => ⟨S1x40x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S40x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x40x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaReferenceIdeal.lean ====
abbrev S8x1024 : Shape := ⟨2, ![8, 1024]⟩
abbrev S32x1024 : Shape := ⟨2, ![32, 1024]⟩
abbrev S2x1024x6144 : Shape := ⟨3, ![2, 1024, 6144]⟩
abbrev S2x6144 : Shape := ⟨2, ![2, 6144]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S_ : Shape := ⟨0, ![]⟩
abbrev S8x6144 : Shape := ⟨2, ![8, 6144]⟩
abbrev S32x6144 : Shape := ⟨2, ![32, 6144]⟩
abbrev S40x6144 : Shape := ⟨2, ![40, 6144]⟩
abbrev S1x40x6144 : Shape := ⟨3, ![1, 40, 6144]⟩
abbrev S2x40x6144 : Shape := ⟨3, ![2, 40, 6144]⟩

abbrev nBuf : Space → Nat
  | .hbm => 77
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S32x1024, .f32⟩
  | .hbm, ⟨2, _⟩ => ⟨S2x1024x6144, .f32⟩
  | .hbm, ⟨3, _⟩ => ⟨S2x6144, .f32⟩
  | .hbm, ⟨4, _⟩ => ⟨S1x1024x6144, .f32⟩
  | .hbm, ⟨5, _⟩ => ⟨S1024x6144, .f32⟩
  | .hbm, ⟨6, _⟩ => ⟨S1x6144, .f32⟩
  | .hbm, ⟨7, _⟩ => ⟨S6144, .f32⟩
  | .hbm, ⟨8, _⟩ => ⟨S8x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S8x1024, .f32⟩
  | .hbm, ⟨13, _⟩ => ⟨S_, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S8x6144, .f32⟩
  | .hbm, ⟨18, _⟩ => ⟨S1x6144, .f32⟩
  | .hbm, ⟨19, _⟩ => ⟨S8x6144, .f32⟩
  | .hbm, ⟨20, _⟩ => ⟨S8x6144, .f32⟩
  | .hbm, ⟨21, _⟩ => ⟨S1x1024x6144, .f32⟩
  | .hbm, ⟨22, _⟩ => ⟨S1024x6144, .f32⟩
  | .hbm, ⟨23, _⟩ => ⟨S1x6144, .f32⟩
  | .hbm, ⟨24, _⟩ => ⟨S6144, .f32⟩
  | .hbm, ⟨25, _⟩ => ⟨S32x1024, .f32⟩
  | .hbm, ⟨26, _⟩ => ⟨S32x1024, .f32⟩
  | .hbm, ⟨27, _⟩ => ⟨S_, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S32x6144, .f32⟩
  | .hbm, ⟨35, _⟩ => ⟨S1x6144, .f32⟩
  | .hbm, ⟨36, _⟩ => ⟨S32x6144, .f32⟩
  | .hbm, ⟨37, _⟩ => ⟨S32x6144, .f32⟩
  | .hbm, ⟨38, _⟩ => ⟨S40x6144, .f32⟩
  | .hbm, ⟨39, _⟩ => ⟨S1x1024x6144, .f32⟩
  | .hbm, ⟨40, _⟩ => ⟨S1024x6144, .f32⟩
  | .hbm, ⟨41, _⟩ => ⟨S1x6144, .f32⟩
  | .hbm, ⟨42, _⟩ => ⟨S6144, .f32⟩
  | .hbm, ⟨43, _⟩ => ⟨S8x1024, .f32⟩
  | .hbm, ⟨44, _⟩ => ⟨S8x1024, .f32⟩
  | .hbm, ⟨45, _⟩ => ⟨S_, .f32⟩
  | .hbm, ⟨46, _⟩ => ⟨S8x1024, .f32⟩
  | .hbm, ⟨47, _⟩ => ⟨S8x1024, .f32⟩
  | .hbm, ⟨48, _⟩ => ⟨S_, .f32⟩
  | .hbm, ⟨49, _⟩ => ⟨S8x1024, .f32⟩
  | .hbm, ⟨50, _⟩ => ⟨S8x1024, .f32⟩
  | .hbm, ⟨51, _⟩ => ⟨S8x1024, .f32⟩
  | .hbm, ⟨52, _⟩ => ⟨S8x6144, .f32⟩
  | .hbm, ⟨53, _⟩ => ⟨S1x6144, .f32⟩
  | .hbm, ⟨54, _⟩ => ⟨S8x6144, .f32⟩
  | .hbm, ⟨55, _⟩ => ⟨S8x6144, .f32⟩
  | .hbm, ⟨56, _⟩ => ⟨S1x1024x6144, .f32⟩
  | .hbm, ⟨57, _⟩ => ⟨S1024x6144, .f32⟩
  | .hbm, ⟨58, _⟩ => ⟨S1x6144, .f32⟩
  | .hbm, ⟨59, _⟩ => ⟨S6144, .f32⟩
  | .hbm, ⟨60, _⟩ => ⟨S32x1024, .f32⟩
  | .hbm, ⟨61, _⟩ => ⟨S32x1024, .f32⟩
  | .hbm, ⟨62, _⟩ => ⟨S_, .f32⟩
  | .hbm, ⟨63, _⟩ => ⟨S32x1024, .f32⟩
  | .hbm, ⟨64, _⟩ => ⟨S32x1024, .f32⟩
  | .hbm, ⟨65, _⟩ => ⟨S_, .f32⟩
  | .hbm, ⟨66, _⟩ => ⟨S32x1024, .f32⟩
  | .hbm, ⟨67, _⟩ => ⟨S32x1024, .f32⟩
  | .hbm, ⟨68, _⟩ => ⟨S32x1024, .f32⟩
  | .hbm, ⟨69, _⟩ => ⟨S32x6144, .f32⟩
  | .hbm, ⟨70, _⟩ => ⟨S1x6144, .f32⟩
  | .hbm, ⟨71, _⟩ => ⟨S32x6144, .f32⟩
  | .hbm, ⟨72, _⟩ => ⟨S32x6144, .f32⟩
  | .hbm, ⟨73, _⟩ => ⟨S40x6144, .f32⟩
  | .hbm, ⟨74, _⟩ => ⟨S1x40x6144, .f32⟩
  | .hbm, ⟨75, _⟩ => ⟨S1x40x6144, .f32⟩
  | .hbm, ⟨76, _⟩ => ⟨S2x40x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩

abbrev nD : Nat := 1
abbrev τ : Topo := Topo.v7x

variable {F : FTy → Type} [FloatOps F]
-- ==== Proof.Ret.Loop.lean ====
/-
  The reference's loop over chunks, as `step` iterated: the memory before each trip holds the state, the set-up values and
  the trip's number, one trip takes the state to the next one, and the run's results are read from state 16.
-/
module

public import proofs.«01_k».proof.Proof.Gen.ReferenceIdeal.Run
public import proofs.«01_k».proof.Proof.Gen.ReferenceIdeal.Step

@[expose] public section

noncomputable section

namespace Cert.Ret.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v16_5) = s.main_v16_5
  f_6 : V0 (Proc.devRef .tc main_v16_6) = s.main_v16_6
  f_0 : V0 (Proc.devRef .tc main_v16_0) = s.main_v16_0
  f_1 : V0 (Proc.devRef .tc main_v16_1) = s.main_v16_1
  f_2 : V0 (Proc.devRef .tc main_v16_2) = s.main_v16_2
  n_4 : V0 (Proc.devRef .tc main_v16_4) = constantI S_ 32 (BitVec.ofNat 32 j)
  k_3 : V0 (Proc.devRef .tc main_v16_3) = Cert.ReferenceIdeal.Step.K_main_v7 (F := F)

variable {V0 s j}

/-! One trip's step of the carried values is `step`, field by field; a counter steps to the next number. -/

/-- The new state of one trip, read off the memory. -/
theorem step_5 (h : Holds V0 s j) : step_main_v16_5 V0 = (step j s).main_v16_5 := by
  obtain ⟨f5, f6, f0, f1, f2, n4, k3⟩ := h
  unfold step_main_v16_5 res_main_while0b_v46 res_main_while0b_v47 res_main_while0b_v48
  rw [f5, f1, f2, n4, k3]
  rfl
/-- The stacked outputs after one trip, read off the memory. -/
theorem step_6 (h : Holds V0 s j) : step_main_v16_6 V0 = (step j s).main_v16_6 := by
  obtain ⟨f5, f6, f0, f1, f2, n4, k3⟩ := h
  unfold step_main_v16_6 res_main_while0b_v53 res_main_while0b_v45 res_main_while0b_v46 res_main_while0b_v47 res_main_while0b_v48
  rw [f5, f6, f0, f1, f2, n4, k3]
  rfl
theorem step_4 (h : Holds V0 s j) : step_main_v16_4 V0 = constantI S_ 32 (BitVec.ofNat 32 (j + 1)) := by
  unfold step_main_v16_4
  rw [h.n_4]
  funext i
  show BitVec.ofNat 32 j + 1#32 = BitVec.ofNat 32 (j + 1)
  simp only [BitVec.ofNat_add]

set_option maxRecDepth 8192 in
theorem out_main_v44_holds (h : Holds V0 s j) {x_main_arg3 : (⟨S8x2048x2048, .f32⟩ : BufTy).Contents (Elt F)} (h_main_arg3 : V0 (Proc.devRef .tc main_arg3) = x_main_arg3) {x_main_arg4 : (⟨S4x512, .f32⟩ : BufTy).Contents (Elt F)} (h_main_arg4 : V0 (Proc.devRef .tc main_arg4) = x_main_arg4) : out_main_v44 V0 = Cert.ReferenceIdeal.Step.R_main_v44 s x_main_arg3 x_main_arg4 := by
  unfold out_main_v44 Cert.ReferenceIdeal.Step.R_main_v44
  rw [h.f_6, h_main_arg3, h_main_arg4]
  try rfl

/-- One trip keeps the valuation holding: `step` of the state, the same set-up values, the next number. -/
theorem holds_step (h : Holds V0 s j) : Holds (STEP V0) (step j s) (j + 1) where
  f_5 := (STEP_main_v16_5 V0).trans (step_5 h)
  f_6 := (STEP_main_v16_6 V0).trans (step_6 h)
  n_4 := (STEP_main_v16_4 V0).trans (step_4 h)
  k_3 := (STEP_main_v16_3 V0).trans h.k_3
  f_0 := (STEP_main_v16_0 V0).trans h.f_0
  f_1 := (STEP_main_v16_1 V0).trans h.f_1
  f_2 := (STEP_main_v16_2 V0).trans h.f_2

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v44) = Cert.ReferenceIdeal.Step.R_main_v44 (it c 16) (m ((c.tc : Thread nD τ).loc main_arg3)) (m ((c.tc : Thread nD τ).loc main_arg4))
      ∧ r.2.mem ((c.tc : Thread nD τ).loc main_v16_5) = (it c 16).main_v16_5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have hk := holds_iter m c (it c) (h0 c) (hs c) 16
    ⟨(h c).1.trans (out_main_v44_holds hk (iter_main_arg3 m c 16) (iter_main_arg4 m c 16)), (h c).2.1.trans hk.f_5, (h c).2.2.1, (h c).2.2.2.1, (h c).2.2.2.2.1, (h c).2.2.2.2.2.1, (h c).2.2.2.2.2.2⟩) (Value.run m ρ)

end Cert.Ret.Loop

end
-- ==== Proof.Ret.Entry.lean ====
module

public import proofs.«01_k».proof.Proof.Gen.KernelIdeal.Frame
public import proofs.«01_k».proof.Proof.Gen.ReferenceIdeal.Step
public import Idealize.ShloMosaic.Lib.Pointwise
public import Idealize.ShloMosaic.Lib.Tactic
public import Idealize.ShloMosaic.Lib.KernelVsHost

/-! What the retention call's nine input arrays hold when the call is entered: the padded rows of q,
    k, v and the gate, the four decay tables (the very tables the reference computes), and the
    group-norm gains. First as whole arrays, then at an index. -/

@[expose] public section

noncomputable section

namespace Cert.Ret

open Idealize.ShloMosaic Idealize.ShloMosaic.TcCoe Idealize.SL.Sem Cert.KernelIdeal Cert.KernelIdeal.Gen

section whole

variable {F : FTy → Type} [FloatOps F]
variable (m : (ℓ : Loc nD τ sig) → Buf (Elt F) ℓ) (c : Dev nD)

theorem V_q : V m c main_v2 = truncf .bf16 (pad S16640x1024 ![0, 0] ![256, 0] ![0, 0]
    (shapeCast S16384x1024 (m ((c : Thread nD τ).loc main_arg0)) shapeCasts_S8x2048x4x256_S16384x1024) (sitofp .f32 (constantI S_ 32 0#32))
      pads_S16384x1024_S16640x1024_02560_000 h_S_) bitsLt_bf16_f32 := by
  show StableHlo.after (List.flatten _) _ (Proc.devRef .tc main_v2) = _
  simp only [List.flatten_cons, List.flatten_nil, List.append_nil, List.cons_append, List.nil_append]
  after_results
  rfl

theorem V_k : V m c main_v4 = pad S16640x1024 ![0, 0] ![256, 0] ![0, 0]
    (shapeCast S16384x1024 (m ((c : Thread nD τ).loc main_arg1)) shapeCasts_S8x2048x4x256_S16384x1024) (sitofp .f32 (constantI S_ 32 0#32))
      pads_S16384x1024_S16640x1024_02560_000 h_S_ := by
  show StableHlo.after (List.flatten _) _ (Proc.devRef .tc main_v4) = _
  simp only [List.flatten_cons, List.flatten_nil, List.append_nil, List.cons_append, List.nil_append]
  after_results
  rfl

theorem V_v : V m c main_v7 = truncf .bf16 (pad S16640x2048 ![0, 0] ![256, 0] ![0, 0]
    (shapeCast S16384x2048 (m ((c : Thread nD τ).loc main_arg2)) shapeCasts_S8x2048x4x512_S16384x2048) (sitofp .f32 (constantI S_ 32 0#32))
      pads_S16384x2048_S16640x2048_02560_000 h_S_) bitsLt_bf16_f32 := by
  show StableHlo.after (List.flatten _) _ (Proc.devRef .tc main_v7) = _
  simp only [List.flatten_cons, List.flatten_nil, List.append_nil, List.cons_append, List.nil_append]
  after_results
  rfl

theorem V_g : V m c main_v9 = pad S16640x2048 ![0, 0] ![256, 0] ![0, 0]
    (shapeCast S16384x2048 (m ((c : Thread nD τ).loc main_arg3)) shapeCasts_S8x2048x2048_S16384x2048) (sitofp .f32 (constantI S_ 32 0#32))
      pads_S16384x2048_S16640x2048_02560_000 h_S_ := by
  show StableHlo.after (List.flatten _) _ (Proc.devRef .tc main_v9) = _
  simp only [List.flatten_cons, List.flatten_nil, List.append_nil, List.cons_append, List.nil_append]
  after_results
  rfl

theorem V_dm (s : Cert.ReferenceIdeal.Step.State F) : V m c main_v53 = pad S4x128x128 ![0, 0, 0] ![0, 0, 0] ![0, 0, 0]
    (Cert.ReferenceIdeal.Step.b40 0 s : FVec F S4x128x128 .f32) (sitofp .f32 (constantI S_ 32 0#32)) pads_S4x128x128_S4x128x128_000_000_000 h_S_ := by
  show StableHlo.after (List.flatten _) _ (Proc.devRef .tc main_v53) = _
  simp only [List.flatten_cons, List.flatten_nil, List.append_nil, List.cons_append, List.nil_append]
  after_results
  rfl

theorem V_qd (s : Cert.ReferenceIdeal.Step.State F) : V m c main_v55 = broadcastInDim S4x128x1 ![0, 1] bcast_S4x128_S4x128x1_0_1
    (pad S4x128 ![0, 0] ![0, 0] ![0, 0] (transpose S4x128 [1, 0] (Cert.ReferenceIdeal.Step.b55 0 s : FVec F S128x4 .f32) transposes_S128x4_S4x128_1_0)
      (sitofp .f32 (constantI S_ 32 0#32)) pads_S4x128_S4x128_000_000 h_S_) := by
  show StableHlo.after (List.flatten _) _ (Proc.devRef .tc main_v55) = _
  simp only [List.flatten_cons, List.flatten_nil, List.append_nil, List.cons_append, List.nil_append]
  after_results
  rfl

theorem V_kd (s : Cert.ReferenceIdeal.Step.State F) : V m c main_v57 = broadcastInDim S4x128x1 ![0, 1] bcast_S4x128_S4x128x1_0_1
    (pad S4x128 ![0, 0] ![0, 0] ![0, 0] (transpose S4x128 [1, 0] (Cert.ReferenceIdeal.Step.b69 0 s : FVec F S128x4 .f32) transposes_S128x4_S4x128_1_0)
      (sitofp .f32 (constantI S_ 32 0#32)) pads_S4x128_S4x128_000_000 h_S_) := by
  show StableHlo.after (List.flatten _) _ (Proc.devRef .tc main_v57) = _
  simp only [List.flatten_cons, List.flatten_nil, List.append_nil, List.cons_append, List.nil_append]
  after_results
  rfl

theorem V_sd (s : Cert.ReferenceIdeal.Step.State F) : V m c main_v62 = broadcastInDim S4x1x512 ![0, 1, 2] bcast_S4x1x1_S4x1x512_0_1_2
    (broadcastInDim S4x1x1 ![0] bcast_S4_S4x1x1_0 (Cert.ReferenceIdeal.Step.b73 0 s : FVec F S4 .f32)) := by
  show StableHlo.after (List.flatten _) _ (Proc.devRef .tc main_v62) = _
  simp only [List.flatten_cons, List.flatten_nil, List.append_nil, List.cons_append, List.nil_append]
  after_results
  rfl

theorem V_gn : V m c main_v63 = shapeCast S4x1x512 (m ((c : Thread nD τ).loc main_arg4)) shapeCasts_S4x512_S4x1x512 := by
  show StableHlo.after (List.flatten _) _ (Proc.devRef .tc main_v63) = _
  simp only [List.flatten_cons, List.flatten_nil, List.append_nil, List.cons_append, List.nil_append]
  after_results
  rfl

end whole

variable (m : (ℓ : Loc nD τ sig) → Buf (Elt Ideal) ℓ) (c : Dev nD)

theorem V_q_at (b : Fin 8) (t : Fin 2048) (h : Fin 4) (d : Fin 256) :
    V m c main_v2 (ix2 ⟨2048 * b.val + t.val, by omega⟩ ⟨256 * h.val + d.val, by omega⟩) = m ((c : Thread nD τ).loc main_arg0) (ix4 b t h d) := by
  rw [V_q]
  rw [show ∀ (x : FVec Ideal S16640x1024 .f32) j, truncf .bf16 x bitsLt_bf16_f32 j = x j from fun _ _ => rfl]
  refine (pad_apply_of_inside _ _ _ _ _ _ _ _ (ix2 ⟨2048 * b.val + t.val, by omega⟩ ⟨256 * h.val + d.val, by omega⟩)
    (fun a => by match a with | ⟨0, _⟩ => simp | ⟨1, _⟩ => simp)).trans ?_
  refine shapeCast_apply (s := S8x2048x4x256) _ _ _ _ ?_
  rw [Shape.rowMajor_val_four, Shape.rowMajor_val_two]
  simp
  omega

theorem V_k_at (b : Fin 8) (t : Fin 2048) (h : Fin 4) (d : Fin 256) :
    V m c main_v4 (ix2 ⟨2048 * b.val + t.val, by omega⟩ ⟨256 * h.val + d.val, by omega⟩) = m ((c : Thread nD τ).loc main_arg1) (ix4 b t h d) := by
  rw [V_k]
  refine (pad_apply_of_inside _ _ _ _ _ _ _ _ (ix2 ⟨2048 * b.val + t.val, by omega⟩ ⟨256 * h.val + d.val, by omega⟩)
    (fun a => by match a with | ⟨0, _⟩ => simp | ⟨1, _⟩ => simp)).trans ?_
  refine shapeCast_apply (s := S8x2048x4x256) _ _ _ _ ?_
  rw [Shape.rowMajor_val_four, Shape.rowMajor_val_two]
  simp
  omega

theorem V_v_at (b : Fin 8) (t : Fin 2048) (h : Fin 4) (d : Fin 512) :
    V m c main_v7 (ix2 ⟨2048 * b.val + t.val, by omega⟩ ⟨512 * h.val + d.val, by omega⟩) = m ((c : Thread nD τ).loc main_arg2) (ix4 b t h d) := by
  rw [V_v]
  rw [show ∀ (x : FVec Ideal S16640x2048 .f32) j, truncf .bf16 x bitsLt_bf16_f32 j = x j from fun _ _ => rfl]
  refine (pad_apply_of_inside _ _ _ _ _ _ _ _ (ix2 ⟨2048 * b.val + t.val, by omega⟩ ⟨512 * h.val + d.val, by omega⟩)
    (fun a => by match a with | ⟨0, _⟩ => simp | ⟨1, _⟩ => simp)).trans ?_
  refine shapeCast_apply (s := S8x2048x4x512) _ _ _ _ ?_
  rw [Shape.rowMajor_val_four, Shape.rowMajor_val_two]
  simp
  omega

theorem V_g_at (b : Fin 8) (t : Fin 2048) (l : Fin 2048) :
    V m c main_v9 (ix2 ⟨2048 * b.val + t.val, by omega⟩ l) = m ((c : Thread nD τ).loc main_arg3) (ix3 b t l) := by
  rw [V_g]
  refine (pad_apply_of_inside _ _ _ _ _ _ _ _ (ix2 ⟨2048 * b.val + t.val, by omega⟩ l)
    (fun a => by match a with | ⟨0, _⟩ => simp | ⟨1, _⟩ => simp)).trans ?_
  refine shapeCast_apply (s := S8x2048x2048) _ _ _ _ ?_
  rw [Shape.rowMajor_val_three, Shape.rowMajor_val_two]
  simp
  omega

theorem V_dm_at (s : Cert.ReferenceIdeal.Step.State Ideal) (h : Fin 4) (i x : Fin 128) :
    V m c main_v53 (ix3 h i x) = (Cert.ReferenceIdeal.Step.b40 0 s : FVec Ideal S4x128x128 .f32) (ix3 h i x) := by
  rw [V_dm m c s]
  generalize (Cert.ReferenceIdeal.Step.b40 0 s : FVec Ideal S4x128x128 .f32) = T
  pointwise

theorem V_qd_at (s : Cert.ReferenceIdeal.Step.State Ideal) (h : Fin 4) (i : Fin 128) :
    V m c main_v55 (ix3 h i 0) = (Cert.ReferenceIdeal.Step.b55 0 s : FVec Ideal S128x4 .f32) (ix2 i h) := by
  rw [V_qd m c s]
  generalize (Cert.ReferenceIdeal.Step.b55 0 s : FVec Ideal S128x4 .f32) = T
  pointwise

theorem V_kd_at (s : Cert.ReferenceIdeal.Step.State Ideal) (h : Fin 4) (i : Fin 128) :
    V m c main_v57 (ix3 h i 0) = (Cert.ReferenceIdeal.Step.b69 0 s : FVec Ideal S128x4 .f32) (ix2 i h) := by
  rw [V_kd m c s]
  generalize (Cert.ReferenceIdeal.Step.b69 0 s : FVec Ideal S128x4 .f32) = T
  pointwise

theorem V_sd_at (s : Cert.ReferenceIdeal.Step.State Ideal) (h : Fin 4) (e : Fin 512) :
    V m c main_v62 (ix3 h 0 e) = (Cert.ReferenceIdeal.Step.b73 0 s : FVec Ideal S4 .f32) (ix1 h) := by
  rw [V_sd m c s]
  generalize (Cert.ReferenceIdeal.Step.b73 0 s : FVec Ideal S4 .f32) = T
  pointwise

theorem V_gn_at (h : Fin 4) (e : Fin 512) :
    V m c main_v63 (ix3 h 0 e) = m ((c : Thread nD τ).loc main_arg4) (ix2 h e) := by
  rw [V_gn]
  pointwise

end Cert.Ret
-- ==== Proof.Ret.RefStep.lean ====
module

public import proofs.«01_k».proof.Proof.Gen.ReferenceIdeal.Step
public import Idealize.ShloMosaic.Lib.Pointwise

/-! What one trip of the reference's loop computes, entry by entry: the scores, the two halves of the block's
output, and the new state. -/

@[expose] public section

noncomputable section

namespace Cert.Ret

open Idealize.ShloMosaic Cert.ReferenceIdeal Cert.ReferenceIdeal.Gen Cert.ReferenceIdeal.Step

theorem b45_at (j : ℕ) (s : State Ideal) (b : Fin 8) (h : Fin 4) (e : Fin 512) (i : Fin 128) :
    b45 j s (ix4 b h e i) = ∑ x : Fin 128, b17 j s (ix4 b x h e) * b44 j s (ix4 b h i x) := by
  unfold b45
  pointwise

theorem b41_at (j : ℕ) (s : State Ideal) (b : Fin 8) (h : Fin 4) (i x : Fin 128) :
    b41 j s (ix4 b h i x) = ∑ d : Fin 256, b5 j s (ix4 b i h d) * b11 j s (ix4 b x h d) := by
  unfold b41
  pointwise

theorem b56_at (j : ℕ) (s : State Ideal) (b : Fin 8) (h : Fin 4) (e : Fin 512) (i : Fin 128) :
    b56 j s (ix4 b h e i) = ∑ d : Fin 256, s.main_v16_5 (ix4 b h d e) * b5 j s (ix4 b i h d) := by
  unfold b56
  pointwise

theorem b80_at (j : ℕ) (s : State Ideal) (b : Fin 8) (h : Fin 4) (d : Fin 256) (e : Fin 512) :
    b80 j s (ix4 b h d e) = ∑ x : Fin 128, b79 j s (ix4 b x h d) * b17 j s (ix4 b x h e) := by
  unfold b80
  pointwise

theorem b81_at (j : ℕ) (s : State Ideal) (b : Fin 8) (h : Fin 4) (d : Fin 256) (e : Fin 512) :
    b81 j s (ix4 b h d e) = b73 j s (ix1 h) * s.main_v16_5 (ix4 b h d e)
      + ∑ x : Fin 128, (b11 j s (ix4 b x h d) * b69 j s (ix2 x h)) * b17 j s (ix4 b x h e) := by
  unfold b81 b76 b75 b74
  pointwise
  rw [b80_at]
  unfold b79 b78 b77
  pointwise

theorem b82_at (j : ℕ) (s : State Ideal) (b : Fin 8) (i : Fin 128) (h : Fin 4) (e : Fin 512) :
    b82 j s (ix4 b i h e) = (∑ x : Fin 128, b17 j s (ix4 b x h e)
        * ((∑ d : Fin 256, b5 j s (ix4 b i h d) * b11 j s (ix4 b x h d)) * b40 j s (ix3 h i x)))
      + (∑ d : Fin 256, s.main_v16_5 (ix4 b h d e) * b5 j s (ix4 b i h d)) * b55 j s (ix2 i h) := by
  unfold b82 b46 b60 b57 b59 b58
  pointwise
  rw [b45_at, b56_at]
  congr 1
  refine Finset.sum_congr rfl fun x _ => ?_
  unfold b44 b43 b42
  pointwise
  rw [b41_at]

/-- Trip number `j` as a start word of a slice. -/
theorem start_word (j : ℕ) (hj : j < 16) : (BitVec.ofNat 32 j).toInt = (j : ℤ) := by
  interval_cases j <;> rfl

/-- The start of trip `j`'s slice of a stack of chunks: chunk `j`, all else from its beginning. -/
def chunkStart (j : ℕ) : Fin 5 → ℤ := ![(j : ℤ), 0, 0, 0, 0]

theorem start_eq (j : ℕ) (hj : j < 16) :
    (fun k => (((![(constantI S_ 32 (BitVec.ofNat 32 j) : (⟨S_, .i32⟩ : BufTy).Contents (Elt Ideal)), constantI S_ 32 0#32, constantI S_ 32 0#32,
      constantI S_ 32 0#32, constantI S_ 32 0#32] : Fin 5 → (⟨S_, .i32⟩ : BufTy).Contents (Elt Ideal))) k (Shape.Idx.first h_S_)).toInt)
      = chunkStart j := by
  funext k
  match k with
  | 0 => exact start_word j hj
  | 1 => rfl
  | 2 => rfl
  | 3 => rfl
  | 4 => rfl

/-- The clamped start is the start: chunk `j` lies inside the stack. -/
theorem clamp_eq (n j : ℕ) (hj : j < 16) (a : Fin 5) :
    Host.clampedStart (⟨5, ![16, 8, 128, 4, n]⟩ : Shape) (⟨5, ![1, 8, 128, 4, n]⟩ : Shape) rfl (chunkStart j) a
      = if a = 0 then j else 0 := by
  match a with
  | 0 => exact Host.clampedStart_of_le _ _ 0 j rfl (by show j + 1 ≤ 16; omega)
  | 1 => exact Host.clampedStart_of_le _ _ 1 0 rfl (by show 0 + 8 ≤ 8; omega)
  | 2 => exact Host.clampedStart_of_le _ _ 2 0 rfl (by show 0 + 128 ≤ 128; omega)
  | 3 => exact Host.clampedStart_of_le _ _ 3 0 rfl (by show 0 + 4 ≤ 4; omega)
  | 4 => exact Host.clampedStart_of_le _ _ 4 0 rfl (by show 0 + n ≤ n; omega)

/-- Trip `j`'s slice of a stack of chunks is chunk `j`. -/
theorem chunk_at {α : Type} {n : ℕ} (x : (⟨5, ![16, 8, 128, 4, n]⟩ : Shape).Idx → α) (j : ℕ) (hj : j < 16)
    (hs : (⟨5, ![16, 8, 128, 4, n]⟩ : Shape).Slices (fun _ => 0) (⟨5, ![1, 8, 128, 4, n]⟩ : Shape))
    (b : Fin 8) (i : Fin 128) (h : Fin 4) (d : Fin n) :
    Host.dynamicSlice (⟨5, ![1, 8, 128, 4, n]⟩ : Shape) x (chunkStart j) hs (ix5 0 b i h d) = x (ix5 ⟨j, hj⟩ b i h d) := by
  rw [Host.dynamicSlice_apply, Shape.Idx.norm_def]
  refine congrArg x ?_
  funext a
  refine Fin.ext ?_
  refine (congrArg (· + _) (clamp_eq n j hj a)).trans ?_
  match a with
  | 0 => exact Nat.add_zero _
  | 1 => exact Nat.zero_add _
  | 2 => exact Nat.zero_add _
  | 3 => exact Nat.zero_add _
  | 4 => exact Nat.zero_add _

/-- Writing chunk `j` of a stack of chunks. -/
theorem put_at {α : Type} {n : ℕ} (x : (⟨5, ![16, 8, 128, 4, n]⟩ : Shape).Idx → α) (u : (⟨5, ![1, 8, 128, 4, n]⟩ : Shape).Idx → α)
    (j : ℕ) (hj : j < 16)
    (hs : (⟨5, ![16, 8, 128, 4, n]⟩ : Shape).Slices (fun _ => 0) (⟨5, ![1, 8, 128, 4, n]⟩ : Shape))
    (c : Fin 16) (b : Fin 8) (i : Fin 128) (h : Fin 4) (d : Fin n) :
    Host.dynamicUpdateSlice x u (chunkStart j) hs (ix5 c b i h d) = if c.val = j then u (ix5 0 b i h d) else x (ix5 c b i h d) := by
  rw [Host.dynamicUpdateSlice_apply]
  have hc := clamp_eq n j hj
  by_cases h0 : c.val = j
  · rw [if_pos h0, dif_pos]
    · rw [Shape.Idx.norm_def]
      refine congrArg u ?_
      funext a
      refine Fin.ext ?_
      refine (congrArg (_ - ·) (hc a)).trans ?_
      match a with
      | 0 => show c.val - j = 0; omega
      | 1 => rfl
      | 2 => rfl
      | 3 => rfl
      | 4 => rfl
    · intro a
      have := hc a
      rw [this]
      match a with
      | 0 => show j ≤ c.val ∧ c.val < j + 1; omega
      | 1 => exact ⟨Nat.zero_le _, by show b.val < 0 + 8; omega⟩
      | 2 => exact ⟨Nat.zero_le _, by show i.val < 0 + 128; omega⟩
      | 3 => exact ⟨Nat.zero_le _, by show h.val < 0 + 4; omega⟩
      | 4 => exact ⟨Nat.zero_le _, by show d.val < 0 + n; omega⟩
  · rw [if_neg h0, dif_neg]
    intro hh
    have h1 := hh 0
    rw [hc 0] at h1
    have h2 : j ≤ c.val ∧ c.val < j + 1 := h1
    omega

theorem b5_at (j : ℕ) (hj : j < 16) (s : State Ideal) (b : Fin 8) (i : Fin 128) (h : Fin 4) (d : Fin 256) :
    b5 j s (ix4 b i h d) = s.main_v16_0 (ix5 ⟨j, hj⟩ b i h d) := by
  unfold b5 b4 b0 b1 b2 b3
  rw [start_eq j hj]
  refine Eq.trans ?_ (chunk_at s.main_v16_0 j hj sliceFits_S16x8x128x4x256_S1x8x128x4x256 b i h d)
  pointwise

theorem b11_at (j : ℕ) (hj : j < 16) (s : State Ideal) (b : Fin 8) (i : Fin 128) (h : Fin 4) (d : Fin 256) :
    b11 j s (ix4 b i h d) = s.main_v16_1 (ix5 ⟨j, hj⟩ b i h d) :=
  b5_at j hj { s with main_v16_0 := s.main_v16_1 } b i h d

theorem b17_at (j : ℕ) (hj : j < 16) (s : State Ideal) (b : Fin 8) (i : Fin 128) (h : Fin 4) (e : Fin 512) :
    b17 j s (ix4 b i h e) = s.main_v16_2 (ix5 ⟨j, hj⟩ b i h e) := by
  unfold b17 b16 b12 b13 b14 b15
  rw [start_eq j hj]
  refine Eq.trans ?_ (chunk_at s.main_v16_2 j hj sliceFits_S16x8x128x4x512_S1x8x128x4x512 b i h e)
  pointwise

theorem b88_at (j : ℕ) (hj : j < 16) (s : State Ideal) (c : Fin 16) (b : Fin 8) (i : Fin 128) (h : Fin 4) (e : Fin 512) :
    b88 j s (ix5 c b i h e) = if c.val = j then b82 j s (ix4 b i h e) else s.main_v16_6 (ix5 c b i h e) := by
  unfold b88 b83 b84 b85 b86 b87
  rw [start_eq j hj]
  refine (put_at s.main_v16_6 _ j hj updateFits_S16x8x128x4x512_S1x8x128x4x512 c b i h e).trans ?_
  pointwise

end Cert.Ret
-- ==== Proof.Ret.Spec.lean ====
module

public import proofs.«01_k».proof.Proof.Ret.RefStep
public import proofs.«01_k».proof.Proof.Ret.Loop
public import Idealize.ShloMosaic.Lib.Pipeline.Value

/-! The chunked retention as a recurrence over the extended reals, and the reference's loop computing it:
    after `n` trips the carried state is `stateAt n` and the first `n` slots of the output stack hold `outAt`. -/

@[expose] public section

noncomputable section

namespace Cert.Ret

open Idealize.ShloMosaic Cert.ReferenceIdeal Cert.ReferenceIdeal.Gen Cert.ReferenceIdeal.Step

/-- A state of the loop to read the decay tables at: they do not depend on it. -/
def zs : State Ideal := ⟨fun _ => (0 : EReal), fun _ => (0 : EReal), fun _ => (0 : EReal), fun _ => (0 : EReal), fun _ => (0 : EReal)⟩

/-- Row `x` of chunk `n`. -/
def row (n : ℕ) (x : Fin 128) : Fin 2048 := ⟨(128 * n + x.val) % 2048, Nat.mod_lt _ (by omega)⟩

theorem row_eq (c : Fin 16) (x : Fin 128) : row c.val x = ⟨128 * c.val + x.val, by omega⟩ :=
  Fin.ext (Nat.mod_eq_of_lt (by have := c.isLt; have := x.isLt; omega))

variable (k : Fin 8 → Fin 2048 → Fin 4 → Fin 256 → EReal) (v : Fin 8 → Fin 2048 → Fin 4 → Fin 512 → EReal)

/-- The state after `n` chunks. -/
def stateAt : ℕ → Fin 8 → Fin 4 → Fin 256 → Fin 512 → EReal
  | 0, _, _, _, _ => 0
  | n + 1, b, h, d, e => (b73 0 zs (ix1 h) : EReal) * stateAt n b h d e
      + ∑ x : Fin 128, (k b (row n x) h d * b69 0 zs (ix2 x h)) * v b (row n x) h e

/-- Row `i` of chunk `n` of the layer's retention output, before normalisation. -/
def outAt (q : Fin 8 → Fin 2048 → Fin 4 → Fin 256 → EReal) (n : ℕ) (b : Fin 8) (i : Fin 128) (h : Fin 4) (e : Fin 512) : EReal :=
  (∑ x : Fin 128, ((∑ d : Fin 256, q b (row n i) h d * k b (row n x) h d) * b40 0 zs (ix3 h i x)) * v b (row n x) h e)
    + (∑ d : Fin 256, q b (row n i) h d * stateAt k v n b h d e) * b55 0 zs (ix2 i h)

/-- What the loop's state holds before trip `n`. -/
structure At (q : Fin 8 → Fin 2048 → Fin 4 → Fin 256 → EReal) (n : ℕ) (s : State Ideal) : Prop where
  st : ∀ b h d e, s.main_v16_5 (ix4 b h d e) = stateAt k v n b h d e
  out : ∀ (c : Fin 16) b i h e, c.val < n → s.main_v16_6 (ix5 c b i h e) = outAt k v q c.val b i h e
  q : ∀ (c : Fin 16) b i h d, s.main_v16_0 (ix5 c b i h d) = q b (row c.val i) h d
  k : ∀ (c : Fin 16) b i h d, s.main_v16_1 (ix5 c b i h d) = k b (row c.val i) h d
  v : ∀ (c : Fin 16) b i h e, s.main_v16_2 (ix5 c b i h e) = v b (row c.val i) h e

variable {k v}

theorem At.step {q : Fin 8 → Fin 2048 → Fin 4 → Fin 256 → EReal} {n : ℕ} {s : State Ideal} (hn : n < 16) (H : At k v q n s) :
    At k v q (n + 1) (step n s) where
  st b h d e := by
    rw [step_main_v16_5, b81_at]
    simp only [b11_at n hn, b17_at n hn, H.st, H.k, H.v]
    rfl
  out c b i h e hc := by
    rw [step_main_v16_6, b88_at n hn]
    by_cases hcn : c.val = n
    · rw [if_pos hcn, b82_at]
      obtain rfl : c = ⟨n, hn⟩ := Fin.ext hcn
      simp only [b5_at n hn, b11_at n hn, b17_at n hn, H.st, H.k, H.v, H.q]
      unfold outAt
      refine congrArg₂ _ (Finset.sum_congr rfl fun x _ => mul_comm _ _) ?_
      exact congrArg₂ _ (Finset.sum_congr rfl fun x _ => mul_comm _ _) rfl
    · rw [if_neg hcn]
      exact H.out c b i h e (by omega)
  q := H.q
  k := H.k
  v := H.v

/-- A stack of chunks of a sequence. -/
theorem chunks_at {n : ℕ} (a : FVec Ideal (⟨4, ![8, 2048, 4, n]⟩ : Shape) .f32)
    (hc : (⟨4, ![8, 2048, 4, n]⟩ : Shape).ShapeCasts (⟨5, ![8, 16, 128, 4, n]⟩ : Shape))
    (c : Fin 16) (b : Fin 8) (i : Fin 128) (h : Fin 4) (d : Fin n) :
    shapeCast (⟨5, ![8, 16, 128, 4, n]⟩ : Shape) a hc (ix5 b c i h d) = a (ix4 b (row c.val i) h d) := by
  refine shapeCast_apply _ _ _ _ ?_
  rw [row_eq, Shape.rowMajor_val_four, Shape.rowMajor_val_five]
  simp
  ring_nf
  simp

theorem init_at (a0 a1 : FVec Ideal S8x2048x4x256 .f32) (a2 : FVec Ideal S8x2048x4x512 .f32) :
    At (fun b t h d => a1 (ix4 b t h d)) (fun b t h e => a2 (ix4 b t h e)) (fun b t h d => a0 (ix4 b t h d)) 0 (init a0 a1 a2) where
  st b h d e := by
    show K_main_v8 (F := Ideal) (ix4 b h d e) = _
    unfold K_main_v8 K_main_cst_1 stateAt
    pointwise
  out c b i h e hc := absurd hc (Nat.not_lt_zero _)
  q c b i h d := (show _ = A_main_v9 (F := Ideal) a0 a1 a2 (ix5 b c i h d) by
      show A_main_v10 (F := Ideal) a0 a1 a2 (ix5 c b i h d) = _
      unfold A_main_v10
      generalize A_main_v9 (F := Ideal) a0 a1 a2 = y
      pointwise).trans (chunks_at a0 shapeCasts_S8x2048x4x256_S8x16x128x4x256 c b i h d)
  k c b i h d := (show _ = A_main_v11 (F := Ideal) a0 a1 a2 (ix5 b c i h d) by
      show A_main_v12 (F := Ideal) a0 a1 a2 (ix5 c b i h d) = _
      unfold A_main_v12
      generalize A_main_v11 (F := Ideal) a0 a1 a2 = y
      pointwise).trans (chunks_at a1 shapeCasts_S8x2048x4x256_S8x16x128x4x256 c b i h d)
  v c b i h e := (show _ = A_main_v13 (F := Ideal) a0 a1 a2 (ix5 b c i h e) by
      show A_main_v14 (F := Ideal) a0 a1 a2 (ix5 c b i h e) = _
      unfold A_main_v14
      generalize A_main_v13 (F := Ideal) a0 a1 a2 = y
      pointwise).trans (chunks_at a2 shapeCasts_S8x2048x4x512_S8x16x128x4x512 c b i h e)

/-- The loop's states, from the arguments in memory. -/
def it (a0 a1 : FVec Ideal S8x2048x4x256 .f32) (a2 : FVec Ideal S8x2048x4x512 .f32) : ℕ → State Ideal
  | 0 => init a0 a1 a2
  | n + 1 => step n (it a0 a1 a2 n)

theorem it_at (a0 a1 : FVec Ideal S8x2048x4x256 .f32) (a2 : FVec Ideal S8x2048x4x512 .f32) : ∀ n, n ≤ 16 →
    At (fun b t h d => a1 (ix4 b t h d)) (fun b t h e => a2 (ix4 b t h e)) (fun b t h d => a0 (ix4 b t h d)) n (it a0 a1 a2 n)
  | 0, _ => init_at a0 a1 a2
  | n + 1, hn => (it_at a0 a1 a2 n (by omega)).step (by omega)

end Cert.Ret
-- ==== Proof.Ret.Points.lean ====
module

public import proofs.«01_k».proof.Proof.Ret.Entry
public import proofs.«01_k».proof.Proof.Ret.Spec

/-! The nine input blocks of a grid point: point `(b*4+h)*16+n` stages chunk `n` of head `h` of sequence `b`
    and head `h`'s decay tables. -/

@[expose] public section

noncomputable section

namespace Cert.Ret

open Idealize.ShloMosaic Idealize.ShloMosaic.TcCoe Idealize.SL.Sem Cert.KernelIdeal Cert.KernelIdeal.Gen

/-- Which block of each array a point stages. -/
theorem index_rows : ∀ t : Fin grid0.N, (win0_0.index t 0 = t.val / 64 * 16 + t.val % 16 ∧ win0_0.index t 1 = t.val / 16 % 4)
    ∧ (win0_1.index t 0 = t.val / 64 * 16 + t.val % 16 ∧ win0_1.index t 1 = t.val / 16 % 4)
    ∧ (win0_2.index t 0 = t.val / 64 * 16 + t.val % 16 ∧ win0_2.index t 1 = t.val / 16 % 4)
    ∧ (win0_3.index t 0 = t.val / 64 * 16 + t.val % 16 ∧ win0_3.index t 1 = t.val / 16 % 4)
    ∧ (win0_9.index t 0 = t.val / 64 * 16 + t.val % 16 ∧ win0_9.index t 1 = t.val / 16 % 4) := by decide +kernel

theorem index_tables : ∀ t : Fin grid0.N, (win0_4.index t 0 = t.val / 16 % 4 ∧ win0_4.index t 1 = 0 ∧ win0_4.index t 2 = 0)
    ∧ (win0_5.index t 0 = t.val / 16 % 4 ∧ win0_5.index t 1 = 0 ∧ win0_5.index t 2 = 0)
    ∧ (win0_6.index t 0 = t.val / 16 % 4 ∧ win0_6.index t 1 = 0 ∧ win0_6.index t 2 = 0)
    ∧ (win0_7.index t 0 = t.val / 16 % 4 ∧ win0_7.index t 1 = 0 ∧ win0_7.index t 2 = 0)
    ∧ (win0_8.index t 0 = t.val / 16 % 4 ∧ win0_8.index t 1 = 0 ∧ win0_8.index t 2 = 0)
    ∧ (win0_10.index t 0 = t.val / 64 ∧ win0_10.index t 1 = t.val / 16 % 4 ∧ win0_10.index t 2 = 0 ∧ win0_10.index t 3 = 0) := by decide +kernel

/-- The point of sequence `b`, head `h`, chunk `n`. -/
def pt (b : Fin 8) (h : Fin 4) (n : Fin 16) : Fin cfg0.N :=
  ⟨(b.val * 4 + h.val) * 16 + n.val, by rw [show cfg0.N = 512 from N_0]; omega⟩

theorem pt_b (b : Fin 8) (h : Fin 4) (n : Fin 16) : (pt b h n).val / 64 = b.val := by show ((b.val * 4 + h.val) * 16 + n.val) / 64 = _; omega
theorem pt_h (b : Fin 8) (h : Fin 4) (n : Fin 16) : (pt b h n).val / 16 % 4 = h.val := by show ((b.val * 4 + h.val) * 16 + n.val) / 16 % 4 = _; omega
theorem pt_n (b : Fin 8) (h : Fin 4) (n : Fin 16) : (pt b h n).val % 16 = n.val := by show ((b.val * 4 + h.val) * 16 + n.val) % 16 = _; omega

variable (m : (ℓ : Loc nD τ sig) → Buf (Elt Ideal) ℓ) (c : Dev nD)

theorem q_at (b : Fin 8) (h : Fin 4) (n : Fin 16) (i : Fin 128) (d : Fin 256) :
    (iblk m c 0 (pt b h n) : FVec Ideal S128x256 .bf16) (ix2 i d) = m ((c : Thread nD τ).loc main_arg0) (ix4 b (row n.val i) h d) := by
  rw [row_eq]
  refine Eq.trans ?_ (V_q_at m c b ⟨128 * n.val + i.val, by omega⟩ h d)
  have e := (index_rows (pt b h n)).1
  rw [pt_b, pt_h, pt_n] at e
  show V m c main_v2 (((cfg0.win 0).blk (pt b h n)).view.emb (ix2 i d)) = _
  refine congrArg (V m c main_v2) (funext fun a => Fin.ext ?_)
  match a with
  | ⟨0, _⟩ =>
    show win0_0.index (pt b h n) 0 * 128 + 1 * i.val = 2048 * b.val + (128 * n.val + i.val)
    rw [e.1]; omega
  | ⟨1, _⟩ =>
    show win0_0.index (pt b h n) 1 * 256 + 1 * d.val = 256 * h.val + d.val
    rw [e.2]; omega

theorem k_at (b : Fin 8) (h : Fin 4) (n : Fin 16) (i : Fin 128) (d : Fin 256) :
    (iblk m c 1 (pt b h n) : FVec Ideal S128x256 .f32) (ix2 i d) = m ((c : Thread nD τ).loc main_arg1) (ix4 b (row n.val i) h d) := by
  rw [row_eq]
  refine Eq.trans ?_ (V_k_at m c b ⟨128 * n.val + i.val, by omega⟩ h d)
  have e := (index_rows (pt b h n)).2.1
  rw [pt_b, pt_h, pt_n] at e
  show V m c main_v4 (((cfg0.win 1).blk (pt b h n)).view.emb (ix2 i d)) = _
  refine congrArg (V m c main_v4) (funext fun a => Fin.ext ?_)
  match a with
  | ⟨0, _⟩ =>
    show win0_1.index (pt b h n) 0 * 128 + 1 * i.val = 2048 * b.val + (128 * n.val + i.val)
    rw [e.1]; omega
  | ⟨1, _⟩ =>
    show win0_1.index (pt b h n) 1 * 256 + 1 * d.val = 256 * h.val + d.val
    rw [e.2]; omega

theorem v_at (b : Fin 8) (h : Fin 4) (n : Fin 16) (i : Fin 128) (d : Fin 512) :
    (iblk m c 2 (pt b h n) : FVec Ideal S128x512 .bf16) (ix2 i d) = m ((c : Thread nD τ).loc main_arg2) (ix4 b (row n.val i) h d) := by
  rw [row_eq]
  refine Eq.trans ?_ (V_v_at m c b ⟨128 * n.val + i.val, by omega⟩ h d)
  have e := (index_rows (pt b h n)).2.2.1
  rw [pt_b, pt_h, pt_n] at e
  show V m c main_v7 (((cfg0.win 2).blk (pt b h n)).view.emb (ix2 i d)) = _
  refine congrArg (V m c main_v7) (funext fun a => Fin.ext ?_)
  match a with
  | ⟨0, _⟩ =>
    show win0_2.index (pt b h n) 0 * 128 + 1 * i.val = 2048 * b.val + (128 * n.val + i.val)
    rw [e.1]; omega
  | ⟨1, _⟩ =>
    show win0_2.index (pt b h n) 1 * 512 + 1 * d.val = 512 * h.val + d.val
    rw [e.2]; omega

theorem g_at (b : Fin 8) (h : Fin 4) (n : Fin 16) (i : Fin 128) (e : Fin 512) :
    (iblk m c 3 (pt b h n) : FVec Ideal S128x512 .f32) (ix2 i e)
      = m ((c : Thread nD τ).loc main_arg3) (ix3 b ⟨128 * n.val + i.val, by omega⟩ ⟨512 * h.val + e.val, by omega⟩) := by
  refine Eq.trans ?_ (V_g_at m c b ⟨128 * n.val + i.val, by omega⟩ ⟨512 * h.val + e.val, by omega⟩)
  have e' := (index_rows (pt b h n)).2.2.2.1
  rw [pt_b, pt_h, pt_n] at e'
  show V m c main_v9 (((cfg0.win 3).blk (pt b h n)).view.emb (ix2 i e)) = _
  refine congrArg (V m c main_v9) (funext fun a => Fin.ext ?_)
  match a with
  | ⟨0, _⟩ =>
    show win0_3.index (pt b h n) 0 * 128 + 1 * i.val = 2048 * b.val + (128 * n.val + i.val)
    rw [e'.1]; omega
  | ⟨1, _⟩ =>
    show win0_3.index (pt b h n) 1 * 512 + 1 * e.val = 512 * h.val + e.val
    rw [e'.2]; omega

theorem dm_at (b : Fin 8) (h : Fin 4) (n : Fin 16) (i x : Fin 128) :
    (iblk m c 4 (pt b h n) : FVec Ideal S1x128x128 .f32) (ix3 0 i x) = (Cert.ReferenceIdeal.Step.b40 0 zs : FVec Ideal S4x128x128 .f32) (ix3 h i x) := by
  refine Eq.trans ?_ (V_dm_at m c zs h i x)
  have e' := (index_tables (pt b h n)).1
  rw [pt_h] at e'
  show V m c main_v53 (((cfg0.win 4).blk (pt b h n)).view.emb (ix3 0 i x)) = _
  refine congrArg (V m c main_v53) (funext fun a => Fin.ext ?_)
  match a with
  | ⟨0, _⟩ =>
    show win0_4.index (pt b h n) 0 * 1 + 1 * 0 = h.val
    rw [e'.1]; omega
  | ⟨1, _⟩ =>
    show win0_4.index (pt b h n) 1 * 128 + 1 * _ = _
    rw [e'.2.1, Nat.zero_mul, Nat.zero_add, Nat.one_mul]
    rfl
  | ⟨2, _⟩ =>
    show win0_4.index (pt b h n) 2 * 128 + 1 * _ = _
    rw [e'.2.2, Nat.zero_mul, Nat.zero_add, Nat.one_mul]
    rfl

theorem qd_at (b : Fin 8) (h : Fin 4) (n : Fin 16) (i : Fin 128) :
    (iblk m c 5 (pt b h n) : FVec Ideal S1x128x1 .f32) (ix3 0 i 0) = (Cert.ReferenceIdeal.Step.b55 0 zs : FVec Ideal S128x4 .f32) (ix2 i h) := by
  refine Eq.trans ?_ (V_qd_at m c zs h i)
  have e' := (index_tables (pt b h n)).2.1
  rw [pt_h] at e'
  show V m c main_v55 (((cfg0.win 5).blk (pt b h n)).view.emb (ix3 0 i 0)) = _
  refine congrArg (V m c main_v55) (funext fun a => Fin.ext ?_)
  match a with
  | ⟨0, _⟩ =>
    show win0_5.index (pt b h n) 0 * 1 + 1 * 0 = h.val
    rw [e'.1]; omega
  | ⟨1, _⟩ =>
    show win0_5.index (pt b h n) 1 * 128 + 1 * _ = _
    rw [e'.2.1, Nat.zero_mul, Nat.zero_add, Nat.one_mul]
    rfl
  | ⟨2, _⟩ =>
    show win0_5.index (pt b h n) 2 * 1 + 1 * _ = _
    rw [e'.2.2, Nat.zero_mul, Nat.zero_add, Nat.one_mul]
    rfl

theorem kd_at (b : Fin 8) (h : Fin 4) (n : Fin 16) (i : Fin 128) :
    (iblk m c 6 (pt b h n) : FVec Ideal S1x128x1 .f32) (ix3 0 i 0) = (Cert.ReferenceIdeal.Step.b69 0 zs : FVec Ideal S128x4 .f32) (ix2 i h) := by
  refine Eq.trans ?_ (V_kd_at m c zs h i)
  have e' := (index_tables (pt b h n)).2.2.1
  rw [pt_h] at e'
  show V m c main_v57 (((cfg0.win 6).blk (pt b h n)).view.emb (ix3 0 i 0)) = _
  refine congrArg (V m c main_v57) (funext fun a => Fin.ext ?_)
  match a with
  | ⟨0, _⟩ =>
    show win0_6.index (pt b h n) 0 * 1 + 1 * 0 = h.val
    rw [e'.1]; omega
  | ⟨1, _⟩ =>
    show win0_6.index (pt b h n) 1 * 128 + 1 * _ = _
    rw [e'.2.1, Nat.zero_mul, Nat.zero_add, Nat.one_mul]
    rfl
  | ⟨2, _⟩ =>
    show win0_6.index (pt b h n) 2 * 1 + 1 * _ = _
    rw [e'.2.2, Nat.zero_mul, Nat.zero_add, Nat.one_mul]
    rfl

theorem sd_at (b : Fin 8) (h : Fin 4) (n : Fin 16) (e : Fin 512) :
    (iblk m c 7 (pt b h n) : FVec Ideal S1x1x512 .f32) (ix3 0 0 e) = (Cert.ReferenceIdeal.Step.b73 0 zs : FVec Ideal S4 .f32) (ix1 h) := by
  refine Eq.trans ?_ (V_sd_at m c zs h e)
  have e' := (index_tables (pt b h n)).2.2.2.1
  rw [pt_h] at e'
  show V m c main_v62 (((cfg0.win 7).blk (pt b h n)).view.emb (ix3 0 0 e)) = _
  refine congrArg (V m c main_v62) (funext fun a => Fin.ext ?_)
  match a with
  | ⟨0, _⟩ =>
    show win0_7.index (pt b h n) 0 * 1 + 1 * 0 = h.val
    rw [e'.1]; omega
  | ⟨1, _⟩ =>
    show win0_7.index (pt b h n) 1 * 1 + 1 * _ = _
    rw [e'.2.1, Nat.zero_mul, Nat.zero_add, Nat.one_mul]
    rfl
  | ⟨2, _⟩ =>
    show win0_7.index (pt b h n) 2 * 512 + 1 * _ = _
    rw [e'.2.2, Nat.zero_mul, Nat.zero_add, Nat.one_mul]
    rfl

theorem gn_at (b : Fin 8) (h : Fin 4) (n : Fin 16) (e : Fin 512) :
    (iblk m c 8 (pt b h n) : FVec Ideal S1x1x512 .f32) (ix3 0 0 e) = m ((c : Thread nD τ).loc main_arg4) (ix2 h e) := by
  refine Eq.trans ?_ (V_gn_at m c h e)
  have e' := (index_tables (pt b h n)).2.2.2.2.1
  rw [pt_h] at e'
  show V m c main_v63 (((cfg0.win 8).blk (pt b h n)).view.emb (ix3 0 0 e)) = _
  refine congrArg (V m c main_v63) (funext fun a => Fin.ext ?_)
  match a with
  | ⟨0, _⟩ =>
    show win0_8.index (pt b h n) 0 * 1 + 1 * 0 = h.val
    rw [e'.1]; omega
  | ⟨1, _⟩ =>
    show win0_8.index (pt b h n) 1 * 1 + 1 * _ = _
    rw [e'.2.1, Nat.zero_mul, Nat.zero_add, Nat.one_mul]
    rfl
  | ⟨2, _⟩ =>
    show win0_8.index (pt b h n) 2 * 512 + 1 * _ = _
    rw [e'.2.2, Nat.zero_mul, Nat.zero_add, Nat.one_mul]
    rfl

end Cert.Ret
-- ==== Proof.Ret.Block.lean ====
/-
  What one grid point of the retention call leaves in its two output blocks, as the kernel's own payloads: the first
  chunk of a sequence starts from the zero state, every later chunk from the state the chunk before left.
-/
module

public import proofs.«01_k».proof.Proof.Gen.KernelIdeal.Frame
public import Idealize.ShloMosaic.Lib.Pipeline.Value
public import Idealize.ShloMosaic.Lib.Tactic

@[expose] public section

noncomputable section

namespace Cert.Ret

open Idealize.ShloMosaic Idealize.ShloMosaic.TcCoe Idealize.SL.Sem Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first chunk of a sequence: its output block. -/
theorem out_A_9 (c : Dev nD) (i : grid0.Coords) (arg3 : Memref sig .tc .vmem S128x256 .bf16) (harg3 : arg3.IsWhole) (arg4 : Memref sig .tc .vmem S128x256 .f32) (harg4 : arg4.IsWhole) (arg5 : Memref sig .tc .vmem S128x512 .bf16) (harg5 : arg5.IsWhole) (arg6 : Memref sig .tc .vmem S128x512 .f32) (harg6 : arg6.IsWhole) (arg7 : Memref sig .tc .vmem S1x128x128 .f32) (harg7 : arg7.IsWhole) (arg8 : Memref sig .tc .vmem S1x128x1 .f32) (harg8 : arg8.IsWhole) (arg9 : Memref sig .tc .vmem S1x128x1 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S128x512 .bf16) (harg12 : arg12.IsWhole) (arg13 : Memref sig .tc .vmem S1x1x256x512 .f32) (harg13 : arg13.IsWhole) (hc0 : cond0_0 i)
    (x0 : Vec F S128x256 .bf16) (x1 : Vec F S128x256 .f32) (x2 : Vec F S128x512 .bf16) (x3 : Vec F S128x512 .f32) (x4 : Vec F S1x128x128 .f32) (x5 : Vec F S1x128x1 .f32) (x6 : Vec F S1x128x1 .f32) (x7 : Vec F S1x1x512 .f32) (x8 : Vec F S1x1x512 .f32) :
    out0_A_9 c i arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay2 (k0_pay7 x0 x1 x2 k0_pay3 x4 x5) x8 x3 := by
  unfold out0_A_9
  rw [View.read_writes_eq_canon _ _ _ (cover0_A_9 c i arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_unit_zero hz2]
  try rw [View.readCov_unit_zero (S := S1x1x256x512) _ hz4]
  simp only [View.readAt_eq_ld, harg3.read_unread, harg4.read_unread, harg5.read_unread, harg6.read_unread, harg7.read_unread, harg8.read_unread, harg9.read_unread, harg10.read_unread, harg11.read_unread, View.ld_unit_zero (S := S128x256) hz2, View.ld_unit_zero (S := S128x512) hz2, View.ld_unit_zero (S := S1x128x128) hz3, View.ld_unit_zero (S := S1x128x1) hz3, View.ld_unit_zero (S := S1x1x512) hz3, View.ld_unit_zero (S := S1x1x256x512) hz4]

/-- The first chunk of a sequence: the state it leaves. -/
theorem out_A_10 (c : Dev nD) (i : grid0.Coords) (arg3 : Memref sig .tc .vmem S128x256 .bf16) (harg3 : arg3.IsWhole) (arg4 : Memref sig .tc .vmem S128x256 .f32) (harg4 : arg4.IsWhole) (arg5 : Memref sig .tc .vmem S128x512 .bf16) (harg5 : arg5.IsWhole) (arg6 : Memref sig .tc .vmem S128x512 .f32) (harg6 : arg6.IsWhole) (arg7 : Memref sig .tc .vmem S1x128x128 .f32) (harg7 : arg7.IsWhole) (arg8 : Memref sig .tc .vmem S1x128x1 .f32) (harg8 : arg8.IsWhole) (arg9 : Memref sig .tc .vmem S1x128x1 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S128x512 .bf16) (harg12 : arg12.IsWhole) (arg13 : Memref sig .tc .vmem S1x1x256x512 .f32) (harg13 : arg13.IsWhole) (hc0 : cond0_0 i)
    (x0 : Vec F S128x256 .bf16) (x1 : Vec F S128x256 .f32) (x2 : Vec F S128x512 .bf16) (x3 : Vec F S128x512 .f32) (x4 : Vec F S1x128x128 .f32) (x5 : Vec F S1x128x1 .f32) (x6 : Vec F S1x128x1 .f32) (x7 : Vec F S1x1x512 .f32) (x8 : Vec F S1x1x512 .f32) :
    out0_A_10 c i arg3 harg3 arg4 harg4 arg5 harg5 arg6 harg6 arg7 harg7 arg8 harg8 arg9 harg9 arg10 harg10 arg11 harg11 arg12 harg12 arg13 harg13 hc0 x0 x1 x2 x3 x4 x5 x6 x7 x8 = k0_pay1 (k0_pay6 k0_pay3) (k0_pay8 x1 x2 x6) x7 := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 hc0 x0 x1 x2 x3 x4 x5 x6 x7 x8)]
  unfold kernelRun0_A
  dsimp only
  sl_unfold_words
  rw [View.canon_cons_unit_zero (S := S1x1x256x512) hz4]
  try rw [View.readCov_unit_zero (S := S1x1x256x512) _ hz4]
  simp only [View.readAt_eq_ld, harg3.read_unread, harg4.read_unread, harg5.read_unread, harg6.read_unread, harg7.read_unread, harg8.read_unread, harg9.read_unread, harg10.read_unread, harg11.read_unread, View.ld_unit_zero (S := S128x256) hz2, View.ld_unit_zero (S := S128x512) hz2, View.ld_unit_zero (S := S1x128x128) hz3, View.ld_unit_zero (S := S1x128x1) hz3, View.ld_unit_zero (S := S1x1x512) hz3, View.ld_unit_zero (S := S1x1x256x512) hz4]

/-- A later chunk: its output block. -/
theorem out_B_9 (c : Dev nD) (i : grid0.Coords) (arg3 : Memref sig .tc .vmem S128x256 .bf16) (harg3 : arg3.IsWhole) (arg4 : Memref sig .tc .vmem S128x256 .f32) (harg4 : arg4.IsWhole) (arg5 : Memref sig .tc .vmem S128x512 .bf16) (harg5 : arg5.IsWhole) (arg6 : Memref sig .tc .vmem S128x512 .f32) (harg6 : arg6.IsWhole) (arg7 : Memref sig .tc .vmem S1x128x128 .f32) (harg7 : arg7.IsWhole) (arg8 : Memref sig .tc .vmem S1x128x1 .f32) (harg8 : arg8.IsWhole) (arg9 : Memref sig .tc .vmem S1x128x1 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S128x512 .bf16) (harg12 : arg12.IsWhole) (arg13 : Memref sig .tc .vmem S1x1x256x512 .f32) (harg13 : arg13.IsWhole) (hc0 : ¬cond0_0 i)
    (x0 : Vec F S128x256 .bf16) (x1 : Vec F S128x256 .f32) (x2 : Vec F S128x512 .bf16) (x3 : Vec F S128x512 .f32) (x4 : Vec F S1x128x128 .f32) (x5 : Vec F S1x128x1 .f32) (x6 : Vec F S1x128x1 .f32) (x7 : Vec F S1x1x512 .f32) (x8 : Vec F S1x1x512 .f32) (xo10 : Vec F S1x1x256x512 .f32) :
    out0_B_9 c i arg3 harg3 arg4 harg4 arg5 harg5 arg6 harg6 arg7 harg7 arg8 harg8 arg9 harg9 arg10 harg10 arg11 harg11 arg12 harg12 arg13 harg13 hc0 x0 x1 x2 x3 x4 x5 x6 x7 x8 xo10 = k0_pay2 (k0_pay7 x0 x1 x2 xo10 x4 x5) x8 x3 := by
  unfold out0_B_9
  rw [View.read_writes_eq_canon _ _ _ (cover0_B_9 c i arg3 harg3 arg4 harg4 arg5 harg5 arg6 harg6 arg7 harg7 arg8 harg8 arg9 harg9 arg10 harg10 arg11 harg11 arg12 harg12 arg13 harg13 hc0 x0 x1 x2 x3 x4 x5 x6 x7 x8 xo10)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg10.read_unread, harg11.read_unread, harg13.read_unread, View.ld_unit_zero (S := S128x256) hz2, View.ld_unit_zero (S := S128x512) hz2, View.ld_unit_zero (S := S1x128x128) hz3, View.ld_unit_zero (S := S1x128x1) hz3, View.ld_unit_zero (S := S1x1x512) hz3, View.ld_unit_zero (S := S1x1x256x512) hz4]

/-- A later chunk: the state it leaves. -/
theorem out_B_10 (c : Dev nD) (i : grid0.Coords) (arg3 : Memref sig .tc .vmem S128x256 .bf16) (harg3 : arg3.IsWhole) (arg4 : Memref sig .tc .vmem S128x256 .f32) (harg4 : arg4.IsWhole) (arg5 : Memref sig .tc .vmem S128x512 .bf16) (harg5 : arg5.IsWhole) (arg6 : Memref sig .tc .vmem S128x512 .f32) (harg6 : arg6.IsWhole) (arg7 : Memref sig .tc .vmem S1x128x128 .f32) (harg7 : arg7.IsWhole) (arg8 : Memref sig .tc .vmem S1x128x1 .f32) (harg8 : arg8.IsWhole) (arg9 : Memref sig .tc .vmem S1x128x1 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S128x512 .bf16) (harg12 : arg12.IsWhole) (arg13 : Memref sig .tc .vmem S1x1x256x512 .f32) (harg13 : arg13.IsWhole) (hc0 : ¬cond0_0 i)
    (x0 : Vec F S128x256 .bf16) (x1 : Vec F S128x256 .f32) (x2 : Vec F S128x512 .bf16) (x3 : Vec F S128x512 .f32) (x4 : Vec F S1x128x128 .f32) (x5 : Vec F S1x128x1 .f32) (x6 : Vec F S1x128x1 .f32) (x7 : Vec F S1x1x512 .f32) (x8 : Vec F S1x1x512 .f32) (xo10 : Vec F S1x1x256x512 .f32) :
    out0_B_10 c i arg3 harg3 arg4 harg4 arg5 harg5 arg6 harg6 arg7 harg7 arg8 harg8 arg9 harg9 arg10 harg10 arg11 harg11 arg12 harg12 arg13 harg13 hc0 x0 x1 x2 x3 x4 x5 x6 x7 x8 xo10 = k0_pay1 (k0_pay6 xo10) (k0_pay8 x1 x2 x6) x7 := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 hc0 x0 x1 x2 x3 x4 x5 x6 x7 x8 xo10)]
  unfold kernelRun0_B
  dsimp only
  sl_unfold_words
  rw [View.canon_unit_zero hz4]
  simp only [View.readAt_eq_ld, harg3.read_unread, harg4.read_unread, harg5.read_unread, harg6.read_unread, harg7.read_unread, harg8.read_unread, harg9.read_unread, harg10.read_unread, harg11.read_unread, harg13.read_unread, View.ld_unit_zero (S := S128x256) hz2, View.ld_unit_zero (S := S128x512) hz2, View.ld_unit_zero (S := S1x128x128) hz3, View.ld_unit_zero (S := S1x128x1) hz3, View.ld_unit_zero (S := S1x1x512) hz3, View.ld_unit_zero (S := S1x1x256x512) hz4]

end Cert.Ret
-- ==== Proof.Ret.Payload.lean ====
module

public import proofs.«01_k».proof.Proof.Gen.KernelIdeal.Skeleton
public import Idealize.ShloMosaic.Lib.Pointwise

/-! The retention body's vector expressions read at an index, over the extended reals. -/

@[expose] public section

noncomputable section

namespace Cert.Ret

open Idealize.ShloMosaic Cert.KernelIdeal Cert.KernelIdeal.Gen

theorem pay3_at (d : Fin 256) (e : Fin 512) : (k0_pay3 : FVec Ideal S1x1x256x512 .f32) (ix4 0 0 d e) = (0 : EReal) := by
  unfold k0_pay3
  pointwise

theorem pay6_at (st : FVec Ideal S1x1x256x512 .f32) (d : Fin 256) (e : Fin 512) :
    k0_pay6 st (ix2 d e) = st (ix4 0 0 d e) := by
  unfold k0_pay6
  pointwise

theorem pay1_at (a b : FVec Ideal S256x512 .f32) (sd : FVec Ideal S1x1x512 .f32) (d : Fin 256) (e : Fin 512) :
    k0_pay1 a b sd (ix4 0 0 d e) = (sd (ix3 0 0 e) : EReal) * a (ix2 d e) + b (ix2 d e) := by
  unfold k0_pay1
  pointwise

theorem pay8_at (k : FVec Ideal S128x256 .f32) (v : FVec Ideal S128x512 .bf16) (kd : FVec Ideal S1x128x1 .f32) (d : Fin 256) (e : Fin 512) :
    k0_pay8 k v kd (ix2 d e) = ∑ x : Fin 128, ((k (ix2 x d) : EReal) * kd (ix3 0 x 0)) * v (ix2 x e) := by
  unfold k0_pay8 k0_pay4 k0_pay5
  pointwise

theorem pay7_at (q : FVec Ideal S128x256 .bf16) (k : FVec Ideal S128x256 .f32) (v : FVec Ideal S128x512 .bf16) (st : FVec Ideal S1x1x256x512 .f32)
    (dm : FVec Ideal S1x128x128 .f32) (qd : FVec Ideal S1x128x1 .f32) (i : Fin 128) (e : Fin 512) :
    k0_pay7 (F := Ideal) q k v st dm qd (ix2 i e) = (∑ x : Fin 128, ((∑ d : Fin 256, (q (ix2 i d) : EReal) * k (ix2 x d)) * dm (ix3 0 i x)) * v (ix2 x e))
      + (∑ d : Fin 256, (q (ix2 i d) : EReal) * st (ix4 0 0 d e)) * qd (ix3 0 i 0) := by
  unfold k0_pay7 k0_pay4 k0_pay5 k0_pay6
  pointwise

/-- One entry of the layer's output: the row `o` of a head is centred and scaled to unit variance, multiplied by
    the gain, and gated by `g * sigmoid g`. -/
def gated (o : Fin 512 → EReal) (gn g : EReal) (e : Fin 512) : EReal :=
  g * Ideal.logistic g *
    ((o e - Ideal.div (∑ x, o x) (Ideal.ofBits .f32 0x44000000#32)) *
      Ideal.rsqrt (Ideal.div (∑ x, (o x - Ideal.div (∑ x, o x) (Ideal.ofBits .f32 0x44000000#32)) * (o x - Ideal.div (∑ x, o x) (Ideal.ofBits .f32 0x44000000#32)))
        (Ideal.ofBits .f32 0x44000000#32) + Ideal.ofBits .f32 0x3727C5AC#32) * gn)

theorem pay2_at (o : FVec Ideal S128x512 .f32) (gn : FVec Ideal S1x1x512 .f32) (g : FVec Ideal S128x512 .f32) (i : Fin 128) (e : Fin 512) :
    k0_pay2 o gn g (ix2 i e) = gated (fun x => o (ix2 i x)) (gn (ix3 0 0 e)) (g (ix2 i e)) e := by
  unfold k0_pay2 gated
  pointwise

end Cert.Ret
-- ==== Proof.Ret.Walk.lean ====
module

public import proofs.«01_k».proof.Proof.Ret.Points
public import proofs.«01_k».proof.Proof.Ret.Block
public import proofs.«01_k».proof.Proof.Ret.Payload

/-! The walk over the chunks of one head: after chunk `n` the carried block holds the recurrence's state after
    `n + 1` chunks, and the output block holds the gated, normalised output of chunk `n`. -/

@[expose] public section

noncomputable section

namespace Cert.Ret

open Idealize.ShloMosaic Idealize.ShloMosaic.TcCoe Idealize.SL.Sem Cert.KernelIdeal Cert.KernelIdeal.Gen

variable (m : (ℓ : Loc nD τ sig) → Buf (Elt Ideal) ℓ) (c : Dev nD)

/-- The arguments as functions of sequence, position, head and lane. -/
abbrev qf (b : Fin 8) (t : Fin 2048) (h : Fin 4) (d : Fin 256) : EReal := m ((c : Thread nD τ).loc main_arg0) (ix4 b t h d)
abbrev kf (b : Fin 8) (t : Fin 2048) (h : Fin 4) (d : Fin 256) : EReal := m ((c : Thread nD τ).loc main_arg1) (ix4 b t h d)
abbrev vf (b : Fin 8) (t : Fin 2048) (h : Fin 4) (e : Fin 512) : EReal := m ((c : Thread nD τ).loc main_arg2) (ix4 b t h e)

/-- One chunk's state update. -/
theorem state_step (b : Fin 8) (h : Fin 4) (n : Fin 16) (st : FVec Ideal S1x1x256x512 .f32)
    (hst : ∀ d e, st (ix4 0 0 d e) = stateAt (kf m c) (vf m c) n.val b h d e) (d : Fin 256) (e : Fin 512) :
    k0_pay1 (k0_pay6 st) (k0_pay8 (iblk m c 1 (pt b h n)) (iblk m c 2 (pt b h n)) (iblk m c 6 (pt b h n))) (iblk m c 7 (pt b h n)) (ix4 0 0 d e)
      = stateAt (kf m c) (vf m c) (n.val + 1) b h d e := by
  rw [pay1_at, pay6_at, pay8_at, hst, sd_at]
  simp only [k_at, v_at, kd_at]
  rfl

/-- One chunk's output. -/
theorem output_step (b : Fin 8) (h : Fin 4) (n : Fin 16) (st : FVec Ideal S1x1x256x512 .f32)
    (hst : ∀ d e, st (ix4 0 0 d e) = stateAt (kf m c) (vf m c) n.val b h d e) (i : Fin 128) (e : Fin 512) :
    k0_pay2 (k0_pay7 (iblk m c 0 (pt b h n)) (iblk m c 1 (pt b h n)) (iblk m c 2 (pt b h n)) st (iblk m c 4 (pt b h n)) (iblk m c 5 (pt b h n)))
        (iblk m c 8 (pt b h n)) (iblk m c 3 (pt b h n)) (ix2 i e)
      = gated (fun x => outAt (kf m c) (vf m c) (qf m c) n.val b i h x) (m ((c : Thread nD τ).loc main_arg4) (ix2 h e))
          (m ((c : Thread nD τ).loc main_arg3) (ix3 b ⟨128 * n.val + i.val, by omega⟩ ⟨512 * h.val + e.val, by omega⟩)) e := by
  rw [pay2_at, gn_at, g_at]
  refine congrArg (fun o => gated o _ _ e) (funext fun x => ?_)
  rw [pay7_at]
  simp only [hst, q_at, k_at, v_at, dm_at, qd_at]
  rfl

theorem zero_state (b : Fin 8) (h : Fin 4) (d : Fin 256) (e : Fin 512) :
    (k0_pay3 : FVec Ideal S1x1x256x512 .f32) (ix4 0 0 d e) = stateAt (kf m c) (vf m c) 0 b h d e := pay3_at d e

/-- The carried block after each chunk. -/
theorem carried (b : Fin 8) (h : Fin 4) : ∀ (n : ℕ) (hn : n < 16) (d : Fin 256) (e : Fin 512),
    (outsAt0 m c (pt b h ⟨n, hn⟩).val (pt b h ⟨n, hn⟩).isLt).2 (ix4 0 0 d e) = stateAt (kf m c) (vf m c) (n + 1) b h d e
  | 0, hn, d, e => by
    rw [outsAt0_A m c (pt b h ⟨0, hn⟩) (pt_n b h ⟨0, hn⟩)]
    dsimp only
    rw [out_A_10]
    exact state_step m c b h ⟨0, hn⟩ _ (zero_state m c b h) d e
  | n + 1, hn, d, e => by
    rw [outsAt0_B m c (pt b h ⟨n + 1, hn⟩) (by rw [pt_n]; exact Nat.succ_ne_zero n)]
    dsimp only
    rw [out_B_10]
    exact state_step m c b h ⟨n + 1, hn⟩ _ (carried b h n (Nat.lt_of_succ_lt hn)) d e

/-- The output block of each chunk. -/
theorem written (b : Fin 8) (h : Fin 4) (n : Fin 16) (i : Fin 128) (e : Fin 512) :
    (outsAt0 m c (pt b h n).val (pt b h n).isLt).1 (ix2 i e)
      = gated (fun x => outAt (kf m c) (vf m c) (qf m c) n.val b i h x) (m ((c : Thread nD τ).loc main_arg4) (ix2 h e))
          (m ((c : Thread nD τ).loc main_arg3) (ix3 b ⟨128 * n.val + i.val, by omega⟩ ⟨512 * h.val + e.val, by omega⟩)) e := by
  obtain ⟨n, hn⟩ := n
  cases n with
  | zero =>
    rw [outsAt0_A m c (pt b h ⟨0, hn⟩) (pt_n b h ⟨0, hn⟩)]
    dsimp only
    rw [out_A_9]
    exact output_step m c b h ⟨0, hn⟩ _ (zero_state m c b h) i e
  | succ n =>
    rw [outsAt0_B m c (pt b h ⟨n + 1, hn⟩) (by rw [pt_n]; exact Nat.succ_ne_zero n)]
    dsimp only
    rw [out_B_9]
    exact output_step m c b h ⟨n + 1, hn⟩ _ (carried m c b h n (Nat.lt_of_succ_lt hn)) i e

end Cert.Ret
-- ==== Proof.Ret.RefOut.lean ====
module

public import proofs.«01_k».proof.Proof.Gen.ReferenceIdeal.Step
public import proofs.«01_k».proof.Proof.Ret.Payload
public import Idealize.ShloMosaic.Lib.Pipeline.Value

/-! The reference's operations after its loop, read at an index: the stacked chunk outputs put back in
    sequence order, normalised per head, and gated. -/

@[expose] public section

noncomputable section

namespace Cert.Ret

open Idealize.ShloMosaic Cert.ReferenceIdeal Cert.ReferenceIdeal.Gen Cert.ReferenceIdeal.Step

/-- The chunk outputs in sequence order. -/
theorem seq_at (o : FVec Ideal S16x8x128x4x512 .f32) (b : Fin 8) (c : Fin 16) (i : Fin 128) (h : Fin 4) (e : Fin 512) :
    (shapeCast S8x2048x4x512 (transpose S8x16x128x4x512 [1, 0, 2, 3, 4] o transposes_S16x8x128x4x512_S8x16x128x4x512_1_0_2_3_4) shapeCasts_S8x16x128x4x512_S8x2048x4x512) (ix4 b ⟨128 * c.val + i.val, by omega⟩ h e) = o (ix5 c b i h e) := by
  refine (shapeCast_apply (s := S8x16x128x4x512) _ _ _ (ix5 b c i h e) ?_).trans ?_
  · rw [Shape.rowMajor_val_four, Shape.rowMajor_val_five]
    simp
    omega
  · pointwise

/-- The mean over a head's 512 entries. -/
def meanOf (y : FVec Ideal S8x2048x4x512 .f32) : FVec Ideal S8x2048x4x1 .f32 :=
  Host.divf (broadcastInDim S8x2048x4x1 ![0, 1, 2] bcast_S8x2048x4_S8x2048x4x1_0_1_2 (Host.reduceAdd y (constant S_ .f32 0x00000000#32) reducesTo_S8x2048x4x512_S8x2048x4_d3 h_S_)) (broadcastInDim S8x2048x4x1 ![] bcast_S_S8x2048x4x1 (constant S_ .f32 0x44000000#32))

theorem meanOf_at (y : FVec Ideal S8x2048x4x512 .f32) (b : Fin 8) (t : Fin 2048) (h : Fin 4) :
    meanOf y (ix4 b t h 0) = Ideal.div (∑ x : Fin 512, y (ix4 b t h x)) (Ideal.ofBits .f32 0x44000000#32) := by
  unfold meanOf
  pointwise

/-- The sequence less its mean. -/
def centred (y : FVec Ideal S8x2048x4x512 .f32) : FVec Ideal S8x2048x4x512 .f32 :=
  subf y (broadcastInDim S8x2048x4x512 ![0, 1, 2, 3] bcast_S8x2048x4x1_S8x2048x4x512_0_1_2_3 (meanOf y))

theorem centred_at (y : FVec Ideal S8x2048x4x512 .f32) (b : Fin 8) (t : Fin 2048) (h : Fin 4) (e : Fin 512) :
    centred y (ix4 b t h e) = y (ix4 b t h e) - Ideal.div (∑ x : Fin 512, y (ix4 b t h x)) (Ideal.ofBits .f32 0x44000000#32) := by
  unfold centred
  pointwise
  rw [meanOf_at]

/-- The normalised sequence. -/
def normed (y : FVec Ideal S8x2048x4x512 .f32) (gn : FVec Ideal S4x512 .f32) : FVec Ideal S8x2048x4x512 .f32 :=
  mulf (mulf (centred y) (broadcastInDim S8x2048x4x512 ![0, 1, 2, 3] bcast_S8x2048x4x1_S8x2048x4x512_0_1_2_3 (Host.rsqrt (addf (meanOf (mulf (centred y) (centred y))) (broadcastInDim S8x2048x4x1 ![] bcast_S_S8x2048x4x1 (constant S_ .f32 0x3727C5AC#32)))))) (broadcastInDim S8x2048x4x512 ![0, 1, 2, 3] bcast_S1x1x4x512_S8x2048x4x512_0_1_2_3 (broadcastInDim S1x1x4x512 ![2, 3] bcast_S4x512_S1x1x4x512_2_3 gn))

theorem normed_at (y : FVec Ideal S8x2048x4x512 .f32) (gn : FVec Ideal S4x512 .f32) (b : Fin 8) (t : Fin 2048) (h : Fin 4) (e : Fin 512) :
    normed y gn (ix4 b t h e) = centred y (ix4 b t h e) * Ideal.rsqrt (Ideal.div (∑ x : Fin 512, centred y (ix4 b t h x) * centred y (ix4 b t h x)) (Ideal.ofBits .f32 0x44000000#32) + Ideal.ofBits .f32 0x3727C5AC#32) * gn (ix2 h e) := by
  unfold normed
  pointwise
  rw [meanOf_at]
  pointwise

/-- `g * sigmoid g`, as the reference spells it. -/
def gateOf (g : FVec Ideal S8x2048x2048 .f32) : FVec Ideal S8x2048x2048 .f32 :=
  mulf g (Host.divf (broadcastInDim S8x2048x2048 ![] bcast_S_S8x2048x2048 (constant S_ .f32 0x3F800000#32)) (addf (broadcastInDim S8x2048x2048 ![] bcast_S_S8x2048x2048 (constant S_ .f32 0x3F800000#32)) (Host.exp (Host.negf g))))

theorem gateOf_at (g : FVec Ideal S8x2048x2048 .f32) (b : Fin 8) (t l : Fin 2048) :
    gateOf g (ix3 b t l) = g (ix3 b t l) * Ideal.logistic (g (ix3 b t l)) := by
  unfold gateOf Ideal.logistic
  pointwise

theorem out_eq (s : State Ideal) (g : FVec Ideal S8x2048x2048 .f32) (gn : FVec Ideal S4x512 .f32) :
    R_main_v44 s g gn = truncf .bf16 (shapeCast S16384x2048 (mulf (gateOf g) (shapeCast S8x2048x2048
      (normed (shapeCast S8x2048x4x512 (transpose S8x16x128x4x512 [1, 0, 2, 3, 4] s.main_v16_6 transposes_S16x8x128x4x512_S8x16x128x4x512_1_0_2_3_4) shapeCasts_S8x16x128x4x512_S8x2048x4x512) gn)
      shapeCasts_S8x2048x4x512_S8x2048x2048)) shapeCasts_S8x2048x2048_S16384x2048) bitsLt_bf16_f32 := rfl

/-- The reference's first result at an index. -/
theorem out_at (s : State Ideal) (g : FVec Ideal S8x2048x2048 .f32) (gn : FVec Ideal S4x512 .f32)
    (b : Fin 8) (c : Fin 16) (i : Fin 128) (h : Fin 4) (e : Fin 512) :
    R_main_v44 s g gn (ix2 ⟨2048 * b.val + (128 * c.val + i.val), by omega⟩ ⟨512 * h.val + e.val, by omega⟩)
      = gated (fun x => s.main_v16_6 (ix5 c b i h x)) (gn (ix2 h e)) (g (ix3 b ⟨128 * c.val + i.val, by omega⟩ ⟨512 * h.val + e.val, by omega⟩)) e := by
  rw [out_eq, show ∀ (x : FVec Ideal S16384x2048 .f32) j, truncf .bf16 x bitsLt_bf16_f32 j = x j from fun _ _ => rfl]
  refine (shapeCast_apply (s := S8x2048x2048) _ _ _ (ix3 b ⟨128 * c.val + i.val, by omega⟩ ⟨512 * h.val + e.val, by omega⟩) ?_).trans ?_
  · rw [Shape.rowMajor_val_three, Shape.rowMajor_val_two]
    simp
    omega
  show (gateOf g (ix3 b ⟨128 * c.val + i.val, by omega⟩ ⟨512 * h.val + e.val, by omega⟩) : EReal) * _ = _
  rw [gateOf_at]
  rw [shapeCast_apply (s := S8x2048x4x512) _ _ _ (ix4 b ⟨128 * c.val + i.val, by omega⟩ h e) (by
    rw [Shape.rowMajor_val_three, Shape.rowMajor_val_four]
    simp
    omega)]
  have hs := fun x => seq_at s.main_v16_6 b c i h x
  generalize (shapeCast S8x2048x4x512 (transpose S8x16x128x4x512 [1, 0, 2, 3, 4] s.main_v16_6 transposes_S16x8x128x4x512_S8x16x128x4x512_1_0_2_3_4) shapeCasts_S8x16x128x4x512_S8x2048x4x512 : FVec Ideal S8x2048x4x512 .f32) = y at hs ⊢
  rw [normed_at]
  simp only [centred_at, hs]
  rfl

end Cert.Ret
-- ==== Proof.Ret.Final.lean ====
module

public import proofs.«01_k».proof.Proof.Ret.Walk
public import proofs.«01_k».proof.Proof.Ret.RefOut
public import proofs.«01_k».proof.Proof.Gen.KernelIdeal.Value

/-! The two result arrays of the call are the reference's two results. -/

@[expose] public section

noncomputable section

namespace Cert.Ret

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- Every point is some head's some chunk. -/
theorem exists_pt (t : Fin cfg0.N) : ∃ b h n, t = pt b h n := by
  have hN : t.val < 512 := lt_of_lt_of_eq t.isLt (show cfg0.N = 512 from N_0)
  exact ⟨⟨t.val / 64, by omega⟩, ⟨t.val / 16 % 4, by omega⟩, ⟨t.val % 16, by omega⟩, Fin.ext (by
    show t.val = (t.val / 64 * 4 + t.val / 16 % 4) * 16 + t.val % 16
    omega)⟩

/-- The reference's state after all its trips, on the kernel's arguments. -/
abbrev last : Cert.ReferenceIdeal.Step.State Ideal :=
  it (m ((c : Thread nD τ).loc main_arg0)) (m ((c : Thread nD τ).loc main_arg1)) (m ((c : Thread nD τ).loc main_arg2)) 16

theorem last_at : At (kf m c) (vf m c) (qf m c) 16 (last m c) := it_at _ _ _ 16 le_rfl

/-- The reference's first result, on the kernel's arguments. -/
abbrev resultY : FVec Ideal S16384x2048 .bf16 :=
  Cert.ReferenceIdeal.Step.R_main_v44 (last m c) (m ((c : Thread nD τ).loc main_arg3)) (m ((c : Thread nD τ).loc main_arg4))

/-- Its second. -/
abbrev resultS : FVec Ideal S8x4x256x512 .f32 := (last m c).main_v16_5

theorem flushed_y (t : Fin cfg0.N) : (dats m 0 c).flushed 9 t = ((cfg0.win 9).blk t).view.read (Elt Ideal) (resultY m c) := by
  obtain ⟨b, h, n, rfl⟩ := exists_pt t
  rw [Cert.KernelIdeal.Value.flushed9]
  funext j
  obtain ⟨i, e, rfl⟩ : ∃ (i : Fin 128) (e : Fin 512), j = ix2 i e := ⟨j 0, j 1, funext fun a => match a with | ⟨0, _⟩ => rfl | ⟨1, _⟩ => rfl⟩
  refine (written m c b h n i e).trans ?_
  show _ = resultY m c (((cfg0.win 9).blk (pt b h n)).view.emb (ix2 i e))
  have e' := (index_rows (pt b h n)).2.2.2.2
  rw [pt_b, pt_h, pt_n] at e'
  have hemb : ((cfg0.win 9).blk (pt b h n)).view.emb (ix2 i e)
      = (ix2 ⟨2048 * b.val + (128 * n.val + i.val), by omega⟩ ⟨512 * h.val + e.val, by omega⟩ : S16384x2048.Idx) := by
    refine funext fun a => Fin.ext ?_
    match a with
    | ⟨0, _⟩ =>
      show win0_9.index (pt b h n) 0 * 128 + 1 * i.val = 2048 * b.val + (128 * n.val + i.val)
      rw [e'.1]; omega
    | ⟨1, _⟩ =>
      show win0_9.index (pt b h n) 1 * 512 + 1 * e.val = 512 * h.val + e.val
      rw [e'.2]; omega
  rw [hemb]
  refine Eq.trans ?_ (out_at (last m c) _ _ b n i h e).symm
  refine congrArg (fun o => gated o _ _ e) (funext fun x => ?_)
  exact ((last_at m c).out n b i h x n.isLt).symm

theorem final_y : (dats m 0 c).arrAt 9 cfg0.N = resultY m c :=
  (dats m 0 c).arrAt_eq_of_cover 9 (resultY m c) (fun t _ => flushed_y m c t) fun i => by
    have h0 : (i 0 : Nat) < 16384 := (i 0).isLt
    have h1 : (i 1 : Nat) < 2048 := (i 1).isLt
    have hh : (i 1 : Nat) / 512 < 4 := by omega
    have hb : (i 0 : Nat) / 2048 < 8 := by omega
    have hn : (i 0 : Nat) / 128 % 16 < 16 := by omega
    refine ⟨pt ⟨(i 0 : Nat) / 2048, hb⟩ ⟨(i 1 : Nat) / 512, hh⟩ ⟨(i 0 : Nat) / 128 % 16, hn⟩, flush0_9 _, ?_⟩
    have e' := (index_rows (pt ⟨(i 0 : Nat) / 2048, hb⟩ ⟨(i 1 : Nat) / 512, hh⟩ ⟨(i 0 : Nat) / 128 % 16, hn⟩)).2.2.2.2
    rw [pt_b, pt_h, pt_n] at e'
    generalize pt ⟨(i 0 : Nat) / 2048, hb⟩ ⟨(i 1 : Nat) / 512, hh⟩ ⟨(i 0 : Nat) / 128 % 16, hn⟩ = t at e'
    show i ∈ ((View.whole main_v64_0).slice (win0_9.rect t)).set
    rw [View.set_slice_whole, Rect.mem_set_unit]
    intro a
    match a with
    | ⟨0, _⟩ =>
      show win0_9.index t 0 * 128 ≤ (i 0 : Nat) ∧ (i 0 : Nat) < win0_9.index t 0 * 128 + 128
      rw [e'.1]; dsimp only; omega
    | ⟨1, _⟩ =>
      show win0_9.index t 1 * 512 ≤ (i 1 : Nat) ∧ (i 1 : Nat) < win0_9.index t 1 * 512 + 512
      rw [e'.2]; dsimp only; omega

/-- The last chunk of a sequence. -/
def lastChunk : Fin 16 := ⟨15, by decide⟩

theorem flushed_s (t : Fin cfg0.N) (hf : (cfg0.win 10).flush t = true) :
    (dats m 0 c).flushed 10 t = ((cfg0.win 10).blk t).view.read (Elt Ideal) (resultS m c) := by
  obtain ⟨b, h, n, rfl⟩ := exists_pt t
  have hn := (flush0_10 _).mp hf
  rw [pt_n] at hn
  obtain rfl : n = lastChunk := Fin.ext hn
  rw [Cert.KernelIdeal.Value.flushed10]
  funext j
  obtain ⟨d, e, rfl⟩ : ∃ (d : Fin 256) (e : Fin 512), j = ix4 0 0 d e :=
    ⟨j 2, j 3, funext fun a => match a with | ⟨0, _⟩ => Subsingleton.elim (α := Fin 1) _ _ | ⟨1, _⟩ => Subsingleton.elim (α := Fin 1) _ _ | ⟨2, _⟩ => rfl | ⟨3, _⟩ => rfl⟩
  refine (carried m c b h 15 (by decide) d e).trans ?_
  show _ = resultS m c (((cfg0.win 10).blk (pt b h lastChunk)).view.emb (ix4 0 0 d e))
  have e' := (index_tables (pt b h lastChunk)).2.2.2.2.2
  rw [pt_b, pt_h] at e'
  have hemb : ((cfg0.win 10).blk (pt b h lastChunk)).view.emb (ix4 0 0 d e) = (ix4 b h d e : S8x4x256x512.Idx) := by
    refine funext fun a => Fin.ext ?_
    match a with
    | ⟨0, _⟩ =>
      show win0_10.index (pt b h lastChunk) 0 * 1 + 1 * 0 = b.val
      rw [e'.1]; omega
    | ⟨1, _⟩ =>
      show win0_10.index (pt b h lastChunk) 1 * 1 + 1 * 0 = h.val
      rw [e'.2.1]; omega
    | ⟨2, _⟩ =>
      show win0_10.index (pt b h lastChunk) 2 * 256 + 1 * d.val = d.val
      rw [e'.2.2.1]; omega
    | ⟨3, _⟩ =>
      show win0_10.index (pt b h lastChunk) 3 * 512 + 1 * e.val = e.val
      rw [e'.2.2.2]; omega
  rw [hemb]
  exact ((last_at m c).st b h d e).symm

theorem final_s : (dats m 0 c).arrAt 10 cfg0.N = resultS m c :=
  (dats m 0 c).arrAt_eq_of_cover 10 (resultS m c) (flushed_s m c) fun i => by
    have h0 : (i 0 : Nat) < 8 := (i 0).isLt
    have h1 : (i 1 : Nat) < 4 := (i 1).isLt
    have h2 : (i 2 : Nat) < 256 := (i 2).isLt
    have h3 : (i 3 : Nat) < 512 := (i 3).isLt
    refine ⟨pt ⟨(i 0 : Nat), h0⟩ ⟨(i 1 : Nat), h1⟩ lastChunk, (flush0_10 _).mpr (pt_n _ _ _), ?_⟩
    have e' := (index_tables (pt ⟨(i 0 : Nat), h0⟩ ⟨(i 1 : Nat), h1⟩ lastChunk)).2.2.2.2.2
    rw [pt_b, pt_h] at e'
    generalize pt ⟨(i 0 : Nat), h0⟩ ⟨(i 1 : Nat), h1⟩ lastChunk = t at e'
    show i ∈ ((View.whole main_v64_1).slice (win0_10.rect t)).set
    rw [View.set_slice_whole, Rect.mem_set_unit]
    intro a
    match a with
    | ⟨0, _⟩ =>
      show win0_10.index t 0 * 1 ≤ (i 0 : Nat) ∧ (i 0 : Nat) < win0_10.index t 0 * 1 + 1
      rw [e'.1]; dsimp only; omega
    | ⟨1, _⟩ =>
      show win0_10.index t 1 * 1 ≤ (i 1 : Nat) ∧ (i 1 : Nat) < win0_10.index t 1 * 1 + 1
      rw [e'.2.1]; dsimp only; omega
    | ⟨2, _⟩ =>
      show win0_10.index t 2 * 256 ≤ (i 2 : Nat) ∧ (i 2 : Nat) < win0_10.index t 2 * 256 + 256
      rw [e'.2.2.1]; omega
    | ⟨3, _⟩ =>
      show win0_10.index t 3 * 512 ≤ (i 3 : Nat) ∧ (i 3 : Nat) < win0_10.index t 3 * 512 + 512
      rw [e'.2.2.2]; omega

end Cert.Ret
-- ==== Proof.Moe.Range.lean ====
/-
  The precondition read back: every entry of the table that names the blocks' experts is below the number of experts.
-/
module

public import proofs.«01_k».proof.Proof.Gen.Pre_experts_in_range

@[expose] public section

noncomputable section

namespace Cert.Moe

open Idealize.ShloMosaic Cert.Pre_experts_in_range

/-- A word that is signed-at-least zero and signed-below thirty-two is below thirty-two. -/
theorem lt_of_tests (w : BitVec 32) (h : IntOp.andi (IntOp.cmpi .sge w 0#32) (IntOp.cmpi .slt w 32#32) = 1#1) : w.toNat < 32 := by
  have hand : ∀ p q : Bool, IntOp.andi (BitVec.ofBool p) (BitVec.ofBool q) = 1#1 → p = true ∧ q = true := by decide
  have e := hand _ _ h
  have z0 : (0#32 : BitVec 32).toInt = 0 := by decide
  have z1 : (32#32 : BitVec 32).toInt = 32 := by decide
  have h1 : (0#32 : BitVec 32).toInt ≤ w.toInt := of_decide_eq_true (BitVec.sle_eq_decide ▸ e.1)
  have h2 : w.toInt < (32#32 : BitVec 32).toInt := of_decide_eq_true (BitVec.slt_eq_decide ▸ e.2)
  rw [z0, BitVec.toInt_eq_toNat_cond] at h1
  rw [z1, BitVec.toInt_eq_toNat_cond] at h2
  have := w.isLt
  split at h1 <;> omega

theorem in_range {F : FTy → Type} [FloatOps F] (a0 : FVec F S74752x1024 .f32) (a1 : IVec S292 32) (a2 : IVec S1 32)
    (a3 : FVec F S2x32x1024x2048 .bf16) (a4 : FVec F S2x32x1x2048 .f32) (a5 : FVec F S2x32x1024x1024 .bf16) (a6 : FVec F S2x32x1x1024 .f32)
    (h : fn a0 a1 a2 a3 a4 a5 a6 = fun _ => 1#1) (x : S292.Idx) : (a1 x).toNat < 32 := by
  have e := congrFun h x
  simp only [fn, andi, cmpi, broadcastInDim, constantI] at e
  exact lt_of_tests _ e

end Cert.Moe

end
-- ==== Proof.Moe.BodyIdeal.lean ====
/-
  What one step of the experts' call leaves in its output block. A block in use holds the clamped SwiGLU of its rows
  through the block's expert; a block past the last one in use holds zeros. The step reads the number of blocks in use
  from the second table.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.VecWindow
public import Idealize.ShloMosaic.Lib.Ring
public import Idealize.ShloMosaic.Lib.Exec
public import Idealize.ShloMosaic.Lib.Tactic

@[expose] public section

set_option maxRecDepth 16384
set_option Elab.async false

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table naming each block's expert, as the body is handed it. -/
abbrev expertTab : Memref sig .tc .smem S292 .i32 := Memref.whole main_arg1
/-- The table holding the number of blocks in use, as the body is handed it. -/
abbrev usedTab : Memref sig .tc .smem S1 .i32 := Memref.whole main_arg2

/-- The number of blocks in use, as the body reads it off its table. -/
abbrev usedWord (T : S1.Idx → Elt F .i32) : BitVec 32 :=
  View.readAt (Elt F) usedTab.view (Rect.unit (s := S1) ![0] S1.size inb_S1_S1_0).toLoadRect T (Shape.Idx.first (numel1_S1.symm ▸ Nat.one_pos))

/-- What the body holds while it runs: the five input blocks, its halves of the two tables, the output block. -/
abbrev held (c : Dev nD) (a3 : Memref sig .tc .vmem S256x1024 .f32) (a4 : Memref sig .tc .vmem S1x1x1024x2048 .bf16)
    (a5 : Memref sig .tc .vmem S1x1x1x2048 .f32) (a6 : Memref sig .tc .vmem S1x1x1024x1024 .bf16) (a7 : Memref sig .tc .vmem S1x1x1x1024 .f32)
    (T0 : S292.Idx → Elt F .i32) (T1 : S1.Idx → Elt F .i32) (x0 : S256x1024.Idx → Elt F .f32) (x1 : S1x1x1024x2048.Idx → Elt F .bf16)
    (x2 : S1x1x1x2048.Idx → Elt F .f32) (x3 : S1x1x1024x1024.Idx → Elt F .bf16) (x4 : S1x1x1x1024.Idx → Elt F .f32) (R : sProp 𝕄) : sProp 𝕄 :=
  iprop((a3.view.loc (c : Thread nD τ) ↦[a3.view.set]{fullShare} a3.view.rep x0)
    ∗ (a4.view.loc (c : Thread nD τ) ↦[a4.view.set]{fullShare} a4.view.rep x1)
    ∗ (a5.view.loc (c : Thread nD τ) ↦[a5.view.set]{fullShare} a5.view.rep x2)
    ∗ (a6.view.loc (c : Thread nD τ) ↦[a6.view.set]{fullShare} a6.view.rep x3)
    ∗ (a7.view.loc (c : Thread nD τ) ↦[a7.view.set]{fullShare} a7.view.rep x4)
    ∗ (expertTab.view.loc (c : Thread nD τ) ↦{fullShare.right} T0)
    ∗ (usedTab.view.loc (c : Thread nD τ) ↦{fullShare.right} T1)
    ∗ R)

set_option maxHeartbeats 4000000 in
/-- A step whose block is in use leaves the expert's result for the block's rows. -/
theorem run_used (c : Dev nD) (i : grid0.Coords) (a3 : Memref sig .tc .vmem S256x1024 .f32) (h3 : a3.IsWhole)
    (a4 : Memref sig .tc .vmem S1x1x1024x2048 .bf16) (h4 : a4.IsWhole) (a5 : Memref sig .tc .vmem S1x1x1x2048 .f32) (h5 : a5.IsWhole)
    (a6 : Memref sig .tc .vmem S1x1x1024x1024 .bf16) (h6 : a6.IsWhole) (a7 : Memref sig .tc .vmem S1x1x1x1024 .f32) (h7 : a7.IsWhole)
    (a8 : Memref sig .tc .vmem S256x1024 .f32) (h8 : a8.IsWhole)
    (T0 : S292.Idx → Elt F .i32) (T1 : S1.Idx → Elt F .i32) (x0 : S256x1024.Idx → Elt F .f32) (x1 : S1x1x1024x2048.Idx → Elt F .bf16)
    (x2 : S1x1x1x2048.Idx → Elt F .f32) (x3 : S1x1x1024x1024.Idx → Elt F .bf16) (x4 : S1x1x1x1024.Idx → Elt F .f32)
    (g1 : k0_cond1 i (usedWord T1) = 1#1) (g2 : ¬ k0_cond2 i (usedWord T1) = 1#1) (K : PUnit → sProp 𝕄) :
    held c a3 a4 a5 a6 a7 T0 T1 x0 x1 x2 x3 x4 iprop((∃ d, owns (c : Thread nD τ) a8 fullShare d)
        ∗ (held c a3 a4 a5 a6 a7 T0 T1 x0 x1 x2 x3 x4 (owns (c : Thread nD τ) a8 fullShare (k0_pay2 x0 x1 x2 x3 x4)) -∗ K ⟨⟩))
      ⊢ wp frame (wpE (defs₀ (F := F)) Variants.none c none) Set.univ
          (cc0_moe_expert_blocks i expertTab (Memref.isWhole_whole _) usedTab (Memref.isWhole_whole _) a3 h3 a4 h4 a5 h5 a6 h6 a7 h7 a8 h8) K := by
  unfold owns
  rw [cc0_moe_expert_blocks_eq_skeleton]; unfold cc0_moe_expert_blocks_skel
  iintro ⟨H0, H1, H2, H3, H4, HT0, HT1, ⟨%d5, %f5, -, HO5⟩, Hk⟩
  have hT0 : expertTab.IsWhole := Memref.isWhole_whole _
  have hT1 : usedTab.IsWhole := Memref.isWhole_whole _
  sl_exec! (disch := first | (guard_target = k0_cond1 _ _ = _; exact g1) | (guard_target = ¬(k0_cond2 _ _ = _); exact g2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _; isplitr; swap
  · iexact HO5
  · ipureintro
    refine (View.read_writes_full _ _ _ _ _).trans ?_
    delta run_used.sl.r_1
    exact congr (congr (congr (congr (congrArg k0_pay2 (View.readAt_rep_full a3.view x0 _)) (View.readAt_rep_full a4.view x1 _))
      (View.readAt_rep_full a5.view x2 _)) (View.readAt_rep_full a6.view x3 _)) (View.readAt_rep_full a7.view x4 _)

set_option maxHeartbeats 4000000 in
/-- A step whose block is past the last one in use leaves zeros. -/
theorem run_unused (c : Dev nD) (i : grid0.Coords) (a3 : Memref sig .tc .vmem S256x1024 .f32) (h3 : a3.IsWhole)
    (a4 : Memref sig .tc .vmem S1x1x1024x2048 .bf16) (h4 : a4.IsWhole) (a5 : Memref sig .tc .vmem S1x1x1x2048 .f32) (h5 : a5.IsWhole)
    (a6 : Memref sig .tc .vmem S1x1x1024x1024 .bf16) (h6 : a6.IsWhole) (a7 : Memref sig .tc .vmem S1x1x1x1024 .f32) (h7 : a7.IsWhole)
    (a8 : Memref sig .tc .vmem S256x1024 .f32) (h8 : a8.IsWhole)
    (T0 : S292.Idx → Elt F .i32) (T1 : S1.Idx → Elt F .i32) (x0 : S256x1024.Idx → Elt F .f32) (x1 : S1x1x1024x2048.Idx → Elt F .bf16)
    (x2 : S1x1x1x2048.Idx → Elt F .f32) (x3 : S1x1x1024x1024.Idx → Elt F .bf16) (x4 : S1x1x1x1024.Idx → Elt F .f32)
    (g1 : ¬ k0_cond1 i (usedWord T1) = 1#1) (g2 : k0_cond2 i (usedWord T1) = 1#1) (K : PUnit → sProp 𝕄) :
    held c a3 a4 a5 a6 a7 T0 T1 x0 x1 x2 x3 x4 iprop((∃ d, owns (c : Thread nD τ) a8 fullShare d)
        ∗ (held c a3 a4 a5 a6 a7 T0 T1 x0 x1 x2 x3 x4 (owns (c : Thread nD τ) a8 fullShare (k0_pay1 (F := F))) -∗ K ⟨⟩))
      ⊢ wp frame (wpE (defs₀ (F := F)) Variants.none c none) Set.univ
          (cc0_moe_expert_blocks i expertTab (Memref.isWhole_whole _) usedTab (Memref.isWhole_whole _) a3 h3 a4 h4 a5 h5 a6 h6 a7 h7 a8 h8) K := by
  unfold owns
  rw [cc0_moe_expert_blocks_eq_skeleton]; unfold cc0_moe_expert_blocks_skel
  iintro ⟨H0, H1, H2, H3, H4, HT0, HT1, ⟨%d5, %f5, -, HO5⟩, Hk⟩
  have hT0 : expertTab.IsWhole := Memref.isWhole_whole _
  have hT1 : usedTab.IsWhole := Memref.isWhole_whole _
  sl_exec! (disch := first | (guard_target = ¬(k0_cond1 _ _ = _); exact g1) | (guard_target = k0_cond2 _ _ = _; exact g2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _; isplitr; swap
  · iexact HO5
  · ipureintro
    exact View.read_writes_full _ _ _ _ _

end Cert.ExpertsIdeal.Moe

end
-- ==== Proof.Moe.FrameIdeal.lean ====
/-
  The experts' call run on its grid, at any contents of its two tables that keep every block inside its array. Each
  step's output block is what `Body` says of it; the call ends with its arguments unchanged and its result at what
  the pipeline computes from those blocks.
-/
module

public import proofs.«01_k».proof.Proof.Moe.BodyIdeal
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Writes
public import Idealize.ShloMosaic.Lib.Affine
public import Idealize.ShloMosaic.Adequacy
public import Idealize.ShloMosaic.Init

@[expose] public section

set_option maxRecDepth 16384
set_option Elab.async false

noncomputable section

namespace Cert.ExpertsIdeal.Moe

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds' resources, embedded. -/
abbrev EP : Emb (UR sig nD τ) (MT nD τ sig Unit (Elt F) ℕ (UR sig nD τ) ℕ) := emb₁

variable (a : (pcfg0 (F := F)).Adm)
variable (m : (ℓ : Loc nD τ sig) → Buf (Elt F) ℓ) (ρ : Dev nD → PrngReg)

/-- The pipeline at the tables' contents. -/
abbrev cfgA : Pipeline.Cfg sig Λ₀ := cfg0 a
abbrev pcs : Fin 1 → Pipeline.Cfg sig Λ₀ := Pipeline.pin (pcfgs (F := F)) fun _ => a

/-- A step's coordinates. -/
abbrev crd (t : Fin (cfgA a).N) : grid0.Coords := (cfgA a).grid.coords t

/-- The two tables' contents, at their own types. -/
abbrev tab0 : S292.Idx → Elt F .i32 := a.1 0
abbrev tab1 : S1.Idx → Elt F .i32 := a.1 1

/-- The memory holds the tables. -/
def Holds : Prop :=
  (∀ c : Dev nD, m ((c : Thread nD τ).loc main_arg1) = tab0 a) ∧ (∀ c : Dev nD, m ((c : Thread nD τ).loc main_arg2) = tab1 a)

/-! ## The staging buffers of a step and the blocks its windows read -/

abbrev st0 (t : Fin (cfgA a).N) : Memref sig .tc .vmem S256x1024 .f32 := spec0_0.stage ((cfgA a).slots t (0 : Fin 6))
abbrev hst0 (t : Fin (cfgA a).N) : (st0 a t).IsWhole := hstage0_0 (((cfgA a).slots t (0 : Fin 6)).cast nbuf0_0)
abbrev st1 (t : Fin (cfgA a).N) : Memref sig .tc .vmem S1x1x1024x2048 .bf16 := spec0_1.stage ((cfgA a).slots t (1 : Fin 6))
abbrev hst1 (t : Fin (cfgA a).N) : (st1 a t).IsWhole := hstage0_1 (((cfgA a).slots t (1 : Fin 6)).cast nbuf0_1)
abbrev st2 (t : Fin (cfgA a).N) : Memref sig .tc .vmem S1x1x1x2048 .f32 := spec0_2.stage ((cfgA a).slots t (2 : Fin 6))
abbrev hst2 (t : Fin (cfgA a).N) : (st2 a t).IsWhole := hstage0_2 (((cfgA a).slots t (2 : Fin 6)).cast nbuf0_2)
abbrev st3 (t : Fin (cfgA a).N) : Memref sig .tc .vmem S1x1x1024x1024 .bf16 := spec0_3.stage ((cfgA a).slots t (3 : Fin 6))
abbrev hst3 (t : Fin (cfgA a).N) : (st3 a t).IsWhole := hstage0_3 (((cfgA a).slots t (3 : Fin 6)).cast nbuf0_3)
abbrev st4 (t : Fin (cfgA a).N) : Memref sig .tc .vmem S1x1x1x1024 .f32 := spec0_4.stage ((cfgA a).slots t (4 : Fin 6))
abbrev hst4 (t : Fin (cfgA a).N) : (st4 a t).IsWhole := hstage0_4 (((cfgA a).slots t (4 : Fin 6)).cast nbuf0_4)
abbrev st5 (t : Fin (cfgA a).N) : Memref sig .tc .vmem S256x1024 .f32 := spec0_5.stage ((cfgA a).slots t (5 : Fin 6))
abbrev hst5 (t : Fin (cfgA a).N) : (st5 a t).IsWhole := hstage0_5 (((cfgA a).slots t (5 : Fin 6)).cast nbuf0_5)

/-- A window's block at a step, read off its array as launched. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What a step leaves in its output block. -/
def left (c : Dev nD) (t : Fin (cfgA a).N) : S256x1024.Idx → Elt F .f32 :=
  if k0_cond1 (crd a t) (usedWord (F := F) (tab1 a)) = 1#1 then
    k0_pay2 (iblk a m ρ c (0 : Fin 6) t : S256x1024.Idx → Elt F .f32) (iblk a m ρ c (1 : Fin 6) t : S1x1x1024x2048.Idx → Elt F .bf16)
      (iblk a m ρ c (2 : Fin 6) t : S1x1x1x2048.Idx → Elt F .f32) (iblk a m ρ c (3 : Fin 6) t : S1x1x1024x1024.Idx → Elt F .bf16)
      (iblk a m ρ c (4 : Fin 6) t : S1x1x1x1024.Idx → Elt F .f32)
  else k0_pay1

/-- What is invariant over the steps: the body's halves of the tables. -/
def Inv (c : Dev nD) : sProp 𝕄 :=
  iprop((expertTab.view.loc (c : Thread nD τ) ↦{fullShare.right} tab0 a) ∗ (usedTab.view.loc (c : Thread nD τ) ↦{fullShare.right} tab1 a))

/-- The pipeline's proof data on a core. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => left a m ρ c t
  Φ _ := Inv a c
  q _ := fullShare
  owed _ := 0

theorem after_0 (c : Dev nD) (t : Fin (cfgA a).N) : (dats a m ρ 0 c).after (0 : Fin 6) t = iblk a m ρ c (0 : Fin 6) t := rfl
theorem after_1 (c : Dev nD) (t : Fin (cfgA a).N) : (dats a m ρ 0 c).after (1 : Fin 6) t = iblk a m ρ c (1 : Fin 6) t := rfl
theorem after_2 (c : Dev nD) (t : Fin (cfgA a).N) : (dats a m ρ 0 c).after (2 : Fin 6) t = iblk a m ρ c (2 : Fin 6) t := rfl
theorem after_3 (c : Dev nD) (t : Fin (cfgA a).N) : (dats a m ρ 0 c).after (3 : Fin 6) t = iblk a m ρ c (3 : Fin 6) t := rfl
theorem after_4 (c : Dev nD) (t : Fin (cfgA a).N) : (dats a m ρ 0 c).after (4 : Fin 6) t = iblk a m ρ c (4 : Fin 6) t := rfl
theorem after_5 (c : Dev nD) (t : Fin (cfgA a).N) : (dats a m ρ 0 c).after (5 : Fin 6) t = left a m ρ c t := rfl

/-- An input's buffer holds its block when the body runs. -/
theorem before_0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after_4]; unfold Dat.blockOf iblk; rfl) t d).trans
    (by unfold Dat.fetched Dat.blockOf iblk; rfl)

/-! ## The two tests of a step exclude one another, and one of them holds -/

/-- The second test is the first one's negation. -/
theorem cond2_iff (i : grid0.Coords) (w : BitVec 32) : k0_cond2 i w = 1#1 ↔ ¬ k0_cond1 i w = 1#1 := by
  unfold k0_cond1 k0_cond2
  dsimp only [Scalar.cmpi, Scalar.extui, IntOp.cmpi]
  generalize BitVec.ofNat 32 (i 0).val = x
  rw [BitVec.sle_eq_decide, BitVec.slt_eq_decide]
  by_cases h : x.toInt < w.toInt
  · simp [h, not_le.2 h]
  · simp [h, not_lt.1 h]

/-- The output's buffer is stored at every step. -/
theorem busy (i : grid0.Coords) : idle0 (F := F) a.1 (5 : Fin 6) i = false := by
  show (!(k0_cond1 i (a.1.atD 1 ![0]) == 1#1) && !(k0_cond2 i (a.1.atD 1 ![0]) == 1#1)) = false
  by_cases h : k0_cond1 i (a.1.atD 1 ![0]) = 1#1
  · simp [h]
  · simp [(cond2_iff i _).2 h]

/-! ## The body at a step -/

/-- The body at a step, on its staging buffers. -/
abbrev bodyAt (t : Fin (cfgA a).N) : Prog (TpuEff nD τ sig (Elt F) Λ₀ .tc) PUnit :=
  cc0_moe_expert_blocks (crd a t) expertTab (Memref.isWhole_whole _) usedTab (Memref.isWhole_whole _) (st0 a t) (hst0 a t) (st1 a t) (hst1 a t)
    (st2 a t) (hst2 a t) (st3 a t) (hst3 a t) (st4 a t) (hst4 a t) (st5 a t) (hst5 a t)

/-- A step from its buffers to its buffers. -/
theorem run_step (c : Dev nD) (t : Fin (cfgA a).N) (K : PUnit → sProp 𝕄) :
    held c (st0 a t) (st1 a t) (st2 a t) (st3 a t) (st4 a t) (tab0 a) (tab1 a) (iblk a m ρ c (0 : Fin 6) t) (iblk a m ρ c (1 : Fin 6) t)
        (iblk a m ρ c (2 : Fin 6) t) (iblk a m ρ c (3 : Fin 6) t) (iblk a m ρ c (4 : Fin 6) t)
        iprop((∃ d, owns (c : Thread nD τ) (st5 a t) fullShare d)
        ∗ (held c (st0 a t) (st1 a t) (st2 a t) (st3 a t) (st4 a t) (tab0 a) (tab1 a) (iblk a m ρ c (0 : Fin 6) t) (iblk a m ρ c (1 : Fin 6) t)
            (iblk a m ρ c (2 : Fin 6) t) (iblk a m ρ c (3 : Fin 6) t) (iblk a m ρ c (4 : Fin 6) t)
            (owns (c : Thread nD τ) (st5 a t) fullShare (left a m ρ c t)) -∗ K ⟨⟩))
      ⊢ wp frame (wpE (defs₀ (F := F)) Variants.none c none) Set.univ (bodyAt a t) K := by
  by_cases h : k0_cond1 (crd a t) (usedWord (F := F) (tab1 a)) = 1#1
  · rw [show left a m ρ c t = _ from if_pos h]
    exact run_used c (crd a t) _ _ _ _ _ _ _ _ _ _ _ _ _ _ _ _ _ _ _ h (fun h' => (cond2_iff _ _).1 h' h) K
  · rw [show left a m ρ c t = _ from if_neg h]
    exact run_unused c (crd a t) _ _ _ _ _ _ _ _ _ _ _ _ _ _ _ _ _ _ _ h ((cond2_iff _ _).2 h) K

set_option maxHeartbeats 4000000 in
/-- The body meets the pipeline's demand at every step. -/
theorem sound_body (c : Dev nD) (t : Fin (cfgA a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [show (cfgA a).idle (5 : Fin 6) ((cfgA a).grid.coords t) = false from busy a _]
  simp only [before_0, before_1, before_2, before_3, before_4, after_0, after_1, after_2, after_3, after_4, after_5]
  rewrite [show (dats a m ρ 0 c).Φ t.succ = Inv a c from rfl, show (dats a m ρ 0 c).Φ t.castSucc = Inv a c from rfl,
    show (dats a m ρ 0 c).owesAt () t.succ = (dats a m ρ 0 c).owesAt () t.castSucc from rfl]
  unfold Inv
  iintro ⟨⟨HT0, HT1⟩, Ho, ⟨%d0, H0⟩, ⟨%d1, H1⟩, ⟨%d2, H2⟩, ⟨%d3, H3⟩, ⟨%d4, H4⟩, ⟨%d5, H5⟩⟩
  iapply (run_step a m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  iintro ⟨H0, H1, H2, H3, H4, HT0, HT1, H5⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

theorem body_obligation (c : Dev nD) : BodyObligation (dats a m ρ 0 c) (defs₀ (F := F)) Variants.none () Set.univ := fun t => by
  rw [bigSep_W0]
  exact sound_body a m ρ c t

/-! ## The launch -/

/-- The rounds' launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem inv_intro (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Inv a c from rfl]
  unfold Inv
  iintro ⟨-, ⟨HT0, HT1⟩, -⟩
  isplitl [HT0]
  · iexact HT0
  iexact HT1

theorem inv_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Inv a c from rfl]
  unfold Inv
  iintro ⟨-, -⟩
  isplitr; · iempintro
  iempintro

/-- Every array ends at what the pipeline computes, every table at what it was. -/
def Post : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem tables_held (hp : Holds a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- The call, from any memory that holds the tables: it ends, at `Post`, its semaphores at zero. -/
theorem run_main (hp : Holds a m) : θ_run (defs (F := F)) (onTc (τ := τ) (main (F := F))) (s₀ m ρ) (fun r => Post a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := tables_held a m hp)
    (X := fun _ => iprop(emp)) (Y := fun _ => iprop(emp)) (Z := fun _ => iprop(emp))
    (hX := fun c => by rw [unscopedRestP0_eq]; iintro -; isplitr <;> iempintro)
    (hin := inv_intro a m ρ)
    (hout := inv_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call with its result named: the arguments unchanged, the result at what the pipeline wrote. -/
theorem run_result (hp : Holds a m) :
    θ_run (defs (F := F)) (onTc (τ := τ) (main (F := F))) ⟨m, fun _ => 0, ρ⟩ (fun r => (∀ c : Dev nD,
      r.2.mem ((c.tc : Thread nD τ).loc main_v0) = (dats a m ρ 0 c).arrAt (5 : Fin 6) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c).1 (5 : Fin 6),
    ((h.1 c).1 (0 : Fin 6)).trans ((dats a m ρ 0 c).arrAt_in (0 : Fin 6) rfl _),
    ((h.1 c).2 0).trans (hp.1 c).symm, ((h.1 c).2 1).trans (hp.2 c).symm,
    ((h.1 c).1 (1 : Fin 6)).trans ((dats a m ρ 0 c).arrAt_in (1 : Fin 6) rfl _),
    ((h.1 c).1 (2 : Fin 6)).trans ((dats a m ρ 0 c).arrAt_in (2 : Fin 6) rfl _),
    ((h.1 c).1 (3 : Fin 6)).trans ((dats a m ρ 0 c).arrAt_in (3 : Fin 6) rfl _),
    ((h.1 c).1 (4 : Fin 6)).trans ((dats a m ρ 0 c).arrAt_in (4 : Fin 6) rfl _)⟩, h.2⟩) (run_main a m ρ hp)

end Cert.ExpertsIdeal.Moe

end
-- ==== Proof.Moe.TablesIdeal.lean ====
/-
  Tables whose experts are in range keep every block inside its array, so the call runs at the tables the memory holds.
-/
module

public import proofs.«01_k».proof.Proof.Moe.FrameIdeal
public import proofs.«01_k».proof.Proof.Moe.Range
public import Idealize.ShloMosaic.Lib.Pointwise

@[expose] public section

set_option maxRecDepth 16384

noncomputable section

namespace Cert.ExpertsIdeal.Moe

open Cert.ExpertsIdeal Cert.ExpertsIdeal.Gen
open Idealize.ShloMosaic Idealize.ShloMosaic.TcCoe

variable {F : FTy → Type} [FloatOps F]

/-- A bound on each entry of a list of coordinates, entry by entry. -/
theorem inside_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ fun a => ?_
  · simpa only [Matrix.cons_val_zero] using h0
  · simpa only [Matrix.cons_val_succ] using hr a

/-- A step's place in the table of experts. -/
abbrev place (i : grid0.Coords) : S292.Idx := ix1 ⟨(i 0).val, (i 0).isLt⟩

/-- The word of the expert table the index maps read at a step is the one at the step's place. -/
theorem word_at (T : pre0.Contents (Elt F)) (i : grid0.Coords)
    (inb : ∀ a, (![(Scalar.indexCast (BitVec.ofNat 32 (i 0).val)).toNat] : Fin 1 → ℕ) a + S1.size a ≤ S292.size a) (h : S1.numel = 1) :
    (T.at 0 (Rect.unit (s := S292) ![(Scalar.indexCast (BitVec.ofNat 32 (i 0).val)).toNat] S1.size inb) h : BitVec 32) = (T 0 : S292.Idx → BitVec 32) (place i) := by
  refine congrArg (T 0 : S292.Idx → BitVec 32) (funext fun a => Fin.ext ?_)
  match a with
  | ⟨0, _⟩ =>
    have : (i 0).val < 292 := (i 0).isLt
    show (BitVec.ofNat 32 (i 0).val).toNat + 1 * _ = (i 0).val
    rw [BitVec.toNat_ofNat, Nat.mod_eq_of_lt (by omega)]
    have z : ∀ k : Fin (S1.size 0), (i 0).val + 1 * k.val = (i 0).val := fun k => by
      have : k.val < 1 := k.isLt
      omega
    exact z _

/-- The experts named are in range. -/
def InRange (T : S292.Idx → BitVec 32) : Prop := ∀ x, (T x).toNat < 32

theorem index_1 (T : pre0.Contents (Elt F)) (i : grid0.Coords) :
    cc0_transform_1 k0_off1_inb numel1_S1 T i = ![0, ((T 0 : S292.Idx → BitVec 32) (place i)).toNat, 0, 0] :=
  congrArg (fun w : BitVec 32 => (![0, w.toNat, 0, 0] : Fin 4 → ℕ)) (word_at T i (k0_off1_inb i) numel1_S1)
theorem index_2 (T : pre0.Contents (Elt F)) (i : grid0.Coords) :
    cc0_transform_2 k0_off1_inb numel1_S1 T i = ![0, ((T 0 : S292.Idx → BitVec 32) (place i)).toNat, 0, 0] :=
  congrArg (fun w : BitVec 32 => (![0, w.toNat, 0, 0] : Fin 4 → ℕ)) (word_at T i (k0_off1_inb i) numel1_S1)
theorem index_3 (T : pre0.Contents (Elt F)) (i : grid0.Coords) :
    cc0_transform_3 k0_off1_inb numel1_S1 T i = ![0, ((T 0 : S292.Idx → BitVec 32) (place i)).toNat, 0, 0] :=
  congrArg (fun w : BitVec 32 => (![0, w.toNat, 0, 0] : Fin 4 → ℕ)) (word_at T i (k0_off1_inb i) numel1_S1)
theorem index_4 (T : pre0.Contents (Elt F)) (i : grid0.Coords) :
    cc0_transform_4 k0_off1_inb numel1_S1 T i = ![0, ((T 0 : S292.Idx → BitVec 32) (place i)).toNat, 0, 0] :=
  congrArg (fun w : BitVec 32 => (![0, w.toNat, 0, 0] : Fin 4 → ℕ)) (word_at T i (k0_off1_inb i) numel1_S1)

theorem inside_1 (T : pre0.Contents (Elt F)) (h : InRange (T 0)) (i : grid0.Coords) :
    ∀ a, (cc0_transform_1 k0_off1_inb numel1_S1 T i a + 1) * S1x1x1024x2048.size a ≤ S2x32x1024x2048.size a := by
  rw [index_1]; have := h (place i)
  exact inside_cons (by decide) (inside_cons (by omega) (inside_cons (by decide) (inside_cons (by decide) fun a => a.elim0)))
theorem inside_2 (T : pre0.Contents (Elt F)) (h : InRange (T 0)) (i : grid0.Coords) :
    ∀ a, (cc0_transform_2 k0_off1_inb numel1_S1 T i a + 1) * S1x1x1x2048.size a ≤ S2x32x1x2048.size a := by
  rw [index_2]; have := h (place i)
  exact inside_cons (by decide) (inside_cons (by omega) (inside_cons (by decide) (inside_cons (by decide) fun a => a.elim0)))
theorem inside_3 (T : pre0.Contents (Elt F)) (h : InRange (T 0)) (i : grid0.Coords) :
    ∀ a, (cc0_transform_3 k0_off1_inb numel1_S1 T i a + 1) * S1x1x1024x1024.size a ≤ S2x32x1024x1024.size a := by
  rw [index_3]; have := h (place i)
  exact inside_cons (by decide) (inside_cons (by omega) (inside_cons (by decide) (inside_cons (by decide) fun a => a.elim0)))
theorem inside_4 (T : pre0.Contents (Elt F)) (h : InRange (T 0)) (i : grid0.Coords) :
    ∀ a, (cc0_transform_4 k0_off1_inb numel1_S1 T i a + 1) * S1x1x1x1024.size a ≤ S2x32x1x1024.size a := by
  rw [index_4]; have := h (place i)
  exact inside_cons (by decide) (inside_cons (by omega) (inside_cons (by decide) (inside_cons (by decide) fun a => a.elim0)))

theorem ok_of_range (T : pre0.Contents (Elt F)) (h : InRange (T 0)) : ok0 T :=
  ⟨fun i => ⟨inside_1 T h i, .inr (Affine.block_words_dvd (s := S2x32x1024x2048) (p := EltTy.packing .bf16) (by decide) (by decide))⟩,
    fun i => ⟨inside_2 T h i, .inl rfl⟩,
    fun i => ⟨inside_3 T h i, .inr (Affine.block_words_dvd (s := S2x32x1024x1024) (p := EltTy.packing .bf16) (by decide) (by decide))⟩,
    fun i => ⟨inside_4 T h i, .inl rfl⟩⟩

variable (m : (ℓ : Loc nD τ sig) → Buf (Elt F) ℓ)

/-- The tables as the memory holds them, on the one device. -/
def tablesOf : pre0.Contents (Elt F) := fun k => m (((0 : Dev nD) : Thread nD τ).loc (pre0.ref k))

/-- They are tables the call runs at. -/
abbrev adm (h : InRange (tablesOf m 0)) : (pcfg0 (F := F)).Adm := ⟨tablesOf m, ok_of_range _ h⟩

theorem holds (h : InRange (tablesOf m 0)) : Holds (adm m h) m :=
  ⟨fun c => by rw [show c = 0 from Subsingleton.elim (α := Fin 1) _ _]; rfl, fun c => by rw [show c = 0 from Subsingleton.elim (α := Fin 1) _ _]; rfl⟩

end Cert.ExpertsIdeal.Moe

end
-- ==== Proof.Moe.Spec.lean ====
module

public import Idealize.ShloMosaic.Lib.Pointwise

/-! One expert's feed-forward row over the extended reals: the gate and up projections, the clamped activation, and
the down projection. -/

@[expose] public section

noncomputable section

namespace Cert.Moe

open Idealize.ShloMosaic

/-- Entry `j` of the gate-and-up projection of the row `x`. -/
def gateUp (x : Fin 1024 → EReal) (w : Fin 1024 → Fin 2048 → EReal) (b : Fin 2048 → EReal) (j : Fin 2048) : EReal :=
  (∑ k, x k * w k j) + b j

/-- Column `j` of the gate half. -/
def gateCol (j : Fin 1024) : Fin 2048 := ⟨j.val, by omega⟩

/-- Column `j` of the up half. -/
def upCol (j : Fin 1024) : Fin 2048 := ⟨1024 + j.val, by omega⟩

/-- The activation: the gate cut off above, the up value cut off on both sides, and the gate's sigmoid. -/
def act (g u : EReal) : EReal :=
  (min (Ideal.ofBits .f32 0x40E00000#32) (max (Ideal.ofBits .f32 0xC0E00000#32) u) + Ideal.ofBits .f32 0x3F800000#32)
    * min g (Ideal.ofBits .f32 0x40E00000#32)
    * Ideal.logistic (Ideal.ofBits .f32 0x3FD9DB23#32 * min g (Ideal.ofBits .f32 0x40E00000#32))

/-- Entry `d` of an expert's output row for the input row `x`. -/
def expert (x : Fin 1024 → EReal) (wgu : Fin 1024 → Fin 2048 → EReal) (bgu : Fin 2048 → EReal)
    (wdn : Fin 1024 → Fin 1024 → EReal) (bdn : Fin 1024 → EReal) (d : Fin 1024) : EReal :=
  (∑ j, act (gateUp x wgu bgu (gateCol j)) (gateUp x wgu bgu (upCol j)) * wdn j d) + bdn d

/-- Equal data give equal rows. -/
theorem expert_congr {x x' : Fin 1024 → EReal} {wgu wgu' : Fin 1024 → Fin 2048 → EReal} {bgu bgu' : Fin 2048 → EReal}
    {wdn wdn' : Fin 1024 → Fin 1024 → EReal} {bdn bdn' : Fin 1024 → EReal} (hx : ∀ k, x k = x' k)
    (hwgu : ∀ k j, wgu k j = wgu' k j) (hbgu : ∀ j, bgu j = bgu' j) (hwdn : ∀ k j, wdn k j = wdn' k j)
    (hbdn : ∀ j, bdn j = bdn' j) (d : Fin 1024) : expert x wgu bgu wdn bdn d = expert x' wgu' bgu' wdn' bdn' d := by
  obtain rfl : x = x' := funext hx
  obtain rfl : wgu = wgu' := funext fun k => funext (hwgu k)
  obtain rfl : bgu = bgu' := funext hbgu
  obtain rfl : wdn = wdn' := funext fun k => funext (hwdn k)
  obtain rfl : bdn = bdn' := funext hbdn
  rfl

/-- The expert a start word names, kept inside the 32 there are. -/
def named (w : BitVec 32) : Fin 32 := ⟨min w.toInt.toNat 31, by omega⟩

/-- The block of 256 rows that row `r` lies in. -/
def blockOf (r : Fin 74752) : Fin 292 := ⟨r.val / 256, by omega⟩

/-- Entry `(r, d)` of the experts' layer: the row's expert applied to the row, or zero past the blocks in use. -/
def entry (layer : Fin 2) (xs : (⟨2, ![74752, 1024]⟩ : Shape).Idx → EReal) (be : (⟨1, ![292]⟩ : Shape).Idx → BitVec 32)
    (nv : (⟨1, ![1]⟩ : Shape).Idx → BitVec 32) (wgu : (⟨4, ![2, 32, 1024, 2048]⟩ : Shape).Idx → EReal)
    (bgu : (⟨4, ![2, 32, 1, 2048]⟩ : Shape).Idx → EReal) (wdn : (⟨4, ![2, 32, 1024, 1024]⟩ : Shape).Idx → EReal)
    (bdn : (⟨4, ![2, 32, 1, 1024]⟩ : Shape).Idx → EReal) (r : Fin 74752) (d : Fin 1024) : EReal :=
  if IntOp.cmpi .slt (BitVec.ofNat 32 (r.val / 256)) (nv (ix1 0)) = 1#1 then
    expert (fun k => xs (ix2 r k)) (fun k j => wgu (ix4 layer (named (be (ix1 (blockOf r)))) k j))
      (fun j => bgu (ix4 layer (named (be (ix1 (blockOf r)))) 0 j))
      (fun k j => wdn (ix4 layer (named (be (ix1 (blockOf r)))) k j))
      (fun j => bdn (ix4 layer (named (be (ix1 (blockOf r)))) 0 j)) d
  else 0

end Cert.Moe
-- ==== Proof.Moe.PayloadIdeal.lean ====
module

public import proofs.«01_k».proof.Proof.Gen.ExpertsIdeal.Skeleton
public import proofs.«01_k».proof.Proof.Moe.Spec

/-! The expert body's block read at an index, over the extended reals. -/

@[expose] public section

noncomputable section

namespace Cert.ExpertsIdeal.Moe

open Idealize.ShloMosaic Cert.ExpertsIdeal Cert.ExpertsIdeal.Gen

theorem pay1_at (i : Fin 256) (d : Fin 1024) : (k0_pay1 : FVec Ideal S256x1024 .f32) (ix2 i d) = (0 : EReal) := by
  unfold k0_pay1
  pointwise

theorem cast_gu (w : FVec Ideal S1x1x1024x2048 .bf16) (k : Fin 1024) (j : Fin 2048) :
    shapeCast S1024x2048 w shapeCasts_S1x1x1024x2048_S1024x2048 (ix2 k j) = w (ix4 0 0 k j) := by
  pointwise

theorem pay2_at (x : FVec Ideal S256x1024 .f32) (wgu : FVec Ideal S1x1x1024x2048 .bf16) (bgu : FVec Ideal S1x1x1x2048 .f32)
    (wdn : FVec Ideal S1x1x1024x1024 .bf16) (bdn : FVec Ideal S1x1x1x1024 .f32) (i : Fin 256) (d : Fin 1024) :
    k0_pay2 (F := Ideal) x wgu bgu wdn bdn (ix2 i d)
      = Cert.Moe.expert (fun k => x (ix2 i k)) (fun k j => wgu (ix4 0 0 k j)) (fun j => bgu (ix4 0 0 0 j))
          (fun k j => wdn (ix4 0 0 k j)) (fun j => bdn (ix4 0 0 0 j)) d := by
  unfold k0_pay2 Cert.Moe.expert Cert.Moe.act Cert.Moe.gateUp Cert.Moe.gateCol Cert.Moe.upCol
  pointwise

end Cert.ExpertsIdeal.Moe
-- ==== Proof.Moe.Pick.lean ====
module

public import Idealize.ShloMosaic.Lib.ValueIdxCore
public import proofs.«01_k».proof.Proof.Moe.Spec
public import Idealize.ShloMosaic.Lib.Pointwise

/-! A gather that picks, for every block, the matrix (or the row) of the block's expert, read at an index. -/

@[expose] public section

noncomputable section

namespace Cert.Moe

open Idealize.ShloMosaic

variable {α : Type}

/-- A start word below 32 names the expert of its own number. -/
theorem named_of_lt (w : BitVec 32) (h : w.toNat < 32) : named w = ⟨w.toNat, h⟩ := by
  refine Fin.ext ?_
  show min w.toInt.toNat 31 = w.toNat
  rw [BitVec.toInt_eq_toNat_cond]
  split <;> omega

/-- The dimensions of the gather of one matrix per block. -/
abbrev matDims (A B : ℕ)
    (wf : GatherDims.WF ⟨3, ![32, A, B]⟩ ⟨2, ![292, 1]⟩ ⟨3, ![292, A, B]⟩ [1, 2] [0] [] [0] [] 1 ![1, A, B]) :
    GatherDims ⟨3, ![32, A, B]⟩ ⟨2, ![292, 1]⟩ ⟨3, ![292, A, B]⟩ where
  offsetDims := [1, 2]
  collapsedSliceDims := [0]
  operandBatchingDims := []
  startIndicesBatchingDims := []
  startIndexMap := [0]
  indexVectorDim := 1
  sliceSizes := ![1, A, B]
  wf := wf

/-- Block `b`'s matrix is the named expert's. -/
theorem mat_at {A B : ℕ} (wf) (x : (⟨3, ![32, A, B]⟩ : Shape).Idx → α) (idx : IVec ⟨2, ![292, 1]⟩ 32)
    (b : Fin 292) (k : Fin A) (j : Fin B) :
    Host.gather (matDims A B wf) x idx (ix3 b k j) = x (ix3 (named (idx (ix2 b 0))) k j) := by
  unfold Host.gather
  congr 1
  funext a
  refine Fin.ext ?_
  show (matDims A B wf).start (ix3 b k j) idx a + (matDims A B wf).batchCoord (ix3 b k j) a
      + (matDims A B wf).offCoord (ix3 b k j) a = _
  rw [GatherDims.batchCoord_eq_zero _ _ _ (fun h => by simp at h), Nat.add_zero]
  have split : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases split with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (matDims A B wf).startIndexMap from List.mem_singleton.mpr rfl)]
    have hsi : (matDims A B wf).siIdx (ix3 b k j) ⟨List.idxOf (0 : Fin 3) (matDims A B wf).startIndexMap,
        List.idxOf_lt_length_iff.2 (List.mem_singleton.mpr rfl)⟩ = ix2 b 0 := by
      funext c
      refine Fin.ext ?_
      match c with
      | ⟨0, _⟩ => rfl
      | ⟨1, _⟩ => rfl
    show min (idx ((matDims A B wf).siIdx (ix3 b k j) ⟨List.idxOf (0 : Fin 3) (matDims A B wf).startIndexMap, _⟩)).toInt.toNat _ + 0 = _
    rw [hsi]
    rfl
  · exact Nat.zero_add _
  · exact Nat.zero_add _

/-- The dimensions of the gather of one row per block. -/
abbrev rowDims (B : ℕ)
    (wf : GatherDims.WF ⟨2, ![32, B]⟩ ⟨2, ![292, 1]⟩ ⟨2, ![292, B]⟩ [1] [0] [] [0] [] 1 ![1, B]) :
    GatherDims ⟨2, ![32, B]⟩ ⟨2, ![292, 1]⟩ ⟨2, ![292, B]⟩ where
  offsetDims := [1]
  collapsedSliceDims := [0]
  operandBatchingDims := []
  startIndicesBatchingDims := []
  startIndexMap := [0]
  indexVectorDim := 1
  sliceSizes := ![1, B]
  wf := wf

/-- Block `b`'s row is the named expert's. -/
theorem row_at {B : ℕ} (wf) (x : (⟨2, ![32, B]⟩ : Shape).Idx → α) (idx : IVec ⟨2, ![292, 1]⟩ 32) (b : Fin 292) (j : Fin B) :
    Host.gather (rowDims B wf) x idx (ix2 b j) = x (ix2 (named (idx (ix2 b 0))) j) := by
  unfold Host.gather
  congr 1
  funext a
  refine Fin.ext ?_
  show (rowDims B wf).start (ix2 b j) idx a + (rowDims B wf).batchCoord (ix2 b j) a
      + (rowDims B wf).offCoord (ix2 b j) a = _
  rw [GatherDims.batchCoord_eq_zero _ _ _ (fun h => by simp at h), Nat.add_zero]
  have split : a = 0 ∨ a = 1 := by
    match a with
    | ⟨0, _⟩ => exact Or.inl rfl
    | ⟨1, _⟩ => exact Or.inr rfl
  rcases split with rfl | rfl
  · rw [GatherDims.offCoord_eq_zero _ _ _ (fun h => ((GatherDims.mem_sKept _ _).mp h).1 (List.mem_singleton.mpr rfl))]
    unfold GatherDims.start
    rw [dif_pos (show (0 : Fin 2) ∈ (rowDims B wf).startIndexMap from List.mem_singleton.mpr rfl)]
    have hsi : (rowDims B wf).siIdx (ix2 b j) ⟨List.idxOf (0 : Fin 2) (rowDims B wf).startIndexMap,
        List.idxOf_lt_length_iff.2 (List.mem_singleton.mpr rfl)⟩ = ix2 b 0 := by
      funext c
      refine Fin.ext ?_
      match c with
      | ⟨0, _⟩ => rfl
      | ⟨1, _⟩ => rfl
    show min (idx ((rowDims B wf).siIdx (ix2 b j) ⟨List.idxOf (0 : Fin 2) (rowDims B wf).startIndexMap, _⟩)).toInt.toNat _ + 0 = _
    rw [hsi]
    rfl
  · exact Nat.zero_add _

end Cert.Moe
-- ==== Proof.Moe.PointsIdeal.lean ====
/-
  What the five input blocks of a step hold: step `t` reads rows `256 t …` of the dispatched rows and the weights and
  biases of the expert that the table names for block `t`.
-/
module

public import proofs.«01_k».proof.Proof.Moe.TablesIdeal
public import proofs.«01_k».proof.Proof.Moe.PayloadIdeal
public import proofs.«01_k».proof.Proof.Moe.Pick

@[expose] public section

set_option maxRecDepth 16384

noncomputable section

namespace Cert.ExpertsIdeal.Moe

open Cert.ExpertsIdeal Cert.ExpertsIdeal.Gen
open Idealize.ShloMosaic Idealize.ShloMosaic.TcCoe

/-- A step's coordinate is its number. -/
theorem crd_val : ∀ t : Fin grid0.N, (grid0.coords t 0).val = t.val := by decide +kernel

theorem steps : grid0.N = 292 := by decide +kernel

variable (m : (ℓ : Loc nD τ sig) → Buf (Elt Ideal) ℓ) (ρ : Dev nD → PrngReg) (h : InRange (tablesOf m 0)) (c : Dev nD)

/-- Block `t`'s expert. -/
abbrev wordOf (t : Fin grid0.N) : BitVec 32 :=
  (m ((c : Thread nD τ).loc main_arg1) : S292.Idx → BitVec 32) (ix1 ⟨t.val, by rw [← steps]; exact t.isLt⟩)

include h in
theorem word_lt (t : Fin grid0.N) : (wordOf m c t).toNat < 32 := by
  obtain rfl : c = 0 := Subsingleton.elim (α := Fin 1) _ _
  exact h _

theorem word_table (t : Fin grid0.N) :
    (tablesOf m 0 : S292.Idx → BitVec 32) (place (grid0.coords t)) = wordOf m c t := by
  obtain rfl : c = 0 := Subsingleton.elim (α := Fin 1) _ _
  refine congrArg (m ((((0 : Dev nD)) : Thread nD τ).loc main_arg1) : S292.Idx → BitVec 32) (funext fun a => Fin.ext ?_)
  match a with
  | ⟨0, _⟩ => exact crd_val t

include h in
theorem word_named (t : Fin grid0.N) :
    ((tablesOf m 0 : S292.Idx → BitVec 32) (place (grid0.coords t))).toNat = (Cert.Moe.named (wordOf m c t)).val := by
  rw [word_table m c t, Cert.Moe.named_of_lt _ (word_lt m h c t)]

theorem x_at (t : Fin (cfgA (adm m h)).N) (i : Fin 256) (k : Fin 1024) :
    (iblk (adm m h) m ρ c (0 : Fin 6) t : FVec Ideal S256x1024 .f32) (ix2 i k)
      = m ((c : Thread nD τ).loc main_arg0) (ix2 ⟨t.val * 256 + i.val, by have : t.val < 292 := steps ▸ t.isLt; omega⟩ k) := by
  show m ((c : Thread nD τ).loc main_arg0) ((((cfgA (adm m h)).win (0 : Fin 6)).blk t).view.emb (ix2 i k)) = _
  refine congrArg (m ((c : Thread nD τ).loc main_arg0)) (funext fun a => Fin.ext ?_)
  have e := crd_val t
  have ht : t.val < 292 := steps ▸ t.isLt
  match a with
  | ⟨0, _⟩ =>
    show (BitVec.ofNat 32 (grid0.coords t 0).val).toNat * 256 + 1 * i.val = t.val * 256 + i.val
    rw [e, BitVec.toNat_ofNat, Nat.mod_eq_of_lt (by omega)]; omega
  | ⟨1, _⟩ =>
    show 0 * 1024 + 1 * k.val = k.val
    omega

theorem wgu_at (t : Fin (cfgA (adm m h)).N) (k : Fin 1024) (j : Fin 2048) :
    (iblk (adm m h) m ρ c (1 : Fin 6) t : FVec Ideal S1x1x1024x2048 .bf16) (ix4 0 0 k j)
      = m ((c : Thread nD τ).loc main_arg3) (ix4 0 (Cert.Moe.named (wordOf m c t)) k j) := by
  show m ((c : Thread nD τ).loc main_arg3) ((((cfgA (adm m h)).win (1 : Fin 6)).blk t).view.emb (ix4 0 0 k j)) = _
  refine congrArg (m ((c : Thread nD τ).loc main_arg3)) (funext fun a => Fin.ext ?_)
  have e := index_1 (tablesOf m) (grid0.coords t)
  rw [word_named m h c t] at e
  match a with
  | ⟨0, _⟩ =>
    show cc0_transform_1 k0_off1_inb numel1_S1 (tablesOf m) (grid0.coords t) 0 * 1 + 1 * 0 = 0
    rw [e]; rfl
  | ⟨1, _⟩ =>
    show cc0_transform_1 k0_off1_inb numel1_S1 (tablesOf m) (grid0.coords t) 1 * 1 + 1 * 0 = (Cert.Moe.named (wordOf m c t)).val
    rw [e]; exact Nat.mul_one _
  | ⟨2, _⟩ =>
    show cc0_transform_1 k0_off1_inb numel1_S1 (tablesOf m) (grid0.coords t) 2 * 1024 + 1 * k.val = k.val
    rw [e]; show 0 * 1024 + 1 * k.val = k.val; omega
  | ⟨3, _⟩ =>
    show cc0_transform_1 k0_off1_inb numel1_S1 (tablesOf m) (grid0.coords t) 3 * 2048 + 1 * j.val = j.val
    rw [e]; show 0 * 2048 + 1 * j.val = j.val; omega

theorem bgu_at (t : Fin (cfgA (adm m h)).N) (j : Fin 2048) :
    (iblk (adm m h) m ρ c (2 : Fin 6) t : FVec Ideal S1x1x1x2048 .f32) (ix4 0 0 0 j)
      = m ((c : Thread nD τ).loc main_arg4) (ix4 0 (Cert.Moe.named (wordOf m c t)) 0 j) := by
  show m ((c : Thread nD τ).loc main_arg4) ((((cfgA (adm m h)).win (2 : Fin 6)).blk t).view.emb (ix4 0 0 0 j)) = _
  refine congrArg (m ((c : Thread nD τ).loc main_arg4)) (funext fun a => Fin.ext ?_)
  have e := index_2 (tablesOf m) (grid0.coords t)
  rw [word_named m h c t] at e
  match a with
  | ⟨0, _⟩ =>
    show cc0_transform_2 k0_off1_inb numel1_S1 (tablesOf m) (grid0.coords t) 0 * 1 + 1 * 0 = 0
    rw [e]; rfl
  | ⟨1, _⟩ =>
    show cc0_transform_2 k0_off1_inb numel1_S1 (tablesOf m) (grid0.coords t) 1 * 1 + 1 * 0 = (Cert.Moe.named (wordOf m c t)).val
    rw [e]; exact Nat.mul_one _
  | ⟨2, _⟩ =>
    show cc0_transform_2 k0_off1_inb numel1_S1 (tablesOf m) (grid0.coords t) 2 * 1 + 1 * 0 = 0
    rw [e]; rfl
  | ⟨3, _⟩ =>
    show cc0_transform_2 k0_off1_inb numel1_S1 (tablesOf m) (grid0.coords t) 3 * 2048 + 1 * j.val = j.val
    rw [e]; show 0 * 2048 + 1 * j.val = j.val; omega

theorem wdn_at (t : Fin (cfgA (adm m h)).N) (k j : Fin 1024) :
    (iblk (adm m h) m ρ c (3 : Fin 6) t : FVec Ideal S1x1x1024x1024 .bf16) (ix4 0 0 k j)
      = m ((c : Thread nD τ).loc main_arg5) (ix4 0 (Cert.Moe.named (wordOf m c t)) k j) := by
  show m ((c : Thread nD τ).loc main_arg5) ((((cfgA (adm m h)).win (3 : Fin 6)).blk t).view.emb (ix4 0 0 k j)) = _
  refine congrArg (m ((c : Thread nD τ).loc main_arg5)) (funext fun a => Fin.ext ?_)
  have e := index_3 (tablesOf m) (grid0.coords t)
  rw [word_named m h c t] at e
  match a with
  | ⟨0, _⟩ =>
    show cc0_transform_3 k0_off1_inb numel1_S1 (tablesOf m) (grid0.coords t) 0 * 1 + 1 * 0 = 0
    rw [e]; rfl
  | ⟨1, _⟩ =>
    show cc0_transform_3 k0_off1_inb numel1_S1 (tablesOf m) (grid0.coords t) 1 * 1 + 1 * 0 = (Cert.Moe.named (wordOf m c t)).val
    rw [e]; exact Nat.mul_one _
  | ⟨2, _⟩ =>
    show cc0_transform_3 k0_off1_inb numel1_S1 (tablesOf m) (grid0.coords t) 2 * 1024 + 1 * k.val = k.val
    rw [e]; show 0 * 1024 + 1 * k.val = k.val; omega
  | ⟨3, _⟩ =>
    show cc0_transform_3 k0_off1_inb numel1_S1 (tablesOf m) (grid0.coords t) 3 * 1024 + 1 * j.val = j.val
    rw [e]; show 0 * 1024 + 1 * j.val = j.val; omega

theorem bdn_at (t : Fin (cfgA (adm m h)).N) (j : Fin 1024) :
    (iblk (adm m h) m ρ c (4 : Fin 6) t : FVec Ideal S1x1x1x1024 .f32) (ix4 0 0 0 j)
      = m ((c : Thread nD τ).loc main_arg6) (ix4 0 (Cert.Moe.named (wordOf m c t)) 0 j) := by
  show m ((c : Thread nD τ).loc main_arg6) ((((cfgA (adm m h)).win (4 : Fin 6)).blk t).view.emb (ix4 0 0 0 j)) = _
  refine congrArg (m ((c : Thread nD τ).loc main_arg6)) (funext fun a => Fin.ext ?_)
  have e := index_4 (tablesOf m) (grid0.coords t)
  rw [word_named m h c t] at e
  match a with
  | ⟨0, _⟩ =>
    show cc0_transform_4 k0_off1_inb numel1_S1 (tablesOf m) (grid0.coords t) 0 * 1 + 1 * 0 = 0
    rw [e]; rfl
  | ⟨1, _⟩ =>
    show cc0_transform_4 k0_off1_inb numel1_S1 (tablesOf m) (grid0.coords t) 1 * 1 + 1 * 0 = (Cert.Moe.named (wordOf m c t)).val
    rw [e]; exact Nat.mul_one _
  | ⟨2, _⟩ =>
    show cc0_transform_4 k0_off1_inb numel1_S1 (tablesOf m) (grid0.coords t) 2 * 1 + 1 * 0 = 0
    rw [e]; rfl
  | ⟨3, _⟩ =>
    show cc0_transform_4 k0_off1_inb numel1_S1 (tablesOf m) (grid0.coords t) 3 * 1024 + 1 * j.val = j.val
    rw [e]; show 0 * 1024 + 1 * j.val = j.val; omega

end Cert.ExpertsIdeal.Moe

end
-- ==== Proof.Moe.FinalIdeal.lean ====
/-
  The call's result: every step writes its block back, the blocks cover the array, and each entry is the layer's.
-/
module

public import proofs.«01_k».proof.Proof.Moe.PointsIdeal

@[expose] public section

set_option maxRecDepth 16384

noncomputable section

namespace Cert.ExpertsIdeal.Moe

open Cert.ExpertsIdeal Cert.ExpertsIdeal.Gen
open Idealize.ShloMosaic Idealize.ShloMosaic.TcCoe

/-- Every step writes its block of the result back. -/
theorem flush_map : ∀ t : Fin grid0.N, Pipeline.Window.flushOf grid0 true cc0_transform_5 t = true := by decide +kernel

variable (m : (ℓ : Loc nD τ sig) → Buf (Elt Ideal) ℓ) (ρ : Dev nD → PrngReg) (h : InRange (tablesOf m 0)) (c : Dev nD)

/-- The layer's result as one function of the arguments. -/
def result : FVec Ideal S74752x1024 .f32 := fun i =>
  Cert.Moe.entry 0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(i 0).val, (i 0).isLt⟩ ⟨(i 1).val, (i 1).isLt⟩

theorem result_at (r : Fin 74752) (d : Fin 1024) : result m c (ix2 r d)
    = Cert.Moe.entry 0 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) r d := rfl

/-- The kernel's test of a step is the comparison of the step's number with the count of blocks in use. -/
theorem test_iff (t : Fin grid0.N) (w : BitVec 32) :
    k0_cond1 (grid0.coords t) w = 1#1 ↔ IntOp.cmpi .slt (BitVec.ofNat 32 t.val) w = 1#1 := by
  unfold k0_cond1
  rw [crd_val t]
  dsimp only [Scalar.cmpi, Scalar.extui, IntOp.cmpi]
  cases hb : BitVec.slt (BitVec.ofNat 32 t.val) w <;> decide

theorem used_word : usedWord (F := Ideal) (tab1 (adm m h)) = (m ((c : Thread nD τ).loc main_arg2) : S1.Idx → BitVec 32) (ix1 0) := by
  obtain rfl : c = 0 := Subsingleton.elim (α := Fin 1) _ _
  refine congrArg (m (((0 : Dev nD) : Thread nD τ).loc main_arg2) : S1.Idx → BitVec 32) (funext fun a => ?_)
  match a with
  | ⟨0, _⟩ => exact Subsingleton.elim (α := Fin 1) _ _

/-- What a step leaves in its block. -/
theorem left_at (t : Fin (cfgA (adm m h)).N) (i : Fin 256) (d : Fin 1024) :
    left (adm m h) m ρ c t (ix2 i d) = result m c (ix2 ⟨t.val * 256 + i.val, by have : t.val < 292 := steps ▸ t.isLt; omega⟩ d) := by
  have ht : t.val < 292 := steps ▸ t.isLt
  have hb : (t.val * 256 + i.val) / 256 = t.val := by omega
  rw [result_at]
  unfold left Cert.Moe.entry
  rw [used_word m h c]
  dsimp only
  rw [hb]
  have hblk : Cert.Moe.blockOf ⟨t.val * 256 + i.val, by omega⟩ = ⟨t.val, ht⟩ := Fin.ext hb
  by_cases hc : k0_cond1 (grid0.coords t) ((m ((c : Thread nD τ).loc main_arg2) : S1.Idx → BitVec 32) (ix1 0)) = 1#1
  · rw [if_pos hc, if_pos ((test_iff t _).mp hc)]
    refine (pay2_at _ _ _ _ _ i d).trans ?_
    refine Cert.Moe.expert_congr (fun k => x_at m ρ h c t i k) (fun k j => ?_) (fun j => ?_) (fun k j => ?_) (fun j => ?_) d
    · rw [hblk]; exact wgu_at m ρ h c t k j
    · rw [hblk]; exact bgu_at m ρ h c t j
    · rw [hblk]; exact wdn_at m ρ h c t k j
    · rw [hblk]; exact bdn_at m ρ h c t j
  · rw [if_neg hc, if_neg (fun g => hc ((test_iff t _).mpr g))]
    exact pay1_at i d

theorem emb_out (t : Fin (cfgA (adm m h)).N) (i : Fin 256) (d : Fin 1024) :
    ((((cfgA (adm m h)).win (5 : Fin 6)).blk t).view.emb (ix2 i d) : S74752x1024.Idx)
      = ix2 ⟨t.val * 256 + i.val, by have : t.val < 292 := steps ▸ t.isLt; omega⟩ d := by
  have ht : t.val < 292 := steps ▸ t.isLt
  refine funext fun a => Fin.ext ?_
  match a with
  | ⟨0, _⟩ =>
    show (BitVec.ofNat 32 (grid0.coords t 0).val).toNat * 256 + 1 * i.val = t.val * 256 + i.val
    rw [crd_val t, BitVec.toNat_ofNat, Nat.mod_eq_of_lt (by omega)]; omega
  | ⟨1, _⟩ =>
    show 0 * 1024 + 1 * d.val = d.val
    omega

theorem flushed_out (t : Fin (cfgA (adm m h)).N) :
    (dats (adm m h) m ρ 0 c).flushed (5 : Fin 6) t = (((cfgA (adm m h)).win (5 : Fin 6)).blk t).view.read (Elt Ideal) (result m c) := by
  show left (adm m h) m ρ c t = _
  funext j
  obtain ⟨i, d, rfl⟩ : ∃ (i : Fin 256) (d : Fin 1024), j = ix2 i d := ⟨j 0, j 1, funext fun a => match a with | ⟨0, _⟩ => rfl | ⟨1, _⟩ => rfl⟩
  refine (left_at m ρ h c t i d).trans ?_
  show _ = result m c ((((cfgA (adm m h)).win (5 : Fin 6)).blk t).view.emb (ix2 i d))
  rw [emb_out m h t i d]

/-- The step that writes row `r`. -/
def stepOf (r : Fin 74752) : Fin (cfgA (adm m h)).N := ⟨r.val / 256, by show _ < grid0.N; rw [steps]; omega⟩

theorem flush_out (t : Fin (cfgA (adm m h)).N) : ((cfgA (adm m h)).win (5 : Fin 6)).flush t = true := flush_map t

theorem emb_step (r : Fin 74752) (d : Fin 1024) :
    ((((cfgA (adm m h)).win (5 : Fin 6)).blk (stepOf m h r)).view.emb (ix2 ⟨r.val % 256, by omega⟩ d) : S74752x1024.Idx) = ix2 r d :=
  (emb_out m h (stepOf m h r) _ d).trans (congrArg (fun x : Fin 74752 => (ix2 x d : S74752x1024.Idx)) (Fin.ext (Nat.div_add_mod' r.val 256)))

theorem covered (i : S74752x1024.Idx) :
    i ∈ (((cfgA (adm m h)).win (5 : Fin 6)).blk (stepOf m h (⟨(i 0).val, (i 0).isLt⟩ : Fin 74752))).view.set := by
  obtain ⟨r, d, rfl⟩ : ∃ (r : Fin 74752) (d : Fin 1024), i = ix2 r d := ⟨i 0, i 1, funext fun a => match a with | ⟨0, _⟩ => rfl | ⟨1, _⟩ => rfl⟩
  have e := emb_step m h r d
  have k := View.emb_mem_set (((cfgA (adm m h)).win (5 : Fin 6)).blk (stepOf m h r)).view (ix2 ⟨r.val % 256, by omega⟩ d)
  exact Eq.mp (congrArg (· ∈ (((cfgA (adm m h)).win (5 : Fin 6)).blk (stepOf m h r)).view.set) e) k

/-- The result the pipeline leaves. -/
theorem final : (dats (adm m h) m ρ 0 c).arrAt (5 : Fin 6) (cfgA (adm m h)).N = result m c :=
  (dats (adm m h) m ρ 0 c).arrAt_eq_of_cover (5 : Fin 6) (result m c) (fun t _ => flushed_out m ρ h c t) fun i =>
    ⟨_, flush_out m h _, covered m h i⟩

end Cert.ExpertsIdeal.Moe

end
-- ==== Proof.Moe.RefOut.lean ====
module

public import proofs.«01_k».proof.Proof.Gen.ExpertsReferenceIdeal.Run
public import proofs.«01_k».proof.Proof.Moe.Pick
public import proofs.«01_k».proof.Proof.Moe.Spec

/-! The reference's result read at an index: every row is its block's expert's row, or zero past the blocks in use. -/

@[expose] public section

noncomputable section

namespace Cert.ExpertsReferenceIdeal.Moe

open Idealize.ShloMosaic Cert.ExpertsReferenceIdeal Cert.ExpertsReferenceIdeal.Gen

/-- The experts' numbers as the column of start words. -/
def expertCol (be : IVec S292 32) : IVec S292x1 32 :=
  broadcastInDim S292x1 ![0] bcast_S292_S292x1_0 (select (cmpi .slt be (broadcastInDim S292 ![] bcast_S_S292 (constantI S_ 32 0#32))) (addi be (broadcastInDim S292 ![] bcast_S_S292 (constantI S_ 32 32#32))) be)

/-- The gate and up projections of every block. -/
def projected (xs : FVec Ideal S74752x1024 .f32) (be : IVec S292 32) (wgu : FVec Ideal S2x32x1024x2048 .bf16)
    (bgu : FVec Ideal S2x32x1x2048 .f32) : FVec Ideal S292x256x2048 .f32 :=
  addf (Host.dotGeneral dot_S292x256x1024_S292x1024x2048_S292x256x2048_2_1_1_2_0_0 none (shapeCast _ xs shapeCasts_S74752x1024_S292x256x1024) (Host.gather gather_S32x1024x2048_S292x1_S292x1024x2048_12_0_n_n_0_1_110242048 (extf .f32 (shapeCast _ (extractStridedSlice S1x32x1024x2048 ![0, 0, 0, 0] wgu slices_S2x32x1024x2048_S1x32x1024x2048_0_0_0_0) shapeCasts_S1x32x1024x2048_S32x1024x2048) bitsLt_bf16_f32) (expertCol be))) (broadcastInDim S292x256x2048 ![0, 1, 2] bcast_S292x1x2048_S292x256x2048_0_1_2 (broadcastInDim S292x1x2048 ![0, 2] bcast_S292x2048_S292x1x2048_0_2 (Host.gather gather_S32x2048_S292x1_S292x2048_1_0_n_n_0_1_12048 (shapeCast _ (extractStridedSlice S1x32x1x2048 ![0, 0, 0, 0] bgu slices_S2x32x1x2048_S1x32x1x2048_0_0_0_0) shapeCasts_S1x32x1x2048_S32x2048) (expertCol be))))

/-- The gate half, cut off above. -/
def gateHalf (gu : FVec Ideal S292x256x2048 .f32) : FVec Ideal S292x256x1024 .f32 :=
  minimumf (extractStridedSlice S292x256x1024 ![0, 0, 0] gu slices_S292x256x2048_S292x256x1024_0_0_0) (broadcastInDim S292x256x1024 ![] bcast_S_S292x256x1024 (constant S_ .f32 0x40E00000#32))

/-- The up half, cut off on both sides. -/
def upHalf (gu : FVec Ideal S292x256x2048 .f32) : FVec Ideal S292x256x1024 .f32 :=
  minimumf (broadcastInDim S292x256x1024 ![] bcast_S_S292x256x1024 (id (constant S_ .f32 0x40E00000#32))) (maximumf (broadcastInDim S292x256x1024 ![] bcast_S_S292x256x1024 (id (constant S_ .f32 0xC0E00000#32))) (extractStridedSlice S292x256x1024 ![0, 0, 1024] gu slices_S292x256x2048_S292x256x1024_0_0_1024))

/-- The activation of every block. -/
def activated (gu : FVec Ideal S292x256x2048 .f32) : FVec Ideal S292x256x1024 .f32 :=
  mulf (mulf (addf (upHalf gu) (broadcastInDim S292x256x1024 ![] bcast_S_S292x256x1024 (constant S_ .f32 0x3F800000#32))) (gateHalf gu)) (Host.divf (broadcastInDim S292x256x1024 ![] bcast_S_S292x256x1024 (constant S_ .f32 0x3F800000#32)) (addf (broadcastInDim S292x256x1024 ![] bcast_S_S292x256x1024 (constant S_ .f32 0x3F800000#32)) (Host.exp (Host.negf (mulf (broadcastInDim S292x256x1024 ![] bcast_S_S292x256x1024 (constant S_ .f32 0x3FD9DB23#32)) (gateHalf gu))))))

/-- The down projection of every block. -/
def answered (a : FVec Ideal S292x256x1024 .f32) (be : IVec S292 32) (wdn : FVec Ideal S2x32x1024x1024 .bf16)
    (bdn : FVec Ideal S2x32x1x1024 .f32) : FVec Ideal S292x256x1024 .f32 :=
  addf (Host.dotGeneral dot_S292x256x1024_S292x1024x1024_S292x256x1024_2_1_1_2_0_0 none a (Host.gather gather_S32x1024x1024_S292x1_S292x1024x1024_12_0_n_n_0_1_110241024 (extf .f32 (shapeCast _ (extractStridedSlice S1x32x1024x1024 ![0, 0, 0, 0] wdn slices_S2x32x1024x1024_S1x32x1024x1024_0_0_0_0) shapeCasts_S1x32x1024x1024_S32x1024x1024) bitsLt_bf16_f32) (expertCol be))) (broadcastInDim S292x256x1024 ![0, 1, 2] bcast_S292x1x1024_S292x256x1024_0_1_2 (broadcastInDim S292x1x1024 ![0, 2] bcast_S292x1024_S292x1x1024_0_2 (Host.gather gather_S32x1024_S292x1_S292x1024_1_0_n_n_0_1_11024 (shapeCast _ (extractStridedSlice S1x32x1x1024 ![0, 0, 0, 0] bdn slices_S2x32x1x1024_S1x32x1x1024_0_0_0_0) shapeCasts_S1x32x1x1024_S32x1024) (expertCol be))))

/-- The result as a function of the seven arguments. -/
def rows (xs : FVec Ideal S74752x1024 .f32) (be : IVec S292 32) (nv : IVec S1 32) (wgu : FVec Ideal S2x32x1024x2048 .bf16)
    (bgu : FVec Ideal S2x32x1x2048 .f32) (wdn : FVec Ideal S2x32x1024x1024 .bf16) (bdn : FVec Ideal S2x32x1x1024 .f32) :
    FVec Ideal S74752x1024 .f32 :=
  shapeCast _ (select (broadcastInDim S292x256x1024 ![0, 1, 2] bcast_S292x1x1_S292x256x1024_0_1_2 (broadcastInDim S292x1x1 ![0] bcast_S292_S292x1x1_0 (cmpi .slt (iotaInDim S292 32 0) (broadcastInDim S292 ![0] bcast_S1_S292_0 nv)))) (answered (activated (projected xs be wgu bgu)) be wdn bdn) (broadcastInDim S292x256x1024 ![] bcast_S_S292x256x1024 (id (constant S_ .f32 0x00000000#32)))) shapeCasts_S292x256x1024_S74752x1024

theorem res_eq (m : (ℓ : Loc nD τ sig) → Buf (Elt Ideal) ℓ) (c : Dev nD) :
    Value.res_main_v69 m c = rows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem gateHalf_at (gu : FVec Ideal S292x256x2048 .f32) (b : Fin 292) (i : Fin 256) (j : Fin 1024) :
    gateHalf gu (ix3 b i j) = min (gu (ix3 b i (Cert.Moe.gateCol j)) : EReal) (Ideal.ofBits .f32 0x40E00000#32) := by
  unfold gateHalf Cert.Moe.gateCol
  pointwise

theorem upHalf_at (gu : FVec Ideal S292x256x2048 .f32) (b : Fin 292) (i : Fin 256) (j : Fin 1024) :
    upHalf gu (ix3 b i j) = min (Ideal.ofBits .f32 0x40E00000#32) (max (Ideal.ofBits .f32 0xC0E00000#32) (gu (ix3 b i (Cert.Moe.upCol j)) : EReal)) := by
  unfold upHalf Cert.Moe.upCol
  pointwise
  rfl

theorem activated_at (gu : FVec Ideal S292x256x2048 .f32) (b : Fin 292) (i : Fin 256) (j : Fin 1024) :
    activated gu (ix3 b i j) = Cert.Moe.act (gu (ix3 b i (Cert.Moe.gateCol j))) (gu (ix3 b i (Cert.Moe.upCol j))) := by
  unfold activated Cert.Moe.act
  pointwise
  rw [gateHalf_at, upHalf_at]
  rfl

/-- A start word below 32 is not negative, so it is taken as it stands. -/
theorem expertCol_at (be : IVec S292 32) (b : Fin 292) (h : (be (ix1 b)).toNat < 32) :
    expertCol be (ix2 b 0) = be (ix1 b) := by
  unfold expertCol
  pointwise
  have hs : (be (ix1 b)).slt 0#32 = false := by
    rw [BitVec.slt_eq_decide, BitVec.toInt_eq_toNat_cond]
    simp only [decide_eq_false_iff_not, BitVec.toInt_zero]
    split <;> omega
  show Scalar.select (BitVec.ofBool ((be (ix1 b)).slt 0#32)) _ _ = _
  rw [hs]
  rfl

theorem wgu_at (be : IVec S292 32) (wgu : FVec Ideal S2x32x1024x2048 .bf16) (b : Fin 292) (k : Fin 1024) (j : Fin 2048)
    (h : (be (ix1 b)).toNat < 32) :
    Host.gather gather_S32x1024x2048_S292x1_S292x1024x2048_12_0_n_n_0_1_110242048 (extf .f32 (shapeCast S32x1024x2048 (extractStridedSlice S1x32x1024x2048 ![0, 0, 0, 0] wgu slices_S2x32x1024x2048_S1x32x1024x2048_0_0_0_0) shapeCasts_S1x32x1024x2048_S32x1024x2048) bitsLt_bf16_f32 : FVec Ideal S32x1024x2048 .f32) (expertCol be) (ix3 b k j)
      = wgu (ix4 0 (Cert.Moe.named (be (ix1 b))) k j) := by
  refine (Cert.Moe.mat_at _ _ (expertCol be) b k j).trans ?_
  rw [expertCol_at be b h]
  pointwise

theorem bgu_at (be : IVec S292 32) (bgu : FVec Ideal S2x32x1x2048 .f32) (b : Fin 292) (j : Fin 2048)
    (h : (be (ix1 b)).toNat < 32) :
    Host.gather gather_S32x2048_S292x1_S292x2048_1_0_n_n_0_1_12048 (shapeCast S32x2048 (extractStridedSlice S1x32x1x2048 ![0, 0, 0, 0] bgu slices_S2x32x1x2048_S1x32x1x2048_0_0_0_0) shapeCasts_S1x32x1x2048_S32x2048) (expertCol be) (ix2 b j)
      = bgu (ix4 0 (Cert.Moe.named (be (ix1 b))) 0 j) := by
  refine (Cert.Moe.row_at _ _ (expertCol be) b j).trans ?_
  rw [expertCol_at be b h]
  pointwise

theorem wdn_at (be : IVec S292 32) (wdn : FVec Ideal S2x32x1024x1024 .bf16) (b : Fin 292) (k : Fin 1024) (j : Fin 1024)
    (h : (be (ix1 b)).toNat < 32) :
    Host.gather gather_S32x1024x1024_S292x1_S292x1024x1024_12_0_n_n_0_1_110241024 (extf .f32 (shapeCast S32x1024x1024 (extractStridedSlice S1x32x1024x1024 ![0, 0, 0, 0] wdn slices_S2x32x1024x1024_S1x32x1024x1024_0_0_0_0) shapeCasts_S1x32x1024x1024_S32x1024x1024) bitsLt_bf16_f32 : FVec Ideal S32x1024x1024 .f32) (expertCol be) (ix3 b k j)
      = wdn (ix4 0 (Cert.Moe.named (be (ix1 b))) k j) := by
  refine (Cert.Moe.mat_at _ _ (expertCol be) b k j).trans ?_
  rw [expertCol_at be b h]
  pointwise

theorem bdn_at (be : IVec S292 32) (bdn : FVec Ideal S2x32x1x1024 .f32) (b : Fin 292) (j : Fin 1024)
    (h : (be (ix1 b)).toNat < 32) :
    Host.gather gather_S32x1024_S292x1_S292x1024_1_0_n_n_0_1_11024 (shapeCast S32x1024 (extractStridedSlice S1x32x1x1024 ![0, 0, 0, 0] bdn slices_S2x32x1x1024_S1x32x1x1024_0_0_0_0) shapeCasts_S1x32x1x1024_S32x1024) (expertCol be) (ix2 b j)
      = bdn (ix4 0 (Cert.Moe.named (be (ix1 b))) 0 j) := by
  refine (Cert.Moe.row_at _ _ (expertCol be) b j).trans ?_
  rw [expertCol_at be b h]
  pointwise

theorem projected_at (xs : FVec Ideal S74752x1024 .f32) (be : IVec S292 32) (wgu : FVec Ideal S2x32x1024x2048 .bf16)
    (bgu : FVec Ideal S2x32x1x2048 .f32) (b : Fin 292) (i : Fin 256) (j : Fin 2048) (h : (be (ix1 b)).toNat < 32) :
    projected xs be wgu bgu (ix3 b i j) = Cert.Moe.gateUp (fun k => xs (ix2 ⟨b.val * 256 + i.val, by omega⟩ k))
      (fun k j => wgu (ix4 0 (Cert.Moe.named (be (ix1 b))) k j)) (fun j => bgu (ix4 0 (Cert.Moe.named (be (ix1 b))) 0 j)) j := by
  unfold projected Cert.Moe.gateUp
  pointwise
  rw [bgu_at be bgu b j h]
  congr 1
  refine Finset.sum_congr rfl fun k _ => ?_
  rw [wgu_at be wgu b k j h]

theorem answered_at (a : FVec Ideal S292x256x1024 .f32) (be : IVec S292 32) (wdn : FVec Ideal S2x32x1024x1024 .bf16)
    (bdn : FVec Ideal S2x32x1x1024 .f32) (b : Fin 292) (i : Fin 256) (d : Fin 1024) (h : (be (ix1 b)).toNat < 32) :
    answered a be wdn bdn (ix3 b i d) = (∑ j, (a (ix3 b i j) : EReal) * wdn (ix4 0 (Cert.Moe.named (be (ix1 b))) j d))
      + bdn (ix4 0 (Cert.Moe.named (be (ix1 b))) 0 d) := by
  unfold answered
  pointwise
  rw [bdn_at be bdn b d h]
  congr 1
  refine Finset.sum_congr rfl fun k _ => ?_
  rw [wdn_at be wdn b k d h]

/-- The whole result: every entry is the layer's. -/
theorem rows_at (xs : FVec Ideal S74752x1024 .f32) (be : IVec S292 32) (nv : IVec S1 32) (wgu : FVec Ideal S2x32x1024x2048 .bf16)
    (bgu : FVec Ideal S2x32x1x2048 .f32) (wdn : FVec Ideal S2x32x1024x1024 .bf16) (bdn : FVec Ideal S2x32x1x1024 .f32)
    (h : ∀ b, (be (ix1 b)).toNat < 32) (r : Fin 74752) (d : Fin 1024) :
    rows xs be nv wgu bgu wdn bdn (ix2 r d) = Cert.Moe.entry 0 xs be nv wgu bgu wdn bdn r d := by
  have e0 : (Ideal.ofBits .f32 0x00000000#32 : EReal) = 0 := by pointwise
  unfold rows
  pointwise
  unfold Scalar.select Cert.Moe.entry
  refine if_congr Iff.rfl ?_ e0
  rw [answered_at _ _ _ _ _ _ _ (h _)]
  unfold Cert.Moe.expert
  refine congrArg₂ (· + ·) (Finset.sum_congr rfl fun j _ => ?_) rfl
  rw [activated_at, projected_at _ _ _ _ _ _ _ (h _), projected_at _ _ _ _ _ _ _ (h _)]
  have er : (⟨r.val / 256 * 256 + r.val % 256, by omega⟩ : Fin 74752) = r := Fin.ext (Nat.div_add_mod' r.val 256)
  simp only [er]
  rfl

end Cert.ExpertsReferenceIdeal.Moe
-- ==== Proof.Moe.Claims.lean ====
/-
  The claims of one layer's experts: the frames of the call, of its ideal reading and of the reference, and the equation
  of the two results.
-/
module

public import proofs.«01_k».proof.Defs
public import proofs.«01_k».proof.Proof.Moe.TablesBits
public import proofs.«01_k».proof.Proof.Moe.FinalIdeal
public import proofs.«01_k».proof.Proof.Moe.RefOut
public import proofs.«01_k».proof.Proof.Gen.Pre_experts_in_range
public import Idealize.ShloMosaic.Adequacy
public import Idealize.ShloMosaic.Init

@[expose] public section

noncomputable section

namespace Cert.ExpertsClaims

open Idealize.ShloMosaic Idealize.ShloMosaic.TcCoe Idealize.SL.Sem

/-- The precondition keeps the table's experts in range. -/
theorem range_bits (m : (ℓ : Loc Cert.Experts.nD Cert.Experts.τ Cert.Experts.sig) → Buf (Elt Bits) ℓ) (h : Cert.Pre_Experts m) :
    Cert.Experts.Moe.InRange (Cert.Experts.Moe.tablesOf m 0) :=
  fun x => Cert.Moe.in_range _ _ _ _ _ _ _ (h 0) x

theorem range_ideal (m : (ℓ : Loc Cert.ExpertsIdeal.nD Cert.ExpertsIdeal.τ Cert.ExpertsIdeal.sig) → Buf (Elt Ideal) ℓ) (h : Cert.Pre_ExpertsIdeal m) :
    Cert.ExpertsIdeal.Moe.InRange (Cert.ExpertsIdeal.Moe.tablesOf m 0) :=
  fun x => Cert.Moe.in_range _ _ _ _ _ _ _ (h 0) x

/-- The call's frame. -/
theorem frame_kernel : Cert.quiescent_Experts := fun m ρ hp =>
  (θ_run Cert.Experts.defs _ _).mono (fun _ h => ⟨fun c => (h.1 c).2, h.2⟩)
    (Cert.Experts.Moe.run_result _ m ρ (Cert.Experts.Moe.holds m (range_bits m hp)))

/-- The ideal call's frame. -/
theorem frame_ideal : Cert.quiescent_ExpertsIdeal := fun m ρ hp =>
  (θ_run Cert.ExpertsIdeal.defs _ _).mono (fun _ h => ⟨fun c => (h.1 c).2, h.2⟩)
    (Cert.ExpertsIdeal.Moe.run_result _ m ρ (Cert.ExpertsIdeal.Moe.holds m (range_ideal m hp)))

/-- The reference's frame. -/
theorem frame_reference : Cert.quiescent_ExpertsReferenceIdeal := fun m ρ _ =>
  (θ_run Cert.ExpertsReferenceIdeal.defs _ _).mono (fun r h => ⟨fun c => (h c).2, sem_eq_zero_of_no_sems (by decide) r.2⟩)
    (Cert.ExpertsReferenceIdeal.Value.run m ρ)

/-- The reference's frame at tables in range. -/
theorem frame_reference_in_range : Cert.quiescent_ExpertsReferenceIdeal_pre_experts_in_range := fun m ρ _ =>
  (θ_run Cert.ExpertsReferenceIdeal.defs _ _).mono (fun r h => ⟨fun c => (h c).2, sem_eq_zero_of_no_sems (by decide) r.2⟩)
    (Cert.ExpertsReferenceIdeal.Value.run m ρ)

/-- The call's result is the reference's. -/
theorem results_agree : Cert.algebraic_ExpertsIdeal_ExpertsReferenceIdeal := by
  intro m ρ m' ρ' hp hargs
  have hr := range_ideal m hp
  refine ⟨fun c => Cert.ExpertsIdeal.Moe.result m c, ?_, ?_⟩
  · exact (θ_run Cert.ExpertsIdeal.defs _ _).mono (fun _ h c => ⟨(h.1 c).1.trans (Cert.ExpertsIdeal.Moe.final m ρ hr c), (h.1 c).2⟩)
      (Cert.ExpertsIdeal.Moe.run_result _ m ρ (Cert.ExpertsIdeal.Moe.holds m hr))
  · refine (θ_run Cert.ExpertsReferenceIdeal.defs _ _).mono (fun _ h c => ⟨(h c).1.trans ?_, (h c).2⟩) (Cert.ExpertsReferenceIdeal.Value.run m' ρ')
    obtain ⟨e0, e1, e2, e3, e4, e5, e6⟩ := hargs c
    rw [Cert.ExpertsReferenceIdeal.Moe.res_eq, e0, e1, e2, e3, e4, e5, e6]
    funext i
    obtain ⟨r, d, rfl⟩ : ∃ (r : Fin 74752) (d : Fin 1024), i = ix2 r d := ⟨i 0, i 1, funext fun a => match a with | ⟨0, _⟩ => rfl | ⟨1, _⟩ => rfl⟩
    exact Cert.ExpertsReferenceIdeal.Moe.rows_at _ _ _ _ _ _ _ (fun b => Cert.Moe.in_range _ _ _ _ _ _ _ (hp c) (ix1 b)) r d

end Cert.ExpertsClaims

end
-- ==== Proof.Moe.BodyNextIdeal.lean ====
/-
  What one step of the experts' call leaves in its output block. A block in use holds the clamped SwiGLU of its rows
  through the block's expert; a block past the last one in use holds zeros. The step reads the number of blocks in use
  from the second table.
-/
module

public import proofs.«01_k».proof.Proof.Gen.ExpertsNextIdeal.Launch
public import proofs.«01_k».proof.Proof.Gen.ExpertsNextIdeal.Skeleton
public import Idealize.ShloMosaic.Lib.Pipeline.FrameBody
public import Idealize.ShloMosaic.Lib.VecWindow
public import Idealize.ShloMosaic.Lib.Ring
public import Idealize.ShloMosaic.Lib.Exec
public import Idealize.ShloMosaic.Lib.Tactic

@[expose] public section

set_option maxRecDepth 16384
set_option Elab.async false

noncomputable section

namespace Cert.ExpertsNextIdeal.Moe

open Cert.ExpertsNextIdeal Cert.ExpertsNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The table naming each block's expert, as the body is handed it. -/
abbrev expertTab : Memref sig .tc .smem S292 .i32 := Memref.whole main_arg1
/-- The table holding the number of blocks in use, as the body is handed it. -/
abbrev usedTab : Memref sig .tc .smem S1 .i32 := Memref.whole main_arg2

/-- The number of blocks in use, as the body reads it off its table. -/
abbrev usedWord (T : S1.Idx → Elt F .i32) : BitVec 32 :=
  View.readAt (Elt F) usedTab.view (Rect.unit (s := S1) ![0] S1.size inb_S1_S1_0).toLoadRect T (Shape.Idx.first (numel1_S1.symm ▸ Nat.one_pos))

/-- What the body holds while it runs: the five input blocks, its halves of the two tables, the output block. -/
abbrev held (c : Dev nD) (a3 : Memref sig .tc .vmem S256x1024 .f32) (a4 : Memref sig .tc .vmem S1x1x1024x2048 .bf16)
    (a5 : Memref sig .tc .vmem S1x1x1x2048 .f32) (a6 : Memref sig .tc .vmem S1x1x1024x1024 .bf16) (a7 : Memref sig .tc .vmem S1x1x1x1024 .f32)
    (T0 : S292.Idx → Elt F .i32) (T1 : S1.Idx → Elt F .i32) (x0 : S256x1024.Idx → Elt F .f32) (x1 : S1x1x1024x2048.Idx → Elt F .bf16)
    (x2 : S1x1x1x2048.Idx → Elt F .f32) (x3 : S1x1x1024x1024.Idx → Elt F .bf16) (x4 : S1x1x1x1024.Idx → Elt F .f32) (R : sProp 𝕄) : sProp 𝕄 :=
  iprop((a3.view.loc (c : Thread nD τ) ↦[a3.view.set]{fullShare} a3.view.rep x0)
    ∗ (a4.view.loc (c : Thread nD τ) ↦[a4.view.set]{fullShare} a4.view.rep x1)
    ∗ (a5.view.loc (c : Thread nD τ) ↦[a5.view.set]{fullShare} a5.view.rep x2)
    ∗ (a6.view.loc (c : Thread nD τ) ↦[a6.view.set]{fullShare} a6.view.rep x3)
    ∗ (a7.view.loc (c : Thread nD τ) ↦[a7.view.set]{fullShare} a7.view.rep x4)
    ∗ (expertTab.view.loc (c : Thread nD τ) ↦{fullShare.right} T0)
    ∗ (usedTab.view.loc (c : Thread nD τ) ↦{fullShare.right} T1)
    ∗ R)

set_option maxHeartbeats 4000000 in
/-- A step whose block is in use leaves the expert's result for the block's rows. -/
theorem run_used (c : Dev nD) (i : grid0.Coords) (a3 : Memref sig .tc .vmem S256x1024 .f32) (h3 : a3.IsWhole)
    (a4 : Memref sig .tc .vmem S1x1x1024x2048 .bf16) (h4 : a4.IsWhole) (a5 : Memref sig .tc .vmem S1x1x1x2048 .f32) (h5 : a5.IsWhole)
    (a6 : Memref sig .tc .vmem S1x1x1024x1024 .bf16) (h6 : a6.IsWhole) (a7 : Memref sig .tc .vmem S1x1x1x1024 .f32) (h7 : a7.IsWhole)
    (a8 : Memref sig .tc .vmem S256x1024 .f32) (h8 : a8.IsWhole)
    (T0 : S292.Idx → Elt F .i32) (T1 : S1.Idx → Elt F .i32) (x0 : S256x1024.Idx → Elt F .f32) (x1 : S1x1x1024x2048.Idx → Elt F .bf16)
    (x2 : S1x1x1x2048.Idx → Elt F .f32) (x3 : S1x1x1024x1024.Idx → Elt F .bf16) (x4 : S1x1x1x1024.Idx → Elt F .f32)
    (g1 : k0_cond1 i (usedWord T1) = 1#1) (g2 : ¬ k0_cond2 i (usedWord T1) = 1#1) (K : PUnit → sProp 𝕄) :
    held c a3 a4 a5 a6 a7 T0 T1 x0 x1 x2 x3 x4 iprop((∃ d, owns (c : Thread nD τ) a8 fullShare d)
        ∗ (held c a3 a4 a5 a6 a7 T0 T1 x0 x1 x2 x3 x4 (owns (c : Thread nD τ) a8 fullShare (k0_pay2 x0 x1 x2 x3 x4)) -∗ K ⟨⟩))
      ⊢ wp frame (wpE (defs₀ (F := F)) Variants.none c none) Set.univ
          (cc0_moe_expert_blocks i expertTab (Memref.isWhole_whole _) usedTab (Memref.isWhole_whole _) a3 h3 a4 h4 a5 h5 a6 h6 a7 h7 a8 h8) K := by
  unfold owns
  rw [cc0_moe_expert_blocks_eq_skeleton]; unfold cc0_moe_expert_blocks_skel
  iintro ⟨H0, H1, H2, H3, H4, HT0, HT1, ⟨%d5, %f5, -, HO5⟩, Hk⟩
  have hT0 : expertTab.IsWhole := Memref.isWhole_whole _
  have hT1 : usedTab.IsWhole := Memref.isWhole_whole _
  sl_exec! (disch := first | (guard_target = k0_cond1 _ _ = _; exact g1) | (guard_target = ¬(k0_cond2 _ _ = _); exact g2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _; isplitr; swap
  · iexact HO5
  · ipureintro
    refine (View.read_writes_full _ _ _ _ _).trans ?_
    delta run_used.sl.r_1
    exact congr (congr (congr (congr (congrArg k0_pay2 (View.readAt_rep_full a3.view x0 _)) (View.readAt_rep_full a4.view x1 _))
      (View.readAt_rep_full a5.view x2 _)) (View.readAt_rep_full a6.view x3 _)) (View.readAt_rep_full a7.view x4 _)

set_option maxHeartbeats 4000000 in
/-- A step whose block is past the last one in use leaves zeros. -/
theorem run_unused (c : Dev nD) (i : grid0.Coords) (a3 : Memref sig .tc .vmem S256x1024 .f32) (h3 : a3.IsWhole)
    (a4 : Memref sig .tc .vmem S1x1x1024x2048 .bf16) (h4 : a4.IsWhole) (a5 : Memref sig .tc .vmem S1x1x1x2048 .f32) (h5 : a5.IsWhole)
    (a6 : Memref sig .tc .vmem S1x1x1024x1024 .bf16) (h6 : a6.IsWhole) (a7 : Memref sig .tc .vmem S1x1x1x1024 .f32) (h7 : a7.IsWhole)
    (a8 : Memref sig .tc .vmem S256x1024 .f32) (h8 : a8.IsWhole)
    (T0 : S292.Idx → Elt F .i32) (T1 : S1.Idx → Elt F .i32) (x0 : S256x1024.Idx → Elt F .f32) (x1 : S1x1x1024x2048.Idx → Elt F .bf16)
    (x2 : S1x1x1x2048.Idx → Elt F .f32) (x3 : S1x1x1024x1024.Idx → Elt F .bf16) (x4 : S1x1x1x1024.Idx → Elt F .f32)
    (g1 : ¬ k0_cond1 i (usedWord T1) = 1#1) (g2 : k0_cond2 i (usedWord T1) = 1#1) (K : PUnit → sProp 𝕄) :
    held c a3 a4 a5 a6 a7 T0 T1 x0 x1 x2 x3 x4 iprop((∃ d, owns (c : Thread nD τ) a8 fullShare d)
        ∗ (held c a3 a4 a5 a6 a7 T0 T1 x0 x1 x2 x3 x4 (owns (c : Thread nD τ) a8 fullShare (k0_pay1 (F := F))) -∗ K ⟨⟩))
      ⊢ wp frame (wpE (defs₀ (F := F)) Variants.none c none) Set.univ
          (cc0_moe_expert_blocks i expertTab (Memref.isWhole_whole _) usedTab (Memref.isWhole_whole _) a3 h3 a4 h4 a5 h5 a6 h6 a7 h7 a8 h8) K := by
  unfold owns
  rw [cc0_moe_expert_blocks_eq_skeleton]; unfold cc0_moe_expert_blocks_skel
  iintro ⟨H0, H1, H2, H3, H4, HT0, HT1, ⟨%d5, %f5, -, HO5⟩, Hk⟩
  have hT0 : expertTab.IsWhole := Memref.isWhole_whole _
  have hT1 : usedTab.IsWhole := Memref.isWhole_whole _
  sl_exec! (disch := first | (guard_target = ¬(k0_cond1 _ _ = _); exact g1) | (guard_target = k0_cond2 _ _ = _; exact g2))
  sl_step
  iapply Hk
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  iexists _; isplitr; swap
  · iexact HO5
  · ipureintro
    exact View.read_writes_full _ _ _ _ _

end Cert.ExpertsNextIdeal.Moe

end
-- ==== Proof.Moe.FrameNextIdeal.lean ====
/-
  The experts' call run on its grid, at any contents of its two tables that keep every block inside its array. Each
  step's output block is what `Body` says of it; the call ends with its arguments unchanged and its result at what
  the pipeline computes from those blocks.
-/
module

public import proofs.«01_k».proof.Proof.Moe.BodyNextIdeal
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Writes
public import Idealize.ShloMosaic.Lib.Affine
public import Idealize.ShloMosaic.Adequacy
public import Idealize.ShloMosaic.Init

@[expose] public section

set_option maxRecDepth 16384
set_option Elab.async false

noncomputable section

namespace Cert.ExpertsNextIdeal.Moe

open Cert.ExpertsNextIdeal Cert.ExpertsNextIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds' resources, embedded. -/
abbrev EP : Emb (UR sig nD τ) (MT nD τ sig Unit (Elt F) ℕ (UR sig nD τ) ℕ) := emb₁

variable (a : (pcfg0 (F := F)).Adm)
variable (m : (ℓ : Loc nD τ sig) → Buf (Elt F) ℓ) (ρ : Dev nD → PrngReg)

/-- The pipeline at the tables' contents. -/
abbrev cfgA : Pipeline.Cfg sig Λ₀ := cfg0 a
abbrev pcs : Fin 1 → Pipeline.Cfg sig Λ₀ := Pipeline.pin (pcfgs (F := F)) fun _ => a

/-- A step's coordinates. -/
abbrev crd (t : Fin (cfgA a).N) : grid0.Coords := (cfgA a).grid.coords t

/-- The two tables' contents, at their own types. -/
abbrev tab0 : S292.Idx → Elt F .i32 := a.1 0
abbrev tab1 : S1.Idx → Elt F .i32 := a.1 1

/-- The memory holds the tables. -/
def Holds : Prop :=
  (∀ c : Dev nD, m ((c : Thread nD τ).loc main_arg1) = tab0 a) ∧ (∀ c : Dev nD, m ((c : Thread nD τ).loc main_arg2) = tab1 a)

/-! ## The staging buffers of a step and the blocks its windows read -/

abbrev st0 (t : Fin (cfgA a).N) : Memref sig .tc .vmem S256x1024 .f32 := spec0_0.stage ((cfgA a).slots t (0 : Fin 6))
abbrev hst0 (t : Fin (cfgA a).N) : (st0 a t).IsWhole := hstage0_0 (((cfgA a).slots t (0 : Fin 6)).cast nbuf0_0)
abbrev st1 (t : Fin (cfgA a).N) : Memref sig .tc .vmem S1x1x1024x2048 .bf16 := spec0_1.stage ((cfgA a).slots t (1 : Fin 6))
abbrev hst1 (t : Fin (cfgA a).N) : (st1 a t).IsWhole := hstage0_1 (((cfgA a).slots t (1 : Fin 6)).cast nbuf0_1)
abbrev st2 (t : Fin (cfgA a).N) : Memref sig .tc .vmem S1x1x1x2048 .f32 := spec0_2.stage ((cfgA a).slots t (2 : Fin 6))
abbrev hst2 (t : Fin (cfgA a).N) : (st2 a t).IsWhole := hstage0_2 (((cfgA a).slots t (2 : Fin 6)).cast nbuf0_2)
abbrev st3 (t : Fin (cfgA a).N) : Memref sig .tc .vmem S1x1x1024x1024 .bf16 := spec0_3.stage ((cfgA a).slots t (3 : Fin 6))
abbrev hst3 (t : Fin (cfgA a).N) : (st3 a t).IsWhole := hstage0_3 (((cfgA a).slots t (3 : Fin 6)).cast nbuf0_3)
abbrev st4 (t : Fin (cfgA a).N) : Memref sig .tc .vmem S1x1x1x1024 .f32 := spec0_4.stage ((cfgA a).slots t (4 : Fin 6))
abbrev hst4 (t : Fin (cfgA a).N) : (st4 a t).IsWhole := hstage0_4 (((cfgA a).slots t (4 : Fin 6)).cast nbuf0_4)
abbrev st5 (t : Fin (cfgA a).N) : Memref sig .tc .vmem S256x1024 .f32 := spec0_5.stage ((cfgA a).slots t (5 : Fin 6))
abbrev hst5 (t : Fin (cfgA a).N) : (st5 a t).IsWhole := hstage0_5 (((cfgA a).slots t (5 : Fin 6)).cast nbuf0_5)

/-- A window's block at a step, read off its array as launched. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

/-- What a step leaves in its output block. -/
def left (c : Dev nD) (t : Fin (cfgA a).N) : S256x1024.Idx → Elt F .f32 :=
  if k0_cond1 (crd a t) (usedWord (F := F) (tab1 a)) = 1#1 then
    k0_pay2 (iblk a m ρ c (0 : Fin 6) t : S256x1024.Idx → Elt F .f32) (iblk a m ρ c (1 : Fin 6) t : S1x1x1024x2048.Idx → Elt F .bf16)
      (iblk a m ρ c (2 : Fin 6) t : S1x1x1x2048.Idx → Elt F .f32) (iblk a m ρ c (3 : Fin 6) t : S1x1x1024x1024.Idx → Elt F .bf16)
      (iblk a m ρ c (4 : Fin 6) t : S1x1x1x1024.Idx → Elt F .f32)
  else k0_pay1

/-- What is invariant over the steps: the body's halves of the tables. -/
def Inv (c : Dev nD) : sProp 𝕄 :=
  iprop((expertTab.view.loc (c : Thread nD τ) ↦{fullShare.right} tab0 a) ∗ (usedTab.view.loc (c : Thread nD τ) ↦{fullShare.right} tab1 a))

/-- The pipeline's proof data on a core. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 6) t
    | ⟨1, _⟩ => iblk a m ρ c (1 : Fin 6) t
    | ⟨2, _⟩ => iblk a m ρ c (2 : Fin 6) t
    | ⟨3, _⟩ => iblk a m ρ c (3 : Fin 6) t
    | ⟨4, _⟩ => iblk a m ρ c (4 : Fin 6) t
    | ⟨5, _⟩ => left a m ρ c t
  Φ _ := Inv a c
  q _ := fullShare
  owed _ := 0

theorem after_0 (c : Dev nD) (t : Fin (cfgA a).N) : (dats a m ρ 0 c).after (0 : Fin 6) t = iblk a m ρ c (0 : Fin 6) t := rfl
theorem after_1 (c : Dev nD) (t : Fin (cfgA a).N) : (dats a m ρ 0 c).after (1 : Fin 6) t = iblk a m ρ c (1 : Fin 6) t := rfl
theorem after_2 (c : Dev nD) (t : Fin (cfgA a).N) : (dats a m ρ 0 c).after (2 : Fin 6) t = iblk a m ρ c (2 : Fin 6) t := rfl
theorem after_3 (c : Dev nD) (t : Fin (cfgA a).N) : (dats a m ρ 0 c).after (3 : Fin 6) t = iblk a m ρ c (3 : Fin 6) t := rfl
theorem after_4 (c : Dev nD) (t : Fin (cfgA a).N) : (dats a m ρ 0 c).after (4 : Fin 6) t = iblk a m ρ c (4 : Fin 6) t := rfl
theorem after_5 (c : Dev nD) (t : Fin (cfgA a).N) : (dats a m ρ 0 c).after (5 : Fin 6) t = left a m ρ c t := rfl

/-- An input's buffer holds its block when the body runs. -/
theorem before_0 (c : Dev nD) (t : Fin (cfgA a).N) (d) : (dats a m ρ 0 c).before (0 : Fin 6) t d = iblk a m ρ c (0 : Fin 6) t :=
  ((dats a m ρ 0 c).before_in_eq_fetched (0 : Fin 6) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 6) t d = iblk a m ρ c (1 : Fin 6) t :=
  ((dats a m ρ 0 c).before_in_eq_fetched (1 : Fin 6) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 6) t d = iblk a m ρ c (2 : Fin 6) t :=
  ((dats a m ρ 0 c).before_in_eq_fetched (2 : Fin 6) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m ρ 0 c).before (3 : Fin 6) t d = iblk a m ρ c (3 : Fin 6) t :=
  ((dats a m ρ 0 c).before_in_eq_fetched (3 : Fin 6) rfl (fun _ => rfl) (fun _ _ _ => rfl) (fun t => by rw [after_3]; unfold Dat.blockOf iblk; rfl) t d).trans
    (by unfold Dat.fetched Dat.blockOf iblk; rfl)
theorem before_4 (c : Dev nD) (t : Fin (cfgA a).N) (d) : (dats a m ρ 0 c).before (4 : Fin 6) t d = iblk a m ρ c (4 : Fin 6) t :=
  ((dats a m ρ 0 c).before_in_eq_fetched (4 : Fin 6) rfl (fun _ => rfl) (fun _ _ _ => rfl) (fun t => by rw [after_4]; unfold Dat.blockOf iblk; rfl) t d).trans
    (by unfold Dat.fetched Dat.blockOf iblk; rfl)

/-! ## The two tests of a step exclude one another, and one of them holds -/

/-- The second test is the first one's negation. -/
theorem cond2_iff (i : grid0.Coords) (w : BitVec 32) : k0_cond2 i w = 1#1 ↔ ¬ k0_cond1 i w = 1#1 := by
  unfold k0_cond1 k0_cond2
  dsimp only [Scalar.cmpi, Scalar.extui, IntOp.cmpi]
  generalize BitVec.ofNat 32 (i 0).val = x
  rw [BitVec.sle_eq_decide, BitVec.slt_eq_decide]
  by_cases h : x.toInt < w.toInt
  · simp [h, not_le.2 h]
  · simp [h, not_lt.1 h]

/-- The output's buffer is stored at every step. -/
theorem busy (i : grid0.Coords) : idle0 (F := F) a.1 (5 : Fin 6) i = false := by
  show (!(k0_cond1 i (a.1.atD 1 ![0]) == 1#1) && !(k0_cond2 i (a.1.atD 1 ![0]) == 1#1)) = false
  by_cases h : k0_cond1 i (a.1.atD 1 ![0]) = 1#1
  · simp [h]
  · simp [(cond2_iff i _).2 h]

/-! ## The body at a step -/

/-- The body at a step, on its staging buffers. -/
abbrev bodyAt (t : Fin (cfgA a).N) : Prog (TpuEff nD τ sig (Elt F) Λ₀ .tc) PUnit :=
  cc0_moe_expert_blocks (crd a t) expertTab (Memref.isWhole_whole _) usedTab (Memref.isWhole_whole _) (st0 a t) (hst0 a t) (st1 a t) (hst1 a t)
    (st2 a t) (hst2 a t) (st3 a t) (hst3 a t) (st4 a t) (hst4 a t) (st5 a t) (hst5 a t)

/-- A step from its buffers to its buffers. -/
theorem run_step (c : Dev nD) (t : Fin (cfgA a).N) (K : PUnit → sProp 𝕄) :
    held c (st0 a t) (st1 a t) (st2 a t) (st3 a t) (st4 a t) (tab0 a) (tab1 a) (iblk a m ρ c (0 : Fin 6) t) (iblk a m ρ c (1 : Fin 6) t)
        (iblk a m ρ c (2 : Fin 6) t) (iblk a m ρ c (3 : Fin 6) t) (iblk a m ρ c (4 : Fin 6) t)
        iprop((∃ d, owns (c : Thread nD τ) (st5 a t) fullShare d)
        ∗ (held c (st0 a t) (st1 a t) (st2 a t) (st3 a t) (st4 a t) (tab0 a) (tab1 a) (iblk a m ρ c (0 : Fin 6) t) (iblk a m ρ c (1 : Fin 6) t)
            (iblk a m ρ c (2 : Fin 6) t) (iblk a m ρ c (3 : Fin 6) t) (iblk a m ρ c (4 : Fin 6) t)
            (owns (c : Thread nD τ) (st5 a t) fullShare (left a m ρ c t)) -∗ K ⟨⟩))
      ⊢ wp frame (wpE (defs₀ (F := F)) Variants.none c none) Set.univ (bodyAt a t) K := by
  by_cases h : k0_cond1 (crd a t) (usedWord (F := F) (tab1 a)) = 1#1
  · rw [show left a m ρ c t = _ from if_pos h]
    exact run_used c (crd a t) _ _ _ _ _ _ _ _ _ _ _ _ _ _ _ _ _ _ _ h (fun h' => (cond2_iff _ _).1 h' h) K
  · rw [show left a m ρ c t = _ from if_neg h]
    exact run_unused c (crd a t) _ _ _ _ _ _ _ _ _ _ _ _ _ _ _ _ _ _ _ h ((cond2_iff _ _).2 h) K

set_option maxHeartbeats 4000000 in
/-- The body meets the pipeline's demand at every step. -/
theorem sound_body (c : Dev nD) (t : Fin (cfgA a).N) :
    iprop((dats a m ρ 0 c).Φ t.castSucc ∗ (dats a m ρ 0 c).owesAt () t.castSucc
        ∗ (∃ d, owns (c : Thread nD τ) (st0 a t) fullShare ((dats a m ρ 0 c).before (0 : Fin 6) t d))
        ∗ (∃ d, owns (c : Thread nD τ) (st1 a t) fullShare ((dats a m ρ 0 c).before (1 : Fin 6) t d))
        ∗ (∃ d, owns (c : Thread nD τ) (st2 a t) fullShare ((dats a m ρ 0 c).before (2 : Fin 6) t d))
        ∗ (∃ d, owns (c : Thread nD τ) (st3 a t) fullShare ((dats a m ρ 0 c).before (3 : Fin 6) t d))
        ∗ (∃ d, owns (c : Thread nD τ) (st4 a t) fullShare ((dats a m ρ 0 c).before (4 : Fin 6) t d))
        ∗ (∃ d, owns (c : Thread nD τ) (st5 a t) fullShare ((dats a m ρ 0 c).before (5 : Fin 6) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  rewrite [show (cfgA a).idle (5 : Fin 6) ((cfgA a).grid.coords t) = false from busy a _]
  simp only [before_0, before_1, before_2, before_3, before_4, after_0, after_1, after_2, after_3, after_4, after_5]
  rewrite [show (dats a m ρ 0 c).Φ t.succ = Inv a c from rfl, show (dats a m ρ 0 c).Φ t.castSucc = Inv a c from rfl,
    show (dats a m ρ 0 c).owesAt () t.succ = (dats a m ρ 0 c).owesAt () t.castSucc from rfl]
  unfold Inv
  iintro ⟨⟨HT0, HT1⟩, Ho, ⟨%d0, H0⟩, ⟨%d1, H1⟩, ⟨%d2, H2⟩, ⟨%d3, H3⟩, ⟨%d4, H4⟩, ⟨%d5, H5⟩⟩
  iapply (run_step a m ρ c t _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  iintro ⟨H0, H1, H2, H3, H4, HT0, HT1, H5⟩
  isplitl [HT0 HT1]
  · isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

theorem body_obligation (c : Dev nD) : BodyObligation (dats a m ρ 0 c) (defs₀ (F := F)) Variants.none () Set.univ := fun t => by
  rw [bigSep_W0]
  exact sound_body a m ρ c t

/-! ## The launch -/

/-- The rounds' launch element. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem inv_intro (c : Dev nD) :
    iprop(BI.emp ∗ Pipeline.prefHeld pre0 c (fun _ => fullShare.right) a.1 ∗ Pipeline.scopedRest spec0 c) ⊢ (dats a m ρ 0 c).Φ 0 := by
  rw [tables_eq, scopedRest0_eq, show (dats a m ρ 0 c).Φ 0 = Inv a c from rfl]
  unfold Inv
  iintro ⟨-, ⟨HT0, HT1⟩, -⟩
  isplitl [HT0]
  · iexact HT0
  iexact HT1

theorem inv_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Inv a c from rfl]
  unfold Inv
  iintro ⟨-, -⟩
  isplitr; · iempintro
  iempintro

/-- Every array ends at what the pipeline computes, every table at what it was. -/
def Post : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

theorem tables_held (hp : Holds a m) (c : Dev nD) (j : Fin 2) : m ((c : Thread nD τ).loc (pre0.ref j)) = a.1 j := by
  fin_cases j
  · exact hp.1 c
  · exact hp.2 c

set_option backward.isDefEq.respectTransparency.types false in
set_option maxHeartbeats 4000000 in
/-- The call, from any memory that holds the tables: it ends, at `Post`, its semaphores at zero. -/
theorem run_main (hp : Holds a m) : θ_run (defs (F := F)) (onTc (τ := τ) (main (F := F))) (s₀ m ρ) (fun r => Post a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := tables_held a m hp)
    (X := fun _ => iprop(emp)) (Y := fun _ => iprop(emp)) (Z := fun _ => iprop(emp))
    (hX := fun c => by rw [unscopedRestP0_eq]; iintro -; isplitr <;> iempintro)
    (hin := inv_intro a m ρ)
    (hout := inv_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The call with its result named: the arguments unchanged, the result at what the pipeline wrote. -/
theorem run_result (hp : Holds a m) :
    θ_run (defs (F := F)) (onTc (τ := τ) (main (F := F))) ⟨m, fun _ => 0, ρ⟩ (fun r => (∀ c : Dev nD,
      r.2.mem ((c.tc : Thread nD τ).loc main_v0) = (dats a m ρ 0 c).arrAt (5 : Fin 6) (cfgA a).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨(h.1 c).1 (5 : Fin 6),
    ((h.1 c).1 (0 : Fin 6)).trans ((dats a m ρ 0 c).arrAt_in (0 : Fin 6) rfl _),
    ((h.1 c).2 0).trans (hp.1 c).symm, ((h.1 c).2 1).trans (hp.2 c).symm,
    ((h.1 c).1 (1 : Fin 6)).trans ((dats a m ρ 0 c).arrAt_in (1 : Fin 6) rfl _),
    ((h.1 c).1 (2 : Fin 6)).trans ((dats a m ρ 0 c).arrAt_in (2 : Fin 6) rfl _),
    ((h.1 c).1 (3 : Fin 6)).trans ((dats a m ρ 0 c).arrAt_in (3 : Fin 6) rfl _),
    ((h.1 c).1 (4 : Fin 6)).trans ((dats a m ρ 0 c).arrAt_in (4 : Fin 6) rfl _)⟩, h.2⟩) (run_main a m ρ hp)

end Cert.ExpertsNextIdeal.Moe

end
-- ==== Proof.Moe.TablesNextIdeal.lean ====
/-
  Tables whose experts are in range keep every block inside its array, so the call runs at the tables the memory holds.
-/
module

public import proofs.«01_k».proof.Proof.Moe.FrameNextIdeal
public import proofs.«01_k».proof.Proof.Moe.Range
public import Idealize.ShloMosaic.Lib.Pointwise

@[expose] public section

set_option maxRecDepth 16384

noncomputable section

namespace Cert.ExpertsNextIdeal.Moe

open Cert.ExpertsNextIdeal Cert.ExpertsNextIdeal.Gen
open Idealize.ShloMosaic Idealize.ShloMosaic.TcCoe

variable {F : FTy → Type} [FloatOps F]

/-- A bound on each entry of a list of coordinates, entry by entry. -/
theorem inside_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ fun a => ?_
  · simpa only [Matrix.cons_val_zero] using h0
  · simpa only [Matrix.cons_val_succ] using hr a

/-- A step's place in the table of experts. -/
abbrev place (i : grid0.Coords) : S292.Idx := ix1 ⟨(i 0).val, (i 0).isLt⟩

/-- The word of the expert table the index maps read at a step is the one at the step's place. -/
theorem word_at (T : pre0.Contents (Elt F)) (i : grid0.Coords)
    (inb : ∀ a, (![(Scalar.indexCast (BitVec.ofNat 32 (i 0).val)).toNat] : Fin 1 → ℕ) a + S1.size a ≤ S292.size a) (h : S1.numel = 1) :
    (T.at 0 (Rect.unit (s := S292) ![(Scalar.indexCast (BitVec.ofNat 32 (i 0).val)).toNat] S1.size inb) h : BitVec 32) = (T 0 : S292.Idx → BitVec 32) (place i) := by
  refine congrArg (T 0 : S292.Idx → BitVec 32) (funext fun a => Fin.ext ?_)
  match a with
  | ⟨0, _⟩ =>
    have : (i 0).val < 292 := (i 0).isLt
    show (BitVec.ofNat 32 (i 0).val).toNat + 1 * _ = (i 0).val
    rw [BitVec.toNat_ofNat, Nat.mod_eq_of_lt (by omega)]
    have z : ∀ k : Fin (S1.size 0), (i 0).val + 1 * k.val = (i 0).val := fun k => by
      have : k.val < 1 := k.isLt
      omega
    exact z _

/-- The experts named are in range. -/
def InRange (T : S292.Idx → BitVec 32) : Prop := ∀ x, (T x).toNat < 32

theorem index_1 (T : pre0.Contents (Elt F)) (i : grid0.Coords) :
    cc0_transform_1 k0_off1_inb numel1_S1 T i = ![1, ((T 0 : S292.Idx → BitVec 32) (place i)).toNat, 0, 0] :=
  congrArg (fun w : BitVec 32 => (![1, w.toNat, 0, 0] : Fin 4 → ℕ)) (word_at T i (k0_off1_inb i) numel1_S1)
theorem index_2 (T : pre0.Contents (Elt F)) (i : grid0.Coords) :
    cc0_transform_2 k0_off1_inb numel1_S1 T i = ![1, ((T 0 : S292.Idx → BitVec 32) (place i)).toNat, 0, 0] :=
  congrArg (fun w : BitVec 32 => (![1, w.toNat, 0, 0] : Fin 4 → ℕ)) (word_at T i (k0_off1_inb i) numel1_S1)
theorem index_3 (T : pre0.Contents (Elt F)) (i : grid0.Coords) :
    cc0_transform_3 k0_off1_inb numel1_S1 T i = ![1, ((T 0 : S292.Idx → BitVec 32) (place i)).toNat, 0, 0] :=
  congrArg (fun w : BitVec 32 => (![1, w.toNat, 0, 0] : Fin 4 → ℕ)) (word_at T i (k0_off1_inb i) numel1_S1)
theorem index_4 (T : pre0.Contents (Elt F)) (i : grid0.Coords) :
    cc0_transform_4 k0_off1_inb numel1_S1 T i = ![1, ((T 0 : S292.Idx → BitVec 32) (place i)).toNat, 0, 0] :=
  congrArg (fun w : BitVec 32 => (![1, w.toNat, 0, 0] : Fin 4 → ℕ)) (word_at T i (k0_off1_inb i) numel1_S1)

theorem inside_1 (T : pre0.Contents (Elt F)) (h : InRange (T 0)) (i : grid0.Coords) :
    ∀ a, (cc0_transform_1 k0_off1_inb numel1_S1 T i a + 1) * S1x1x1024x2048.size a ≤ S2x32x1024x2048.size a := by
  rw [index_1]; have := h (place i)
  exact inside_cons (by decide) (inside_cons (by omega) (inside_cons (by decide) (inside_cons (by decide) fun a => a.elim0)))
theorem inside_2 (T : pre0.Contents (Elt F)) (h : InRange (T 0)) (i : grid0.Coords) :
    ∀ a, (cc0_transform_2 k0_off1_inb numel1_S1 T i a + 1) * S1x1x1x2048.size a ≤ S2x32x1x2048.size a := by
  rw [index_2]; have := h (place i)
  exact inside_cons (by decide) (inside_cons (by omega) (inside_cons (by decide) (inside_cons (by decide) fun a => a.elim0)))
theorem inside_3 (T : pre0.Contents (Elt F)) (h : InRange (T 0)) (i : grid0.Coords) :
    ∀ a, (cc0_transform_3 k0_off1_inb numel1_S1 T i a + 1) * S1x1x1024x1024.size a ≤ S2x32x1024x1024.size a := by
  rw [index_3]; have := h (place i)
  exact inside_cons (by decide) (inside_cons (by omega) (inside_cons (by decide) (inside_cons (by decide) fun a => a.elim0)))
theorem inside_4 (T : pre0.Contents (Elt F)) (h : InRange (T 0)) (i : grid0.Coords) :
    ∀ a, (cc0_transform_4 k0_off1_inb numel1_S1 T i a + 1) * S1x1x1x1024.size a ≤ S2x32x1x1024.size a := by
  rw [index_4]; have := h (place i)
  exact inside_cons (by decide) (inside_cons (by omega) (inside_cons (by decide) (inside_cons (by decide) fun a => a.elim0)))

theorem ok_of_range (T : pre0.Contents (Elt F)) (h : InRange (T 0)) : ok0 T :=
  ⟨fun i => ⟨inside_1 T h i, .inr (Affine.block_words_dvd (s := S2x32x1024x2048) (p := EltTy.packing .bf16) (by decide) (by decide))⟩,
    fun i => ⟨inside_2 T h i, .inl rfl⟩,
    fun i => ⟨inside_3 T h i, .inr (Affine.block_words_dvd (s := S2x32x1024x1024) (p := EltTy.packing .bf16) (by decide) (by decide))⟩,
    fun i => ⟨inside_4 T h i, .inl rfl⟩⟩

variable (m : (ℓ : Loc nD τ sig) → Buf (Elt F) ℓ)

/-- The tables as the memory holds them, on the one device. -/
def tablesOf : pre0.Contents (Elt F) := fun k => m (((0 : Dev nD) : Thread nD τ).loc (pre0.ref k))

/-- They are tables the call runs at. -/
abbrev adm (h : InRange (tablesOf m 0)) : (pcfg0 (F := F)).Adm := ⟨tablesOf m, ok_of_range _ h⟩

theorem holds (h : InRange (tablesOf m 0)) : Holds (adm m h) m :=
  ⟨fun c => by rw [show c = 0 from Subsingleton.elim (α := Fin 1) _ _]; rfl, fun c => by rw [show c = 0 from Subsingleton.elim (α := Fin 1) _ _]; rfl⟩

end Cert.ExpertsNextIdeal.Moe

end
-- ==== Proof.Moe.PayloadNextIdeal.lean ====
module

public import proofs.«01_k».proof.Proof.Gen.ExpertsNextIdeal.Skeleton
public import proofs.«01_k».proof.Proof.Moe.Spec

/-! The expert body's block read at an index, over the extended reals. -/

@[expose] public section

noncomputable section

namespace Cert.ExpertsNextIdeal.Moe

open Idealize.ShloMosaic Cert.ExpertsNextIdeal Cert.ExpertsNextIdeal.Gen

theorem pay1_at (i : Fin 256) (d : Fin 1024) : (k0_pay1 : FVec Ideal S256x1024 .f32) (ix2 i d) = (0 : EReal) := by
  unfold k0_pay1
  pointwise

theorem cast_gu (w : FVec Ideal S1x1x1024x2048 .bf16) (k : Fin 1024) (j : Fin 2048) :
    shapeCast S1024x2048 w shapeCasts_S1x1x1024x2048_S1024x2048 (ix2 k j) = w (ix4 0 0 k j) := by
  pointwise

theorem pay2_at (x : FVec Ideal S256x1024 .f32) (wgu : FVec Ideal S1x1x1024x2048 .bf16) (bgu : FVec Ideal S1x1x1x2048 .f32)
    (wdn : FVec Ideal S1x1x1024x1024 .bf16) (bdn : FVec Ideal S1x1x1x1024 .f32) (i : Fin 256) (d : Fin 1024) :
    k0_pay2 (F := Ideal) x wgu bgu wdn bdn (ix2 i d)
      = Cert.Moe.expert (fun k => x (ix2 i k)) (fun k j => wgu (ix4 0 0 k j)) (fun j => bgu (ix4 0 0 0 j))
          (fun k j => wdn (ix4 0 0 k j)) (fun j => bdn (ix4 0 0 0 j)) d := by
  unfold k0_pay2 Cert.Moe.expert Cert.Moe.act Cert.Moe.gateUp Cert.Moe.gateCol Cert.Moe.upCol
  pointwise

end Cert.ExpertsNextIdeal.Moe
-- ==== Proof.Moe.PointsNextIdeal.lean ====
/-
  What the five input blocks of a step hold: step `t` reads rows `256 t …` of the dispatched rows and the weights and
  biases of the expert that the table names for block `t`.
-/
module

public import proofs.«01_k».proof.Proof.Moe.TablesNextIdeal
public import proofs.«01_k».proof.Proof.Moe.PayloadNextIdeal
public import proofs.«01_k».proof.Proof.Moe.Pick

@[expose] public section

set_option maxRecDepth 16384

noncomputable section

namespace Cert.ExpertsNextIdeal.Moe

open Cert.ExpertsNextIdeal Cert.ExpertsNextIdeal.Gen
open Idealize.ShloMosaic Idealize.ShloMosaic.TcCoe

/-- A step's coordinate is its number. -/
theorem crd_val : ∀ t : Fin grid0.N, (grid0.coords t 0).val = t.val := by decide +kernel

theorem steps : grid0.N = 292 := by decide +kernel

variable (m : (ℓ : Loc nD τ sig) → Buf (Elt Ideal) ℓ) (ρ : Dev nD → PrngReg) (h : InRange (tablesOf m 0)) (c : Dev nD)

/-- Block `t`'s expert. -/
abbrev wordOf (t : Fin grid0.N) : BitVec 32 :=
  (m ((c : Thread nD τ).loc main_arg1) : S292.Idx → BitVec 32) (ix1 ⟨t.val, by rw [← steps]; exact t.isLt⟩)

include h in
theorem word_lt (t : Fin grid0.N) : (wordOf m c t).toNat < 32 := by
  obtain rfl : c = 0 := Subsingleton.elim (α := Fin 1) _ _
  exact h _

theorem word_table (t : Fin grid0.N) :
    (tablesOf m 0 : S292.Idx → BitVec 32) (place (grid0.coords t)) = wordOf m c t := by
  obtain rfl : c = 0 := Subsingleton.elim (α := Fin 1) _ _
  refine congrArg (m ((((0 : Dev nD)) : Thread nD τ).loc main_arg1) : S292.Idx → BitVec 32) (funext fun a => Fin.ext ?_)
  match a with
  | ⟨0, _⟩ => exact crd_val t

include h in
theorem word_named (t : Fin grid0.N) :
    ((tablesOf m 0 : S292.Idx → BitVec 32) (place (grid0.coords t))).toNat = (Cert.Moe.named (wordOf m c t)).val := by
  rw [word_table m c t, Cert.Moe.named_of_lt _ (word_lt m h c t)]

theorem x_at (t : Fin (cfgA (adm m h)).N) (i : Fin 256) (k : Fin 1024) :
    (iblk (adm m h) m ρ c (0 : Fin 6) t : FVec Ideal S256x1024 .f32) (ix2 i k)
      = m ((c : Thread nD τ).loc main_arg0) (ix2 ⟨t.val * 256 + i.val, by have : t.val < 292 := steps ▸ t.isLt; omega⟩ k) := by
  show m ((c : Thread nD τ).loc main_arg0) ((((cfgA (adm m h)).win (0 : Fin 6)).blk t).view.emb (ix2 i k)) = _
  refine congrArg (m ((c : Thread nD τ).loc main_arg0)) (funext fun a => Fin.ext ?_)
  have e := crd_val t
  have ht : t.val < 292 := steps ▸ t.isLt
  match a with
  | ⟨0, _⟩ =>
    show (BitVec.ofNat 32 (grid0.coords t 0).val).toNat * 256 + 1 * i.val = t.val * 256 + i.val
    rw [e, BitVec.toNat_ofNat, Nat.mod_eq_of_lt (by omega)]; omega
  | ⟨1, _⟩ =>
    show 0 * 1024 + 1 * k.val = k.val
    omega

theorem wgu_at (t : Fin (cfgA (adm m h)).N) (k : Fin 1024) (j : Fin 2048) :
    (iblk (adm m h) m ρ c (1 : Fin 6) t : FVec Ideal S1x1x1024x2048 .bf16) (ix4 0 0 k j)
      = m ((c : Thread nD τ).loc main_arg3) (ix4 1 (Cert.Moe.named (wordOf m c t)) k j) := by
  show m ((c : Thread nD τ).loc main_arg3) ((((cfgA (adm m h)).win (1 : Fin 6)).blk t).view.emb (ix4 0 0 k j)) = _
  refine congrArg (m ((c : Thread nD τ).loc main_arg3)) (funext fun a => Fin.ext ?_)
  have e := index_1 (tablesOf m) (grid0.coords t)
  rw [word_named m h c t] at e
  match a with
  | ⟨0, _⟩ =>
    show cc0_transform_1 k0_off1_inb numel1_S1 (tablesOf m) (grid0.coords t) 0 * 1 + 1 * 0 = 1
    rw [e]; rfl
  | ⟨1, _⟩ =>
    show cc0_transform_1 k0_off1_inb numel1_S1 (tablesOf m) (grid0.coords t) 1 * 1 + 1 * 0 = (Cert.Moe.named (wordOf m c t)).val
    rw [e]; exact Nat.mul_one _
  | ⟨2, _⟩ =>
    show cc0_transform_1 k0_off1_inb numel1_S1 (tablesOf m) (grid0.coords t) 2 * 1024 + 1 * k.val = k.val
    rw [e]; show 0 * 1024 + 1 * k.val = k.val; omega
  | ⟨3, _⟩ =>
    show cc0_transform_1 k0_off1_inb numel1_S1 (tablesOf m) (grid0.coords t) 3 * 2048 + 1 * j.val = j.val
    rw [e]; show 0 * 2048 + 1 * j.val = j.val; omega

theorem bgu_at (t : Fin (cfgA (adm m h)).N) (j : Fin 2048) :
    (iblk (adm m h) m ρ c (2 : Fin 6) t : FVec Ideal S1x1x1x2048 .f32) (ix4 0 0 0 j)
      = m ((c : Thread nD τ).loc main_arg4) (ix4 1 (Cert.Moe.named (wordOf m c t)) 0 j) := by
  show m ((c : Thread nD τ).loc main_arg4) ((((cfgA (adm m h)).win (2 : Fin 6)).blk t).view.emb (ix4 0 0 0 j)) = _
  refine congrArg (m ((c : Thread nD τ).loc main_arg4)) (funext fun a => Fin.ext ?_)
  have e := index_2 (tablesOf m) (grid0.coords t)
  rw [word_named m h c t] at e
  match a with
  | ⟨0, _⟩ =>
    show cc0_transform_2 k0_off1_inb numel1_S1 (tablesOf m) (grid0.coords t) 0 * 1 + 1 * 0 = 1
    rw [e]; rfl
  | ⟨1, _⟩ =>
    show cc0_transform_2 k0_off1_inb numel1_S1 (tablesOf m) (grid0.coords t) 1 * 1 + 1 * 0 = (Cert.Moe.named (wordOf m c t)).val
    rw [e]; exact Nat.mul_one _
  | ⟨2, _⟩ =>
    show cc0_transform_2 k0_off1_inb numel1_S1 (tablesOf m) (grid0.coords t) 2 * 1 + 1 * 0 = 0
    rw [e]; rfl
  | ⟨3, _⟩ =>
    show cc0_transform_2 k0_off1_inb numel1_S1 (tablesOf m) (grid0.coords t) 3 * 2048 + 1 * j.val = j.val
    rw [e]; show 0 * 2048 + 1 * j.val = j.val; omega

theorem wdn_at (t : Fin (cfgA (adm m h)).N) (k j : Fin 1024) :
    (iblk (adm m h) m ρ c (3 : Fin 6) t : FVec Ideal S1x1x1024x1024 .bf16) (ix4 0 0 k j)
      = m ((c : Thread nD τ).loc main_arg5) (ix4 1 (Cert.Moe.named (wordOf m c t)) k j) := by
  show m ((c : Thread nD τ).loc main_arg5) ((((cfgA (adm m h)).win (3 : Fin 6)).blk t).view.emb (ix4 0 0 k j)) = _
  refine congrArg (m ((c : Thread nD τ).loc main_arg5)) (funext fun a => Fin.ext ?_)
  have e := index_3 (tablesOf m) (grid0.coords t)
  rw [word_named m h c t] at e
  match a with
  | ⟨0, _⟩ =>
    show cc0_transform_3 k0_off1_inb numel1_S1 (tablesOf m) (grid0.coords t) 0 * 1 + 1 * 0 = 1
    rw [e]; rfl
  | ⟨1, _⟩ =>
    show cc0_transform_3 k0_off1_inb numel1_S1 (tablesOf m) (grid0.coords t) 1 * 1 + 1 * 0 = (Cert.Moe.named (wordOf m c t)).val
    rw [e]; exact Nat.mul_one _
  | ⟨2, _⟩ =>
    show cc0_transform_3 k0_off1_inb numel1_S1 (tablesOf m) (grid0.coords t) 2 * 1024 + 1 * k.val = k.val
    rw [e]; show 0 * 1024 + 1 * k.val = k.val; omega
  | ⟨3, _⟩ =>
    show cc0_transform_3 k0_off1_inb numel1_S1 (tablesOf m) (grid0.coords t) 3 * 1024 + 1 * j.val = j.val
    rw [e]; show 0 * 1024 + 1 * j.val = j.val; omega

theorem bdn_at (t : Fin (cfgA (adm m h)).N) (j : Fin 1024) :
    (iblk (adm m h) m ρ c (4 : Fin 6) t : FVec Ideal S1x1x1x1024 .f32) (ix4 0 0 0 j)
      = m ((c : Thread nD τ).loc main_arg6) (ix4 1 (Cert.Moe.named (wordOf m c t)) 0 j) := by
  show m ((c : Thread nD τ).loc main_arg6) ((((cfgA (adm m h)).win (4 : Fin 6)).blk t).view.emb (ix4 0 0 0 j)) = _
  refine congrArg (m ((c : Thread nD τ).loc main_arg6)) (funext fun a => Fin.ext ?_)
  have e := index_4 (tablesOf m) (grid0.coords t)
  rw [word_named m h c t] at e
  match a with
  | ⟨0, _⟩ =>
    show cc0_transform_4 k0_off1_inb numel1_S1 (tablesOf m) (grid0.coords t) 0 * 1 + 1 * 0 = 1
    rw [e]; rfl
  | ⟨1, _⟩ =>
    show cc0_transform_4 k0_off1_inb numel1_S1 (tablesOf m) (grid0.coords t) 1 * 1 + 1 * 0 = (Cert.Moe.named (wordOf m c t)).val
    rw [e]; exact Nat.mul_one _
  | ⟨2, _⟩ =>
    show cc0_transform_4 k0_off1_inb numel1_S1 (tablesOf m) (grid0.coords t) 2 * 1 + 1 * 0 = 0
    rw [e]; rfl
  | ⟨3, _⟩ =>
    show cc0_transform_4 k0_off1_inb numel1_S1 (tablesOf m) (grid0.coords t) 3 * 1024 + 1 * j.val = j.val
    rw [e]; show 0 * 1024 + 1 * j.val = j.val; omega

end Cert.ExpertsNextIdeal.Moe

end
-- ==== Proof.Moe.FinalNextIdeal.lean ====
/-
  The call's result: every step writes its block back, the blocks cover the array, and each entry is the layer's.
-/
module

public import proofs.«01_k».proof.Proof.Moe.PointsNextIdeal

@[expose] public section

set_option maxRecDepth 16384

noncomputable section

namespace Cert.ExpertsNextIdeal.Moe

open Cert.ExpertsNextIdeal Cert.ExpertsNextIdeal.Gen
open Idealize.ShloMosaic Idealize.ShloMosaic.TcCoe

/-- Every step writes its block of the result back. -/
theorem flush_map : ∀ t : Fin grid0.N, Pipeline.Window.flushOf grid0 true cc0_transform_5 t = true := by decide +kernel

variable (m : (ℓ : Loc nD τ sig) → Buf (Elt Ideal) ℓ) (ρ : Dev nD → PrngReg) (h : InRange (tablesOf m 0)) (c : Dev nD)

/-- The layer's result as one function of the arguments. -/
def result : FVec Ideal S74752x1024 .f32 := fun i =>
  Cert.Moe.entry 1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ⟨(i 0).val, (i 0).isLt⟩ ⟨(i 1).val, (i 1).isLt⟩

theorem result_at (r : Fin 74752) (d : Fin 1024) : result m c (ix2 r d)
    = Cert.Moe.entry 1 (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) r d := rfl

/-- The kernel's test of a step is the comparison of the step's number with the count of blocks in use. -/
theorem test_iff (t : Fin grid0.N) (w : BitVec 32) :
    k0_cond1 (grid0.coords t) w = 1#1 ↔ IntOp.cmpi .slt (BitVec.ofNat 32 t.val) w = 1#1 := by
  unfold k0_cond1
  rw [crd_val t]
  dsimp only [Scalar.cmpi, Scalar.extui, IntOp.cmpi]
  cases hb : BitVec.slt (BitVec.ofNat 32 t.val) w <;> decide

theorem used_word : usedWord (F := Ideal) (tab1 (adm m h)) = (m ((c : Thread nD τ).loc main_arg2) : S1.Idx → BitVec 32) (ix1 0) := by
  obtain rfl : c = 0 := Subsingleton.elim (α := Fin 1) _ _
  refine congrArg (m (((0 : Dev nD) : Thread nD τ).loc main_arg2) : S1.Idx → BitVec 32) (funext fun a => ?_)
  match a with
  | ⟨0, _⟩ => exact Subsingleton.elim (α := Fin 1) _ _

/-- What a step leaves in its block. -/
theorem left_at (t : Fin (cfgA (adm m h)).N) (i : Fin 256) (d : Fin 1024) :
    left (adm m h) m ρ c t (ix2 i d) = result m c (ix2 ⟨t.val * 256 + i.val, by have : t.val < 292 := steps ▸ t.isLt; omega⟩ d) := by
  have ht : t.val < 292 := steps ▸ t.isLt
  have hb : (t.val * 256 + i.val) / 256 = t.val := by omega
  rw [result_at]
  unfold left Cert.Moe.entry
  rw [used_word m h c]
  dsimp only
  rw [hb]
  have hblk : Cert.Moe.blockOf ⟨t.val * 256 + i.val, by omega⟩ = ⟨t.val, ht⟩ := Fin.ext hb
  by_cases hc : k0_cond1 (grid0.coords t) ((m ((c : Thread nD τ).loc main_arg2) : S1.Idx → BitVec 32) (ix1 0)) = 1#1
  · rw [if_pos hc, if_pos ((test_iff t _).mp hc)]
    refine (pay2_at _ _ _ _ _ i d).trans ?_
    refine Cert.Moe.expert_congr (fun k => x_at m ρ h c t i k) (fun k j => ?_) (fun j => ?_) (fun k j => ?_) (fun j => ?_) d
    · rw [hblk]; exact wgu_at m ρ h c t k j
    · rw [hblk]; exact bgu_at m ρ h c t j
    · rw [hblk]; exact wdn_at m ρ h c t k j
    · rw [hblk]; exact bdn_at m ρ h c t j
  · rw [if_neg hc, if_neg (fun g => hc ((test_iff t _).mpr g))]
    exact pay1_at i d

theorem emb_out (t : Fin (cfgA (adm m h)).N) (i : Fin 256) (d : Fin 1024) :
    ((((cfgA (adm m h)).win (5 : Fin 6)).blk t).view.emb (ix2 i d) : S74752x1024.Idx)
      = ix2 ⟨t.val * 256 + i.val, by have : t.val < 292 := steps ▸ t.isLt; omega⟩ d := by
  have ht : t.val < 292 := steps ▸ t.isLt
  refine funext fun a => Fin.ext ?_
  match a with
  | ⟨0, _⟩ =>
    show (BitVec.ofNat 32 (grid0.coords t 0).val).toNat * 256 + 1 * i.val = t.val * 256 + i.val
    rw [crd_val t, BitVec.toNat_ofNat, Nat.mod_eq_of_lt (by omega)]; omega
  | ⟨1, _⟩ =>
    show 0 * 1024 + 1 * d.val = d.val
    omega

theorem flushed_out (t : Fin (cfgA (adm m h)).N) :
    (dats (adm m h) m ρ 0 c).flushed (5 : Fin 6) t = (((cfgA (adm m h)).win (5 : Fin 6)).blk t).view.read (Elt Ideal) (result m c) := by
  show left (adm m h) m ρ c t = _
  funext j
  obtain ⟨i, d, rfl⟩ : ∃ (i : Fin 256) (d : Fin 1024), j = ix2 i d := ⟨j 0, j 1, funext fun a => match a with | ⟨0, _⟩ => rfl | ⟨1, _⟩ => rfl⟩
  refine (left_at m ρ h c t i d).trans ?_
  show _ = result m c ((((cfgA (adm m h)).win (5 : Fin 6)).blk t).view.emb (ix2 i d))
  rw [emb_out m h t i d]

/-- The step that writes row `r`. -/
def stepOf (r : Fin 74752) : Fin (cfgA (adm m h)).N := ⟨r.val / 256, by show _ < grid0.N; rw [steps]; omega⟩

theorem flush_out (t : Fin (cfgA (adm m h)).N) : ((cfgA (adm m h)).win (5 : Fin 6)).flush t = true := flush_map t

theorem emb_step (r : Fin 74752) (d : Fin 1024) :
    ((((cfgA (adm m h)).win (5 : Fin 6)).blk (stepOf m h r)).view.emb (ix2 ⟨r.val % 256, by omega⟩ d) : S74752x1024.Idx) = ix2 r d :=
  (emb_out m h (stepOf m h r) _ d).trans (congrArg (fun x : Fin 74752 => (ix2 x d : S74752x1024.Idx)) (Fin.ext (Nat.div_add_mod' r.val 256)))

theorem covered (i : S74752x1024.Idx) :
    i ∈ (((cfgA (adm m h)).win (5 : Fin 6)).blk (stepOf m h (⟨(i 0).val, (i 0).isLt⟩ : Fin 74752))).view.set := by
  obtain ⟨r, d, rfl⟩ : ∃ (r : Fin 74752) (d : Fin 1024), i = ix2 r d := ⟨i 0, i 1, funext fun a => match a with | ⟨0, _⟩ => rfl | ⟨1, _⟩ => rfl⟩
  have e := emb_step m h r d
  have k := View.emb_mem_set (((cfgA (adm m h)).win (5 : Fin 6)).blk (stepOf m h r)).view (ix2 ⟨r.val % 256, by omega⟩ d)
  exact Eq.mp (congrArg (· ∈ (((cfgA (adm m h)).win (5 : Fin 6)).blk (stepOf m h r)).view.set) e) k

/-- The result the pipeline leaves. -/
theorem final : (dats (adm m h) m ρ 0 c).arrAt (5 : Fin 6) (cfgA (adm m h)).N = result m c :=
  (dats (adm m h) m ρ 0 c).arrAt_eq_of_cover (5 : Fin 6) (result m c) (fun t _ => flushed_out m ρ h c t) fun i =>
    ⟨_, flush_out m h _, covered m h i⟩

end Cert.ExpertsNextIdeal.Moe

end
-- ==== Proof.Moe.RefOutNext.lean ====
module

public import proofs.«01_k».proof.Proof.Gen.ExpertsNextReferenceIdeal.Run
public import proofs.«01_k».proof.Proof.Moe.Pick
public import proofs.«01_k».proof.Proof.Moe.Spec

/-! The reference's result read at an index: every row is its block's expert's row, or zero past the blocks in use. -/

@[expose] public section

noncomputable section

namespace Cert.ExpertsNextReferenceIdeal.Moe

open Idealize.ShloMosaic Cert.ExpertsNextReferenceIdeal Cert.ExpertsNextReferenceIdeal.Gen

/-- The experts' numbers as the column of start words. -/
def expertCol (be : IVec S292 32) : IVec S292x1 32 :=
  broadcastInDim S292x1 ![0] bcast_S292_S292x1_0 (select (cmpi .slt be (broadcastInDim S292 ![] bcast_S_S292 (constantI S_ 32 0#32))) (addi be (broadcastInDim S292 ![] bcast_S_S292 (constantI S_ 32 32#32))) be)

/-- The gate and up projections of every block. -/
def projected (xs : FVec Ideal S74752x1024 .f32) (be : IVec S292 32) (wgu : FVec Ideal S2x32x1024x2048 .bf16)
    (bgu : FVec Ideal S2x32x1x2048 .f32) : FVec Ideal S292x256x2048 .f32 :=
  addf (Host.dotGeneral dot_S292x256x1024_S292x1024x2048_S292x256x2048_2_1_1_2_0_0 none (shapeCast _ xs shapeCasts_S74752x1024_S292x256x1024) (Host.gather gather_S32x1024x2048_S292x1_S292x1024x2048_12_0_n_n_0_1_110242048 (extf .f32 (shapeCast _ (extractStridedSlice S1x32x1024x2048 ![1, 0, 0, 0] wgu slices_S2x32x1024x2048_S1x32x1024x2048_1_0_0_0) shapeCasts_S1x32x1024x2048_S32x1024x2048) bitsLt_bf16_f32) (expertCol be))) (broadcastInDim S292x256x2048 ![0, 1, 2] bcast_S292x1x2048_S292x256x2048_0_1_2 (broadcastInDim S292x1x2048 ![0, 2] bcast_S292x2048_S292x1x2048_0_2 (Host.gather gather_S32x2048_S292x1_S292x2048_1_0_n_n_0_1_12048 (shapeCast _ (extractStridedSlice S1x32x1x2048 ![1, 0, 0, 0] bgu slices_S2x32x1x2048_S1x32x1x2048_1_0_0_0) shapeCasts_S1x32x1x2048_S32x2048) (expertCol be))))

/-- The gate half, cut off above. -/
def gateHalf (gu : FVec Ideal S292x256x2048 .f32) : FVec Ideal S292x256x1024 .f32 :=
  minimumf (extractStridedSlice S292x256x1024 ![0, 0, 0] gu slices_S292x256x2048_S292x256x1024_0_0_0) (broadcastInDim S292x256x1024 ![] bcast_S_S292x256x1024 (constant S_ .f32 0x40E00000#32))

/-- The up half, cut off on both sides. -/
def upHalf (gu : FVec Ideal S292x256x2048 .f32) : FVec Ideal S292x256x1024 .f32 :=
  minimumf (broadcastInDim S292x256x1024 ![] bcast_S_S292x256x1024 (id (constant S_ .f32 0x40E00000#32))) (maximumf (broadcastInDim S292x256x1024 ![] bcast_S_S292x256x1024 (id (constant S_ .f32 0xC0E00000#32))) (extractStridedSlice S292x256x1024 ![0, 0, 1024] gu slices_S292x256x2048_S292x256x1024_0_0_1024))

/-- The activation of every block. -/
def activated (gu : FVec Ideal S292x256x2048 .f32) : FVec Ideal S292x256x1024 .f32 :=
  mulf (mulf (addf (upHalf gu) (broadcastInDim S292x256x1024 ![] bcast_S_S292x256x1024 (constant S_ .f32 0x3F800000#32))) (gateHalf gu)) (Host.divf (broadcastInDim S292x256x1024 ![] bcast_S_S292x256x1024 (constant S_ .f32 0x3F800000#32)) (addf (broadcastInDim S292x256x1024 ![] bcast_S_S292x256x1024 (constant S_ .f32 0x3F800000#32)) (Host.exp (Host.negf (mulf (broadcastInDim S292x256x1024 ![] bcast_S_S292x256x1024 (constant S_ .f32 0x3FD9DB23#32)) (gateHalf gu))))))

/-- The down projection of every block. -/
def answered (a : FVec Ideal S292x256x1024 .f32) (be : IVec S292 32) (wdn : FVec Ideal S2x32x1024x1024 .bf16)
    (bdn : FVec Ideal S2x32x1x1024 .f32) : FVec Ideal S292x256x1024 .f32 :=
  addf (Host.dotGeneral dot_S292x256x1024_S292x1024x1024_S292x256x1024_2_1_1_2_0_0 none a (Host.gather gather_S32x1024x1024_S292x1_S292x1024x1024_12_0_n_n_0_1_110241024 (extf .f32 (shapeCast _ (extractStridedSlice S1x32x1024x1024 ![1, 0, 0, 0] wdn slices_S2x32x1024x1024_S1x32x1024x1024_1_0_0_0) shapeCasts_S1x32x1024x1024_S32x1024x1024) bitsLt_bf16_f32) (expertCol be))) (broadcastInDim S292x256x1024 ![0, 1, 2] bcast_S292x1x1024_S292x256x1024_0_1_2 (broadcastInDim S292x1x1024 ![0, 2] bcast_S292x1024_S292x1x1024_0_2 (Host.gather gather_S32x1024_S292x1_S292x1024_1_0_n_n_0_1_11024 (shapeCast _ (extractStridedSlice S1x32x1x1024 ![1, 0, 0, 0] bdn slices_S2x32x1x1024_S1x32x1x1024_1_0_0_0) shapeCasts_S1x32x1x1024_S32x1024) (expertCol be))))

/-- The result as a function of the seven arguments. -/
def rows (xs : FVec Ideal S74752x1024 .f32) (be : IVec S292 32) (nv : IVec S1 32) (wgu : FVec Ideal S2x32x1024x2048 .bf16)
    (bgu : FVec Ideal S2x32x1x2048 .f32) (wdn : FVec Ideal S2x32x1024x1024 .bf16) (bdn : FVec Ideal S2x32x1x1024 .f32) :
    FVec Ideal S74752x1024 .f32 :=
  shapeCast _ (select (broadcastInDim S292x256x1024 ![0, 1, 2] bcast_S292x1x1_S292x256x1024_0_1_2 (broadcastInDim S292x1x1 ![0] bcast_S292_S292x1x1_0 (cmpi .slt (iotaInDim S292 32 0) (broadcastInDim S292 ![0] bcast_S1_S292_0 nv)))) (answered (activated (projected xs be wgu bgu)) be wdn bdn) (broadcastInDim S292x256x1024 ![] bcast_S_S292x256x1024 (id (constant S_ .f32 0x00000000#32)))) shapeCasts_S292x256x1024_S74752x1024

theorem res_eq (m : (ℓ : Loc nD τ sig) → Buf (Elt Ideal) ℓ) (c : Dev nD) :
    Value.res_main_v69 m c = rows (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

theorem gateHalf_at (gu : FVec Ideal S292x256x2048 .f32) (b : Fin 292) (i : Fin 256) (j : Fin 1024) :
    gateHalf gu (ix3 b i j) = min (gu (ix3 b i (Cert.Moe.gateCol j)) : EReal) (Ideal.ofBits .f32 0x40E00000#32) := by
  unfold gateHalf Cert.Moe.gateCol
  pointwise

theorem upHalf_at (gu : FVec Ideal S292x256x2048 .f32) (b : Fin 292) (i : Fin 256) (j : Fin 1024) :
    upHalf gu (ix3 b i j) = min (Ideal.ofBits .f32 0x40E00000#32) (max (Ideal.ofBits .f32 0xC0E00000#32) (gu (ix3 b i (Cert.Moe.upCol j)) : EReal)) := by
  unfold upHalf Cert.Moe.upCol
  pointwise
  rfl

theorem activated_at (gu : FVec Ideal S292x256x2048 .f32) (b : Fin 292) (i : Fin 256) (j : Fin 1024) :
    activated gu (ix3 b i j) = Cert.Moe.act (gu (ix3 b i (Cert.Moe.gateCol j))) (gu (ix3 b i (Cert.Moe.upCol j))) := by
  unfold activated Cert.Moe.act
  pointwise
  rw [gateHalf_at, upHalf_at]
  rfl

/-- A start word below 32 is not negative, so it is taken as it stands. -/
theorem expertCol_at (be : IVec S292 32) (b : Fin 292) (h : (be (ix1 b)).toNat < 32) :
    expertCol be (ix2 b 0) = be (ix1 b) := by
  unfold expertCol
  pointwise
  have hs : (be (ix1 b)).slt 0#32 = false := by
    rw [BitVec.slt_eq_decide, BitVec.toInt_eq_toNat_cond]
    simp only [decide_eq_false_iff_not, BitVec.toInt_zero]
    split <;> omega
  show Scalar.select (BitVec.ofBool ((be (ix1 b)).slt 0#32)) _ _ = _
  rw [hs]
  rfl

theorem wgu_at (be : IVec S292 32) (wgu : FVec Ideal S2x32x1024x2048 .bf16) (b : Fin 292) (k : Fin 1024) (j : Fin 2048)
    (h : (be (ix1 b)).toNat < 32) :
    Host.gather gather_S32x1024x2048_S292x1_S292x1024x2048_12_0_n_n_0_1_110242048 (extf .f32 (shapeCast S32x1024x2048 (extractStridedSlice S1x32x1024x2048 ![1, 0, 0, 0] wgu slices_S2x32x1024x2048_S1x32x1024x2048_1_0_0_0) shapeCasts_S1x32x1024x2048_S32x1024x2048) bitsLt_bf16_f32 : FVec Ideal S32x1024x2048 .f32) (expertCol be) (ix3 b k j)
      = wgu (ix4 1 (Cert.Moe.named (be (ix1 b))) k j) := by
  refine (Cert.Moe.mat_at _ _ (expertCol be) b k j).trans ?_
  rw [expertCol_at be b h]
  pointwise

theorem bgu_at (be : IVec S292 32) (bgu : FVec Ideal S2x32x1x2048 .f32) (b : Fin 292) (j : Fin 2048)
    (h : (be (ix1 b)).toNat < 32) :
    Host.gather gather_S32x2048_S292x1_S292x2048_1_0_n_n_0_1_12048 (shapeCast S32x2048 (extractStridedSlice S1x32x1x2048 ![1, 0, 0, 0] bgu slices_S2x32x1x2048_S1x32x1x2048_1_0_0_0) shapeCasts_S1x32x1x2048_S32x2048) (expertCol be) (ix2 b j)
      = bgu (ix4 1 (Cert.Moe.named (be (ix1 b))) 0 j) := by
  refine (Cert.Moe.row_at _ _ (expertCol be) b j).trans ?_
  rw [expertCol_at be b h]
  pointwise

theorem wdn_at (be : IVec S292 32) (wdn : FVec Ideal S2x32x1024x1024 .bf16) (b : Fin 292) (k : Fin 1024) (j : Fin 1024)
    (h : (be (ix1 b)).toNat < 32) :
    Host.gather gather_S32x1024x1024_S292x1_S292x1024x1024_12_0_n_n_0_1_110241024 (extf .f32 (shapeCast S32x1024x1024 (extractStridedSlice S1x32x1024x1024 ![1, 0, 0, 0] wdn slices_S2x32x1024x1024_S1x32x1024x1024_1_0_0_0) shapeCasts_S1x32x1024x1024_S32x1024x1024) bitsLt_bf16_f32 : FVec Ideal S32x1024x1024 .f32) (expertCol be) (ix3 b k j)
      = wdn (ix4 1 (Cert.Moe.named (be (ix1 b))) k j) := by
  refine (Cert.Moe.mat_at _ _ (expertCol be) b k j).trans ?_
  rw [expertCol_at be b h]
  pointwise

theorem bdn_at (be : IVec S292 32) (bdn : FVec Ideal S2x32x1x1024 .f32) (b : Fin 292) (j : Fin 1024)
    (h : (be (ix1 b)).toNat < 32) :
    Host.gather gather_S32x1024_S292x1_S292x1024_1_0_n_n_0_1_11024 (shapeCast S32x1024 (extractStridedSlice S1x32x1x1024 ![1, 0, 0, 0] bdn slices_S2x32x1x1024_S1x32x1x1024_1_0_0_0) shapeCasts_S1x32x1x1024_S32x1024) (expertCol be) (ix2 b j)
      = bdn (ix4 1 (Cert.Moe.named (be (ix1 b))) 0 j) := by
  refine (Cert.Moe.row_at _ _ (expertCol be) b j).trans ?_
  rw [expertCol_at be b h]
  pointwise

theorem projected_at (xs : FVec Ideal S74752x1024 .f32) (be : IVec S292 32) (wgu : FVec Ideal S2x32x1024x2048 .bf16)
    (bgu : FVec Ideal S2x32x1x2048 .f32) (b : Fin 292) (i : Fin 256) (j : Fin 2048) (h : (be (ix1 b)).toNat < 32) :
    projected xs be wgu bgu (ix3 b i j) = Cert.Moe.gateUp (fun k => xs (ix2 ⟨b.val * 256 + i.val, by omega⟩ k))
      (fun k j => wgu (ix4 1 (Cert.Moe.named (be (ix1 b))) k j)) (fun j => bgu (ix4 1 (Cert.Moe.named (be (ix1 b))) 0 j)) j := by
  unfold projected Cert.Moe.gateUp
  pointwise
  rw [bgu_at be bgu b j h]
  congr 1
  refine Finset.sum_congr rfl fun k _ => ?_
  rw [wgu_at be wgu b k j h]

theorem answered_at (a : FVec Ideal S292x256x1024 .f32) (be : IVec S292 32) (wdn : FVec Ideal S2x32x1024x1024 .bf16)
    (bdn : FVec Ideal S2x32x1x1024 .f32) (b : Fin 292) (i : Fin 256) (d : Fin 1024) (h : (be (ix1 b)).toNat < 32) :
    answered a be wdn bdn (ix3 b i d) = (∑ j, (a (ix3 b i j) : EReal) * wdn (ix4 1 (Cert.Moe.named (be (ix1 b))) j d))
      + bdn (ix4 1 (Cert.Moe.named (be (ix1 b))) 0 d) := by
  unfold answered
  pointwise
  rw [bdn_at be bdn b d h]
  congr 1
  refine Finset.sum_congr rfl fun k _ => ?_
  rw [wdn_at be wdn b k d h]

/-- The whole result: every entry is the layer's. -/
theorem rows_at (xs : FVec Ideal S74752x1024 .f32) (be : IVec S292 32) (nv : IVec S1 32) (wgu : FVec Ideal S2x32x1024x2048 .bf16)
    (bgu : FVec Ideal S2x32x1x2048 .f32) (wdn : FVec Ideal S2x32x1024x1024 .bf16) (bdn : FVec Ideal S2x32x1x1024 .f32)
    (h : ∀ b, (be (ix1 b)).toNat < 32) (r : Fin 74752) (d : Fin 1024) :
    rows xs be nv wgu bgu wdn bdn (ix2 r d) = Cert.Moe.entry 1 xs be nv wgu bgu wdn bdn r d := by
  have e0 : (Ideal.ofBits .f32 0x00000000#32 : EReal) = 0 := by pointwise
  unfold rows
  pointwise
  unfold Scalar.select Cert.Moe.entry
  refine if_congr Iff.rfl ?_ e0
  rw [answered_at _ _ _ _ _ _ _ (h _)]
  unfold Cert.Moe.expert
  refine congrArg₂ (· + ·) (Finset.sum_congr rfl fun j _ => ?_) rfl
  rw [activated_at, projected_at _ _ _ _ _ _ _ (h _), projected_at _ _ _ _ _ _ _ (h _)]
  have er : (⟨r.val / 256 * 256 + r.val % 256, by omega⟩ : Fin 74752) = r := Fin.ext (Nat.div_add_mod' r.val 256)
  simp only [er]
  rfl

end Cert.ExpertsNextReferenceIdeal.Moe
-- ==== Proof.Moe.ClaimsNext.lean ====
/-
  The claims of one layer's experts: the frames of the call, of its ideal reading and of the reference, and the equation
  of the two results.
-/
module

public import proofs.«01_k».proof.Defs
public import proofs.«01_k».proof.Proof.Moe.TablesNextBits
public import proofs.«01_k».proof.Proof.Moe.FinalNextIdeal
public import proofs.«01_k».proof.Proof.Moe.RefOutNext
public import proofs.«01_k».proof.Proof.Gen.Pre_experts_in_range
public import Idealize.ShloMosaic.Adequacy
public import Idealize.ShloMosaic.Init

@[expose] public section

noncomputable section

namespace Cert.ExpertsNextClaims

open Idealize.ShloMosaic Idealize.ShloMosaic.TcCoe Idealize.SL.Sem

/-- The precondition keeps the table's experts in range. -/
theorem range_bits (m : (ℓ : Loc Cert.ExpertsNext.nD Cert.ExpertsNext.τ Cert.ExpertsNext.sig) → Buf (Elt Bits) ℓ) (h : Cert.Pre_ExpertsNext m) :
    Cert.ExpertsNext.Moe.InRange (Cert.ExpertsNext.Moe.tablesOf m 0) :=
  fun x => Cert.Moe.in_range _ _ _ _ _ _ _ (h 0) x

theorem range_ideal (m : (ℓ : Loc Cert.ExpertsNextIdeal.nD Cert.ExpertsNextIdeal.τ Cert.ExpertsNextIdeal.sig) → Buf (Elt Ideal) ℓ) (h : Cert.Pre_ExpertsNextIdeal m) :
    Cert.ExpertsNextIdeal.Moe.InRange (Cert.ExpertsNextIdeal.Moe.tablesOf m 0) :=
  fun x => Cert.Moe.in_range _ _ _ _ _ _ _ (h 0) x

/-- The call's frame. -/
theorem frame_kernel : Cert.quiescent_ExpertsNext := fun m ρ hp =>
  (θ_run Cert.ExpertsNext.defs _ _).mono (fun _ h => ⟨fun c => (h.1 c).2, h.2⟩)
    (Cert.ExpertsNext.Moe.run_result _ m ρ (Cert.ExpertsNext.Moe.holds m (range_bits m hp)))

/-- The ideal call's frame. -/
theorem frame_ideal : Cert.quiescent_ExpertsNextIdeal := fun m ρ hp =>
  (θ_run Cert.ExpertsNextIdeal.defs _ _).mono (fun _ h => ⟨fun c => (h.1 c).2, h.2⟩)
    (Cert.ExpertsNextIdeal.Moe.run_result _ m ρ (Cert.ExpertsNextIdeal.Moe.holds m (range_ideal m hp)))

/-- The reference's frame. -/
theorem frame_reference : Cert.quiescent_ExpertsNextReferenceIdeal := fun m ρ _ =>
  (θ_run Cert.ExpertsNextReferenceIdeal.defs _ _).mono (fun r h => ⟨fun c => (h c).2, sem_eq_zero_of_no_sems (by decide) r.2⟩)
    (Cert.ExpertsNextReferenceIdeal.Value.run m ρ)

/-- The reference's frame at tables in range. -/
theorem frame_reference_in_range : Cert.quiescent_ExpertsNextReferenceIdeal_pre_experts_in_range := fun m ρ _ =>
  (θ_run Cert.ExpertsNextReferenceIdeal.defs _ _).mono (fun r h => ⟨fun c => (h c).2, sem_eq_zero_of_no_sems (by decide) r.2⟩)
    (Cert.ExpertsNextReferenceIdeal.Value.run m ρ)

/-- The call's result is the reference's. -/
theorem results_agree : Cert.algebraic_ExpertsNextIdeal_ExpertsNextReferenceIdeal := by
  intro m ρ m' ρ' hp hargs
  have hr := range_ideal m hp
  refine ⟨fun c => Cert.ExpertsNextIdeal.Moe.result m c, ?_, ?_⟩
  · exact (θ_run Cert.ExpertsNextIdeal.defs _ _).mono (fun _ h c => ⟨(h.1 c).1.trans (Cert.ExpertsNextIdeal.Moe.final m ρ hr c), (h.1 c).2⟩)
      (Cert.ExpertsNextIdeal.Moe.run_result _ m ρ (Cert.ExpertsNextIdeal.Moe.holds m hr))
  · refine (θ_run Cert.ExpertsNextReferenceIdeal.defs _ _).mono (fun _ h c => ⟨(h c).1.trans ?_, (h c).2⟩) (Cert.ExpertsNextReferenceIdeal.Value.run m' ρ')
    obtain ⟨e0, e1, e2, e3, e4, e5, e6⟩ := hargs c
    rw [Cert.ExpertsNextReferenceIdeal.Moe.res_eq, e0, e1, e2, e3, e4, e5, e6]
    funext i
    obtain ⟨r, d, rfl⟩ : ∃ (r : Fin 74752) (d : Fin 1024), i = ix2 r d := ⟨i 0, i 1, funext fun a => match a with | ⟨0, _⟩ => rfl | ⟨1, _⟩ => rfl⟩
    exact Cert.ExpertsNextReferenceIdeal.Moe.rows_at _ _ _ _ _ _ _ (fun b => Cert.Moe.in_range _ _ _ _ _ _ _ (hp c) (ix1 b)) r d

end Cert.ExpertsNextClaims

end
-- ==== Proof.RetProj.Spec.lean ====
module

public import Idealize.ShloMosaic.Lib.Pointwise

/-! The retention layer's projections, row by row. A row is a token of a prompt sequence or one of the eight rows of a
    sample sequence; it is shifted and scaled by its sequence's vectors, multiplied by the weights, and its query and key
    parts are turned by the angles of its position. -/

@[expose] public section

noncomputable section

namespace Cert.Proj

open Idealize.ShloMosaic

/-- Row `r` of the two batches one under the other. -/
def rowX (xp : Fin 8 → Fin 2048 → Fin 1024 → EReal) (xs : Fin 32 → Fin 8 → Fin 1024 → EReal) (r : Fin 16640) (k : Fin 1024) : EReal :=
  if h : r.val < 16384 then xp ⟨r.val / 2048, by omega⟩ ⟨r.val % 2048, by omega⟩ k
  else xs ⟨(r.val - 16384) / 8, by omega⟩ ⟨(r.val - 16384) % 8, by omega⟩ k

/-- The vector of row `r`'s sequence. -/
def rowV (a : Fin 40 → Fin 1024 → EReal) (r : Fin 16640) (k : Fin 1024) : EReal :=
  if h : r.val < 16384 then a ⟨r.val / 2048, by omega⟩ k else a ⟨8 + (r.val - 16384) / 8, by omega⟩ k

/-- Row `r`'s position. -/
def rowPos (r : Fin 16640) : BitVec 32 :=
  if r.val < 16384 then BitVec.ofNat 32 (r.val % 2048)
  else IntOp.addi 16384#32 (IntOp.minsi (BitVec.ofNat 32 ((r.val - 16384) % 8)) 3#32)

/-- The `j`-th angle of position `p`. -/
def angle (p : BitVec 32) (j : Fin 128) : EReal :=
  (FloatOps.sitofp .f32 p : Ideal .f32) * Ideal.pow (Ideal.ofBits .f32 0x461C4000#32)
    (Ideal.div (-(FloatOps.sitofp .f32 (BitVec.ofNat 32 j.val) : Ideal .f32)) (Ideal.ofBits .f32 0x43000000#32))

/-- A row of four heads of 256 turned: entry `j` of a head's first half and entry `j` of its second half are a pair. -/
def turned (z : Fin 1024 → EReal) (co si : Fin 128 → EReal) (c : Fin 1024) : EReal :=
  if h : c.val % 256 < 128 then z c * co ⟨c.val % 256, h⟩ - z ⟨c.val + 128, by omega⟩ * si ⟨c.val % 256, h⟩
  else z c * co ⟨c.val % 256 - 128, by omega⟩ + z ⟨c.val - 128, by omega⟩ * si ⟨c.val % 256 - 128, by omega⟩

theorem turned_first (z : Fin 1024 → EReal) (co si : Fin 128 → EReal) (n : Nat) (hn : n < 4) (j : Fin 128) (c : Fin 1024)
    (hc : c.val = 256 * n + j.val) :
    turned z co si c = z c * co j - z ⟨256 * n + 128 + j.val, by omega⟩ * si j := by
  have h : c.val % 256 < 128 := by omega
  unfold turned
  rw [dif_pos h]
  have e : (⟨c.val % 256, h⟩ : Fin 128) = j := Fin.ext (by show c.val % 256 = j.val; omega)
  have e' : (⟨c.val + 128, by omega⟩ : Fin 1024) = ⟨256 * n + 128 + j.val, by omega⟩ := Fin.ext (by show c.val + 128 = 256 * n + 128 + j.val; omega)
  rw [e, e']

theorem turned_second (z : Fin 1024 → EReal) (co si : Fin 128 → EReal) (n : Nat) (hn : n < 4) (j : Fin 128) (c : Fin 1024)
    (hc : c.val = 256 * n + 128 + j.val) :
    turned z co si c = z c * co j + z ⟨256 * n + j.val, by omega⟩ * si j := by
  have h : ¬ c.val % 256 < 128 := by omega
  unfold turned
  rw [dif_neg h]
  have e : (⟨c.val % 256 - 128, by omega⟩ : Fin 128) = j := Fin.ext (by show c.val % 256 - 128 = j.val; omega)
  have e' : (⟨c.val - 128, by omega⟩ : Fin 1024) = ⟨256 * n + j.val, by omega⟩ := Fin.ext (by show c.val - 128 = 256 * n + j.val; omega)
  rw [e, e']

section

variable (xp : Fin 8 → Fin 2048 → Fin 1024 → EReal) (xs : Fin 32 → Fin 8 → Fin 1024 → EReal) (sh sc : Fin 40 → Fin 1024 → EReal)
  (w : Fin 1024 → Fin 6144 → EReal)

/-- Row `r` shifted and scaled, times column `j` of the weights. -/
def entry (r : Fin 16640) (j : Fin 6144) : EReal :=
  ∑ k, (rowX xp xs r k * (1 + rowV sc r k) + rowV sh r k) * w k j

def query (r : Fin 16640) (c : Fin 1024) : EReal :=
  turned (fun j => entry xp xs sh sc w r ⟨j.val, by omega⟩) (fun j => Ideal.cos (angle (rowPos r) j)) (fun j => Ideal.sin (angle (rowPos r) j)) c

def key (r : Fin 16640) (c : Fin 1024) : EReal :=
  turned (fun j => entry xp xs sh sc w r ⟨1024 + j.val, by omega⟩) (fun j => Ideal.cos (angle (rowPos r) j)) (fun j => Ideal.sin (angle (rowPos r) j)) c
    * Ideal.ofBits .f32 0x3D800000#32

def value (r : Fin 16640) (c : Fin 2048) : EReal := entry xp xs sh sc w r ⟨2048 + c.val, by omega⟩

def gate (r : Fin 16640) (c : Fin 2048) : EReal := entry xp xs sh sc w r ⟨4096 + c.val, by omega⟩

end

end Cert.Proj
-- ==== Proof.RetProj.Entry.lean ====
module

public import proofs.«01_k».proof.Proof.Gen.RetProjIdeal.Frame
public import proofs.«01_k».proof.Proof.RetProj.Spec
public import Idealize.ShloMosaic.Lib.Pointwise
public import Idealize.ShloMosaic.Lib.Tactic
public import Idealize.ShloMosaic.Lib.KernelVsHost

/-! What the projection call's six input arrays hold when the call is entered: the rows of both batches, the tables
    of shifts and scales, the weights, and the tables of cosines and sines. First as whole arrays, then at an index. -/

@[expose] public section

noncomputable section

namespace Cert.RetProjIdeal.Rows

open Idealize.ShloMosaic Idealize.ShloMosaic.TcCoe Idealize.SL.Sem Cert.RetProjIdeal Cert.RetProjIdeal.Gen

/-- The rows of both batches, one under the other. -/
def stacked (xp : FVec Ideal S8x2048x1024 .f32) (xs : FVec Ideal S32x8x1024 .f32) : FVec Ideal S16640x1024 .f32 :=
  concatenate S16640x1024 0 [⟨S16384x1024, shapeCast S16384x1024 xp shapeCasts_S8x2048x1024_S16384x1024⟩,
    ⟨S256x1024, shapeCast S256x1024 xs shapeCasts_S32x8x1024_S256x1024⟩] concatenates_S16384x1024_S256x1024_S16640x1024_d0

/-- A vector per sequence laid out as blocks of rows: one block per prompt sequence, one for all the sample's rows. -/
def laidOut (a : FVec Ideal S40x1024 .f32) : FVec Ideal S9x256x1024 .f32 :=
  concatenate S9x256x1024 0 [⟨S8x256x1024, broadcastInDim S8x256x1024 ![0, 1, 2] bcast_S8x1x1024_S8x256x1024_0_1_2
      (broadcastInDim S8x1x1024 ![0, 2] bcast_S8x1024_S8x1x1024_0_2 (extractStridedSlice S8x1024 ![0, 0] a slices_S40x1024_S8x1024_0_0))⟩,
    ⟨S1x256x1024, shapeCast S1x256x1024 (shapeCast S256x1024 (broadcastInDim S32x8x1024 ![0, 2] bcast_S32x1024_S32x8x1024_0_2
      (extractStridedSlice S32x1024 ![8, 0] a slices_S40x1024_S32x1024_8_0)) shapeCasts_S32x8x1024_S256x1024) shapeCasts_S256x1024_S1x256x1024⟩]
    concatenates_S8x256x1024_S1x256x1024_S9x256x1024_d0

/-- The number of a sample row within its sequence, as the host computes the remainder by eight. -/
def withinEight : IVec S256 32 :=
  let d : IVec S_ 32 := select (cmpi .eq (id (constantI S_ 32 8#32)) (constantI S_ 32 0#32)) (constantI S_ 32 1#32) (id (constantI S_ 32 8#32))
  let q : IVec S256 32 := Host.remsi (iotaInDim S256 32 0) (broadcastInDim S256 ![] bcast_S_S256 d)
  select (andi (cmpi .ne (cmpi .slt q (broadcastInDim S256 ![] bcast_S_S256 (constantI S_ 32 0#32)))
      (broadcastInDim S256 ![] bcast_S_S256 (cmpi .slt d (constantI S_ 32 0#32)))) (cmpi .ne q (broadcastInDim S256 ![] bcast_S_S256 (constantI S_ 32 0#32))))
    (addi q (broadcastInDim S256 ![] bcast_S_S256 d)) q

/-- The positions: those of a prompt sequence, then those of the sample's rows. -/
def positions : IVec S2304 32 :=
  concatenate S2304 0 [⟨S2048, iotaInDim S2048 32 0⟩, ⟨S256, addi (broadcastInDim S256 ![] bcast_S_S256 (constantI S_ 32 16384#32))
    (minsi withinEight (broadcastInDim S256 ![] bcast_S_S256 (constantI S_ 32 3#32)))⟩] concatenates_S2048_S256_S2304_d0

/-- The angles of every position. -/
def angles : FVec Ideal S2304x128 .f32 :=
  mulf (broadcastInDim S2304x128 ![0, 1] bcast_S2304x1_S2304x128_0_1 (broadcastInDim S2304x1 ![0] bcast_S2304_S2304x1_0 (sitofp .f32 positions)))
    (broadcastInDim S2304x128 ![0, 1] bcast_S1x128_S2304x128_0_1 (broadcastInDim S1x128 ![1] bcast_S128_S1x128_1
      (Host.powf (broadcastInDim S128 ![] bcast_S_S128 (constant S_ .f32 0x461C4000#32))
        (Host.divf (Host.negf (sitofp .f32 (iotaInDim S128 32 0))) (broadcastInDim S128 ![] bcast_S_S128 (constant S_ .f32 0x43000000#32))))))

variable (m : (ℓ : Loc nD τ sig) → Buf (Elt Ideal) ℓ) (c : Dev nD)

theorem V_x : V m c main_v2 = stacked (m ((c : Thread nD τ).loc main_arg0)) (m ((c : Thread nD τ).loc main_arg1)) := by
  show StableHlo.after (List.flatten _) _ (Proc.devRef .tc main_v2) = _
  simp only [List.flatten_cons, List.flatten_nil, List.append_nil, List.cons_append, List.nil_append]
  after_results
  rfl

theorem V_sh : V m c main_v34 = laidOut (m ((c : Thread nD τ).loc main_arg2)) := by
  show StableHlo.after (List.flatten _) _ (Proc.devRef .tc main_v34) = _
  simp only [List.flatten_cons, List.flatten_nil, List.append_nil, List.cons_append, List.nil_append]
  after_results
  rfl

theorem V_sc : V m c main_v42 = laidOut (m ((c : Thread nD τ).loc main_arg3)) := by
  show StableHlo.after (List.flatten _) _ (Proc.devRef .tc main_v42) = _
  simp only [List.flatten_cons, List.flatten_nil, List.append_nil, List.cons_append, List.nil_append]
  after_results
  rfl

theorem V_w : (V m c main_v43 : FVec Ideal S1024x6144 .bf16) = (truncf .bf16 (m ((c : Thread nD τ).loc main_arg4) : FVec Ideal S1024x6144 .f32) bitsLt_bf16_f32 : FVec Ideal S1024x6144 .bf16) := by
  show StableHlo.after (List.flatten _) _ (Proc.devRef .tc main_v43) = _
  simp only [List.flatten_cons, List.flatten_nil, List.append_nil, List.cons_append, List.nil_append]
  after_results

theorem V_cos : V m c main_v25 = shapeCast S9x256x128 (Host.cos angles) shapeCasts_S2304x128_S9x256x128 := by
  show StableHlo.after (List.flatten _) _ (Proc.devRef .tc main_v25) = _
  simp only [List.flatten_cons, List.flatten_nil, List.append_nil, List.cons_append, List.nil_append]
  after_results
  rfl

theorem V_sin : V m c main_v26 = shapeCast S9x256x128 (Host.sin angles) shapeCasts_S2304x128_S9x256x128 := by
  show StableHlo.after (List.flatten _) _ (Proc.devRef .tc main_v26) = _
  simp only [List.flatten_cons, List.flatten_nil, List.append_nil, List.cons_append, List.nil_append]
  after_results
  rfl

theorem withinEight_at : ∀ i : Fin 256, withinEight (ix1 i) = BitVec.ofNat 32 (i.val % 8) := by
  unfold withinEight
  intro i
  pointwise
  revert i
  decide +kernel

/-- The position of row `i` of block `b` of the tables. -/
def tablePos (b : Fin 9) (i : Fin 256) : BitVec 32 :=
  if b.val < 8 then BitVec.ofNat 32 (b.val * 256 + i.val) else IntOp.addi 16384#32 (IntOp.minsi (BitVec.ofNat 32 (i.val % 8)) 3#32)

theorem positions_at (b : Fin 9) (i : Fin 256) : positions (ix1 ⟨b.val * 256 + i.val, by omega⟩) = tablePos b i := by
  unfold positions tablePos
  pointwise
  by_cases h : b.val < 8
  · rw [dif_pos (by omega), if_pos h]
  · rw [dif_neg (by omega), if_neg h, withinEight_at]
    have e : (b.val * 256 + i.val - 2048) % 8 = i.val % 8 := by omega
    dsimp only
    rw [e]

theorem cos_at (b : Fin 9) (i : Fin 256) (j : Fin 128) :
    shapeCast S9x256x128 (Host.cos angles) shapeCasts_S2304x128_S9x256x128 (ix3 b i j) = Ideal.cos (Cert.Proj.angle (tablePos b i) j) := by
  rw [← positions_at]
  generalize hp : positions = P
  unfold angles Cert.Proj.angle
  rw [hp]
  pointwise

theorem sin_at (b : Fin 9) (i : Fin 256) (j : Fin 128) :
    shapeCast S9x256x128 (Host.sin angles) shapeCasts_S2304x128_S9x256x128 (ix3 b i j) = Ideal.sin (Cert.Proj.angle (tablePos b i) j) := by
  rw [← positions_at]
  generalize hp : positions = P
  unfold angles Cert.Proj.angle
  rw [hp]
  pointwise

theorem stacked_at (xp : FVec Ideal S8x2048x1024 .f32) (xs : FVec Ideal S32x8x1024 .f32) (r : Fin 16640) (k : Fin 1024) :
    stacked xp xs (ix2 r k) = Cert.Proj.rowX (fun b s k => xp (ix3 b s k)) (fun b s k => xs (ix3 b s k)) r k := by
  unfold stacked Cert.Proj.rowX
  pointwise

theorem laidOut_at (a : FVec Ideal S40x1024 .f32) (b : Fin 9) (i : Fin 256) (k : Fin 1024) :
    laidOut a (ix3 b i k) = if h : b.val < 8 then a (ix2 ⟨b.val, by omega⟩ k) else a (ix2 ⟨8 + i.val / 8, by omega⟩ k) := by
  unfold laidOut
  pointwise

end Cert.RetProjIdeal.Rows
-- ==== Proof.RetProj.Payload.lean ====
module

public import proofs.«01_k».proof.Proof.Gen.RetProjIdeal.Frame
public import proofs.«01_k».proof.Proof.RetProj.Spec
public import Idealize.ShloMosaic.Lib.Pipeline.Value

/-! What the projection body leaves in its four output blocks, read at an index. -/

@[expose] public section

noncomputable section

namespace Cert.RetProjIdeal.Rows

open Idealize.ShloMosaic Cert.RetProjIdeal Cert.RetProjIdeal.Gen

/-- A block of rows turned, as one function of the block's index. -/
def turnedBlock (z : FVec Ideal S256x1024 .f32) (a b : FVec Ideal S256x128 .f32) (y : S256x1024.Idx) : EReal :=
  Cert.Proj.turned (fun j => z (ix2 ⟨(y 0).val, (y 0).isLt⟩ j)) (fun j => a (ix2 ⟨(y 0).val, (y 0).isLt⟩ j))
    (fun j => b (ix2 ⟨(y 0).val, (y 0).isLt⟩ j)) ⟨(y 1).val, (y 1).isLt⟩

theorem turnedBlock_at (z : FVec Ideal S256x1024 .f32) (a b : FVec Ideal S256x128 .f32) (i : Fin 256) (c : Fin 1024) :
    turnedBlock z a b (ix2 i c) = Cert.Proj.turned (fun j => z (ix2 i j)) (fun j => a (ix2 i j)) (fun j => b (ix2 i j)) c := rfl

theorem emb_eq (o : Nat) (inb : ∀ a : Fin S256x1024.rank, (![0, o] : Fin 2 → Nat) a + S256x128.size a ≤ S256x1024.size a) (i : Fin 256) (j : Fin 128)
    (ho : o + 128 ≤ 1024) :
    (Rect.unit (s := S256x1024) ![0, o] S256x128.size inb).emb (ix2 i j) = (ix2 i ⟨o + j.val, by omega⟩ : S256x1024.Idx) := by
  refine funext fun a => Fin.ext ?_
  match a with
  | ⟨0, _⟩ => show 0 + 1 * i.val = i.val; omega
  | ⟨1, _⟩ => show o + 1 * j.val = o + j.val; omega

/-- A piece that holds the first halves of head `n`'s pairs. -/
theorem piece_first (z : FVec Ideal S256x1024 .f32) (a b : FVec Ideal S256x128 .f32) (n o : Nat) (hn : n < 4) (ho : o = 256 * n)
    (inb : ∀ a : Fin S256x1024.rank, (![0, o] : Fin 2 → Nat) a + S256x128.size a ≤ S256x1024.size a) (p : S256x128.Idx → EReal)
    (u v : Fin 128 → Fin 1024) (hu : ∀ j, (u j).val = o + j.val) (hv : ∀ j, (v j).val = o + 128 + j.val)
    (h : ∀ i j, p (ix2 i j) = z (ix2 i (u j)) * a (ix2 i j) - z (ix2 i (v j)) * b (ix2 i j)) (x : S256x128.Idx) :
    p x = turnedBlock z a b ((Rect.unit (s := S256x1024) ![0, o] S256x128.size inb).emb x) := by
  subst ho
  obtain ⟨i, j, rfl⟩ : ∃ (i : Fin 256) (j : Fin 128), x = ix2 i j := ⟨x 0, x 1, funext fun a => match a with | ⟨0, _⟩ => rfl | ⟨1, _⟩ => rfl⟩
  rw [emb_eq _ _ i j (by omega), turnedBlock_at, Cert.Proj.turned_first _ _ _ n hn j _ rfl, h]
  have e1 : u j = ⟨256 * n + j.val, by omega⟩ := Fin.ext (hu j)
  have e2 : v j = ⟨256 * n + 128 + j.val, by omega⟩ := Fin.ext (hv j)
  rw [e1, e2]

/-- A piece that holds the second halves of head `n`'s pairs. -/
theorem piece_second (z : FVec Ideal S256x1024 .f32) (a b : FVec Ideal S256x128 .f32) (n o : Nat) (hn : n < 4) (ho : o = 256 * n + 128)
    (inb : ∀ a : Fin S256x1024.rank, (![0, o] : Fin 2 → Nat) a + S256x128.size a ≤ S256x1024.size a) (p : S256x128.Idx → EReal)
    (u v : Fin 128 → Fin 1024) (hu : ∀ j, (u j).val + 128 = o + j.val) (hv : ∀ j, (v j).val = o + j.val)
    (h : ∀ i j, p (ix2 i j) = z (ix2 i (v j)) * a (ix2 i j) + z (ix2 i (u j)) * b (ix2 i j)) (x : S256x128.Idx) :
    p x = turnedBlock z a b ((Rect.unit (s := S256x1024) ![0, o] S256x128.size inb).emb x) := by
  subst ho
  obtain ⟨i, j, rfl⟩ : ∃ (i : Fin 256) (j : Fin 128), x = ix2 i j := ⟨x 0, x 1, funext fun a => match a with | ⟨0, _⟩ => rfl | ⟨1, _⟩ => rfl⟩
  rw [emb_eq _ _ i j (by omega), turnedBlock_at, Cert.Proj.turned_second _ _ _ n hn j _ rfl, h]
  have e1 : u j = ⟨256 * n + j.val, by omega⟩ := Fin.ext (by have := hu j; show (u j).val = 256 * n + j.val; omega)
  have e2 : v j = ⟨256 * n + 128 + j.val, by omega⟩ := Fin.ext (hv j)
  rw [e1, e2]

theorem pay22_at (a b : FVec Ideal S256x128 .f32) (z : FVec Ideal S256x1024 .f32) (i : Fin 256) (j : Fin 128) :
    k0_pay22 a b z (ix2 i j) = (z (ix2 i ⟨256 + j.val, by omega⟩) * a (ix2 i j) - z (ix2 i ⟨384 + j.val, by omega⟩) * b (ix2 i j) : EReal) := by
  unfold k0_pay22 k0_pay20 k0_pay21
  pointwise

theorem pay23_at (a b : FVec Ideal S256x128 .f32) (z : FVec Ideal S256x1024 .f32) (i : Fin 256) (j : Fin 128) :
    k0_pay23 a b z (ix2 i j) = (z (ix2 i ⟨384 + j.val, by omega⟩) * a (ix2 i j) + z (ix2 i ⟨256 + j.val, by omega⟩) * b (ix2 i j) : EReal) := by
  unfold k0_pay23 k0_pay20 k0_pay21
  pointwise

theorem pay30_at (a b : FVec Ideal S256x128 .f32) (z : FVec Ideal S256x1024 .f32) (i : Fin 256) (j : Fin 128) :
    k0_pay30 a b z (ix2 i j) = (z (ix2 i ⟨512 + j.val, by omega⟩) * a (ix2 i j) - z (ix2 i ⟨640 + j.val, by omega⟩) * b (ix2 i j) : EReal) := by
  unfold k0_pay30 k0_pay28 k0_pay29
  pointwise

theorem pay31_at (a b : FVec Ideal S256x128 .f32) (z : FVec Ideal S256x1024 .f32) (i : Fin 256) (j : Fin 128) :
    k0_pay31 a b z (ix2 i j) = (z (ix2 i ⟨640 + j.val, by omega⟩) * a (ix2 i j) + z (ix2 i ⟨512 + j.val, by omega⟩) * b (ix2 i j) : EReal) := by
  unfold k0_pay31 k0_pay28 k0_pay29
  pointwise

theorem pay38_at (a b : FVec Ideal S256x128 .f32) (z : FVec Ideal S256x1024 .f32) (i : Fin 256) (j : Fin 128) :
    k0_pay38 a b z (ix2 i j) = (z (ix2 i ⟨768 + j.val, by omega⟩) * a (ix2 i j) - z (ix2 i ⟨896 + j.val, by omega⟩) * b (ix2 i j) : EReal) := by
  unfold k0_pay38 k0_pay36 k0_pay37
  pointwise

theorem pay39_at (a b : FVec Ideal S256x128 .f32) (z : FVec Ideal S256x1024 .f32) (i : Fin 256) (j : Fin 128) :
    k0_pay39 a b z (ix2 i j) = (z (ix2 i ⟨896 + j.val, by omega⟩) * a (ix2 i j) + z (ix2 i ⟨768 + j.val, by omega⟩) * b (ix2 i j) : EReal) := by
  unfold k0_pay39 k0_pay36 k0_pay37
  pointwise

theorem pay18_at (a b : FVec Ideal S256x128 .f32) (z : FVec Ideal S256x1024 .f32) (i : Fin 256) (j : Fin 128) :
    k0_pay18 a b z (ix2 i j) = (z (ix2 i ⟨j.val, by omega⟩) * a (ix2 i j) - z (ix2 i ⟨128 + j.val, by omega⟩) * b (ix2 i j) : EReal) * Ideal.ofBits .f32 0x3D800000#32 := by
  unfold k0_pay18 k0_pay16 k0_pay17
  pointwise

theorem pay19_at (a b : FVec Ideal S256x128 .f32) (z : FVec Ideal S256x1024 .f32) (i : Fin 256) (j : Fin 128) :
    k0_pay19 a b z (ix2 i j) = (z (ix2 i ⟨128 + j.val, by omega⟩) * a (ix2 i j) + z (ix2 i ⟨j.val, by omega⟩) * b (ix2 i j) : EReal) * Ideal.ofBits .f32 0x3D800000#32 := by
  unfold k0_pay19 k0_pay16 k0_pay17
  pointwise

theorem pay26_at (a b : FVec Ideal S256x128 .f32) (z : FVec Ideal S256x1024 .f32) (i : Fin 256) (j : Fin 128) :
    k0_pay26 a b z (ix2 i j) = (z (ix2 i ⟨256 + j.val, by omega⟩) * a (ix2 i j) - z (ix2 i ⟨384 + j.val, by omega⟩) * b (ix2 i j) : EReal) * Ideal.ofBits .f32 0x3D800000#32 := by
  unfold k0_pay26 k0_pay24 k0_pay25
  pointwise

theorem pay27_at (a b : FVec Ideal S256x128 .f32) (z : FVec Ideal S256x1024 .f32) (i : Fin 256) (j : Fin 128) :
    k0_pay27 a b z (ix2 i j) = (z (ix2 i ⟨384 + j.val, by omega⟩) * a (ix2 i j) + z (ix2 i ⟨256 + j.val, by omega⟩) * b (ix2 i j) : EReal) * Ideal.ofBits .f32 0x3D800000#32 := by
  unfold k0_pay27 k0_pay24 k0_pay25
  pointwise

theorem pay34_at (a b : FVec Ideal S256x128 .f32) (z : FVec Ideal S256x1024 .f32) (i : Fin 256) (j : Fin 128) :
    k0_pay34 a b z (ix2 i j) = (z (ix2 i ⟨512 + j.val, by omega⟩) * a (ix2 i j) - z (ix2 i ⟨640 + j.val, by omega⟩) * b (ix2 i j) : EReal) * Ideal.ofBits .f32 0x3D800000#32 := by
  unfold k0_pay34 k0_pay32 k0_pay33
  pointwise

theorem pay35_at (a b : FVec Ideal S256x128 .f32) (z : FVec Ideal S256x1024 .f32) (i : Fin 256) (j : Fin 128) :
    k0_pay35 a b z (ix2 i j) = (z (ix2 i ⟨640 + j.val, by omega⟩) * a (ix2 i j) + z (ix2 i ⟨512 + j.val, by omega⟩) * b (ix2 i j) : EReal) * Ideal.ofBits .f32 0x3D800000#32 := by
  unfold k0_pay35 k0_pay32 k0_pay33
  pointwise

theorem pay3_at (a b : FVec Ideal S256x128 .f32) (z : FVec Ideal S256x1024 .f32) (i : Fin 256) (j : Fin 128) :
    k0_pay3 a b z (ix2 i j) = (z (ix2 i ⟨768 + j.val, by omega⟩) * a (ix2 i j) - z (ix2 i ⟨896 + j.val, by omega⟩) * b (ix2 i j) : EReal) * Ideal.ofBits .f32 0x3D800000#32 := by
  unfold k0_pay3 k0_pay1 k0_pay2
  pointwise

theorem pay4_at (a b : FVec Ideal S256x128 .f32) (z : FVec Ideal S256x1024 .f32) (i : Fin 256) (j : Fin 128) :
    k0_pay4 a b z (ix2 i j) = (z (ix2 i ⟨896 + j.val, by omega⟩) * a (ix2 i j) + z (ix2 i ⟨768 + j.val, by omega⟩) * b (ix2 i j) : EReal) * Ideal.ofBits .f32 0x3D800000#32 := by
  unfold k0_pay4 k0_pay1 k0_pay2
  pointwise

theorem pay14_at (v0 : Vec Ideal S256x1024 .f32) (v2 v7 : Vec Ideal S1x256x1024 .f32) (v11 v13 : Vec Ideal S1x256x128 .f32) (v15 : Vec Ideal S1024x1024 .bf16)
    (i : Fin 256) (j : Fin 128) :
    k0_pay14 v0 v2 v7 v11 v13 v15 (ix2 i j) = (k0_pay10 v0 v2 v7 v15 (ix2 i ⟨j.val, by omega⟩) * k0_pay8 v11 (ix2 i j) - k0_pay10 v0 v2 v7 v15 (ix2 i ⟨128 + j.val, by omega⟩) * k0_pay9 v13 (ix2 i j) : EReal) := by
  unfold k0_pay14 k0_pay12 k0_pay13
  pointwise

theorem pay15_at (v0 : Vec Ideal S256x1024 .f32) (v2 v7 : Vec Ideal S1x256x1024 .f32) (v11 v13 : Vec Ideal S1x256x128 .f32) (v15 : Vec Ideal S1024x1024 .bf16)
    (i : Fin 256) (j : Fin 128) :
    k0_pay15 v0 v2 v7 v11 v13 v15 (ix2 i j) = (k0_pay10 v0 v2 v7 v15 (ix2 i ⟨128 + j.val, by omega⟩) * k0_pay8 v11 (ix2 i j) + k0_pay10 v0 v2 v7 v15 (ix2 i ⟨j.val, by omega⟩) * k0_pay9 v13 (ix2 i j) : EReal) := by
  unfold k0_pay15 k0_pay12 k0_pay13
  pointwise

variable (x0 : Vec Ideal S256x1024 .f32) (x1 x2 : Vec Ideal S1x256x1024 .f32) (x3 : Vec Ideal S1024x6144 .bf16) (x4 x5 : Vec Ideal S1x256x128 .f32)

/-- A row of the block, shifted and scaled, times a column of the weights. -/
def blockEntry (i : Fin 256) (j : Fin 6144) : EReal :=
  ∑ k, ((x0 (ix2 i k) : EReal) * (1 + x2 (ix3 0 i k)) + x1 (ix3 0 i k)) * x3 (ix2 k j)

theorem zq_at (i : Fin 256) (j : Fin 1024) :
    (k0_pay43 x0 x1 x2 x3 x4 x5 : FVec Ideal S256x1024 .f32) (ix2 i j) = blockEntry x0 x1 x2 x3 i ⟨j.val, by omega⟩ := by
  unfold k0_pay43 k0_pay10 k0_pay7 blockEntry
  pointwise

theorem zk_at (i : Fin 256) (j : Fin 1024) :
    (k0_pay44 x0 x1 x2 x3 x4 x5 : FVec Ideal S256x1024 .f32) (ix2 i j) = blockEntry x0 x1 x2 x3 i ⟨1024 + j.val, by omega⟩ := by
  unfold k0_pay44 k0_pay11 k0_pay7 blockEntry
  pointwise

theorem co_at (i : Fin 256) (j : Fin 128) :
    (k0_pay41 x0 x1 x2 x3 x4 x5 : FVec Ideal S256x128 .f32) (ix2 i j) = x4 (ix3 0 i j) := by
  unfold k0_pay41 k0_pay8
  pointwise

theorem si_at (i : Fin 256) (j : Fin 128) :
    (k0_pay42 x0 x1 x2 x3 x4 x5 : FVec Ideal S256x128 .f32) (ix2 i j) = x5 (ix3 0 i j) := by
  unfold k0_pay42 k0_pay9
  pointwise

theorem left_v (i : Fin 256) (c : Fin 2048) : out0_8 x0 x1 x2 x3 x4 x5 (ix2 i c) = blockEntry x0 x1 x2 x3 i ⟨2048 + c.val, by omega⟩ := by
  unfold out0_8
  rw [View.canon_unit_zero (funext fun a => match a with | ⟨0, _⟩ => rfl | ⟨1, _⟩ => rfl)]
  unfold k0_pay5 k0_pay40 k0_pay7 blockEntry
  pointwise

theorem left_g (i : Fin 256) (c : Fin 2048) : out0_9 x0 x1 x2 x3 x4 x5 (ix2 i c) = blockEntry x0 x1 x2 x3 i ⟨4096 + c.val, by omega⟩ := by
  unfold out0_9
  rw [View.canon_unit_zero (funext fun a => match a with | ⟨0, _⟩ => rfl | ⟨1, _⟩ => rfl)]
  unfold k0_pay6 k0_pay40 k0_pay7 blockEntry
  pointwise

theorem left_q_block (y : S256x1024.Idx) : out0_6 x0 x1 x2 x3 x4 x5 y = (fun y => turnedBlock (k0_pay43 x0 x1 x2 x3 x4 x5) (k0_pay41 x0 x1 x2 x3 x4 x5) (k0_pay42 x0 x1 x2 x3 x4 x5) y) y := by
  unfold out0_6
  refine View.canon_apply_of_pieces (Val := Elt Ideal) (fun y => turnedBlock (k0_pay43 x0 x1 x2 x3 x4 x5) (k0_pay41 x0 x1 x2 x3 x4 x5) (k0_pay42 x0 x1 x2 x3 x4 x5) y) _ ?_ y (cover0_6 _ _ _ _ _ _ _ _ y)
  refine List.forall_mem_cons.mpr ⟨fun x => piece_second _ _ _ 3 896 (by omega) (by omega) (by decide) _ (fun j => ⟨768 + j.val, by omega⟩) (fun j => ⟨896 + j.val, by omega⟩) (fun j => by first | rfl | (dsimp only; omega)) (fun j => by first | rfl | (dsimp only; omega)) (fun i j => pay39_at _ _ _ i j) x, ?_⟩
  refine List.forall_mem_cons.mpr ⟨fun x => piece_first _ _ _ 3 768 (by omega) (by omega) (by decide) _ (fun j => ⟨768 + j.val, by omega⟩) (fun j => ⟨896 + j.val, by omega⟩) (fun j => by first | rfl | (dsimp only; omega)) (fun j => by first | rfl | (dsimp only; omega)) (fun i j => pay38_at _ _ _ i j) x, ?_⟩
  refine List.forall_mem_cons.mpr ⟨fun x => piece_second _ _ _ 2 640 (by omega) (by omega) (by decide) _ (fun j => ⟨512 + j.val, by omega⟩) (fun j => ⟨640 + j.val, by omega⟩) (fun j => by first | rfl | (dsimp only; omega)) (fun j => by first | rfl | (dsimp only; omega)) (fun i j => pay31_at _ _ _ i j) x, ?_⟩
  refine List.forall_mem_cons.mpr ⟨fun x => piece_first _ _ _ 2 512 (by omega) (by omega) (by decide) _ (fun j => ⟨512 + j.val, by omega⟩) (fun j => ⟨640 + j.val, by omega⟩) (fun j => by first | rfl | (dsimp only; omega)) (fun j => by first | rfl | (dsimp only; omega)) (fun i j => pay30_at _ _ _ i j) x, ?_⟩
  refine List.forall_mem_cons.mpr ⟨fun x => piece_second _ _ _ 1 384 (by omega) (by omega) (by decide) _ (fun j => ⟨256 + j.val, by omega⟩) (fun j => ⟨384 + j.val, by omega⟩) (fun j => by first | rfl | (dsimp only; omega)) (fun j => by first | rfl | (dsimp only; omega)) (fun i j => pay23_at _ _ _ i j) x, ?_⟩
  refine List.forall_mem_cons.mpr ⟨fun x => piece_first _ _ _ 1 256 (by omega) (by omega) (by decide) _ (fun j => ⟨256 + j.val, by omega⟩) (fun j => ⟨384 + j.val, by omega⟩) (fun j => by first | rfl | (dsimp only; omega)) (fun j => by first | rfl | (dsimp only; omega)) (fun i j => pay22_at _ _ _ i j) x, ?_⟩
  refine List.forall_mem_cons.mpr ⟨fun x => piece_second _ _ _ 0 128 (by omega) (by omega) (by decide) _ (fun j => ⟨j.val, by omega⟩) (fun j => ⟨128 + j.val, by omega⟩) (fun j => by first | rfl | (dsimp only; omega)) (fun j => by first | rfl | (dsimp only; omega)) (fun i j => pay15_at _ _ _ _ _ _ i j) x, ?_⟩
  refine List.forall_mem_cons.mpr ⟨fun x => piece_first _ _ _ 0 0 (by omega) (by omega) (by decide) _ (fun j => ⟨j.val, by omega⟩) (fun j => ⟨128 + j.val, by omega⟩) (fun j => by first | rfl | (dsimp only; omega)) (fun j => by first | rfl | (dsimp only; omega)) (fun i j => pay14_at _ _ _ _ _ _ i j) x, ?_⟩
  exact fun p hp => absurd hp (List.not_mem_nil)

/-- The first halves, times a constant. -/
theorem piece_first_scaled (z : FVec Ideal S256x1024 .f32) (a b : FVec Ideal S256x128 .f32) (n o : Nat) (hn : n < 4) (ho : o = 256 * n)
    (inb : ∀ a : Fin S256x1024.rank, (![0, o] : Fin 2 → Nat) a + S256x128.size a ≤ S256x1024.size a) (p : S256x128.Idx → EReal)
    (u v : Fin 128 → Fin 1024) (hu : ∀ j, (u j).val = o + j.val) (hv : ∀ j, (v j).val = o + 128 + j.val) {s : EReal}
    (h : ∀ i j, p (ix2 i j) = (z (ix2 i (u j)) * a (ix2 i j) - z (ix2 i (v j)) * b (ix2 i j)) * s) (x : S256x128.Idx) :
    p x = turnedBlock z a b ((Rect.unit (s := S256x1024) ![0, o] S256x128.size inb).emb x) * s := by
  rw [← piece_first z a b n o hn ho inb (fun y => z (ix2 (y 0) (u (y 1))) * a (ix2 (y 0) (y 1)) - z (ix2 (y 0) (v (y 1))) * b (ix2 (y 0) (y 1))) u v hu hv (fun _ _ => rfl) x]
  obtain ⟨i, j, rfl⟩ : ∃ (i : Fin 256) (j : Fin 128), x = ix2 i j := ⟨x 0, x 1, funext fun a => match a with | ⟨0, _⟩ => rfl | ⟨1, _⟩ => rfl⟩
  exact h i j

/-- The second halves, times a constant. -/
theorem piece_second_scaled (z : FVec Ideal S256x1024 .f32) (a b : FVec Ideal S256x128 .f32) (n o : Nat) (hn : n < 4) (ho : o = 256 * n + 128)
    (inb : ∀ a : Fin S256x1024.rank, (![0, o] : Fin 2 → Nat) a + S256x128.size a ≤ S256x1024.size a) (p : S256x128.Idx → EReal)
    (u v : Fin 128 → Fin 1024) (hu : ∀ j, (u j).val + 128 = o + j.val) (hv : ∀ j, (v j).val = o + j.val) {s : EReal}
    (h : ∀ i j, p (ix2 i j) = (z (ix2 i (v j)) * a (ix2 i j) + z (ix2 i (u j)) * b (ix2 i j)) * s) (x : S256x128.Idx) :
    p x = turnedBlock z a b ((Rect.unit (s := S256x1024) ![0, o] S256x128.size inb).emb x) * s := by
  rw [← piece_second z a b n o hn ho inb (fun y => z (ix2 (y 0) (v (y 1))) * a (ix2 (y 0) (y 1)) + z (ix2 (y 0) (u (y 1))) * b (ix2 (y 0) (y 1))) u v hu hv (fun _ _ => rfl) x]
  obtain ⟨i, j, rfl⟩ : ∃ (i : Fin 256) (j : Fin 128), x = ix2 i j := ⟨x 0, x 1, funext fun a => match a with | ⟨0, _⟩ => rfl | ⟨1, _⟩ => rfl⟩
  exact h i j

theorem left_k_block (y : S256x1024.Idx) : out0_7 x0 x1 x2 x3 x4 x5 y = (fun y => turnedBlock (k0_pay44 x0 x1 x2 x3 x4 x5) (k0_pay41 x0 x1 x2 x3 x4 x5) (k0_pay42 x0 x1 x2 x3 x4 x5) y * Ideal.ofBits .f32 0x3D800000#32) y := by
  unfold out0_7
  refine View.canon_apply_of_pieces (Val := Elt Ideal) (fun y => turnedBlock (k0_pay44 x0 x1 x2 x3 x4 x5) (k0_pay41 x0 x1 x2 x3 x4 x5) (k0_pay42 x0 x1 x2 x3 x4 x5) y * Ideal.ofBits .f32 0x3D800000#32) _ ?_ y (cover0_7 _ _ _ _ _ _ _ _ y)
  refine List.forall_mem_cons.mpr ⟨fun x => piece_second_scaled _ _ _ 3 896 (by omega) (by omega) (by decide) _ (fun j => ⟨768 + j.val, by omega⟩) (fun j => ⟨896 + j.val, by omega⟩) (fun j => by first | rfl | (dsimp only; omega)) (fun j => by first | rfl | (dsimp only; omega)) (fun i j => pay4_at _ _ _ i j) x, ?_⟩
  refine List.forall_mem_cons.mpr ⟨fun x => piece_first_scaled _ _ _ 3 768 (by omega) (by omega) (by decide) _ (fun j => ⟨768 + j.val, by omega⟩) (fun j => ⟨896 + j.val, by omega⟩) (fun j => by first | rfl | (dsimp only; omega)) (fun j => by first | rfl | (dsimp only; omega)) (fun i j => pay3_at _ _ _ i j) x, ?_⟩
  refine List.forall_mem_cons.mpr ⟨fun x => piece_second_scaled _ _ _ 2 640 (by omega) (by omega) (by decide) _ (fun j => ⟨512 + j.val, by omega⟩) (fun j => ⟨640 + j.val, by omega⟩) (fun j => by first | rfl | (dsimp only; omega)) (fun j => by first | rfl | (dsimp only; omega)) (fun i j => pay35_at _ _ _ i j) x, ?_⟩
  refine List.forall_mem_cons.mpr ⟨fun x => piece_first_scaled _ _ _ 2 512 (by omega) (by omega) (by decide) _ (fun j => ⟨512 + j.val, by omega⟩) (fun j => ⟨640 + j.val, by omega⟩) (fun j => by first | rfl | (dsimp only; omega)) (fun j => by first | rfl | (dsimp only; omega)) (fun i j => pay34_at _ _ _ i j) x, ?_⟩
  refine List.forall_mem_cons.mpr ⟨fun x => piece_second_scaled _ _ _ 1 384 (by omega) (by omega) (by decide) _ (fun j => ⟨256 + j.val, by omega⟩) (fun j => ⟨384 + j.val, by omega⟩) (fun j => by first | rfl | (dsimp only; omega)) (fun j => by first | rfl | (dsimp only; omega)) (fun i j => pay27_at _ _ _ i j) x, ?_⟩
  refine List.forall_mem_cons.mpr ⟨fun x => piece_first_scaled _ _ _ 1 256 (by omega) (by omega) (by decide) _ (fun j => ⟨256 + j.val, by omega⟩) (fun j => ⟨384 + j.val, by omega⟩) (fun j => by first | rfl | (dsimp only; omega)) (fun j => by first | rfl | (dsimp only; omega)) (fun i j => pay26_at _ _ _ i j) x, ?_⟩
  refine List.forall_mem_cons.mpr ⟨fun x => piece_second_scaled _ _ _ 0 128 (by omega) (by omega) (by decide) _ (fun j => ⟨j.val, by omega⟩) (fun j => ⟨128 + j.val, by omega⟩) (fun j => by first | rfl | (dsimp only; omega)) (fun j => by first | rfl | (dsimp only; omega)) (fun i j => pay19_at _ _ _ i j) x, ?_⟩
  refine List.forall_mem_cons.mpr ⟨fun x => piece_first_scaled _ _ _ 0 0 (by omega) (by omega) (by decide) _ (fun j => ⟨j.val, by omega⟩) (fun j => ⟨128 + j.val, by omega⟩) (fun j => by first | rfl | (dsimp only; omega)) (fun j => by first | rfl | (dsimp only; omega)) (fun i j => pay18_at _ _ _ i j) x, ?_⟩
  exact fun p hp => absurd hp (List.not_mem_nil)

theorem left_q (i : Fin 256) (c : Fin 1024) : out0_6 x0 x1 x2 x3 x4 x5 (ix2 i c)
    = Cert.Proj.turned (fun j => blockEntry x0 x1 x2 x3 i ⟨j.val, by omega⟩) (fun j => x4 (ix3 0 i j)) (fun j => x5 (ix3 0 i j)) c := by
  refine (left_q_block x0 x1 x2 x3 x4 x5 (ix2 i c)).trans ?_
  dsimp only
  rw [turnedBlock_at]
  simp only [zq_at, co_at, si_at]

theorem left_k (i : Fin 256) (c : Fin 1024) : out0_7 x0 x1 x2 x3 x4 x5 (ix2 i c)
    = Cert.Proj.turned (fun j => blockEntry x0 x1 x2 x3 i ⟨1024 + j.val, by omega⟩) (fun j => x4 (ix3 0 i j)) (fun j => x5 (ix3 0 i j)) c
      * Ideal.ofBits .f32 0x3D800000#32 := by
  refine (left_k_block x0 x1 x2 x3 x4 x5 (ix2 i c)).trans ?_
  dsimp only
  rw [turnedBlock_at]
  simp only [zk_at, co_at, si_at]

end Cert.RetProjIdeal.Rows
-- ==== Proof.RetProj.Points.lean ====
module

public import proofs.«01_k».proof.Proof.RetProj.Entry
public import proofs.«01_k».proof.Proof.RetProj.Payload

/-! The six input blocks of a grid point: point `t` stages rows `256 t` to `256 t + 255`. -/

@[expose] public section

noncomputable section

namespace Cert.RetProjIdeal.Rows

open Idealize.ShloMosaic Idealize.ShloMosaic.TcCoe Idealize.SL.Sem Cert.RetProjIdeal Cert.RetProjIdeal.Gen

/-- Which block of each input a point stages. -/
theorem index_in : ∀ t : Fin grid0.N, (win0_0.index t 0 = t.val ∧ win0_0.index t 1 = 0)
    ∧ (win0_1.index t 0 = (if t.val < 64 then t.val / 8 else 8) ∧ win0_1.index t 1 = 0 ∧ win0_1.index t 2 = 0)
    ∧ (win0_2.index t 0 = (if t.val < 64 then t.val / 8 else 8) ∧ win0_2.index t 1 = 0 ∧ win0_2.index t 2 = 0)
    ∧ (win0_3.index t 0 = 0 ∧ win0_3.index t 1 = 0)
    ∧ (win0_4.index t 0 = (if t.val < 64 then t.val % 8 else 8) ∧ win0_4.index t 1 = 0 ∧ win0_4.index t 2 = 0)
    ∧ (win0_5.index t 0 = (if t.val < 64 then t.val % 8 else 8) ∧ win0_5.index t 1 = 0 ∧ win0_5.index t 2 = 0) := by decide +kernel

/-- And of each result. -/
theorem index_out : ∀ t : Fin grid0.N, (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) := by decide +kernel

theorem pt_lt (t : Fin cfg0.N) : t.val < 65 := lt_of_lt_of_eq t.isLt (show cfg0.N = 65 from N_0)

/-- Row `i` of point `t`. -/
def row (t : Fin cfg0.N) (i : Fin 256) : Fin 16640 := ⟨256 * t.val + i.val, by have := pt_lt t; omega⟩

/-- The block of vectors a point stages. -/
def modOf (t : Fin cfg0.N) : Fin 9 := ⟨if t.val < 64 then t.val / 8 else 8, by have := pt_lt t; split <;> omega⟩

/-- The block of angles a point stages. -/
def tabOf (t : Fin cfg0.N) : Fin 9 := ⟨if t.val < 64 then t.val % 8 else 8, by have := pt_lt t; split <;> omega⟩

variable (m : (ℓ : Loc nD τ sig) → Buf (Elt Ideal) ℓ) (c : Dev nD) (t : Fin cfg0.N)

theorem laidOut_row (a : FVec Ideal S40x1024 .f32) (i : Fin 256) (k : Fin 1024) :
    laidOut a (ix3 (modOf t) i k) = Cert.Proj.rowV (fun b k => a (ix2 b k)) (row t i) k := by
  have ht := pt_lt t
  rw [laidOut_at]
  unfold Cert.Proj.rowV
  by_cases h : t.val < 64
  · have h1 : (modOf t).val = t.val / 8 := if_pos h
    have h2 : (row t i).val = 256 * t.val + i.val := rfl
    rw [dif_pos (by omega), dif_pos (by omega)]
    exact congrArg (fun b => a (ix2 b k)) (Fin.ext (by show (modOf t).val = (row t i).val / 2048; omega))
  · have h1 : (modOf t).val = 8 := if_neg h
    have h2 : (row t i).val = 256 * t.val + i.val := rfl
    rw [dif_neg (by omega), dif_neg (by omega)]
    exact congrArg (fun b => a (ix2 b k)) (Fin.ext (by show 8 + i.val / 8 = 8 + ((row t i).val - 16384) / 8; omega))

theorem tablePos_row (i : Fin 256) : tablePos (tabOf t) i = Cert.Proj.rowPos (row t i) := by
  have ht := pt_lt t
  have h2 : (row t i).val = 256 * t.val + i.val := rfl
  unfold tablePos Cert.Proj.rowPos
  by_cases h : t.val < 64
  · have h1 : (tabOf t).val = t.val % 8 := if_pos h
    rw [if_pos (by omega), if_pos (by omega)]
    exact congrArg (BitVec.ofNat 32) (by omega)
  · have h1 : (tabOf t).val = 8 := if_neg h
    rw [if_neg (by omega), if_neg (by omega)]
    have e : i.val % 8 = ((row t i).val - 16384) % 8 := by omega
    rw [e]

theorem x_at (i : Fin 256) (k : Fin 1024) : (iblk m c 0 t : FVec Ideal S256x1024 .f32) (ix2 i k)
    = Cert.Proj.rowX (fun b s k => m ((c : Thread nD τ).loc main_arg0) (ix3 b s k)) (fun b s k => m ((c : Thread nD τ).loc main_arg1) (ix3 b s k)) (row t i) k := by
  refine Eq.trans ?_ ((congrFun (V_x m c) _).trans (stacked_at _ _ (row t i) k))
  have e := (index_in t).1
  show V m c main_v2 (((cfg0.win 0).blk t).view.emb (ix2 i k)) = _
  refine congrArg (V m c main_v2) (funext fun a => Fin.ext ?_)
  match a with
  | ⟨0, _⟩ =>
    show win0_0.index t 0 * 256 + 1 * i.val = 256 * t.val + i.val
    rw [e.1]; omega
  | ⟨1, _⟩ =>
    show win0_0.index t 1 * 1024 + 1 * k.val = k.val
    rw [e.2]; omega

theorem w_at (k : Fin 1024) (j : Fin 6144) : (iblk m c 3 t : FVec Ideal S1024x6144 .bf16) (ix2 k j)
    = m ((c : Thread nD τ).loc main_arg4) (ix2 k j) := by
  refine Eq.trans ?_ (congrFun (V_w m c) (ix2 k j))
  have e := (index_in t).2.2.2.1
  show V m c main_v43 (((cfg0.win 3).blk t).view.emb (ix2 k j)) = _
  refine congrArg (V m c main_v43) (funext fun a => Fin.ext ?_)
  match a with
  | ⟨0, _⟩ =>
    show win0_3.index t 0 * 1024 + 1 * k.val = k.val
    rw [e.1]; omega
  | ⟨1, _⟩ =>
    show win0_3.index t 1 * 6144 + 1 * j.val = j.val
    rw [e.2]; omega

theorem sh_at (i : Fin 256) (k : Fin 1024) : (iblk m c 1 t : FVec Ideal S1x256x1024 .f32) (ix3 0 i k)
    = Cert.Proj.rowV (fun b k => m ((c : Thread nD τ).loc main_arg2) (ix2 b k)) (row t i) k := by
  refine Eq.trans ?_ ((congrFun (V_sh m c) _).trans (laidOut_row t _ i k))
  have e := (index_in t).2.1
  show V m c main_v34 (((cfg0.win 1).blk t).view.emb (ix3 0 i k)) = _
  refine congrArg (V m c main_v34) (funext fun a => Fin.ext ?_)
  match a with
  | ⟨0, _⟩ =>
    show win0_1.index t 0 * 1 + 1 * 0 = (modOf t).val
    rw [e.1]; show _ = (if t.val < 64 then t.val / 8 else 8); omega
  | ⟨1, _⟩ =>
    show win0_1.index t 1 * 256 + 1 * i.val = i.val
    rw [e.2.1]; omega
  | ⟨2, _⟩ =>
    show win0_1.index t 2 * 1024 + 1 * k.val = k.val
    rw [e.2.2]; omega

theorem sc_at (i : Fin 256) (k : Fin 1024) : (iblk m c 2 t : FVec Ideal S1x256x1024 .f32) (ix3 0 i k)
    = Cert.Proj.rowV (fun b k => m ((c : Thread nD τ).loc main_arg3) (ix2 b k)) (row t i) k := by
  refine Eq.trans ?_ ((congrFun (V_sc m c) _).trans (laidOut_row t _ i k))
  have e := (index_in t).2.2.1
  show V m c main_v42 (((cfg0.win 2).blk t).view.emb (ix3 0 i k)) = _
  refine congrArg (V m c main_v42) (funext fun a => Fin.ext ?_)
  match a with
  | ⟨0, _⟩ =>
    show win0_2.index t 0 * 1 + 1 * 0 = (modOf t).val
    rw [e.1]; show _ = (if t.val < 64 then t.val / 8 else 8); omega
  | ⟨1, _⟩ =>
    show win0_2.index t 1 * 256 + 1 * i.val = i.val
    rw [e.2.1]; omega
  | ⟨2, _⟩ =>
    show win0_2.index t 2 * 1024 + 1 * k.val = k.val
    rw [e.2.2]; omega

theorem cos_row (i : Fin 256) (k : Fin 128) : (iblk m c 4 t : FVec Ideal S1x256x128 .f32) (ix3 0 i k)
    = Ideal.cos (Cert.Proj.angle (Cert.Proj.rowPos (row t i)) k) := by
  rw [← tablePos_row]
  refine Eq.trans ?_ ((congrFun (V_cos m c) _).trans (cos_at (tabOf t) i k))
  have e := (index_in t).2.2.2.2.1
  show V m c main_v25 (((cfg0.win 4).blk t).view.emb (ix3 0 i k)) = _
  refine congrArg (V m c main_v25) (funext fun a => Fin.ext ?_)
  match a with
  | ⟨0, _⟩ =>
    show win0_4.index t 0 * 1 + 1 * 0 = (tabOf t).val
    rw [e.1]; show _ = (if t.val < 64 then t.val % 8 else 8); omega
  | ⟨1, _⟩ =>
    show win0_4.index t 1 * 256 + 1 * i.val = i.val
    rw [e.2.1]; omega
  | ⟨2, _⟩ =>
    show win0_4.index t 2 * 128 + 1 * k.val = k.val
    rw [e.2.2]; omega

theorem sin_row (i : Fin 256) (k : Fin 128) : (iblk m c 5 t : FVec Ideal S1x256x128 .f32) (ix3 0 i k)
    = Ideal.sin (Cert.Proj.angle (Cert.Proj.rowPos (row t i)) k) := by
  rw [← tablePos_row]
  refine Eq.trans ?_ ((congrFun (V_sin m c) _).trans (sin_at (tabOf t) i k))
  have e := (index_in t).2.2.2.2.2
  show V m c main_v26 (((cfg0.win 5).blk t).view.emb (ix3 0 i k)) = _
  refine congrArg (V m c main_v26) (funext fun a => Fin.ext ?_)
  match a with
  | ⟨0, _⟩ =>
    show win0_5.index t 0 * 1 + 1 * 0 = (tabOf t).val
    rw [e.1]; show _ = (if t.val < 64 then t.val % 8 else 8); omega
  | ⟨1, _⟩ =>
    show win0_5.index t 1 * 256 + 1 * i.val = i.val
    rw [e.2.1]; omega
  | ⟨2, _⟩ =>
    show win0_5.index t 2 * 128 + 1 * k.val = k.val
    rw [e.2.2]; omega

/-- The arguments of the call, as functions of plain indices. -/
abbrev xpf (b : Fin 8) (s : Fin 2048) (k : Fin 1024) : EReal := m ((c : Thread nD τ).loc main_arg0) (ix3 b s k)
abbrev xsf (b : Fin 32) (s : Fin 8) (k : Fin 1024) : EReal := m ((c : Thread nD τ).loc main_arg1) (ix3 b s k)
abbrev shf (b : Fin 40) (k : Fin 1024) : EReal := m ((c : Thread nD τ).loc main_arg2) (ix2 b k)
abbrev scf (b : Fin 40) (k : Fin 1024) : EReal := m ((c : Thread nD τ).loc main_arg3) (ix2 b k)
abbrev wf (k : Fin 1024) (j : Fin 6144) : EReal := m ((c : Thread nD τ).loc main_arg4) (ix2 k j)

theorem entry_at (i : Fin 256) (j : Fin 6144) : blockEntry (iblk m c 0 t) (iblk m c 1 t) (iblk m c 2 t) (iblk m c 3 t) i j
    = Cert.Proj.entry (xpf m c) (xsf m c) (shf m c) (scf m c) (wf m c) (row t i) j := by
  unfold blockEntry Cert.Proj.entry
  refine Finset.sum_congr rfl fun k _ => ?_
  rw [x_at, sh_at, sc_at, w_at]

theorem query_at (i : Fin 256) (d : Fin 1024) :
    out0_6 (iblk m c 0 t) (iblk m c 1 t) (iblk m c 2 t) (iblk m c 3 t) (iblk m c 4 t) (iblk m c 5 t) (ix2 i d)
    = Cert.Proj.query (xpf m c) (xsf m c) (shf m c) (scf m c) (wf m c) (row t i) d := by
  rw [left_q]
  unfold Cert.Proj.query
  simp only [entry_at, cos_row, sin_row]

theorem key_at (i : Fin 256) (d : Fin 1024) :
    out0_7 (iblk m c 0 t) (iblk m c 1 t) (iblk m c 2 t) (iblk m c 3 t) (iblk m c 4 t) (iblk m c 5 t) (ix2 i d)
    = Cert.Proj.key (xpf m c) (xsf m c) (shf m c) (scf m c) (wf m c) (row t i) d := by
  rw [left_k]
  unfold Cert.Proj.key
  simp only [entry_at, cos_row, sin_row]

theorem value_at (i : Fin 256) (d : Fin 2048) :
    out0_8 (iblk m c 0 t) (iblk m c 1 t) (iblk m c 2 t) (iblk m c 3 t) (iblk m c 4 t) (iblk m c 5 t) (ix2 i d)
    = Cert.Proj.value (xpf m c) (xsf m c) (shf m c) (scf m c) (wf m c) (row t i) d := by
  rw [left_v, entry_at]
  rfl

theorem gate_at (i : Fin 256) (d : Fin 2048) :
    out0_9 (iblk m c 0 t) (iblk m c 1 t) (iblk m c 2 t) (iblk m c 3 t) (iblk m c 4 t) (iblk m c 5 t) (ix2 i d)
    = Cert.Proj.gate (xpf m c) (xsf m c) (shf m c) (scf m c) (wf m c) (row t i) d := by
  rw [left_g, entry_at]
  rfl

end Cert.RetProjIdeal.Rows
-- ==== Proof.RetProj.RefOut.lean ====
module

public import proofs.«01_k».proof.Proof.Gen.RetProjReferenceIdeal.Run
public import proofs.«01_k».proof.Proof.RetProj.Spec
public import Idealize.ShloMosaic.Lib.Pointwise

/-! The reference's four results read at an index. -/

@[expose] public section

noncomputable section

namespace Cert.RetProjReferenceIdeal.Rows

open Idealize.ShloMosaic Idealize.SL.Sem Cert.RetProjReferenceIdeal Cert.RetProjReferenceIdeal.Gen

/-- The prompt's heads turned. -/
def headsP (lo hi : FVec Ideal S8x2048x4x128 .f32) (co si : FVec Ideal S2048x1x128 .f32) : FVec Ideal S8x2048x4x256 .f32 :=
  concatenate S8x2048x4x256 3 [⟨S8x2048x4x128, (subf (mulf lo (broadcastInDim S8x2048x4x128 ![0, 1, 2, 3] bcast_S1x2048x1x128_S8x2048x4x128_0_1_2_3 (broadcastInDim S1x2048x1x128 ![1, 2, 3] bcast_S2048x1x128_S1x2048x1x128_1_2_3 co))) (mulf hi (broadcastInDim S8x2048x4x128 ![0, 1, 2, 3] bcast_S1x2048x1x128_S8x2048x4x128_0_1_2_3 (broadcastInDim S1x2048x1x128 ![1, 2, 3] bcast_S2048x1x128_S1x2048x1x128_1_2_3 si))))⟩,
    ⟨S8x2048x4x128, (addf (mulf hi (broadcastInDim S8x2048x4x128 ![0, 1, 2, 3] bcast_S1x2048x1x128_S8x2048x4x128_0_1_2_3 (broadcastInDim S1x2048x1x128 ![1, 2, 3] bcast_S2048x1x128_S1x2048x1x128_1_2_3 co))) (mulf lo (broadcastInDim S8x2048x4x128 ![0, 1, 2, 3] bcast_S1x2048x1x128_S8x2048x4x128_0_1_2_3 (broadcastInDim S1x2048x1x128 ![1, 2, 3] bcast_S2048x1x128_S1x2048x1x128_1_2_3 si))))⟩] concatenates_S8x2048x4x128_S8x2048x4x128_S8x2048x4x256_d3

/-- The sample's. -/
def headsS (lo hi : FVec Ideal S32x8x4x128 .f32) (co si : FVec Ideal S8x1x128 .f32) : FVec Ideal S32x8x4x256 .f32 :=
  concatenate S32x8x4x256 3 [⟨S32x8x4x128, (subf (mulf lo (broadcastInDim S32x8x4x128 ![0, 1, 2, 3] bcast_S1x8x1x128_S32x8x4x128_0_1_2_3 (broadcastInDim S1x8x1x128 ![1, 2, 3] bcast_S8x1x128_S1x8x1x128_1_2_3 co))) (mulf hi (broadcastInDim S32x8x4x128 ![0, 1, 2, 3] bcast_S1x8x1x128_S32x8x4x128_0_1_2_3 (broadcastInDim S1x8x1x128 ![1, 2, 3] bcast_S8x1x128_S1x8x1x128_1_2_3 si))))⟩,
    ⟨S32x8x4x128, (addf (mulf hi (broadcastInDim S32x8x4x128 ![0, 1, 2, 3] bcast_S1x8x1x128_S32x8x4x128_0_1_2_3 (broadcastInDim S1x8x1x128 ![1, 2, 3] bcast_S8x1x128_S1x8x1x128_1_2_3 co))) (mulf lo (broadcastInDim S32x8x4x128 ![0, 1, 2, 3] bcast_S1x8x1x128_S32x8x4x128_0_1_2_3 (broadcastInDim S1x8x1x128 ![1, 2, 3] bcast_S8x1x128_S1x8x1x128_1_2_3 si))))⟩] concatenates_S32x8x4x128_S32x8x4x128_S32x8x4x256_d3

def qOf (a : FVec Ideal S8x2048x4x256 .f32) (b : FVec Ideal S32x8x4x256 .f32) : FVec Ideal S16640x1024 .bf16 :=
  truncf .bf16 (concatenate S16640x1024 0 [⟨S16384x1024, (shapeCast _ a shapeCasts_S8x2048x4x256_S16384x1024)⟩, ⟨S256x1024, (shapeCast _ b shapeCasts_S32x8x4x256_S256x1024)⟩] concatenates_S16384x1024_S256x1024_S16640x1024_d0) bitsLt_bf16_f32

def kOf (a : FVec Ideal S8x2048x4x256 .f32) (b : FVec Ideal S32x8x4x256 .f32) : FVec Ideal S16640x1024 .f32 :=
  concatenate S16640x1024 0 [⟨S16384x1024, (shapeCast _ (mulf a (broadcastInDim S8x2048x4x256 ![] bcast_S_S8x2048x4x256 (constant S_ .f32 0x3D800000#32))) shapeCasts_S8x2048x4x256_S16384x1024)⟩,
    ⟨S256x1024, (shapeCast _ (mulf b (broadcastInDim S32x8x4x256 ![] bcast_S_S32x8x4x256 (constant S_ .f32 0x3D800000#32))) shapeCasts_S32x8x4x256_S256x1024)⟩] concatenates_S16384x1024_S256x1024_S16640x1024_d0

def vOf (a : FVec Ideal S8x2048x6144 .f32) (b : FVec Ideal S32x8x6144 .f32) : FVec Ideal S16640x2048 .bf16 :=
  truncf .bf16 (concatenate S16640x2048 0 [⟨S16384x2048, (shapeCast _ (shapeCast _ (extractStridedSlice S8x2048x2048 ![0, 0, 2048] a slices_S8x2048x6144_S8x2048x2048_0_0_2048) shapeCasts_S8x2048x2048_S8x2048x4x512) shapeCasts_S8x2048x4x512_S16384x2048)⟩, ⟨S256x2048, (shapeCast _ (shapeCast _ (extractStridedSlice S32x8x2048 ![0, 0, 2048] b slices_S32x8x6144_S32x8x2048_0_0_2048) shapeCasts_S32x8x2048_S32x8x4x512) shapeCasts_S32x8x4x512_S256x2048)⟩] concatenates_S16384x2048_S256x2048_S16640x2048_d0) bitsLt_bf16_f32

def gOf (a : FVec Ideal S8x2048x6144 .f32) (b : FVec Ideal S32x8x6144 .f32) : FVec Ideal S16640x2048 .f32 :=
  concatenate S16640x2048 0 [⟨S16384x2048, (shapeCast _ (extractStridedSlice S8x2048x2048 ![0, 0, 4096] a slices_S8x2048x6144_S8x2048x2048_0_0_4096) shapeCasts_S8x2048x2048_S16384x2048)⟩, ⟨S256x2048, (shapeCast _ (extractStridedSlice S32x8x2048 ![0, 0, 4096] b slices_S32x8x6144_S32x8x2048_0_0_4096) shapeCasts_S32x8x2048_S256x2048)⟩] concatenates_S16384x2048_S256x2048_S16640x2048_d0

theorem qOf_at (a : FVec Ideal S8x2048x4x256 .f32) (b : FVec Ideal S32x8x4x256 .f32) (r : Fin 16640) (c : Fin 1024) :
    qOf a b (ix2 r c) = if h : r.val < 16384 then a (ix4 ⟨r.val / 2048, by omega⟩ ⟨r.val % 2048, by omega⟩ ⟨c.val / 256, by omega⟩ ⟨c.val % 256, by omega⟩)
      else b (ix4 ⟨(r.val - 16384) / 8, by omega⟩ ⟨(r.val - 16384) % 8, by omega⟩ ⟨c.val / 256, by omega⟩ ⟨c.val % 256, by omega⟩) := by
  unfold qOf
  pointwise

theorem kOf_at (a : FVec Ideal S8x2048x4x256 .f32) (b : FVec Ideal S32x8x4x256 .f32) (r : Fin 16640) (c : Fin 1024) :
    kOf a b (ix2 r c) = (if h : r.val < 16384 then a (ix4 ⟨r.val / 2048, by omega⟩ ⟨r.val % 2048, by omega⟩ ⟨c.val / 256, by omega⟩ ⟨c.val % 256, by omega⟩)
      else b (ix4 ⟨(r.val - 16384) / 8, by omega⟩ ⟨(r.val - 16384) % 8, by omega⟩ ⟨c.val / 256, by omega⟩ ⟨c.val % 256, by omega⟩) : EReal) * Ideal.ofBits .f32 0x3D800000#32 := by
  unfold kOf
  pointwise
  split <;> rfl

theorem cutvP_at (a : FVec Ideal S8x2048x6144 .f32) (b : Fin 8) (s : Fin 2048) (j : Fin 2048) :
    extractStridedSlice S8x2048x2048 ![0, 0, 2048] a slices_S8x2048x6144_S8x2048x2048_0_0_2048 (ix3 b s j) = a (ix3 b s ⟨2048 + j.val, by omega⟩) := by
  refine congrArg a (funext fun q => Fin.ext ?_)
  match q with
  | ⟨0, _⟩ => show 0 + b.val = b.val; omega
  | ⟨1, _⟩ => show 0 + s.val = s.val; omega
  | ⟨2, _⟩ => rfl

theorem cutvS_at (a : FVec Ideal S32x8x6144 .f32) (b : Fin 32) (s : Fin 8) (j : Fin 2048) :
    extractStridedSlice S32x8x2048 ![0, 0, 2048] a slices_S32x8x6144_S32x8x2048_0_0_2048 (ix3 b s j) = a (ix3 b s ⟨2048 + j.val, by omega⟩) := by
  refine congrArg a (funext fun q => Fin.ext ?_)
  match q with
  | ⟨0, _⟩ => show 0 + b.val = b.val; omega
  | ⟨1, _⟩ => show 0 + s.val = s.val; omega
  | ⟨2, _⟩ => rfl

theorem cutgP_at (a : FVec Ideal S8x2048x6144 .f32) (b : Fin 8) (s : Fin 2048) (j : Fin 2048) :
    extractStridedSlice S8x2048x2048 ![0, 0, 4096] a slices_S8x2048x6144_S8x2048x2048_0_0_4096 (ix3 b s j) = a (ix3 b s ⟨4096 + j.val, by omega⟩) := by
  refine congrArg a (funext fun q => Fin.ext ?_)
  match q with
  | ⟨0, _⟩ => show 0 + b.val = b.val; omega
  | ⟨1, _⟩ => show 0 + s.val = s.val; omega
  | ⟨2, _⟩ => rfl

theorem cutgS_at (a : FVec Ideal S32x8x6144 .f32) (b : Fin 32) (s : Fin 8) (j : Fin 2048) :
    extractStridedSlice S32x8x2048 ![0, 0, 4096] a slices_S32x8x6144_S32x8x2048_0_0_4096 (ix3 b s j) = a (ix3 b s ⟨4096 + j.val, by omega⟩) := by
  refine congrArg a (funext fun q => Fin.ext ?_)
  match q with
  | ⟨0, _⟩ => show 0 + b.val = b.val; omega
  | ⟨1, _⟩ => show 0 + s.val = s.val; omega
  | ⟨2, _⟩ => rfl

theorem stack_at (a : FVec Ideal S8x2048x2048 .f32) (b : FVec Ideal S32x8x2048 .f32) (r : Fin 16640) (c : Fin 2048) :
    concatenate S16640x2048 0 [⟨S16384x2048, (shapeCast _ a shapeCasts_S8x2048x2048_S16384x2048)⟩, ⟨S256x2048, (shapeCast _ b shapeCasts_S32x8x2048_S256x2048)⟩] concatenates_S16384x2048_S256x2048_S16640x2048_d0 (ix2 r c)
      = if h : r.val < 16384 then a (ix3 ⟨r.val / 2048, by omega⟩ ⟨r.val % 2048, by omega⟩ c)
      else b (ix3 ⟨(r.val - 16384) / 8, by omega⟩ ⟨(r.val - 16384) % 8, by omega⟩ c) := by
  pointwise

theorem stackHeads_at (a : FVec Ideal S8x2048x2048 .f32) (b : FVec Ideal S32x8x2048 .f32) (r : Fin 16640) (c : Fin 2048) :
    truncf .bf16 (concatenate S16640x2048 0 [⟨S16384x2048, (shapeCast _ (shapeCast _ a shapeCasts_S8x2048x2048_S8x2048x4x512) shapeCasts_S8x2048x4x512_S16384x2048)⟩, ⟨S256x2048, (shapeCast _ (shapeCast _ b shapeCasts_S32x8x2048_S32x8x4x512) shapeCasts_S32x8x4x512_S256x2048)⟩] concatenates_S16384x2048_S256x2048_S16640x2048_d0 : FVec Ideal S16640x2048 .f32) bitsLt_bf16_f32 (ix2 r c)
      = if h : r.val < 16384 then a (ix3 ⟨r.val / 2048, by omega⟩ ⟨r.val % 2048, by omega⟩ c)
      else b (ix3 ⟨(r.val - 16384) / 8, by omega⟩ ⟨(r.val - 16384) % 8, by omega⟩ c) := by
  pointwise

theorem vOf_at (a : FVec Ideal S8x2048x6144 .f32) (b : FVec Ideal S32x8x6144 .f32) (r : Fin 16640) (c : Fin 2048) :
    vOf a b (ix2 r c) = if h : r.val < 16384 then a (ix3 ⟨r.val / 2048, by omega⟩ ⟨r.val % 2048, by omega⟩ ⟨2048 + c.val, by omega⟩)
      else b (ix3 ⟨(r.val - 16384) / 8, by omega⟩ ⟨(r.val - 16384) % 8, by omega⟩ ⟨2048 + c.val, by omega⟩) := by
  unfold vOf
  rw [stackHeads_at]
  by_cases h : r.val < 16384
  · rw [dif_pos h, dif_pos h]; exact cutvP_at _ _ _ _
  · rw [dif_neg h, dif_neg h]; exact cutvS_at _ _ _ _

theorem gOf_at (a : FVec Ideal S8x2048x6144 .f32) (b : FVec Ideal S32x8x6144 .f32) (r : Fin 16640) (c : Fin 2048) :
    gOf a b (ix2 r c) = if h : r.val < 16384 then a (ix3 ⟨r.val / 2048, by omega⟩ ⟨r.val % 2048, by omega⟩ ⟨4096 + c.val, by omega⟩)
      else b (ix3 ⟨(r.val - 16384) / 8, by omega⟩ ⟨(r.val - 16384) % 8, by omega⟩ ⟨4096 + c.val, by omega⟩) := by
  unfold gOf
  rw [stack_at]
  by_cases h : r.val < 16384
  · rw [dif_pos h, dif_pos h]; exact cutgP_at _ _ _ _
  · rw [dif_neg h, dif_neg h]; exact cutgS_at _ _ _ _

theorem headsP_at (lo hi : FVec Ideal S8x2048x4x128 .f32) (co si : FVec Ideal S2048x1x128 .f32) (b : Fin 8) (s : Fin 2048) (h : Fin 4) (d : Fin 256) :
    headsP lo hi co si (ix4 b s h d) = if hd : d.val < 128 then lo (ix4 b s h ⟨d.val, hd⟩) * co (ix3 s 0 ⟨d.val, hd⟩) - hi (ix4 b s h ⟨d.val, hd⟩) * si (ix3 s 0 ⟨d.val, hd⟩)
      else (hi (ix4 b s h ⟨d.val - 128, by omega⟩) * co (ix3 s 0 ⟨d.val - 128, by omega⟩) + lo (ix4 b s h ⟨d.val - 128, by omega⟩) * si (ix3 s 0 ⟨d.val - 128, by omega⟩) : EReal) := by
  unfold headsP
  pointwise

theorem headsS_at (lo hi : FVec Ideal S32x8x4x128 .f32) (co si : FVec Ideal S8x1x128 .f32) (b : Fin 32) (s : Fin 8) (h : Fin 4) (d : Fin 256) :
    headsS lo hi co si (ix4 b s h d) = if hd : d.val < 128 then lo (ix4 b s h ⟨d.val, hd⟩) * co (ix3 s 0 ⟨d.val, hd⟩) - hi (ix4 b s h ⟨d.val, hd⟩) * si (ix3 s 0 ⟨d.val, hd⟩)
      else (hi (ix4 b s h ⟨d.val - 128, by omega⟩) * co (ix3 s 0 ⟨d.val - 128, by omega⟩) + lo (ix4 b s h ⟨d.val - 128, by omega⟩) * si (ix3 s 0 ⟨d.val - 128, by omega⟩) : EReal) := by
  unfold headsS
  pointwise

/-- A row's heads, given by the halves of each head's columns, are the row turned. -/
theorem turned_of_halves (z : Fin 1024 → EReal) (co si : Fin 128 → EReal) (lo hi : Fin 4 → Fin 128 → EReal)
    (hlo : ∀ h j, lo h j = z ⟨h.val * 256 + j.val, by omega⟩) (hhi : ∀ h j, hi h j = z ⟨h.val * 256 + (128 + j.val), by omega⟩) (c : Fin 1024) :
    (if hd : c.val % 256 < 128 then lo ⟨c.val / 256, by omega⟩ ⟨c.val % 256, hd⟩ * co ⟨c.val % 256, hd⟩ - hi ⟨c.val / 256, by omega⟩ ⟨c.val % 256, hd⟩ * si ⟨c.val % 256, hd⟩
      else hi ⟨c.val / 256, by omega⟩ ⟨c.val % 256 - 128, by omega⟩ * co ⟨c.val % 256 - 128, by omega⟩ + lo ⟨c.val / 256, by omega⟩ ⟨c.val % 256 - 128, by omega⟩ * si ⟨c.val % 256 - 128, by omega⟩)
    = Cert.Proj.turned z co si c := by
  unfold Cert.Proj.turned
  by_cases hd : c.val % 256 < 128
  · rw [dif_pos hd, dif_pos hd, hlo, hhi]
    have e1 : (⟨c.val / 256 * 256 + c.val % 256, by omega⟩ : Fin 1024) = c := Fin.ext (by show c.val / 256 * 256 + c.val % 256 = c.val; omega)
    have e2 : (⟨c.val / 256 * 256 + (128 + c.val % 256), by omega⟩ : Fin 1024) = ⟨c.val + 128, by omega⟩ :=
      Fin.ext (by show c.val / 256 * 256 + (128 + c.val % 256) = c.val + 128; omega)
    dsimp only
    rw [e1, e2]
  · rw [dif_neg hd, dif_neg hd, hlo, hhi]
    have e1 : (⟨c.val / 256 * 256 + (128 + (c.val % 256 - 128)), by omega⟩ : Fin 1024) = c :=
      Fin.ext (by show c.val / 256 * 256 + (128 + (c.val % 256 - 128)) = c.val; omega)
    have e2 : (⟨c.val / 256 * 256 + (c.val % 256 - 128), by omega⟩ : Fin 1024) = ⟨c.val - 128, by omega⟩ :=
      Fin.ext (by show c.val / 256 * 256 + (c.val % 256 - 128) = c.val - 128; omega)
    dsimp only
    rw [e1, e2]

variable (V0 : Valuation τ sig (Elt Ideal))

/-- The reference's arguments, as functions of plain indices. -/
abbrev xp (b : Fin 8) (s : Fin 2048) (k : Fin 1024) : EReal := (V0 (Proc.devRef .tc main_arg0) : FVec Ideal S8x2048x1024 .f32) (ix3 b s k)
abbrev xs (b : Fin 32) (s : Fin 8) (k : Fin 1024) : EReal := (V0 (Proc.devRef .tc main_arg1) : FVec Ideal S32x8x1024 .f32) (ix3 b s k)
abbrev sh (b : Fin 40) (k : Fin 1024) : EReal := (V0 (Proc.devRef .tc main_arg2) : FVec Ideal S40x1024 .f32) (ix2 b k)
abbrev sc (b : Fin 40) (k : Fin 1024) : EReal := (V0 (Proc.devRef .tc main_arg3) : FVec Ideal S40x1024 .f32) (ix2 b k)
abbrev w (k : Fin 1024) (j : Fin 6144) : EReal := (V0 (Proc.devRef .tc main_arg4) : FVec Ideal S1024x6144 .f32) (ix2 k j)

theorem promptRow_at (b : Fin 8) (s : Fin 2048) (j : Fin 6144) : (Value.res_main_v26 V0 : FVec Ideal S8x2048x6144 .f32) (ix3 b s j)
    = ∑ k, (xp V0 b s k * (1 + sc V0 ⟨b.val, by omega⟩ k) + sh V0 ⟨b.val, by omega⟩ k) * w V0 k j := by
  unfold Value.res_main_v26
  pointwise

theorem sampleRow_at (b : Fin 32) (s : Fin 8) (j : Fin 6144) : (Value.res_main_v102 V0 : FVec Ideal S32x8x6144 .f32) (ix3 b s j)
    = ∑ k, (xs V0 b s k * (1 + sc V0 ⟨8 + b.val, by omega⟩ k) + sh V0 ⟨8 + b.val, by omega⟩ k) * w V0 k j := by
  unfold Value.res_main_v102
  pointwise

theorem prompt_entry (r : Fin 16640) (h : r.val < 16384) (j : Fin 6144) :
    (Value.res_main_v26 V0 : FVec Ideal S8x2048x6144 .f32) (ix3 ⟨r.val / 2048, by omega⟩ ⟨r.val % 2048, by omega⟩ j)
      = Cert.Proj.entry (xp V0) (xs V0) (sh V0) (sc V0) (w V0) r j := by
  rw [promptRow_at]
  unfold Cert.Proj.entry Cert.Proj.rowX Cert.Proj.rowV
  simp only [dif_pos h]

theorem sample_entry (r : Fin 16640) (h : ¬ r.val < 16384) (j : Fin 6144) :
    (Value.res_main_v102 V0 : FVec Ideal S32x8x6144 .f32) (ix3 ⟨(r.val - 16384) / 8, by omega⟩ ⟨(r.val - 16384) % 8, by omega⟩ j)
      = Cert.Proj.entry (xp V0) (xs V0) (sh V0) (sc V0) (w V0) r j := by
  rw [sampleRow_at]
  unfold Cert.Proj.entry Cert.Proj.rowX Cert.Proj.rowV
  simp only [dif_neg h]

theorem samplePos_at (s : Fin 8) : (Value.res_main_v24 V0 : IVec S8 32) (ix1 s) = IntOp.addi 16384#32 (IntOp.minsi (BitVec.ofNat 32 s.val) 3#32) := by
  unfold Value.res_main_v24
  pointwise

theorem half50_at (b : Fin 8) (s : Fin 2048) (h : Fin 4) (j : Fin 128) : (Value.res_main_v50 V0 : FVec Ideal S8x2048x4x128 .f32) (ix4 b s h j)
    = (Value.res_main_v26 V0 : FVec Ideal S8x2048x6144 .f32) (ix3 b s ⟨h.val * 256 + j.val, by omega⟩) := by
  unfold Value.res_main_v50 Value.res_main_v28
  pointwise

theorem half51_at (b : Fin 8) (s : Fin 2048) (h : Fin 4) (j : Fin 128) : (Value.res_main_v51 V0 : FVec Ideal S8x2048x4x128 .f32) (ix4 b s h j)
    = (Value.res_main_v26 V0 : FVec Ideal S8x2048x6144 .f32) (ix3 b s ⟨h.val * 256 + (128 + j.val), by omega⟩) := by
  unfold Value.res_main_v51 Value.res_main_v28
  pointwise

theorem half83_at (b : Fin 8) (s : Fin 2048) (h : Fin 4) (j : Fin 128) : (Value.res_main_v83 V0 : FVec Ideal S8x2048x4x128 .f32) (ix4 b s h j)
    = (Value.res_main_v26 V0 : FVec Ideal S8x2048x6144 .f32) (ix3 b s ⟨1024 + (h.val * 256 + j.val), by omega⟩) := by
  unfold Value.res_main_v83 Value.res_main_v30
  pointwise

theorem half84_at (b : Fin 8) (s : Fin 2048) (h : Fin 4) (j : Fin 128) : (Value.res_main_v84 V0 : FVec Ideal S8x2048x4x128 .f32) (ix4 b s h j)
    = (Value.res_main_v26 V0 : FVec Ideal S8x2048x6144 .f32) (ix3 b s ⟨1024 + (h.val * 256 + (128 + j.val)), by omega⟩) := by
  unfold Value.res_main_v84 Value.res_main_v30
  pointwise

theorem half126_at (b : Fin 32) (s : Fin 8) (h : Fin 4) (j : Fin 128) : (Value.res_main_v126 V0 : FVec Ideal S32x8x4x128 .f32) (ix4 b s h j)
    = (Value.res_main_v102 V0 : FVec Ideal S32x8x6144 .f32) (ix3 b s ⟨h.val * 256 + j.val, by omega⟩) := by
  unfold Value.res_main_v126 Value.res_main_v104
  pointwise

theorem half127_at (b : Fin 32) (s : Fin 8) (h : Fin 4) (j : Fin 128) : (Value.res_main_v127 V0 : FVec Ideal S32x8x4x128 .f32) (ix4 b s h j)
    = (Value.res_main_v102 V0 : FVec Ideal S32x8x6144 .f32) (ix3 b s ⟨h.val * 256 + (128 + j.val), by omega⟩) := by
  unfold Value.res_main_v127 Value.res_main_v104
  pointwise

theorem half159_at (b : Fin 32) (s : Fin 8) (h : Fin 4) (j : Fin 128) : (Value.res_main_v159 V0 : FVec Ideal S32x8x4x128 .f32) (ix4 b s h j)
    = (Value.res_main_v102 V0 : FVec Ideal S32x8x6144 .f32) (ix3 b s ⟨1024 + (h.val * 256 + j.val), by omega⟩) := by
  unfold Value.res_main_v159 Value.res_main_v106
  pointwise

theorem half160_at (b : Fin 32) (s : Fin 8) (h : Fin 4) (j : Fin 128) : (Value.res_main_v160 V0 : FVec Ideal S32x8x4x128 .f32) (ix4 b s h j)
    = (Value.res_main_v102 V0 : FVec Ideal S32x8x6144 .f32) (ix3 b s ⟨1024 + (h.val * 256 + (128 + j.val)), by omega⟩) := by
  unfold Value.res_main_v160 Value.res_main_v106
  pointwise

theorem table47_at (s : Fin 2048) (j : Fin 128) : (Value.res_main_v47 V0 : FVec Ideal S2048x1x128 .f32) (ix3 s 0 j)
    = Ideal.cos (Cert.Proj.angle (BitVec.ofNat 32 s.val) j) := by
  unfold Value.res_main_v47 Value.res_main_v45 Value.res_main_v25 Cert.Proj.angle
  pointwise

theorem table49_at (s : Fin 2048) (j : Fin 128) : (Value.res_main_v49 V0 : FVec Ideal S2048x1x128 .f32) (ix3 s 0 j)
    = Ideal.sin (Cert.Proj.angle (BitVec.ofNat 32 s.val) j) := by
  unfold Value.res_main_v49 Value.res_main_v45 Value.res_main_v25 Cert.Proj.angle
  pointwise

theorem table80_at (s : Fin 2048) (j : Fin 128) : (Value.res_main_v80 V0 : FVec Ideal S2048x1x128 .f32) (ix3 s 0 j)
    = Ideal.cos (Cert.Proj.angle (BitVec.ofNat 32 s.val) j) := by
  unfold Value.res_main_v80 Value.res_main_v78 Value.res_main_v25 Cert.Proj.angle
  pointwise

theorem table82_at (s : Fin 2048) (j : Fin 128) : (Value.res_main_v82 V0 : FVec Ideal S2048x1x128 .f32) (ix3 s 0 j)
    = Ideal.sin (Cert.Proj.angle (BitVec.ofNat 32 s.val) j) := by
  unfold Value.res_main_v82 Value.res_main_v78 Value.res_main_v25 Cert.Proj.angle
  pointwise

theorem table123_at (s : Fin 8) (j : Fin 128) : (Value.res_main_v123 V0 : FVec Ideal S8x1x128 .f32) (ix3 s 0 j)
    = Ideal.cos (Cert.Proj.angle (IntOp.addi 16384#32 (IntOp.minsi (BitVec.ofNat 32 s.val) 3#32)) j) := by
  rw [← samplePos_at V0 s]
  unfold Value.res_main_v123 Value.res_main_v121 Cert.Proj.angle
  pointwise

theorem table125_at (s : Fin 8) (j : Fin 128) : (Value.res_main_v125 V0 : FVec Ideal S8x1x128 .f32) (ix3 s 0 j)
    = Ideal.sin (Cert.Proj.angle (IntOp.addi 16384#32 (IntOp.minsi (BitVec.ofNat 32 s.val) 3#32)) j) := by
  rw [← samplePos_at V0 s]
  unfold Value.res_main_v125 Value.res_main_v121 Cert.Proj.angle
  pointwise

theorem table156_at (s : Fin 8) (j : Fin 128) : (Value.res_main_v156 V0 : FVec Ideal S8x1x128 .f32) (ix3 s 0 j)
    = Ideal.cos (Cert.Proj.angle (IntOp.addi 16384#32 (IntOp.minsi (BitVec.ofNat 32 s.val) 3#32)) j) := by
  rw [← samplePos_at V0 s]
  unfold Value.res_main_v156 Value.res_main_v154 Cert.Proj.angle
  pointwise

theorem table158_at (s : Fin 8) (j : Fin 128) : (Value.res_main_v158 V0 : FVec Ideal S8x1x128 .f32) (ix3 s 0 j)
    = Ideal.sin (Cert.Proj.angle (IntOp.addi 16384#32 (IntOp.minsi (BitVec.ofNat 32 s.val) 3#32)) j) := by
  rw [← samplePos_at V0 s]
  unfold Value.res_main_v158 Value.res_main_v154 Cert.Proj.angle
  pointwise

/-- The reference's query rows. -/
abbrev resQ : FVec Ideal S16640x1024 .bf16 :=
  qOf (headsP (Value.res_main_v50 V0) (Value.res_main_v51 V0) (Value.res_main_v47 V0) (Value.res_main_v49 V0))
    (headsS (Value.res_main_v126 V0) (Value.res_main_v127 V0) (Value.res_main_v123 V0) (Value.res_main_v125 V0))

theorem resQ_at (r : Fin 16640) (c : Fin 1024) : resQ V0 (ix2 r c) = Cert.Proj.query (xp V0) (xs V0) (sh V0) (sc V0) (w V0) r c := by
  unfold resQ Cert.Proj.query
  rw [qOf_at]
  by_cases h : r.val < 16384
  · have ep : Cert.Proj.rowPos r = BitVec.ofNat 32 (r.val % 2048) := if_pos h
    rw [dif_pos h, headsP_at, ep]
    simp only [half50_at, half51_at, table47_at, table49_at, prompt_entry V0 r h]
    exact turned_of_halves (fun j => Cert.Proj.entry (xp V0) (xs V0) (sh V0) (sc V0) (w V0) r ⟨j.val, by omega⟩)
      (fun j => Ideal.cos (Cert.Proj.angle (BitVec.ofNat 32 (r.val % 2048)) j)) (fun j => Ideal.sin (Cert.Proj.angle (BitVec.ofNat 32 (r.val % 2048)) j))
      (fun h' j => Cert.Proj.entry (xp V0) (xs V0) (sh V0) (sc V0) (w V0) r ⟨(h'.val * 256 + j.val), by omega⟩)
      (fun h' j => Cert.Proj.entry (xp V0) (xs V0) (sh V0) (sc V0) (w V0) r ⟨(h'.val * 256 + (128 + j.val)), by omega⟩)
      (fun _ _ => rfl) (fun _ _ => rfl) c
  · have ep : Cert.Proj.rowPos r = IntOp.addi 16384#32 (IntOp.minsi (BitVec.ofNat 32 ((r.val - 16384) % 8)) 3#32) := if_neg h
    rw [dif_neg h, headsS_at, ep]
    simp only [half126_at, half127_at, table123_at, table125_at, sample_entry V0 r h]
    exact turned_of_halves (fun j => Cert.Proj.entry (xp V0) (xs V0) (sh V0) (sc V0) (w V0) r ⟨j.val, by omega⟩)
      (fun j => Ideal.cos (Cert.Proj.angle (IntOp.addi 16384#32 (IntOp.minsi (BitVec.ofNat 32 ((r.val - 16384) % 8)) 3#32)) j)) (fun j => Ideal.sin (Cert.Proj.angle (IntOp.addi 16384#32 (IntOp.minsi (BitVec.ofNat 32 ((r.val - 16384) % 8)) 3#32)) j))
      (fun h' j => Cert.Proj.entry (xp V0) (xs V0) (sh V0) (sc V0) (w V0) r ⟨(h'.val * 256 + j.val), by omega⟩)
      (fun h' j => Cert.Proj.entry (xp V0) (xs V0) (sh V0) (sc V0) (w V0) r ⟨(h'.val * 256 + (128 + j.val)), by omega⟩)
      (fun _ _ => rfl) (fun _ _ => rfl) c

/-- The reference's key rows. -/
abbrev resK : FVec Ideal S16640x1024 .f32 :=
  kOf (headsP (Value.res_main_v83 V0) (Value.res_main_v84 V0) (Value.res_main_v80 V0) (Value.res_main_v82 V0))
    (headsS (Value.res_main_v159 V0) (Value.res_main_v160 V0) (Value.res_main_v156 V0) (Value.res_main_v158 V0))

theorem resK_at (r : Fin 16640) (c : Fin 1024) : resK V0 (ix2 r c) = Cert.Proj.key (xp V0) (xs V0) (sh V0) (sc V0) (w V0) r c := by
  unfold resK Cert.Proj.key
  rw [kOf_at]
  refine congrArg (fun e : EReal => e * Ideal.ofBits .f32 0x3D800000#32) ?_
  by_cases h : r.val < 16384
  · have ep : Cert.Proj.rowPos r = BitVec.ofNat 32 (r.val % 2048) := if_pos h
    rw [dif_pos h, headsP_at, ep]
    simp only [half83_at, half84_at, table80_at, table82_at, prompt_entry V0 r h]
    exact turned_of_halves (fun j => Cert.Proj.entry (xp V0) (xs V0) (sh V0) (sc V0) (w V0) r ⟨1024 + j.val, by omega⟩)
      (fun j => Ideal.cos (Cert.Proj.angle (BitVec.ofNat 32 (r.val % 2048)) j)) (fun j => Ideal.sin (Cert.Proj.angle (BitVec.ofNat 32 (r.val % 2048)) j))
      (fun h' j => Cert.Proj.entry (xp V0) (xs V0) (sh V0) (sc V0) (w V0) r ⟨1024 + (h'.val * 256 + j.val), by omega⟩)
      (fun h' j => Cert.Proj.entry (xp V0) (xs V0) (sh V0) (sc V0) (w V0) r ⟨1024 + (h'.val * 256 + (128 + j.val)), by omega⟩)
      (fun _ _ => rfl) (fun _ _ => rfl) c
  · have ep : Cert.Proj.rowPos r = IntOp.addi 16384#32 (IntOp.minsi (BitVec.ofNat 32 ((r.val - 16384) % 8)) 3#32) := if_neg h
    rw [dif_neg h, headsS_at, ep]
    simp only [half159_at, half160_at, table156_at, table158_at, sample_entry V0 r h]
    exact turned_of_halves (fun j => Cert.Proj.entry (xp V0) (xs V0) (sh V0) (sc V0) (w V0) r ⟨1024 + j.val, by omega⟩)
      (fun j => Ideal.cos (Cert.Proj.angle (IntOp.addi 16384#32 (IntOp.minsi (BitVec.ofNat 32 ((r.val - 16384) % 8)) 3#32)) j)) (fun j => Ideal.sin (Cert.Proj.angle (IntOp.addi 16384#32 (IntOp.minsi (BitVec.ofNat 32 ((r.val - 16384) % 8)) 3#32)) j))
      (fun h' j => Cert.Proj.entry (xp V0) (xs V0) (sh V0) (sc V0) (w V0) r ⟨1024 + (h'.val * 256 + j.val), by omega⟩)
      (fun h' j => Cert.Proj.entry (xp V0) (xs V0) (sh V0) (sc V0) (w V0) r ⟨1024 + (h'.val * 256 + (128 + j.val)), by omega⟩)
      (fun _ _ => rfl) (fun _ _ => rfl) c

/-- The reference's value rows. -/
abbrev resV : FVec Ideal S16640x2048 .bf16 := vOf (Value.res_main_v26 V0) (Value.res_main_v102 V0)

theorem resV_at (r : Fin 16640) (c : Fin 2048) : resV V0 (ix2 r c) = Cert.Proj.value (xp V0) (xs V0) (sh V0) (sc V0) (w V0) r c := by
  unfold resV Cert.Proj.value
  rw [vOf_at]
  by_cases h : r.val < 16384
  · rw [dif_pos h, prompt_entry V0 r h]
  · rw [dif_neg h, sample_entry V0 r h]

/-- The reference's gate rows. -/
abbrev resG : FVec Ideal S16640x2048 .f32 := gOf (Value.res_main_v26 V0) (Value.res_main_v102 V0)

theorem resG_at (r : Fin 16640) (c : Fin 2048) : resG V0 (ix2 r c) = Cert.Proj.gate (xp V0) (xs V0) (sh V0) (sc V0) (w V0) r c := by
  unfold resG Cert.Proj.gate
  rw [gOf_at]
  by_cases h : r.val < 16384
  · rw [dif_pos h, prompt_entry V0 r h]
  · rw [dif_neg h, sample_entry V0 r h]

end Cert.RetProjReferenceIdeal.Rows
-- ==== Proof.RetProj.Claims.lean ====
module

public import proofs.«01_k».proof.Defs
public import proofs.«01_k».proof.Proof.RetProj.Points
public import proofs.«01_k».proof.Proof.RetProj.RefOut
public import proofs.«01_k».proof.Proof.Gen.RetProjIdeal.Value
public import proofs.«01_k».proof.Proof.Gen.RetProj.Frame
public import Idealize.ShloMosaic.Adequacy
public import Idealize.ShloMosaic.Init

/-! The four result arrays of the projection call, and its claims. -/

@[expose] public section

noncomputable section

namespace Cert.RetProjIdeal.Rows

open Idealize.ShloMosaic Idealize.ShloMosaic.TcCoe Idealize.SL.Sem Cert.RetProjIdeal Cert.RetProjIdeal.Gen
open Idealize.ShloMosaic.Pipeline (Dat)

variable (m : (ℓ : Loc nD τ sig) → Buf (Elt Ideal) ℓ) (c : Dev nD)

/-- The query rows of the arguments. -/
def resultQ : FVec Ideal S16640x1024 .bf16 := fun y =>
  Cert.Proj.query (xpf m c) (xsf m c) (shf m c) (scf m c) (wf m c) ⟨(y 0).val, (y 0).isLt⟩ ⟨(y 1).val, (y 1).isLt⟩

theorem flushed_Q (t : Fin cfg0.N) : (dats m 0 c).flushed 6 t = ((cfg0.win 6).blk t).view.read (Elt Ideal) (resultQ m c) := by
  rw [Cert.RetProjIdeal.Value.flushed6]
  funext j
  obtain ⟨i, e, rfl⟩ : ∃ (i : Fin 256) (e : Fin 1024), j = ix2 i e := ⟨j 0, j 1, funext fun a => match a with | ⟨0, _⟩ => rfl | ⟨1, _⟩ => rfl⟩
  refine (query_at m c t i e).trans ?_
  show _ = resultQ m c (((cfg0.win 6).blk t).view.emb (ix2 i e))
  have e' := (index_out t).1
  have hemb : ((cfg0.win 6).blk t).view.emb (ix2 i e) = (ix2 (row t i) e : S16640x1024.Idx) := by
    refine funext fun a => Fin.ext ?_
    match a with
    | ⟨0, _⟩ =>
      show win0_6.index t 0 * 256 + 1 * i.val = 256 * t.val + i.val
      rw [e'.1]; omega
    | ⟨1, _⟩ =>
      show win0_6.index t 1 * 1024 + 1 * e.val = e.val
      rw [e'.2]; omega
  rw [hemb]
  rfl

theorem final_Q : (dats m 0 c).arrAt 6 cfg0.N = resultQ m c :=
  (dats m 0 c).arrAt_eq_of_cover 6 (resultQ m c) (fun t _ => flushed_Q m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_6 _, ?_⟩
    have e' := (index_out ⟨(i 0 : Nat) / 256, ht⟩).1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v44_0).slice (win0_6.rect t)).set
    rw [View.set_slice_whole, Rect.mem_set_unit]
    intro a
    match a with
    | ⟨0, _⟩ =>
      show win0_6.index t 0 * 256 ≤ (i 0 : Nat) ∧ (i 0 : Nat) < win0_6.index t 0 * 256 + 256
      rw [e'.1]; omega
    | ⟨1, _⟩ =>
      show win0_6.index t 1 * 1024 ≤ (i 1 : Nat) ∧ (i 1 : Nat) < win0_6.index t 1 * 1024 + 1024
      rw [e'.2]; omega

/-- The key rows of the arguments. -/
def resultK : FVec Ideal S16640x1024 .f32 := fun y =>
  Cert.Proj.key (xpf m c) (xsf m c) (shf m c) (scf m c) (wf m c) ⟨(y 0).val, (y 0).isLt⟩ ⟨(y 1).val, (y 1).isLt⟩

theorem flushed_K (t : Fin cfg0.N) : (dats m 0 c).flushed 7 t = ((cfg0.win 7).blk t).view.read (Elt Ideal) (resultK m c) := by
  rw [Cert.RetProjIdeal.Value.flushed7]
  funext j
  obtain ⟨i, e, rfl⟩ : ∃ (i : Fin 256) (e : Fin 1024), j = ix2 i e := ⟨j 0, j 1, funext fun a => match a with | ⟨0, _⟩ => rfl | ⟨1, _⟩ => rfl⟩
  refine (key_at m c t i e).trans ?_
  show _ = resultK m c (((cfg0.win 7).blk t).view.emb (ix2 i e))
  have e' := (index_out t).2.1
  have hemb : ((cfg0.win 7).blk t).view.emb (ix2 i e) = (ix2 (row t i) e : S16640x1024.Idx) := by
    refine funext fun a => Fin.ext ?_
    match a with
    | ⟨0, _⟩ =>
      show win0_7.index t 0 * 256 + 1 * i.val = 256 * t.val + i.val
      rw [e'.1]; omega
    | ⟨1, _⟩ =>
      show win0_7.index t 1 * 1024 + 1 * e.val = e.val
      rw [e'.2]; omega
  rw [hemb]
  rfl

theorem final_K : (dats m 0 c).arrAt 7 cfg0.N = resultK m c :=
  (dats m 0 c).arrAt_eq_of_cover 7 (resultK m c) (fun t _ => flushed_K m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_7 _, ?_⟩
    have e' := (index_out ⟨(i 0 : Nat) / 256, ht⟩).2.1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v44_1).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [e'.1]; omega
    | ⟨1, _⟩ =>
      show win0_7.index t 1 * 1024 ≤ (i 1 : Nat) ∧ (i 1 : Nat) < win0_7.index t 1 * 1024 + 1024
      rw [e'.2]; omega

/-- The value rows of the arguments. -/
def resultV : FVec Ideal S16640x2048 .bf16 := fun y =>
  Cert.Proj.value (xpf m c) (xsf m c) (shf m c) (scf m c) (wf m c) ⟨(y 0).val, (y 0).isLt⟩ ⟨(y 1).val, (y 1).isLt⟩

theorem flushed_V (t : Fin cfg0.N) : (dats m 0 c).flushed 8 t = ((cfg0.win 8).blk t).view.read (Elt Ideal) (resultV m c) := by
  rw [Cert.RetProjIdeal.Value.flushed8]
  funext j
  obtain ⟨i, e, rfl⟩ : ∃ (i : Fin 256) (e : Fin 2048), j = ix2 i e := ⟨j 0, j 1, funext fun a => match a with | ⟨0, _⟩ => rfl | ⟨1, _⟩ => rfl⟩
  refine (value_at m c t i e).trans ?_
  show _ = resultV m c (((cfg0.win 8).blk t).view.emb (ix2 i e))
  have e' := (index_out t).2.2.1
  have hemb : ((cfg0.win 8).blk t).view.emb (ix2 i e) = (ix2 (row t i) e : S16640x2048.Idx) := by
    refine funext fun a => Fin.ext ?_
    match a with
    | ⟨0, _⟩ =>
      show win0_8.index t 0 * 256 + 1 * i.val = 256 * t.val + i.val
      rw [e'.1]; omega
    | ⟨1, _⟩ =>
      show win0_8.index t 1 * 2048 + 1 * e.val = e.val
      rw [e'.2]; omega
  rw [hemb]
  rfl

theorem final_V : (dats m 0 c).arrAt 8 cfg0.N = resultV m c :=
  (dats m 0 c).arrAt_eq_of_cover 8 (resultV m c) (fun t _ => flushed_V m c t) fun i => by
    have h0 : (i 0 : Nat) < 16640 := (i 0).isLt
    have h1 : (i 1 : Nat) < 2048 := (i 1).isLt
    have ht : (i 0 : Nat) / 256 < cfg0.N := by rw [show cfg0.N = 65 from N_0]; omega
    refine ⟨⟨(i 0 : Nat) / 256, ht⟩, flush0_8 _, ?_⟩
    have e' := (index_out ⟨(i 0 : Nat) / 256, ht⟩).2.2.1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v44_2).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [e'.1]; omega
    | ⟨1, _⟩ =>
      show win0_8.index t 1 * 2048 ≤ (i 1 : Nat) ∧ (i 1 : Nat) < win0_8.index t 1 * 2048 + 2048
      rw [e'.2]; omega

/-- The gate rows of the arguments. -/
def resultG : FVec Ideal S16640x2048 .f32 := fun y =>
  Cert.Proj.gate (xpf m c) (xsf m c) (shf m c) (scf m c) (wf m c) ⟨(y 0).val, (y 0).isLt⟩ ⟨(y 1).val, (y 1).isLt⟩

theorem flushed_G (t : Fin cfg0.N) : (dats m 0 c).flushed 9 t = ((cfg0.win 9).blk t).view.read (Elt Ideal) (resultG m c) := by
  rw [Cert.RetProjIdeal.Value.flushed9]
  funext j
  obtain ⟨i, e, rfl⟩ : ∃ (i : Fin 256) (e : Fin 2048), j = ix2 i e := ⟨j 0, j 1, funext fun a => match a with | ⟨0, _⟩ => rfl | ⟨1, _⟩ => rfl⟩
  refine (gate_at m c t i e).trans ?_
  show _ = resultG m c (((cfg0.win 9).blk t).view.emb (ix2 i e))
  have e' := (index_out t).2.2.2
  have hemb : ((cfg0.win 9).blk t).view.emb (ix2 i e) = (ix2 (row t i) e : S16640x2048.Idx) := by
    refine funext fun a => Fin.ext ?_
    match a with
    | ⟨0, _⟩ =>
      show win0_9.index t 0 * 256 + 1 * i.val = 256 * t.val + i.val
      rw [e'.1]; omega
    | ⟨1, _⟩ =>
      show win0_9.index t 1 * 2048 + 1 * e.val = e.val
      rw [e'.2]; omega
  rw [hemb]
  rfl

theorem final_G : (dats m 0 c).arrAt 9 cfg0.N = resultG m c :=
  (dats m 0 c).arrAt_eq_of_cover 9 (resultG m c) (fun t _ => flushed_G m c t) fun i => by
    have h0 : (i 0 : Nat) < 16640 := (i 0).isLt
    have h1 : (i 1 : Nat) < 2048 := (i 1).isLt
    have ht : (i 0 : Nat) / 256 < cfg0.N := by rw [show cfg0.N = 65 from N_0]; omega
    refine ⟨⟨(i 0 : Nat) / 256, ht⟩, flush0_9 _, ?_⟩
    have e' := (index_out ⟨(i 0 : Nat) / 256, ht⟩).2.2.2
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v44_3).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [e'.1]; omega
    | ⟨1, _⟩ =>
      show win0_9.index t 1 * 2048 ≤ (i 1 : Nat) ∧ (i 1 : Nat) < win0_9.index t 1 * 2048 + 2048
      rw [e'.2]; omega

end Cert.RetProjIdeal.Rows

namespace Cert.RetProjClaims

open Idealize.ShloMosaic Idealize.ShloMosaic.TcCoe Idealize.SL.Sem

/-- The call's frame. -/
theorem frame_kernel : Cert.quiescent_RetProj := fun m ρ _ => Cert.RetProj.Gen.frame m ρ

/-- The ideal call's frame. -/
theorem frame_ideal : Cert.quiescent_RetProjIdeal := fun m ρ _ => Cert.RetProjIdeal.Gen.frame m ρ

/-- The reference's frame. -/
theorem frame_reference : Cert.quiescent_RetProjReferenceIdeal := fun m ρ _ =>
  (θ_run Cert.RetProjReferenceIdeal.defs _ _).mono (fun r h => ⟨fun c => (h c).2.2.2.2, sem_eq_zero_of_no_sems (by decide) r.2⟩)
    (Cert.RetProjReferenceIdeal.Value.run m ρ)

/-- The call's four results are the reference's. -/
theorem results_agree : Cert.algebraic_RetProjIdeal_RetProjReferenceIdeal := by
  intro m ρ m' ρ' _ hargs
  refine ⟨fun c => Cert.RetProjIdeal.Rows.resultQ m c, fun c => Cert.RetProjIdeal.Rows.resultK m c,
    fun c => Cert.RetProjIdeal.Rows.resultV m c, fun c => Cert.RetProjIdeal.Rows.resultG m c, ?_, ?_⟩
  · exact (θ_run Cert.RetProjIdeal.defs _ _).mono (fun _ h c => ⟨(h c).1.trans (Cert.RetProjIdeal.Rows.final_Q m c),
      (h c).2.1.trans (Cert.RetProjIdeal.Rows.final_K m c), (h c).2.2.1.trans (Cert.RetProjIdeal.Rows.final_V m c),
      (h c).2.2.2.1.trans (Cert.RetProjIdeal.Rows.final_G m c), (h c).2.2.2.2⟩) (Cert.RetProjIdeal.Value.run_blocks m ρ)
  · refine (θ_run Cert.RetProjReferenceIdeal.defs _ _).mono (fun _ h c => ?_) (Cert.RetProjReferenceIdeal.Value.run m' ρ')
    obtain ⟨e0, e1, e2, e3, e4⟩ := hargs c
    have f0 : Cert.RetProjReferenceIdeal.Rows.xp (StableHlo.launchContents m' c) = Cert.RetProjIdeal.Rows.xpf m c := by
      funext b s k; exact congrFun e0 (ix3 b s k)
    have f1 : Cert.RetProjReferenceIdeal.Rows.xs (StableHlo.launchContents m' c) = Cert.RetProjIdeal.Rows.xsf m c := by
      funext b s k; exact congrFun e1 (ix3 b s k)
    have f2 : Cert.RetProjReferenceIdeal.Rows.sh (StableHlo.launchContents m' c) = Cert.RetProjIdeal.Rows.shf m c := by
      funext b k; exact congrFun e2 (ix2 b k)
    have f3 : Cert.RetProjReferenceIdeal.Rows.sc (StableHlo.launchContents m' c) = Cert.RetProjIdeal.Rows.scf m c := by
      funext b k; exact congrFun e3 (ix2 b k)
    have f4 : Cert.RetProjReferenceIdeal.Rows.w (StableHlo.launchContents m' c) = Cert.RetProjIdeal.Rows.wf m c := by
      funext k j; exact congrFun e4 (ix2 k j)
    refine ⟨(h c).1.trans ?_, (h c).2.1.trans ?_, (h c).2.2.1.trans ?_, (h c).2.2.2.1.trans ?_, (h c).2.2.2.2⟩
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.RetProjReferenceIdeal.Rows.resQ_at (StableHlo.launchContents m' c) r d).trans ?_
      rw [f0, f1, f2, f3, f4]
      rfl
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.RetProjReferenceIdeal.Rows.resK_at (StableHlo.launchContents m' c) r d).trans ?_
      rw [f0, f1, f2, f3, f4]
      rfl
    · funext i
      obtain ⟨r, d, rfl⟩ : ∃ (r : Fin 16640) (d : Fin 2048), i = ix2 r d := ⟨i 0, i 1, funext fun a => match a with | ⟨0, _⟩ => rfl | ⟨1, _⟩ => rfl⟩
      refine (Cert.RetProjReferenceIdeal.Rows.resV_at (StableHlo.launchContents m' c) r d).trans ?_
      rw [f0, f1, f2, f3, f4]
      rfl
    · funext i
      obtain ⟨r, d, rfl⟩ : ∃ (r : Fin 16640) (d : Fin 2048), i = ix2 r d := ⟨i 0, i 1, funext fun a => match a with | ⟨0, _⟩ => rfl | ⟨1, _⟩ => rfl⟩
      refine (Cert.RetProjReferenceIdeal.Rows.resG_at (StableHlo.launchContents m' c) r d).trans ?_
      rw [f0, f1, f2, f3, f4]
      rfl

end Cert.RetProjClaims

end
-- ==== Proof.AttnProj.Spec.lean ====
module

public import proofs.«01_k».proof.Proof.RetProj.Spec

/-! The attention layer's projections, row by row: a row of either batch is shifted and scaled, multiplied by the
    weights, and the first sixteen entries of every head of its query and key are turned by the angles of its position. -/

@[expose] public section

noncomputable section

namespace Cert.Attn

open Idealize.ShloMosaic

/-- The `j`-th angle of position `p`. -/
def angle (p : BitVec 32) (j : Fin 8) : EReal :=
  (FloatOps.sitofp .f32 p : Ideal .f32) * Ideal.pow (Ideal.ofBits .f32 0x48F42400#32)
    (Ideal.div (-(FloatOps.sitofp .f32 (BitVec.ofNat 32 j.val) : Ideal .f32)) (Ideal.ofBits .f32 0x41000000#32))

/-- A row of sixteen heads of 64, the first sixteen entries of each head turned: entry `j` and entry `8 + j` of a head
    are a pair, and the other entries stay. -/
def partTurned (z : Fin 1024 → EReal) (co si : Fin 8 → EReal) (c : Fin 1024) : EReal :=
  if h : c.val % 64 < 8 then z c * co ⟨c.val % 64, h⟩ - z ⟨c.val + 8, by omega⟩ * si ⟨c.val % 64, h⟩
  else if h' : c.val % 64 < 16 then z c * co ⟨c.val % 64 - 8, by omega⟩ + z ⟨c.val - 8, by omega⟩ * si ⟨c.val % 64 - 8, by omega⟩
  else z c

/-- The same by whole runs of 128 entries: the run times one table, the run moved by eight entries one way times
    another and the run moved by eight the other way times a third. -/
def lanes (z : Fin 1024 → EReal) (a b d : Fin 128 → EReal) (c : Fin 1024) : EReal :=
  z c * a ⟨c.val % 128, by omega⟩ + z ⟨c.val / 128 * 128 + (c.val % 128 + 8) % 128, by omega⟩ * b ⟨c.val % 128, by omega⟩
    + z ⟨c.val / 128 * 128 + (c.val % 128 + 120) % 128, by omega⟩ * d ⟨c.val % 128, by omega⟩

/-- The table a run itself is multiplied by. -/
def keepTable (co : Fin 8 → EReal) (j : Fin 128) : EReal :=
  if h : j.val % 64 < 8 then co ⟨j.val % 64, h⟩ else if h' : j.val % 64 < 16 then co ⟨j.val % 64 - 8, by omega⟩ else 1

/-- The table of the run moved down. -/
def downTable (si : Fin 8 → EReal) (j : Fin 128) : EReal :=
  if h : j.val % 64 < 8 then -si ⟨j.val % 64, h⟩ else 0

/-- The table of the run moved up. -/
def upTable (si : Fin 8 → EReal) (j : Fin 128) : EReal :=
  if h : j.val % 64 < 8 then 0 else if h' : j.val % 64 < 16 then si ⟨j.val % 64 - 8, by omega⟩ else 0

theorem lanes_eq (z : Fin 1024 → EReal) (co si : Fin 8 → EReal) (c : Fin 1024) :
    lanes z (keepTable co) (downTable si) (upTable si) c = partTurned z co si c := by
  have e : c.val % 128 % 64 = c.val % 64 := by omega
  unfold lanes keepTable downTable upTable partTurned
  simp only [e]
  by_cases h : c.val % 64 < 8
  · simp only [dif_pos h, mul_zero, add_zero]
    have e1 : (⟨c.val / 128 * 128 + (c.val % 128 + 8) % 128, by omega⟩ : Fin 1024) = ⟨c.val + 8, by omega⟩ := Fin.ext (by dsimp only; omega)
    rw [e1, mul_neg, sub_eq_add_neg]
  · by_cases h' : c.val % 64 < 16
    · simp only [dif_neg h, dif_pos h', mul_zero, add_zero]
      have e1 : (⟨c.val / 128 * 128 + (c.val % 128 + 120) % 128, by omega⟩ : Fin 1024) = ⟨c.val - 8, by omega⟩ := Fin.ext (by dsimp only; omega)
      rw [e1]
    · simp only [dif_neg h, dif_neg h', mul_zero, add_zero, mul_one]

section

variable (xp : Fin 8 → Fin 2048 → Fin 1024 → EReal) (xs : Fin 32 → Fin 8 → Fin 1024 → EReal) (sh sc : Fin 40 → Fin 1024 → EReal)
  (w : Fin 1024 → Fin 3072 → EReal)

/-- Row `r` shifted and scaled, times column `j` of the weights. -/
def entry (r : Fin 16640) (j : Fin 3072) : EReal :=
  ∑ k, (Cert.Proj.rowX xp xs r k * (1 + Cert.Proj.rowV sc r k) + Cert.Proj.rowV sh r k) * w k j

/-- The cosines and sines of row `r`. -/
def rowCos (r : Fin 16640) (j : Fin 8) : EReal := Ideal.cos (angle (Cert.Proj.rowPos r) j)
def rowSin (r : Fin 16640) (j : Fin 8) : EReal := Ideal.sin (angle (Cert.Proj.rowPos r) j)

def query (r : Fin 16640) (c : Fin 1024) : EReal :=
  partTurned (fun j => entry xp xs sh sc w r ⟨j.val, by omega⟩) (rowCos r) (rowSin r) c * Ideal.ofBits .f32 0x3E000000#32

def key (r : Fin 16640) (c : Fin 1024) : EReal :=
  partTurned (fun j => entry xp xs sh sc w r ⟨1024 + j.val, by omega⟩) (rowCos r) (rowSin r) c

def value (r : Fin 16640) (c : Fin 1024) : EReal := entry xp xs sh sc w r ⟨2048 + c.val, by omega⟩

/-- The mean of the keys of rows `256 b` to `256 b + 255`. -/
def keyMean (b : Fin 65) (c : Fin 1024) : EReal :=
  Ideal.div (∑ i : Fin 256, key xp xs sh sc w ⟨256 * b.val + i.val, by omega⟩ c) (Ideal.ofBits .f32 0x43800000#32)

end

end Cert.Attn
-- ==== Proof.AttnProj.Entry.lean ====
module

public import proofs.«01_k».proof.Proof.Gen.AttnProjIdeal.Frame
public import proofs.«01_k».proof.Proof.AttnProj.Spec
public import Idealize.ShloMosaic.Lib.Pointwise
public import Idealize.ShloMosaic.Lib.Tactic
public import Idealize.ShloMosaic.Lib.KernelVsHost

/-! What the projection call's seven input arrays hold when the call is entered: the rows of both batches, the tables
    of shifts and scales, the weights, and three tables of cosines and sines. First as whole arrays, then at an index. -/

@[expose] public section

noncomputable section

namespace Cert.AttnProjIdeal.Rows

open Idealize.ShloMosaic Idealize.ShloMosaic.TcCoe Idealize.SL.Sem Cert.AttnProjIdeal Cert.AttnProjIdeal.Gen

/-- The rows of both batches, one under the other. -/
def stacked (xp : FVec Ideal S8x2048x1024 .f32) (xs : FVec Ideal S32x8x1024 .f32) : FVec Ideal S16640x1024 .f32 :=
  concatenate S16640x1024 0 [⟨S16384x1024, shapeCast S16384x1024 xp shapeCasts_S8x2048x1024_S16384x1024⟩,
    ⟨S256x1024, shapeCast S256x1024 xs shapeCasts_S32x8x1024_S256x1024⟩] concatenates_S16384x1024_S256x1024_S16640x1024_d0

/-- A vector per sequence laid out as blocks of rows: one block per prompt sequence, one for all the sample's rows. -/
def laidOut (a : FVec Ideal S40x1024 .f32) : FVec Ideal S9x256x1024 .f32 :=
  concatenate S9x256x1024 0 [⟨S8x256x1024, broadcastInDim S8x256x1024 ![0, 1, 2] bcast_S8x1x1024_S8x256x1024_0_1_2
      (broadcastInDim S8x1x1024 ![0, 2] bcast_S8x1024_S8x1x1024_0_2 (extractStridedSlice S8x1024 ![0, 0] a slices_S40x1024_S8x1024_0_0))⟩,
    ⟨S1x256x1024, shapeCast S1x256x1024 (shapeCast S256x1024 (broadcastInDim S32x8x1024 ![0, 2] bcast_S32x1024_S32x8x1024_0_2
      (extractStridedSlice S32x1024 ![8, 0] a slices_S40x1024_S32x1024_8_0)) shapeCasts_S32x8x1024_S256x1024) shapeCasts_S256x1024_S1x256x1024⟩]
    concatenates_S8x256x1024_S1x256x1024_S9x256x1024_d0

/-- The number of a sample row within its sequence, as the host computes the remainder by eight. -/
def withinEight : IVec S256 32 :=
  let d : IVec S_ 32 := select (cmpi .eq (id (constantI S_ 32 8#32)) (constantI S_ 32 0#32)) (constantI S_ 32 1#32) (id (constantI S_ 32 8#32))
  let q : IVec S256 32 := Host.remsi (iotaInDim S256 32 0) (broadcastInDim S256 ![] bcast_S_S256 d)
  select (andi (cmpi .ne (cmpi .slt q (broadcastInDim S256 ![] bcast_S_S256 (constantI S_ 32 0#32)))
      (broadcastInDim S256 ![] bcast_S_S256 (cmpi .slt d (constantI S_ 32 0#32)))) (cmpi .ne q (broadcastInDim S256 ![] bcast_S_S256 (constantI S_ 32 0#32))))
    (addi q (broadcastInDim S256 ![] bcast_S_S256 d)) q

/-- The positions: those of a prompt sequence, then those of the sample's rows. -/
def positions : IVec S2304 32 :=
  concatenate S2304 0 [⟨S2048, iotaInDim S2048 32 0⟩, ⟨S256, addi (broadcastInDim S256 ![] bcast_S_S256 (constantI S_ 32 16384#32))
    (minsi withinEight (broadcastInDim S256 ![] bcast_S_S256 (constantI S_ 32 3#32)))⟩] concatenates_S2048_S256_S2304_d0

/-- The angles of every position. -/
def angles : FVec Ideal S2304x8 .f32 :=
  mulf (broadcastInDim S2304x8 ![0, 1] bcast_S2304x1_S2304x8_0_1 (broadcastInDim S2304x1 ![0] bcast_S2304_S2304x1_0 (sitofp .f32 positions)))
    (broadcastInDim S2304x8 ![0, 1] bcast_S1x8_S2304x8_0_1 (broadcastInDim S1x8 ![1] bcast_S8_S1x8_1
      (Host.powf (broadcastInDim S8 ![] bcast_S_S8 (constant S_ .f32 0x48F42400#32))
        (Host.divf (Host.negf (sitofp .f32 (iotaInDim S8 32 0))) (broadcastInDim S8 ![] bcast_S_S8 (constant S_ .f32 0x41000000#32))))))

/-- A head's row of a table: eight columns, eight more, and the 48 that follow. -/
def headTable (a b : FVec Ideal S2304x8 .f32) (e : FVec Ideal S2304x48 .f32) : FVec Ideal S2304x64 .f32 :=
  concatenate S2304x64 1 [⟨S2304x8, a⟩, ⟨S2304x8, b⟩, ⟨S2304x48, e⟩] concatenates_S2304x8_S2304x8_S2304x48_S2304x64_d1

/-- The same for two heads side by side, in blocks of 256 positions. -/
def pairTable (t : FVec Ideal S2304x64 .f32) : FVec Ideal S9x256x128 .f32 :=
  shapeCast S9x256x128 (concatenate S2304x128 1 [⟨S2304x64, t⟩, ⟨S2304x64, t⟩] concatenates_S2304x64_S2304x64_S2304x128_d1) shapeCasts_S2304x128_S9x256x128

/-- Columns of ones and of zeros. -/
def ones : FVec Ideal S2304x48 .f32 := broadcastInDim S2304x48 ![] bcast_S_S2304x48 (constant S_ .f32 0x3F800000#32)
def zeros48 : FVec Ideal S2304x48 .f32 := broadcastInDim S2304x48 ![] bcast_S_S2304x48 (constant S_ .f32 0x00000000#32)
def zeros8 : FVec Ideal S2304x8 .f32 := broadcastInDim S2304x8 ![] bcast_S_S2304x8 (constant S_ .f32 0x00000000#32)

variable (m : (ℓ : Loc nD τ sig) → Buf (Elt Ideal) ℓ) (c : Dev nD)

theorem V_x : V m c main_v2 = stacked (m ((c : Thread nD τ).loc main_arg0)) (m ((c : Thread nD τ).loc main_arg1)) := by
  show StableHlo.after (List.flatten _) _ (Proc.devRef .tc main_v2) = _
  simp only [List.flatten_cons, List.flatten_nil, List.append_nil, List.cons_append, List.nil_append]
  after_results
  rfl

theorem V_sh : V m c main_v45 = laidOut (m ((c : Thread nD τ).loc main_arg2)) := by
  show StableHlo.after (List.flatten _) _ (Proc.devRef .tc main_v45) = _
  simp only [List.flatten_cons, List.flatten_nil, List.append_nil, List.cons_append, List.nil_append]
  after_results
  rfl

theorem V_sc : V m c main_v53 = laidOut (m ((c : Thread nD τ).loc main_arg3)) := by
  show StableHlo.after (List.flatten _) _ (Proc.devRef .tc main_v53) = _
  simp only [List.flatten_cons, List.flatten_nil, List.append_nil, List.cons_append, List.nil_append]
  after_results
  rfl

theorem V_w : (V m c main_v54 : FVec Ideal S1024x3072 .bf16) = (truncf .bf16 (m ((c : Thread nD τ).loc main_arg4) : FVec Ideal S1024x3072 .f32) bitsLt_bf16_f32 : FVec Ideal S1024x3072 .bf16) := by
  show StableHlo.after (List.flatten _) _ (Proc.devRef .tc main_v54) = _
  simp only [List.flatten_cons, List.flatten_nil, List.append_nil, List.cons_append, List.nil_append]
  after_results

theorem V_keep : V m c main_v33 = pairTable (headTable (Host.cos angles) (Host.cos angles) ones) := by
  show StableHlo.after (List.flatten _) _ (Proc.devRef .tc main_v33) = _
  simp only [List.flatten_cons, List.flatten_nil, List.append_nil, List.cons_append, List.nil_append]
  after_results
  dsimp only [Matrix.cons_val_zero, Matrix.cons_val_one, Matrix.cons_val]
  simp only [↓ StableHlo.readResult, ↓ StableHlo.readPieces]
  rfl

theorem V_down : V m c main_v35 = pairTable (headTable (Host.negf (Host.sin angles)) zeros8 zeros48) := by
  show StableHlo.after (List.flatten _) _ (Proc.devRef .tc main_v35) = _
  simp only [List.flatten_cons, List.flatten_nil, List.append_nil, List.cons_append, List.nil_append]
  after_results
  dsimp only [Matrix.cons_val_zero, Matrix.cons_val_one, Matrix.cons_val]
  simp only [↓ StableHlo.readResult, ↓ StableHlo.readPieces]
  rfl

theorem V_up : V m c main_v37 = pairTable (headTable zeros8 (Host.sin angles) zeros48) := by
  show StableHlo.after (List.flatten _) _ (Proc.devRef .tc main_v37) = _
  simp only [List.flatten_cons, List.flatten_nil, List.append_nil, List.cons_append, List.nil_append]
  after_results
  dsimp only [Matrix.cons_val_zero, Matrix.cons_val_one, Matrix.cons_val]
  simp only [↓ StableHlo.readResult, ↓ StableHlo.readPieces]
  rfl

theorem withinEight_at : ∀ i : Fin 256, withinEight (ix1 i) = BitVec.ofNat 32 (i.val % 8) := by
  unfold withinEight
  intro i
  pointwise
  revert i
  decide +kernel

/-- The position of row `i` of block `b` of the tables. -/
def tablePos (b : Fin 9) (i : Fin 256) : BitVec 32 :=
  if b.val < 8 then BitVec.ofNat 32 (b.val * 256 + i.val) else IntOp.addi 16384#32 (IntOp.minsi (BitVec.ofNat 32 (i.val % 8)) 3#32)

theorem positions_at (b : Fin 9) (i : Fin 256) : positions (ix1 ⟨b.val * 256 + i.val, by omega⟩) = tablePos b i := by
  unfold positions tablePos
  pointwise
  by_cases h : b.val < 8
  · rw [dif_pos (by omega), if_pos h]
  · rw [dif_neg (by omega), if_neg h, withinEight_at]
    have e : (b.val * 256 + i.val - 2048) % 8 = i.val % 8 := by omega
    dsimp only
    rw [e]

theorem angles_at (b : Fin 9) (i : Fin 256) (j : Fin 8) :
    angles (ix2 ⟨b.val * 256 + i.val, by omega⟩ j) = Cert.Attn.angle (tablePos b i) j := by
  rw [← positions_at]
  generalize hp : positions = P
  unfold angles Cert.Attn.angle
  rw [hp]
  pointwise

theorem headTable_at (a b : FVec Ideal S2304x8 .f32) (e : FVec Ideal S2304x48 .f32) (r : Fin 2304) (j : Fin 64) :
    headTable a b e (ix2 r j) = if h : j.val < 8 then a (ix2 r ⟨j.val, h⟩) else if h' : j.val < 16 then b (ix2 r ⟨j.val - 8, by omega⟩)
      else e (ix2 r ⟨j.val - 16, by omega⟩) := by
  unfold headTable
  pointwise
  by_cases h : j.val < 8
  · rw [dif_pos h, dif_pos h]
  · rw [dif_neg h, dif_neg h]
    by_cases h' : j.val < 16
    · rw [dif_pos (by omega), dif_pos h']
    · rw [dif_neg (by omega), dif_neg h']
      exact congrArg e (congrArg (ix2 r) (Fin.ext (by dsimp only; omega)))

theorem pairTable_at (t : FVec Ideal S2304x64 .f32) (b : Fin 9) (i : Fin 256) (j : Fin 128) :
    pairTable t (ix3 b i j) = t (ix2 ⟨b.val * 256 + i.val, by omega⟩ ⟨j.val % 64, by omega⟩) := by
  unfold pairTable
  pointwise
  split
  · exact congrArg t (congrArg (ix2 _) (Fin.ext (by dsimp only; omega)))
  · exact congrArg t (congrArg (ix2 _) (Fin.ext (by dsimp only; omega)))

theorem ones_at (r : Fin 2304) (j : Fin 48) : ones (ix2 r j) = (1 : EReal) := by
  unfold ones
  pointwise

theorem zeros48_at (r : Fin 2304) (j : Fin 48) : zeros48 (ix2 r j) = (0 : EReal) := by
  unfold zeros48
  pointwise

theorem zeros8_at (r : Fin 2304) (j : Fin 8) : zeros8 (ix2 r j) = (0 : EReal) := by
  unfold zeros8
  pointwise

theorem cos_at (b : Fin 9) (i : Fin 256) (j : Fin 8) :
    (Host.cos angles : FVec Ideal S2304x8 .f32) (ix2 ⟨b.val * 256 + i.val, by omega⟩ j) = Ideal.cos (Cert.Attn.angle (tablePos b i) j) := by
  rw [← angles_at]
  rfl

theorem sin_at (b : Fin 9) (i : Fin 256) (j : Fin 8) :
    (Host.sin angles : FVec Ideal S2304x8 .f32) (ix2 ⟨b.val * 256 + i.val, by omega⟩ j) = Ideal.sin (Cert.Attn.angle (tablePos b i) j) := by
  rw [← angles_at]
  rfl

theorem negsin_at (b : Fin 9) (i : Fin 256) (j : Fin 8) :
    (Host.negf (Host.sin angles) : FVec Ideal S2304x8 .f32) (ix2 ⟨b.val * 256 + i.val, by omega⟩ j) = (-Ideal.sin (Cert.Attn.angle (tablePos b i) j) : EReal) := by
  rw [← angles_at]
  rfl

theorem keepTable_at (b : Fin 9) (i : Fin 256) (j : Fin 128) :
    pairTable (headTable (Host.cos angles) (Host.cos angles) ones) (ix3 b i j) = Cert.Attn.keepTable (fun q => Ideal.cos (Cert.Attn.angle (tablePos b i) q)) j := by
  rw [pairTable_at, headTable_at]
  unfold Cert.Attn.keepTable
  simp only [cos_at, ones_at]

theorem downTable_at (b : Fin 9) (i : Fin 256) (j : Fin 128) :
    pairTable (headTable (Host.negf (Host.sin angles)) zeros8 zeros48) (ix3 b i j) = Cert.Attn.downTable (fun q => Ideal.sin (Cert.Attn.angle (tablePos b i) q)) j := by
  rw [pairTable_at, headTable_at]
  unfold Cert.Attn.downTable
  simp only [negsin_at, zeros8_at, zeros48_at, dite_eq_ite, ite_self]

theorem upTable_at (b : Fin 9) (i : Fin 256) (j : Fin 128) :
    pairTable (headTable zeros8 (Host.sin angles) zeros48) (ix3 b i j) = Cert.Attn.upTable (fun q => Ideal.sin (Cert.Attn.angle (tablePos b i) q)) j := by
  rw [pairTable_at, headTable_at]
  unfold Cert.Attn.upTable
  simp only [sin_at, zeros8_at, zeros48_at]

theorem stacked_at (xp : FVec Ideal S8x2048x1024 .f32) (xs : FVec Ideal S32x8x1024 .f32) (r : Fin 16640) (k : Fin 1024) :
    stacked xp xs (ix2 r k) = Cert.Proj.rowX (fun b s k => xp (ix3 b s k)) (fun b s k => xs (ix3 b s k)) r k := by
  unfold stacked Cert.Proj.rowX
  pointwise

theorem laidOut_at (a : FVec Ideal S40x1024 .f32) (b : Fin 9) (i : Fin 256) (k : Fin 1024) :
    laidOut a (ix3 b i k) = if h : b.val < 8 then a (ix2 ⟨b.val, by omega⟩ k) else a (ix2 ⟨8 + i.val / 8, by omega⟩ k) := by
  unfold laidOut
  pointwise

end Cert.AttnProjIdeal.Rows
-- ==== Proof.AttnProj.Payload.lean ====
module

public import proofs.«01_k».proof.Proof.Gen.AttnProjIdeal.Frame
public import proofs.«01_k».proof.Proof.AttnProj.Spec
public import Idealize.ShloMosaic.Lib.Pipeline.Value
public import Idealize.ShloMosaic.Lib.Pointwise

/-! What the projection body leaves in its six output blocks, read at an index. -/

@[expose] public section

noncomputable section

namespace Cert.AttnProjIdeal.Rows

open Idealize.ShloMosaic Cert.AttnProjIdeal Cert.AttnProjIdeal.Gen

/-- A block of rows turned, as one function of the block's index. -/
def turnedBlock (z : FVec Ideal S256x1024 .f32) (a b d : FVec Ideal S256x128 .f32) (y : S256x1024.Idx) : EReal :=
  Cert.Attn.lanes (fun j => z (ix2 ⟨(y 0).val, (y 0).isLt⟩ j)) (fun j => a (ix2 ⟨(y 0).val, (y 0).isLt⟩ j))
    (fun j => b (ix2 ⟨(y 0).val, (y 0).isLt⟩ j)) (fun j => d (ix2 ⟨(y 0).val, (y 0).isLt⟩ j)) ⟨(y 1).val, (y 1).isLt⟩

theorem turnedBlock_at (z : FVec Ideal S256x1024 .f32) (a b d : FVec Ideal S256x128 .f32) (i : Fin 256) (c : Fin 1024) :
    turnedBlock z a b d (ix2 i c) = Cert.Attn.lanes (fun j => z (ix2 i j)) (fun j => a (ix2 i j)) (fun j => b (ix2 i j)) (fun j => d (ix2 i j)) c := rfl

/-- The mean of a block's rows, column by column. -/
def meanBlock (z : FVec Ideal S256x1024 .f32) (a b d : FVec Ideal S256x128 .f32) (y : S1x1x1024.Idx) : EReal :=
  Ideal.div (∑ i : Fin 256, turnedBlock z a b d (ix2 i ⟨(y 2).val, (y 2).isLt⟩)) (Ideal.ofBits .f32 0x43800000#32)

/-- Run `o` of a block turned. -/
def rolled (o : Nat) (h : S256x1024.Slices ![0, o] S256x128) (a b d : FVec Ideal S256x128 .f32) (z : FVec Ideal S256x1024 .f32) : FVec Ideal S256x128 .f32 :=
  addf (addf (mulf (extractStridedSlice S256x128 ![0, o] z h) a) (mulf (dynamicRotate 1 120#32 none (extractStridedSlice S256x128 ![0, o] z h) rotates_S256x128_d1) b))
    (mulf (dynamicRotate 1 8#32 none (extractStridedSlice S256x128 ![0, o] z h) rotates_S256x128_d1) d)

theorem down_at (v : FVec Ideal S256x128 .f32) (i : Fin 256) (j : Fin 128) :
    dynamicRotate 1 120#32 none v rotates_S256x128_d1 (ix2 i j) = v (ix2 i ⟨(j.val + 8) % 128, by omega⟩) := by
  pointwise
  refine congrArg v (funext fun a => Fin.ext ?_)
  match a with
  | ⟨0, _⟩ => rfl
  | ⟨1, _⟩ => show (j.val + 128 - 120) % 128 = (j.val + 8) % 128; omega

theorem up_at (v : FVec Ideal S256x128 .f32) (i : Fin 256) (j : Fin 128) :
    dynamicRotate 1 8#32 none v rotates_S256x128_d1 (ix2 i j) = v (ix2 i ⟨(j.val + 120) % 128, by omega⟩) := by
  pointwise
  refine congrArg v (funext fun a => Fin.ext ?_)
  match a with
  | ⟨0, _⟩ => rfl
  | ⟨1, _⟩ => show (j.val + 128 - 8) % 128 = (j.val + 120) % 128; omega

theorem run_at (o : Nat) (h : S256x1024.Slices ![0, o] S256x128) (ho : o + 128 ≤ 1024) (z : FVec Ideal S256x1024 .f32) (i : Fin 256) (j : Fin 128) :
    extractStridedSlice S256x128 ![0, o] z h (ix2 i j) = z (ix2 i ⟨o + j.val, by omega⟩) := by
  show z _ = _
  refine congrArg z (funext fun a => Fin.ext ?_)
  match a with
  | ⟨0, _⟩ => show 0 + i.val = i.val; omega
  | ⟨1, _⟩ => rfl

theorem rolled_at (o : Nat) (h : S256x1024.Slices ![0, o] S256x128) (n : Nat) (hn : n < 8) (ho : o = 128 * n) (a b d : FVec Ideal S256x128 .f32)
    (z : FVec Ideal S256x1024 .f32) (i : Fin 256) (j : Fin 128) :
    rolled o h a b d z (ix2 i j) = turnedBlock z a b d (ix2 i ⟨o + j.val, by omega⟩) := by
  rw [turnedBlock_at]
  unfold Cert.Attn.lanes
  have e0 : rolled o h a b d z (ix2 i j) = (extractStridedSlice S256x128 ![0, o] z h (ix2 i j) * a (ix2 i j)
      + dynamicRotate 1 120#32 none (extractStridedSlice S256x128 ![0, o] z h) rotates_S256x128_d1 (ix2 i j) * b (ix2 i j)
      + dynamicRotate 1 8#32 none (extractStridedSlice S256x128 ![0, o] z h) rotates_S256x128_d1 (ix2 i j) * d (ix2 i j) : EReal) := rfl
  rw [e0, down_at, up_at, run_at o h (by omega), run_at o h (by omega), run_at o h (by omega)]
  have e1 : (⟨(o + j.val) % 128, by omega⟩ : Fin 128) = j := Fin.ext (by dsimp only; omega)
  have e2 : (⟨o + (j.val + 8) % 128, by omega⟩ : Fin 1024) = ⟨(o + j.val) / 128 * 128 + ((o + j.val) % 128 + 8) % 128, by omega⟩ := Fin.ext (by dsimp only; omega)
  have e3 : (⟨o + (j.val + 120) % 128, by omega⟩ : Fin 1024) = ⟨(o + j.val) / 128 * 128 + ((o + j.val) % 128 + 120) % 128, by omega⟩ := Fin.ext (by dsimp only; omega)
  dsimp only
  rw [e1, e2, e3]

theorem emb_eq (o : Nat) (inb : ∀ a : Fin S256x1024.rank, (![0, o] : Fin 2 → Nat) a + S256x128.size a ≤ S256x1024.size a) (i : Fin 256) (j : Fin 128)
    (ho : o + 128 ≤ 1024) :
    (Rect.unit (s := S256x1024) ![0, o] S256x128.size inb).emb (ix2 i j) = (ix2 i ⟨o + j.val, by omega⟩ : S256x1024.Idx) := by
  refine funext fun a => Fin.ext ?_
  match a with
  | ⟨0, _⟩ => show 0 + 1 * i.val = i.val; omega
  | ⟨1, _⟩ => show o + 1 * j.val = o + j.val; omega

theorem emb_mean_eq (o : Nat) (inb : ∀ a : Fin S1x1x1024.rank, (![0, 0, o] : Fin 3 → Nat) a + S1x1x128.size a ≤ S1x1x1024.size a) (j : Fin 128)
    (ho : o + 128 ≤ 1024) :
    (Rect.unit (s := S1x1x1024) ![0, 0, o] S1x1x128.size inb).emb (ix3 0 0 j) = (ix3 0 0 ⟨o + j.val, by omega⟩ : S1x1x1024.Idx) := by
  refine funext fun a => Fin.ext ?_
  match a with
  | ⟨0, _⟩ => rfl
  | ⟨1, _⟩ => rfl
  | ⟨2, _⟩ => show o + 1 * j.val = o + j.val; omega

/-- A piece that is a run turned. -/
theorem piece (o : Nat) (h : S256x1024.Slices ![0, o] S256x128) (n : Nat) (hn : n < 8) (ho : o = 128 * n)
    (inb : ∀ a : Fin S256x1024.rank, (![0, o] : Fin 2 → Nat) a + S256x128.size a ≤ S256x1024.size a) (a b d : FVec Ideal S256x128 .f32)
    (z : FVec Ideal S256x1024 .f32) (x : S256x128.Idx) :
    rolled o h a b d z x = turnedBlock z a b d ((Rect.unit (s := S256x1024) ![0, o] S256x128.size inb).emb x) := by
  obtain ⟨i, j, rfl⟩ : ∃ (i : Fin 256) (j : Fin 128), x = ix2 i j := ⟨x 0, x 1, funext fun a => match a with | ⟨0, _⟩ => rfl | ⟨1, _⟩ => rfl⟩
  rw [emb_eq _ _ i j (by omega), rolled_at o h n hn ho]

/-- A run turned and scaled. -/
def scaled (v : FVec Ideal S256x128 .f32) : FVec Ideal S256x128 .bf16 :=
  truncf .bf16 (mulf v (broadcast S256x128 (Scalar.ofBits .f32 0x3E000000#32))) bitsLt_bf16_f32

theorem piece_scaled (o : Nat) (h : S256x1024.Slices ![0, o] S256x128) (n : Nat) (hn : n < 8) (ho : o = 128 * n)
    (inb : ∀ a : Fin S256x1024.rank, (![0, o] : Fin 2 → Nat) a + S256x128.size a ≤ S256x1024.size a) (a b d : FVec Ideal S256x128 .f32)
    (z : FVec Ideal S256x1024 .f32) (x : S256x128.Idx) :
    (scaled (rolled o h a b d z) x : EReal) = turnedBlock z a b d ((Rect.unit (s := S256x1024) ![0, o] S256x128.size inb).emb x) * Ideal.ofBits .f32 0x3E000000#32 :=
  congrArg (fun e : EReal => e * Ideal.ofBits .f32 0x3E000000#32) (piece o h n hn ho inb a b d z x)

/-- The mean of a run's rows. -/
def meanOf (v : FVec Ideal S256x128 .f32) : FVec Ideal S1x1x128 .f32 :=
  shapeCast S1x1x128 (divf (shapeCast S1x128 (multiReduction .add [0] S128 v 0x00000000#32 reduces_S256x128_S128 (.inl rfl) rfl) shapeCasts_S128_S1x128)
    (broadcast S1x128 (Scalar.ofBits .f32 0x43800000#32))) shapeCasts_S1x128_S1x1x128

theorem meanOf_at (v : FVec Ideal S256x128 .f32) (j : Fin 128) :
    meanOf v (ix3 0 0 j) = Ideal.div (∑ i : Fin 256, v (ix2 i j)) (Ideal.ofBits .f32 0x43800000#32) := by
  unfold meanOf
  pointwise

theorem piece_mean (o : Nat) (h : S256x1024.Slices ![0, o] S256x128) (n : Nat) (hn : n < 8) (ho : o = 128 * n)
    (inb : ∀ a : Fin S1x1x1024.rank, (![0, 0, o] : Fin 3 → Nat) a + S1x1x128.size a ≤ S1x1x1024.size a) (a b d : FVec Ideal S256x128 .f32)
    (z : FVec Ideal S256x1024 .f32) (x : S1x1x128.Idx) :
    meanOf (rolled o h a b d z) x = meanBlock z a b d ((Rect.unit (s := S1x1x1024) ![0, 0, o] S1x1x128.size inb).emb x) := by
  obtain ⟨j, rfl⟩ : ∃ (j : Fin 128), x = ix3 0 0 j := ⟨x 2, funext fun a => match a with
    | ⟨0, _⟩ => Fin.ext (by have h0 : (x 0).val < 1 := (x 0).isLt; show (x 0).val = 0; omega)
    | ⟨1, _⟩ => Fin.ext (by have h1 : (x 1).val < 1 := (x 1).isLt; show (x 1).val = 0; omega)
    | ⟨2, _⟩ => rfl⟩
  rw [emb_mean_eq _ _ j (by omega), meanOf_at]
  unfold meanBlock
  refine congrArg (fun s => Ideal.div s _) (Finset.sum_congr rfl fun i _ => ?_)
  exact rolled_at o h n hn ho a b d z i j

variable (x0 : Vec Ideal S256x1024 .f32) (x1 x2 : Vec Ideal S1x256x1024 .f32) (x3 : Vec Ideal S1024x3072 .bf16) (x4 x5 x6 : Vec Ideal S1x256x128 .f32)

/-- A row of the block, shifted and scaled, times a column of the weights. -/
def blockEntry (i : Fin 256) (j : Fin 3072) : EReal :=
  ∑ k, ((x0 (ix2 i k) : EReal) * (1 + x2 (ix3 0 i k)) + x1 (ix3 0 i k)) * x3 (ix2 k j)

theorem zq_at (i : Fin 256) (j : Fin 1024) :
    (k0_pay52 x0 x1 x2 x3 x4 x5 x6 : FVec Ideal S256x1024 .f32) (ix2 i j) = blockEntry x0 x1 x2 x3 i ⟨j.val, by omega⟩ := by
  unfold k0_pay52 k0_pay9 k0_pay5 blockEntry
  pointwise

theorem zk_at (i : Fin 256) (j : Fin 1024) :
    (k0_pay53 x0 x1 x2 x3 x4 x5 x6 : FVec Ideal S256x1024 .f32) (ix2 i j) = blockEntry x0 x1 x2 x3 i ⟨1024 + j.val, by omega⟩ := by
  unfold k0_pay53 k0_pay10 k0_pay5 blockEntry
  pointwise

theorem zv_at (i : Fin 256) (j : Fin 1024) :
    (k0_pay54 x0 x1 x2 x3 x4 x5 x6 : FVec Ideal S256x1024 .f32) (ix2 i j) = blockEntry x0 x1 x2 x3 i ⟨2048 + j.val, by omega⟩ := by
  unfold k0_pay54 k0_pay11 k0_pay5 blockEntry
  pointwise

theorem keept_at (i : Fin 256) (j : Fin 128) :
    (k0_pay49 x0 x1 x2 x3 x4 x5 x6 : FVec Ideal S256x128 .f32) (ix2 i j) = x4 (ix3 0 i j) := by
  unfold k0_pay49 k0_pay6
  pointwise

theorem downt_at (i : Fin 256) (j : Fin 128) :
    (k0_pay50 x0 x1 x2 x3 x4 x5 x6 : FVec Ideal S256x128 .f32) (ix2 i j) = x5 (ix3 0 i j) := by
  unfold k0_pay50 k0_pay7
  pointwise

theorem upt_at (i : Fin 256) (j : Fin 128) :
    (k0_pay51 x0 x1 x2 x3 x4 x5 x6 : FVec Ideal S256x128 .f32) (ix2 i j) = x6 (ix3 0 i j) := by
  unfold k0_pay51 k0_pay8
  pointwise

theorem left_q_block (y : S256x1024.Idx) : out0_7 x0 x1 x2 x3 x4 x5 x6 y = (fun y => turnedBlock (k0_pay52 x0 x1 x2 x3 x4 x5 x6) (k0_pay49 x0 x1 x2 x3 x4 x5 x6) (k0_pay50 x0 x1 x2 x3 x4 x5 x6) (k0_pay51 x0 x1 x2 x3 x4 x5 x6) y * Ideal.ofBits .f32 0x3E000000#32) y := by
  unfold out0_7
  refine View.canon_apply_of_pieces (Val := Elt Ideal) (fun y => turnedBlock (k0_pay52 x0 x1 x2 x3 x4 x5 x6) (k0_pay49 x0 x1 x2 x3 x4 x5 x6) (k0_pay50 x0 x1 x2 x3 x4 x5 x6) (k0_pay51 x0 x1 x2 x3 x4 x5 x6) y * Ideal.ofBits .f32 0x3E000000#32) _ ?_ y (cover0_7 _ _ _ _ _ _ _ _ y)
  refine List.forall_mem_cons.mpr ⟨fun x => piece_scaled 896 slices_S256x1024_o0_896_S256x128 7 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  refine List.forall_mem_cons.mpr ⟨fun x => piece_scaled 768 slices_S256x1024_o0_768_S256x128 6 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  refine List.forall_mem_cons.mpr ⟨fun x => piece_scaled 640 slices_S256x1024_o0_640_S256x128 5 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  refine List.forall_mem_cons.mpr ⟨fun x => piece_scaled 512 slices_S256x1024_o0_512_S256x128 4 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  refine List.forall_mem_cons.mpr ⟨fun x => piece_scaled 384 slices_S256x1024_o0_384_S256x128 3 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  refine List.forall_mem_cons.mpr ⟨fun x => piece_scaled 256 slices_S256x1024_o0_256_S256x128 2 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  refine List.forall_mem_cons.mpr ⟨fun x => piece_scaled 128 slices_S256x1024_o0_128_S256x128 1 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  refine List.forall_mem_cons.mpr ⟨fun x => piece_scaled 0 slices_S256x1024_o0_0_S256x128 0 (by omega) (by omega) (by decide) (k0_pay49 x0 x1 x2 x3 x4 x5 x6) (k0_pay50 x0 x1 x2 x3 x4 x5 x6) (k0_pay51 x0 x1 x2 x3 x4 x5 x6) (k0_pay52 x0 x1 x2 x3 x4 x5 x6) x, ?_⟩
  exact fun p hp => absurd hp (List.not_mem_nil)

theorem left_k_block (y : S256x1024.Idx) : out0_8 x0 x1 x2 x3 x4 x5 x6 y = (fun y => turnedBlock (k0_pay53 x0 x1 x2 x3 x4 x5 x6) (k0_pay49 x0 x1 x2 x3 x4 x5 x6) (k0_pay50 x0 x1 x2 x3 x4 x5 x6) (k0_pay51 x0 x1 x2 x3 x4 x5 x6) y) y := by
  unfold out0_8
  refine View.canon_apply_of_pieces (Val := Elt Ideal) (fun y => turnedBlock (k0_pay53 x0 x1 x2 x3 x4 x5 x6) (k0_pay49 x0 x1 x2 x3 x4 x5 x6) (k0_pay50 x0 x1 x2 x3 x4 x5 x6) (k0_pay51 x0 x1 x2 x3 x4 x5 x6) y) _ ?_ y (cover0_8 _ _ _ _ _ _ _ _ y)
  refine List.forall_mem_cons.mpr ⟨fun x => piece 896 slices_S256x1024_o0_896_S256x128 7 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 768 slices_S256x1024_o0_768_S256x128 6 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 640 slices_S256x1024_o0_640_S256x128 5 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 512 slices_S256x1024_o0_512_S256x128 4 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 384 slices_S256x1024_o0_384_S256x128 3 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 256 slices_S256x1024_o0_256_S256x128 2 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 128 slices_S256x1024_o0_128_S256x128 1 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 0 slices_S256x1024_o0_0_S256x128 0 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  exact fun p hp => absurd hp (List.not_mem_nil)

theorem left_kb_block (y : S256x1024.Idx) : out0_9 x0 x1 x2 x3 x4 x5 x6 y = (fun y => turnedBlock (k0_pay53 x0 x1 x2 x3 x4 x5 x6) (k0_pay49 x0 x1 x2 x3 x4 x5 x6) (k0_pay50 x0 x1 x2 x3 x4 x5 x6) (k0_pay51 x0 x1 x2 x3 x4 x5 x6) y) y := by
  unfold out0_9
  refine View.canon_apply_of_pieces (Val := Elt Ideal) (fun y => turnedBlock (k0_pay53 x0 x1 x2 x3 x4 x5 x6) (k0_pay49 x0 x1 x2 x3 x4 x5 x6) (k0_pay50 x0 x1 x2 x3 x4 x5 x6) (k0_pay51 x0 x1 x2 x3 x4 x5 x6) y) _ ?_ y (cover0_9 _ _ _ _ _ _ _ _ y)
  refine List.forall_mem_cons.mpr ⟨fun x => piece 896 slices_S256x1024_o0_896_S256x128 7 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 768 slices_S256x1024_o0_768_S256x128 6 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 640 slices_S256x1024_o0_640_S256x128 5 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 512 slices_S256x1024_o0_512_S256x128 4 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 384 slices_S256x1024_o0_384_S256x128 3 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 256 slices_S256x1024_o0_256_S256x128 2 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 128 slices_S256x1024_o0_128_S256x128 1 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece 0 slices_S256x1024_o0_0_S256x128 0 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  exact fun p hp => absurd hp (List.not_mem_nil)

theorem left_km_block (y : S1x1x1024.Idx) : out0_12 x0 x1 x2 x3 x4 x5 x6 y = (fun y => meanBlock (k0_pay53 x0 x1 x2 x3 x4 x5 x6) (k0_pay49 x0 x1 x2 x3 x4 x5 x6) (k0_pay50 x0 x1 x2 x3 x4 x5 x6) (k0_pay51 x0 x1 x2 x3 x4 x5 x6) y) y := by
  unfold out0_12
  refine View.canon_apply_of_pieces (Val := Elt Ideal) (fun y => meanBlock (k0_pay53 x0 x1 x2 x3 x4 x5 x6) (k0_pay49 x0 x1 x2 x3 x4 x5 x6) (k0_pay50 x0 x1 x2 x3 x4 x5 x6) (k0_pay51 x0 x1 x2 x3 x4 x5 x6) y) _ ?_ y (cover0_12 _ _ _ _ _ _ _ _ y)
  refine List.forall_mem_cons.mpr ⟨fun x => piece_mean 896 slices_S256x1024_o0_896_S256x128 7 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece_mean 768 slices_S256x1024_o0_768_S256x128 6 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece_mean 640 slices_S256x1024_o0_640_S256x128 5 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece_mean 512 slices_S256x1024_o0_512_S256x128 4 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece_mean 384 slices_S256x1024_o0_384_S256x128 3 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece_mean 256 slices_S256x1024_o0_256_S256x128 2 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece_mean 128 slices_S256x1024_o0_128_S256x128 1 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  refine List.forall_mem_cons.mpr ⟨fun x => piece_mean 0 slices_S256x1024_o0_0_S256x128 0 (by omega) (by omega) (by decide) (k0_pay49 x0 x1 x2 x3 x4 x5 x6) (k0_pay50 x0 x1 x2 x3 x4 x5 x6) (k0_pay51 x0 x1 x2 x3 x4 x5 x6) (k0_pay53 x0 x1 x2 x3 x4 x5 x6) x, ?_⟩
  exact fun p hp => absurd hp (List.not_mem_nil)

theorem left_q (i : Fin 256) (c : Fin 1024) : out0_7 x0 x1 x2 x3 x4 x5 x6 (ix2 i c)
    = (Cert.Attn.lanes (fun j => blockEntry x0 x1 x2 x3 i ⟨j.val, by omega⟩) (fun j => x4 (ix3 0 i j)) (fun j => x5 (ix3 0 i j)) (fun j => x6 (ix3 0 i j)) c * Ideal.ofBits .f32 0x3E000000#32 : EReal) := by
  refine (left_q_block x0 x1 x2 x3 x4 x5 x6 (ix2 i c)).trans ?_
  dsimp only
  rw [turnedBlock_at]
  simp only [zq_at, keept_at, downt_at, upt_at]

theorem left_k (i : Fin 256) (c : Fin 1024) : out0_8 x0 x1 x2 x3 x4 x5 x6 (ix2 i c)
    = (Cert.Attn.lanes (fun j => blockEntry x0 x1 x2 x3 i ⟨1024 + j.val, by omega⟩) (fun j => x4 (ix3 0 i j)) (fun j => x5 (ix3 0 i j)) (fun j => x6 (ix3 0 i j)) c : EReal) := by
  refine (left_k_block x0 x1 x2 x3 x4 x5 x6 (ix2 i c)).trans ?_
  dsimp only
  rw [turnedBlock_at]
  simp only [zk_at, keept_at, downt_at, upt_at]

theorem left_kb (i : Fin 256) (c : Fin 1024) : out0_9 x0 x1 x2 x3 x4 x5 x6 (ix2 i c)
    = (Cert.Attn.lanes (fun j => blockEntry x0 x1 x2 x3 i ⟨1024 + j.val, by omega⟩) (fun j => x4 (ix3 0 i j)) (fun j => x5 (ix3 0 i j)) (fun j => x6 (ix3 0 i j)) c : EReal) := by
  refine (left_kb_block x0 x1 x2 x3 x4 x5 x6 (ix2 i c)).trans ?_
  dsimp only
  rw [turnedBlock_at]
  simp only [zk_at, keept_at, downt_at, upt_at]

theorem left_km (c : Fin 1024) : out0_12 x0 x1 x2 x3 x4 x5 x6 (ix3 0 0 c)
    = Ideal.div (∑ i : Fin 256, Cert.Attn.lanes (fun j => blockEntry x0 x1 x2 x3 i ⟨1024 + j.val, by omega⟩) (fun j => x4 (ix3 0 i j)) (fun j => x5 (ix3 0 i j)) (fun j => x6 (ix3 0 i j)) c) (Ideal.ofBits .f32 0x43800000#32) := by
  refine (left_km_block x0 x1 x2 x3 x4 x5 x6 (ix3 0 0 c)).trans ?_
  dsimp only
  unfold meanBlock
  refine congrArg (fun s => Ideal.div s _) (Finset.sum_congr rfl fun i _ => ?_)
  refine (turnedBlock_at _ _ _ _ i c).trans ?_
  simp only [zk_at, keept_at, downt_at, upt_at]

theorem left_v (i : Fin 256) (c : Fin 1024) : out0_10 x0 x1 x2 x3 x4 x5 x6 (ix2 i c) = blockEntry x0 x1 x2 x3 i ⟨2048 + c.val, by omega⟩ := by
  unfold out0_10
  rw [View.canon_unit_zero (funext fun a => match a with | ⟨0, _⟩ => rfl | ⟨1, _⟩ => rfl)]
  exact zv_at x0 x1 x2 x3 x4 x5 x6 i c

theorem left_vb (i : Fin 256) (c : Fin 1024) : out0_11 x0 x1 x2 x3 x4 x5 x6 (ix2 i c) = blockEntry x0 x1 x2 x3 i ⟨2048 + c.val, by omega⟩ := by
  unfold out0_11
  rw [View.canon_unit_zero (funext fun a => match a with | ⟨0, _⟩ => rfl | ⟨1, _⟩ => rfl)]
  exact zv_at x0 x1 x2 x3 x4 x5 x6 i c

end Cert.AttnProjIdeal.Rows
-- ==== Proof.AttnProj.Points.lean ====
module

public import proofs.«01_k».proof.Proof.AttnProj.Entry
public import proofs.«01_k».proof.Proof.AttnProj.Payload

/-! The seven input blocks of a grid point: point `t` stages rows `256 t` to `256 t + 255`. -/

@[expose] public section

noncomputable section

namespace Cert.AttnProjIdeal.Rows

open Idealize.ShloMosaic Idealize.ShloMosaic.TcCoe Idealize.SL.Sem Cert.AttnProjIdeal Cert.AttnProjIdeal.Gen

/-- Which block of each input a point stages. -/
theorem index_in : ∀ t : Fin grid0.N, (win0_0.index t 0 = t.val ∧ win0_0.index t 1 = 0)
    ∧ (win0_1.index t 0 = (if t.val < 64 then t.val / 8 else 8) ∧ win0_1.index t 1 = 0 ∧ win0_1.index t 2 = 0)
    ∧ (win0_2.index t 0 = (if t.val < 64 then t.val / 8 else 8) ∧ win0_2.index t 1 = 0 ∧ win0_2.index t 2 = 0)
    ∧ (win0_3.index t 0 = 0 ∧ win0_3.index t 1 = 0)
    ∧ (win0_4.index t 0 = (if t.val < 64 then t.val % 8 else 8) ∧ win0_4.index t 1 = 0 ∧ win0_4.index t 2 = 0)
    ∧ (win0_5.index t 0 = (if t.val < 64 then t.val % 8 else 8) ∧ win0_5.index t 1 = 0 ∧ win0_5.index t 2 = 0)
    ∧ (win0_6.index t 0 = (if t.val < 64 then t.val % 8 else 8) ∧ win0_6.index t 1 = 0 ∧ win0_6.index t 2 = 0) := by decide +kernel

/-- And of each result. -/
theorem index_out : ∀ t : Fin grid0.N, (win0_7.index t 0 = t.val ∧ win0_7.index t 1 = 0)
    ∧ (win0_8.index t 0 = t.val ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0)
    ∧ (win0_12.index t 0 = t.val ∧ win0_12.index t 1 = 0 ∧ win0_12.index t 2 = 0) := by decide +kernel

theorem pt_lt (t : Fin cfg0.N) : t.val < 65 := lt_of_lt_of_eq t.isLt (show cfg0.N = 65 from N_0)

/-- Row `i` of point `t`. -/
def row (t : Fin cfg0.N) (i : Fin 256) : Fin 16640 := ⟨256 * t.val + i.val, by have := pt_lt t; omega⟩

/-- The block of vectors a point stages. -/
def modOf (t : Fin cfg0.N) : Fin 9 := ⟨if t.val < 64 then t.val / 8 else 8, by have := pt_lt t; split <;> omega⟩

/-- The block of angles a point stages. -/
def tabOf (t : Fin cfg0.N) : Fin 9 := ⟨if t.val < 64 then t.val % 8 else 8, by have := pt_lt t; split <;> omega⟩

variable (m : (ℓ : Loc nD τ sig) → Buf (Elt Ideal) ℓ) (c : Dev nD) (t : Fin cfg0.N)

theorem laidOut_row (a : FVec Ideal S40x1024 .f32) (i : Fin 256) (k : Fin 1024) :
    laidOut a (ix3 (modOf t) i k) = Cert.Proj.rowV (fun b k => a (ix2 b k)) (row t i) k := by
  have ht := pt_lt t
  rw [laidOut_at]
  unfold Cert.Proj.rowV
  by_cases h : t.val < 64
  · have h1 : (modOf t).val = t.val / 8 := if_pos h
    have h2 : (row t i).val = 256 * t.val + i.val := rfl
    rw [dif_pos (by omega), dif_pos (by omega)]
    exact congrArg (fun b => a (ix2 b k)) (Fin.ext (by show (modOf t).val = (row t i).val / 2048; omega))
  · have h1 : (modOf t).val = 8 := if_neg h
    have h2 : (row t i).val = 256 * t.val + i.val := rfl
    rw [dif_neg (by omega), dif_neg (by omega)]
    exact congrArg (fun b => a (ix2 b k)) (Fin.ext (by show 8 + i.val / 8 = 8 + ((row t i).val - 16384) / 8; omega))

theorem tablePos_row (i : Fin 256) : tablePos (tabOf t) i = Cert.Proj.rowPos (row t i) := by
  have ht := pt_lt t
  have h2 : (row t i).val = 256 * t.val + i.val := rfl
  unfold tablePos Cert.Proj.rowPos
  by_cases h : t.val < 64
  · have h1 : (tabOf t).val = t.val % 8 := if_pos h
    rw [if_pos (by omega), if_pos (by omega)]
    exact congrArg (BitVec.ofNat 32) (by omega)
  · have h1 : (tabOf t).val = 8 := if_neg h
    rw [if_neg (by omega), if_neg (by omega)]
    have e : i.val % 8 = ((row t i).val - 16384) % 8 := by omega
    rw [e]

theorem x_at (i : Fin 256) (k : Fin 1024) : (iblk m c 0 t : FVec Ideal S256x1024 .f32) (ix2 i k)
    = Cert.Proj.rowX (fun b s k => m ((c : Thread nD τ).loc main_arg0) (ix3 b s k)) (fun b s k => m ((c : Thread nD τ).loc main_arg1) (ix3 b s k)) (row t i) k := by
  refine Eq.trans ?_ ((congrFun (V_x m c) _).trans (stacked_at _ _ (row t i) k))
  have e := (index_in t).1
  show V m c main_v2 (((cfg0.win 0).blk t).view.emb (ix2 i k)) = _
  refine congrArg (V m c main_v2) (funext fun a => Fin.ext ?_)
  match a with
  | ⟨0, _⟩ =>
    show win0_0.index t 0 * 256 + 1 * i.val = 256 * t.val + i.val
    rw [e.1]; omega
  | ⟨1, _⟩ =>
    show win0_0.index t 1 * 1024 + 1 * k.val = k.val
    rw [e.2]; omega

theorem w_at (k : Fin 1024) (j : Fin 3072) : (iblk m c 3 t : FVec Ideal S1024x3072 .bf16) (ix2 k j)
    = m ((c : Thread nD τ).loc main_arg4) (ix2 k j) := by
  refine Eq.trans ?_ (congrFun (V_w m c) (ix2 k j))
  have e := (index_in t).2.2.2.1
  show V m c main_v54 (((cfg0.win 3).blk t).view.emb (ix2 k j)) = _
  refine congrArg (V m c main_v54) (funext fun a => Fin.ext ?_)
  match a with
  | ⟨0, _⟩ =>
    show win0_3.index t 0 * 1024 + 1 * k.val = k.val
    rw [e.1]; omega
  | ⟨1, _⟩ =>
    show win0_3.index t 1 * 3072 + 1 * j.val = j.val
    rw [e.2]; omega

theorem sh_at (i : Fin 256) (k : Fin 1024) : (iblk m c 1 t : FVec Ideal S1x256x1024 .f32) (ix3 0 i k)
    = Cert.Proj.rowV (fun b k => m ((c : Thread nD τ).loc main_arg2) (ix2 b k)) (row t i) k := by
  refine Eq.trans ?_ ((congrFun (V_sh m c) _).trans (laidOut_row t _ i k))
  have e := (index_in t).2.1
  show V m c main_v45 (((cfg0.win 1).blk t).view.emb (ix3 0 i k)) = _
  refine congrArg (V m c main_v45) (funext fun a => Fin.ext ?_)
  match a with
  | ⟨0, _⟩ =>
    show win0_1.index t 0 * 1 + 1 * 0 = (modOf t).val
    rw [e.1]; show _ = (if t.val < 64 then t.val / 8 else 8); omega
  | ⟨1, _⟩ =>
    show win0_1.index t 1 * 256 + 1 * i.val = i.val
    rw [e.2.1]; omega
  | ⟨2, _⟩ =>
    show win0_1.index t 2 * 1024 + 1 * k.val = k.val
    rw [e.2.2]; omega

theorem sc_at (i : Fin 256) (k : Fin 1024) : (iblk m c 2 t : FVec Ideal S1x256x1024 .f32) (ix3 0 i k)
    = Cert.Proj.rowV (fun b k => m ((c : Thread nD τ).loc main_arg3) (ix2 b k)) (row t i) k := by
  refine Eq.trans ?_ ((congrFun (V_sc m c) _).trans (laidOut_row t _ i k))
  have e := (index_in t).2.2.1
  show V m c main_v53 (((cfg0.win 2).blk t).view.emb (ix3 0 i k)) = _
  refine congrArg (V m c main_v53) (funext fun a => Fin.ext ?_)
  match a with
  | ⟨0, _⟩ =>
    show win0_2.index t 0 * 1 + 1 * 0 = (modOf t).val
    rw [e.1]; show _ = (if t.val < 64 then t.val / 8 else 8); omega
  | ⟨1, _⟩ =>
    show win0_2.index t 1 * 256 + 1 * i.val = i.val
    rw [e.2.1]; omega
  | ⟨2, _⟩ =>
    show win0_2.index t 2 * 1024 + 1 * k.val = k.val
    rw [e.2.2]; omega

theorem keep_row (i : Fin 256) (k : Fin 128) : (iblk m c 4 t : FVec Ideal S1x256x128 .f32) (ix3 0 i k)
    = Cert.Attn.keepTable (Cert.Attn.rowCos (row t i)) k := by
  unfold Cert.Attn.rowCos
  rw [← tablePos_row]
  refine Eq.trans ?_ ((congrFun (V_keep m c) _).trans (keepTable_at (tabOf t) i k))
  have e := (index_in t).2.2.2.2.1
  show V m c main_v33 (((cfg0.win 4).blk t).view.emb (ix3 0 i k)) = _
  refine congrArg (V m c main_v33) (funext fun a => Fin.ext ?_)
  match a with
  | ⟨0, _⟩ =>
    show win0_4.index t 0 * 1 + 1 * 0 = (tabOf t).val
    rw [e.1]; show _ = (if t.val < 64 then t.val % 8 else 8); omega
  | ⟨1, _⟩ =>
    show win0_4.index t 1 * 256 + 1 * i.val = i.val
    rw [e.2.1]; omega
  | ⟨2, _⟩ =>
    show win0_4.index t 2 * 128 + 1 * k.val = k.val
    rw [e.2.2]; omega

theorem down_row (i : Fin 256) (k : Fin 128) : (iblk m c 5 t : FVec Ideal S1x256x128 .f32) (ix3 0 i k)
    = Cert.Attn.downTable (Cert.Attn.rowSin (row t i)) k := by
  unfold Cert.Attn.rowSin
  rw [← tablePos_row]
  refine Eq.trans ?_ ((congrFun (V_down m c) _).trans (downTable_at (tabOf t) i k))
  have e := (index_in t).2.2.2.2.2.1
  show V m c main_v35 (((cfg0.win 5).blk t).view.emb (ix3 0 i k)) = _
  refine congrArg (V m c main_v35) (funext fun a => Fin.ext ?_)
  match a with
  | ⟨0, _⟩ =>
    show win0_5.index t 0 * 1 + 1 * 0 = (tabOf t).val
    rw [e.1]; show _ = (if t.val < 64 then t.val % 8 else 8); omega
  | ⟨1, _⟩ =>
    show win0_5.index t 1 * 256 + 1 * i.val = i.val
    rw [e.2.1]; omega
  | ⟨2, _⟩ =>
    show win0_5.index t 2 * 128 + 1 * k.val = k.val
    rw [e.2.2]; omega

theorem up_row (i : Fin 256) (k : Fin 128) : (iblk m c 6 t : FVec Ideal S1x256x128 .f32) (ix3 0 i k)
    = Cert.Attn.upTable (Cert.Attn.rowSin (row t i)) k := by
  unfold Cert.Attn.rowSin
  rw [← tablePos_row]
  refine Eq.trans ?_ ((congrFun (V_up m c) _).trans (upTable_at (tabOf t) i k))
  have e := (index_in t).2.2.2.2.2.2
  show V m c main_v37 (((cfg0.win 6).blk t).view.emb (ix3 0 i k)) = _
  refine congrArg (V m c main_v37) (funext fun a => Fin.ext ?_)
  match a with
  | ⟨0, _⟩ =>
    show win0_6.index t 0 * 1 + 1 * 0 = (tabOf t).val
    rw [e.1]; show _ = (if t.val < 64 then t.val % 8 else 8); omega
  | ⟨1, _⟩ =>
    show win0_6.index t 1 * 256 + 1 * i.val = i.val
    rw [e.2.1]; omega
  | ⟨2, _⟩ =>
    show win0_6.index t 2 * 128 + 1 * k.val = k.val
    rw [e.2.2]; omega

/-- The arguments of the call, as functions of plain indices. -/
abbrev xpf (b : Fin 8) (s : Fin 2048) (k : Fin 1024) : EReal := m ((c : Thread nD τ).loc main_arg0) (ix3 b s k)
abbrev xsf (b : Fin 32) (s : Fin 8) (k : Fin 1024) : EReal := m ((c : Thread nD τ).loc main_arg1) (ix3 b s k)
abbrev shf (b : Fin 40) (k : Fin 1024) : EReal := m ((c : Thread nD τ).loc main_arg2) (ix2 b k)
abbrev scf (b : Fin 40) (k : Fin 1024) : EReal := m ((c : Thread nD τ).loc main_arg3) (ix2 b k)
abbrev wf (k : Fin 1024) (j : Fin 3072) : EReal := m ((c : Thread nD τ).loc main_arg4) (ix2 k j)

theorem entry_at (i : Fin 256) (j : Fin 3072) : blockEntry (iblk m c 0 t) (iblk m c 1 t) (iblk m c 2 t) (iblk m c 3 t) i j
    = Cert.Attn.entry (xpf m c) (xsf m c) (shf m c) (scf m c) (wf m c) (row t i) j := by
  unfold blockEntry Cert.Attn.entry
  refine Finset.sum_congr rfl fun k _ => ?_
  rw [x_at, sh_at, sc_at, w_at]

theorem query_at (i : Fin 256) (d : Fin 1024) :
    out0_7 (iblk m c 0 t) (iblk m c 1 t) (iblk m c 2 t) (iblk m c 3 t) (iblk m c 4 t) (iblk m c 5 t) (iblk m c 6 t) (ix2 i d)
    = Cert.Attn.query (xpf m c) (xsf m c) (shf m c) (scf m c) (wf m c) (row t i) d := by
  rw [left_q]
  unfold Cert.Attn.query
  rw [← Cert.Attn.lanes_eq]
  simp only [entry_at, keep_row, down_row, up_row]

theorem key_at (i : Fin 256) (d : Fin 1024) :
    out0_8 (iblk m c 0 t) (iblk m c 1 t) (iblk m c 2 t) (iblk m c 3 t) (iblk m c 4 t) (iblk m c 5 t) (iblk m c 6 t) (ix2 i d)
    = Cert.Attn.key (xpf m c) (xsf m c) (shf m c) (scf m c) (wf m c) (row t i) d := by
  rw [left_k]
  unfold Cert.Attn.key
  rw [← Cert.Attn.lanes_eq]
  simp only [entry_at, keep_row, down_row, up_row]

theorem keyb_at (i : Fin 256) (d : Fin 1024) :
    out0_9 (iblk m c 0 t) (iblk m c 1 t) (iblk m c 2 t) (iblk m c 3 t) (iblk m c 4 t) (iblk m c 5 t) (iblk m c 6 t) (ix2 i d)
    = Cert.Attn.key (xpf m c) (xsf m c) (shf m c) (scf m c) (wf m c) (row t i) d := by
  rw [left_kb]
  unfold Cert.Attn.key
  rw [← Cert.Attn.lanes_eq]
  simp only [entry_at, keep_row, down_row, up_row]

theorem value_at (i : Fin 256) (d : Fin 1024) :
    out0_10 (iblk m c 0 t) (iblk m c 1 t) (iblk m c 2 t) (iblk m c 3 t) (iblk m c 4 t) (iblk m c 5 t) (iblk m c 6 t) (ix2 i d)
    = Cert.Attn.value (xpf m c) (xsf m c) (shf m c) (scf m c) (wf m c) (row t i) d := by
  rw [left_v, entry_at]
  rfl

theorem valueb_at (i : Fin 256) (d : Fin 1024) :
    out0_11 (iblk m c 0 t) (iblk m c 1 t) (iblk m c 2 t) (iblk m c 3 t) (iblk m c 4 t) (iblk m c 5 t) (iblk m c 6 t) (ix2 i d)
    = Cert.Attn.value (xpf m c) (xsf m c) (shf m c) (scf m c) (wf m c) (row t i) d := by
  rw [left_vb, entry_at]
  rfl

theorem mean_at (d : Fin 1024) :
    out0_12 (iblk m c 0 t) (iblk m c 1 t) (iblk m c 2 t) (iblk m c 3 t) (iblk m c 4 t) (iblk m c 5 t) (iblk m c 6 t) (ix3 0 0 d)
    = Cert.Attn.keyMean (xpf m c) (xsf m c) (shf m c) (scf m c) (wf m c) ⟨t.val, pt_lt t⟩ d := by
  rw [left_km]
  unfold Cert.Attn.keyMean
  refine congrArg (fun s => Ideal.div s _) (Finset.sum_congr rfl fun i _ => ?_)
  refine Eq.trans ?_ (key_at m c t i d)
  rw [left_k]

end Cert.AttnProjIdeal.Rows
-- ==== Proof.AttnProj.RefOut.lean ====
module

public import proofs.«01_k».proof.Proof.Gen.AttnProjReferenceIdeal.Run
public import proofs.«01_k».proof.Proof.AttnProj.Spec
public import Idealize.ShloMosaic.Lib.Pointwise

/-! The reference's six results read at an index. -/

@[expose] public section

noncomputable section

namespace Cert.AttnProjReferenceIdeal.Rows

open Idealize.ShloMosaic Idealize.SL.Sem Cert.AttnProjReferenceIdeal Cert.AttnProjReferenceIdeal.Gen

/-- The prompt's heads, their first sixteen entries turned. -/
def headsP (lo hi : FVec Ideal S8x2048x16x8 .f32) (co si : FVec Ideal S2048x1x8 .f32) (hh : FVec Ideal S8x2048x16x64 .f32) : FVec Ideal S8x2048x16x64 .f32 :=
  concatenate S8x2048x16x64 3 [⟨S8x2048x16x8, subf (mulf lo (broadcastInDim S8x2048x16x8 ![0, 1, 2, 3] bcast_S1x2048x1x8_S8x2048x16x8_0_1_2_3 (broadcastInDim S1x2048x1x8 ![1, 2, 3] bcast_S2048x1x8_S1x2048x1x8_1_2_3 co))) (mulf hi (broadcastInDim S8x2048x16x8 ![0, 1, 2, 3] bcast_S1x2048x1x8_S8x2048x16x8_0_1_2_3 (broadcastInDim S1x2048x1x8 ![1, 2, 3] bcast_S2048x1x8_S1x2048x1x8_1_2_3 si)))⟩,
    ⟨S8x2048x16x8, addf (mulf hi (broadcastInDim S8x2048x16x8 ![0, 1, 2, 3] bcast_S1x2048x1x8_S8x2048x16x8_0_1_2_3 (broadcastInDim S1x2048x1x8 ![1, 2, 3] bcast_S2048x1x8_S1x2048x1x8_1_2_3 co))) (mulf lo (broadcastInDim S8x2048x16x8 ![0, 1, 2, 3] bcast_S1x2048x1x8_S8x2048x16x8_0_1_2_3 (broadcastInDim S1x2048x1x8 ![1, 2, 3] bcast_S2048x1x8_S1x2048x1x8_1_2_3 si)))⟩,
    ⟨S8x2048x16x48, extractStridedSlice S8x2048x16x48 ![0, 0, 0, 16] hh slices_S8x2048x16x64_S8x2048x16x48_0_0_0_16⟩] concatenates_S8x2048x16x8_S8x2048x16x8_S8x2048x16x48_S8x2048x16x64_d3

theorem headsP_at (lo hi : FVec Ideal S8x2048x16x8 .f32) (co si : FVec Ideal S2048x1x8 .f32) (hh : FVec Ideal S8x2048x16x64 .f32) (b : Fin 8) (s : Fin 2048) (h : Fin 16) (d : Fin 64) :
    headsP lo hi co si hh (ix4 b s h d) = (if hd : d.val < 8 then lo (ix4 b s h ⟨d.val, hd⟩) * co (ix3 s 0 ⟨d.val, hd⟩) - hi (ix4 b s h ⟨d.val, hd⟩) * si (ix3 s 0 ⟨d.val, hd⟩)
      else if hd' : d.val < 16 then hi (ix4 b s h ⟨d.val - 8, by omega⟩) * co (ix3 s 0 ⟨d.val - 8, by omega⟩) + lo (ix4 b s h ⟨d.val - 8, by omega⟩) * si (ix3 s 0 ⟨d.val - 8, by omega⟩)
      else hh (ix4 b s h d) : EReal) := by
  unfold headsP
  pointwise
  by_cases hd : d.val < 8
  · rw [dif_pos hd, dif_pos hd]
  · rw [dif_neg hd, dif_neg hd]
    by_cases hd' : d.val < 16
    · rw [dif_pos (by omega), dif_pos hd']
    · rw [dif_neg (by omega), dif_neg hd']
      exact congrArg hh (congrArg (ix4 b s h) (Fin.ext (by dsimp only; omega)))

/-- The sample's. -/
def headsS (lo hi : FVec Ideal S32x8x16x8 .f32) (co si : FVec Ideal S8x1x8 .f32) (hh : FVec Ideal S32x8x16x64 .f32) : FVec Ideal S32x8x16x64 .f32 :=
  concatenate S32x8x16x64 3 [⟨S32x8x16x8, subf (mulf lo (broadcastInDim S32x8x16x8 ![0, 1, 2, 3] bcast_S1x8x1x8_S32x8x16x8_0_1_2_3 (broadcastInDim S1x8x1x8 ![1, 2, 3] bcast_S8x1x8_S1x8x1x8_1_2_3 co))) (mulf hi (broadcastInDim S32x8x16x8 ![0, 1, 2, 3] bcast_S1x8x1x8_S32x8x16x8_0_1_2_3 (broadcastInDim S1x8x1x8 ![1, 2, 3] bcast_S8x1x8_S1x8x1x8_1_2_3 si)))⟩,
    ⟨S32x8x16x8, addf (mulf hi (broadcastInDim S32x8x16x8 ![0, 1, 2, 3] bcast_S1x8x1x8_S32x8x16x8_0_1_2_3 (broadcastInDim S1x8x1x8 ![1, 2, 3] bcast_S8x1x8_S1x8x1x8_1_2_3 co))) (mulf lo (broadcastInDim S32x8x16x8 ![0, 1, 2, 3] bcast_S1x8x1x8_S32x8x16x8_0_1_2_3 (broadcastInDim S1x8x1x8 ![1, 2, 3] bcast_S8x1x8_S1x8x1x8_1_2_3 si)))⟩,
    ⟨S32x8x16x48, extractStridedSlice S32x8x16x48 ![0, 0, 0, 16] hh slices_S32x8x16x64_S32x8x16x48_0_0_0_16⟩] concatenates_S32x8x16x8_S32x8x16x8_S32x8x16x48_S32x8x16x64_d3

theorem headsS_at (lo hi : FVec Ideal S32x8x16x8 .f32) (co si : FVec Ideal S8x1x8 .f32) (hh : FVec Ideal S32x8x16x64 .f32) (b : Fin 32) (s : Fin 8) (h : Fin 16) (d : Fin 64) :
    headsS lo hi co si hh (ix4 b s h d) = (if hd : d.val < 8 then lo (ix4 b s h ⟨d.val, hd⟩) * co (ix3 s 0 ⟨d.val, hd⟩) - hi (ix4 b s h ⟨d.val, hd⟩) * si (ix3 s 0 ⟨d.val, hd⟩)
      else if hd' : d.val < 16 then hi (ix4 b s h ⟨d.val - 8, by omega⟩) * co (ix3 s 0 ⟨d.val - 8, by omega⟩) + lo (ix4 b s h ⟨d.val - 8, by omega⟩) * si (ix3 s 0 ⟨d.val - 8, by omega⟩)
      else hh (ix4 b s h d) : EReal) := by
  unfold headsS
  pointwise
  by_cases hd : d.val < 8
  · rw [dif_pos hd, dif_pos hd]
  · rw [dif_neg hd, dif_neg hd]
    by_cases hd' : d.val < 16
    · rw [dif_pos (by omega), dif_pos hd']
    · rw [dif_neg (by omega), dif_neg hd']
      exact congrArg hh (congrArg (ix4 b s h) (Fin.ext (by dsimp only; omega)))

/-- The heads of both batches, one row per token. -/
def stackOf (a : FVec Ideal S8x2048x16x64 .f32) (b : FVec Ideal S32x8x16x64 .f32) : FVec Ideal S16640x1024 .f32 :=
  concatenate S16640x1024 0 [⟨S16384x1024, (shapeCast _ a shapeCasts_S8x2048x16x64_S16384x1024)⟩, ⟨S256x1024, (shapeCast _ b shapeCasts_S32x8x16x64_S256x1024)⟩] concatenates_S16384x1024_S256x1024_S16640x1024_d0

theorem stackOf_at (a : FVec Ideal S8x2048x16x64 .f32) (b : FVec Ideal S32x8x16x64 .f32) (r : Fin 16640) (c : Fin 1024) :
    stackOf a b (ix2 r c) = if h : r.val < 16384 then a (ix4 ⟨r.val / 2048, by omega⟩ ⟨r.val % 2048, by omega⟩ ⟨c.val / 64, by omega⟩ ⟨c.val % 64, by omega⟩)
      else b (ix4 ⟨(r.val - 16384) / 8, by omega⟩ ⟨(r.val - 16384) % 8, by omega⟩ ⟨c.val / 64, by omega⟩ ⟨c.val % 64, by omega⟩) := by
  unfold stackOf
  pointwise

/-- The queries scaled. -/
def scaledOf (q : FVec Ideal S16640x1024 .f32) : FVec Ideal S16640x1024 .bf16 :=
  truncf .bf16 (mulf q (broadcastInDim S16640x1024 ![] bcast_S_S16640x1024 (constant S_ .f32 0x3E000000#32))) bitsLt_bf16_f32

theorem scaledOf_at (q : FVec Ideal S16640x1024 .f32) (r : Fin 16640) (c : Fin 1024) :
    (scaledOf q (ix2 r c) : EReal) = q (ix2 r c) * Ideal.ofBits .f32 0x3E000000#32 := by
  unfold scaledOf
  pointwise

/-- The means of every 256 rows. -/
def meansOf (k : FVec Ideal S16640x1024 .f32) : FVec Ideal S65x1x1024 .f32 :=
  Host.divf (broadcastInDim S65x1x1024 ![0, 2] bcast_S65x1024_S65x1x1024_0_2 (Host.reduceAdd (shapeCast _ k shapeCasts_S16640x1024_S65x256x1024) (constant S_ .f32 0x00000000#32) reducesTo_S65x256x1024_S65x1024_d1 h_S_)) (broadcastInDim S65x1x1024 ![] bcast_S_S65x1x1024 (constant S_ .f32 0x43800000#32))

theorem meansOf_at (k : FVec Ideal S16640x1024 .f32) (b : Fin 65) (c : Fin 1024) :
    meansOf k (ix3 b 0 c) = Ideal.div (∑ i : Fin 256, k (ix2 ⟨256 * b.val + i.val, by omega⟩ c)) (Ideal.ofBits .f32 0x43800000#32) := by
  unfold meansOf
  pointwise
  refine congrArg (fun s => Ideal.div s _) (Finset.sum_congr rfl fun i _ => ?_)
  exact congrArg (fun r => k (ix2 r c)) (Fin.ext (by dsimp only; omega))

theorem cutP_at (a : FVec Ideal S8x2048x3072 .f32) (b : Fin 8) (s : Fin 2048) (j : Fin 1024) :
    extractStridedSlice S8x2048x1024 ![0, 0, 2048] a slices_S8x2048x3072_S8x2048x1024_0_0_2048 (ix3 b s j) = a (ix3 b s ⟨2048 + j.val, by omega⟩) := by
  refine congrArg a (funext fun q => Fin.ext ?_)
  match q with
  | ⟨0, _⟩ => show 0 + b.val = b.val; omega
  | ⟨1, _⟩ => show 0 + s.val = s.val; omega
  | ⟨2, _⟩ => rfl

theorem cutS_at (a : FVec Ideal S32x8x3072 .f32) (b : Fin 32) (s : Fin 8) (j : Fin 1024) :
    extractStridedSlice S32x8x1024 ![0, 0, 2048] a slices_S32x8x3072_S32x8x1024_0_0_2048 (ix3 b s j) = a (ix3 b s ⟨2048 + j.val, by omega⟩) := by
  refine congrArg a (funext fun q => Fin.ext ?_)
  match q with
  | ⟨0, _⟩ => show 0 + b.val = b.val; omega
  | ⟨1, _⟩ => show 0 + s.val = s.val; omega
  | ⟨2, _⟩ => rfl

theorem stackRows_at (a : FVec Ideal S8x2048x1024 .f32) (b : FVec Ideal S32x8x1024 .f32) (r : Fin 16640) (c : Fin 1024) :
    stackOf (shapeCast _ a shapeCasts_S8x2048x1024_S8x2048x16x64) (shapeCast _ b shapeCasts_S32x8x1024_S32x8x16x64) (ix2 r c)
      = if h : r.val < 16384 then a (ix3 ⟨r.val / 2048, by omega⟩ ⟨r.val % 2048, by omega⟩ c)
      else b (ix3 ⟨(r.val - 16384) / 8, by omega⟩ ⟨(r.val - 16384) % 8, by omega⟩ c) := by
  unfold stackOf
  pointwise

def vOf (a : FVec Ideal S8x2048x3072 .f32) (b : FVec Ideal S32x8x3072 .f32) : FVec Ideal S16640x1024 .f32 :=
  stackOf (shapeCast _ (extractStridedSlice S8x2048x1024 ![0, 0, 2048] a slices_S8x2048x3072_S8x2048x1024_0_0_2048) shapeCasts_S8x2048x1024_S8x2048x16x64) (shapeCast _ (extractStridedSlice S32x8x1024 ![0, 0, 2048] b slices_S32x8x3072_S32x8x1024_0_0_2048) shapeCasts_S32x8x1024_S32x8x16x64)

theorem vOf_at (a : FVec Ideal S8x2048x3072 .f32) (b : FVec Ideal S32x8x3072 .f32) (r : Fin 16640) (c : Fin 1024) :
    vOf a b (ix2 r c) = if h : r.val < 16384 then a (ix3 ⟨r.val / 2048, by omega⟩ ⟨r.val % 2048, by omega⟩ ⟨2048 + c.val, by omega⟩)
      else b (ix3 ⟨(r.val - 16384) / 8, by omega⟩ ⟨(r.val - 16384) % 8, by omega⟩ ⟨2048 + c.val, by omega⟩) := by
  unfold vOf
  rw [stackRows_at]
  by_cases h : r.val < 16384
  · rw [dif_pos h, dif_pos h]; exact cutP_at _ _ _ _
  · rw [dif_neg h, dif_neg h]; exact cutS_at _ _ _ _

/-- A row's heads, given by the pairs' halves and the rest of each head's columns, are the row turned. -/
theorem turned_of_pieces (z : Fin 1024 → EReal) (co si : Fin 8 → EReal) (lo hi : Fin 16 → Fin 8 → EReal) (hh : Fin 16 → Fin 64 → EReal)
    (hlo : ∀ h j, lo h j = z ⟨h.val * 64 + j.val, by omega⟩) (hhi : ∀ h j, hi h j = z ⟨h.val * 64 + (8 + j.val), by omega⟩)
    (hhh : ∀ h d, hh h d = z ⟨h.val * 64 + d.val, by omega⟩) (c : Fin 1024) :
    (if hd : c.val % 64 < 8 then lo ⟨c.val / 64, by omega⟩ ⟨c.val % 64, hd⟩ * co ⟨c.val % 64, hd⟩ - hi ⟨c.val / 64, by omega⟩ ⟨c.val % 64, hd⟩ * si ⟨c.val % 64, hd⟩
      else if hd' : c.val % 64 < 16 then hi ⟨c.val / 64, by omega⟩ ⟨c.val % 64 - 8, by omega⟩ * co ⟨c.val % 64 - 8, by omega⟩ + lo ⟨c.val / 64, by omega⟩ ⟨c.val % 64 - 8, by omega⟩ * si ⟨c.val % 64 - 8, by omega⟩
      else hh ⟨c.val / 64, by omega⟩ ⟨c.val % 64, by omega⟩)
    = Cert.Attn.partTurned z co si c := by
  unfold Cert.Attn.partTurned
  have e1 : (⟨c.val / 64 * 64 + c.val % 64, by omega⟩ : Fin 1024) = c := Fin.ext (by show c.val / 64 * 64 + c.val % 64 = c.val; omega)
  by_cases hd : c.val % 64 < 8
  · rw [dif_pos hd, dif_pos hd, hlo, hhi]
    have e2 : (⟨c.val / 64 * 64 + (8 + c.val % 64), by omega⟩ : Fin 1024) = ⟨c.val + 8, by omega⟩ :=
      Fin.ext (by show c.val / 64 * 64 + (8 + c.val % 64) = c.val + 8; omega)
    dsimp only
    rw [e1, e2]
  · rw [dif_neg hd, dif_neg hd]
    by_cases hd' : c.val % 64 < 16
    · rw [dif_pos hd', dif_pos hd', hlo, hhi]
      have e3 : (⟨c.val / 64 * 64 + (8 + (c.val % 64 - 8)), by omega⟩ : Fin 1024) = c :=
        Fin.ext (by show c.val / 64 * 64 + (8 + (c.val % 64 - 8)) = c.val; omega)
      have e2 : (⟨c.val / 64 * 64 + (c.val % 64 - 8), by omega⟩ : Fin 1024) = ⟨c.val - 8, by omega⟩ :=
        Fin.ext (by show c.val / 64 * 64 + (c.val % 64 - 8) = c.val - 8; omega)
      dsimp only
      rw [e3, e2]
    · rw [dif_neg hd', dif_neg hd', hhh]
      dsimp only
      rw [e1]

variable (V0 : Valuation τ sig (Elt Ideal))

/-- The reference's arguments, as functions of plain indices. -/
abbrev xp (b : Fin 8) (s : Fin 2048) (k : Fin 1024) : EReal := (V0 (Proc.devRef .tc main_arg0) : FVec Ideal S8x2048x1024 .f32) (ix3 b s k)
abbrev xs (b : Fin 32) (s : Fin 8) (k : Fin 1024) : EReal := (V0 (Proc.devRef .tc main_arg1) : FVec Ideal S32x8x1024 .f32) (ix3 b s k)
abbrev sh (b : Fin 40) (k : Fin 1024) : EReal := (V0 (Proc.devRef .tc main_arg2) : FVec Ideal S40x1024 .f32) (ix2 b k)
abbrev sc (b : Fin 40) (k : Fin 1024) : EReal := (V0 (Proc.devRef .tc main_arg3) : FVec Ideal S40x1024 .f32) (ix2 b k)
abbrev w (k : Fin 1024) (j : Fin 3072) : EReal := (V0 (Proc.devRef .tc main_arg4) : FVec Ideal S1024x3072 .f32) (ix2 k j)

theorem promptRow_at (b : Fin 8) (s : Fin 2048) (j : Fin 3072) : (Value.res_main_v26 V0 : FVec Ideal S8x2048x3072 .f32) (ix3 b s j)
    = ∑ k, (xp V0 b s k * (1 + sc V0 ⟨b.val, by omega⟩ k) + sh V0 ⟨b.val, by omega⟩ k) * w V0 k j := by
  unfold Value.res_main_v26
  pointwise

theorem sampleRow_at (b : Fin 32) (s : Fin 8) (j : Fin 3072) : (Value.res_main_v101 V0 : FVec Ideal S32x8x3072 .f32) (ix3 b s j)
    = ∑ k, (xs V0 b s k * (1 + sc V0 ⟨8 + b.val, by omega⟩ k) + sh V0 ⟨8 + b.val, by omega⟩ k) * w V0 k j := by
  unfold Value.res_main_v101
  pointwise

theorem prompt_entry (r : Fin 16640) (h : r.val < 16384) (j : Fin 3072) :
    (Value.res_main_v26 V0 : FVec Ideal S8x2048x3072 .f32) (ix3 ⟨r.val / 2048, by omega⟩ ⟨r.val % 2048, by omega⟩ j)
      = Cert.Attn.entry (xp V0) (xs V0) (sh V0) (sc V0) (w V0) r j := by
  rw [promptRow_at]
  unfold Cert.Attn.entry Cert.Proj.rowX Cert.Proj.rowV
  simp only [dif_pos h]

theorem sample_entry (r : Fin 16640) (h : ¬ r.val < 16384) (j : Fin 3072) :
    (Value.res_main_v101 V0 : FVec Ideal S32x8x3072 .f32) (ix3 ⟨(r.val - 16384) / 8, by omega⟩ ⟨(r.val - 16384) % 8, by omega⟩ j)
      = Cert.Attn.entry (xp V0) (xs V0) (sh V0) (sc V0) (w V0) r j := by
  rw [sampleRow_at]
  unfold Cert.Attn.entry Cert.Proj.rowX Cert.Proj.rowV
  simp only [dif_neg h]

theorem samplePos_at (s : Fin 8) : (Value.res_main_v24 V0 : IVec S8 32) (ix1 s) = IntOp.addi 16384#32 (IntOp.minsi (BitVec.ofNat 32 s.val) 3#32) := by
  unfold Value.res_main_v24
  pointwise

theorem half47_at (b : Fin 8) (s : Fin 2048) (h : Fin 16) (j : Fin 8) : (Value.res_main_v47 V0 : FVec Ideal S8x2048x16x8 .f32) (ix4 b s h j)
    = (Value.res_main_v26 V0 : FVec Ideal S8x2048x3072 .f32) (ix3 b s ⟨h.val * 64 + j.val, by omega⟩) := by
  unfold Value.res_main_v47 Value.res_main_v30
  pointwise

theorem half48_at (b : Fin 8) (s : Fin 2048) (h : Fin 16) (j : Fin 8) : (Value.res_main_v48 V0 : FVec Ideal S8x2048x16x8 .f32) (ix4 b s h j)
    = (Value.res_main_v26 V0 : FVec Ideal S8x2048x3072 .f32) (ix3 b s ⟨h.val * 64 + (8 + j.val), by omega⟩) := by
  unfold Value.res_main_v48 Value.res_main_v30
  pointwise

theorem whole30_at (b : Fin 8) (s : Fin 2048) (h : Fin 16) (d : Fin 64) : (Value.res_main_v30 V0 : FVec Ideal S8x2048x16x64 .f32) (ix4 b s h d)
    = (Value.res_main_v26 V0 : FVec Ideal S8x2048x3072 .f32) (ix3 b s ⟨h.val * 64 + d.val, by omega⟩) := by
  unfold Value.res_main_v30
  pointwise

theorem half82_at (b : Fin 8) (s : Fin 2048) (h : Fin 16) (j : Fin 8) : (Value.res_main_v82 V0 : FVec Ideal S8x2048x16x8 .f32) (ix4 b s h j)
    = (Value.res_main_v26 V0 : FVec Ideal S8x2048x3072 .f32) (ix3 b s ⟨1024 + (h.val * 64 + j.val), by omega⟩) := by
  unfold Value.res_main_v82 Value.res_main_v65
  pointwise

theorem half83_at (b : Fin 8) (s : Fin 2048) (h : Fin 16) (j : Fin 8) : (Value.res_main_v83 V0 : FVec Ideal S8x2048x16x8 .f32) (ix4 b s h j)
    = (Value.res_main_v26 V0 : FVec Ideal S8x2048x3072 .f32) (ix3 b s ⟨1024 + (h.val * 64 + (8 + j.val)), by omega⟩) := by
  unfold Value.res_main_v83 Value.res_main_v65
  pointwise

theorem whole65_at (b : Fin 8) (s : Fin 2048) (h : Fin 16) (d : Fin 64) : (Value.res_main_v65 V0 : FVec Ideal S8x2048x16x64 .f32) (ix4 b s h d)
    = (Value.res_main_v26 V0 : FVec Ideal S8x2048x3072 .f32) (ix3 b s ⟨1024 + (h.val * 64 + d.val), by omega⟩) := by
  unfold Value.res_main_v65
  pointwise

theorem half122_at (b : Fin 32) (s : Fin 8) (h : Fin 16) (j : Fin 8) : (Value.res_main_v122 V0 : FVec Ideal S32x8x16x8 .f32) (ix4 b s h j)
    = (Value.res_main_v101 V0 : FVec Ideal S32x8x3072 .f32) (ix3 b s ⟨h.val * 64 + j.val, by omega⟩) := by
  unfold Value.res_main_v122 Value.res_main_v105
  pointwise

theorem half123_at (b : Fin 32) (s : Fin 8) (h : Fin 16) (j : Fin 8) : (Value.res_main_v123 V0 : FVec Ideal S32x8x16x8 .f32) (ix4 b s h j)
    = (Value.res_main_v101 V0 : FVec Ideal S32x8x3072 .f32) (ix3 b s ⟨h.val * 64 + (8 + j.val), by omega⟩) := by
  unfold Value.res_main_v123 Value.res_main_v105
  pointwise

theorem whole105_at (b : Fin 32) (s : Fin 8) (h : Fin 16) (d : Fin 64) : (Value.res_main_v105 V0 : FVec Ideal S32x8x16x64 .f32) (ix4 b s h d)
    = (Value.res_main_v101 V0 : FVec Ideal S32x8x3072 .f32) (ix3 b s ⟨h.val * 64 + d.val, by omega⟩) := by
  unfold Value.res_main_v105
  pointwise

theorem half157_at (b : Fin 32) (s : Fin 8) (h : Fin 16) (j : Fin 8) : (Value.res_main_v157 V0 : FVec Ideal S32x8x16x8 .f32) (ix4 b s h j)
    = (Value.res_main_v101 V0 : FVec Ideal S32x8x3072 .f32) (ix3 b s ⟨1024 + (h.val * 64 + j.val), by omega⟩) := by
  unfold Value.res_main_v157 Value.res_main_v140
  pointwise

theorem half158_at (b : Fin 32) (s : Fin 8) (h : Fin 16) (j : Fin 8) : (Value.res_main_v158 V0 : FVec Ideal S32x8x16x8 .f32) (ix4 b s h j)
    = (Value.res_main_v101 V0 : FVec Ideal S32x8x3072 .f32) (ix3 b s ⟨1024 + (h.val * 64 + (8 + j.val)), by omega⟩) := by
  unfold Value.res_main_v158 Value.res_main_v140
  pointwise

theorem whole140_at (b : Fin 32) (s : Fin 8) (h : Fin 16) (d : Fin 64) : (Value.res_main_v140 V0 : FVec Ideal S32x8x16x64 .f32) (ix4 b s h d)
    = (Value.res_main_v101 V0 : FVec Ideal S32x8x3072 .f32) (ix3 b s ⟨1024 + (h.val * 64 + d.val), by omega⟩) := by
  unfold Value.res_main_v140
  pointwise

theorem table44_at (s : Fin 2048) (j : Fin 8) : (Value.res_main_v44 V0 : FVec Ideal S2048x1x8 .f32) (ix3 s 0 j)
    = Ideal.cos (Cert.Attn.angle (BitVec.ofNat 32 s.val) j) := by
  unfold Value.res_main_v44 Value.res_main_v42 Value.res_main_v25 Cert.Attn.angle
  pointwise

theorem table46_at (s : Fin 2048) (j : Fin 8) : (Value.res_main_v46 V0 : FVec Ideal S2048x1x8 .f32) (ix3 s 0 j)
    = Ideal.sin (Cert.Attn.angle (BitVec.ofNat 32 s.val) j) := by
  unfold Value.res_main_v46 Value.res_main_v42 Value.res_main_v25 Cert.Attn.angle
  pointwise

theorem table79_at (s : Fin 2048) (j : Fin 8) : (Value.res_main_v79 V0 : FVec Ideal S2048x1x8 .f32) (ix3 s 0 j)
    = Ideal.cos (Cert.Attn.angle (BitVec.ofNat 32 s.val) j) := by
  unfold Value.res_main_v79 Value.res_main_v77 Value.res_main_v25 Cert.Attn.angle
  pointwise

theorem table81_at (s : Fin 2048) (j : Fin 8) : (Value.res_main_v81 V0 : FVec Ideal S2048x1x8 .f32) (ix3 s 0 j)
    = Ideal.sin (Cert.Attn.angle (BitVec.ofNat 32 s.val) j) := by
  unfold Value.res_main_v81 Value.res_main_v77 Value.res_main_v25 Cert.Attn.angle
  pointwise

theorem table119_at (s : Fin 8) (j : Fin 8) : (Value.res_main_v119 V0 : FVec Ideal S8x1x8 .f32) (ix3 s 0 j)
    = Ideal.cos (Cert.Attn.angle (IntOp.addi 16384#32 (IntOp.minsi (BitVec.ofNat 32 s.val) 3#32)) j) := by
  rw [← samplePos_at V0 s]
  unfold Value.res_main_v119 Value.res_main_v117 Cert.Attn.angle
  pointwise

theorem table121_at (s : Fin 8) (j : Fin 8) : (Value.res_main_v121 V0 : FVec Ideal S8x1x8 .f32) (ix3 s 0 j)
    = Ideal.sin (Cert.Attn.angle (IntOp.addi 16384#32 (IntOp.minsi (BitVec.ofNat 32 s.val) 3#32)) j) := by
  rw [← samplePos_at V0 s]
  unfold Value.res_main_v121 Value.res_main_v117 Cert.Attn.angle
  pointwise

theorem table154_at (s : Fin 8) (j : Fin 8) : (Value.res_main_v154 V0 : FVec Ideal S8x1x8 .f32) (ix3 s 0 j)
    = Ideal.cos (Cert.Attn.angle (IntOp.addi 16384#32 (IntOp.minsi (BitVec.ofNat 32 s.val) 3#32)) j) := by
  rw [← samplePos_at V0 s]
  unfold Value.res_main_v154 Value.res_main_v152 Cert.Attn.angle
  pointwise

theorem table156_at (s : Fin 8) (j : Fin 8) : (Value.res_main_v156 V0 : FVec Ideal S8x1x8 .f32) (ix3 s 0 j)
    = Ideal.sin (Cert.Attn.angle (IntOp.addi 16384#32 (IntOp.minsi (BitVec.ofNat 32 s.val) 3#32)) j) := by
  rw [← samplePos_at V0 s]
  unfold Value.res_main_v156 Value.res_main_v152 Cert.Attn.angle
  pointwise

/-- The reference's query rows before they are scaled. -/
abbrev turnedQ : FVec Ideal S16640x1024 .f32 :=
  stackOf (headsP (Value.res_main_v47 V0) (Value.res_main_v48 V0) (Value.res_main_v44 V0) (Value.res_main_v46 V0) (Value.res_main_v30 V0))
    (headsS (Value.res_main_v122 V0) (Value.res_main_v123 V0) (Value.res_main_v119 V0) (Value.res_main_v121 V0) (Value.res_main_v105 V0))

theorem turnedQ_at (r : Fin 16640) (c : Fin 1024) : turnedQ V0 (ix2 r c)
    = Cert.Attn.partTurned (fun j => Cert.Attn.entry (xp V0) (xs V0) (sh V0) (sc V0) (w V0) r ⟨j.val, by omega⟩) (Cert.Attn.rowCos r) (Cert.Attn.rowSin r) c := by
  unfold turnedQ Cert.Attn.rowCos Cert.Attn.rowSin
  rw [stackOf_at]
  by_cases h : r.val < 16384
  · have ep : Cert.Proj.rowPos r = BitVec.ofNat 32 (r.val % 2048) := if_pos h
    rw [dif_pos h, headsP_at, ep]
    simp only [half47_at, half48_at, whole30_at, table44_at, table46_at, prompt_entry V0 r h]
    exact turned_of_pieces (fun j => Cert.Attn.entry (xp V0) (xs V0) (sh V0) (sc V0) (w V0) r ⟨j.val, by omega⟩)
      (fun j => Ideal.cos (Cert.Attn.angle (BitVec.ofNat 32 (r.val % 2048)) j)) (fun j => Ideal.sin (Cert.Attn.angle (BitVec.ofNat 32 (r.val % 2048)) j))
      (fun h' j => Cert.Attn.entry (xp V0) (xs V0) (sh V0) (sc V0) (w V0) r ⟨h'.val * 64 + j.val, by omega⟩)
      (fun h' j => Cert.Attn.entry (xp V0) (xs V0) (sh V0) (sc V0) (w V0) r ⟨h'.val * 64 + (8 + j.val), by omega⟩)
      (fun h' d => Cert.Attn.entry (xp V0) (xs V0) (sh V0) (sc V0) (w V0) r ⟨h'.val * 64 + d.val, by omega⟩)
      (fun _ _ => rfl) (fun _ _ => rfl) (fun _ _ => rfl) c
  · have ep : Cert.Proj.rowPos r = IntOp.addi 16384#32 (IntOp.minsi (BitVec.ofNat 32 ((r.val - 16384) % 8)) 3#32) := if_neg h
    rw [dif_neg h, headsS_at, ep]
    simp only [half122_at, half123_at, whole105_at, table119_at, table121_at, sample_entry V0 r h]
    exact turned_of_pieces (fun j => Cert.Attn.entry (xp V0) (xs V0) (sh V0) (sc V0) (w V0) r ⟨j.val, by omega⟩)
      (fun j => Ideal.cos (Cert.Attn.angle (IntOp.addi 16384#32 (IntOp.minsi (BitVec.ofNat 32 ((r.val - 16384) % 8)) 3#32)) j)) (fun j => Ideal.sin (Cert.Attn.angle (IntOp.addi 16384#32 (IntOp.minsi (BitVec.ofNat 32 ((r.val - 16384) % 8)) 3#32)) j))
      (fun h' j => Cert.Attn.entry (xp V0) (xs V0) (sh V0) (sc V0) (w V0) r ⟨h'.val * 64 + j.val, by omega⟩)
      (fun h' j => Cert.Attn.entry (xp V0) (xs V0) (sh V0) (sc V0) (w V0) r ⟨h'.val * 64 + (8 + j.val), by omega⟩)
      (fun h' d => Cert.Attn.entry (xp V0) (xs V0) (sh V0) (sc V0) (w V0) r ⟨h'.val * 64 + d.val, by omega⟩)
      (fun _ _ => rfl) (fun _ _ => rfl) (fun _ _ => rfl) c

/-- The reference's key rows. -/
abbrev turnedK : FVec Ideal S16640x1024 .f32 :=
  stackOf (headsP (Value.res_main_v82 V0) (Value.res_main_v83 V0) (Value.res_main_v79 V0) (Value.res_main_v81 V0) (Value.res_main_v65 V0))
    (headsS (Value.res_main_v157 V0) (Value.res_main_v158 V0) (Value.res_main_v154 V0) (Value.res_main_v156 V0) (Value.res_main_v140 V0))

theorem turnedK_at (r : Fin 16640) (c : Fin 1024) : turnedK V0 (ix2 r c)
    = Cert.Attn.partTurned (fun j => Cert.Attn.entry (xp V0) (xs V0) (sh V0) (sc V0) (w V0) r ⟨1024 + j.val, by omega⟩) (Cert.Attn.rowCos r) (Cert.Attn.rowSin r) c := by
  unfold turnedK Cert.Attn.rowCos Cert.Attn.rowSin
  rw [stackOf_at]
  by_cases h : r.val < 16384
  · have ep : Cert.Proj.rowPos r = BitVec.ofNat 32 (r.val % 2048) := if_pos h
    rw [dif_pos h, headsP_at, ep]
    simp only [half82_at, half83_at, whole65_at, table79_at, table81_at, prompt_entry V0 r h]
    exact turned_of_pieces (fun j => Cert.Attn.entry (xp V0) (xs V0) (sh V0) (sc V0) (w V0) r ⟨1024 + j.val, by omega⟩)
      (fun j => Ideal.cos (Cert.Attn.angle (BitVec.ofNat 32 (r.val % 2048)) j)) (fun j => Ideal.sin (Cert.Attn.angle (BitVec.ofNat 32 (r.val % 2048)) j))
      (fun h' j => Cert.Attn.entry (xp V0) (xs V0) (sh V0) (sc V0) (w V0) r ⟨1024 + (h'.val * 64 + j.val), by omega⟩)
      (fun h' j => Cert.Attn.entry (xp V0) (xs V0) (sh V0) (sc V0) (w V0) r ⟨1024 + (h'.val * 64 + (8 + j.val)), by omega⟩)
      (fun h' d => Cert.Attn.entry (xp V0) (xs V0) (sh V0) (sc V0) (w V0) r ⟨1024 + (h'.val * 64 + d.val), by omega⟩)
      (fun _ _ => rfl) (fun _ _ => rfl) (fun _ _ => rfl) c
  · have ep : Cert.Proj.rowPos r = IntOp.addi 16384#32 (IntOp.minsi (BitVec.ofNat 32 ((r.val - 16384) % 8)) 3#32) := if_neg h
    rw [dif_neg h, headsS_at, ep]
    simp only [half157_at, half158_at, whole140_at, table154_at, table156_at, sample_entry V0 r h]
    exact turned_of_pieces (fun j => Cert.Attn.entry (xp V0) (xs V0) (sh V0) (sc V0) (w V0) r ⟨1024 + j.val, by omega⟩)
      (fun j => Ideal.cos (Cert.Attn.angle (IntOp.addi 16384#32 (IntOp.minsi (BitVec.ofNat 32 ((r.val - 16384) % 8)) 3#32)) j)) (fun j => Ideal.sin (Cert.Attn.angle (IntOp.addi 16384#32 (IntOp.minsi (BitVec.ofNat 32 ((r.val - 16384) % 8)) 3#32)) j))
      (fun h' j => Cert.Attn.entry (xp V0) (xs V0) (sh V0) (sc V0) (w V0) r ⟨1024 + (h'.val * 64 + j.val), by omega⟩)
      (fun h' j => Cert.Attn.entry (xp V0) (xs V0) (sh V0) (sc V0) (w V0) r ⟨1024 + (h'.val * 64 + (8 + j.val)), by omega⟩)
      (fun h' d => Cert.Attn.entry (xp V0) (xs V0) (sh V0) (sc V0) (w V0) r ⟨1024 + (h'.val * 64 + d.val), by omega⟩)
      (fun _ _ => rfl) (fun _ _ => rfl) (fun _ _ => rfl) c

theorem resQ_at (r : Fin 16640) (c : Fin 1024) : (scaledOf (turnedQ V0) (ix2 r c) : EReal) = Cert.Attn.query (xp V0) (xs V0) (sh V0) (sc V0) (w V0) r c := by
  unfold Cert.Attn.query
  rw [scaledOf_at, turnedQ_at]

theorem resK_eq : (Value.res_main_v181 V0 : FVec Ideal S16640x1024 .f32) = turnedK V0 := rfl

theorem resK_at (r : Fin 16640) (c : Fin 1024) : (Value.res_main_v181 V0 : FVec Ideal S16640x1024 .f32) (ix2 r c) = Cert.Attn.key (xp V0) (xs V0) (sh V0) (sc V0) (w V0) r c := by
  unfold Cert.Attn.key
  rw [resK_eq, turnedK_at]

theorem resM_at (b : Fin 65) (c : Fin 1024) : meansOf (Value.res_main_v181 V0) (ix3 b 0 c) = Cert.Attn.keyMean (xp V0) (xs V0) (sh V0) (sc V0) (w V0) b c := by
  unfold Cert.Attn.keyMean
  rw [meansOf_at]
  simp only [resK_at]

/-- The reference's value rows. -/
abbrev resV : FVec Ideal S16640x1024 .f32 := vOf (Value.res_main_v26 V0) (Value.res_main_v101 V0)

theorem resV_at (r : Fin 16640) (c : Fin 1024) : resV V0 (ix2 r c) = Cert.Attn.value (xp V0) (xs V0) (sh V0) (sc V0) (w V0) r c := by
  unfold resV Cert.Attn.value
  rw [vOf_at]
  by_cases h : r.val < 16384
  · rw [dif_pos h, prompt_entry V0 r h]
  · rw [dif_neg h, sample_entry V0 r h]

end Cert.AttnProjReferenceIdeal.Rows
-- ==== Proof.AttnProj.Claims.lean ====
module

public import proofs.«01_k».proof.Defs
public import proofs.«01_k».proof.Proof.AttnProj.Points
public import proofs.«01_k».proof.Proof.AttnProj.RefOut
public import proofs.«01_k».proof.Proof.Gen.AttnProjIdeal.Value
public import proofs.«01_k».proof.Proof.Gen.AttnProj.Frame
public import Idealize.ShloMosaic.Adequacy
public import Idealize.ShloMosaic.Init

/-! The six result arrays of the projection call, and its claims. -/

@[expose] public section

noncomputable section

namespace Cert.AttnProjIdeal.Rows

open Idealize.ShloMosaic Idealize.ShloMosaic.TcCoe Idealize.SL.Sem Cert.AttnProjIdeal Cert.AttnProjIdeal.Gen
open Idealize.ShloMosaic.Pipeline (Dat)

variable (m : (ℓ : Loc nD τ sig) → Buf (Elt Ideal) ℓ) (c : Dev nD)

/-- The query rows of the arguments. -/
def resultQ : FVec Ideal S16640x1024 .bf16 := fun y =>
  Cert.Attn.query (xpf m c) (xsf m c) (shf m c) (scf m c) (wf m c) ⟨(y 0).val, (y 0).isLt⟩ ⟨(y 1).val, (y 1).isLt⟩

theorem flushed_Q (t : Fin cfg0.N) : (dats m 0 c).flushed 7 t = ((cfg0.win 7).blk t).view.read (Elt Ideal) (resultQ m c) := by
  rw [Cert.AttnProjIdeal.Value.flushed7]
  funext j
  obtain ⟨i, e, rfl⟩ : ∃ (i : Fin 256) (e : Fin 1024), j = ix2 i e := ⟨j 0, j 1, funext fun a => match a with | ⟨0, _⟩ => rfl | ⟨1, _⟩ => rfl⟩
  refine (query_at m c t i e).trans ?_
  show _ = resultQ m c (((cfg0.win 7).blk t).view.emb (ix2 i e))
  have e' := (index_out t).1
  have hemb : ((cfg0.win 7).blk t).view.emb (ix2 i e) = (ix2 (row t i) e : S16640x1024.Idx) := by
    refine funext fun a => Fin.ext ?_
    match a with
    | ⟨0, _⟩ =>
      show win0_7.index t 0 * 256 + 1 * i.val = 256 * t.val + i.val
      rw [e'.1]; omega
    | ⟨1, _⟩ =>
      show win0_7.index t 1 * 1024 + 1 * e.val = e.val
      rw [e'.2]; omega
  rw [hemb]
  rfl

theorem final_Q : (dats m 0 c).arrAt 7 cfg0.N = resultQ m c :=
  (dats m 0 c).arrAt_eq_of_cover 7 (resultQ m c) (fun t _ => flushed_Q m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_7 _, ?_⟩
    have e' := (index_out ⟨(i 0 : Nat) / 256, ht⟩).1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v55_0).slice (win0_7.rect t)).set
    rw [View.set_slice_whole, Rect.mem_set_unit]
    intro a
    match a with
    | ⟨0, _⟩ =>
      show win0_7.index t 0 * 256 ≤ (i 0 : Nat) ∧ (i 0 : Nat) < win0_7.index t 0 * 256 + 256
      rw [e'.1]; omega
    | ⟨1, _⟩ =>
      show win0_7.index t 1 * 1024 ≤ (i 1 : Nat) ∧ (i 1 : Nat) < win0_7.index t 1 * 1024 + 1024
      rw [e'.2]; omega

/-- The key rows of the arguments. -/
def resultK : FVec Ideal S16640x1024 .f32 := fun y =>
  Cert.Attn.key (xpf m c) (xsf m c) (shf m c) (scf m c) (wf m c) ⟨(y 0).val, (y 0).isLt⟩ ⟨(y 1).val, (y 1).isLt⟩

theorem flushed_K (t : Fin cfg0.N) : (dats m 0 c).flushed 8 t = ((cfg0.win 8).blk t).view.read (Elt Ideal) (resultK m c) := by
  rw [Cert.AttnProjIdeal.Value.flushed8]
  funext j
  obtain ⟨i, e, rfl⟩ : ∃ (i : Fin 256) (e : Fin 1024), j = ix2 i e := ⟨j 0, j 1, funext fun a => match a with | ⟨0, _⟩ => rfl | ⟨1, _⟩ => rfl⟩
  refine (key_at m c t i e).trans ?_
  show _ = resultK m c (((cfg0.win 8).blk t).view.emb (ix2 i e))
  have e' := (index_out t).2.1
  have hemb : ((cfg0.win 8).blk t).view.emb (ix2 i e) = (ix2 (row t i) e : S16640x1024.Idx) := by
    refine funext fun a => Fin.ext ?_
    match a with
    | ⟨0, _⟩ =>
      show win0_8.index t 0 * 256 + 1 * i.val = 256 * t.val + i.val
      rw [e'.1]; omega
    | ⟨1, _⟩ =>
      show win0_8.index t 1 * 1024 + 1 * e.val = e.val
      rw [e'.2]; omega
  rw [hemb]
  rfl

theorem final_K : (dats m 0 c).arrAt 8 cfg0.N = resultK m c :=
  (dats m 0 c).arrAt_eq_of_cover 8 (resultK m c) (fun t _ => flushed_K m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_8 _, ?_⟩
    have e' := (index_out ⟨(i 0 : Nat) / 256, ht⟩).2.1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v55_1).slice (win0_8.rect t)).set
    rw [View.set_slice_whole, Rect.mem_set_unit]
    intro a
    match a with
    | ⟨0, _⟩ =>
      show win0_8.index t 0 * 256 ≤ (i 0 : Nat) ∧ (i 0 : Nat) < win0_8.index t 0 * 256 + 256
      rw [e'.1]; omega
    | ⟨1, _⟩ =>
      show win0_8.index t 1 * 1024 ≤ (i 1 : Nat) ∧ (i 1 : Nat) < win0_8.index t 1 * 1024 + 1024
      rw [e'.2]; omega

/-- The second copy of the key rows of the arguments. -/
def resultKB : FVec Ideal S16640x1024 .bf16 := fun y =>
  Cert.Attn.key (xpf m c) (xsf m c) (shf m c) (scf m c) (wf m c) ⟨(y 0).val, (y 0).isLt⟩ ⟨(y 1).val, (y 1).isLt⟩

theorem flushed_KB (t : Fin cfg0.N) : (dats m 0 c).flushed 9 t = ((cfg0.win 9).blk t).view.read (Elt Ideal) (resultKB m c) := by
  rw [Cert.AttnProjIdeal.Value.flushed9]
  funext j
  obtain ⟨i, e, rfl⟩ : ∃ (i : Fin 256) (e : Fin 1024), j = ix2 i e := ⟨j 0, j 1, funext fun a => match a with | ⟨0, _⟩ => rfl | ⟨1, _⟩ => rfl⟩
  refine (keyb_at m c t i e).trans ?_
  show _ = resultKB m c (((cfg0.win 9).blk t).view.emb (ix2 i e))
  have e' := (index_out t).2.2.1
  have hemb : ((cfg0.win 9).blk t).view.emb (ix2 i e) = (ix2 (row t i) e : S16640x1024.Idx) := by
    refine funext fun a => Fin.ext ?_
    match a with
    | ⟨0, _⟩ =>
      show win0_9.index t 0 * 256 + 1 * i.val = 256 * t.val + i.val
      rw [e'.1]; omega
    | ⟨1, _⟩ =>
      show win0_9.index t 1 * 1024 + 1 * e.val = e.val
      rw [e'.2]; omega
  rw [hemb]
  rfl

theorem final_KB : (dats m 0 c).arrAt 9 cfg0.N = resultKB m c :=
  (dats m 0 c).arrAt_eq_of_cover 9 (resultKB m c) (fun t _ => flushed_KB m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_9 _, ?_⟩
    have e' := (index_out ⟨(i 0 : Nat) / 256, ht⟩).2.2.1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v55_2).slice (win0_9.rect t)).set
    rw [View.set_slice_whole, Rect.mem_set_unit]
    intro a
    match a with
    | ⟨0, _⟩ =>
      show win0_9.index t 0 * 256 ≤ (i 0 : Nat) ∧ (i 0 : Nat) < win0_9.index t 0 * 256 + 256
      rw [e'.1]; omega
    | ⟨1, _⟩ =>
      show win0_9.index t 1 * 1024 ≤ (i 1 : Nat) ∧ (i 1 : Nat) < win0_9.index t 1 * 1024 + 1024
      rw [e'.2]; omega

/-- The value rows of the arguments. -/
def resultV : FVec Ideal S16640x1024 .f32 := fun y =>
  Cert.Attn.value (xpf m c) (xsf m c) (shf m c) (scf m c) (wf m c) ⟨(y 0).val, (y 0).isLt⟩ ⟨(y 1).val, (y 1).isLt⟩

theorem flushed_V (t : Fin cfg0.N) : (dats m 0 c).flushed 10 t = ((cfg0.win 10).blk t).view.read (Elt Ideal) (resultV m c) := by
  rw [Cert.AttnProjIdeal.Value.flushed10]
  funext j
  obtain ⟨i, e, rfl⟩ : ∃ (i : Fin 256) (e : Fin 1024), j = ix2 i e := ⟨j 0, j 1, funext fun a => match a with | ⟨0, _⟩ => rfl | ⟨1, _⟩ => rfl⟩
  refine (value_at m c t i e).trans ?_
  show _ = resultV m c (((cfg0.win 10).blk t).view.emb (ix2 i e))
  have e' := (index_out t).2.2.2.1
  have hemb : ((cfg0.win 10).blk t).view.emb (ix2 i e) = (ix2 (row t i) e : S16640x1024.Idx) := by
    refine funext fun a => Fin.ext ?_
    match a with
    | ⟨0, _⟩ =>
      show win0_10.index t 0 * 256 + 1 * i.val = 256 * t.val + i.val
      rw [e'.1]; omega
    | ⟨1, _⟩ =>
      show win0_10.index t 1 * 1024 + 1 * e.val = e.val
      rw [e'.2]; omega
  rw [hemb]
  rfl

theorem final_V : (dats m 0 c).arrAt 10 cfg0.N = resultV m c :=
  (dats m 0 c).arrAt_eq_of_cover 10 (resultV m c) (fun t _ => flushed_V m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_10 _, ?_⟩
    have e' := (index_out ⟨(i 0 : Nat) / 256, ht⟩).2.2.2.1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v55_3).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [e'.1]; omega
    | ⟨1, _⟩ =>
      show win0_10.index t 1 * 1024 ≤ (i 1 : Nat) ∧ (i 1 : Nat) < win0_10.index t 1 * 1024 + 1024
      rw [e'.2]; omega

/-- The second copy of the value rows of the arguments. -/
def resultVB : FVec Ideal S16640x1024 .bf16 := fun y =>
  Cert.Attn.value (xpf m c) (xsf m c) (shf m c) (scf m c) (wf m c) ⟨(y 0).val, (y 0).isLt⟩ ⟨(y 1).val, (y 1).isLt⟩

theorem flushed_VB (t : Fin cfg0.N) : (dats m 0 c).flushed 11 t = ((cfg0.win 11).blk t).view.read (Elt Ideal) (resultVB m c) := by
  rw [Cert.AttnProjIdeal.Value.flushed11]
  funext j
  obtain ⟨i, e, rfl⟩ : ∃ (i : Fin 256) (e : Fin 1024), j = ix2 i e := ⟨j 0, j 1, funext fun a => match a with | ⟨0, _⟩ => rfl | ⟨1, _⟩ => rfl⟩
  refine (valueb_at m c t i e).trans ?_
  show _ = resultVB m c (((cfg0.win 11).blk t).view.emb (ix2 i e))
  have e' := (index_out t).2.2.2.2.1
  have hemb : ((cfg0.win 11).blk t).view.emb (ix2 i e) = (ix2 (row t i) e : S16640x1024.Idx) := by
    refine funext fun a => Fin.ext ?_
    match a with
    | ⟨0, _⟩ =>
      show win0_11.index t 0 * 256 + 1 * i.val = 256 * t.val + i.val
      rw [e'.1]; omega
    | ⟨1, _⟩ =>
      show win0_11.index t 1 * 1024 + 1 * e.val = e.val
      rw [e'.2]; omega
  rw [hemb]
  rfl

theorem final_VB : (dats m 0 c).arrAt 11 cfg0.N = resultVB m c :=
  (dats m 0 c).arrAt_eq_of_cover 11 (resultVB m c) (fun t _ => flushed_VB m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_11 _, ?_⟩
    have e' := (index_out ⟨(i 0 : Nat) / 256, ht⟩).2.2.2.2.1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v55_4).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [e'.1]; omega
    | ⟨1, _⟩ =>
      show win0_11.index t 1 * 1024 ≤ (i 1 : Nat) ∧ (i 1 : Nat) < win0_11.index t 1 * 1024 + 1024
      rw [e'.2]; omega

/-- The key means of the arguments. -/
def resultM : FVec Ideal S65x1x1024 .f32 := fun y =>
  Cert.Attn.keyMean (xpf m c) (xsf m c) (shf m c) (scf m c) (wf m c) ⟨(y 0).val, (y 0).isLt⟩ ⟨(y 2).val, (y 2).isLt⟩

theorem flushed_M (t : Fin cfg0.N) : (dats m 0 c).flushed 12 t = ((cfg0.win 12).blk t).view.read (Elt Ideal) (resultM m c) := by
  rw [Cert.AttnProjIdeal.Value.flushed12]
  funext j
  obtain ⟨e, rfl⟩ : ∃ (e : Fin 1024), j = ix3 0 0 e := ⟨j 2, funext fun a => match a with
    | ⟨0, _⟩ => Fin.ext (by have h0 : (j 0).val < 1 := (j 0).isLt; show (j 0).val = 0; omega)
    | ⟨1, _⟩ => Fin.ext (by have h1 : (j 1).val < 1 := (j 1).isLt; show (j 1).val = 0; omega)
    | ⟨2, _⟩ => rfl⟩
  refine (mean_at m c t e).trans ?_
  show _ = resultM m c (((cfg0.win 12).blk t).view.emb (ix3 0 0 e))
  have e' := (index_out t).2.2.2.2.2
  have hemb : ((cfg0.win 12).blk t).view.emb (ix3 0 0 e) = (ix3 ⟨t.val, pt_lt t⟩ 0 e : S65x1x1024.Idx) := by
    refine funext fun a => Fin.ext ?_
    match a with
    | ⟨0, _⟩ =>
      show win0_12.index t 0 * 1 + 1 * 0 = t.val
      rw [e'.1]; omega
    | ⟨1, _⟩ =>
      show win0_12.index t 1 * 1 + 1 * 0 = 0
      rw [e'.2.1]
    | ⟨2, _⟩ =>
      show win0_12.index t 2 * 1024 + 1 * e.val = e.val
      rw [e'.2.2]; omega
  rw [hemb]
  rfl

theorem final_M : (dats m 0 c).arrAt 12 cfg0.N = resultM m c :=
  (dats m 0 c).arrAt_eq_of_cover 12 (resultM m c) (fun t _ => flushed_M m c t) fun i => by
    have h0 : (i 0 : Nat) < 65 := (i 0).isLt
    have h1 : (i 1 : Nat) < 1 := (i 1).isLt
    have h2 : (i 2 : Nat) < 1024 := (i 2).isLt
    have ht : (i 0 : Nat) < cfg0.N := by rw [show cfg0.N = 65 from N_0]; omega
    refine ⟨⟨(i 0 : Nat), ht⟩, flush0_12 _, ?_⟩
    have e' := (index_out ⟨(i 0 : Nat), ht⟩).2.2.2.2.2
    dsimp only at e'
    generalize (⟨(i 0 : Nat), ht⟩ : Fin cfg0.N) = t at e'
    show i ∈ ((View.whole main_v55_5).slice (win0_12.rect t)).set
    rw [View.set_slice_whole, Rect.mem_set_unit]
    intro a
    match a with
    | ⟨0, _⟩ =>
      show win0_12.index t 0 * 1 ≤ (i 0 : Nat) ∧ (i 0 : Nat) < win0_12.index t 0 * 1 + 1
      rw [e'.1]; omega
    | ⟨1, _⟩ =>
      show win0_12.index t 1 * 1 ≤ (i 1 : Nat) ∧ (i 1 : Nat) < win0_12.index t 1 * 1 + 1
      rw [e'.2.1]; omega
    | ⟨2, _⟩ =>
      show win0_12.index t 2 * 1024 ≤ (i 2 : Nat) ∧ (i 2 : Nat) < win0_12.index t 2 * 1024 + 1024
      rw [e'.2.2]; omega

end Cert.AttnProjIdeal.Rows

namespace Cert.AttnProjClaims

open Idealize.ShloMosaic Idealize.ShloMosaic.TcCoe Idealize.SL.Sem

/-- The call's frame. -/
theorem frame_kernel : Cert.quiescent_AttnProj := fun m ρ _ => Cert.AttnProj.Gen.frame m ρ

/-- The ideal call's frame. -/
theorem frame_ideal : Cert.quiescent_AttnProjIdeal := fun m ρ _ => Cert.AttnProjIdeal.Gen.frame m ρ

/-- The reference's frame. -/
theorem frame_reference : Cert.quiescent_AttnProjReferenceIdeal := fun m ρ _ =>
  (θ_run Cert.AttnProjReferenceIdeal.defs _ _).mono (fun r h => ⟨fun c => (h c).2.2.2.2.2.2, sem_eq_zero_of_no_sems (by decide) r.2⟩)
    (Cert.AttnProjReferenceIdeal.Value.run m ρ)

/-- The call's six results are the reference's. -/
theorem results_agree : Cert.algebraic_AttnProjIdeal_AttnProjReferenceIdeal := by
  intro m ρ m' ρ' _ hargs
  refine ⟨fun c => Cert.AttnProjIdeal.Rows.resultQ m c, fun c => Cert.AttnProjIdeal.Rows.resultK m c, fun c => Cert.AttnProjIdeal.Rows.resultKB m c, fun c => Cert.AttnProjIdeal.Rows.resultV m c, fun c => Cert.AttnProjIdeal.Rows.resultVB m c, fun c => Cert.AttnProjIdeal.Rows.resultM m c, ?_, ?_⟩
  · exact (θ_run Cert.AttnProjIdeal.defs _ _).mono (fun _ h c => ⟨(h c).1.trans (Cert.AttnProjIdeal.Rows.final_Q m c), (h c).2.1.trans (Cert.AttnProjIdeal.Rows.final_K m c), (h c).2.2.1.trans (Cert.AttnProjIdeal.Rows.final_KB m c), (h c).2.2.2.1.trans (Cert.AttnProjIdeal.Rows.final_V m c), (h c).2.2.2.2.1.trans (Cert.AttnProjIdeal.Rows.final_VB m c), (h c).2.2.2.2.2.1.trans (Cert.AttnProjIdeal.Rows.final_M m c), (h c).2.2.2.2.2.2⟩) (Cert.AttnProjIdeal.Value.run_blocks m ρ)
  · refine (θ_run Cert.AttnProjReferenceIdeal.defs _ _).mono (fun _ h c => ?_) (Cert.AttnProjReferenceIdeal.Value.run m' ρ')
    obtain ⟨e0, e1, e2, e3, e4⟩ := hargs c
    have f0 : Cert.AttnProjReferenceIdeal.Rows.xp (StableHlo.launchContents m' c) = Cert.AttnProjIdeal.Rows.xpf m c := by
      funext b s k; exact congrFun e0 (ix3 b s k)
    have f1 : Cert.AttnProjReferenceIdeal.Rows.xs (StableHlo.launchContents m' c) = Cert.AttnProjIdeal.Rows.xsf m c := by
      funext b s k; exact congrFun e1 (ix3 b s k)
    have f2 : Cert.AttnProjReferenceIdeal.Rows.sh (StableHlo.launchContents m' c) = Cert.AttnProjIdeal.Rows.shf m c := by
      funext b k; exact congrFun e2 (ix2 b k)
    have f3 : Cert.AttnProjReferenceIdeal.Rows.sc (StableHlo.launchContents m' c) = Cert.AttnProjIdeal.Rows.scf m c := by
      funext b k; exact congrFun e3 (ix2 b k)
    have f4 : Cert.AttnProjReferenceIdeal.Rows.w (StableHlo.launchContents m' c) = Cert.AttnProjIdeal.Rows.wf m c := by
      funext k j; exact congrFun e4 (ix2 k j)
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.AttnProjReferenceIdeal.Rows.resQ_at (StableHlo.launchContents m' c) r d).trans ?_
      rw [f0, f1, f2, f3, f4]
      rfl
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.AttnProjReferenceIdeal.Rows.resK_at (StableHlo.launchContents m' c) r d).trans ?_
      rw [f0, f1, f2, f3, f4]
      rfl
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.AttnProjReferenceIdeal.Rows.resK_at (StableHlo.launchContents m' c) r d).trans ?_
      rw [f0, f1, f2, f3, f4]
      rfl
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.AttnProjReferenceIdeal.Rows.resV_at (StableHlo.launchContents m' c) r d).trans ?_
      rw [f0, f1, f2, f3, f4]
      rfl
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.AttnProjReferenceIdeal.Rows.resV_at (StableHlo.launchContents m' c) r d).trans ?_
      rw [f0, f1, f2, f3, f4]
      rfl
    · funext i
      obtain ⟨b, d, rfl⟩ : ∃ (b : Fin 65) (d : Fin 1024), i = ix3 b 0 d := ⟨i 0, i 2, funext fun a => match a with
        | ⟨0, _⟩ => rfl
        | ⟨1, _⟩ => Fin.ext (by have h1 : (i 1).val < 1 := (i 1).isLt; show (i 1).val = 0; omega)
        | ⟨2, _⟩ => rfl⟩
      refine (Cert.AttnProjReferenceIdeal.Rows.resM_at (StableHlo.launchContents m' c) b d).trans ?_
      rw [f0, f1, f2, f3, f4]
      rfl

end Cert.AttnProjClaims

end
-- ==== Proof.RetSample.Spec.lean ====
module

public import proofs.«01_k».proof.Proof.Ret.Payload
public import Idealize.ShloMosaic.Lib.IdealHost

/-! The retention of a few new tokens on top of a state, as functions of the arguments: four new rows per
    sequence, held in blocks of eight whose last four rows are padding. -/

@[expose] public section

noncomputable section

namespace Cert.Sample

open Idealize.ShloMosaic

/-- The row of a block that holds a new token. -/
abbrev new (x : Fin 4) : Fin 8 := ⟨x.val, by omega⟩

/-- The integer zero converts to zero. -/
theorem converted_zero : FloatOps.sitofp (F := Ideal) .f32 0#32 = (0 : EReal) := by
  show (((0#32 : BitVec 32).toInt : ℝ) : EReal) = 0
  simp

/-- A sum over a block's rows whose padding rows add nothing is the sum over the new tokens. -/
theorem sum_new (f : Fin 8 → EReal) (hf : ∀ x : Fin 8, ¬x.val < 4 → f x = 0) : ∑ x, f x = ∑ x : Fin 4, f (new x) := by
  rw [show (∑ x, f x) = ∑ x : Fin (4 + 4), f x from rfl, Fin.sum_univ_add]
  rw [Finset.sum_eq_zero (s := Finset.univ) (f := fun i : Fin 4 => f (Fin.natAdd 4 i)) fun i _ => hf _ (by
    show ¬4 + i.val < 4
    omega), add_zero]
  rfl

variable (q k : Fin 32 → Fin 8 → Fin 4 → Fin 256 → EReal) (v : Fin 32 → Fin 8 → Fin 4 → Fin 512 → EReal)
  (st : Fin 32 → Fin 4 → Fin 256 → Fin 512 → EReal) (dm : Fin 4 → Fin 4 → Fin 4 → EReal) (qd kd : Fin 4 → Fin 4 → EReal) (sd : Fin 4 → EReal)

/-- The state after the new tokens. -/
def newState (b : Fin 32) (h : Fin 4) (d : Fin 256) (e : Fin 512) : EReal :=
  sd h * st b h d e + ∑ x : Fin 4, (k b (new x) h d * kd x h) * v b (new x) h e

/-- What a new token reads: from the tokens before it and from the state. -/
def readOut (b : Fin 32) (i : Fin 4) (h : Fin 4) (e : Fin 512) : EReal :=
  (∑ x : Fin 4, ((∑ d : Fin 256, q b (new i) h d * k b (new x) h d) * dm h i x) * v b (new x) h e)
    + (∑ d : Fin 256, q b (new i) h d * st b h d e) * qd i h

/-- One entry of the layer's output: normalised and gated for a new token, zero for a padding row. -/
def entry (g : Fin 32 → Fin 8 → Fin 2048 → EReal) (gn : Fin 4 → Fin 512 → EReal) (b : Fin 32) (i : Fin 8) (h : Fin 4) (e : Fin 512) : EReal :=
  if hi : i.val < 4 then Cert.Ret.gated (fun x => readOut q k v st dm qd b ⟨i.val, hi⟩ h x) (gn h e) (g b i ⟨512 * h.val + e.val, by omega⟩) e
  else 0

/-- The decay between two rows of a block, zero when one of them is padding. -/
def padded (h : Fin 4) (i x : Fin 8) : EReal := if hh : i.val < 4 ∧ x.val < 4 then dm h ⟨i.val, hh.1⟩ ⟨x.val, hh.2⟩ else 0

/-- The decay of a row of a block, zero when it is padding. -/
def paddedRow (t : Fin 4 → Fin 4 → EReal) (i : Fin 8) (h : Fin 4) : EReal := if hi : i.val < 4 then t ⟨i.val, hi⟩ h else 0

theorem state_of_block (b : Fin 32) (h : Fin 4) (d : Fin 256) (e : Fin 512) :
    sd h * st b h d e + ∑ x : Fin 8, (k b x h d * paddedRow kd x h) * v b x h e = newState k v st kd sd b h d e := by
  unfold newState
  rw [sum_new _ fun x hx => by unfold paddedRow; rw [dif_neg hx, mul_zero, zero_mul]]
  refine congrArg (sd h * st b h d e + ·) (Finset.sum_congr rfl fun x _ => ?_)
  unfold paddedRow
  rw [dif_pos x.isLt]

/-- What a row of a block reads through the padded tables. -/
def readBlock (b : Fin 32) (i : Fin 8) (h : Fin 4) (e : Fin 512) : EReal :=
  (∑ x : Fin 8, ((∑ d : Fin 256, q b i h d * k b x h d) * padded dm h i x) * v b x h e)
    + (∑ d : Fin 256, q b i h d * st b h d e) * paddedRow qd i h

theorem readBlock_new (b : Fin 32) (i : Fin 8) (hi : i.val < 4) (h : Fin 4) (e : Fin 512) :
    readBlock q k v st dm qd b i h e = readOut q k v st dm qd b ⟨i.val, hi⟩ h e := by
  unfold readBlock readOut
  rw [sum_new _ fun x hx => by unfold padded; rw [dif_neg fun hh => hx hh.2, mul_zero, zero_mul]]
  refine congrArg₂ (· + ·) (Finset.sum_congr rfl fun x _ => ?_) ?_
  · unfold padded
    rw [dif_pos ⟨hi, x.isLt⟩]
  · unfold paddedRow
    rw [dif_pos hi]

theorem readBlock_padding (b : Fin 32) (i : Fin 8) (hi : ¬i.val < 4) (h : Fin 4) (e : Fin 512) :
    readBlock q k v st dm qd b i h e = 0 := by
  unfold readBlock
  rw [Finset.sum_eq_zero fun x _ => by unfold padded; rw [dif_neg fun hh => hi hh.1, mul_zero, zero_mul]]
  unfold paddedRow
  rw [dif_neg hi, mul_zero, add_zero]

theorem ofBits_512 : Ideal.ofBits .f32 0x44000000#32 = ((512 : ℝ) : EReal) := by
  simp [Ideal.ofBits, Ideal.ieee, -EReal.coe_mul]; norm_num

/-- A head that reads nothing gives a zero entry, whatever the gain and the gate. -/
theorem gated_zero (gn g : EReal) (e : Fin 512) : Cert.Ret.gated (fun _ => 0) gn g e = 0 := by
  have hc : Ideal.ofBits .f32 0x44000000#32 ≠ 0 := by
    rw [ofBits_512]
    exact EReal.coe_ne_zero.mpr (by norm_num)
  unfold Cert.Ret.gated
  simp only [Finset.sum_const_zero, Ideal.zero_div hc, sub_zero, zero_mul, mul_zero]

theorem gated_block (g : Fin 32 → Fin 8 → Fin 2048 → EReal) (gn : Fin 4 → Fin 512 → EReal) (b : Fin 32) (i : Fin 8) (h : Fin 4) (e : Fin 512) :
    Cert.Ret.gated (fun x => readBlock q k v st dm qd b i h x) (gn h e) (g b i ⟨512 * h.val + e.val, by omega⟩) e
      = entry q k v st dm qd g gn b i h e := by
  unfold entry
  by_cases hi : i.val < 4
  · rw [dif_pos hi]
    exact congrArg (fun o => Cert.Ret.gated o _ _ e) (funext fun x => readBlock_new q k v st dm qd b i hi h x)
  · rw [dif_neg hi, ← gated_zero (gn h e) (g b i ⟨512 * h.val + e.val, by omega⟩) e]
    exact congrArg (fun o => Cert.Ret.gated o _ _ e) (funext fun x => readBlock_padding q k v st dm qd b i hi h x)

end Cert.Sample
-- ==== Proof.RetSample.RefOut.lean ====
module

public import proofs.«01_k».proof.Proof.Gen.RetSampleReferenceIdeal.Run
public import proofs.«01_k».proof.Proof.RetSample.Spec
public import Idealize.ShloMosaic.Lib.Pointwise
public import Idealize.ShloMosaic.Lib.Pipeline.Value
public import Idealize.ShloMosaic.Lib.KernelVsHost

/-! The reference's decay tables and its two results, read at an index. -/

@[expose] public section

noncomputable section

namespace Cert.RetSampleReferenceIdeal.Rows

open Idealize.ShloMosaic Idealize.ShloMosaic.TcCoe Idealize.SL.Sem Cert.RetSampleReferenceIdeal Cert.RetSampleReferenceIdeal.Gen

section tables

variable {F : FTy → Type} [FloatOps F]

/-- The decay from one new token to another, per head. -/
def DM : FVec F S4x4x4 .f32 := select (broadcastInDim S4x4x4 ![1, 2] bcast_S4x4_S4x4x4_1_2 (cmpf .oge (subf (broadcastInDim S4x4 ![0, 1] bcast_S4x1_S4x4_0_1 (broadcastInDim S4x1 ![0] bcast_S4_S4x1_0 (sitofp .f32 (iotaInDim S4 32 0)))) (broadcastInDim S4x4 ![0, 1] bcast_S1x4_S4x4_0_1 (broadcastInDim S1x4 ![1] bcast_S4_S1x4_1 (sitofp .f32 (iotaInDim S4 32 0)))) : (⟨S4x4, .f32⟩ : BufTy).Contents (Elt F)) (broadcastInDim S4x4 ![] bcast_S_S4x4 (constant S_ .f32 0x00000000#32)))) (Host.exp (mulf (broadcastInDim S4x4x4 ![0, 1, 2] bcast_S1x4x4_S4x4x4_0_1_2 (broadcastInDim S1x4x4 ![1, 2] bcast_S4x4_S1x4x4_1_2 (maximumf (subf (broadcastInDim S4x4 ![0, 1] bcast_S4x1_S4x4_0_1 (broadcastInDim S4x1 ![0] bcast_S4_S4x1_0 (sitofp .f32 (iotaInDim S4 32 0)))) (broadcastInDim S4x4 ![0, 1] bcast_S1x4_S4x4_0_1 (broadcastInDim S1x4 ![1] bcast_S4_S1x4_1 (sitofp .f32 (iotaInDim S4 32 0))))) (broadcastInDim S4x4 ![] bcast_S_S4x4 (constant S_ .f32 0x00000000#32))))) (broadcastInDim S4x4x4 ![0, 1, 2] bcast_S4x1x1_S4x4x4_0_1_2 (broadcastInDim S4x1x1 ![0] bcast_S4_S4x1x1_0 (Host.log1p (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))))))) (broadcastInDim S4x4x4 ![] bcast_S_S4x4x4 (id (constant S_ .f32 0x00000000#32)))

/-- The decay from the state to a new token. -/
def QD : FVec F S4x4 .f32 := Host.exp (mulf (broadcastInDim S4x4 ![0, 1] bcast_S4x1_S4x4_0_1 (addf (broadcastInDim S4x1 ![0] bcast_S4_S4x1_0 (sitofp .f32 (iotaInDim S4 32 0))) (broadcastInDim S4x1 ![] bcast_S_S4x1 (constant S_ .f32 0x3F800000#32)))) (broadcastInDim S4x4 ![0, 1] bcast_S1x4_S4x4_0_1 (broadcastInDim S1x4 ![1] bcast_S4_S1x4_1 (Host.log1p (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))))))

/-- The decay from a new token to the state after them all. -/
def KD : FVec F S4x4 .f32 := Host.exp (mulf (broadcastInDim S4x4 ![0, 1] bcast_S4x1_S4x4_0_1 (broadcastInDim S4x1 ![0] bcast_S4_S4x1_0 (subf (broadcastInDim S4 ![] bcast_S_S4 (constant S_ .f32 0x40400000#32)) (sitofp .f32 (iotaInDim S4 32 0))))) (broadcastInDim S4x4 ![0, 1] bcast_S1x4_S4x4_0_1 (broadcastInDim S1x4 ![1] bcast_S4_S1x4_1 (Host.log1p (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))))))

/-- The state's own decay over the new tokens. -/
def SD : FVec F S4 .f32 := Host.exp (mulf (broadcastInDim S4 ![] bcast_S_S4 (constant S_ .f32 0x40800000#32)) (Host.log1p (Host.negf (Host.exp (mulf (broadcastInDim S4 ![] bcast_S_S4 (constant S_ .f32 0x3F317218#32)) (subf (broadcastInDim S4 ![] bcast_S_S4 (constant S_ .f32 0xC0A00000#32)) (sitofp .f32 (iotaInDim S4 32 0))))))))

end tables

/-- The rows of the new tokens' queries or keys. -/
def keyRows (a : FVec Ideal S32x8x4x256 .f32) : FVec Ideal S32x4x4x256 .f32 :=
  extractStridedSlice S32x4x4x256 ![0, 0, 0, 0] a slices_S32x8x4x256_S32x4x4x256_0_0_0_0

theorem keyRows_at (a : FVec Ideal S32x8x4x256 .f32) (b : Fin 32) (i h : Fin 4) (d : Fin 256) :
    keyRows a (ix4 b i h d) = a (ix4 b (Cert.Sample.new i) h d) := by
  unfold keyRows
  pointwise

/-- The rows of the new tokens' values. -/
def valueRows (a : FVec Ideal S32x8x4x512 .f32) : FVec Ideal S32x4x4x512 .f32 :=
  extractStridedSlice S32x4x4x512 ![0, 0, 0, 0] a slices_S32x8x4x512_S32x4x4x512_0_0_0_0

theorem valueRows_at (a : FVec Ideal S32x8x4x512 .f32) (b : Fin 32) (i h : Fin 4) (e : Fin 512) :
    valueRows a (ix4 b i h e) = a (ix4 b (Cert.Sample.new i) h e) := by
  unfold valueRows
  pointwise

/-- The rows of the new tokens' gates. -/
def gateRows (a : FVec Ideal S32x8x2048 .f32) : FVec Ideal S32x4x2048 .f32 :=
  extractStridedSlice S32x4x2048 ![0, 0, 0] a slices_S32x8x2048_S32x4x2048_0_0_0

theorem gateRows_at (a : FVec Ideal S32x8x2048 .f32) (b : Fin 32) (i : Fin 4) (l : Fin 2048) :
    gateRows a (ix3 b i l) = a (ix3 b (Cert.Sample.new i) l) := by
  unfold gateRows
  pointwise

/-- What the new tokens read from one another. -/
def inner (qs ks : FVec Ideal S32x4x4x256 .f32) (vs : FVec Ideal S32x4x4x512 .f32) (dm : FVec Ideal S4x4x4 .f32) : FVec Ideal S32x4x4x512 .f32 :=
  transpose S32x4x4x512 [0, 3, 1, 2] (Host.dotGeneral dot_S32x4x4x512_S32x4x4x4_S32x4x512x4_1_3_3_2_02_01 none vs (mulf (Host.dotGeneral dot_S32x4x4x256_S32x4x4x256_S32x4x4x4_3_3_1_1_02_02 none qs ks) (broadcastInDim S32x4x4x4 ![0, 1, 2, 3] bcast_S1x4x4x4_S32x4x4x4_0_1_2_3 (broadcastInDim S1x4x4x4 ![1, 2, 3] bcast_S4x4x4_S1x4x4x4_1_2_3 dm)))) transposes_S32x4x512x4_S32x4x4x512_0_3_1_2

theorem inner_at (qs ks : FVec Ideal S32x4x4x256 .f32) (vs : FVec Ideal S32x4x4x512 .f32) (dm : FVec Ideal S4x4x4 .f32) (b : Fin 32) (i h : Fin 4) (e : Fin 512) :
    inner qs ks vs dm (ix4 b i h e) = ∑ x : Fin 4, ((∑ d : Fin 256, qs (ix4 b i h d) * ks (ix4 b x h d)) * dm (ix3 h i x)) * vs (ix4 b x h e) := by
  unfold inner
  pointwise
  refine Finset.sum_congr rfl fun x _ => ?_
  exact mul_comm (G := EReal) _ _

/-- What the new tokens read from the state. -/
def cross (qs : FVec Ideal S32x4x4x256 .f32) (st : FVec Ideal S32x4x256x512 .f32) (qd : FVec Ideal S4x4 .f32) : FVec Ideal S32x4x4x512 .f32 :=
  mulf (transpose S32x4x4x512 [0, 3, 1, 2] (Host.dotGeneral dot_S32x4x256x512_S32x4x4x256_S32x4x512x4_2_3_3_1_01_02 none st qs) transposes_S32x4x512x4_S32x4x4x512_0_3_1_2) (broadcastInDim S32x4x4x512 ![0, 1, 2, 3] bcast_S1x4x4x1_S32x4x4x512_0_1_2_3 (broadcastInDim S1x4x4x1 ![1, 2] bcast_S4x4_S1x4x4x1_1_2 qd))

theorem cross_at (qs : FVec Ideal S32x4x4x256 .f32) (st : FVec Ideal S32x4x256x512 .f32) (qd : FVec Ideal S4x4 .f32) (b : Fin 32) (i h : Fin 4) (e : Fin 512) :
    cross qs st qd (ix4 b i h e) = (∑ d : Fin 256, (qs (ix4 b i h d) : EReal) * st (ix4 b h d e)) * qd (ix2 i h) := by
  unfold cross
  pointwise
  refine congrArg (fun s : EReal => s * qd (ix2 i h)) (Finset.sum_congr rfl fun d _ => ?_)
  exact mul_comm (G := EReal) _ _

/-- The mean over a head's 512 entries. -/
def meanOf (y : FVec Ideal S32x4x4x512 .f32) : FVec Ideal S32x4x4x1 .f32 :=
  Host.divf (broadcastInDim S32x4x4x1 ![0, 1, 2] bcast_S32x4x4_S32x4x4x1_0_1_2 (Host.reduceAdd y (constant S_ .f32 0x00000000#32) reducesTo_S32x4x4x512_S32x4x4_d3 h_S_)) (broadcastInDim S32x4x4x1 ![] bcast_S_S32x4x4x1 (constant S_ .f32 0x44000000#32))

theorem meanOf_at (y : FVec Ideal S32x4x4x512 .f32) (b : Fin 32) (t h : Fin 4) :
    meanOf y (ix4 b t h 0) = Ideal.div (∑ x : Fin 512, y (ix4 b t h x)) (Ideal.ofBits .f32 0x44000000#32) := by
  unfold meanOf
  pointwise

/-- The rows less their mean. -/
def centred (y : FVec Ideal S32x4x4x512 .f32) : FVec Ideal S32x4x4x512 .f32 :=
  subf y (broadcastInDim S32x4x4x512 ![0, 1, 2, 3] bcast_S32x4x4x1_S32x4x4x512_0_1_2_3 (meanOf y))

theorem centred_at (y : FVec Ideal S32x4x4x512 .f32) (b : Fin 32) (t h : Fin 4) (e : Fin 512) :
    centred y (ix4 b t h e) = y (ix4 b t h e) - Ideal.div (∑ x : Fin 512, y (ix4 b t h x)) (Ideal.ofBits .f32 0x44000000#32) := by
  unfold centred
  pointwise
  rw [meanOf_at]

/-- The normalised rows. -/
def normed (y : FVec Ideal S32x4x4x512 .f32) (gn : FVec Ideal S4x512 .f32) : FVec Ideal S32x4x4x512 .f32 :=
  mulf (mulf (centred y) (broadcastInDim S32x4x4x512 ![0, 1, 2, 3] bcast_S32x4x4x1_S32x4x4x512_0_1_2_3 (Host.rsqrt (addf (meanOf (mulf (centred y) (centred y))) (broadcastInDim S32x4x4x1 ![] bcast_S_S32x4x4x1 (constant S_ .f32 0x3727C5AC#32)))))) (broadcastInDim S32x4x4x512 ![0, 1, 2, 3] bcast_S1x1x4x512_S32x4x4x512_0_1_2_3 (broadcastInDim S1x1x4x512 ![2, 3] bcast_S4x512_S1x1x4x512_2_3 gn))

theorem normed_at (y : FVec Ideal S32x4x4x512 .f32) (gn : FVec Ideal S4x512 .f32) (b : Fin 32) (t h : Fin 4) (e : Fin 512) :
    normed y gn (ix4 b t h e) = centred y (ix4 b t h e) * Ideal.rsqrt (Ideal.div (∑ x : Fin 512, centred y (ix4 b t h x) * centred y (ix4 b t h x)) (Ideal.ofBits .f32 0x44000000#32) + Ideal.ofBits .f32 0x3727C5AC#32) * gn (ix2 h e) := by
  unfold normed
  pointwise
  rw [meanOf_at]
  pointwise

/-- `g * sigmoid g`, as the reference spells it. -/
def gateOf (g : FVec Ideal S32x4x2048 .f32) : FVec Ideal S32x4x2048 .f32 :=
  mulf g (Host.divf (broadcastInDim S32x4x2048 ![] bcast_S_S32x4x2048 (constant S_ .f32 0x3F800000#32)) (addf (broadcastInDim S32x4x2048 ![] bcast_S_S32x4x2048 (constant S_ .f32 0x3F800000#32)) (Host.exp (Host.negf g))))

theorem gateOf_at (g : FVec Ideal S32x4x2048 .f32) (b : Fin 32) (t : Fin 4) (l : Fin 2048) :
    gateOf g (ix3 b t l) = g (ix3 b t l) * Ideal.logistic (g (ix3 b t l)) := by
  unfold gateOf Ideal.logistic
  pointwise

/-- The gated rows of the new tokens, the heads side by side. -/
def gatedRows (y : FVec Ideal S32x4x4x512 .f32) (gn : FVec Ideal S4x512 .f32) (g : FVec Ideal S32x4x2048 .f32) : FVec Ideal S32x4x2048 .f32 :=
  mulf (gateOf g) (shapeCast S32x4x2048 (normed y gn) shapeCasts_S32x4x4x512_S32x4x2048)

theorem gatedRows_at (y : FVec Ideal S32x4x4x512 .f32) (gn : FVec Ideal S4x512 .f32) (g : FVec Ideal S32x4x2048 .f32) (b : Fin 32) (i h : Fin 4) (e : Fin 512) :
    gatedRows y gn g (ix3 b i ⟨512 * h.val + e.val, by omega⟩)
      = Cert.Ret.gated (fun x => y (ix4 b i h x)) (gn (ix2 h e)) (g (ix3 b i ⟨512 * h.val + e.val, by omega⟩)) e := by
  show (gateOf g (ix3 b i ⟨512 * h.val + e.val, by omega⟩) : EReal) * shapeCast S32x4x2048 (normed y gn) shapeCasts_S32x4x4x512_S32x4x2048 (ix3 b i ⟨512 * h.val + e.val, by omega⟩) = _
  rw [gateOf_at]
  rw [shapeCast_apply (s := S32x4x4x512) _ _ _ (ix4 b i h e) (by
    rw [Shape.rowMajor_val_three, Shape.rowMajor_val_four]
    simp
    omega)]
  rw [normed_at]
  simp only [centred_at]
  rfl

/-- The rows laid out in blocks of eight, the padding rows zero. -/
def blocks (y : FVec Ideal S32x4x2048 .f32) : FVec Ideal S256x2048 .f32 :=
  shapeCast S256x2048 (pad S32x8x2048 ![0, 0, 0] ![0, 4, 0] ![0, 0, 0] y (sitofp .f32 (constantI S_ 32 0#32)) pads_S32x4x2048_S32x8x2048_000_040_000 h_S_) shapeCasts_S32x8x2048_S256x2048

theorem blocks_at (y : FVec Ideal S32x4x2048 .f32) (b : Fin 32) (i : Fin 8) (l : Fin 2048) :
    blocks y (ix2 ⟨8 * b.val + i.val, by omega⟩ l) = if hi : i.val < 4 then y (ix3 b ⟨i.val, hi⟩ l) else (0 : EReal) := by
  unfold blocks
  refine (shapeCast_apply (s := S32x8x2048) _ _ _ (ix3 b i l) ?_).trans ?_
  · rw [Shape.rowMajor_val_three, Shape.rowMajor_val_two]
    simp
    omega
  by_cases hi : i.val < 4
  · rw [dif_pos hi]
    exact pad_apply_of_inside _ _ _ _ _ _ _ _ (ix3 b ⟨i.val, hi⟩ l)
      (fun a => by match a with | ⟨0, _⟩ => simp | ⟨1, _⟩ => simp | ⟨2, _⟩ => simp)
  · rw [dif_neg hi]
    refine (pad_apply_of_not_inside _ _ _ _ _ _ _ _ ⟨1, by decide⟩ fun hin => hi ?_).trans ?_
    · have h2 := hin.2.2
      simpa using h2
    · pointwise
      exact Cert.Sample.converted_zero

variable (m : (ℓ : Loc nD τ sig) → Buf (Elt Ideal) ℓ) (c : Dev nD)

/-- The arguments as functions of sequence, row, head and lane. -/
abbrev qf (b : Fin 32) (t : Fin 8) (h : Fin 4) (d : Fin 256) : EReal := m ((c.tc : Thread nD τ).loc main_arg0) (ix4 b t h d)
abbrev kf (b : Fin 32) (t : Fin 8) (h : Fin 4) (d : Fin 256) : EReal := m ((c.tc : Thread nD τ).loc main_arg1) (ix4 b t h d)
abbrev vf (b : Fin 32) (t : Fin 8) (h : Fin 4) (e : Fin 512) : EReal := m ((c.tc : Thread nD τ).loc main_arg2) (ix4 b t h e)
abbrev gf (b : Fin 32) (t : Fin 8) (l : Fin 2048) : EReal := m ((c.tc : Thread nD τ).loc main_arg3) (ix3 b t l)
abbrev sf (b : Fin 32) (h : Fin 4) (d : Fin 256) (e : Fin 512) : EReal := m ((c.tc : Thread nD τ).loc main_arg4) (ix4 b h d e)
abbrev nf (h : Fin 4) (e : Fin 512) : EReal := m ((c.tc : Thread nD τ).loc main_arg5) (ix2 h e)

/-- The tables as functions. -/
abbrev dmf (h i x : Fin 4) : EReal := (DM : FVec Ideal S4x4x4 .f32) (ix3 h i x)
abbrev qdf (i h : Fin 4) : EReal := (QD : FVec Ideal S4x4 .f32) (ix2 i h)
abbrev kdf (i h : Fin 4) : EReal := (KD : FVec Ideal S4x4 .f32) (ix2 i h)
abbrev sdf (h : Fin 4) : EReal := (SD : FVec Ideal S4 .f32) (ix1 h)

theorem resY_eq : Value.res_main_v93 m c = blocks (gatedRows
    (addf (inner (keyRows (m ((c.tc : Thread nD τ).loc main_arg0))) (keyRows (m ((c.tc : Thread nD τ).loc main_arg1))) (valueRows (m ((c.tc : Thread nD τ).loc main_arg2))) DM)
      (cross (keyRows (m ((c.tc : Thread nD τ).loc main_arg0))) (m ((c.tc : Thread nD τ).loc main_arg4)) QD))
    (m ((c.tc : Thread nD τ).loc main_arg5)) (gateRows (m ((c.tc : Thread nD τ).loc main_arg3)))) := rfl

/-- The reference's first result at an index. -/
theorem resY_at (b : Fin 32) (i : Fin 8) (h : Fin 4) (e : Fin 512) :
    Value.res_main_v93 m c (ix2 ⟨8 * b.val + i.val, by omega⟩ ⟨512 * h.val + e.val, by omega⟩)
      = Cert.Sample.entry (qf m c) (kf m c) (vf m c) (sf m c) dmf qdf (gf m c) (nf m c) b i h e := by
  rw [resY_eq, blocks_at]
  unfold Cert.Sample.entry
  by_cases hi : i.val < 4
  · rw [dif_pos hi, dif_pos hi, gatedRows_at, gateRows_at]
    refine congrArg (fun o => Cert.Ret.gated o _ _ e) (funext fun x => ?_)
    refine (congrArg₂ (· + ·) (inner_at _ _ _ _ b ⟨i.val, hi⟩ h x) (cross_at _ _ _ b ⟨i.val, hi⟩ h x)).trans ?_
    simp only [keyRows_at, valueRows_at]
    rfl
  · rw [dif_neg hi, dif_neg hi]

/-- The reference's new state. -/
def stateOf (k : FVec Ideal S32x8x4x256 .f32) (v : FVec Ideal S32x8x4x512 .f32) (st : FVec Ideal S32x4x256x512 .f32) (kd : FVec Ideal S4x4 .f32) (sd : FVec Ideal S4 .f32) : FVec Ideal S32x4x256x512 .f32 :=
  addf (mulf (broadcastInDim S32x4x256x512 ![0, 1, 2, 3] bcast_S1x4x1x1_S32x4x256x512_0_1_2_3 (broadcastInDim S1x4x1x1 ![1] bcast_S4_S1x4x1x1_1 sd)) st) (Host.dotGeneral dot_S32x4x4x256_S32x4x4x512_S32x4x256x512_1_1_3_3_02_02 none (mulf (keyRows k) (broadcastInDim S32x4x4x256 ![0, 1, 2, 3] bcast_S1x4x4x1_S32x4x4x256_0_1_2_3 (broadcastInDim S1x4x4x1 ![1, 2] bcast_S4x4_S1x4x4x1_1_2 kd))) (valueRows v))

theorem stateOf_at (k : FVec Ideal S32x8x4x256 .f32) (v : FVec Ideal S32x8x4x512 .f32) (st : FVec Ideal S32x4x256x512 .f32) (kd : FVec Ideal S4x4 .f32) (sd : FVec Ideal S4 .f32)
    (b : Fin 32) (h : Fin 4) (d : Fin 256) (e : Fin 512) :
    stateOf k v st kd sd (ix4 b h d e) = Cert.Sample.newState (fun b t h d => k (ix4 b t h d)) (fun b t h e => v (ix4 b t h e)) (fun b h d e => st (ix4 b h d e))
      (fun i h => kd (ix2 i h)) (fun h => sd (ix1 h)) b h d e := by
  unfold stateOf Cert.Sample.newState
  pointwise
  simp only [keyRows_at, valueRows_at]

/-- The reference's second result. -/
abbrev resS : FVec Ideal S32x4x256x512 .f32 :=
  stateOf (m ((c.tc : Thread nD τ).loc main_arg1)) (m ((c.tc : Thread nD τ).loc main_arg2)) (m ((c.tc : Thread nD τ).loc main_arg4)) KD SD

end Cert.RetSampleReferenceIdeal.Rows
-- ==== Proof.RetSample.Entry.lean ====
module

public import proofs.«01_k».proof.Proof.Gen.RetSampleIdeal.Frame
public import proofs.«01_k».proof.Proof.RetSample.RefOut
public import Idealize.ShloMosaic.Lib.Pointwise
public import Idealize.ShloMosaic.Lib.Tactic
public import Idealize.ShloMosaic.Lib.KernelVsHost

/-! What the call's ten input arrays hold when the call is entered: the rows of q, k, v and the gate, the
    reference's four decay tables padded with zeros, the group-norm gains and the state. First as whole arrays,
    then at an index. -/

@[expose] public section

noncomputable section

namespace Cert.RetSampleIdeal.Rows

open Idealize.ShloMosaic Idealize.ShloMosaic.TcCoe Idealize.SL.Sem Cert.RetSampleIdeal Cert.RetSampleIdeal.Gen

section whole

variable {F : FTy → Type} [FloatOps F]
variable (m : (ℓ : Loc nD τ sig) → Buf (Elt F) ℓ) (c : Dev nD)

theorem V_q : V m c main_v0 = shapeCast S256x1024 (m ((c : Thread nD τ).loc main_arg0)) shapeCasts_S32x8x4x256_S256x1024 := by
  show StableHlo.after (List.flatten _) _ (Proc.devRef .tc main_v0) = _
  simp only [List.flatten_cons, List.flatten_nil, List.append_nil, List.cons_append, List.nil_append]
  after_results
  rfl

theorem V_k : V m c main_v1 = shapeCast S256x1024 (m ((c : Thread nD τ).loc main_arg1)) shapeCasts_S32x8x4x256_S256x1024 := by
  show StableHlo.after (List.flatten _) _ (Proc.devRef .tc main_v1) = _
  simp only [List.flatten_cons, List.flatten_nil, List.append_nil, List.cons_append, List.nil_append]
  after_results
  rfl

theorem V_v : V m c main_v2 = shapeCast S256x2048 (m ((c : Thread nD τ).loc main_arg2)) shapeCasts_S32x8x4x512_S256x2048 := by
  show StableHlo.after (List.flatten _) _ (Proc.devRef .tc main_v2) = _
  simp only [List.flatten_cons, List.flatten_nil, List.append_nil, List.cons_append, List.nil_append]
  after_results
  rfl

theorem V_g : V m c main_v3 = shapeCast S256x2048 (m ((c : Thread nD τ).loc main_arg3)) shapeCasts_S32x8x2048_S256x2048 := by
  show StableHlo.after (List.flatten _) _ (Proc.devRef .tc main_v3) = _
  simp only [List.flatten_cons, List.flatten_nil, List.append_nil, List.cons_append, List.nil_append]
  after_results
  rfl

/-- A table between rows, padded. -/
def padPair (t : FVec F S4x4x4 .f32) : FVec F S4x8x8 .f32 :=
  pad S4x8x8 ![0, 0, 0] ![0, 4, 4] ![0, 0, 0] t (sitofp .f32 (constantI S_ 32 0#32)) pads_S4x4x4_S4x8x8_000_040_040 h_S_

/-- A table per row, padded. -/
def padRow (t : FVec F S4x4 .f32) : FVec F S4x8x1 .f32 :=
  broadcastInDim S4x8x1 ![0, 1] bcast_S4x8_S4x8x1_0_1 (pad S4x8 ![0, 0] ![0, 4] ![0, 0] (transpose S4x4 [1, 0] t transposes_S4x4_S4x4_1_0)
    (sitofp .f32 (constantI S_ 32 0#32)) pads_S4x4_S4x8_000_040 h_S_)

theorem V_dm : V m c main_v47 = padPair Cert.RetSampleReferenceIdeal.Rows.DM := by
  show StableHlo.after (List.flatten _) _ (Proc.devRef .tc main_v47) = _
  simp only [List.flatten_cons, List.flatten_nil, List.append_nil, List.cons_append, List.nil_append]
  after_results
  rfl

theorem V_qd : V m c main_v49 = padRow Cert.RetSampleReferenceIdeal.Rows.QD := by
  show StableHlo.after (List.flatten _) _ (Proc.devRef .tc main_v49) = _
  simp only [List.flatten_cons, List.flatten_nil, List.append_nil, List.cons_append, List.nil_append]
  after_results
  rfl

theorem V_kd : V m c main_v51 = padRow Cert.RetSampleReferenceIdeal.Rows.KD := by
  show StableHlo.after (List.flatten _) _ (Proc.devRef .tc main_v51) = _
  simp only [List.flatten_cons, List.flatten_nil, List.append_nil, List.cons_append, List.nil_append]
  after_results
  rfl

theorem V_sd : V m c main_v56 = broadcastInDim S4x1x512 ![0, 1, 2] bcast_S4x1x1_S4x1x512_0_1_2 (broadcastInDim S4x1x1 ![0] bcast_S4_S4x1x1_0 (Cert.RetSampleReferenceIdeal.Rows.SD : FVec F S4 .f32)) := by
  show StableHlo.after (List.flatten _) _ (Proc.devRef .tc main_v56) = _
  simp only [List.flatten_cons, List.flatten_nil, List.append_nil, List.cons_append, List.nil_append]
  after_results
  rfl

theorem V_gn : V m c main_v57 = shapeCast S4x1x512 (m ((c : Thread nD τ).loc main_arg5)) shapeCasts_S4x512_S4x1x512 := by
  show StableHlo.after (List.flatten _) _ (Proc.devRef .tc main_v57) = _
  simp only [List.flatten_cons, List.flatten_nil, List.append_nil, List.cons_append, List.nil_append]
  after_results
  rfl

theorem V_st : V m c main_arg4 = m ((c : Thread nD τ).loc main_arg4) := by
  show StableHlo.after (List.flatten _) _ (Proc.devRef .tc main_arg4) = _
  simp only [List.flatten_cons, List.flatten_nil, List.append_nil, List.cons_append, List.nil_append]
  after_results

end whole

theorem padPair_at (t : FVec Ideal S4x4x4 .f32) (h : Fin 4) (i x : Fin 8) :
    padPair t (ix3 h i x) = Cert.Sample.padded (fun h i x => t (ix3 h i x)) h i x := by
  unfold padPair Cert.Sample.padded
  by_cases hh : i.val < 4 ∧ x.val < 4
  · rw [dif_pos hh]
    exact pad_apply_of_inside _ _ _ _ _ _ _ _ (ix3 h ⟨i.val, hh.1⟩ ⟨x.val, hh.2⟩)
      (fun a => by match a with | ⟨0, _⟩ => simp | ⟨1, _⟩ => simp | ⟨2, _⟩ => simp)
  · rw [dif_neg hh]
    by_cases hi : i.val < 4
    · refine (pad_apply_of_not_inside _ _ _ _ _ _ _ _ ⟨2, by decide⟩ fun hin => hh ⟨hi, ?_⟩).trans ?_
      · have h2 := hin.2.2
        simpa using h2
      · pointwise
        exact Cert.Sample.converted_zero
    · refine (pad_apply_of_not_inside _ _ _ _ _ _ _ _ ⟨1, by decide⟩ fun hin => hi ?_).trans ?_
      · have h2 := hin.2.2
        simpa using h2
      · pointwise
        exact Cert.Sample.converted_zero

theorem padRow_at (t : FVec Ideal S4x4 .f32) (h : Fin 4) (i : Fin 8) :
    padRow t (ix3 h i 0) = Cert.Sample.paddedRow (fun i h => t (ix2 i h)) i h := by
  unfold padRow Cert.Sample.paddedRow
  have e : ∀ y : FVec Ideal S4x8 .f32, broadcastInDim S4x8x1 ![0, 1] bcast_S4x8_S4x8x1_0_1 y (ix3 h i 0) = y (ix2 h i) := fun y => by pointwise
  rw [e]
  by_cases hi : i.val < 4
  · rw [dif_pos hi]
    refine (pad_apply_of_inside _ _ _ _ _ _ _ _ (ix2 h ⟨i.val, hi⟩)
      (fun a => by match a with | ⟨0, _⟩ => simp | ⟨1, _⟩ => simp)).trans ?_
    pointwise
  · rw [dif_neg hi]
    refine (pad_apply_of_not_inside _ _ _ _ _ _ _ _ ⟨1, by decide⟩ fun hin => hi ?_).trans ?_
    · have h2 := hin.2.2
      simpa using h2
    · pointwise
      exact Cert.Sample.converted_zero

variable (m : (ℓ : Loc nD τ sig) → Buf (Elt Ideal) ℓ) (c : Dev nD)

theorem V_q_at (b : Fin 32) (t : Fin 8) (h : Fin 4) (d : Fin 256) :
    V m c main_v0 (ix2 ⟨8 * b.val + t.val, by omega⟩ ⟨256 * h.val + d.val, by omega⟩) = m ((c : Thread nD τ).loc main_arg0) (ix4 b t h d) := by
  rw [V_q]
  refine shapeCast_apply (s := S32x8x4x256) _ _ _ _ ?_
  rw [Shape.rowMajor_val_four, Shape.rowMajor_val_two]
  simp
  omega

theorem V_k_at (b : Fin 32) (t : Fin 8) (h : Fin 4) (d : Fin 256) :
    V m c main_v1 (ix2 ⟨8 * b.val + t.val, by omega⟩ ⟨256 * h.val + d.val, by omega⟩) = m ((c : Thread nD τ).loc main_arg1) (ix4 b t h d) := by
  rw [V_k]
  refine shapeCast_apply (s := S32x8x4x256) _ _ _ _ ?_
  rw [Shape.rowMajor_val_four, Shape.rowMajor_val_two]
  simp
  omega

theorem V_v_at (b : Fin 32) (t : Fin 8) (h : Fin 4) (d : Fin 512) :
    V m c main_v2 (ix2 ⟨8 * b.val + t.val, by omega⟩ ⟨512 * h.val + d.val, by omega⟩) = m ((c : Thread nD τ).loc main_arg2) (ix4 b t h d) := by
  rw [V_v]
  refine shapeCast_apply (s := S32x8x4x512) _ _ _ _ ?_
  rw [Shape.rowMajor_val_four, Shape.rowMajor_val_two]
  simp
  omega

theorem V_g_at (b : Fin 32) (t : Fin 8) (l : Fin 2048) :
    V m c main_v3 (ix2 ⟨8 * b.val + t.val, by omega⟩ l) = m ((c : Thread nD τ).loc main_arg3) (ix3 b t l) := by
  rw [V_g]
  refine shapeCast_apply (s := S32x8x2048) _ _ _ _ ?_
  rw [Shape.rowMajor_val_three, Shape.rowMajor_val_two]
  simp
  omega

theorem V_dm_at (h : Fin 4) (i x : Fin 8) :
    V m c main_v47 (ix3 h i x) = Cert.Sample.padded Cert.RetSampleReferenceIdeal.Rows.dmf h i x := by
  rw [V_dm]
  exact padPair_at _ h i x

theorem V_qd_at (h : Fin 4) (i : Fin 8) :
    V m c main_v49 (ix3 h i 0) = Cert.Sample.paddedRow Cert.RetSampleReferenceIdeal.Rows.qdf i h := by
  rw [V_qd]
  exact padRow_at _ h i

theorem V_kd_at (h : Fin 4) (i : Fin 8) :
    V m c main_v51 (ix3 h i 0) = Cert.Sample.paddedRow Cert.RetSampleReferenceIdeal.Rows.kdf i h := by
  rw [V_kd]
  exact padRow_at _ h i

theorem V_sd_at (h : Fin 4) (e : Fin 512) :
    V m c main_v56 (ix3 h 0 e) = Cert.RetSampleReferenceIdeal.Rows.sdf h := by
  rw [V_sd]
  unfold Cert.RetSampleReferenceIdeal.Rows.sdf
  generalize (Cert.RetSampleReferenceIdeal.Rows.SD : FVec Ideal S4 .f32) = T
  pointwise

theorem V_gn_at (h : Fin 4) (e : Fin 512) :
    V m c main_v57 (ix3 h 0 e) = m ((c : Thread nD τ).loc main_arg5) (ix2 h e) := by
  rw [V_gn]
  pointwise

end Cert.RetSampleIdeal.Rows
-- ==== Proof.RetSample.Block.lean ====
module

public import proofs.«01_k».proof.Proof.Gen.RetSampleIdeal.Frame
public import Idealize.ShloMosaic.Lib.Pipeline.Value
public import Idealize.ShloMosaic.Lib.Tactic

/-! What one grid point of the sample's retention leaves in its two output blocks, as the kernel's own payloads. -/

@[expose] public section

noncomputable section

namespace Cert.RetSampleIdeal.Rows

open Idealize.ShloMosaic Idealize.ShloMosaic.TcCoe Idealize.SL.Sem Cert.RetSampleIdeal Cert.RetSampleIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The output block. -/
theorem out_10 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x8 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x256x512 .f32) (harg12 : arg12.IsWhole) (arg13 : Memref sig .tc .vmem S8x512 .f32) (harg13 : arg13.IsWhole) (arg14 : Memref sig .tc .vmem S1x1x256x512 .f32) (harg14 : arg14.IsWhole) (hc0 : cond0_0 i)
    (x0 : Vec F S8x256 .f32) (x1 : Vec F S8x256 .f32) (x2 : Vec F S8x512 .f32) (x3 : Vec F S8x512 .f32) (x4 : Vec F S1x8x8 .f32) (x5 : Vec F S1x8x1 .f32) (x6 : Vec F S1x8x1 .f32) (x7 : Vec F S1x1x512 .f32) (x8 : Vec F S1x1x512 .f32) (x9 : Vec F S1x1x256x512 .f32) :
    out0_A_10 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay2 (k0_pay7 x0 x1 x2 (k0_pay3 x9) x4 x5) x8 x3 := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_unit_zero hz2]
  try rw [View.readCov_unit_zero (S := S1x1x256x512) _ hz4]
  simp only [View.readAt_eq_ld, harg3.read_unread, harg4.read_unread, harg5.read_unread, harg6.read_unread, harg7.read_unread, harg8.read_unread, harg9.read_unread, harg10.read_unread, harg11.read_unread, harg12.read_unread, View.ld_unit_zero (S := S8x256) hz2, View.ld_unit_zero (S := S8x512) hz2, View.ld_unit_zero (S := S1x8x8) hz3, View.ld_unit_zero (S := S1x8x1) hz3, View.ld_unit_zero (S := S1x1x512) hz3, View.ld_unit_zero (S := S1x1x256x512) hz4]

/-- The state's block. -/
theorem out_11 (c : Dev nD) (i : grid0.Coords) (arg3 : Memref sig .tc .vmem S8x256 .f32) (harg3 : arg3.IsWhole) (arg4 : Memref sig .tc .vmem S8x256 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S1x8x8 .f32) (harg7 : arg7.IsWhole) (arg8 : Memref sig .tc .vmem S1x8x1 .f32) (harg8 : arg8.IsWhole) (arg9 : Memref sig .tc .vmem S1x8x1 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x256x512 .f32) (harg12 : arg12.IsWhole) (arg13 : Memref sig .tc .vmem S8x512 .f32) (harg13 : arg13.IsWhole) (arg14 : Memref sig .tc .vmem S1x1x256x512 .f32) (harg14 : arg14.IsWhole) (hc0 : cond0_0 i)
    (x0 : Vec F S8x256 .f32) (x1 : Vec F S8x256 .f32) (x2 : Vec F S8x512 .f32) (x3 : Vec F S8x512 .f32) (x4 : Vec F S1x8x8 .f32) (x5 : Vec F S1x8x1 .f32) (x6 : Vec F S1x8x1 .f32) (x7 : Vec F S1x1x512 .f32) (x8 : Vec F S1x1x512 .f32) (x9 : Vec F S1x1x256x512 .f32) :
    out0_A_11 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = k0_pay1 (k0_pay5 x2) (k0_pay6 (k0_pay3 x9)) (k0_pay8 x1 x6) x7 := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  rw [View.canon_cons_unit_zero (S := S1x1x256x512) hz4]
  try rw [View.readCov_unit_zero (S := S1x1x256x512) _ hz4]
  simp only [View.readAt_eq_ld, harg3.read_unread, harg4.read_unread, harg5.read_unread, harg6.read_unread, harg7.read_unread, harg8.read_unread, harg9.read_unread, harg10.read_unread, harg11.read_unread, harg12.read_unread, View.ld_unit_zero (S := S8x256) hz2, View.ld_unit_zero (S := S8x512) hz2, View.ld_unit_zero (S := S1x8x8) hz3, View.ld_unit_zero (S := S1x8x1) hz3, View.ld_unit_zero (S := S1x1x512) hz3, View.ld_unit_zero (S := S1x1x256x512) hz4]

end Cert.RetSampleIdeal.Rows
-- ==== Proof.RetSample.Payload.lean ====
module

public import proofs.«01_k».proof.Proof.Gen.RetSampleIdeal.Skeleton
public import proofs.«01_k».proof.Proof.Ret.Payload
public import Idealize.ShloMosaic.Lib.Pointwise

/-! The body's vector expressions read at an index, over the extended reals. -/

@[expose] public section

noncomputable section

namespace Cert.RetSampleIdeal.Rows

open Idealize.ShloMosaic Cert.RetSampleIdeal Cert.RetSampleIdeal.Gen

theorem pay3_at (st : FVec Ideal S1x1x256x512 .f32) (d : Fin 256) (e : Fin 512) : k0_pay3 st (ix4 0 0 d e) = st (ix4 0 0 d e) := by
  unfold k0_pay3
  pointwise

theorem pay6_at (st : FVec Ideal S1x1x256x512 .f32) (d : Fin 256) (e : Fin 512) : k0_pay6 st (ix2 d e) = st (ix4 0 0 d e) := by
  unfold k0_pay6
  pointwise

theorem pay1_at (v : FVec Ideal S8x512 .f32) (a : FVec Ideal S256x512 .f32) (k : FVec Ideal S8x256 .f32) (kd : FVec Ideal S1x8x1 .f32) (sd : FVec Ideal S1x1x512 .f32) (d : Fin 256) (e : Fin 512) :
    k0_pay1 (k0_pay5 v) a (k0_pay8 k kd) sd (ix4 0 0 d e)
      = (sd (ix3 0 0 e) : EReal) * a (ix2 d e) + ∑ x : Fin 8, ((k (ix2 x d) : EReal) * kd (ix3 0 x 0)) * v (ix2 x e) := by
  unfold k0_pay1 k0_pay5 k0_pay8 k0_pay4
  pointwise

theorem pay7_at (q k : FVec Ideal S8x256 .f32) (v : FVec Ideal S8x512 .f32) (st : FVec Ideal S1x1x256x512 .f32)
    (dm : FVec Ideal S1x8x8 .f32) (qd : FVec Ideal S1x8x1 .f32) (i : Fin 8) (e : Fin 512) :
    k0_pay7 (F := Ideal) q k v st dm qd (ix2 i e) = (∑ x : Fin 8, ((∑ d : Fin 256, (q (ix2 i d) : EReal) * k (ix2 x d)) * dm (ix3 0 i x)) * v (ix2 x e))
      + (∑ d : Fin 256, (q (ix2 i d) : EReal) * st (ix4 0 0 d e)) * qd (ix3 0 i 0) := by
  unfold k0_pay7 k0_pay4 k0_pay5 k0_pay6
  pointwise

theorem pay2_at (o : FVec Ideal S8x512 .f32) (gn : FVec Ideal S1x1x512 .f32) (g : FVec Ideal S8x512 .f32) (i : Fin 8) (e : Fin 512) :
    k0_pay2 o gn g (ix2 i e) = Cert.Ret.gated (fun x => o (ix2 i x)) (gn (ix3 0 0 e)) (g (ix2 i e)) e := by
  unfold k0_pay2 Cert.Ret.gated
  pointwise

end Cert.RetSampleIdeal.Rows
-- ==== Proof.RetSample.Points.lean ====
module

public import proofs.«01_k».proof.Proof.RetSample.Entry
public import proofs.«01_k».proof.Proof.RetSample.Block
public import proofs.«01_k».proof.Proof.RetSample.Payload

/-! The ten input blocks of a grid point and the two output blocks it leaves: point `b*4+h` stages the rows
    of head `h` of sequence `b`, its state, and head `h`'s decay tables. -/

@[expose] public section

noncomputable section

namespace Cert.RetSampleIdeal.Rows

open Idealize.ShloMosaic Idealize.ShloMosaic.TcCoe Idealize.SL.Sem Cert.RetSampleIdeal Cert.RetSampleIdeal.Gen

/-- Which block of each array a point stages. -/
theorem index_rows : ∀ t : Fin grid0.N, (win0_0.index t 0 = t.val / 4 ∧ win0_0.index t 1 = t.val % 4)
    ∧ (win0_1.index t 0 = t.val / 4 ∧ win0_1.index t 1 = t.val % 4)
    ∧ (win0_2.index t 0 = t.val / 4 ∧ win0_2.index t 1 = t.val % 4)
    ∧ (win0_3.index t 0 = t.val / 4 ∧ win0_3.index t 1 = t.val % 4)
    ∧ (win0_10.index t 0 = t.val / 4 ∧ win0_10.index t 1 = t.val % 4) := by decide +kernel

theorem index_tables : ∀ t : Fin grid0.N, (win0_4.index t 0 = t.val % 4 ∧ win0_4.index t 1 = 0 ∧ win0_4.index t 2 = 0)
    ∧ (win0_5.index t 0 = t.val % 4 ∧ win0_5.index t 1 = 0 ∧ win0_5.index t 2 = 0)
    ∧ (win0_6.index t 0 = t.val % 4 ∧ win0_6.index t 1 = 0 ∧ win0_6.index t 2 = 0)
    ∧ (win0_7.index t 0 = t.val % 4 ∧ win0_7.index t 1 = 0 ∧ win0_7.index t 2 = 0)
    ∧ (win0_8.index t 0 = t.val % 4 ∧ win0_8.index t 1 = 0 ∧ win0_8.index t 2 = 0) := by decide +kernel

theorem index_state : ∀ t : Fin grid0.N, (win0_9.index t 0 = t.val / 4 ∧ win0_9.index t 1 = t.val % 4 ∧ win0_9.index t 2 = 0 ∧ win0_9.index t 3 = 0)
    ∧ (win0_11.index t 0 = t.val / 4 ∧ win0_11.index t 1 = t.val % 4 ∧ win0_11.index t 2 = 0 ∧ win0_11.index t 3 = 0) := by decide +kernel

/-- The point of sequence `b`, head `h`. -/
def pt (b : Fin 32) (h : Fin 4) : Fin cfg0.N :=
  ⟨b.val * 4 + h.val, by rw [show cfg0.N = 128 from N_0]; omega⟩

theorem pt_b (b : Fin 32) (h : Fin 4) : (pt b h).val / 4 = b.val := by show (b.val * 4 + h.val) / 4 = _; omega
theorem pt_h (b : Fin 32) (h : Fin 4) : (pt b h).val % 4 = h.val := by show (b.val * 4 + h.val) % 4 = _; omega

/-- Every point is some sequence's some head. -/
theorem exists_pt (t : Fin cfg0.N) : ∃ b h, t = pt b h := by
  have hN : t.val < 128 := lt_of_lt_of_eq t.isLt (show cfg0.N = 128 from N_0)
  exact ⟨⟨t.val / 4, by omega⟩, ⟨t.val % 4, by omega⟩, Fin.ext (by
    show t.val = t.val / 4 * 4 + t.val % 4
    omega)⟩

variable (m : (ℓ : Loc nD τ sig) → Buf (Elt Ideal) ℓ) (c : Dev nD)

/-- The arguments as functions of sequence, row, head and lane. -/
abbrev qf (b : Fin 32) (t : Fin 8) (h : Fin 4) (d : Fin 256) : EReal := m ((c : Thread nD τ).loc main_arg0) (ix4 b t h d)
abbrev kf (b : Fin 32) (t : Fin 8) (h : Fin 4) (d : Fin 256) : EReal := m ((c : Thread nD τ).loc main_arg1) (ix4 b t h d)
abbrev vf (b : Fin 32) (t : Fin 8) (h : Fin 4) (e : Fin 512) : EReal := m ((c : Thread nD τ).loc main_arg2) (ix4 b t h e)
abbrev gf (b : Fin 32) (t : Fin 8) (l : Fin 2048) : EReal := m ((c : Thread nD τ).loc main_arg3) (ix3 b t l)
abbrev sf (b : Fin 32) (h : Fin 4) (d : Fin 256) (e : Fin 512) : EReal := m ((c : Thread nD τ).loc main_arg4) (ix4 b h d e)
abbrev nf (h : Fin 4) (e : Fin 512) : EReal := m ((c : Thread nD τ).loc main_arg5) (ix2 h e)

theorem q_at (b : Fin 32) (h : Fin 4) (i : Fin 8) (d : Fin 256) :
    (iblk m c 0 (pt b h) : FVec Ideal S8x256 .f32) (ix2 i d) = qf m c b i h d := by
  refine Eq.trans ?_ (V_q_at m c b i h d)
  have e := (index_rows (pt b h)).1
  rw [pt_b, pt_h] at e
  show V m c main_v0 (((cfg0.win 0).blk (pt b h)).view.emb (ix2 i d)) = _
  refine congrArg (V m c main_v0) (funext fun a => Fin.ext ?_)
  match a with
  | ⟨0, _⟩ =>
    show win0_0.index (pt b h) 0 * 8 + 1 * i.val = 8 * b.val + i.val
    rw [e.1]; omega
  | ⟨1, _⟩ =>
    show win0_0.index (pt b h) 1 * 256 + 1 * d.val = 256 * h.val + d.val
    rw [e.2]; omega

theorem k_at (b : Fin 32) (h : Fin 4) (i : Fin 8) (d : Fin 256) :
    (iblk m c 1 (pt b h) : FVec Ideal S8x256 .f32) (ix2 i d) = kf m c b i h d := by
  refine Eq.trans ?_ (V_k_at m c b i h d)
  have e := (index_rows (pt b h)).2.1
  rw [pt_b, pt_h] at e
  show V m c main_v1 (((cfg0.win 1).blk (pt b h)).view.emb (ix2 i d)) = _
  refine congrArg (V m c main_v1) (funext fun a => Fin.ext ?_)
  match a with
  | ⟨0, _⟩ =>
    show win0_1.index (pt b h) 0 * 8 + 1 * i.val = 8 * b.val + i.val
    rw [e.1]; omega
  | ⟨1, _⟩ =>
    show win0_1.index (pt b h) 1 * 256 + 1 * d.val = 256 * h.val + d.val
    rw [e.2]; omega

theorem v_at (b : Fin 32) (h : Fin 4) (i : Fin 8) (d : Fin 512) :
    (iblk m c 2 (pt b h) : FVec Ideal S8x512 .f32) (ix2 i d) = vf m c b i h d := by
  refine Eq.trans ?_ (V_v_at m c b i h d)
  have e := (index_rows (pt b h)).2.2.1
  rw [pt_b, pt_h] at e
  show V m c main_v2 (((cfg0.win 2).blk (pt b h)).view.emb (ix2 i d)) = _
  refine congrArg (V m c main_v2) (funext fun a => Fin.ext ?_)
  match a with
  | ⟨0, _⟩ =>
    show win0_2.index (pt b h) 0 * 8 + 1 * i.val = 8 * b.val + i.val
    rw [e.1]; omega
  | ⟨1, _⟩ =>
    show win0_2.index (pt b h) 1 * 512 + 1 * d.val = 512 * h.val + d.val
    rw [e.2]; omega

theorem g_at (b : Fin 32) (h : Fin 4) (i : Fin 8) (e : Fin 512) :
    (iblk m c 3 (pt b h) : FVec Ideal S8x512 .f32) (ix2 i e) = gf m c b i ⟨512 * h.val + e.val, by omega⟩ := by
  refine Eq.trans ?_ (V_g_at m c b i ⟨512 * h.val + e.val, by omega⟩)
  have e' := (index_rows (pt b h)).2.2.2.1
  rw [pt_b, pt_h] at e'
  show V m c main_v3 (((cfg0.win 3).blk (pt b h)).view.emb (ix2 i e)) = _
  refine congrArg (V m c main_v3) (funext fun a => Fin.ext ?_)
  match a with
  | ⟨0, _⟩ =>
    show win0_3.index (pt b h) 0 * 8 + 1 * i.val = 8 * b.val + i.val
    rw [e'.1]; omega
  | ⟨1, _⟩ =>
    show win0_3.index (pt b h) 1 * 512 + 1 * e.val = 512 * h.val + e.val
    rw [e'.2]; omega

theorem dm_at (b : Fin 32) (h : Fin 4) (i x : Fin 8) :
    (iblk m c 4 (pt b h) : FVec Ideal S1x8x8 .f32) (ix3 0 i x) = Cert.Sample.padded Cert.RetSampleReferenceIdeal.Rows.dmf h i x := by
  refine Eq.trans ?_ (V_dm_at m c h i x)
  have e' := (index_tables (pt b h)).1
  rw [pt_h] at e'
  show V m c main_v47 (((cfg0.win 4).blk (pt b h)).view.emb (ix3 0 i x)) = _
  refine congrArg (V m c main_v47) (funext fun a => Fin.ext ?_)
  match a with
  | ⟨0, _⟩ =>
    show win0_4.index (pt b h) 0 * 1 + 1 * 0 = h.val
    rw [e'.1]; omega
  | ⟨1, _⟩ =>
    show win0_4.index (pt b h) 1 * 8 + 1 * _ = _
    rw [e'.2.1, Nat.zero_mul, Nat.zero_add, Nat.one_mul]
    rfl
  | ⟨2, _⟩ =>
    show win0_4.index (pt b h) 2 * 8 + 1 * _ = _
    rw [e'.2.2, Nat.zero_mul, Nat.zero_add, Nat.one_mul]
    rfl

theorem qd_at (b : Fin 32) (h : Fin 4) (i : Fin 8) :
    (iblk m c 5 (pt b h) : FVec Ideal S1x8x1 .f32) (ix3 0 i 0) = Cert.Sample.paddedRow Cert.RetSampleReferenceIdeal.Rows.qdf i h := by
  refine Eq.trans ?_ (V_qd_at m c h i)
  have e' := (index_tables (pt b h)).2.1
  rw [pt_h] at e'
  show V m c main_v49 (((cfg0.win 5).blk (pt b h)).view.emb (ix3 0 i 0)) = _
  refine congrArg (V m c main_v49) (funext fun a => Fin.ext ?_)
  match a with
  | ⟨0, _⟩ =>
    show win0_5.index (pt b h) 0 * 1 + 1 * 0 = h.val
    rw [e'.1]; omega
  | ⟨1, _⟩ =>
    show win0_5.index (pt b h) 1 * 8 + 1 * _ = _
    rw [e'.2.1, Nat.zero_mul, Nat.zero_add, Nat.one_mul]
    rfl
  | ⟨2, _⟩ =>
    show win0_5.index (pt b h) 2 * 1 + 1 * _ = _
    rw [e'.2.2, Nat.zero_mul, Nat.zero_add, Nat.one_mul]
    rfl

theorem kd_at (b : Fin 32) (h : Fin 4) (i : Fin 8) :
    (iblk m c 6 (pt b h) : FVec Ideal S1x8x1 .f32) (ix3 0 i 0) = Cert.Sample.paddedRow Cert.RetSampleReferenceIdeal.Rows.kdf i h := by
  refine Eq.trans ?_ (V_kd_at m c h i)
  have e' := (index_tables (pt b h)).2.2.1
  rw [pt_h] at e'
  show V m c main_v51 (((cfg0.win 6).blk (pt b h)).view.emb (ix3 0 i 0)) = _
  refine congrArg (V m c main_v51) (funext fun a => Fin.ext ?_)
  match a with
  | ⟨0, _⟩ =>
    show win0_6.index (pt b h) 0 * 1 + 1 * 0 = h.val
    rw [e'.1]; omega
  | ⟨1, _⟩ =>
    show win0_6.index (pt b h) 1 * 8 + 1 * _ = _
    rw [e'.2.1, Nat.zero_mul, Nat.zero_add, Nat.one_mul]
    rfl
  | ⟨2, _⟩ =>
    show win0_6.index (pt b h) 2 * 1 + 1 * _ = _
    rw [e'.2.2, Nat.zero_mul, Nat.zero_add, Nat.one_mul]
    rfl

theorem sd_at (b : Fin 32) (h : Fin 4) (e : Fin 512) :
    (iblk m c 7 (pt b h) : FVec Ideal S1x1x512 .f32) (ix3 0 0 e) = Cert.RetSampleReferenceIdeal.Rows.sdf h := by
  refine Eq.trans ?_ (V_sd_at m c h e)
  have e' := (index_tables (pt b h)).2.2.2.1
  rw [pt_h] at e'
  show V m c main_v56 (((cfg0.win 7).blk (pt b h)).view.emb (ix3 0 0 e)) = _
  refine congrArg (V m c main_v56) (funext fun a => Fin.ext ?_)
  match a with
  | ⟨0, _⟩ =>
    show win0_7.index (pt b h) 0 * 1 + 1 * 0 = h.val
    rw [e'.1]; omega
  | ⟨1, _⟩ =>
    show win0_7.index (pt b h) 1 * 1 + 1 * _ = _
    rw [e'.2.1, Nat.zero_mul, Nat.zero_add, Nat.one_mul]
    rfl
  | ⟨2, _⟩ =>
    show win0_7.index (pt b h) 2 * 512 + 1 * _ = _
    rw [e'.2.2, Nat.zero_mul, Nat.zero_add, Nat.one_mul]
    rfl

theorem gn_at (b : Fin 32) (h : Fin 4) (e : Fin 512) :
    (iblk m c 8 (pt b h) : FVec Ideal S1x1x512 .f32) (ix3 0 0 e) = nf m c h e := by
  refine Eq.trans ?_ (V_gn_at m c h e)
  have e' := (index_tables (pt b h)).2.2.2.2
  rw [pt_h] at e'
  show V m c main_v57 (((cfg0.win 8).blk (pt b h)).view.emb (ix3 0 0 e)) = _
  refine congrArg (V m c main_v57) (funext fun a => Fin.ext ?_)
  match a with
  | ⟨0, _⟩ =>
    show win0_8.index (pt b h) 0 * 1 + 1 * 0 = h.val
    rw [e'.1]; omega
  | ⟨1, _⟩ =>
    show win0_8.index (pt b h) 1 * 1 + 1 * _ = _
    rw [e'.2.1, Nat.zero_mul, Nat.zero_add, Nat.one_mul]
    rfl
  | ⟨2, _⟩ =>
    show win0_8.index (pt b h) 2 * 512 + 1 * _ = _
    rw [e'.2.2, Nat.zero_mul, Nat.zero_add, Nat.one_mul]
    rfl

theorem st_at (b : Fin 32) (h : Fin 4) (d : Fin 256) (e : Fin 512) :
    (iblk m c 9 (pt b h) : FVec Ideal S1x1x256x512 .f32) (ix4 0 0 d e) = sf m c b h d e := by
  have e' := (index_state (pt b h)).1
  rw [pt_b, pt_h] at e'
  show V m c main_arg4 (((cfg0.win 9).blk (pt b h)).view.emb (ix4 0 0 d e)) = _
  have hemb : ((cfg0.win 9).blk (pt b h)).view.emb (ix4 0 0 d e) = (ix4 b h d e : S32x4x256x512.Idx) := by
    refine funext fun a => Fin.ext ?_
    match a with
    | ⟨0, _⟩ =>
      show win0_9.index (pt b h) 0 * 1 + 1 * 0 = b.val
      rw [e'.1]; omega
    | ⟨1, _⟩ =>
      show win0_9.index (pt b h) 1 * 1 + 1 * 0 = h.val
      rw [e'.2.1]; omega
    | ⟨2, _⟩ =>
      show win0_9.index (pt b h) 2 * 256 + 1 * d.val = d.val
      rw [e'.2.2.1]; omega
    | ⟨3, _⟩ =>
      show win0_9.index (pt b h) 3 * 512 + 1 * e.val = e.val
      rw [e'.2.2.2]; omega
  rw [hemb, V_st]

/-- The output block of a point. -/
theorem written (b : Fin 32) (h : Fin 4) (i : Fin 8) (e : Fin 512) :
    (outsAt0 m c (pt b h)).1 (ix2 i e)
      = Cert.Sample.entry (qf m c) (kf m c) (vf m c) (sf m c) Cert.RetSampleReferenceIdeal.Rows.dmf Cert.RetSampleReferenceIdeal.Rows.qdf (gf m c) (nf m c) b i h e := by
  unfold outsAt0
  dsimp only
  rw [out_10, pay2_at, gn_at, g_at, ← Cert.Sample.gated_block]
  refine congrArg (fun o => Cert.Ret.gated o _ _ e) (funext fun x => ?_)
  rw [pay7_at]
  simp only [pay3_at, q_at, k_at, v_at, dm_at, qd_at, st_at]
  rfl

/-- The state's block of a point. -/
theorem carried (b : Fin 32) (h : Fin 4) (d : Fin 256) (e : Fin 512) :
    (outsAt0 m c (pt b h)).2 (ix4 0 0 d e)
      = Cert.Sample.newState (kf m c) (vf m c) (sf m c) Cert.RetSampleReferenceIdeal.Rows.kdf Cert.RetSampleReferenceIdeal.Rows.sdf b h d e := by
  unfold outsAt0
  dsimp only
  rw [out_11, pay1_at, pay6_at, pay3_at, sd_at, st_at, ← Cert.Sample.state_of_block]
  simp only [k_at, v_at, kd_at]

end Cert.RetSampleIdeal.Rows
-- ==== Proof.RetSample.Claims.lean ====
module

public import proofs.«01_k».proof.Defs
public import proofs.«01_k».proof.Proof.RetSample.Points
public import proofs.«01_k».proof.Proof.Gen.RetSampleIdeal.Value
public import proofs.«01_k».proof.Proof.Gen.RetSample.Frame
public import Idealize.ShloMosaic.Adequacy
public import Idealize.ShloMosaic.Init

/-! The two result arrays of the sample's retention call, and its claims. -/

@[expose] public section

noncomputable section

namespace Cert.RetSampleIdeal.Rows

open Idealize.ShloMosaic Idealize.ShloMosaic.TcCoe Idealize.SL.Sem Cert.RetSampleIdeal Cert.RetSampleIdeal.Gen
open Idealize.ShloMosaic.Pipeline (Dat)

variable (m : (ℓ : Loc nD τ sig) → Buf (Elt Ideal) ℓ) (c : Dev nD)

/-- The layer's output rows. -/
def resultY : FVec Ideal S256x2048 .f32 := fun y =>
  Cert.Sample.entry (qf m c) (kf m c) (vf m c) (sf m c) Cert.RetSampleReferenceIdeal.Rows.dmf Cert.RetSampleReferenceIdeal.Rows.qdf (gf m c) (nf m c)
    ⟨(y 0).val / 8, by have h : (y 0).val < 256 := (y 0).isLt; omega⟩ ⟨(y 0).val % 8, by omega⟩
    ⟨(y 1).val / 512, by have h : (y 1).val < 2048 := (y 1).isLt; omega⟩ ⟨(y 1).val % 512, by omega⟩

theorem resultY_at (b : Fin 32) (i : Fin 8) (h : Fin 4) (e : Fin 512) :
    resultY m c (ix2 ⟨8 * b.val + i.val, by omega⟩ ⟨512 * h.val + e.val, by omega⟩) = Cert.Sample.entry (qf m c) (kf m c) (vf m c) (sf m c) Cert.RetSampleReferenceIdeal.Rows.dmf Cert.RetSampleReferenceIdeal.Rows.qdf (gf m c) (nf m c) b i h e := by
  unfold resultY
  dsimp only [ix2]
  have e0 : (⟨(8 * b.val + i.val) / 8, by omega⟩ : Fin 32) = b := Fin.ext (by show (8 * b.val + i.val) / 8 = b.val; omega)
  have e1 : (⟨(8 * b.val + i.val) % 8, by omega⟩ : Fin 8) = i := Fin.ext (by show (8 * b.val + i.val) % 8 = i.val; omega)
  have e2 : (⟨(512 * h.val + e.val) / 512, by omega⟩ : Fin 4) = h := Fin.ext (by show (512 * h.val + e.val) / 512 = h.val; omega)
  have e3 : (⟨(512 * h.val + e.val) % 512, by omega⟩ : Fin 512) = e := Fin.ext (by show (512 * h.val + e.val) % 512 = e.val; omega)
  exact congr (congr (congr (congrArg (Cert.Sample.entry (qf m c) (kf m c) (vf m c) (sf m c) Cert.RetSampleReferenceIdeal.Rows.dmf Cert.RetSampleReferenceIdeal.Rows.qdf (gf m c) (nf m c)) e0) e1) e2) e3

/-- The new states. -/
def resultS : FVec Ideal S32x4x256x512 .f32 := fun y =>
  Cert.Sample.newState (kf m c) (vf m c) (sf m c) Cert.RetSampleReferenceIdeal.Rows.kdf Cert.RetSampleReferenceIdeal.Rows.sdf
    ⟨(y 0).val, (y 0).isLt⟩ ⟨(y 1).val, (y 1).isLt⟩ ⟨(y 2).val, (y 2).isLt⟩ ⟨(y 3).val, (y 3).isLt⟩

theorem flushed_y (t : Fin cfg0.N) : (dats m 0 c).flushed 10 t = ((cfg0.win 10).blk t).view.read (Elt Ideal) (resultY m c) := by
  obtain ⟨b, h, rfl⟩ := exists_pt t
  rw [Cert.RetSampleIdeal.Value.flushed10]
  funext j
  obtain ⟨i, e, rfl⟩ : ∃ (i : Fin 8) (e : Fin 512), j = ix2 i e := ⟨j 0, j 1, funext fun a => match a with | ⟨0, _⟩ => rfl | ⟨1, _⟩ => rfl⟩
  refine (written m c b h i e).trans ?_
  show _ = resultY m c (((cfg0.win 10).blk (pt b h)).view.emb (ix2 i e))
  have e' := (index_rows (pt b h)).2.2.2.2
  rw [pt_b, pt_h] at e'
  have hemb : ((cfg0.win 10).blk (pt b h)).view.emb (ix2 i e) = (ix2 ⟨8 * b.val + i.val, by omega⟩ ⟨512 * h.val + e.val, by omega⟩ : S256x2048.Idx) := by
    refine funext fun a => Fin.ext ?_
    match a with
    | ⟨0, _⟩ =>
      show win0_10.index (pt b h) 0 * 8 + 1 * i.val = 8 * b.val + i.val
      rw [e'.1]; omega
    | ⟨1, _⟩ =>
      show win0_10.index (pt b h) 1 * 512 + 1 * e.val = 512 * h.val + e.val
      rw [e'.2]; omega
  rw [hemb]
  exact (resultY_at m c b i h e).symm

theorem final_y : (dats m 0 c).arrAt 10 cfg0.N = resultY m c :=
  (dats m 0 c).arrAt_eq_of_cover 10 (resultY m c) (fun t _ => flushed_y m c t) fun i => by
    have h0 : (i 0 : Nat) < 256 := (i 0).isLt
    have h1 : (i 1 : Nat) < 2048 := (i 1).isLt
    have hb : (i 0 : Nat) / 8 < 32 := by omega
    have hh : (i 1 : Nat) / 512 < 4 := by omega
    refine ⟨pt ⟨(i 0 : Nat) / 8, hb⟩ ⟨(i 1 : Nat) / 512, hh⟩, flush0_10 _, ?_⟩
    have e' := (index_rows (pt ⟨(i 0 : Nat) / 8, hb⟩ ⟨(i 1 : Nat) / 512, hh⟩)).2.2.2.2
    rw [pt_b, pt_h] at e'
    generalize pt ⟨(i 0 : Nat) / 8, hb⟩ ⟨(i 1 : Nat) / 512, hh⟩ = t at e'
    show i ∈ ((View.whole main_v58_0).slice (win0_10.rect t)).set
    rw [View.set_slice_whole, Rect.mem_set_unit]
    intro a
    match a with
    | ⟨0, _⟩ =>
      show win0_10.index t 0 * 8 ≤ (i 0 : Nat) ∧ (i 0 : Nat) < win0_10.index t 0 * 8 + 8
      rw [e'.1]; dsimp only; omega
    | ⟨1, _⟩ =>
      show win0_10.index t 1 * 512 ≤ (i 1 : Nat) ∧ (i 1 : Nat) < win0_10.index t 1 * 512 + 512
      rw [e'.2]; dsimp only; omega

theorem flushed_s (t : Fin cfg0.N) : (dats m 0 c).flushed 11 t = ((cfg0.win 11).blk t).view.read (Elt Ideal) (resultS m c) := by
  obtain ⟨b, h, rfl⟩ := exists_pt t
  rw [Cert.RetSampleIdeal.Value.flushed11]
  funext j
  obtain ⟨d, e, rfl⟩ : ∃ (d : Fin 256) (e : Fin 512), j = ix4 0 0 d e :=
    ⟨j 2, j 3, funext fun a => match a with | ⟨0, _⟩ => Subsingleton.elim (α := Fin 1) _ _ | ⟨1, _⟩ => Subsingleton.elim (α := Fin 1) _ _ | ⟨2, _⟩ => rfl | ⟨3, _⟩ => rfl⟩
  refine (carried m c b h d e).trans ?_
  show _ = resultS m c (((cfg0.win 11).blk (pt b h)).view.emb (ix4 0 0 d e))
  have e' := (index_state (pt b h)).2
  rw [pt_b, pt_h] at e'
  have hemb : ((cfg0.win 11).blk (pt b h)).view.emb (ix4 0 0 d e) = (ix4 b h d e : S32x4x256x512.Idx) := by
    refine funext fun a => Fin.ext ?_
    match a with
    | ⟨0, _⟩ =>
      show win0_11.index (pt b h) 0 * 1 + 1 * 0 = b.val
      rw [e'.1]; omega
    | ⟨1, _⟩ =>
      show win0_11.index (pt b h) 1 * 1 + 1 * 0 = h.val
      rw [e'.2.1]; omega
    | ⟨2, _⟩ =>
      show win0_11.index (pt b h) 2 * 256 + 1 * d.val = d.val
      rw [e'.2.2.1]; omega
    | ⟨3, _⟩ =>
      show win0_11.index (pt b h) 3 * 512 + 1 * e.val = e.val
      rw [e'.2.2.2]; omega
  rw [hemb]
  rfl

theorem final_s : (dats m 0 c).arrAt 11 cfg0.N = resultS m c :=
  (dats m 0 c).arrAt_eq_of_cover 11 (resultS m c) (fun t _ => flushed_s m c t) fun i => by
    have h0 : (i 0 : Nat) < 32 := (i 0).isLt
    have h1 : (i 1 : Nat) < 4 := (i 1).isLt
    have h2 : (i 2 : Nat) < 256 := (i 2).isLt
    have h3 : (i 3 : Nat) < 512 := (i 3).isLt
    refine ⟨pt ⟨(i 0 : Nat), h0⟩ ⟨(i 1 : Nat), h1⟩, flush0_11 _, ?_⟩
    have e' := (index_state (pt ⟨(i 0 : Nat), h0⟩ ⟨(i 1 : Nat), h1⟩)).2
    rw [pt_b, pt_h] at e'
    generalize pt ⟨(i 0 : Nat), h0⟩ ⟨(i 1 : Nat), h1⟩ = t at e'
    show i ∈ ((View.whole main_v58_1).slice (win0_11.rect t)).set
    rw [View.set_slice_whole, Rect.mem_set_unit]
    intro a
    match a with
    | ⟨0, _⟩ =>
      show win0_11.index t 0 * 1 ≤ (i 0 : Nat) ∧ (i 0 : Nat) < win0_11.index t 0 * 1 + 1
      rw [e'.1]; dsimp only; omega
    | ⟨1, _⟩ =>
      show win0_11.index t 1 * 1 ≤ (i 1 : Nat) ∧ (i 1 : Nat) < win0_11.index t 1 * 1 + 1
      rw [e'.2.1]; dsimp only; omega
    | ⟨2, _⟩ =>
      show win0_11.index t 2 * 256 ≤ (i 2 : Nat) ∧ (i 2 : Nat) < win0_11.index t 2 * 256 + 256
      rw [e'.2.2.1]; omega
    | ⟨3, _⟩ =>
      show win0_11.index t 3 * 512 ≤ (i 3 : Nat) ∧ (i 3 : Nat) < win0_11.index t 3 * 512 + 512
      rw [e'.2.2.2]; omega

end Cert.RetSampleIdeal.Rows

namespace Cert.RetSampleClaims

open Idealize.ShloMosaic Idealize.ShloMosaic.TcCoe Idealize.SL.Sem

/-- The call's frame. -/
theorem frame_kernel : Cert.quiescent_RetSample := fun m ρ _ => Cert.RetSample.Gen.frame m ρ

/-- The ideal call's frame. -/
theorem frame_ideal : Cert.quiescent_RetSampleIdeal := fun m ρ _ => Cert.RetSampleIdeal.Gen.frame m ρ

/-- The reference's frame. -/
theorem frame_reference : Cert.quiescent_RetSampleReferenceIdeal := fun m ρ _ =>
  (θ_run Cert.RetSampleReferenceIdeal.defs _ _).mono (fun r h => ⟨fun c => (h c).2.2, sem_eq_zero_of_no_sems (by decide) r.2⟩)
    (Cert.RetSampleReferenceIdeal.Value.run m ρ)

/-- The call's two results are the reference's. -/
theorem results_agree : Cert.algebraic_RetSampleIdeal_RetSampleReferenceIdeal := by
  intro m ρ m' ρ' _ hargs
  refine ⟨fun c => Cert.RetSampleIdeal.Rows.resultY m c, fun c => Cert.RetSampleIdeal.Rows.resultS m c, ?_, ?_⟩
  · exact (θ_run Cert.RetSampleIdeal.defs _ _).mono (fun _ h c => ⟨(h c).1.trans (Cert.RetSampleIdeal.Rows.final_y m c), (h c).2.1.trans (Cert.RetSampleIdeal.Rows.final_s m c), (h c).2.2⟩) (Cert.RetSampleIdeal.Value.run_blocks m ρ)
  · refine (θ_run Cert.RetSampleReferenceIdeal.defs _ _).mono (fun _ h c => ?_) (Cert.RetSampleReferenceIdeal.Value.run m' ρ')
    obtain ⟨e0, e1, e2, e3, e4, e5⟩ := hargs c
    have f0 : Cert.RetSampleReferenceIdeal.Rows.qf m' c = Cert.RetSampleIdeal.Rows.qf m c := by
      funext b t h d; exact congrFun e0 (ix4 b t h d)
    have f1 : Cert.RetSampleReferenceIdeal.Rows.kf m' c = Cert.RetSampleIdeal.Rows.kf m c := by
      funext b t h d; exact congrFun e1 (ix4 b t h d)
    have f2 : Cert.RetSampleReferenceIdeal.Rows.vf m' c = Cert.RetSampleIdeal.Rows.vf m c := by
      funext b t h d; exact congrFun e2 (ix4 b t h d)
    have f3 : Cert.RetSampleReferenceIdeal.Rows.gf m' c = Cert.RetSampleIdeal.Rows.gf m c := by
      funext b t l; exact congrFun e3 (ix3 b t l)
    have f4 : Cert.RetSampleReferenceIdeal.Rows.sf m' c = Cert.RetSampleIdeal.Rows.sf m c := by
      funext b h d e; exact congrFun e4 (ix4 b h d e)
    have f5 : Cert.RetSampleReferenceIdeal.Rows.nf m' c = Cert.RetSampleIdeal.Rows.nf m c := by
      funext h e; exact congrFun e5 (ix2 h e)
    refine ⟨(h c).1.trans ?_, (h c).2.1.trans ?_, (h c).2.2⟩
    · funext y
      obtain ⟨b, i, h', e, rfl⟩ : ∃ (b : Fin 32) (i : Fin 8) (h' : Fin 4) (e : Fin 512),
          y = ix2 ⟨8 * b.val + i.val, by omega⟩ ⟨512 * h'.val + e.val, by omega⟩ := by
        have h0 : (y 0).val < 256 := (y 0).isLt
        have h1 : (y 1).val < 2048 := (y 1).isLt
        refine ⟨⟨(y 0).val / 8, by omega⟩, ⟨(y 0).val % 8, by omega⟩, ⟨(y 1).val / 512, by omega⟩, ⟨(y 1).val % 512, by omega⟩, funext fun a => Fin.ext ?_⟩
        match a with
        | ⟨0, _⟩ => show (y 0).val = 8 * ((y 0).val / 8) + (y 0).val % 8; omega
        | ⟨1, _⟩ => show (y 1).val = 512 * ((y 1).val / 512) + (y 1).val % 512; omega
      refine (Cert.RetSampleReferenceIdeal.Rows.resY_at m' c b i h' e).trans ?_
      rw [f0, f1, f2, f3, f4, f5]
      exact (Cert.RetSampleIdeal.Rows.resultY_at m c b i h' e).symm
    · funext y
      obtain ⟨b, h', d, e, rfl⟩ : ∃ (b : Fin 32) (h' : Fin 4) (d : Fin 256) (e : Fin 512), y = ix4 b h' d e :=
        ⟨y 0, y 1, y 2, y 3, funext fun a => match a with | ⟨0, _⟩ => rfl | ⟨1, _⟩ => rfl | ⟨2, _⟩ => rfl | ⟨3, _⟩ => rfl⟩
      refine (Cert.RetSampleReferenceIdeal.Rows.stateOf_at _ _ _ _ _ b h' d e).trans ?_
      show Cert.Sample.newState (Cert.RetSampleReferenceIdeal.Rows.kf m' c) (Cert.RetSampleReferenceIdeal.Rows.vf m' c) (Cert.RetSampleReferenceIdeal.Rows.sf m' c)
        Cert.RetSampleReferenceIdeal.Rows.kdf Cert.RetSampleReferenceIdeal.Rows.sdf b h' d e = _
      rw [f1, f2, f4]
      rfl

end Cert.RetSampleClaims

end
-- ==== Proof.RetOut.Spec.lean ====
module

public import proofs.«01_k».proof.Proof.RetProj.Spec

/-! The output projection of a layer with its residual and norm, row by row: a row of mixed values is multiplied by the
    weights and by one plus the gate, added to a multiple of the layer's input, normed over its 1024 entries, and then
    scaled and shifted for the experts. `K` is the width of the mixed values. -/

@[expose] public section

noncomputable section

namespace Cert.Out

open Idealize.ShloMosaic

/-- The residual of a row. -/
def resid {K : Nat} (y : Fin K → EReal) (w : Fin K → Fin 1024 → EReal) (x gate : Fin 1024 → EReal) (k : Fin 1024) : EReal :=
  Ideal.ofBits .f32 0x3FB504F3#32 * x k + (1 + gate k) * ∑ j, y j * w j k

/-- The mean of a row. -/
def mean (r : Fin 1024 → EReal) : EReal := Ideal.div (∑ k, r k) (Ideal.ofBits .f32 0x44800000#32)

/-- A row less its mean. -/
def centred (r : Fin 1024 → EReal) (k : Fin 1024) : EReal := r k - mean r

/-- A row normed. -/
def normed (r g b : Fin 1024 → EReal) (k : Fin 1024) : EReal :=
  centred r k * Ideal.rsqrt (mean (fun j => centred r j * centred r j) + Ideal.ofBits .f32 0x3727C5AC#32) * g k + b k

/-- A row scaled and shifted. -/
def modulated (x sh sc : Fin 1024 → EReal) (k : Fin 1024) : EReal := x k * (1 + sc k) + sh k

section

variable {K : Nat} (yp : Fin 8 → Fin 2048 → Fin K → EReal) (ys : Fin 32 → Fin 8 → Fin K → EReal) (w : Fin K → Fin 1024 → EReal)
  (xp : Fin 8 → Fin 2048 → Fin 1024 → EReal) (xs : Fin 32 → Fin 8 → Fin 1024 → EReal) (ga sh sc : Fin 40 → Fin 1024 → EReal) (g b : Fin 1024 → EReal)

/-- Row `r` of the mixed values, the two batches one under the other. -/
def rowY (r : Fin 16640) (k : Fin K) : EReal :=
  if h : r.val < 16384 then yp ⟨r.val / 2048, by omega⟩ ⟨r.val % 2048, by omega⟩ k
  else ys ⟨(r.val - 16384) / 8, by omega⟩ ⟨(r.val - 16384) % 8, by omega⟩ k

/-- The layer's rows after the mixing. -/
def newRow (r : Fin 16640) (k : Fin 1024) : EReal :=
  normed (resid (rowY yp ys r) w (Cert.Proj.rowX xp xs r) (Cert.Proj.rowV ga r)) g b k

/-- The same scaled and shifted, what the router and the experts read. -/
def expertRow (r : Fin 16640) (k : Fin 1024) : EReal :=
  modulated (newRow yp ys w xp xs ga g b r) (Cert.Proj.rowV sh r) (Cert.Proj.rowV sc r) k

end

end Cert.Out
-- ==== Proof.RetOut.Entry.lean ====
module

public import proofs.«01_k».proof.Proof.Gen.RetOutIdeal.Frame
public import proofs.«01_k».proof.Proof.RetOut.Spec
public import Idealize.ShloMosaic.Lib.Pointwise
public import Idealize.ShloMosaic.Lib.Tactic
public import Idealize.ShloMosaic.Lib.KernelVsHost

/-! What the output projection call's input arrays hold when the call is entered, but for the router's two: the mixed
    rows and the layer's rows of both batches, the weights, the gates, shifts and scales, and the norm's two vectors.
    First as whole arrays, then at an index. -/

@[expose] public section

noncomputable section

namespace Cert.RetOutIdeal.Rows

open Idealize.ShloMosaic Idealize.ShloMosaic.TcCoe Idealize.SL.Sem Cert.RetOutIdeal Cert.RetOutIdeal.Gen

/-- The mixed rows of both batches, one under the other. -/
def stackedY (yp : FVec Ideal S8x2048x2048 .bf16) (ys : FVec Ideal S32x8x2048 .f32) : FVec Ideal S16640x2048 .bf16 :=
  concatenate S16640x2048 0 [⟨S16384x2048, shapeCast S16384x2048 yp shapeCasts_S8x2048x2048_S16384x2048⟩,
    ⟨S256x2048, truncf .bf16 (shapeCast S256x2048 ys shapeCasts_S32x8x2048_S256x2048) bitsLt_bf16_f32⟩] concatenates_S16384x2048_S256x2048_S16640x2048_d0

/-- The layer's rows of both batches, one under the other. -/
def stacked (xp : FVec Ideal S8x2048x1024 .f32) (xs : FVec Ideal S32x8x1024 .f32) : FVec Ideal S16640x1024 .f32 :=
  concatenate S16640x1024 0 [⟨S16384x1024, shapeCast S16384x1024 xp shapeCasts_S8x2048x1024_S16384x1024⟩,
    ⟨S256x1024, shapeCast S256x1024 xs shapeCasts_S32x8x1024_S256x1024⟩] concatenates_S16384x1024_S256x1024_S16640x1024_d0

/-- A vector per sequence laid out as blocks of rows: one block per prompt sequence, one for all the sample's rows. -/
def laidOut (a : FVec Ideal S40x1024 .f32) : FVec Ideal S9x256x1024 .f32 :=
  concatenate S9x256x1024 0 [⟨S8x256x1024, broadcastInDim S8x256x1024 ![0, 1, 2] bcast_S8x1x1024_S8x256x1024_0_1_2
      (broadcastInDim S8x1x1024 ![0, 2] bcast_S8x1024_S8x1x1024_0_2 (extractStridedSlice S8x1024 ![0, 0] a slices_S40x1024_S8x1024_0_0))⟩,
    ⟨S1x256x1024, shapeCast S1x256x1024 (shapeCast S256x1024 (broadcastInDim S32x8x1024 ![0, 2] bcast_S32x1024_S32x8x1024_0_2
      (extractStridedSlice S32x1024 ![8, 0] a slices_S40x1024_S32x1024_8_0)) shapeCasts_S32x8x1024_S256x1024) shapeCasts_S256x1024_S1x256x1024⟩]
    concatenates_S8x256x1024_S1x256x1024_S9x256x1024_d0

variable (m : (ℓ : Loc nD τ sig) → Buf (Elt Ideal) ℓ) (c : Dev nD)

theorem V_y : V m c main_v3 = stackedY (m ((c : Thread nD τ).loc main_arg0)) (m ((c : Thread nD τ).loc main_arg1)) := by
  show StableHlo.after (List.flatten _) _ (Proc.devRef .tc main_v3) = _
  simp only [List.flatten_cons, List.flatten_nil, List.append_nil, List.cons_append, List.nil_append]
  after_results
  rfl

theorem V_w : (V m c main_v10 : FVec Ideal S2048x1024 .bf16) = (truncf .bf16 (m ((c : Thread nD τ).loc main_arg2) : FVec Ideal S2048x1024 .f32) bitsLt_bf16_f32 : FVec Ideal S2048x1024 .bf16) := by
  show StableHlo.after (List.flatten _) _ (Proc.devRef .tc main_v10) = _
  simp only [List.flatten_cons, List.flatten_nil, List.append_nil, List.cons_append, List.nil_append]
  after_results

theorem V_x : V m c main_v6 = stacked (m ((c : Thread nD τ).loc main_arg3)) (m ((c : Thread nD τ).loc main_arg4)) := by
  show StableHlo.after (List.flatten _) _ (Proc.devRef .tc main_v6) = _
  simp only [List.flatten_cons, List.flatten_nil, List.append_nil, List.cons_append, List.nil_append]
  after_results
  rfl

theorem V_ga : V m c main_v18 = laidOut (m ((c : Thread nD τ).loc main_arg5)) := by
  show StableHlo.after (List.flatten _) _ (Proc.devRef .tc main_v18) = _
  simp only [List.flatten_cons, List.flatten_nil, List.append_nil, List.cons_append, List.nil_append]
  after_results
  rfl

theorem V_sh : V m c main_v26 = laidOut (m ((c : Thread nD τ).loc main_arg6)) := by
  show StableHlo.after (List.flatten _) _ (Proc.devRef .tc main_v26) = _
  simp only [List.flatten_cons, List.flatten_nil, List.append_nil, List.cons_append, List.nil_append]
  after_results
  rfl

theorem V_sc : V m c main_v34 = laidOut (m ((c : Thread nD τ).loc main_arg7)) := by
  show StableHlo.after (List.flatten _) _ (Proc.devRef .tc main_v34) = _
  simp only [List.flatten_cons, List.flatten_nil, List.append_nil, List.cons_append, List.nil_append]
  after_results
  rfl

theorem V_g : (V m c main_v36 : FVec Ideal S1x1024 .f32) = (shapeCast S1x1024 (m ((c : Thread nD τ).loc main_arg8) : FVec Ideal S1024 .f32) shapeCasts_S1024_S1x1024 : FVec Ideal S1x1024 .f32) := by
  show StableHlo.after (List.flatten _) _ (Proc.devRef .tc main_v36) = _
  simp only [List.flatten_cons, List.flatten_nil, List.append_nil, List.cons_append, List.nil_append]
  after_results
  rfl

theorem V_b : (V m c main_v37 : FVec Ideal S1x1024 .f32) = (shapeCast S1x1024 (m ((c : Thread nD τ).loc main_arg9) : FVec Ideal S1024 .f32) shapeCasts_S1024_S1x1024 : FVec Ideal S1x1024 .f32) := by
  show StableHlo.after (List.flatten _) _ (Proc.devRef .tc main_v37) = _
  simp only [List.flatten_cons, List.flatten_nil, List.append_nil, List.cons_append, List.nil_append]
  after_results
  rfl

theorem stackedY_at (yp : FVec Ideal S8x2048x2048 .bf16) (ys : FVec Ideal S32x8x2048 .f32) (r : Fin 16640) (k : Fin 2048) :
    (stackedY yp ys (ix2 r k) : EReal) = Cert.Out.rowY (fun b s k => yp (ix3 b s k)) (fun b s k => ys (ix3 b s k)) r k := by
  unfold stackedY Cert.Out.rowY
  pointwise

theorem stacked_at (xp : FVec Ideal S8x2048x1024 .f32) (xs : FVec Ideal S32x8x1024 .f32) (r : Fin 16640) (k : Fin 1024) :
    stacked xp xs (ix2 r k) = Cert.Proj.rowX (fun b s k => xp (ix3 b s k)) (fun b s k => xs (ix3 b s k)) r k := by
  unfold stacked Cert.Proj.rowX
  pointwise

theorem laidOut_at (a : FVec Ideal S40x1024 .f32) (b : Fin 9) (i : Fin 256) (k : Fin 1024) :
    laidOut a (ix3 b i k) = if h : b.val < 8 then a (ix2 ⟨b.val, by omega⟩ k) else a (ix2 ⟨8 + i.val / 8, by omega⟩ k) := by
  unfold laidOut
  pointwise

theorem vector_at (a : FVec Ideal S1024 .f32) (k : Fin 1024) :
    (shapeCast S1x1024 a shapeCasts_S1024_S1x1024 : FVec Ideal S1x1024 .f32) (ix2 0 k) = a (ix1 k) := by
  pointwise

end Cert.RetOutIdeal.Rows
-- ==== Proof.RetOut.Payload.lean ====
module

public import proofs.«01_k».proof.Proof.Gen.RetOutIdeal.Frame
public import proofs.«01_k».proof.Proof.RetOut.Spec
public import Idealize.ShloMosaic.Lib.Pipeline.Value
public import Idealize.ShloMosaic.Lib.Pointwise

/-! What the body leaves in its first two output blocks, read at an index. -/

@[expose] public section

noncomputable section

namespace Cert.RetOutIdeal.Rows

open Idealize.ShloMosaic Cert.RetOutIdeal Cert.RetOutIdeal.Gen

/-- The residual of a block of rows. -/
def residBlock (y : FVec Ideal S256x2048 .bf16) (w : FVec Ideal S2048x1024 .bf16) (x : FVec Ideal S256x1024 .f32) (ga : FVec Ideal S1x256x1024 .f32) : FVec Ideal S256x1024 .f32 :=
  addf (mulf (broadcast S256x1024 (Scalar.ofBits .f32 0x3FB504F3#32)) (shapeCast S256x1024 x shapeCasts_S256x1024_S256x1024))
    (mulf (addf (broadcast S256x1024 (Scalar.ofBits .f32 0x3F800000#32)) (shapeCast S256x1024 ga shapeCasts_S1x256x1024_S256x1024))
      (matmul dot_S256x2048_S2048x1024_S256x1024_1_0_0_1_n_n none (shapeCast S256x2048 y shapeCasts_S256x2048_S256x2048) (shapeCast S2048x1024 w shapeCasts_S2048x1024_S2048x1024) (constant S256x1024 .f32 0x00000000#32)))

/-- The block less its rows' means. -/
def centredBlock (r : FVec Ideal S256x1024 .f32) : FVec Ideal S256x1024 .f32 :=
  subf r (broadcastTo S256x1024 (divf (shapeCast S256x1 (multiReduction .add [1] S256 r 0x00000000#32 reduces_S256x1024_S256 (.inl rfl) rfl) shapeCasts_S256_S256x1) (broadcast S256x1 (Scalar.ofBits .f32 0x44800000#32))) broadcasts_S256x1_S256x1024)

/-- The block normed but for the last vector, given the block less its rows' means. -/
def scaledBlock (d : FVec Ideal S256x1024 .f32) (g : FVec Ideal S1x1024 .f32) : FVec Ideal S256x1024 .f32 :=
  mulf (mulf d (broadcastTo S256x1024 (rsqrt (addf (divf (shapeCast S256x1 (multiReduction .add [1] S256 (mulf d d) 0x00000000#32 reduces_S256x1024_S256 (.inl rfl) rfl) shapeCasts_S256_S256x1) (broadcast S256x1 (Scalar.ofBits .f32 0x44800000#32))) (broadcast S256x1 (Scalar.ofBits .f32 0x3727C5AC#32)))) broadcasts_S256x1_S256x1024))
    (broadcastTo S256x1024 (shapeCast S1x1024 g shapeCasts_S1x1024_S1x1024) broadcasts_S1x1024_S256x1024)

theorem residBlock_at (y : FVec Ideal S256x2048 .bf16) (w : FVec Ideal S2048x1024 .bf16) (x : FVec Ideal S256x1024 .f32) (ga : FVec Ideal S1x256x1024 .f32) (i : Fin 256) (k : Fin 1024) :
    residBlock y w x ga (ix2 i k) = Cert.Out.resid (fun j : Fin 2048 => (y (ix2 i j) : EReal)) (fun j k => (w (ix2 j k) : EReal)) (fun k => x (ix2 i k)) (fun k => ga (ix3 0 i k)) k := by
  unfold residBlock Cert.Out.resid
  pointwise

theorem centredBlock_at (r : FVec Ideal S256x1024 .f32) (i : Fin 256) (k : Fin 1024) :
    centredBlock r (ix2 i k) = Cert.Out.centred (fun k => r (ix2 i k)) k := by
  unfold centredBlock Cert.Out.centred Cert.Out.mean
  pointwise

theorem scaledBlock_at (d : FVec Ideal S256x1024 .f32) (g : FVec Ideal S1x1024 .f32) (i : Fin 256) (k : Fin 1024) :
    scaledBlock d g (ix2 i k) = (d (ix2 i k) * Ideal.rsqrt (Cert.Out.mean (fun j => d (ix2 i j) * d (ix2 i j)) + Ideal.ofBits .f32 0x3727C5AC#32) * g (ix2 0 k) : EReal) := by
  unfold scaledBlock Cert.Out.mean
  pointwise

theorem pay3_eq (v0 : FVec Ideal S256x2048 .bf16) (v2 : FVec Ideal S2048x1024 .bf16) (v5 : FVec Ideal S256x1024 .f32) (v9 : FVec Ideal S1x256x1024 .f32) (v15 : FVec Ideal S1x1024 .f32) :
    (k0_pay3 v0 v2 v5 v9 v15 : FVec Ideal S256x1024 .f32) = scaledBlock (centredBlock (residBlock v0 v2 v5 v9)) v15 := rfl

theorem pay4_at (v : FVec Ideal S1x1024 .f32) (i : Fin 256) (k : Fin 1024) : (k0_pay4 v : FVec Ideal S256x1024 .f32) (ix2 i k) = v (ix2 0 k) := by
  unfold k0_pay4
  pointwise

theorem pay5_at (v0 : FVec Ideal S256x2048 .bf16) (v2 : FVec Ideal S2048x1024 .bf16) (v5 : FVec Ideal S256x1024 .f32) (v9 : FVec Ideal S1x256x1024 .f32) (v15 v17 : FVec Ideal S1x1024 .f32) (i : Fin 256) (k : Fin 1024) :
    (k0_pay5 (k0_pay3 v0 v2 v5 v9 v15) (k0_pay4 v17) : FVec Ideal S256x1024 .f32) (ix2 i k)
      = Cert.Out.normed (Cert.Out.resid (fun j : Fin 2048 => (v0 (ix2 i j) : EReal)) (fun j k => (v2 (ix2 j k) : EReal)) (fun k => v5 (ix2 i k)) (fun k => v9 (ix3 0 i k))) (fun k => v15 (ix2 0 k)) (fun k => v17 (ix2 0 k)) k := by
  have e : (k0_pay5 (k0_pay3 v0 v2 v5 v9 v15) (k0_pay4 v17) : FVec Ideal S256x1024 .f32) (ix2 i k)
      = ((k0_pay3 v0 v2 v5 v9 v15 : FVec Ideal S256x1024 .f32) (ix2 i k) + (k0_pay4 v17 : FVec Ideal S256x1024 .f32) (ix2 i k) : EReal) := rfl
  rw [e, pay3_eq, pay4_at, scaledBlock_at]
  simp only [centredBlock_at, residBlock_at]
  rfl

theorem pay6_at (a b : FVec Ideal S256x1024 .f32) (sc sh : FVec Ideal S1x256x1024 .f32) (i : Fin 256) (k : Fin 1024) :
    (k0_pay6 a b sc sh : FVec Ideal S256x1024 .f32) (ix2 i k)
      = Cert.Out.modulated (fun k => (k0_pay5 a b : FVec Ideal S256x1024 .f32) (ix2 i k)) (fun k => sh (ix3 0 i k)) (fun k => sc (ix3 0 i k)) k := by
  unfold k0_pay6 Cert.Out.modulated
  generalize (k0_pay5 a b : FVec Ideal S256x1024 .f32) = p
  pointwise

variable (x0 : Vec Ideal S256x2048 .bf16) (x1 : Vec Ideal S2048x1024 .bf16) (x2 : Vec Ideal S256x1024 .f32) (x3 : Vec Ideal S1x256x1024 .f32) (x4 x5 : Vec Ideal S1x1024 .f32)
  (x6 x7 : Vec Ideal S1x256x1024 .f32) (x8 : Vec Ideal S1024x128 .bf16) (x9 : Vec Ideal S1x128 .f32)

/-- The block's new row, from the blocks staged. -/
def blockNew (i : Fin 256) (k : Fin 1024) : EReal :=
  Cert.Out.normed (Cert.Out.resid (fun j : Fin 2048 => (x0 (ix2 i j) : EReal)) (fun j k => (x1 (ix2 j k) : EReal)) (fun k => x2 (ix2 i k)) (fun k => x3 (ix3 0 i k))) (fun k => x4 (ix2 0 k)) (fun k => x5 (ix2 0 k)) k

theorem ld0 (x : Vec Ideal S256x2048 .bf16) : View.ld x r0_0 = x := View.ld_unit_zero (funext fun a => match a with | ⟨0, _⟩ => rfl | ⟨1, _⟩ => rfl) _ x
theorem ld1 (x : Vec Ideal S2048x1024 .bf16) : View.ld x r0_1 = x := View.ld_unit_zero (funext fun a => match a with | ⟨0, _⟩ => rfl | ⟨1, _⟩ => rfl) _ x
theorem ld2 (x : Vec Ideal S256x1024 .f32) : View.ld x r0_2 = x := View.ld_unit_zero (funext fun a => match a with | ⟨0, _⟩ => rfl | ⟨1, _⟩ => rfl) _ x
theorem ld3 (x : Vec Ideal S1x256x1024 .f32) : View.ld x r0_3 = x := View.ld_unit_zero (funext fun a => match a with | ⟨0, _⟩ => rfl | ⟨1, _⟩ => rfl | ⟨2, _⟩ => rfl) _ x
theorem ld4 (x : Vec Ideal S1x1024 .f32) : View.ld x r0_4 = x := View.ld_unit_zero (funext fun a => match a with | ⟨0, _⟩ => rfl | ⟨1, _⟩ => rfl) _ x

theorem left_new (i : Fin 256) (k : Fin 1024) : out0_10 x0 x1 x2 x3 x4 x5 x6 x7 x8 x9 (ix2 i k) = blockNew x0 x1 x2 x3 x4 x5 i k := by
  unfold out0_10
  rw [View.canon_unit_zero (funext fun a => match a with | ⟨0, _⟩ => rfl | ⟨1, _⟩ => rfl)]
  unfold k0_pay28 k0_pay29 blockNew
  rw [ld0, ld1, ld2, ld3, ld4, ld4]
  exact pay5_at x0 x1 x2 x3 x4 x5 i k

theorem left_expert (i : Fin 256) (k : Fin 1024) : out0_11 x0 x1 x2 x3 x4 x5 x6 x7 x8 x9 (ix2 i k)
    = Cert.Out.modulated (blockNew x0 x1 x2 x3 x4 x5 i) (fun k => x6 (ix3 0 i k)) (fun k => x7 (ix3 0 i k)) k := by
  unfold out0_11
  rw [View.canon_unit_zero (funext fun a => match a with | ⟨0, _⟩ => rfl | ⟨1, _⟩ => rfl)]
  unfold k0_pay28 k0_pay29
  rw [ld0, ld1, ld2, ld3, ld4, ld4, ld3, ld3, pay6_at]
  refine congrArg (fun f => Cert.Out.modulated f _ _ k) (funext fun k => ?_)
  unfold blockNew
  exact pay5_at x0 x1 x2 x3 x4 x5 i k

end Cert.RetOutIdeal.Rows
-- ==== Proof.RetOut.Points.lean ====
module

public import proofs.«01_k».proof.Proof.RetOut.Entry
public import proofs.«01_k».proof.Proof.RetOut.Payload

/-! The input blocks of a grid point, and what it leaves: point `t` stages rows `256 t` to `256 t + 255`. -/

@[expose] public section

noncomputable section

namespace Cert.RetOutIdeal.Rows

open Idealize.ShloMosaic Idealize.ShloMosaic.TcCoe Idealize.SL.Sem Cert.RetOutIdeal Cert.RetOutIdeal.Gen

/-- Which block of each input a point stages. -/
theorem index_in : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = (if t.val < 64 then t.val / 8 else 8) ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = (if t.val < 64 then t.val / 8 else 8) ∧ win0_6.index t 1 = 0 ∧ win0_6.index t 2 = 0)
    ∧ (win0_7.index t 0 = (if t.val < 64 then t.val / 8 else 8) ∧ win0_7.index t 1 = 0 ∧ win0_7.index t 2 = 0) := by decide +kernel

/-- And of the two results. -/
theorem index_out : ∀ t : Fin grid0.N, (win0_10.index t 0 = t.val ∧ win0_10.index t 1 = 0)
    ∧ (win0_11.index t 0 = t.val ∧ win0_11.index t 1 = 0) := by decide +kernel

theorem pt_lt (t : Fin cfg0.N) : t.val < 65 := lt_of_lt_of_eq t.isLt (show cfg0.N = 65 from N_0)

/-- Row `i` of point `t`. -/
def row (t : Fin cfg0.N) (i : Fin 256) : Fin 16640 := ⟨256 * t.val + i.val, by have := pt_lt t; omega⟩

/-- The block of vectors a point stages. -/
def modOf (t : Fin cfg0.N) : Fin 9 := ⟨if t.val < 64 then t.val / 8 else 8, by have := pt_lt t; split <;> omega⟩

variable (m : (ℓ : Loc nD τ sig) → Buf (Elt Ideal) ℓ) (c : Dev nD) (t : Fin cfg0.N)

/-- The arguments of the call, as functions of plain indices. -/
abbrev ypf (b : Fin 8) (s : Fin 2048) (k : Fin 2048) : EReal := (m ((c : Thread nD τ).loc main_arg0) : FVec Ideal S8x2048x2048 .bf16) (ix3 b s k)
abbrev ysf (b : Fin 32) (s : Fin 8) (k : Fin 2048) : EReal := m ((c : Thread nD τ).loc main_arg1) (ix3 b s k)
abbrev wf (k : Fin 2048) (j : Fin 1024) : EReal := m ((c : Thread nD τ).loc main_arg2) (ix2 k j)
abbrev xpf (b : Fin 8) (s : Fin 2048) (k : Fin 1024) : EReal := m ((c : Thread nD τ).loc main_arg3) (ix3 b s k)
abbrev xsf (b : Fin 32) (s : Fin 8) (k : Fin 1024) : EReal := m ((c : Thread nD τ).loc main_arg4) (ix3 b s k)
abbrev gaf (b : Fin 40) (k : Fin 1024) : EReal := m ((c : Thread nD τ).loc main_arg5) (ix2 b k)
abbrev shf (b : Fin 40) (k : Fin 1024) : EReal := m ((c : Thread nD τ).loc main_arg6) (ix2 b k)
abbrev scf (b : Fin 40) (k : Fin 1024) : EReal := m ((c : Thread nD τ).loc main_arg7) (ix2 b k)
abbrev gf (k : Fin 1024) : EReal := m ((c : Thread nD τ).loc main_arg8) (ix1 k)
abbrev bf (k : Fin 1024) : EReal := m ((c : Thread nD τ).loc main_arg9) (ix1 k)

theorem laidOut_row (a : FVec Ideal S40x1024 .f32) (i : Fin 256) (k : Fin 1024) :
    laidOut a (ix3 (modOf t) i k) = Cert.Proj.rowV (fun b k => a (ix2 b k)) (row t i) k := by
  have ht := pt_lt t
  have h2 : (row t i).val = 256 * t.val + i.val := rfl
  rw [laidOut_at]
  unfold Cert.Proj.rowV
  by_cases h : t.val < 64
  · have h1 : (modOf t).val = t.val / 8 := if_pos h
    rw [dif_pos (by omega), dif_pos (by omega)]
    exact congrArg (fun b => a (ix2 b k)) (Fin.ext (by show (modOf t).val = (row t i).val / 2048; omega))
  · have h1 : (modOf t).val = 8 := if_neg h
    rw [dif_neg (by omega), dif_neg (by omega)]
    exact congrArg (fun b => a (ix2 b k)) (Fin.ext (by show 8 + i.val / 8 = 8 + ((row t i).val - 16384) / 8; omega))

theorem y_at (i : Fin 256) (k : Fin 2048) : ((iblk m c 0 t : FVec Ideal S256x2048 .bf16) (ix2 i k) : EReal) = Cert.Out.rowY (ypf m c) (ysf m c) (row t i) k := by
  refine Eq.trans ?_ ((congrFun (V_y m c) _).trans (stackedY_at _ _ (row t i) k))
  have e := (index_in t).1
  show V m c main_v3 (((cfg0.win 0).blk t).view.emb (ix2 i k)) = _
  refine congrArg (V m c main_v3) (funext fun a => Fin.ext ?_)
  match a with
  | ⟨0, _⟩ =>
    show win0_0.index t 0 * 256 + 1 * i.val = 256 * t.val + i.val
    rw [e.1]; omega
  | ⟨1, _⟩ =>
    show win0_0.index t 1 * 2048 + 1 * k.val = k.val
    rw [e.2]; omega

theorem w_at (k : Fin 2048) (j : Fin 1024) : ((iblk m c 1 t : FVec Ideal S2048x1024 .bf16) (ix2 k j) : EReal) = wf m c k j := by
  refine Eq.trans ?_ (congrFun (V_w m c) (ix2 k j))
  have e := (index_in t).2.1
  show V m c main_v10 (((cfg0.win 1).blk t).view.emb (ix2 k j)) = _
  refine congrArg (V m c main_v10) (funext fun a => Fin.ext ?_)
  match a with
  | ⟨0, _⟩ =>
    show win0_1.index t 0 * 2048 + 1 * k.val = k.val
    rw [e.1]; omega
  | ⟨1, _⟩ =>
    show win0_1.index t 1 * 1024 + 1 * j.val = j.val
    rw [e.2]; omega

theorem x_at (i : Fin 256) (k : Fin 1024) : (iblk m c 2 t : FVec Ideal S256x1024 .f32) (ix2 i k) = Cert.Proj.rowX (xpf m c) (xsf m c) (row t i) k := by
  refine Eq.trans ?_ ((congrFun (V_x m c) _).trans (stacked_at _ _ (row t i) k))
  have e := (index_in t).2.2.1
  show V m c main_v6 (((cfg0.win 2).blk t).view.emb (ix2 i k)) = _
  refine congrArg (V m c main_v6) (funext fun a => Fin.ext ?_)
  match a with
  | ⟨0, _⟩ =>
    show win0_2.index t 0 * 256 + 1 * i.val = 256 * t.val + i.val
    rw [e.1]; omega
  | ⟨1, _⟩ =>
    show win0_2.index t 1 * 1024 + 1 * k.val = k.val
    rw [e.2]; omega

theorem ga_at (i : Fin 256) (k : Fin 1024) : (iblk m c 3 t : FVec Ideal S1x256x1024 .f32) (ix3 0 i k)
    = Cert.Proj.rowV (gaf m c) (row t i) k := by
  refine Eq.trans ?_ ((congrFun (V_ga m c) _).trans (laidOut_row t _ i k))
  have e := (index_in t).2.2.2.1
  show V m c main_v18 (((cfg0.win 3).blk t).view.emb (ix3 0 i k)) = _
  refine congrArg (V m c main_v18) (funext fun a => Fin.ext ?_)
  match a with
  | ⟨0, _⟩ =>
    show win0_3.index t 0 * 1 + 1 * 0 = (modOf t).val
    rw [e.1]; show _ = (if t.val < 64 then t.val / 8 else 8); omega
  | ⟨1, _⟩ =>
    show win0_3.index t 1 * 256 + 1 * i.val = i.val
    rw [e.2.1]; omega
  | ⟨2, _⟩ =>
    show win0_3.index t 2 * 1024 + 1 * k.val = k.val
    rw [e.2.2]; omega

theorem g_at (k : Fin 1024) : (iblk m c 4 t : FVec Ideal S1x1024 .f32) (ix2 0 k) = gf m c k := by
  refine Eq.trans ?_ ((congrFun (V_g m c) (ix2 0 k)).trans (vector_at _ k))
  have e := (index_in t).2.2.2.2.1
  show V m c main_v36 (((cfg0.win 4).blk t).view.emb (ix2 0 k)) = _
  refine congrArg (V m c main_v36) (funext fun a => Fin.ext ?_)
  match a with
  | ⟨0, _⟩ =>
    show win0_4.index t 0 * 1 + 1 * 0 = 0
    rw [e.1]
  | ⟨1, _⟩ =>
    show win0_4.index t 1 * 1024 + 1 * k.val = k.val
    rw [e.2]; omega

theorem b_at (k : Fin 1024) : (iblk m c 5 t : FVec Ideal S1x1024 .f32) (ix2 0 k) = bf m c k := by
  refine Eq.trans ?_ ((congrFun (V_b m c) (ix2 0 k)).trans (vector_at _ k))
  have e := (index_in t).2.2.2.2.2.1
  show V m c main_v37 (((cfg0.win 5).blk t).view.emb (ix2 0 k)) = _
  refine congrArg (V m c main_v37) (funext fun a => Fin.ext ?_)
  match a with
  | ⟨0, _⟩ =>
    show win0_5.index t 0 * 1 + 1 * 0 = 0
    rw [e.1]
  | ⟨1, _⟩ =>
    show win0_5.index t 1 * 1024 + 1 * k.val = k.val
    rw [e.2]; omega

theorem sh_at (i : Fin 256) (k : Fin 1024) : (iblk m c 6 t : FVec Ideal S1x256x1024 .f32) (ix3 0 i k)
    = Cert.Proj.rowV (shf m c) (row t i) k := by
  refine Eq.trans ?_ ((congrFun (V_sh m c) _).trans (laidOut_row t _ i k))
  have e := (index_in t).2.2.2.2.2.2.1
  show V m c main_v26 (((cfg0.win 6).blk t).view.emb (ix3 0 i k)) = _
  refine congrArg (V m c main_v26) (funext fun a => Fin.ext ?_)
  match a with
  | ⟨0, _⟩ =>
    show win0_6.index t 0 * 1 + 1 * 0 = (modOf t).val
    rw [e.1]; show _ = (if t.val < 64 then t.val / 8 else 8); omega
  | ⟨1, _⟩ =>
    show win0_6.index t 1 * 256 + 1 * i.val = i.val
    rw [e.2.1]; omega
  | ⟨2, _⟩ =>
    show win0_6.index t 2 * 1024 + 1 * k.val = k.val
    rw [e.2.2]; omega

theorem sc_at (i : Fin 256) (k : Fin 1024) : (iblk m c 7 t : FVec Ideal S1x256x1024 .f32) (ix3 0 i k)
    = Cert.Proj.rowV (scf m c) (row t i) k := by
  refine Eq.trans ?_ ((congrFun (V_sc m c) _).trans (laidOut_row t _ i k))
  have e := (index_in t).2.2.2.2.2.2.2
  show V m c main_v34 (((cfg0.win 7).blk t).view.emb (ix3 0 i k)) = _
  refine congrArg (V m c main_v34) (funext fun a => Fin.ext ?_)
  match a with
  | ⟨0, _⟩ =>
    show win0_7.index t 0 * 1 + 1 * 0 = (modOf t).val
    rw [e.1]; show _ = (if t.val < 64 then t.val / 8 else 8); omega
  | ⟨1, _⟩ =>
    show win0_7.index t 1 * 256 + 1 * i.val = i.val
    rw [e.2.1]; omega
  | ⟨2, _⟩ =>
    show win0_7.index t 2 * 1024 + 1 * k.val = k.val
    rw [e.2.2]; omega

theorem new_at (i : Fin 256) (k : Fin 1024) :
    blockNew (iblk m c 0 t) (iblk m c 1 t) (iblk m c 2 t) (iblk m c 3 t) (iblk m c 4 t) (iblk m c 5 t) i k
    = Cert.Out.newRow (ypf m c) (ysf m c) (wf m c) (xpf m c) (xsf m c) (gaf m c) (gf m c) (bf m c) (row t i) k := by
  unfold blockNew Cert.Out.newRow
  simp only [y_at, w_at, x_at, ga_at, g_at, b_at]

theorem left_new_at (i : Fin 256) (k : Fin 1024) : out0_10 (iblk m c 0 t) (iblk m c 1 t) (iblk m c 2 t) (iblk m c 3 t) (iblk m c 4 t) (iblk m c 5 t) (iblk m c 6 t) (iblk m c 7 t) (iblk m c 8 t) (iblk m c 9 t) (ix2 i k)
    = Cert.Out.newRow (ypf m c) (ysf m c) (wf m c) (xpf m c) (xsf m c) (gaf m c) (gf m c) (bf m c) (row t i) k := by
  rw [left_new, new_at]

theorem left_expert_at (i : Fin 256) (k : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (ix2 i k)
    = Cert.Out.expertRow (ypf m c) (ysf m c) (wf m c) (xpf m c) (xsf m c) (gaf m c) (shf m c) (scf m c) (gf m c) (bf m c) (row t i) k := by
  rw [left_expert]
  unfold Cert.Out.expertRow
  simp only [sh_at, sc_at]
  exact congrArg (fun f => Cert.Out.modulated f _ _ k) (funext fun k => new_at m c t i k)

end Cert.RetOutIdeal.Rows
-- ==== Proof.RetOut.RefOut.lean ====
module

public import proofs.«01_k».proof.Proof.Gen.RetOutReferenceIdeal.Run
public import proofs.«01_k».proof.Proof.RetOut.Spec
public import Idealize.ShloMosaic.Lib.Pointwise

/-! The reference's two results read at an index. -/

@[expose] public section

noncomputable section

namespace Cert.RetOutReferenceIdeal.Rows

open Idealize.ShloMosaic Idealize.SL.Sem Cert.RetOutReferenceIdeal Cert.RetOutReferenceIdeal.Gen Idealize.ShloMosaic.TcCoe

/-- The prompts' residual. -/
def residP (y : FVec Ideal S8x2048x2048 .bf16) (w : FVec Ideal S2048x1024 .f32) (x : FVec Ideal S8x2048x1024 .f32) (ga : FVec Ideal S40x1024 .f32) : FVec Ideal S8x2048x1024 .f32 :=
  addf (mulf (broadcastInDim S8x2048x1024 ![] bcast_S_S8x2048x1024 (constant S_ .f32 0x3FB504F3#32)) x)
    (mulf (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 0] ga slices_S40x1024_S8x1024_0_0))))
      (Host.dotGeneral dot_S8x2048x2048_S2048x1024_S8x2048x1024_2_0_01_1_n_n none (extf .f32 y bitsLt_bf16_f32) w))

/-- The prompts' rows less their means. -/
def centredP (r : FVec Ideal S8x2048x1024 .f32) : FVec Ideal S8x2048x1024 .f32 :=
  subf r (broadcastInDim S8x2048x1024 ![0, 1, 2] bcast_S8x2048x1_S8x2048x1024_0_1_2 (Host.divf (broadcastInDim S8x2048x1 ![0, 1] bcast_S8x2048_S8x2048x1_0_1 (Host.reduceAdd r (constant S_ .f32 0x00000000#32) reducesTo_S8x2048x1024_S8x2048_d2 h_S_)) (broadcastInDim S8x2048x1 ![] bcast_S_S8x2048x1 (constant S_ .f32 0x44800000#32))))

/-- The prompts' rows normed, given the rows less their means. -/
def scaledP (d : FVec Ideal S8x2048x1024 .f32) (g b : FVec Ideal S1024 .f32) : FVec Ideal S8x2048x1024 .f32 :=
  addf (mulf (mulf d (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf d d) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S1x1x1024_S8x2048x1024_0_1_2 (broadcastInDim S1x1x1024 ![2] bcast_S1024_S1x1x1024_2 b))

/-- The prompts' rows scaled and shifted. -/
def modP (x : FVec Ideal S8x2048x1024 .f32) (sh sc : FVec Ideal S40x1024 .f32) : FVec Ideal S8x2048x1024 .f32 :=
  addf (mulf x (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 0] sc slices_S40x1024_S8x1024_0_0)))))
    (broadcastInDim S8x2048x1024 ![0, 1, 2] bcast_S8x1x1024_S8x2048x1024_0_1_2 (broadcastInDim S8x1x1024 ![0, 2] bcast_S8x1024_S8x1x1024_0_2 (extractStridedSlice S8x1024 ![0, 0] sh slices_S40x1024_S8x1024_0_0)))

/-- The sample's residual. -/
def residS (y : FVec Ideal S32x8x2048 .f32) (w : FVec Ideal S2048x1024 .f32) (x : FVec Ideal S32x8x1024 .f32) (ga : FVec Ideal S40x1024 .f32) : FVec Ideal S32x8x1024 .f32 :=
  addf (mulf (broadcastInDim S32x8x1024 ![] bcast_S_S32x8x1024 (constant S_ .f32 0x3FB504F3#32)) x)
    (mulf (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![8, 0] ga slices_S40x1024_S32x1024_8_0))))
      (Host.dotGeneral dot_S32x8x2048_S2048x1024_S32x8x1024_2_0_01_1_n_n none y w))

/-- The sample's rows less their means. -/
def centredS (r : FVec Ideal S32x8x1024 .f32) : FVec Ideal S32x8x1024 .f32 :=
  subf r (broadcastInDim S32x8x1024 ![0, 1, 2] bcast_S32x8x1_S32x8x1024_0_1_2 (Host.divf (broadcastInDim S32x8x1 ![0, 1] bcast_S32x8_S32x8x1_0_1 (Host.reduceAdd r (constant S_ .f32 0x00000000#32) reducesTo_S32x8x1024_S32x8_d2 h_S_)) (broadcastInDim S32x8x1 ![] bcast_S_S32x8x1 (constant S_ .f32 0x44800000#32))))

/-- The sample's rows normed, given the rows less their means. -/
def scaledS (d : FVec Ideal S32x8x1024 .f32) (g b : FVec Ideal S1024 .f32) : FVec Ideal S32x8x1024 .f32 :=
  addf (mulf (mulf d (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf d d) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x3727C5AC#32))))))
    (broadcastInDim S32x8x1024 ![0, 1, 2] bcast_S1x1x1024_S32x8x1024_0_1_2 (broadcastInDim S1x1x1024 ![2] bcast_S1024_S1x1x1024_2 g))) (broadcastInDim S32x8x1024 ![0, 1, 2] bcast_S1x1x1024_S32x8x1024_0_1_2 (broadcastInDim S1x1x1024 ![2] bcast_S1024_S1x1x1024_2 b))

/-- The sample's rows scaled and shifted. -/
def modS (x : FVec Ideal S32x8x1024 .f32) (sh sc : FVec Ideal S40x1024 .f32) : FVec Ideal S32x8x1024 .f32 :=
  addf (mulf x (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![8, 0] sc slices_S40x1024_S32x1024_8_0)))))
    (broadcastInDim S32x8x1024 ![0, 1, 2] bcast_S32x1x1024_S32x8x1024_0_1_2 (broadcastInDim S32x1x1024 ![0, 2] bcast_S32x1024_S32x1x1024_0_2 (extractStridedSlice S32x1024 ![8, 0] sh slices_S40x1024_S32x1024_8_0)))

/-- The two batches one under the other. -/
def stackOf (a : FVec Ideal S8x2048x1024 .f32) (b : FVec Ideal S32x8x1024 .f32) : FVec Ideal S16640x1024 .f32 :=
  concatenate S16640x1024 0 [⟨S16384x1024, (shapeCast _ a shapeCasts_S8x2048x1024_S16384x1024)⟩, ⟨S256x1024, (shapeCast _ b shapeCasts_S32x8x1024_S256x1024)⟩] concatenates_S16384x1024_S256x1024_S16640x1024_d0

theorem residP_at (y : FVec Ideal S8x2048x2048 .bf16) (w : FVec Ideal S2048x1024 .f32) (x : FVec Ideal S8x2048x1024 .f32) (ga : FVec Ideal S40x1024 .f32) (b : Fin 8) (s : Fin 2048) (k : Fin 1024) :
    residP y w x ga (ix3 b s k) = Cert.Out.resid (fun j : Fin 2048 => (y (ix3 b s j) : EReal)) (fun j k => w (ix2 j k)) (fun k => x (ix3 b s k)) (fun k => ga (ix2 ⟨b.val, by omega⟩ k)) k := by
  unfold residP Cert.Out.resid
  pointwise

theorem centredP_at (r : FVec Ideal S8x2048x1024 .f32) (b : Fin 8) (s : Fin 2048) (k : Fin 1024) :
    centredP r (ix3 b s k) = Cert.Out.centred (fun k => r (ix3 b s k)) k := by
  unfold centredP Cert.Out.centred Cert.Out.mean
  pointwise

theorem scaledP_at (d : FVec Ideal S8x2048x1024 .f32) (g b : FVec Ideal S1024 .f32) (p : Fin 8) (s : Fin 2048) (k : Fin 1024) :
    scaledP d g b (ix3 p s k) = (d (ix3 p s k) * Ideal.rsqrt (Cert.Out.mean (fun j => d (ix3 p s j) * d (ix3 p s j)) + Ideal.ofBits .f32 0x3727C5AC#32) * g (ix1 k) + b (ix1 k) : EReal) := by
  unfold scaledP Cert.Out.mean
  pointwise

theorem modP_at (x : FVec Ideal S8x2048x1024 .f32) (sh sc : FVec Ideal S40x1024 .f32) (b : Fin 8) (s : Fin 2048) (k : Fin 1024) :
    modP x sh sc (ix3 b s k) = Cert.Out.modulated (fun k => x (ix3 b s k)) (fun k => sh (ix2 ⟨b.val, by omega⟩ k)) (fun k => sc (ix2 ⟨b.val, by omega⟩ k)) k := by
  unfold modP Cert.Out.modulated
  pointwise

theorem residS_at (y : FVec Ideal S32x8x2048 .f32) (w : FVec Ideal S2048x1024 .f32) (x : FVec Ideal S32x8x1024 .f32) (ga : FVec Ideal S40x1024 .f32) (b : Fin 32) (s : Fin 8) (k : Fin 1024) :
    residS y w x ga (ix3 b s k) = Cert.Out.resid (fun j : Fin 2048 => (y (ix3 b s j) : EReal)) (fun j k => w (ix2 j k)) (fun k => x (ix3 b s k)) (fun k => ga (ix2 ⟨8 + b.val, by omega⟩ k)) k := by
  unfold residS Cert.Out.resid
  pointwise

theorem centredS_at (r : FVec Ideal S32x8x1024 .f32) (b : Fin 32) (s : Fin 8) (k : Fin 1024) :
    centredS r (ix3 b s k) = Cert.Out.centred (fun k => r (ix3 b s k)) k := by
  unfold centredS Cert.Out.centred Cert.Out.mean
  pointwise

theorem scaledS_at (d : FVec Ideal S32x8x1024 .f32) (g b : FVec Ideal S1024 .f32) (p : Fin 32) (s : Fin 8) (k : Fin 1024) :
    scaledS d g b (ix3 p s k) = (d (ix3 p s k) * Ideal.rsqrt (Cert.Out.mean (fun j => d (ix3 p s j) * d (ix3 p s j)) + Ideal.ofBits .f32 0x3727C5AC#32) * g (ix1 k) + b (ix1 k) : EReal) := by
  unfold scaledS Cert.Out.mean
  pointwise

theorem modS_at (x : FVec Ideal S32x8x1024 .f32) (sh sc : FVec Ideal S40x1024 .f32) (b : Fin 32) (s : Fin 8) (k : Fin 1024) :
    modS x sh sc (ix3 b s k) = Cert.Out.modulated (fun k => x (ix3 b s k)) (fun k => sh (ix2 ⟨8 + b.val, by omega⟩ k)) (fun k => sc (ix2 ⟨8 + b.val, by omega⟩ k)) k := by
  unfold modS Cert.Out.modulated
  pointwise

theorem stackOf_at (a : FVec Ideal S8x2048x1024 .f32) (b : FVec Ideal S32x8x1024 .f32) (r : Fin 16640) (c : Fin 1024) :
    stackOf a b (ix2 r c) = if h : r.val < 16384 then a (ix3 ⟨r.val / 2048, by omega⟩ ⟨r.val % 2048, by omega⟩ c)
      else b (ix3 ⟨(r.val - 16384) / 8, by omega⟩ ⟨(r.val - 16384) % 8, by omega⟩ c) := by
  unfold stackOf
  pointwise

theorem normedP_at (y : FVec Ideal S8x2048x2048 .bf16) (w : FVec Ideal S2048x1024 .f32) (x : FVec Ideal S8x2048x1024 .f32) (ga : FVec Ideal S40x1024 .f32) (g b : FVec Ideal S1024 .f32) (p : Fin 8) (s : Fin 2048) (k : Fin 1024) :
    scaledP (centredP (residP y w x ga)) g b (ix3 p s k)
      = Cert.Out.normed (Cert.Out.resid (fun j : Fin 2048 => (y (ix3 p s j) : EReal)) (fun j k => w (ix2 j k)) (fun k => x (ix3 p s k)) (fun k => ga (ix2 ⟨p.val, by omega⟩ k))) (fun k => g (ix1 k)) (fun k => b (ix1 k)) k := by
  rw [scaledP_at]
  simp only [centredP_at, residP_at]
  rfl

theorem normedS_at (y : FVec Ideal S32x8x2048 .f32) (w : FVec Ideal S2048x1024 .f32) (x : FVec Ideal S32x8x1024 .f32) (ga : FVec Ideal S40x1024 .f32) (g b : FVec Ideal S1024 .f32) (p : Fin 32) (s : Fin 8) (k : Fin 1024) :
    scaledS (centredS (residS y w x ga)) g b (ix3 p s k)
      = Cert.Out.normed (Cert.Out.resid (fun j : Fin 2048 => (y (ix3 p s j) : EReal)) (fun j k => w (ix2 j k)) (fun k => x (ix3 p s k)) (fun k => ga (ix2 ⟨8 + p.val, by omega⟩ k))) (fun k => g (ix1 k)) (fun k => b (ix1 k)) k := by
  rw [scaledS_at]
  simp only [centredS_at, residS_at]
  rfl

variable (m : (ℓ : Loc nD τ sig) → Buf (Elt Ideal) ℓ) (c : Dev nD)

/-- The reference's arguments, as functions of plain indices. -/
abbrev yp (b : Fin 8) (s : Fin 2048) (k : Fin 2048) : EReal := (m ((c.tc : Thread nD τ).loc main_arg0) : FVec Ideal S8x2048x2048 .bf16) (ix3 b s k)
abbrev ys (b : Fin 32) (s : Fin 8) (k : Fin 2048) : EReal := (m ((c.tc : Thread nD τ).loc main_arg1) : FVec Ideal S32x8x2048 .f32) (ix3 b s k)
abbrev w (k : Fin 2048) (j : Fin 1024) : EReal := (m ((c.tc : Thread nD τ).loc main_arg2) : FVec Ideal S2048x1024 .f32) (ix2 k j)
abbrev xp (b : Fin 8) (s : Fin 2048) (k : Fin 1024) : EReal := (m ((c.tc : Thread nD τ).loc main_arg3) : FVec Ideal S8x2048x1024 .f32) (ix3 b s k)
abbrev xs (b : Fin 32) (s : Fin 8) (k : Fin 1024) : EReal := (m ((c.tc : Thread nD τ).loc main_arg4) : FVec Ideal S32x8x1024 .f32) (ix3 b s k)
abbrev ga (b : Fin 40) (k : Fin 1024) : EReal := (m ((c.tc : Thread nD τ).loc main_arg5) : FVec Ideal S40x1024 .f32) (ix2 b k)
abbrev sh (b : Fin 40) (k : Fin 1024) : EReal := (m ((c.tc : Thread nD τ).loc main_arg6) : FVec Ideal S40x1024 .f32) (ix2 b k)
abbrev sc (b : Fin 40) (k : Fin 1024) : EReal := (m ((c.tc : Thread nD τ).loc main_arg7) : FVec Ideal S40x1024 .f32) (ix2 b k)
abbrev lg (k : Fin 1024) : EReal := (m ((c.tc : Thread nD τ).loc main_arg8) : FVec Ideal S1024 .f32) (ix1 k)
abbrev lb (k : Fin 1024) : EReal := (m ((c.tc : Thread nD τ).loc main_arg9) : FVec Ideal S1024 .f32) (ix1 k)

/-- The prompts' and the sample's new rows. -/
abbrev newP : FVec Ideal S8x2048x1024 .f32 :=
  scaledP (centredP (residP (m ((c.tc : Thread nD τ).loc main_arg0)) (m ((c.tc : Thread nD τ).loc main_arg2)) (m ((c.tc : Thread nD τ).loc main_arg3)) (m ((c.tc : Thread nD τ).loc main_arg5)))) (m ((c.tc : Thread nD τ).loc main_arg8)) (m ((c.tc : Thread nD τ).loc main_arg9))
abbrev newS : FVec Ideal S32x8x1024 .f32 :=
  scaledS (centredS (residS (m ((c.tc : Thread nD τ).loc main_arg1)) (m ((c.tc : Thread nD τ).loc main_arg2)) (m ((c.tc : Thread nD τ).loc main_arg4)) (m ((c.tc : Thread nD τ).loc main_arg5)))) (m ((c.tc : Thread nD τ).loc main_arg8)) (m ((c.tc : Thread nD τ).loc main_arg9))

theorem res_new : (Value.res_out0 m c : FVec Ideal S16640x1024 .f32) = stackOf (newP m c) (newS m c) := by
  unfold Value.res_out0 Value.res_main_v91
  rfl

theorem res_expert : (Value.res_out1 m c : FVec Ideal S16640x1024 .f32)
    = stackOf (modP (newP m c) (m ((c.tc : Thread nD τ).loc main_arg6)) (m ((c.tc : Thread nD τ).loc main_arg7))) (modS (newS m c) (m ((c.tc : Thread nD τ).loc main_arg6)) (m ((c.tc : Thread nD τ).loc main_arg7))) := by
  unfold Value.res_out1 Value.res_main_v94
  rfl

theorem new_at (r : Fin 16640) (k : Fin 1024) : (Value.res_out0 m c : FVec Ideal S16640x1024 .f32) (ix2 r k)
    = Cert.Out.newRow (yp m c) (ys m c) (w m c) (xp m c) (xs m c) (ga m c) (lg m c) (lb m c) r k := by
  rw [res_new, stackOf_at]
  unfold Cert.Out.newRow
  by_cases h : r.val < 16384
  · rw [dif_pos h]
    refine (normedP_at _ _ _ _ _ _ _ _ _).trans ?_
    have ey : Cert.Out.rowY (yp m c) (ys m c) r = fun k => yp m c ⟨r.val / 2048, by omega⟩ ⟨r.val % 2048, by omega⟩ k := funext fun k => dif_pos h
    have ex : Cert.Proj.rowX (xp m c) (xs m c) r = fun k => xp m c ⟨r.val / 2048, by omega⟩ ⟨r.val % 2048, by omega⟩ k := funext fun k => dif_pos h
    have eg : Cert.Proj.rowV (ga m c) r = fun k => ga m c ⟨r.val / 2048, by omega⟩ k := funext fun k => dif_pos h
    rw [ey, ex, eg]
  · rw [dif_neg h]
    refine (normedS_at _ _ _ _ _ _ _ _ _).trans ?_
    have ey : Cert.Out.rowY (yp m c) (ys m c) r = fun k => ys m c ⟨(r.val - 16384) / 8, by omega⟩ ⟨(r.val - 16384) % 8, by omega⟩ k := funext fun k => dif_neg h
    have ex : Cert.Proj.rowX (xp m c) (xs m c) r = fun k => xs m c ⟨(r.val - 16384) / 8, by omega⟩ ⟨(r.val - 16384) % 8, by omega⟩ k := funext fun k => dif_neg h
    have eg : Cert.Proj.rowV (ga m c) r = fun k => ga m c ⟨8 + (r.val - 16384) / 8, by omega⟩ k := funext fun k => dif_neg h
    rw [ey, ex, eg]

theorem expert_at (r : Fin 16640) (k : Fin 1024) : (Value.res_out1 m c : FVec Ideal S16640x1024 .f32) (ix2 r k)
    = Cert.Out.expertRow (yp m c) (ys m c) (w m c) (xp m c) (xs m c) (ga m c) (sh m c) (sc m c) (lg m c) (lb m c) r k := by
  have hnew : Cert.Out.newRow (yp m c) (ys m c) (w m c) (xp m c) (xs m c) (ga m c) (lg m c) (lb m c) r
      = fun k => stackOf (newP m c) (newS m c) (ix2 r k) := funext fun k => by rw [← new_at, res_new]
  unfold Cert.Out.expertRow
  rw [res_expert, stackOf_at, hnew]
  simp only [stackOf_at]
  by_cases h : r.val < 16384
  · have eh : Cert.Proj.rowV (sh m c) r = fun k => sh m c ⟨r.val / 2048, by omega⟩ k := funext fun k => dif_pos h
    have ec : Cert.Proj.rowV (sc m c) r = fun k => sc m c ⟨r.val / 2048, by omega⟩ k := funext fun k => dif_pos h
    simp only [dif_pos h]
    rw [modP_at, eh, ec]
  · have eh : Cert.Proj.rowV (sh m c) r = fun k => sh m c ⟨8 + (r.val - 16384) / 8, by omega⟩ k := funext fun k => dif_neg h
    have ec : Cert.Proj.rowV (sc m c) r = fun k => sc m c ⟨8 + (r.val - 16384) / 8, by omega⟩ k := funext fun k => dif_neg h
    simp only [dif_neg h]
    rw [modS_at, eh, ec]

end Cert.RetOutReferenceIdeal.Rows
-- ==== Proof.RetOut.Claims.lean ====
module

public import proofs.«01_k».proof.Defs
public import proofs.«01_k».proof.Proof.RetOut.Points
public import proofs.«01_k».proof.Proof.RetOut.RefOut
public import proofs.«01_k».proof.Proof.Gen.RetOutIdeal.Value
public import proofs.«01_k».proof.Proof.Gen.RetOut.Frame
public import Idealize.ShloMosaic.Adequacy
public import Idealize.ShloMosaic.Init

/-! The two result arrays of the output projection call, and its claims. -/

@[expose] public section

noncomputable section

namespace Cert.RetOutIdeal.Rows

open Idealize.ShloMosaic Idealize.ShloMosaic.TcCoe Idealize.SL.Sem Cert.RetOutIdeal Cert.RetOutIdeal.Gen
open Idealize.ShloMosaic.Pipeline (Dat)

variable (m : (ℓ : Loc nD τ sig) → Buf (Elt Ideal) ℓ) (c : Dev nD)

/-- The new rows of the arguments. -/
def resultN : FVec Ideal S16640x1024 .f32 := fun y =>
  Cert.Out.newRow (ypf m c) (ysf m c) (wf m c) (xpf m c) (xsf m c) (gaf m c) (gf m c) (bf m c) ⟨(y 0).val, (y 0).isLt⟩ ⟨(y 1).val, (y 1).isLt⟩

theorem flushed_N (t : Fin cfg0.N) : (dats m 0 c).flushed 10 t = ((cfg0.win 10).blk t).view.read (Elt Ideal) (resultN m c) := by
  rw [Cert.RetOutIdeal.Value.flushed10]
  funext j
  obtain ⟨i, e, rfl⟩ : ∃ (i : Fin 256) (e : Fin 1024), j = ix2 i e := ⟨j 0, j 1, funext fun a => match a with | ⟨0, _⟩ => rfl | ⟨1, _⟩ => rfl⟩
  refine (left_new_at m c t i e).trans ?_
  show _ = resultN m c (((cfg0.win 10).blk t).view.emb (ix2 i e))
  have e' := (index_out t).1
  have hemb : ((cfg0.win 10).blk t).view.emb (ix2 i e) = (ix2 (row t i) e : S16640x1024.Idx) := by
    refine funext fun a => Fin.ext ?_
    match a with
    | ⟨0, _⟩ =>
      show win0_10.index t 0 * 256 + 1 * i.val = 256 * t.val + i.val
      rw [e'.1]; omega
    | ⟨1, _⟩ =>
      show win0_10.index t 1 * 1024 + 1 * e.val = e.val
      rw [e'.2]; omega
  rw [hemb]
  rfl

theorem final_N : (dats m 0 c).arrAt 10 cfg0.N = resultN m c :=
  (dats m 0 c).arrAt_eq_of_cover 10 (resultN m c) (fun t _ => flushed_N m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_10 _, ?_⟩
    have e' := (index_out ⟨(i 0 : Nat) / 256, ht⟩).1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v38_0).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [e'.1]; omega
    | ⟨1, _⟩ =>
      show win0_10.index t 1 * 1024 ≤ (i 1 : Nat) ∧ (i 1 : Nat) < win0_10.index t 1 * 1024 + 1024
      rw [e'.2]; omega

/-- The rows the experts read. -/
def resultE : FVec Ideal S16640x1024 .f32 := fun y =>
  Cert.Out.expertRow (ypf m c) (ysf m c) (wf m c) (xpf m c) (xsf m c) (gaf m c) (shf m c) (scf m c) (gf m c) (bf m c) ⟨(y 0).val, (y 0).isLt⟩ ⟨(y 1).val, (y 1).isLt⟩

theorem flushed_E (t : Fin cfg0.N) : (dats m 0 c).flushed 11 t = ((cfg0.win 11).blk t).view.read (Elt Ideal) (resultE m c) := by
  rw [Cert.RetOutIdeal.Value.flushed11]
  funext j
  obtain ⟨i, e, rfl⟩ : ∃ (i : Fin 256) (e : Fin 1024), j = ix2 i e := ⟨j 0, j 1, funext fun a => match a with | ⟨0, _⟩ => rfl | ⟨1, _⟩ => rfl⟩
  refine (left_expert_at m c t i e).trans ?_
  show _ = resultE m c (((cfg0.win 11).blk t).view.emb (ix2 i e))
  have e' := (index_out t).2
  have hemb : ((cfg0.win 11).blk t).view.emb (ix2 i e) = (ix2 (row t i) e : S16640x1024.Idx) := by
    refine funext fun a => Fin.ext ?_
    match a with
    | ⟨0, _⟩ =>
      show win0_11.index t 0 * 256 + 1 * i.val = 256 * t.val + i.val
      rw [e'.1]; omega
    | ⟨1, _⟩ =>
      show win0_11.index t 1 * 1024 + 1 * e.val = e.val
      rw [e'.2]; omega
  rw [hemb]
  rfl

theorem final_E : (dats m 0 c).arrAt 11 cfg0.N = resultE m c :=
  (dats m 0 c).arrAt_eq_of_cover 11 (resultE m c) (fun t _ => flushed_E m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_11 _, ?_⟩
    have e' := (index_out ⟨(i 0 : Nat) / 256, ht⟩).2
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v38_1).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [e'.1]; omega
    | ⟨1, _⟩ =>
      show win0_11.index t 1 * 1024 ≤ (i 1 : Nat) ∧ (i 1 : Nat) < win0_11.index t 1 * 1024 + 1024
      rw [e'.2]; omega

end Cert.RetOutIdeal.Rows

namespace Cert.RetOutClaims

open Idealize.ShloMosaic Idealize.ShloMosaic.TcCoe Idealize.SL.Sem

/-- The call's frame. -/
theorem frame_kernel : Cert.quiescent_RetOut := fun m ρ _ => Cert.RetOut.Gen.frame m ρ

/-- The ideal call's frame. -/
theorem frame_ideal : Cert.quiescent_RetOutIdeal := fun m ρ _ => Cert.RetOutIdeal.Gen.frame m ρ

/-- The reference's frame. -/
theorem frame_reference : Cert.quiescent_RetOutReferenceIdeal := fun m ρ _ =>
  (θ_run Cert.RetOutReferenceIdeal.defs _ _).mono (fun r h => ⟨fun c => (h c).2.2, sem_eq_zero_of_no_sems (by decide) r.2⟩)
    (Cert.RetOutReferenceIdeal.Value.run m ρ)

/-- The call's first two results are the reference's. -/
theorem results_agree : Cert.algebraic_RetOutIdeal_RetOutReferenceIdeal := by
  intro m ρ m' ρ' _ hargs
  refine ⟨fun c => Cert.RetOutIdeal.Rows.resultN m c, fun c => Cert.RetOutIdeal.Rows.resultE m c, ?_, ?_⟩
  · exact (θ_run Cert.RetOutIdeal.defs _ _).mono (fun _ h c => ⟨(h c).1.trans (Cert.RetOutIdeal.Rows.final_N m c), (h c).2.1.trans (Cert.RetOutIdeal.Rows.final_E m c), (h c).2.2.2.2⟩) (Cert.RetOutIdeal.Value.run_blocks m ρ)
  · refine (θ_run Cert.RetOutReferenceIdeal.defs _ _).mono (fun _ h c => ?_) (Cert.RetOutReferenceIdeal.Value.run m' ρ')
    obtain ⟨e0, e1, e2, e3, e4, e5, e6, e7, e8, e9, e10, e11⟩ := hargs c
    have f0 : Cert.RetOutReferenceIdeal.Rows.yp m' c = Cert.RetOutIdeal.Rows.ypf m c := by
      funext b s k; exact congrFun e0 (ix3 b s k)
    have f1 : Cert.RetOutReferenceIdeal.Rows.ys m' c = Cert.RetOutIdeal.Rows.ysf m c := by
      funext b s k; exact congrFun e1 (ix3 b s k)
    have f2 : Cert.RetOutReferenceIdeal.Rows.w m' c = Cert.RetOutIdeal.Rows.wf m c := by
      funext k j; exact congrFun e2 (ix2 k j)
    have f3 : Cert.RetOutReferenceIdeal.Rows.xp m' c = Cert.RetOutIdeal.Rows.xpf m c := by
      funext b s k; exact congrFun e3 (ix3 b s k)
    have f4 : Cert.RetOutReferenceIdeal.Rows.xs m' c = Cert.RetOutIdeal.Rows.xsf m c := by
      funext b s k; exact congrFun e4 (ix3 b s k)
    have f5 : Cert.RetOutReferenceIdeal.Rows.ga m' c = Cert.RetOutIdeal.Rows.gaf m c := by
      funext b k; exact congrFun e5 (ix2 b k)
    have f6 : Cert.RetOutReferenceIdeal.Rows.sh m' c = Cert.RetOutIdeal.Rows.shf m c := by
      funext b k; exact congrFun e6 (ix2 b k)
    have f7 : Cert.RetOutReferenceIdeal.Rows.sc m' c = Cert.RetOutIdeal.Rows.scf m c := by
      funext b k; exact congrFun e7 (ix2 b k)
    have f8 : Cert.RetOutReferenceIdeal.Rows.lg m' c = Cert.RetOutIdeal.Rows.gf m c := by
      funext k; exact congrFun e8 (ix1 k)
    have f9 : Cert.RetOutReferenceIdeal.Rows.lb m' c = Cert.RetOutIdeal.Rows.bf m c := by
      funext k; exact congrFun e9 (ix1 k)
    refine ⟨(h c).1.trans ?_, (h c).2.1.trans ?_, (h c).2.2⟩
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.RetOutReferenceIdeal.Rows.new_at m' c r d).trans ?_
      rw [f0, f1, f2, f3, f4, f5, f8, f9]
      rfl
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.RetOutReferenceIdeal.Rows.expert_at m' c r d).trans ?_
      rw [f0, f1, f2, f3, f4, f5, f6, f7, f8, f9]
      rfl

end Cert.RetOutClaims

end
-- ==== Proof.AttnOut.Entry.lean ====
module

public import proofs.«01_k».proof.Proof.Gen.AttnOutIdeal.Frame
public import proofs.«01_k».proof.Proof.RetOut.Spec
public import Idealize.ShloMosaic.Lib.Pointwise
public import Idealize.ShloMosaic.Lib.Tactic
public import Idealize.ShloMosaic.Lib.KernelVsHost

/-! What the output projection call's input arrays hold when the call is entered, but for the router's two: the mixed
    rows and the layer's rows of both batches, the weights, the gates, shifts and scales, and the norm's two vectors.
    First as whole arrays, then at an index. -/

@[expose] public section

noncomputable section

namespace Cert.AttnOutIdeal.Rows

open Idealize.ShloMosaic Idealize.ShloMosaic.TcCoe Idealize.SL.Sem Cert.AttnOutIdeal Cert.AttnOutIdeal.Gen

/-- The mixed rows of both batches, one under the other. -/
def stackedY (yp : FVec Ideal S8x2048x1024 .bf16) (ys : FVec Ideal S32x8x1024 .f32) : FVec Ideal S16640x1024 .bf16 :=
  concatenate S16640x1024 0 [⟨S16384x1024, shapeCast S16384x1024 yp shapeCasts_S8x2048x1024_S16384x1024⟩,
    ⟨S256x1024, truncf .bf16 (shapeCast S256x1024 ys shapeCasts_S32x8x1024_S256x1024) bitsLt_bf16_f32⟩] concatenates_S16384x1024_S256x1024_S16640x1024_d0

/-- The layer's rows of both batches, one under the other. -/
def stacked (xp : FVec Ideal S8x2048x1024 .f32) (xs : FVec Ideal S32x8x1024 .f32) : FVec Ideal S16640x1024 .f32 :=
  concatenate S16640x1024 0 [⟨S16384x1024, shapeCast S16384x1024 xp shapeCasts_S8x2048x1024_S16384x1024⟩,
    ⟨S256x1024, shapeCast S256x1024 xs shapeCasts_S32x8x1024_S256x1024⟩] concatenates_S16384x1024_S256x1024_S16640x1024_d0

/-- A vector per sequence laid out as blocks of rows: one block per prompt sequence, one for all the sample's rows. -/
def laidOut (a : FVec Ideal S40x1024 .f32) : FVec Ideal S9x256x1024 .f32 :=
  concatenate S9x256x1024 0 [⟨S8x256x1024, broadcastInDim S8x256x1024 ![0, 1, 2] bcast_S8x1x1024_S8x256x1024_0_1_2
      (broadcastInDim S8x1x1024 ![0, 2] bcast_S8x1024_S8x1x1024_0_2 (extractStridedSlice S8x1024 ![0, 0] a slices_S40x1024_S8x1024_0_0))⟩,
    ⟨S1x256x1024, shapeCast S1x256x1024 (shapeCast S256x1024 (broadcastInDim S32x8x1024 ![0, 2] bcast_S32x1024_S32x8x1024_0_2
      (extractStridedSlice S32x1024 ![8, 0] a slices_S40x1024_S32x1024_8_0)) shapeCasts_S32x8x1024_S256x1024) shapeCasts_S256x1024_S1x256x1024⟩]
    concatenates_S8x256x1024_S1x256x1024_S9x256x1024_d0

variable (m : (ℓ : Loc nD τ sig) → Buf (Elt Ideal) ℓ) (c : Dev nD)

theorem V_y : V m c main_v3 = stackedY (m ((c : Thread nD τ).loc main_arg0)) (m ((c : Thread nD τ).loc main_arg1)) := by
  show StableHlo.after (List.flatten _) _ (Proc.devRef .tc main_v3) = _
  simp only [List.flatten_cons, List.flatten_nil, List.append_nil, List.cons_append, List.nil_append]
  after_results
  rfl

theorem V_w : (V m c main_v10 : FVec Ideal S1024x1024 .bf16) = (truncf .bf16 (m ((c : Thread nD τ).loc main_arg2) : FVec Ideal S1024x1024 .f32) bitsLt_bf16_f32 : FVec Ideal S1024x1024 .bf16) := by
  show StableHlo.after (List.flatten _) _ (Proc.devRef .tc main_v10) = _
  simp only [List.flatten_cons, List.flatten_nil, List.append_nil, List.cons_append, List.nil_append]
  after_results

theorem V_x : V m c main_v6 = stacked (m ((c : Thread nD τ).loc main_arg3)) (m ((c : Thread nD τ).loc main_arg4)) := by
  show StableHlo.after (List.flatten _) _ (Proc.devRef .tc main_v6) = _
  simp only [List.flatten_cons, List.flatten_nil, List.append_nil, List.cons_append, List.nil_append]
  after_results
  rfl

theorem V_ga : V m c main_v18 = laidOut (m ((c : Thread nD τ).loc main_arg5)) := by
  show StableHlo.after (List.flatten _) _ (Proc.devRef .tc main_v18) = _
  simp only [List.flatten_cons, List.flatten_nil, List.append_nil, List.cons_append, List.nil_append]
  after_results
  rfl

theorem V_sh : V m c main_v26 = laidOut (m ((c : Thread nD τ).loc main_arg6)) := by
  show StableHlo.after (List.flatten _) _ (Proc.devRef .tc main_v26) = _
  simp only [List.flatten_cons, List.flatten_nil, List.append_nil, List.cons_append, List.nil_append]
  after_results
  rfl

theorem V_sc : V m c main_v34 = laidOut (m ((c : Thread nD τ).loc main_arg7)) := by
  show StableHlo.after (List.flatten _) _ (Proc.devRef .tc main_v34) = _
  simp only [List.flatten_cons, List.flatten_nil, List.append_nil, List.cons_append, List.nil_append]
  after_results
  rfl

theorem V_g : (V m c main_v36 : FVec Ideal S1x1024 .f32) = (shapeCast S1x1024 (m ((c : Thread nD τ).loc main_arg8) : FVec Ideal S1024 .f32) shapeCasts_S1024_S1x1024 : FVec Ideal S1x1024 .f32) := by
  show StableHlo.after (List.flatten _) _ (Proc.devRef .tc main_v36) = _
  simp only [List.flatten_cons, List.flatten_nil, List.append_nil, List.cons_append, List.nil_append]
  after_results
  rfl

theorem V_b : (V m c main_v37 : FVec Ideal S1x1024 .f32) = (shapeCast S1x1024 (m ((c : Thread nD τ).loc main_arg9) : FVec Ideal S1024 .f32) shapeCasts_S1024_S1x1024 : FVec Ideal S1x1024 .f32) := by
  show StableHlo.after (List.flatten _) _ (Proc.devRef .tc main_v37) = _
  simp only [List.flatten_cons, List.flatten_nil, List.append_nil, List.cons_append, List.nil_append]
  after_results
  rfl

theorem stackedY_at (yp : FVec Ideal S8x2048x1024 .bf16) (ys : FVec Ideal S32x8x1024 .f32) (r : Fin 16640) (k : Fin 1024) :
    (stackedY yp ys (ix2 r k) : EReal) = Cert.Out.rowY (fun b s k => yp (ix3 b s k)) (fun b s k => ys (ix3 b s k)) r k := by
  unfold stackedY Cert.Out.rowY
  pointwise

theorem stacked_at (xp : FVec Ideal S8x2048x1024 .f32) (xs : FVec Ideal S32x8x1024 .f32) (r : Fin 16640) (k : Fin 1024) :
    stacked xp xs (ix2 r k) = Cert.Proj.rowX (fun b s k => xp (ix3 b s k)) (fun b s k => xs (ix3 b s k)) r k := by
  unfold stacked Cert.Proj.rowX
  pointwise

theorem laidOut_at (a : FVec Ideal S40x1024 .f32) (b : Fin 9) (i : Fin 256) (k : Fin 1024) :
    laidOut a (ix3 b i k) = if h : b.val < 8 then a (ix2 ⟨b.val, by omega⟩ k) else a (ix2 ⟨8 + i.val / 8, by omega⟩ k) := by
  unfold laidOut
  pointwise

theorem vector_at (a : FVec Ideal S1024 .f32) (k : Fin 1024) :
    (shapeCast S1x1024 a shapeCasts_S1024_S1x1024 : FVec Ideal S1x1024 .f32) (ix2 0 k) = a (ix1 k) := by
  pointwise

end Cert.AttnOutIdeal.Rows
-- ==== Proof.AttnOut.Payload.lean ====
module

public import proofs.«01_k».proof.Proof.Gen.AttnOutIdeal.Frame
public import proofs.«01_k».proof.Proof.RetOut.Spec
public import Idealize.ShloMosaic.Lib.Pipeline.Value
public import Idealize.ShloMosaic.Lib.Pointwise

/-! What the body leaves in its first two output blocks, read at an index. -/

@[expose] public section

noncomputable section

namespace Cert.AttnOutIdeal.Rows

open Idealize.ShloMosaic Cert.AttnOutIdeal Cert.AttnOutIdeal.Gen

/-- The residual of a block of rows. -/
def residBlock (y : FVec Ideal S256x1024 .bf16) (w : FVec Ideal S1024x1024 .bf16) (x : FVec Ideal S256x1024 .f32) (ga : FVec Ideal S1x256x1024 .f32) : FVec Ideal S256x1024 .f32 :=
  addf (mulf (broadcast S256x1024 (Scalar.ofBits .f32 0x3FB504F3#32)) (shapeCast S256x1024 x shapeCasts_S256x1024_S256x1024))
    (mulf (addf (broadcast S256x1024 (Scalar.ofBits .f32 0x3F800000#32)) (shapeCast S256x1024 ga shapeCasts_S1x256x1024_S256x1024))
      (matmul dot_S256x1024_S1024x1024_S256x1024_1_0_0_1_n_n none (shapeCast S256x1024 y shapeCasts_S256x1024_S256x1024) (shapeCast S1024x1024 w shapeCasts_S1024x1024_S1024x1024) (constant S256x1024 .f32 0x00000000#32)))

/-- The block less its rows' means. -/
def centredBlock (r : FVec Ideal S256x1024 .f32) : FVec Ideal S256x1024 .f32 :=
  subf r (broadcastTo S256x1024 (divf (shapeCast S256x1 (multiReduction .add [1] S256 r 0x00000000#32 reduces_S256x1024_S256 (.inl rfl) rfl) shapeCasts_S256_S256x1) (broadcast S256x1 (Scalar.ofBits .f32 0x44800000#32))) broadcasts_S256x1_S256x1024)

/-- The block normed but for the last vector, given the block less its rows' means. -/
def scaledBlock (d : FVec Ideal S256x1024 .f32) (g : FVec Ideal S1x1024 .f32) : FVec Ideal S256x1024 .f32 :=
  mulf (mulf d (broadcastTo S256x1024 (rsqrt (addf (divf (shapeCast S256x1 (multiReduction .add [1] S256 (mulf d d) 0x00000000#32 reduces_S256x1024_S256 (.inl rfl) rfl) shapeCasts_S256_S256x1) (broadcast S256x1 (Scalar.ofBits .f32 0x44800000#32))) (broadcast S256x1 (Scalar.ofBits .f32 0x3727C5AC#32)))) broadcasts_S256x1_S256x1024))
    (broadcastTo S256x1024 (shapeCast S1x1024 g shapeCasts_S1x1024_S1x1024) broadcasts_S1x1024_S256x1024)

theorem residBlock_at (y : FVec Ideal S256x1024 .bf16) (w : FVec Ideal S1024x1024 .bf16) (x : FVec Ideal S256x1024 .f32) (ga : FVec Ideal S1x256x1024 .f32) (i : Fin 256) (k : Fin 1024) :
    residBlock y w x ga (ix2 i k) = Cert.Out.resid (fun j : Fin 1024 => (y (ix2 i j) : EReal)) (fun j k => (w (ix2 j k) : EReal)) (fun k => x (ix2 i k)) (fun k => ga (ix3 0 i k)) k := by
  unfold residBlock Cert.Out.resid
  pointwise

theorem centredBlock_at (r : FVec Ideal S256x1024 .f32) (i : Fin 256) (k : Fin 1024) :
    centredBlock r (ix2 i k) = Cert.Out.centred (fun k => r (ix2 i k)) k := by
  unfold centredBlock Cert.Out.centred Cert.Out.mean
  pointwise

theorem scaledBlock_at (d : FVec Ideal S256x1024 .f32) (g : FVec Ideal S1x1024 .f32) (i : Fin 256) (k : Fin 1024) :
    scaledBlock d g (ix2 i k) = (d (ix2 i k) * Ideal.rsqrt (Cert.Out.mean (fun j => d (ix2 i j) * d (ix2 i j)) + Ideal.ofBits .f32 0x3727C5AC#32) * g (ix2 0 k) : EReal) := by
  unfold scaledBlock Cert.Out.mean
  pointwise

theorem pay3_eq (v0 : FVec Ideal S256x1024 .bf16) (v2 : FVec Ideal S1024x1024 .bf16) (v5 : FVec Ideal S256x1024 .f32) (v9 : FVec Ideal S1x256x1024 .f32) (v15 : FVec Ideal S1x1024 .f32) :
    (k0_pay3 v0 v2 v5 v9 v15 : FVec Ideal S256x1024 .f32) = scaledBlock (centredBlock (residBlock v0 v2 v5 v9)) v15 := rfl

theorem pay4_at (v : FVec Ideal S1x1024 .f32) (i : Fin 256) (k : Fin 1024) : (k0_pay4 v : FVec Ideal S256x1024 .f32) (ix2 i k) = v (ix2 0 k) := by
  unfold k0_pay4
  pointwise

theorem pay5_at (v0 : FVec Ideal S256x1024 .bf16) (v2 : FVec Ideal S1024x1024 .bf16) (v5 : FVec Ideal S256x1024 .f32) (v9 : FVec Ideal S1x256x1024 .f32) (v15 v17 : FVec Ideal S1x1024 .f32) (i : Fin 256) (k : Fin 1024) :
    (k0_pay5 (k0_pay3 v0 v2 v5 v9 v15) (k0_pay4 v17) : FVec Ideal S256x1024 .f32) (ix2 i k)
      = Cert.Out.normed (Cert.Out.resid (fun j : Fin 1024 => (v0 (ix2 i j) : EReal)) (fun j k => (v2 (ix2 j k) : EReal)) (fun k => v5 (ix2 i k)) (fun k => v9 (ix3 0 i k))) (fun k => v15 (ix2 0 k)) (fun k => v17 (ix2 0 k)) k := by
  have e : (k0_pay5 (k0_pay3 v0 v2 v5 v9 v15) (k0_pay4 v17) : FVec Ideal S256x1024 .f32) (ix2 i k)
      = ((k0_pay3 v0 v2 v5 v9 v15 : FVec Ideal S256x1024 .f32) (ix2 i k) + (k0_pay4 v17 : FVec Ideal S256x1024 .f32) (ix2 i k) : EReal) := rfl
  rw [e, pay3_eq, pay4_at, scaledBlock_at]
  simp only [centredBlock_at, residBlock_at]
  rfl

theorem pay6_at (a b : FVec Ideal S256x1024 .f32) (sc sh : FVec Ideal S1x256x1024 .f32) (i : Fin 256) (k : Fin 1024) :
    (k0_pay6 a b sc sh : FVec Ideal S256x1024 .f32) (ix2 i k)
      = Cert.Out.modulated (fun k => (k0_pay5 a b : FVec Ideal S256x1024 .f32) (ix2 i k)) (fun k => sh (ix3 0 i k)) (fun k => sc (ix3 0 i k)) k := by
  unfold k0_pay6 Cert.Out.modulated
  generalize (k0_pay5 a b : FVec Ideal S256x1024 .f32) = p
  pointwise

variable (x0 : Vec Ideal S256x1024 .bf16) (x1 : Vec Ideal S1024x1024 .bf16) (x2 : Vec Ideal S256x1024 .f32) (x3 : Vec Ideal S1x256x1024 .f32) (x4 x5 : Vec Ideal S1x1024 .f32)
  (x6 x7 : Vec Ideal S1x256x1024 .f32) (x8 : Vec Ideal S1024x128 .bf16) (x9 : Vec Ideal S1x128 .f32)

/-- The block's new row, from the blocks staged. -/
def blockNew (i : Fin 256) (k : Fin 1024) : EReal :=
  Cert.Out.normed (Cert.Out.resid (fun j : Fin 1024 => (x0 (ix2 i j) : EReal)) (fun j k => (x1 (ix2 j k) : EReal)) (fun k => x2 (ix2 i k)) (fun k => x3 (ix3 0 i k))) (fun k => x4 (ix2 0 k)) (fun k => x5 (ix2 0 k)) k

theorem ld0 (x : Vec Ideal S256x1024 .bf16) : View.ld x r0_0 = x := View.ld_unit_zero (funext fun a => match a with | ⟨0, _⟩ => rfl | ⟨1, _⟩ => rfl) _ x
theorem ld1 (x : Vec Ideal S1024x1024 .bf16) : View.ld x r0_1 = x := View.ld_unit_zero (funext fun a => match a with | ⟨0, _⟩ => rfl | ⟨1, _⟩ => rfl) _ x
theorem ld2 (x : Vec Ideal S256x1024 .f32) : View.ld x r0_0 = x := View.ld_unit_zero (funext fun a => match a with | ⟨0, _⟩ => rfl | ⟨1, _⟩ => rfl) _ x
theorem ld3 (x : Vec Ideal S1x256x1024 .f32) : View.ld x r0_2 = x := View.ld_unit_zero (funext fun a => match a with | ⟨0, _⟩ => rfl | ⟨1, _⟩ => rfl | ⟨2, _⟩ => rfl) _ x
theorem ld4 (x : Vec Ideal S1x1024 .f32) : View.ld x r0_3 = x := View.ld_unit_zero (funext fun a => match a with | ⟨0, _⟩ => rfl | ⟨1, _⟩ => rfl) _ x

theorem left_new (i : Fin 256) (k : Fin 1024) : out0_10 x0 x1 x2 x3 x4 x5 x6 x7 x8 x9 (ix2 i k) = blockNew x0 x1 x2 x3 x4 x5 i k := by
  unfold out0_10
  rw [View.canon_unit_zero (funext fun a => match a with | ⟨0, _⟩ => rfl | ⟨1, _⟩ => rfl)]
  unfold k0_pay28 k0_pay29 blockNew
  rw [ld0, ld1, ld2, ld3, ld4, ld4]
  exact pay5_at x0 x1 x2 x3 x4 x5 i k

theorem left_expert (i : Fin 256) (k : Fin 1024) : out0_11 x0 x1 x2 x3 x4 x5 x6 x7 x8 x9 (ix2 i k)
    = Cert.Out.modulated (blockNew x0 x1 x2 x3 x4 x5 i) (fun k => x6 (ix3 0 i k)) (fun k => x7 (ix3 0 i k)) k := by
  unfold out0_11
  rw [View.canon_unit_zero (funext fun a => match a with | ⟨0, _⟩ => rfl | ⟨1, _⟩ => rfl)]
  unfold k0_pay28 k0_pay29
  rw [ld0, ld1, ld2, ld3, ld4, ld4, ld3, ld3, pay6_at]
  refine congrArg (fun f => Cert.Out.modulated f _ _ k) (funext fun k => ?_)
  unfold blockNew
  exact pay5_at x0 x1 x2 x3 x4 x5 i k

end Cert.AttnOutIdeal.Rows
-- ==== Proof.AttnOut.Points.lean ====
module

public import proofs.«01_k».proof.Proof.AttnOut.Entry
public import proofs.«01_k».proof.Proof.AttnOut.Payload

/-! The input blocks of a grid point, and what it leaves: point `t` stages rows `256 t` to `256 t + 255`. -/

@[expose] public section

noncomputable section

namespace Cert.AttnOutIdeal.Rows

open Idealize.ShloMosaic Idealize.ShloMosaic.TcCoe Idealize.SL.Sem Cert.AttnOutIdeal Cert.AttnOutIdeal.Gen

/-- Which block of each input a point stages. -/
theorem index_in : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = (if t.val < 64 then t.val / 8 else 8) ∧ win0_3.index t 1 = 0 ∧ win0_3.index t 2 = 0)
    ∧ (win0_4.index t 0 = 0 ∧ win0_4.index t 1 = 0)
    ∧ (win0_5.index t 0 = 0 ∧ win0_5.index t 1 = 0)
    ∧ (win0_6.index t 0 = (if t.val < 64 then t.val / 8 else 8) ∧ win0_6.index t 1 = 0 ∧ win0_6.index t 2 = 0)
    ∧ (win0_7.index t 0 = (if t.val < 64 then t.val / 8 else 8) ∧ win0_7.index t 1 = 0 ∧ win0_7.index t 2 = 0) := by decide +kernel

/-- And of the two results. -/
theorem index_out : ∀ t : Fin grid0.N, (win0_10.index t 0 = t.val ∧ win0_10.index t 1 = 0)
    ∧ (win0_11.index t 0 = t.val ∧ win0_11.index t 1 = 0) := by decide +kernel

theorem pt_lt (t : Fin cfg0.N) : t.val < 65 := lt_of_lt_of_eq t.isLt (show cfg0.N = 65 from N_0)

/-- Row `i` of point `t`. -/
def row (t : Fin cfg0.N) (i : Fin 256) : Fin 16640 := ⟨256 * t.val + i.val, by have := pt_lt t; omega⟩

/-- The block of vectors a point stages. -/
def modOf (t : Fin cfg0.N) : Fin 9 := ⟨if t.val < 64 then t.val / 8 else 8, by have := pt_lt t; split <;> omega⟩

variable (m : (ℓ : Loc nD τ sig) → Buf (Elt Ideal) ℓ) (c : Dev nD) (t : Fin cfg0.N)

/-- The arguments of the call, as functions of plain indices. -/
abbrev ypf (b : Fin 8) (s : Fin 2048) (k : Fin 1024) : EReal := (m ((c : Thread nD τ).loc main_arg0) : FVec Ideal S8x2048x1024 .bf16) (ix3 b s k)
abbrev ysf (b : Fin 32) (s : Fin 8) (k : Fin 1024) : EReal := m ((c : Thread nD τ).loc main_arg1) (ix3 b s k)
abbrev wf (k : Fin 1024) (j : Fin 1024) : EReal := m ((c : Thread nD τ).loc main_arg2) (ix2 k j)
abbrev xpf (b : Fin 8) (s : Fin 2048) (k : Fin 1024) : EReal := m ((c : Thread nD τ).loc main_arg3) (ix3 b s k)
abbrev xsf (b : Fin 32) (s : Fin 8) (k : Fin 1024) : EReal := m ((c : Thread nD τ).loc main_arg4) (ix3 b s k)
abbrev gaf (b : Fin 40) (k : Fin 1024) : EReal := m ((c : Thread nD τ).loc main_arg5) (ix2 b k)
abbrev shf (b : Fin 40) (k : Fin 1024) : EReal := m ((c : Thread nD τ).loc main_arg6) (ix2 b k)
abbrev scf (b : Fin 40) (k : Fin 1024) : EReal := m ((c : Thread nD τ).loc main_arg7) (ix2 b k)
abbrev gf (k : Fin 1024) : EReal := m ((c : Thread nD τ).loc main_arg8) (ix1 k)
abbrev bf (k : Fin 1024) : EReal := m ((c : Thread nD τ).loc main_arg9) (ix1 k)

theorem laidOut_row (a : FVec Ideal S40x1024 .f32) (i : Fin 256) (k : Fin 1024) :
    laidOut a (ix3 (modOf t) i k) = Cert.Proj.rowV (fun b k => a (ix2 b k)) (row t i) k := by
  have ht := pt_lt t
  have h2 : (row t i).val = 256 * t.val + i.val := rfl
  rw [laidOut_at]
  unfold Cert.Proj.rowV
  by_cases h : t.val < 64
  · have h1 : (modOf t).val = t.val / 8 := if_pos h
    rw [dif_pos (by omega), dif_pos (by omega)]
    exact congrArg (fun b => a (ix2 b k)) (Fin.ext (by show (modOf t).val = (row t i).val / 2048; omega))
  · have h1 : (modOf t).val = 8 := if_neg h
    rw [dif_neg (by omega), dif_neg (by omega)]
    exact congrArg (fun b => a (ix2 b k)) (Fin.ext (by show 8 + i.val / 8 = 8 + ((row t i).val - 16384) / 8; omega))

theorem y_at (i : Fin 256) (k : Fin 1024) : ((iblk m c 0 t : FVec Ideal S256x1024 .bf16) (ix2 i k) : EReal) = Cert.Out.rowY (ypf m c) (ysf m c) (row t i) k := by
  refine Eq.trans ?_ ((congrFun (V_y m c) _).trans (stackedY_at _ _ (row t i) k))
  have e := (index_in t).1
  show V m c main_v3 (((cfg0.win 0).blk t).view.emb (ix2 i k)) = _
  refine congrArg (V m c main_v3) (funext fun a => Fin.ext ?_)
  match a with
  | ⟨0, _⟩ =>
    show win0_0.index t 0 * 256 + 1 * i.val = 256 * t.val + i.val
    rw [e.1]; omega
  | ⟨1, _⟩ =>
    show win0_0.index t 1 * 1024 + 1 * k.val = k.val
    rw [e.2]; omega

theorem w_at (k : Fin 1024) (j : Fin 1024) : ((iblk m c 1 t : FVec Ideal S1024x1024 .bf16) (ix2 k j) : EReal) = wf m c k j := by
  refine Eq.trans ?_ (congrFun (V_w m c) (ix2 k j))
  have e := (index_in t).2.1
  show V m c main_v10 (((cfg0.win 1).blk t).view.emb (ix2 k j)) = _
  refine congrArg (V m c main_v10) (funext fun a => Fin.ext ?_)
  match a with
  | ⟨0, _⟩ =>
    show win0_1.index t 0 * 1024 + 1 * k.val = k.val
    rw [e.1]; omega
  | ⟨1, _⟩ =>
    show win0_1.index t 1 * 1024 + 1 * j.val = j.val
    rw [e.2]; omega

theorem x_at (i : Fin 256) (k : Fin 1024) : (iblk m c 2 t : FVec Ideal S256x1024 .f32) (ix2 i k) = Cert.Proj.rowX (xpf m c) (xsf m c) (row t i) k := by
  refine Eq.trans ?_ ((congrFun (V_x m c) _).trans (stacked_at _ _ (row t i) k))
  have e := (index_in t).2.2.1
  show V m c main_v6 (((cfg0.win 2).blk t).view.emb (ix2 i k)) = _
  refine congrArg (V m c main_v6) (funext fun a => Fin.ext ?_)
  match a with
  | ⟨0, _⟩ =>
    show win0_2.index t 0 * 256 + 1 * i.val = 256 * t.val + i.val
    rw [e.1]; omega
  | ⟨1, _⟩ =>
    show win0_2.index t 1 * 1024 + 1 * k.val = k.val
    rw [e.2]; omega

theorem ga_at (i : Fin 256) (k : Fin 1024) : (iblk m c 3 t : FVec Ideal S1x256x1024 .f32) (ix3 0 i k)
    = Cert.Proj.rowV (gaf m c) (row t i) k := by
  refine Eq.trans ?_ ((congrFun (V_ga m c) _).trans (laidOut_row t _ i k))
  have e := (index_in t).2.2.2.1
  show V m c main_v18 (((cfg0.win 3).blk t).view.emb (ix3 0 i k)) = _
  refine congrArg (V m c main_v18) (funext fun a => Fin.ext ?_)
  match a with
  | ⟨0, _⟩ =>
    show win0_3.index t 0 * 1 + 1 * 0 = (modOf t).val
    rw [e.1]; show _ = (if t.val < 64 then t.val / 8 else 8); omega
  | ⟨1, _⟩ =>
    show win0_3.index t 1 * 256 + 1 * i.val = i.val
    rw [e.2.1]; omega
  | ⟨2, _⟩ =>
    show win0_3.index t 2 * 1024 + 1 * k.val = k.val
    rw [e.2.2]; omega

theorem g_at (k : Fin 1024) : (iblk m c 4 t : FVec Ideal S1x1024 .f32) (ix2 0 k) = gf m c k := by
  refine Eq.trans ?_ ((congrFun (V_g m c) (ix2 0 k)).trans (vector_at _ k))
  have e := (index_in t).2.2.2.2.1
  show V m c main_v36 (((cfg0.win 4).blk t).view.emb (ix2 0 k)) = _
  refine congrArg (V m c main_v36) (funext fun a => Fin.ext ?_)
  match a with
  | ⟨0, _⟩ =>
    show win0_4.index t 0 * 1 + 1 * 0 = 0
    rw [e.1]
  | ⟨1, _⟩ =>
    show win0_4.index t 1 * 1024 + 1 * k.val = k.val
    rw [e.2]; omega

theorem b_at (k : Fin 1024) : (iblk m c 5 t : FVec Ideal S1x1024 .f32) (ix2 0 k) = bf m c k := by
  refine Eq.trans ?_ ((congrFun (V_b m c) (ix2 0 k)).trans (vector_at _ k))
  have e := (index_in t).2.2.2.2.2.1
  show V m c main_v37 (((cfg0.win 5).blk t).view.emb (ix2 0 k)) = _
  refine congrArg (V m c main_v37) (funext fun a => Fin.ext ?_)
  match a with
  | ⟨0, _⟩ =>
    show win0_5.index t 0 * 1 + 1 * 0 = 0
    rw [e.1]
  | ⟨1, _⟩ =>
    show win0_5.index t 1 * 1024 + 1 * k.val = k.val
    rw [e.2]; omega

theorem sh_at (i : Fin 256) (k : Fin 1024) : (iblk m c 6 t : FVec Ideal S1x256x1024 .f32) (ix3 0 i k)
    = Cert.Proj.rowV (shf m c) (row t i) k := by
  refine Eq.trans ?_ ((congrFun (V_sh m c) _).trans (laidOut_row t _ i k))
  have e := (index_in t).2.2.2.2.2.2.1
  show V m c main_v26 (((cfg0.win 6).blk t).view.emb (ix3 0 i k)) = _
  refine congrArg (V m c main_v26) (funext fun a => Fin.ext ?_)
  match a with
  | ⟨0, _⟩ =>
    show win0_6.index t 0 * 1 + 1 * 0 = (modOf t).val
    rw [e.1]; show _ = (if t.val < 64 then t.val / 8 else 8); omega
  | ⟨1, _⟩ =>
    show win0_6.index t 1 * 256 + 1 * i.val = i.val
    rw [e.2.1]; omega
  | ⟨2, _⟩ =>
    show win0_6.index t 2 * 1024 + 1 * k.val = k.val
    rw [e.2.2]; omega

theorem sc_at (i : Fin 256) (k : Fin 1024) : (iblk m c 7 t : FVec Ideal S1x256x1024 .f32) (ix3 0 i k)
    = Cert.Proj.rowV (scf m c) (row t i) k := by
  refine Eq.trans ?_ ((congrFun (V_sc m c) _).trans (laidOut_row t _ i k))
  have e := (index_in t).2.2.2.2.2.2.2
  show V m c main_v34 (((cfg0.win 7).blk t).view.emb (ix3 0 i k)) = _
  refine congrArg (V m c main_v34) (funext fun a => Fin.ext ?_)
  match a with
  | ⟨0, _⟩ =>
    show win0_7.index t 0 * 1 + 1 * 0 = (modOf t).val
    rw [e.1]; show _ = (if t.val < 64 then t.val / 8 else 8); omega
  | ⟨1, _⟩ =>
    show win0_7.index t 1 * 256 + 1 * i.val = i.val
    rw [e.2.1]; omega
  | ⟨2, _⟩ =>
    show win0_7.index t 2 * 1024 + 1 * k.val = k.val
    rw [e.2.2]; omega

theorem new_at (i : Fin 256) (k : Fin 1024) :
    blockNew (iblk m c 0 t) (iblk m c 1 t) (iblk m c 2 t) (iblk m c 3 t) (iblk m c 4 t) (iblk m c 5 t) i k
    = Cert.Out.newRow (ypf m c) (ysf m c) (wf m c) (xpf m c) (xsf m c) (gaf m c) (gf m c) (bf m c) (row t i) k := by
  unfold blockNew Cert.Out.newRow
  simp only [y_at, w_at, x_at, ga_at, g_at, b_at]

theorem left_new_at (i : Fin 256) (k : Fin 1024) : out0_10 (iblk m c 0 t) (iblk m c 1 t) (iblk m c 2 t) (iblk m c 3 t) (iblk m c 4 t) (iblk m c 5 t) (iblk m c 6 t) (iblk m c 7 t) (iblk m c 8 t) (iblk m c 9 t) (ix2 i k)
    = Cert.Out.newRow (ypf m c) (ysf m c) (wf m c) (xpf m c) (xsf m c) (gaf m c) (gf m c) (bf m c) (row t i) k := by
  rw [left_new, new_at]

theorem left_expert_at (i : Fin 256) (k : Fin 1024) : out0_11 (iblk m c 0 t) (iblk m c 1 t) (iblk m c 2 t) (iblk m c 3 t) (iblk m c 4 t) (iblk m c 5 t) (iblk m c 6 t) (iblk m c 7 t) (iblk m c 8 t) (iblk m c 9 t) (ix2 i k)
    = Cert.Out.expertRow (ypf m c) (ysf m c) (wf m c) (xpf m c) (xsf m c) (gaf m c) (shf m c) (scf m c) (gf m c) (bf m c) (row t i) k := by
  rw [left_expert]
  unfold Cert.Out.expertRow
  simp only [sh_at, sc_at]
  exact congrArg (fun f => Cert.Out.modulated f _ _ k) (funext fun k => new_at m c t i k)

end Cert.AttnOutIdeal.Rows
-- ==== Proof.AttnOut.RefOut.lean ====
module

public import proofs.«01_k».proof.Proof.Gen.AttnOutReferenceIdeal.Run
public import proofs.«01_k».proof.Proof.RetOut.Spec
public import Idealize.ShloMosaic.Lib.Pointwise

/-! The reference's two results read at an index. -/

@[expose] public section

noncomputable section

namespace Cert.AttnOutReferenceIdeal.Rows

open Idealize.ShloMosaic Idealize.SL.Sem Cert.AttnOutReferenceIdeal Cert.AttnOutReferenceIdeal.Gen Idealize.ShloMosaic.TcCoe

/-- The prompts' residual. -/
def residP (y : FVec Ideal S8x2048x1024 .bf16) (w : FVec Ideal S1024x1024 .f32) (x : FVec Ideal S8x2048x1024 .f32) (ga : FVec Ideal S40x1024 .f32) : FVec Ideal S8x2048x1024 .f32 :=
  addf (mulf (broadcastInDim S8x2048x1024 ![] bcast_S_S8x2048x1024 (constant S_ .f32 0x3FB504F3#32)) x)
    (mulf (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 0] ga slices_S40x1024_S8x1024_0_0))))
      (Host.dotGeneral dot_S8x2048x1024_S1024x1024_S8x2048x1024_2_0_01_1_n_n none (extf .f32 y bitsLt_bf16_f32) w))

/-- The prompts' rows less their means. -/
def centredP (r : FVec Ideal S8x2048x1024 .f32) : FVec Ideal S8x2048x1024 .f32 :=
  subf r (broadcastInDim S8x2048x1024 ![0, 1, 2] bcast_S8x2048x1_S8x2048x1024_0_1_2 (Host.divf (broadcastInDim S8x2048x1 ![0, 1] bcast_S8x2048_S8x2048x1_0_1 (Host.reduceAdd r (constant S_ .f32 0x00000000#32) reducesTo_S8x2048x1024_S8x2048_d2 h_S_)) (broadcastInDim S8x2048x1 ![] bcast_S_S8x2048x1 (constant S_ .f32 0x44800000#32))))

/-- The prompts' rows normed, given the rows less their means. -/
def scaledP (d : FVec Ideal S8x2048x1024 .f32) (g b : FVec Ideal S1024 .f32) : FVec Ideal S8x2048x1024 .f32 :=
  addf (mulf (mulf d (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf d d) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x3727C5AC#32))))))
    (broadcastInDim S8x2048x1024 ![0, 1, 2] bcast_S1x1x1024_S8x2048x1024_0_1_2 (broadcastInDim S1x1x1024 ![2] bcast_S1024_S1x1x1024_2 g))) (broadcastInDim S8x2048x1024 ![0, 1, 2] bcast_S1x1x1024_S8x2048x1024_0_1_2 (broadcastInDim S1x1x1024 ![2] bcast_S1024_S1x1x1024_2 b))

/-- The prompts' rows scaled and shifted. -/
def modP (x : FVec Ideal S8x2048x1024 .f32) (sh sc : FVec Ideal S40x1024 .f32) : FVec Ideal S8x2048x1024 .f32 :=
  addf (mulf x (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (extractStridedSlice S8x1024 ![0, 0] sc slices_S40x1024_S8x1024_0_0)))))
    (broadcastInDim S8x2048x1024 ![0, 1, 2] bcast_S8x1x1024_S8x2048x1024_0_1_2 (broadcastInDim S8x1x1024 ![0, 2] bcast_S8x1024_S8x1x1024_0_2 (extractStridedSlice S8x1024 ![0, 0] sh slices_S40x1024_S8x1024_0_0)))

/-- The sample's residual. -/
def residS (y : FVec Ideal S32x8x1024 .f32) (w : FVec Ideal S1024x1024 .f32) (x : FVec Ideal S32x8x1024 .f32) (ga : FVec Ideal S40x1024 .f32) : FVec Ideal S32x8x1024 .f32 :=
  addf (mulf (broadcastInDim S32x8x1024 ![] bcast_S_S32x8x1024 (constant S_ .f32 0x3FB504F3#32)) x)
    (mulf (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![8, 0] ga slices_S40x1024_S32x1024_8_0))))
      (Host.dotGeneral dot_S32x8x1024_S1024x1024_S32x8x1024_2_0_01_1_n_n none y w))

/-- The sample's rows less their means. -/
def centredS (r : FVec Ideal S32x8x1024 .f32) : FVec Ideal S32x8x1024 .f32 :=
  subf r (broadcastInDim S32x8x1024 ![0, 1, 2] bcast_S32x8x1_S32x8x1024_0_1_2 (Host.divf (broadcastInDim S32x8x1 ![0, 1] bcast_S32x8_S32x8x1_0_1 (Host.reduceAdd r (constant S_ .f32 0x00000000#32) reducesTo_S32x8x1024_S32x8_d2 h_S_)) (broadcastInDim S32x8x1 ![] bcast_S_S32x8x1 (constant S_ .f32 0x44800000#32))))

/-- The sample's rows normed, given the rows less their means. -/
def scaledS (d : FVec Ideal S32x8x1024 .f32) (g b : FVec Ideal S1024 .f32) : FVec Ideal S32x8x1024 .f32 :=
  addf (mulf (mulf d (broadcastInDim S32x8x1024 ![0, 1, 2] bcast_S32x8x1_S32x8x1024_0_1_2 (Host.rsqrt (addf (Host.divf (broadcastInDim S32x8x1 ![0, 1] bcast_S32x8_S32x8x1_0_1 (Host.reduceAdd (mulf d d) (constant S_ .f32 0x00000000#32) reducesTo_S32x8x1024_S32x8_d2 h_S_)) (broadcastInDim S32x8x1 ![] bcast_S_S32x8x1 (constant S_ .f32 0x44800000#32))) (broadcastInDim S32x8x1 ![] bcast_S_S32x8x1 (constant S_ .f32 0x3727C5AC#32))))))
    (broadcastInDim S32x8x1024 ![0, 1, 2] bcast_S1x1x1024_S32x8x1024_0_1_2 (broadcastInDim S1x1x1024 ![2] bcast_S1024_S1x1x1024_2 g))) (broadcastInDim S32x8x1024 ![0, 1, 2] bcast_S1x1x1024_S32x8x1024_0_1_2 (broadcastInDim S1x1x1024 ![2] bcast_S1024_S1x1x1024_2 b))

/-- The sample's rows scaled and shifted. -/
def modS (x : FVec Ideal S32x8x1024 .f32) (sh sc : FVec Ideal S40x1024 .f32) : FVec Ideal S32x8x1024 .f32 :=
  addf (mulf x (broadcastInDim S32x8x1024 ![0, 1, 2] bcast_S32x1x1024_S32x8x1024_0_1_2 (addf (broadcastInDim S32x1x1024 ![] bcast_S_S32x1x1024 (constant S_ .f32 0x3F800000#32)) (broadcastInDim S32x1x1024 ![0, 2] bcast_S32x1024_S32x1x1024_0_2 (extractStridedSlice S32x1024 ![8, 0] sc slices_S40x1024_S32x1024_8_0)))))
    (broadcastInDim S32x8x1024 ![0, 1, 2] bcast_S32x1x1024_S32x8x1024_0_1_2 (broadcastInDim S32x1x1024 ![0, 2] bcast_S32x1024_S32x1x1024_0_2 (extractStridedSlice S32x1024 ![8, 0] sh slices_S40x1024_S32x1024_8_0)))

/-- The two batches one under the other. -/
def stackOf (a : FVec Ideal S8x2048x1024 .f32) (b : FVec Ideal S32x8x1024 .f32) : FVec Ideal S16640x1024 .f32 :=
  concatenate S16640x1024 0 [⟨S16384x1024, (shapeCast _ a shapeCasts_S8x2048x1024_S16384x1024)⟩, ⟨S256x1024, (shapeCast _ b shapeCasts_S32x8x1024_S256x1024)⟩] concatenates_S16384x1024_S256x1024_S16640x1024_d0

theorem residP_at (y : FVec Ideal S8x2048x1024 .bf16) (w : FVec Ideal S1024x1024 .f32) (x : FVec Ideal S8x2048x1024 .f32) (ga : FVec Ideal S40x1024 .f32) (b : Fin 8) (s : Fin 2048) (k : Fin 1024) :
    residP y w x ga (ix3 b s k) = Cert.Out.resid (fun j : Fin 1024 => (y (ix3 b s j) : EReal)) (fun j k => w (ix2 j k)) (fun k => x (ix3 b s k)) (fun k => ga (ix2 ⟨b.val, by omega⟩ k)) k := by
  unfold residP Cert.Out.resid
  pointwise

theorem centredP_at (r : FVec Ideal S8x2048x1024 .f32) (b : Fin 8) (s : Fin 2048) (k : Fin 1024) :
    centredP r (ix3 b s k) = Cert.Out.centred (fun k => r (ix3 b s k)) k := by
  unfold centredP Cert.Out.centred Cert.Out.mean
  pointwise

theorem scaledP_at (d : FVec Ideal S8x2048x1024 .f32) (g b : FVec Ideal S1024 .f32) (p : Fin 8) (s : Fin 2048) (k : Fin 1024) :
    scaledP d g b (ix3 p s k) = (d (ix3 p s k) * Ideal.rsqrt (Cert.Out.mean (fun j => d (ix3 p s j) * d (ix3 p s j)) + Ideal.ofBits .f32 0x3727C5AC#32) * g (ix1 k) + b (ix1 k) : EReal) := by
  unfold scaledP Cert.Out.mean
  pointwise

theorem modP_at (x : FVec Ideal S8x2048x1024 .f32) (sh sc : FVec Ideal S40x1024 .f32) (b : Fin 8) (s : Fin 2048) (k : Fin 1024) :
    modP x sh sc (ix3 b s k) = Cert.Out.modulated (fun k => x (ix3 b s k)) (fun k => sh (ix2 ⟨b.val, by omega⟩ k)) (fun k => sc (ix2 ⟨b.val, by omega⟩ k)) k := by
  unfold modP Cert.Out.modulated
  pointwise

theorem residS_at (y : FVec Ideal S32x8x1024 .f32) (w : FVec Ideal S1024x1024 .f32) (x : FVec Ideal S32x8x1024 .f32) (ga : FVec Ideal S40x1024 .f32) (b : Fin 32) (s : Fin 8) (k : Fin 1024) :
    residS y w x ga (ix3 b s k) = Cert.Out.resid (fun j : Fin 1024 => (y (ix3 b s j) : EReal)) (fun j k => w (ix2 j k)) (fun k => x (ix3 b s k)) (fun k => ga (ix2 ⟨8 + b.val, by omega⟩ k)) k := by
  unfold residS Cert.Out.resid
  pointwise

theorem centredS_at (r : FVec Ideal S32x8x1024 .f32) (b : Fin 32) (s : Fin 8) (k : Fin 1024) :
    centredS r (ix3 b s k) = Cert.Out.centred (fun k => r (ix3 b s k)) k := by
  unfold centredS Cert.Out.centred Cert.Out.mean
  pointwise

theorem scaledS_at (d : FVec Ideal S32x8x1024 .f32) (g b : FVec Ideal S1024 .f32) (p : Fin 32) (s : Fin 8) (k : Fin 1024) :
    scaledS d g b (ix3 p s k) = (d (ix3 p s k) * Ideal.rsqrt (Cert.Out.mean (fun j => d (ix3 p s j) * d (ix3 p s j)) + Ideal.ofBits .f32 0x3727C5AC#32) * g (ix1 k) + b (ix1 k) : EReal) := by
  unfold scaledS Cert.Out.mean
  pointwise

theorem modS_at (x : FVec Ideal S32x8x1024 .f32) (sh sc : FVec Ideal S40x1024 .f32) (b : Fin 32) (s : Fin 8) (k : Fin 1024) :
    modS x sh sc (ix3 b s k) = Cert.Out.modulated (fun k => x (ix3 b s k)) (fun k => sh (ix2 ⟨8 + b.val, by omega⟩ k)) (fun k => sc (ix2 ⟨8 + b.val, by omega⟩ k)) k := by
  unfold modS Cert.Out.modulated
  pointwise

theorem stackOf_at (a : FVec Ideal S8x2048x1024 .f32) (b : FVec Ideal S32x8x1024 .f32) (r : Fin 16640) (c : Fin 1024) :
    stackOf a b (ix2 r c) = if h : r.val < 16384 then a (ix3 ⟨r.val / 2048, by omega⟩ ⟨r.val % 2048, by omega⟩ c)
      else b (ix3 ⟨(r.val - 16384) / 8, by omega⟩ ⟨(r.val - 16384) % 8, by omega⟩ c) := by
  unfold stackOf
  pointwise

theorem normedP_at (y : FVec Ideal S8x2048x1024 .bf16) (w : FVec Ideal S1024x1024 .f32) (x : FVec Ideal S8x2048x1024 .f32) (ga : FVec Ideal S40x1024 .f32) (g b : FVec Ideal S1024 .f32) (p : Fin 8) (s : Fin 2048) (k : Fin 1024) :
    scaledP (centredP (residP y w x ga)) g b (ix3 p s k)
      = Cert.Out.normed (Cert.Out.resid (fun j : Fin 1024 => (y (ix3 p s j) : EReal)) (fun j k => w (ix2 j k)) (fun k => x (ix3 p s k)) (fun k => ga (ix2 ⟨p.val, by omega⟩ k))) (fun k => g (ix1 k)) (fun k => b (ix1 k)) k := by
  rw [scaledP_at]
  simp only [centredP_at, residP_at]
  rfl

theorem normedS_at (y : FVec Ideal S32x8x1024 .f32) (w : FVec Ideal S1024x1024 .f32) (x : FVec Ideal S32x8x1024 .f32) (ga : FVec Ideal S40x1024 .f32) (g b : FVec Ideal S1024 .f32) (p : Fin 32) (s : Fin 8) (k : Fin 1024) :
    scaledS (centredS (residS y w x ga)) g b (ix3 p s k)
      = Cert.Out.normed (Cert.Out.resid (fun j : Fin 1024 => (y (ix3 p s j) : EReal)) (fun j k => w (ix2 j k)) (fun k => x (ix3 p s k)) (fun k => ga (ix2 ⟨8 + p.val, by omega⟩ k))) (fun k => g (ix1 k)) (fun k => b (ix1 k)) k := by
  rw [scaledS_at]
  simp only [centredS_at, residS_at]
  rfl

variable (m : (ℓ : Loc nD τ sig) → Buf (Elt Ideal) ℓ) (c : Dev nD)

/-- The reference's arguments, as functions of plain indices. -/
abbrev yp (b : Fin 8) (s : Fin 2048) (k : Fin 1024) : EReal := (m ((c.tc : Thread nD τ).loc main_arg0) : FVec Ideal S8x2048x1024 .bf16) (ix3 b s k)
abbrev ys (b : Fin 32) (s : Fin 8) (k : Fin 1024) : EReal := (m ((c.tc : Thread nD τ).loc main_arg1) : FVec Ideal S32x8x1024 .f32) (ix3 b s k)
abbrev w (k : Fin 1024) (j : Fin 1024) : EReal := (m ((c.tc : Thread nD τ).loc main_arg2) : FVec Ideal S1024x1024 .f32) (ix2 k j)
abbrev xp (b : Fin 8) (s : Fin 2048) (k : Fin 1024) : EReal := (m ((c.tc : Thread nD τ).loc main_arg3) : FVec Ideal S8x2048x1024 .f32) (ix3 b s k)
abbrev xs (b : Fin 32) (s : Fin 8) (k : Fin 1024) : EReal := (m ((c.tc : Thread nD τ).loc main_arg4) : FVec Ideal S32x8x1024 .f32) (ix3 b s k)
abbrev ga (b : Fin 40) (k : Fin 1024) : EReal := (m ((c.tc : Thread nD τ).loc main_arg5) : FVec Ideal S40x1024 .f32) (ix2 b k)
abbrev sh (b : Fin 40) (k : Fin 1024) : EReal := (m ((c.tc : Thread nD τ).loc main_arg6) : FVec Ideal S40x1024 .f32) (ix2 b k)
abbrev sc (b : Fin 40) (k : Fin 1024) : EReal := (m ((c.tc : Thread nD τ).loc main_arg7) : FVec Ideal S40x1024 .f32) (ix2 b k)
abbrev lg (k : Fin 1024) : EReal := (m ((c.tc : Thread nD τ).loc main_arg8) : FVec Ideal S1024 .f32) (ix1 k)
abbrev lb (k : Fin 1024) : EReal := (m ((c.tc : Thread nD τ).loc main_arg9) : FVec Ideal S1024 .f32) (ix1 k)

/-- The prompts' and the sample's new rows. -/
abbrev newP : FVec Ideal S8x2048x1024 .f32 :=
  scaledP (centredP (residP (m ((c.tc : Thread nD τ).loc main_arg0)) (m ((c.tc : Thread nD τ).loc main_arg2)) (m ((c.tc : Thread nD τ).loc main_arg3)) (m ((c.tc : Thread nD τ).loc main_arg5)))) (m ((c.tc : Thread nD τ).loc main_arg8)) (m ((c.tc : Thread nD τ).loc main_arg9))
abbrev newS : FVec Ideal S32x8x1024 .f32 :=
  scaledS (centredS (residS (m ((c.tc : Thread nD τ).loc main_arg1)) (m ((c.tc : Thread nD τ).loc main_arg2)) (m ((c.tc : Thread nD τ).loc main_arg4)) (m ((c.tc : Thread nD τ).loc main_arg5)))) (m ((c.tc : Thread nD τ).loc main_arg8)) (m ((c.tc : Thread nD τ).loc main_arg9))

theorem res_new : (Value.res_out0 m c : FVec Ideal S16640x1024 .f32) = stackOf (newP m c) (newS m c) := by
  unfold Value.res_out0 Value.res_main_v91
  rfl

theorem res_expert : (Value.res_out1 m c : FVec Ideal S16640x1024 .f32)
    = stackOf (modP (newP m c) (m ((c.tc : Thread nD τ).loc main_arg6)) (m ((c.tc : Thread nD τ).loc main_arg7))) (modS (newS m c) (m ((c.tc : Thread nD τ).loc main_arg6)) (m ((c.tc : Thread nD τ).loc main_arg7))) := by
  unfold Value.res_out1 Value.res_main_v94
  rfl

theorem new_at (r : Fin 16640) (k : Fin 1024) : (Value.res_out0 m c : FVec Ideal S16640x1024 .f32) (ix2 r k)
    = Cert.Out.newRow (yp m c) (ys m c) (w m c) (xp m c) (xs m c) (ga m c) (lg m c) (lb m c) r k := by
  rw [res_new, stackOf_at]
  unfold Cert.Out.newRow
  by_cases h : r.val < 16384
  · rw [dif_pos h]
    refine (normedP_at _ _ _ _ _ _ _ _ _).trans ?_
    have ey : Cert.Out.rowY (yp m c) (ys m c) r = fun k => yp m c ⟨r.val / 2048, by omega⟩ ⟨r.val % 2048, by omega⟩ k := funext fun k => dif_pos h
    have ex : Cert.Proj.rowX (xp m c) (xs m c) r = fun k => xp m c ⟨r.val / 2048, by omega⟩ ⟨r.val % 2048, by omega⟩ k := funext fun k => dif_pos h
    have eg : Cert.Proj.rowV (ga m c) r = fun k => ga m c ⟨r.val / 2048, by omega⟩ k := funext fun k => dif_pos h
    rw [ey, ex, eg]
  · rw [dif_neg h]
    refine (normedS_at _ _ _ _ _ _ _ _ _).trans ?_
    have ey : Cert.Out.rowY (yp m c) (ys m c) r = fun k => ys m c ⟨(r.val - 16384) / 8, by omega⟩ ⟨(r.val - 16384) % 8, by omega⟩ k := funext fun k => dif_neg h
    have ex : Cert.Proj.rowX (xp m c) (xs m c) r = fun k => xs m c ⟨(r.val - 16384) / 8, by omega⟩ ⟨(r.val - 16384) % 8, by omega⟩ k := funext fun k => dif_neg h
    have eg : Cert.Proj.rowV (ga m c) r = fun k => ga m c ⟨8 + (r.val - 16384) / 8, by omega⟩ k := funext fun k => dif_neg h
    rw [ey, ex, eg]

theorem expert_at (r : Fin 16640) (k : Fin 1024) : (Value.res_out1 m c : FVec Ideal S16640x1024 .f32) (ix2 r k)
    = Cert.Out.expertRow (yp m c) (ys m c) (w m c) (xp m c) (xs m c) (ga m c) (sh m c) (sc m c) (lg m c) (lb m c) r k := by
  have hnew : Cert.Out.newRow (yp m c) (ys m c) (w m c) (xp m c) (xs m c) (ga m c) (lg m c) (lb m c) r
      = fun k => stackOf (newP m c) (newS m c) (ix2 r k) := funext fun k => by rw [← new_at, res_new]
  unfold Cert.Out.expertRow
  rw [res_expert, stackOf_at, hnew]
  simp only [stackOf_at]
  by_cases h : r.val < 16384
  · have eh : Cert.Proj.rowV (sh m c) r = fun k => sh m c ⟨r.val / 2048, by omega⟩ k := funext fun k => dif_pos h
    have ec : Cert.Proj.rowV (sc m c) r = fun k => sc m c ⟨r.val / 2048, by omega⟩ k := funext fun k => dif_pos h
    simp only [dif_pos h]
    rw [modP_at, eh, ec]
  · have eh : Cert.Proj.rowV (sh m c) r = fun k => sh m c ⟨8 + (r.val - 16384) / 8, by omega⟩ k := funext fun k => dif_neg h
    have ec : Cert.Proj.rowV (sc m c) r = fun k => sc m c ⟨8 + (r.val - 16384) / 8, by omega⟩ k := funext fun k => dif_neg h
    simp only [dif_neg h]
    rw [modS_at, eh, ec]

end Cert.AttnOutReferenceIdeal.Rows
-- ==== Proof.AttnOut.Claims.lean ====
module

public import proofs.«01_k».proof.Defs
public import proofs.«01_k».proof.Proof.AttnOut.Points
public import proofs.«01_k».proof.Proof.AttnOut.RefOut
public import proofs.«01_k».proof.Proof.Gen.AttnOutIdeal.Value
public import proofs.«01_k».proof.Proof.Gen.AttnOut.Frame
public import Idealize.ShloMosaic.Adequacy
public import Idealize.ShloMosaic.Init

/-! The two result arrays of the output projection call, and its claims. -/

@[expose] public section

noncomputable section

namespace Cert.AttnOutIdeal.Rows

open Idealize.ShloMosaic Idealize.ShloMosaic.TcCoe Idealize.SL.Sem Cert.AttnOutIdeal Cert.AttnOutIdeal.Gen
open Idealize.ShloMosaic.Pipeline (Dat)

variable (m : (ℓ : Loc nD τ sig) → Buf (Elt Ideal) ℓ) (c : Dev nD)

/-- The new rows of the arguments. -/
def resultN : FVec Ideal S16640x1024 .f32 := fun y =>
  Cert.Out.newRow (ypf m c) (ysf m c) (wf m c) (xpf m c) (xsf m c) (gaf m c) (gf m c) (bf m c) ⟨(y 0).val, (y 0).isLt⟩ ⟨(y 1).val, (y 1).isLt⟩

theorem flushed_N (t : Fin cfg0.N) : (dats m 0 c).flushed 10 t = ((cfg0.win 10).blk t).view.read (Elt Ideal) (resultN m c) := by
  rw [Cert.AttnOutIdeal.Value.flushed10]
  funext j
  obtain ⟨i, e, rfl⟩ : ∃ (i : Fin 256) (e : Fin 1024), j = ix2 i e := ⟨j 0, j 1, funext fun a => match a with | ⟨0, _⟩ => rfl | ⟨1, _⟩ => rfl⟩
  refine (left_new_at m c t i e).trans ?_
  show _ = resultN m c (((cfg0.win 10).blk t).view.emb (ix2 i e))
  have e' := (index_out t).1
  have hemb : ((cfg0.win 10).blk t).view.emb (ix2 i e) = (ix2 (row t i) e : S16640x1024.Idx) := by
    refine funext fun a => Fin.ext ?_
    match a with
    | ⟨0, _⟩ =>
      show win0_10.index t 0 * 256 + 1 * i.val = 256 * t.val + i.val
      rw [e'.1]; omega
    | ⟨1, _⟩ =>
      show win0_10.index t 1 * 1024 + 1 * e.val = e.val
      rw [e'.2]; omega
  rw [hemb]
  rfl

theorem final_N : (dats m 0 c).arrAt 10 cfg0.N = resultN m c :=
  (dats m 0 c).arrAt_eq_of_cover 10 (resultN m c) (fun t _ => flushed_N m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_10 _, ?_⟩
    have e' := (index_out ⟨(i 0 : Nat) / 256, ht⟩).1
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v38_0).slice (win0_10.rect t)).set
    rw [View.set_slice_whole, Rect.mem_set_unit]
    intro a
    match a with
    | ⟨0, _⟩ =>
      show win0_10.index t 0 * 256 ≤ (i 0 : Nat) ∧ (i 0 : Nat) < win0_10.index t 0 * 256 + 256
      rw [e'.1]; omega
    | ⟨1, _⟩ =>
      show win0_10.index t 1 * 1024 ≤ (i 1 : Nat) ∧ (i 1 : Nat) < win0_10.index t 1 * 1024 + 1024
      rw [e'.2]; omega

/-- The rows the experts read. -/
def resultE : FVec Ideal S16640x1024 .f32 := fun y =>
  Cert.Out.expertRow (ypf m c) (ysf m c) (wf m c) (xpf m c) (xsf m c) (gaf m c) (shf m c) (scf m c) (gf m c) (bf m c) ⟨(y 0).val, (y 0).isLt⟩ ⟨(y 1).val, (y 1).isLt⟩

theorem flushed_E (t : Fin cfg0.N) : (dats m 0 c).flushed 11 t = ((cfg0.win 11).blk t).view.read (Elt Ideal) (resultE m c) := by
  rw [Cert.AttnOutIdeal.Value.flushed11]
  funext j
  obtain ⟨i, e, rfl⟩ : ∃ (i : Fin 256) (e : Fin 1024), j = ix2 i e := ⟨j 0, j 1, funext fun a => match a with | ⟨0, _⟩ => rfl | ⟨1, _⟩ => rfl⟩
  refine (left_expert_at m c t i e).trans ?_
  show _ = resultE m c (((cfg0.win 11).blk t).view.emb (ix2 i e))
  have e' := (index_out t).2
  have hemb : ((cfg0.win 11).blk t).view.emb (ix2 i e) = (ix2 (row t i) e : S16640x1024.Idx) := by
    refine funext fun a => Fin.ext ?_
    match a with
    | ⟨0, _⟩ =>
      show win0_11.index t 0 * 256 + 1 * i.val = 256 * t.val + i.val
      rw [e'.1]; omega
    | ⟨1, _⟩ =>
      show win0_11.index t 1 * 1024 + 1 * e.val = e.val
      rw [e'.2]; omega
  rw [hemb]
  rfl

theorem final_E : (dats m 0 c).arrAt 11 cfg0.N = resultE m c :=
  (dats m 0 c).arrAt_eq_of_cover 11 (resultE m c) (fun t _ => flushed_E m c t) fun i => by
    have h0 : (i 0 : Nat) < 16640 := (i 0).isLt
    have h1 : (i 1 : Nat) < 1024 := (i 1).isLt
    have ht : (i 0 : Nat) / 256 < cfg0.N := by rw [show cfg0.N = 65 from N_0]; omega
    refine ⟨⟨(i 0 : Nat) / 256, ht⟩, flush0_11 _, ?_⟩
    have e' := (index_out ⟨(i 0 : Nat) / 256, ht⟩).2
    have ev : (⟨(i 0 : Nat) / 256, ht⟩ : Fin cfg0.N).val = (i 0 : Nat) / 256 := rfl
    rw [ev] at e'
    generalize (⟨(i 0 : Nat) / 256, ht⟩ : Fin cfg0.N) = t at e'
    show i ∈ ((View.whole main_v38_1).slice (win0_11.rect t)).set
    rw [View.set_slice_whole, Rect.mem_set_unit]
    intro a
    match a with
    | ⟨0, _⟩ =>
      show win0_11.index t 0 * 256 ≤ (i 0 : Nat) ∧ (i 0 : Nat) < win0_11.index t 0 * 256 + 256
      rw [e'.1]; omega
    | ⟨1, _⟩ =>
      show win0_11.index t 1 * 1024 ≤ (i 1 : Nat) ∧ (i 1 : Nat) < win0_11.index t 1 * 1024 + 1024
      rw [e'.2]; omega

end Cert.AttnOutIdeal.Rows

namespace Cert.AttnOutClaims

open Idealize.ShloMosaic Idealize.ShloMosaic.TcCoe Idealize.SL.Sem

/-- The call's frame. -/
theorem frame_kernel : Cert.quiescent_AttnOut := fun m ρ _ => Cert.AttnOut.Gen.frame m ρ

/-- The ideal call's frame. -/
theorem frame_ideal : Cert.quiescent_AttnOutIdeal := fun m ρ _ => Cert.AttnOutIdeal.Gen.frame m ρ

/-- The reference's frame. -/
theorem frame_reference : Cert.quiescent_AttnOutReferenceIdeal := fun m ρ _ =>
  (θ_run Cert.AttnOutReferenceIdeal.defs _ _).mono (fun r h => ⟨fun c => (h c).2.2, sem_eq_zero_of_no_sems (by decide) r.2⟩)
    (Cert.AttnOutReferenceIdeal.Value.run m ρ)

/-- The call's first two results are the reference's. -/
theorem results_agree : Cert.algebraic_AttnOutIdeal_AttnOutReferenceIdeal := by
  intro m ρ m' ρ' _ hargs
  refine ⟨fun c => Cert.AttnOutIdeal.Rows.resultN m c, fun c => Cert.AttnOutIdeal.Rows.resultE m c, ?_, ?_⟩
  · exact (θ_run Cert.AttnOutIdeal.defs _ _).mono (fun _ h c => ⟨(h c).1.trans (Cert.AttnOutIdeal.Rows.final_N m c), (h c).2.1.trans (Cert.AttnOutIdeal.Rows.final_E m c), (h c).2.2.2.2⟩) (Cert.AttnOutIdeal.Value.run_blocks m ρ)
  · refine (θ_run Cert.AttnOutReferenceIdeal.defs _ _).mono (fun _ h c => ?_) (Cert.AttnOutReferenceIdeal.Value.run m' ρ')
    obtain ⟨e0, e1, e2, e3, e4, e5, e6, e7, e8, e9, e10, e11⟩ := hargs c
    have f0 : Cert.AttnOutReferenceIdeal.Rows.yp m' c = Cert.AttnOutIdeal.Rows.ypf m c := by
      funext b s k; exact congrFun e0 (ix3 b s k)
    have f1 : Cert.AttnOutReferenceIdeal.Rows.ys m' c = Cert.AttnOutIdeal.Rows.ysf m c := by
      funext b s k; exact congrFun e1 (ix3 b s k)
    have f2 : Cert.AttnOutReferenceIdeal.Rows.w m' c = Cert.AttnOutIdeal.Rows.wf m c := by
      funext k j; exact congrFun e2 (ix2 k j)
    have f3 : Cert.AttnOutReferenceIdeal.Rows.xp m' c = Cert.AttnOutIdeal.Rows.xpf m c := by
      funext b s k; exact congrFun e3 (ix3 b s k)
    have f4 : Cert.AttnOutReferenceIdeal.Rows.xs m' c = Cert.AttnOutIdeal.Rows.xsf m c := by
      funext b s k; exact congrFun e4 (ix3 b s k)
    have f5 : Cert.AttnOutReferenceIdeal.Rows.ga m' c = Cert.AttnOutIdeal.Rows.gaf m c := by
      funext b k; exact congrFun e5 (ix2 b k)
    have f6 : Cert.AttnOutReferenceIdeal.Rows.sh m' c = Cert.AttnOutIdeal.Rows.shf m c := by
      funext b k; exact congrFun e6 (ix2 b k)
    have f7 : Cert.AttnOutReferenceIdeal.Rows.sc m' c = Cert.AttnOutIdeal.Rows.scf m c := by
      funext b k; exact congrFun e7 (ix2 b k)
    have f8 : Cert.AttnOutReferenceIdeal.Rows.lg m' c = Cert.AttnOutIdeal.Rows.gf m c := by
      funext k; exact congrFun e8 (ix1 k)
    have f9 : Cert.AttnOutReferenceIdeal.Rows.lb m' c = Cert.AttnOutIdeal.Rows.bf m c := by
      funext k; exact congrFun e9 (ix1 k)
    refine ⟨(h c).1.trans ?_, (h c).2.1.trans ?_, (h c).2.2⟩
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.AttnOutReferenceIdeal.Rows.new_at m' c r d).trans ?_
      rw [f0, f1, f2, f3, f4, f5, f8, f9]
      rfl
    · funext i
      obtain ⟨r, d, rfl⟩ : ∃ (r : Fin 16640) (d : Fin 1024), i = ix2 r d := ⟨i 0, i 1, funext fun a => match a with | ⟨0, _⟩ => rfl | ⟨1, _⟩ => rfl⟩
      refine (Cert.AttnOutReferenceIdeal.Rows.expert_at m' c r d).trans ?_
      rw [f0, f1, f2, f3, f4, f5, f6, f7, f8, f9]
      rfl

end Cert.AttnOutClaims

end
-- ==== Proof.Ada.Spec.lean ====
module

public import Idealize.ShloMosaic.Lib.Pointwise

/-! The modulation of both layers, entry by entry: every sequence's condition goes through `x * sigmoid x` and a product
    with the layer's weights, and a bias is added. -/

@[expose] public section

noncomputable section

namespace Cert.Ada

open Idealize.ShloMosaic

variable (cp : Fin 8 → Fin 1024 → EReal) (cs : Fin 32 → Fin 1024 → EReal) (w : Fin 2 → Fin 1024 → Fin 6144 → EReal) (b : Fin 2 → Fin 6144 → EReal)

/-- `x * sigmoid x`. -/
def silu (x : EReal) : EReal := x * Ideal.logistic x

/-- Row `r` of the conditions, the prompts' eight above the sample's 32. -/
def rowC (r : Fin 40) (k : Fin 1024) : EReal :=
  if h : r.val < 8 then cp ⟨r.val, h⟩ k else cs ⟨r.val - 8, by omega⟩ k

/-- One entry of a row's six vectors, written side by side. -/
def entry (c : Fin 1024 → EReal) (w : Fin 1024 → EReal) (b : EReal) : EReal := (∑ k, silu (c k) * w k) + b

/-- Entry `j` of row `r` in layer `l`. -/
def mods (l : Fin 2) (r : Fin 40) (j : Fin 6144) : EReal := entry (rowC cp cs r) (fun k => w l k j) (b l j)

end Cert.Ada

end
-- ==== Proof.Ada.Points.lean ====
module

public import proofs.«01_k».proof.Proof.Gen.AdaIdeal.Frame
public import proofs.«01_k».proof.Proof.Ada.Spec
public import Idealize.ShloMosaic.Lib.Pipeline.Value
public import Idealize.ShloMosaic.Lib.Tactic
public import Idealize.ShloMosaic.Lib.KernelVsHost

/-! The modulation call: the arrays it is entered with, the blocks a point stages, and what a point leaves. Point `t` has
    layer `t / 4` and the columns from `1536 * (t % 4)` on. -/

@[expose] public section

noncomputable section

namespace Cert.AdaIdeal.Rows

open Idealize.ShloMosaic Idealize.ShloMosaic.TcCoe Idealize.SL.Sem Cert.AdaIdeal Cert.AdaIdeal.Gen

theorem pay_at (x0 : FVec Ideal S40x1024 .f32) (x1 : FVec Ideal S1x1024x1536 .f32) (x2 : FVec Ideal S1x1x1536 .f32) (r : Fin 40) (j : Fin 1536) :
    (k0_pay1 x0 x1 x2 : FVec Ideal S1x40x1536 .f32) (ix3 0 r j) = Cert.Ada.entry (fun k => x0 (ix2 r k)) (fun k => x1 (ix3 0 k j)) (x2 (ix3 0 0 j)) := by
  unfold k0_pay1 Cert.Ada.entry Cert.Ada.silu
  pointwise

theorem ld0 (x : Vec Ideal S40x1024 .f32) : View.ld x r0_0 = x := View.ld_unit_zero (funext fun a => match a with | ⟨0, _⟩ => rfl | ⟨1, _⟩ => rfl) _ x
theorem ld1 (x : Vec Ideal S1x1024x1536 .f32) : View.ld x r0_1 = x := View.ld_unit_zero (funext fun a => match a with | ⟨0, _⟩ => rfl | ⟨1, _⟩ => rfl | ⟨2, _⟩ => rfl) _ x
theorem ld2 (x : Vec Ideal S1x1x1536 .f32) : View.ld x r0_2 = x := View.ld_unit_zero (funext fun a => match a with | ⟨0, _⟩ => rfl | ⟨1, _⟩ => rfl | ⟨2, _⟩ => rfl) _ x

theorem left_at (x0 : Vec Ideal S40x1024 .f32) (x1 : Vec Ideal S1x1024x1536 .f32) (x2 : Vec Ideal S1x1x1536 .f32) (r : Fin 40) (j : Fin 1536) :
    out0_3 x0 x1 x2 (ix3 0 r j) = Cert.Ada.entry (fun k => x0 (ix2 r k)) (fun k => x1 (ix3 0 k j)) (x2 (ix3 0 0 j)) := by
  unfold out0_3
  rw [View.canon_unit_zero (funext fun a => match a with | ⟨0, _⟩ => rfl | ⟨1, _⟩ => rfl | ⟨2, _⟩ => rfl), ld0, ld1, ld2]
  exact pay_at x0 x1 x2 r j

/-- The conditions of both batches, one under the other. -/
def stackedC (cp : FVec Ideal S8x1024 .f32) (cs : FVec Ideal S32x1024 .f32) : FVec Ideal S40x1024 .f32 :=
  concatenate S40x1024 0 [⟨S8x1024, cp⟩, ⟨S32x1024, cs⟩] concatenates_S8x1024_S32x1024_S40x1024_d0

theorem stackedC_at (cp : FVec Ideal S8x1024 .f32) (cs : FVec Ideal S32x1024 .f32) (r : Fin 40) (k : Fin 1024) :
    stackedC cp cs (ix2 r k) = Cert.Ada.rowC (fun r k => cp (ix2 r k)) (fun r k => cs (ix2 r k)) r k := by
  unfold stackedC Cert.Ada.rowC
  pointwise

theorem bias_at (b : FVec Ideal S2x6144 .f32) (l : Fin 2) (j : Fin 6144) :
    (shapeCast S2x1x6144 b shapeCasts_S2x6144_S2x1x6144 : FVec Ideal S2x1x6144 .f32) (ix3 l 0 j) = b (ix2 l j) := by
  pointwise

/-- Which block of each array a point has. -/
theorem index_at : ∀ t : Fin grid0.N, (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4) := by decide +kernel

theorem pt_lt (t : Fin cfg0.N) : t.val < 8 := lt_of_lt_of_eq t.isLt (show cfg0.N = 8 from N_0)

/-- A point's layer, and the column of its block's column `j`. -/
def layerAt (t : Fin cfg0.N) : Fin 2 := ⟨t.val / 4, by have := pt_lt t; omega⟩
def col (t : Fin cfg0.N) (j : Fin 1536) : Fin 6144 := ⟨1536 * (t.val % 4) + j.val, by omega⟩

variable (m : (ℓ : Loc nD τ sig) → Buf (Elt Ideal) ℓ) (c : Dev nD) (t : Fin cfg0.N)

theorem V_c : V m c main_v0 = stackedC (m ((c : Thread nD τ).loc main_arg0)) (m ((c : Thread nD τ).loc main_arg1)) := by
  show StableHlo.after _ _ (Proc.devRef .tc main_v0) = _
  after_results
  rfl

theorem V_b : (V m c main_v1 : FVec Ideal S2x1x6144 .f32) = (shapeCast S2x1x6144 (m ((c : Thread nD τ).loc main_arg3) : FVec Ideal S2x6144 .f32) shapeCasts_S2x6144_S2x1x6144 : FVec Ideal S2x1x6144 .f32) := by
  show StableHlo.after _ _ (Proc.devRef .tc main_v1) = _
  after_results
  rfl

/-- The arguments of the call, as functions of plain indices. -/
abbrev cpf (r : Fin 8) (k : Fin 1024) : EReal := m ((c : Thread nD τ).loc main_arg0) (ix2 r k)
abbrev csf (r : Fin 32) (k : Fin 1024) : EReal := m ((c : Thread nD τ).loc main_arg1) (ix2 r k)
abbrev wf (l : Fin 2) (k : Fin 1024) (j : Fin 6144) : EReal := m ((c : Thread nD τ).loc main_arg2) (ix3 l k j)
abbrev bf (l : Fin 2) (j : Fin 6144) : EReal := m ((c : Thread nD τ).loc main_arg3) (ix2 l j)

theorem c_at (r : Fin 40) (k : Fin 1024) : (iblk m c 0 t : FVec Ideal S40x1024 .f32) (ix2 r k) = Cert.Ada.rowC (cpf m c) (csf m c) r k := by
  refine Eq.trans ?_ ((congrFun (V_c m c) _).trans (stackedC_at _ _ r k))
  have e := (index_at t).1
  show V m c main_v0 (((cfg0.win 0).blk t).view.emb (ix2 r k)) = _
  refine congrArg (V m c main_v0) (funext fun a => Fin.ext ?_)
  match a with
  | ⟨0, _⟩ =>
    show win0_0.index t 0 * 40 + 1 * r.val = r.val
    rw [e.1]; omega
  | ⟨1, _⟩ =>
    show win0_0.index t 1 * 1024 + 1 * k.val = k.val
    rw [e.2]; omega

theorem w_at (k : Fin 1024) (j : Fin 1536) : (iblk m c 1 t : FVec Ideal S1x1024x1536 .f32) (ix3 0 k j) = wf m c (layerAt t) k (col t j) := by
  refine Eq.trans ?_ (congrFun (V_main_arg2 m c) (ix3 (layerAt t) k (col t j)))
  have e := (index_at t).2.1
  show V m c main_arg2 (((cfg0.win 1).blk t).view.emb (ix3 0 k j)) = _
  refine congrArg (V m c main_arg2) (funext fun a => Fin.ext ?_)
  match a with
  | ⟨0, _⟩ =>
    show win0_1.index t 0 * 1 + 1 * 0 = t.val / 4
    rw [e.1]; omega
  | ⟨1, _⟩ =>
    show win0_1.index t 1 * 1024 + 1 * k.val = k.val
    rw [e.2.1]; omega
  | ⟨2, _⟩ =>
    show win0_1.index t 2 * 1536 + 1 * j.val = 1536 * (t.val % 4) + j.val
    rw [e.2.2]; omega

theorem b_at (j : Fin 1536) : (iblk m c 2 t : FVec Ideal S1x1x1536 .f32) (ix3 0 0 j) = bf m c (layerAt t) (col t j) := by
  refine Eq.trans ?_ ((congrFun (V_b m c) (ix3 (layerAt t) 0 (col t j))).trans (bias_at _ _ _))
  have e := (index_at t).2.2.1
  show V m c main_v1 (((cfg0.win 2).blk t).view.emb (ix3 0 0 j)) = _
  refine congrArg (V m c main_v1) (funext fun a => Fin.ext ?_)
  match a with
  | ⟨0, _⟩ =>
    show win0_2.index t 0 * 1 + 1 * 0 = t.val / 4
    rw [e.1]; omega
  | ⟨1, _⟩ =>
    show win0_2.index t 1 * 1 + 1 * 0 = 0
    rw [e.2.1]
  | ⟨2, _⟩ =>
    show win0_2.index t 2 * 1536 + 1 * j.val = 1536 * (t.val % 4) + j.val
    rw [e.2.2]; omega

theorem point_at (r : Fin 40) (j : Fin 1536) : out0_3 (iblk m c 0 t) (iblk m c 1 t) (iblk m c 2 t) (ix3 0 r j)
    = Cert.Ada.mods (cpf m c) (csf m c) (wf m c) (bf m c) (layerAt t) r (col t j) := by
  rw [left_at]
  unfold Cert.Ada.mods
  simp only [c_at, w_at, b_at]

end Cert.AdaIdeal.Rows

end
-- ==== Proof.Ada.RefOut.lean ====
module

public import proofs.«01_k».proof.Proof.Gen.AdaReferenceIdeal.Run
public import proofs.«01_k».proof.Proof.Ada.Spec

/-! The reference's result read at an index. -/

@[expose] public section

noncomputable section

namespace Cert.AdaReferenceIdeal.Rows

open Idealize.ShloMosaic Idealize.SL.Sem Cert.AdaReferenceIdeal Cert.AdaReferenceIdeal.Gen Idealize.ShloMosaic.TcCoe

/-- The prompts' rows of a layer. -/
def layerP (c : FVec Ideal S8x1024 .f32) (w : FVec Ideal S1x1024x6144 .f32) (b : FVec Ideal S1x6144 .f32) : FVec Ideal S8x6144 .f32 :=
  addf (Host.dotGeneral dot_S8x1024_S1024x6144_S8x6144_1_0_0_1_n_n none (mulf c (Host.divf (broadcastInDim S8x1024 ![] bcast_S_S8x1024 (constant S_ .f32 0x3F800000#32)) (addf (broadcastInDim S8x1024 ![] bcast_S_S8x1024 (constant S_ .f32 0x3F800000#32)) (Host.exp (Host.negf c))))) (shapeCast S1024x6144 w shapeCasts_S1x1024x6144_S1024x6144))
    (broadcastInDim S8x6144 ![0, 1] bcast_S1x6144_S8x6144_0_1 (broadcastInDim S1x6144 ![1] bcast_S6144_S1x6144_1 (shapeCast S6144 b shapeCasts_S1x6144_S6144)))

/-- The sample's. -/
def layerS (c : FVec Ideal S32x1024 .f32) (w : FVec Ideal S1x1024x6144 .f32) (b : FVec Ideal S1x6144 .f32) : FVec Ideal S32x6144 .f32 :=
  addf (Host.dotGeneral dot_S32x1024_S1024x6144_S32x6144_1_0_0_1_n_n none (mulf c (Host.divf (broadcastInDim S32x1024 ![] bcast_S_S32x1024 (constant S_ .f32 0x3F800000#32)) (addf (broadcastInDim S32x1024 ![] bcast_S_S32x1024 (constant S_ .f32 0x3F800000#32)) (Host.exp (Host.negf c))))) (shapeCast S1024x6144 w shapeCasts_S1x1024x6144_S1024x6144))
    (broadcastInDim S32x6144 ![0, 1] bcast_S1x6144_S32x6144_0_1 (broadcastInDim S1x6144 ![1] bcast_S6144_S1x6144_1 (shapeCast S6144 b shapeCasts_S1x6144_S6144)))

/-- A layer's 40 rows. -/
def layer (p : FVec Ideal S8x6144 .f32) (s : FVec Ideal S32x6144 .f32) : FVec Ideal S40x6144 .f32 :=
  concatenate S40x6144 0 [⟨S8x6144, p⟩, ⟨S32x6144, s⟩] concatenates_S8x6144_S32x6144_S40x6144_d0

/-- Two layers. -/
def both (a b : FVec Ideal S40x6144 .f32) : FVec Ideal S2x40x6144 .f32 :=
  concatenate S2x40x6144 0 [⟨S1x40x6144, broadcastInDim S1x40x6144 ![1, 2] bcast_S40x6144_S1x40x6144_1_2 a⟩, ⟨S1x40x6144, broadcastInDim S1x40x6144 ![1, 2] bcast_S40x6144_S1x40x6144_1_2 b⟩] concatenates_S1x40x6144_S1x40x6144_S2x40x6144_d0

/-- A layer's weights and biases. -/
abbrev w0 (w : FVec Ideal S2x1024x6144 .f32) : FVec Ideal S1x1024x6144 .f32 := extractStridedSlice S1x1024x6144 ![0, 0, 0] w slices_S2x1024x6144_S1x1024x6144_0_0_0
abbrev w1 (w : FVec Ideal S2x1024x6144 .f32) : FVec Ideal S1x1024x6144 .f32 := extractStridedSlice S1x1024x6144 ![1, 0, 0] w slices_S2x1024x6144_S1x1024x6144_1_0_0
abbrev b0 (b : FVec Ideal S2x6144 .f32) : FVec Ideal S1x6144 .f32 := extractStridedSlice S1x6144 ![0, 0] b slices_S2x6144_S1x6144_0_0
abbrev b1 (b : FVec Ideal S2x6144 .f32) : FVec Ideal S1x6144 .f32 := extractStridedSlice S1x6144 ![1, 0] b slices_S2x6144_S1x6144_1_0

/-- The whole result. -/
def whole (cp : FVec Ideal S8x1024 .f32) (cs : FVec Ideal S32x1024 .f32) (w : FVec Ideal S2x1024x6144 .f32) (b : FVec Ideal S2x6144 .f32) : FVec Ideal S2x40x6144 .f32 :=
  both (layer (layerP cp (w0 w) (b0 b)) (layerS cs (w0 w) (b0 b))) (layer (layerP cp (w1 w) (b1 b)) (layerS cs (w1 w) (b1 b)))

theorem layerP_at (c : FVec Ideal S8x1024 .f32) (w : FVec Ideal S1x1024x6144 .f32) (b : FVec Ideal S1x6144 .f32) (r : Fin 8) (j : Fin 6144) :
    layerP c w b (ix2 r j) = Cert.Ada.entry (fun k => c (ix2 r k)) (fun k => w (ix3 0 k j)) (b (ix2 0 j)) := by
  unfold layerP Cert.Ada.entry Cert.Ada.silu Ideal.logistic
  pointwise

theorem layerS_at (c : FVec Ideal S32x1024 .f32) (w : FVec Ideal S1x1024x6144 .f32) (b : FVec Ideal S1x6144 .f32) (r : Fin 32) (j : Fin 6144) :
    layerS c w b (ix2 r j) = Cert.Ada.entry (fun k => c (ix2 r k)) (fun k => w (ix3 0 k j)) (b (ix2 0 j)) := by
  unfold layerS Cert.Ada.entry Cert.Ada.silu Ideal.logistic
  pointwise

theorem layer_at (p : FVec Ideal S8x6144 .f32) (s : FVec Ideal S32x6144 .f32) (r : Fin 40) (j : Fin 6144) :
    layer p s (ix2 r j) = if h : r.val < 8 then p (ix2 ⟨r.val, h⟩ j) else s (ix2 ⟨r.val - 8, by omega⟩ j) := by
  unfold layer
  pointwise

theorem both_zero (a b : FVec Ideal S40x6144 .f32) (r : Fin 40) (j : Fin 6144) : both a b (ix3 0 r j) = a (ix2 r j) := by
  unfold both
  pointwise

theorem both_one (a b : FVec Ideal S40x6144 .f32) (r : Fin 40) (j : Fin 6144) : both a b (ix3 1 r j) = b (ix2 r j) := by
  unfold both
  pointwise

theorem w0_at (w : FVec Ideal S2x1024x6144 .f32) (k : Fin 1024) (j : Fin 6144) : w0 w (ix3 0 k j) = w (ix3 0 k j) := by
  pointwise

theorem w1_at (w : FVec Ideal S2x1024x6144 .f32) (k : Fin 1024) (j : Fin 6144) : w1 w (ix3 0 k j) = w (ix3 1 k j) := by
  pointwise

theorem b0_at (b : FVec Ideal S2x6144 .f32) (j : Fin 6144) : b0 b (ix2 0 j) = b (ix2 0 j) := by
  pointwise

theorem b1_at (b : FVec Ideal S2x6144 .f32) (j : Fin 6144) : b1 b (ix2 0 j) = b (ix2 1 j) := by
  pointwise

theorem layer_entry (cp : FVec Ideal S8x1024 .f32) (cs : FVec Ideal S32x1024 .f32) (w : FVec Ideal S1x1024x6144 .f32) (b : FVec Ideal S1x6144 .f32) (r : Fin 40) (j : Fin 6144) :
    layer (layerP cp w b) (layerS cs w b) (ix2 r j)
      = Cert.Ada.entry (Cert.Ada.rowC (fun r k => cp (ix2 r k)) (fun r k => cs (ix2 r k)) r) (fun k => w (ix3 0 k j)) (b (ix2 0 j)) := by
  rw [layer_at]
  by_cases h : r.val < 8
  · rw [dif_pos h, layerP_at]
    exact congrArg (fun c => Cert.Ada.entry c _ _) (funext fun k => by unfold Cert.Ada.rowC; rw [dif_pos h])
  · rw [dif_neg h, layerS_at]
    exact congrArg (fun c => Cert.Ada.entry c _ _) (funext fun k => by unfold Cert.Ada.rowC; rw [dif_neg h])

theorem whole_at (cp : FVec Ideal S8x1024 .f32) (cs : FVec Ideal S32x1024 .f32) (w : FVec Ideal S2x1024x6144 .f32) (b : FVec Ideal S2x6144 .f32) (l : Fin 2) (r : Fin 40) (j : Fin 6144) :
    whole cp cs w b (ix3 l r j)
      = Cert.Ada.mods (fun r k => cp (ix2 r k)) (fun r k => cs (ix2 r k)) (fun l k j => w (ix3 l k j)) (fun l j => b (ix2 l j)) l r j := by
  unfold whole Cert.Ada.mods
  match l with
  | ⟨0, _⟩ =>
    refine (both_zero _ _ r j).trans ((layer_entry _ _ _ _ r j).trans ?_)
    simp only [w0_at, b0_at]
    rfl
  | ⟨1, _⟩ =>
    refine (both_one _ _ r j).trans ((layer_entry _ _ _ _ r j).trans ?_)
    simp only [w1_at, b1_at]
    rfl

end Cert.AdaReferenceIdeal.Rows

end
-- ==== Proof.Ada.Claims.lean ====
module

public import proofs.«01_k».proof.Defs
public import proofs.«01_k».proof.Proof.Ada.Points
public import proofs.«01_k».proof.Proof.Ada.RefOut
public import proofs.«01_k».proof.Proof.Gen.AdaIdeal.Value
public import proofs.«01_k».proof.Proof.Gen.Ada.Frame
public import Idealize.ShloMosaic.Adequacy
public import Idealize.ShloMosaic.Init

/-! The result array of the modulation call, and its claims. -/

@[expose] public section

noncomputable section

namespace Cert.AdaIdeal.Rows

open Idealize.ShloMosaic Idealize.ShloMosaic.TcCoe Idealize.SL.Sem Cert.AdaIdeal Cert.AdaIdeal.Gen
open Idealize.ShloMosaic.Pipeline (Dat)

variable (m : (ℓ : Loc nD τ sig) → Buf (Elt Ideal) ℓ) (c : Dev nD)

/-- The modulation of the arguments. -/
def result : FVec Ideal S2x40x6144 .f32 := fun y =>
  Cert.Ada.mods (cpf m c) (csf m c) (wf m c) (bf m c) ⟨(y 0).val, (y 0).isLt⟩ ⟨(y 1).val, (y 1).isLt⟩ ⟨(y 2).val, (y 2).isLt⟩

theorem flushed_result (t : Fin cfg0.N) : (dats m 0 c).flushed 3 t = ((cfg0.win 3).blk t).view.read (Elt Ideal) (result m c) := by
  rw [Cert.AdaIdeal.Value.flushed3]
  funext j
  obtain ⟨r, e, rfl⟩ : ∃ (r : Fin 40) (e : Fin 1536), j = ix3 0 r e := ⟨j 1, j 2, funext fun a => match a with
    | ⟨0, _⟩ => Fin.ext (by have h0 : (j 0).val < 1 := (j 0).isLt; show (j 0).val = 0; omega)
    | ⟨1, _⟩ => rfl
    | ⟨2, _⟩ => rfl⟩
  refine (point_at m c t r e).trans ?_
  show _ = result m c (((cfg0.win 3).blk t).view.emb (ix3 0 r e))
  have e' := (index_at t).2.2.2
  have hemb : ((cfg0.win 3).blk t).view.emb (ix3 0 r e) = (ix3 (layerAt t) r (col t e) : S2x40x6144.Idx) := by
    refine funext fun a => Fin.ext ?_
    match a with
    | ⟨0, _⟩ =>
      show win0_3.index t 0 * 1 + 1 * 0 = t.val / 4
      rw [e'.1]; omega
    | ⟨1, _⟩ =>
      show win0_3.index t 1 * 40 + 1 * r.val = r.val
      rw [e'.2.1]; omega
    | ⟨2, _⟩ =>
      show win0_3.index t 2 * 1536 + 1 * e.val = 1536 * (t.val % 4) + e.val
      rw [e'.2.2]; omega
  rw [hemb]
  rfl

theorem final_result : (dats m 0 c).arrAt 3 cfg0.N = result m c :=
  (dats m 0 c).arrAt_eq_of_cover 3 (result m c) (fun t _ => flushed_result m c t) fun i => by
    have h0 : (i 0 : Nat) < 2 := (i 0).isLt
    have h1 : (i 1 : Nat) < 40 := (i 1).isLt
    have h2 : (i 2 : Nat) < 6144 := (i 2).isLt
    have ht : 4 * (i 0 : Nat) + (i 2 : Nat) / 1536 < cfg0.N := by rw [show cfg0.N = 8 from N_0]; omega
    refine ⟨⟨4 * (i 0 : Nat) + (i 2 : Nat) / 1536, ht⟩, flush0_3 _, ?_⟩
    have e' := (index_at ⟨4 * (i 0 : Nat) + (i 2 : Nat) / 1536, ht⟩).2.2.2
    dsimp only at e'
    generalize (⟨4 * (i 0 : Nat) + (i 2 : Nat) / 1536, ht⟩ : Fin cfg0.N) = t at e'
    show i ∈ ((View.whole main_v2).slice (win0_3.rect t)).set
    rw [View.set_slice_whole, Rect.mem_set_unit]
    intro a
    match a with
    | ⟨0, _⟩ =>
      show win0_3.index t 0 * 1 ≤ (i 0 : Nat) ∧ (i 0 : Nat) < win0_3.index t 0 * 1 + 1
      rw [e'.1]; omega
    | ⟨1, _⟩ =>
      show win0_3.index t 1 * 40 ≤ (i 1 : Nat) ∧ (i 1 : Nat) < win0_3.index t 1 * 40 + 40
      rw [e'.2.1]; omega
    | ⟨2, _⟩ =>
      show win0_3.index t 2 * 1536 ≤ (i 2 : Nat) ∧ (i 2 : Nat) < win0_3.index t 2 * 1536 + 1536
      rw [e'.2.2]; omega

end Cert.AdaIdeal.Rows

namespace Cert.AdaClaims

open Idealize.ShloMosaic Idealize.ShloMosaic.TcCoe Idealize.SL.Sem

/-- The call's frame. -/
theorem frame_kernel : Cert.quiescent_Ada := fun m ρ _ => Cert.Ada.Gen.frame m ρ

/-- The ideal call's frame. -/
theorem frame_ideal : Cert.quiescent_AdaIdeal := fun m ρ _ => Cert.AdaIdeal.Gen.frame m ρ

/-- The reference's frame. -/
theorem frame_reference : Cert.quiescent_AdaReferenceIdeal := fun m ρ _ =>
  (θ_run Cert.AdaReferenceIdeal.defs _ _).mono (fun r h => ⟨fun c => (h c).2, sem_eq_zero_of_no_sems (by decide) r.2⟩)
    (Cert.AdaReferenceIdeal.Value.run m ρ)

/-- The call's result is the reference's. -/
theorem results_agree : Cert.algebraic_AdaIdeal_AdaReferenceIdeal := by
  intro m ρ m' ρ' _ hargs
  refine ⟨fun c => Cert.AdaIdeal.Rows.result m c, ?_, ?_⟩
  · exact (θ_run Cert.AdaIdeal.defs _ _).mono (fun _ h c => ⟨(h c).1.trans (Cert.AdaIdeal.Rows.final_result m c), (h c).2⟩) (Cert.AdaIdeal.Value.run_blocks m ρ)
  · refine (θ_run Cert.AdaReferenceIdeal.defs _ _).mono (fun _ h c => ?_) (Cert.AdaReferenceIdeal.Value.run m' ρ')
    obtain ⟨e0, e1, e2, e3⟩ := hargs c
    refine ⟨(h c).1.trans ?_, (h c).2⟩
    funext i
    obtain ⟨l, r, j, rfl⟩ : ∃ (l : Fin 2) (r : Fin 40) (j : Fin 6144), i = ix3 l r j := ⟨i 0, i 1, i 2, funext fun a => match a with | ⟨0, _⟩ => rfl | ⟨1, _⟩ => rfl | ⟨2, _⟩ => rfl⟩
    refine (Cert.AdaReferenceIdeal.Rows.whole_at (m' ((c.tc : Thread Cert.AdaReferenceIdeal.nD Cert.AdaReferenceIdeal.τ).loc Cert.AdaReferenceIdeal.main_arg0)) (m' ((c.tc : Thread Cert.AdaReferenceIdeal.nD Cert.AdaReferenceIdeal.τ).loc Cert.AdaReferenceIdeal.main_arg1))
      (m' ((c.tc : Thread Cert.AdaReferenceIdeal.nD Cert.AdaReferenceIdeal.τ).loc Cert.AdaReferenceIdeal.main_arg2)) (m' ((c.tc : Thread Cert.AdaReferenceIdeal.nD Cert.AdaReferenceIdeal.τ).loc Cert.AdaReferenceIdeal.main_arg3)) l r j).trans ?_
    rw [e0, e1, e2, e3]
    rfl

end Cert.AdaClaims

end
-- ==== Proof.lean ====
/- The claims put together: for the two retention calls, both layers' experts and both
   layers' projections in and out, and for the modulation, the three frames, the identity of the
   kernel and its ideal reading, and the equation of the results with the reference's. -/
module

public import proofs.«01_k».proof.Proof.Gen.AdaIdeal.Value
public import proofs.«01_k».proof.Proof.Gen.AdaIdeal.Frame
public import proofs.«01_k».proof.Proof.Gen.Ada.Frame
public import proofs.«01_k».proof.Proof.Gen.AdaReferenceIdeal.Run
public import proofs.«01_k».proof.Proof.Gen.RetOutIdeal.Value
public import proofs.«01_k».proof.Proof.Gen.RetOutIdeal.Frame
public import proofs.«01_k».proof.Proof.Gen.RetOut.Frame
public import proofs.«01_k».proof.Proof.Gen.RetOutReferenceIdeal.Run
public import proofs.«01_k».proof.Proof.Gen.AttnOutIdeal.Value
public import proofs.«01_k».proof.Proof.Gen.AttnOutIdeal.Frame
public import proofs.«01_k».proof.Proof.Gen.AttnOut.Frame
public import proofs.«01_k».proof.Proof.Gen.AttnOutReferenceIdeal.Run
public import proofs.«01_k».proof.Proof.Gen.AttnProjIdeal.Value
public import proofs.«01_k».proof.Proof.Gen.RetSampleIdeal.Value
public import proofs.«01_k».proof.Proof.Gen.AttnProjIdeal.Frame
public import proofs.«01_k».proof.Proof.Gen.RetSampleIdeal.Frame
public import proofs.«01_k».proof.Proof.Gen.AttnProj.Frame
public import proofs.«01_k».proof.Proof.Gen.RetSample.Frame
public import proofs.«01_k».proof.Proof.Gen.AttnProjReferenceIdeal.Run
public import proofs.«01_k».proof.Proof.Gen.RetSampleReferenceIdeal.Run
public import proofs.«01_k».proof.Proof.Gen.RetProjIdeal.Value
public import proofs.«01_k».proof.Proof.Gen.RetProjIdeal.Frame
public import proofs.«01_k».proof.Proof.Gen.RetProj.Frame
public import proofs.«01_k».proof.Proof.Gen.RetProjReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Ret.Loop
public import proofs.«01_k».proof.Proof.Ret.Final
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsNext
public import proofs.«01_k».proof.Proof.Gen.ExpertsNext.Skeleton
public import proofs.«01_k».proof.Proof.Gen.ExpertsNext.Launch
public import proofs.«01_k».proof.Proof.Gen.ExpertsNextIdeal
public import proofs.«01_k».proof.Proof.Gen.ExpertsNextIdeal.Skeleton
public import proofs.«01_k».proof.Proof.Gen.ExpertsNextIdeal.Launch
public import proofs.«01_k».proof.Proof.Gen.ExpertsReferenceIdeal
public import proofs.«01_k».proof.Proof.Gen.ExpertsReferenceIdeal.Run
public import proofs.«01_k».proof.Proof.Gen.ExpertsNextReferenceIdeal
public import proofs.«01_k».proof.Proof.Gen.ExpertsNextReferenceIdeal.Run
public import proofs.«01_k».proof.Proof.Gen.Pre_experts_in_range
public import proofs.«01_k».proof.Proof.Moe.Claims
public import proofs.«01_k».proof.Proof.Moe.ClaimsNext
public import proofs.«01_k».proof.Proof.RetProj.Claims
public import proofs.«01_k».proof.Proof.AttnProj.Claims
public import proofs.«01_k».proof.Proof.RetSample.Claims
public import proofs.«01_k».proof.Proof.RetOut.Claims
public import proofs.«01_k».proof.Proof.AttnOut.Claims
public import proofs.«01_k».proof.Proof.Ada.Claims
public import Idealize.ShloMosaic.Adequacy
public import Idealize.ShloMosaic.Init

@[expose] public section

noncomputable section

namespace Cert.Proof

open Idealize.ShloMosaic Idealize.SL.Sem Cert.Kernel

/-- The kernel's frame. -/
theorem frame_kernel : Cert.quiescent_Kernel := fun m ρ _ => Cert.Kernel.Gen.frame m ρ

/-- The ideal kernel's frame. -/
theorem frame_ideal : Cert.quiescent_KernelIdeal := fun m ρ _ => Cert.KernelIdeal.Gen.frame m ρ

/-- The reference's frame: its run leaves the arguments, and it has no semaphore. -/
theorem frame_reference : Cert.quiescent_ReferenceIdeal := fun m ρ _ =>
  (θ_run Cert.ReferenceIdeal.defs _ _).mono (fun r h => ⟨fun c => (h c).2.2,
      sem_eq_zero_of_no_sems (by decide) r.2⟩)
    (Cert.ReferenceIdeal.Value.run m ρ)

/-- Both results of the kernel are the reference's: each is the reference's loop, run over the same arguments. -/
theorem results_agree : Cert.algebraic_KernelIdeal_ReferenceIdeal := by
  intro m ρ m' ρ' _ hargs
  refine ⟨fun c => Cert.Ret.resultY m c, fun c => Cert.Ret.resultS m c, ?_, ?_⟩
  · exact (θ_run Cert.KernelIdeal.defs _ _).mono (fun _ h c => ⟨(h c).1.trans (Cert.Ret.final_y m c),
      (h c).2.1.trans (Cert.Ret.final_s m c), (h c).2.2⟩) (Cert.KernelIdeal.Value.run_blocks m ρ)
  · refine (θ_run Cert.ReferenceIdeal.defs _ _).mono (fun _ h c => ?_) (Cert.Ret.Loop.run_iter m' ρ'
      (fun c => Cert.Ret.it (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)))
      (fun _ => rfl) (fun _ _ => rfl))
    obtain ⟨e0, e1, e2, e3, e4⟩ := hargs c
    refine ⟨(h c).1.trans ?_, (h c).2.1.trans ?_, (h c).2.2⟩
    · rw [e0, e1, e2, e3, e4]
    · rw [e0, e1, e2]

theorem claim : Cert.Claim := ⟨Cert.Kernel.Gen.facts, Cert.KernelIdeal.Gen.facts, Cert.ReferenceIdeal.Gen.facts, Cert.Experts.Gen.facts, Cert.ExpertsIdeal.Gen.facts, Cert.ExpertsReferenceIdeal.Gen.facts, Cert.ExpertsNext.Gen.facts, Cert.ExpertsNextIdeal.Gen.facts, Cert.ExpertsNextReferenceIdeal.Gen.facts, Cert.RetProj.Gen.facts, Cert.RetProjIdeal.Gen.facts, Cert.RetProjReferenceIdeal.Gen.facts, Cert.AttnProj.Gen.facts, Cert.AttnProjIdeal.Gen.facts, Cert.AttnProjReferenceIdeal.Gen.facts, Cert.RetSample.Gen.facts, Cert.RetSampleIdeal.Gen.facts, Cert.RetSampleReferenceIdeal.Gen.facts, Cert.RetOut.Gen.facts, Cert.RetOutIdeal.Gen.facts, Cert.RetOutReferenceIdeal.Gen.facts, Cert.AttnOut.Gen.facts, Cert.AttnOutIdeal.Gen.facts, Cert.AttnOutReferenceIdeal.Gen.facts, Cert.Ada.Gen.facts, Cert.AdaIdeal.Gen.facts, Cert.AdaReferenceIdeal.Gen.facts, Cert.Pre_experts_in_range.Gen.facts,
  frame_kernel, frame_ideal, frame_reference,
  Cert.ExpertsClaims.frame_kernel, Cert.ExpertsClaims.frame_ideal, Cert.ExpertsClaims.frame_reference, Cert.ExpertsClaims.frame_reference_in_range,
  Cert.ExpertsNextClaims.frame_kernel, Cert.ExpertsNextClaims.frame_ideal, Cert.ExpertsNextClaims.frame_reference, Cert.ExpertsNextClaims.frame_reference_in_range,
  Cert.RetProjClaims.frame_kernel, Cert.RetProjClaims.frame_ideal, Cert.RetProjClaims.frame_reference,
  Cert.AttnProjClaims.frame_kernel, Cert.AttnProjClaims.frame_ideal, Cert.AttnProjClaims.frame_reference,
  Cert.RetSampleClaims.frame_kernel, Cert.RetSampleClaims.frame_ideal, Cert.RetSampleClaims.frame_reference,
  Cert.RetOutClaims.frame_kernel, Cert.RetOutClaims.frame_ideal, Cert.RetOutClaims.frame_reference,
  Cert.AttnOutClaims.frame_kernel, Cert.AttnOutClaims.frame_ideal, Cert.AttnOutClaims.frame_reference,
  Cert.AdaClaims.frame_kernel, Cert.AdaClaims.frame_ideal, Cert.AdaClaims.frame_reference,
  trivial, results_agree, trivial, Cert.ExpertsClaims.results_agree, trivial, Cert.ExpertsNextClaims.results_agree,
  trivial, Cert.RetProjClaims.results_agree, trivial, Cert.AttnProjClaims.results_agree,
  trivial, Cert.RetSampleClaims.results_agree,
  trivial, Cert.RetOutClaims.results_agree, trivial, Cert.AttnOutClaims.results_agree,
  trivial, Cert.AdaClaims.results_agree⟩

end Cert.Proof

end
